-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v8) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S16x4096x256 : Shape := ⟨3, ![16, 4096, 256]⟩
abbrev S16x4096 : Shape := ⟨2, ![16, 4096]⟩
abbrev S131072x128 : Shape := ⟨2, ![131072, 128]⟩
abbrev S65536 : Shape := ⟨1, ![65536]⟩
abbrev S16x256 : Shape := ⟨2, ![16, 256]⟩
abbrev S4096 : Shape := ⟨1, ![4096]⟩
abbrev S4112 : Shape := ⟨1, ![4112]⟩
abbrev S128x128 : Shape := ⟨2, ![128, 128]⟩
abbrev S128 : Shape := ⟨1, ![128]⟩
abbrev S_ : Shape := ⟨0, ![]⟩
abbrev S16 : Shape := ⟨1, ![16]⟩
abbrev S1x16 : Shape := ⟨2, ![1, 16]⟩
abbrev S1x128 : Shape := ⟨2, ![1, 128]⟩

abbrev nBuf : Table → Nat
  | .hbm => 6
  | .local .scVector .vmem => 5
  | _ => 0

abbrev bufTy : (tb : Table) → Fin (nBuf tb) → BufTy
  | .hbm, ⟨0, _⟩ => ⟨S16x4096x256, .f32⟩
  | .hbm, ⟨1, _⟩ => ⟨S16x4096, .i1⟩
  | .hbm, ⟨2, _⟩ => ⟨S131072x128, .f32⟩
  | .hbm, ⟨3, _⟩ => ⟨S16x4096, .i32⟩
  | .hbm, ⟨4, _⟩ => ⟨S65536, .i32⟩
  | .hbm, ⟨5, _⟩ => ⟨S16x256, .f32⟩
  | .local .scVector .vmem, ⟨0, _⟩ => ⟨S4096, .i32⟩
  | .local .scVector .vmem, ⟨1, _⟩ => ⟨S4112, .i32⟩
  | .local .scVector .vmem, ⟨2, _⟩ => ⟨S128x128, .f32⟩
  | .local .scVector .vmem, ⟨3, _⟩ => ⟨S128x128, .f32⟩
  | .local .scVector .vmem, ⟨4, _⟩ => ⟨S128, .f32⟩
  | _, _ => ⟨S16x4096x256, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 4 → Bool
  | ⟨0, _⟩ => false
  | ⟨1, _⟩ => false
  | ⟨2, _⟩ => false
  | ⟨3, _⟩ => false
  | _ => false

abbrev sig : RefSig :=
  ofTables nBuf rfl bufTy 4 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v0_scv : Ref sig .scVector := ⟨.hbm, 2, rfl⟩
abbrev main_v2_scv : Ref sig .scVector := ⟨.hbm, 4, rfl⟩
abbrev main_v3_scv : Ref sig .scVector := ⟨.hbm, 5, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc0_scratch4 : Ref sig .scVector := ⟨.vmem, 4, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 1 → Nat :=
  let arg0 : BitVec 32 := BitVec.ofNat 32 (i 0).val
  let c8_i32 : BitVec 32 := 8#32
  let v0 : BitVec 32 := Scalar.muli arg0 c8_i32
  let arg1 : BitVec 32 := BitVec.ofNat 32 (i 1).val
  let c0_i32 : BitVec 32 := 0#32
  let v2 : BitVec 1 := Scalar.cmpi .sgt arg1 c0_i32
  let v3 : BitVec 32 := Scalar.extui v2
  let c0_i32_0 : BitVec 32 := 0#32
  let v4 : BitVec 1 := Scalar.cmpi .slt arg1 c0_i32_0
  let v5 : BitVec 32 := Scalar.extui v4
  let v6 : BitVec 32 := Scalar.subi v3 v5
  let c2_i32 : BitVec 32 := 2#32
  let c0_i32_1 : BitVec 32 := 0#32
  let v7 : BitVec 1 := Scalar.cmpi .sgt c2_i32 c0_i32_1
  let v8 : BitVec 32 := Scalar.extui v7
  let c0_i32_2 : BitVec 32 := 0#32
  let v9 : BitVec 1 := Scalar.cmpi .slt c2_i32 c0_i32_2
  let v10 : BitVec 32 := Scalar.extui v9
  let v11 : BitVec 32 := Scalar.subi v8 v10
  let v12 : BitVec 1 := Scalar.cmpi .ne v6 v11
  let v13 : BitVec 32 := Scalar.remsi arg1 c2_i32
  let c0_i32_3 : BitVec 32 := 0#32
  let v14 : BitVec 1 := Scalar.cmpi .ne v13 c0_i32_3
  let v15 : BitVec 1 := Scalar.andi v12 v14
  let v1 : BitVec 32 := Scalar.divsi arg1 c2_i32
  let c1_i32 : BitVec 32 := 1#32
  let v16 : BitVec 32 := Scalar.subi v1 c1_i32
  let v17 : BitVec 32 := Scalar.select v15 v16 v1
  let v18 : BitVec 32 := Scalar.addi v0 v17
  let c4096_i32 : BitVec 32 := 4096#32
  let v29 : BitVec 32 := Scalar.muli v18 c4096_i32
  ![v29.toNat]
@[reducible] def k0_t1_loop : Scf.Loop 32 :=
  let c0_i32_11 : BitVec 32 := 0#32
  let c257_i32 : BitVec 32 := 257#32
  let v30 : BitVec 32 := Scalar.addi c0_i32_11 c257_i32
  let c1_i32_12 : BitVec 32 := 1#32
  ⟨c0_i32_11, v30, c1_i32_12⟩
def k0_off2 (k0_t1 : Fin k0_t1_loop.trips) : Fin 1 → Nat :=
  let c0_i32_11 : BitVec 32 := 0#32
  let c1_i32_12 : BitVec 32 := 1#32
  let arg12 : BitVec 32 := Scf.iv c0_i32_11 c1_i32_12 k0_t1
  let c16_i32 : BitVec 32 := 16#32
  let v273 : BitVec 32 := Scalar.muli arg12 c16_i32
  let v274 : Index := Scalar.indexCast v273
  ![v274.toNat]
@[reducible] def k0_t2_loop : Scf.Loop 32 :=
  let c0_i32_16 : BitVec 32 := 0#32
  let c256_i32 : BitVec 32 := 256#32
  let v33 : BitVec 32 := Scalar.addi c0_i32_16 c256_i32
  let c1_i32_17 : BitVec 32 := 1#32
  ⟨c0_i32_16, v33, c1_i32_17⟩
def k0_off3 (k0_t2 : Fin k0_t2_loop.trips) : Fin 1 → Nat :=
  let c0_i32_16 : BitVec 32 := 0#32
  let c1_i32_17 : BitVec 32 := 1#32
  let arg12 : BitVec 32 := Scf.iv c0_i32_16 c1_i32_17 k0_t2
  let c16_i32 : BitVec 32 := 16#32
  let v272 : BitVec 32 := Scalar.muli arg12 c16_i32
  let v273 : Index := Scalar.indexCast v272
  ![v273.toNat]

def k0_chk1 (v292 : IVec S16 32) : Prop :=
  (∀ a x, ((![v292] : Fin 1 → IVec S16 32) a x).toNat < S4112.size a)
theorem k0_idx1_inb : ∀ (v292 : IVec S16 32) (k0_hw1 : k0_chk1 v292), ∀ a x, ((![v292] : Fin 1 → IVec S16 32) a x).toNat < S4112.size a := fun v292 k0_hw1 => k0_hw1
@[reducible] def k0_t3_loop (v34 : BitVec 32) : Scf.Loop 32 :=
  let c0_i32_155 : BitVec 32 := 0#32
  let c0_i32_145 : BitVec 32 := 0#32
  let v274 : BitVec 32 := Scalar.subi v34 c0_i32_145
  let c128_i32_146 : BitVec 32 := 128#32
  let v275 : BitVec 32 := Scalar.minsi v274 c128_i32_146
  let v284 : BitVec 32 := Scalar.subi v275 c0_i32_155
  let c1_i32_156 : BitVec 32 := 1#32
  let v286 : BitVec 32 := Scalar.divsi v284 c1_i32_156
  let v287 : BitVec 32 := Scalar.muli v286 c1_i32_156
  let v288 : BitVec 32 := Scalar.addi c0_i32_155 v287
  let c1_i32_157 : BitVec 32 := 1#32
  ⟨c0_i32_155, v288, c1_i32_157⟩
def k0_cond3 (v34 : BitVec 32) : BitVec 1 :=
  let c0_i32_29 : BitVec 32 := 0#32
  let v57 : BitVec 1 := Scalar.cmpi .sgt v34 c0_i32_29
  let v58 : BitVec 32 := Scalar.extui v57
  let c0_i32_30 : BitVec 32 := 0#32
  let v59 : BitVec 1 := Scalar.cmpi .ne v58 c0_i32_30
  v59

def k0_off4 (v34 : BitVec 32) (k0_t3 : Fin (k0_t3_loop v34).trips) : Fin 2 → Nat :=
  let c0_i32_155 : BitVec 32 := 0#32
  let c1_i32_157 : BitVec 32 := 1#32
  let arg12 : BitVec 32 := Scf.iv c0_i32_155 c1_i32_157 k0_t3
  let v299 : Index := Scalar.indexCast arg12
  let c0_167 : Index := 0#32
  ![v299.toNat, 0]
def k0_off5 (v34 : BitVec 32) (k0_t3 : Fin (k0_t3_loop v34).trips) : Fin 2 → Nat :=
  let c0_i32_155 : BitVec 32 := 0#32
  let c1_i32_157 : BitVec 32 := 1#32
  let arg12 : BitVec 32 := Scf.iv c0_i32_155 c1_i32_157 k0_t3
  let v302 : Index := Scalar.indexCast arg12
  let c16_168 : Index := 16#32
  ![v302.toNat, 16]
def k0_off6 (v34 : BitVec 32) (k0_t3 : Fin (k0_t3_loop v34).trips) : Fin 2 → Nat :=
  let c0_i32_155 : BitVec 32 := 0#32
  let c1_i32_157 : BitVec 32 := 1#32
  let arg12 : BitVec 32 := Scf.iv c0_i32_155 c1_i32_157 k0_t3
  let v305 : Index := Scalar.indexCast arg12
  let c32_169 : Index := 32#32
  ![v305.toNat, 32]
def k0_off7 (v34 : BitVec 32) (k0_t3 : Fin (k0_t3_loop v34).trips) : Fin 2 → Nat :=
  let c0_i32_155 : BitVec 32 := 0#32
  let c1_i32_157 : BitVec 32 := 1#32
  let arg12 : BitVec 32 := Scf.iv c0_i32_155 c1_i32_157 k0_t3
  let v308 : Index := Scalar.indexCast arg12
  let c48_170 : Index := 48#32
  ![v308.toNat, 48]
def k0_off8 (v34 : BitVec 32) (k0_t3 : Fin (k0_t3_loop v34).trips) : Fin 2 → Nat :=
  let c0_i32_155 : BitVec 32 := 0#32
  let c1_i32_157 : BitVec 32 := 1#32
  let arg12 : BitVec 32 := Scf.iv c0_i32_155 c1_i32_157 k0_t3
  let v311 : Index := Scalar.indexCast arg12
  let c64_171 : Index := 64#32
  ![v311.toNat, 64]
def k0_off9 (v34 : BitVec 32) (k0_t3 : Fin (k0_t3_loop v34).trips) : Fin 2 → Nat :=
  let c0_i32_155 : BitVec 32 := 0#32
  let c1_i32_157 : BitVec 32 := 1#32
  let arg12 : BitVec 32 := Scf.iv c0_i32_155 c1_i32_157 k0_t3
  let v314 : Index := Scalar.indexCast arg12
  let c80_172 : Index := 80#32
  ![v314.toNat, 80]
def k0_off10 (v34 : BitVec 32) (k0_t3 : Fin (k0_t3_loop v34).trips) : Fin 2 → Nat :=
  let c0_i32_155 : BitVec 32 := 0#32
  let c1_i32_157 : BitVec 32 := 1#32
  let arg12 : BitVec 32 := Scf.iv c0_i32_155 c1_i32_157 k0_t3
  let v317 : Index := Scalar.indexCast arg12
  let c96_173 : Index := 96#32
  ![v317.toNat, 96]
def k0_off11 (v34 : BitVec 32) (k0_t3 : Fin (k0_t3_loop v34).trips) : Fin 2 → Nat :=
  let c0_i32_155 : BitVec 32 := 0#32
  let c1_i32_157 : BitVec 32 := 1#32
  let arg12 : BitVec 32 := Scf.iv c0_i32_155 c1_i32_157 k0_t3
  let v320 : Index := Scalar.indexCast arg12
  let c112_174 : Index := 112#32
  ![v320.toNat, 112]
@[reducible] def k0_t4_loop (v34 : BitVec 32) : Scf.Loop 32 :=
  let c0_i32_155 : BitVec 32 := 0#32
  let c0_i32_145 : BitVec 32 := 0#32
  let v274 : BitVec 32 := Scalar.subi v34 c0_i32_145
  let c128_i32_146 : BitVec 32 := 128#32
  let v275 : BitVec 32 := Scalar.minsi v274 c128_i32_146
  let v284 : BitVec 32 := Scalar.subi v275 c0_i32_155
  let c1_i32_156 : BitVec 32 := 1#32
  let v286 : BitVec 32 := Scalar.divsi v284 c1_i32_156
  let v287 : BitVec 32 := Scalar.muli v286 c1_i32_156
  let v288 : BitVec 32 := Scalar.addi c0_i32_155 v287
  let v285 : BitVec 32 := Scalar.addi c0_i32_155 v284
  let c1_i32_158 : BitVec 32 := 1#32
  ⟨v288, v285, c1_i32_158⟩
def k0_off12 (v34 : BitVec 32) (k0_t4 : Fin (k0_t4_loop v34).trips) : Fin 2 → Nat :=
  let c0_i32_155 : BitVec 32 := 0#32
  let c0_i32_145 : BitVec 32 := 0#32
  let v274 : BitVec 32 := Scalar.subi v34 c0_i32_145
  let c128_i32_146 : BitVec 32 := 128#32
  let v275 : BitVec 32 := Scalar.minsi v274 c128_i32_146
  let v284 : BitVec 32 := Scalar.subi v275 c0_i32_155
  let c1_i32_156 : BitVec 32 := 1#32
  let v286 : BitVec 32 := Scalar.divsi v284 c1_i32_156
  let v287 : BitVec 32 := Scalar.muli v286 c1_i32_156
  let v288 : BitVec 32 := Scalar.addi c0_i32_155 v287
  let c1_i32_158 : BitVec 32 := 1#32
  let arg12 : BitVec 32 := Scf.iv v288 c1_i32_158 k0_t4
  let v299 : Index := Scalar.indexCast arg12
  let c0_167 : Index := 0#32
  ![v299.toNat, 0]
def k0_off13 (v34 : BitVec 32) (k0_t4 : Fin (k0_t4_loop v34).trips) : Fin 2 → Nat :=
  let c0_i32_155 : BitVec 32 := 0#32
  let c0_i32_145 : BitVec 32 := 0#32
  let v274 : BitVec 32 := Scalar.subi v34 c0_i32_145
  let c128_i32_146 : BitVec 32 := 128#32
  let v275 : BitVec 32 := Scalar.minsi v274 c128_i32_146
  let v284 : BitVec 32 := Scalar.subi v275 c0_i32_155
  let c1_i32_156 : BitVec 32 := 1#32
  let v286 : BitVec 32 := Scalar.divsi v284 c1_i32_156
  let v287 : BitVec 32 := Scalar.muli v286 c1_i32_156
  let v288 : BitVec 32 := Scalar.addi c0_i32_155 v287
  let c1_i32_158 : BitVec 32 := 1#32
  let arg12 : BitVec 32 := Scf.iv v288 c1_i32_158 k0_t4
  let v302 : Index := Scalar.indexCast arg12
  let c16_168 : Index := 16#32
  ![v302.toNat, 16]
def k0_off14 (v34 : BitVec 32) (k0_t4 : Fin (k0_t4_loop v34).trips) : Fin 2 → Nat :=
  let c0_i32_155 : BitVec 32 := 0#32
  let c0_i32_145 : BitVec 32 := 0#32
  let v274 : BitVec 32 := Scalar.subi v34 c0_i32_145
  let c128_i32_146 : BitVec 32 := 128#32
  let v275 : BitVec 32 := Scalar.minsi v274 c128_i32_146
  let v284 : BitVec 32 := Scalar.subi v275 c0_i32_155
  let c1_i32_156 : BitVec 32 := 1#32
  let v286 : BitVec 32 := Scalar.divsi v284 c1_i32_156
  let v287 : BitVec 32 := Scalar.muli v286 c1_i32_156
  let v288 : BitVec 32 := Scalar.addi c0_i32_155 v287
  let c1_i32_158 : BitVec 32 := 1#32
  let arg12 : BitVec 32 := Scf.iv v288 c1_i32_158 k0_t4
  let v305 : Index := Scalar.indexCast arg12
  let c32_169 : Index := 32#32
  ![v305.toNat, 32]
def k0_off15 (v34 : BitVec 32) (k0_t4 : Fin (k0_t4_loop v34).trips) : Fin 2 → Nat :=
  let c0_i32_155 : BitVec 32 := 0#32
  let c0_i32_145 : BitVec 32 := 0#32
  let v274 : BitVec 32 := Scalar.subi v34 c0_i32_145
  let c128_i32_146 : BitVec 32 := 128#32
  let v275 : BitVec 32 := Scalar.minsi v274 c128_i32_146
  let v284 : BitVec 32 := Scalar.subi v275 c0_i32_155
  let c1_i32_156 : BitVec 32 := 1#32
  let v286 : BitVec 32 := Scalar.divsi v284 c1_i32_156
  let v287 : BitVec 32 := Scalar.muli v286 c1_i32_156
  let v288 : BitVec 32 := Scalar.addi c0_i32_155 v287
  let c1_i32_158 : BitVec 32 := 1#32
  let arg12 : BitVec 32 := Scf.iv v288 c1_i32_158 k0_t4
  let v308 : Index := Scalar.indexCast arg12
  let c48_170 : Index := 48#32
  ![v308.toNat, 48]
def k0_off16 (v34 : BitVec 32) (k0_t4 : Fin (k0_t4_loop v34).trips) : Fin 2 → Nat :=
  let c0_i32_155 : BitVec 32 := 0#32
  let c0_i32_145 : BitVec 32 := 0#32
  let v274 : BitVec 32 := Scalar.subi v34 c0_i32_145
  let c128_i32_146 : BitVec 32 := 128#32
  let v275 : BitVec 32 := Scalar.minsi v274 c128_i32_146
  let v284 : BitVec 32 := Scalar.subi v275 c0_i32_155
  let c1_i32_156 : BitVec 32 := 1#32
  let v286 : BitVec 32 := Scalar.divsi v284 c1_i32_156
  let v287 : BitVec 32 := Scalar.muli v286 c1_i32_156
  let v288 : BitVec 32 := Scalar.addi c0_i32_155 v287
  let c1_i32_158 : BitVec 32 := 1#32
  let arg12 : BitVec 32 := Scf.iv v288 c1_i32_158 k0_t4
  let v311 : Index := Scalar.indexCast arg12
  let c64_171 : Index := 64#32
  ![v311.toNat, 64]
def k0_off17 (v34 : BitVec 32) (k0_t4 : Fin (k0_t4_loop v34).trips) : Fin 2 → Nat :=
  let c0_i32_155 : BitVec 32 := 0#32
  let c0_i32_145 : BitVec 32 := 0#32
  let v274 : BitVec 32 := Scalar.subi v34 c0_i32_145
  let c128_i32_146 : BitVec 32 := 128#32
  let v275 : BitVec 32 := Scalar.minsi v274 c128_i32_146
  let v284 : BitVec 32 := Scalar.subi v275 c0_i32_155
  let c1_i32_156 : BitVec 32 := 1#32
  let v286 : BitVec 32 := Scalar.divsi v284 c1_i32_156
  let v287 : BitVec 32 := Scalar.muli v286 c1_i32_156
  let v288 : BitVec 32 := Scalar.addi c0_i32_155 v287
  let c1_i32_158 : BitVec 32 := 1#32
  let arg12 : BitVec 32 := Scf.iv v288 c1_i32_158 k0_t4
  let v314 : Index := Scalar.indexCast arg12
  let c80_172 : Index := 80#32
  ![v314.toNat, 80]
def k0_off18 (v34 : BitVec 32) (k0_t4 : Fin (k0_t4_loop v34).trips) : Fin 2 → Nat :=
  let c0_i32_155 : BitVec 32 := 0#32
  let c0_i32_145 : BitVec 32 := 0#32
  let v274 : BitVec 32 := Scalar.subi v34 c0_i32_145
  let c128_i32_146 : BitVec 32 := 128#32
  let v275 : BitVec 32 := Scalar.minsi v274 c128_i32_146
  let v284 : BitVec 32 := Scalar.subi v275 c0_i32_155
  let c1_i32_156 : BitVec 32 := 1#32
  let v286 : BitVec 32 := Scalar.divsi v284 c1_i32_156
  let v287 : BitVec 32 := Scalar.muli v286 c1_i32_156
  let v288 : BitVec 32 := Scalar.addi c0_i32_155 v287
  let c1_i32_158 : BitVec 32 := 1#32
  let arg12 : BitVec 32 := Scf.iv v288 c1_i32_158 k0_t4
  let v317 : Index := Scalar.indexCast arg12
  let c96_173 : Index := 96#32
  ![v317.toNat, 96]
def k0_off19 (v34 : BitVec 32) (k0_t4 : Fin (k0_t4_loop v34).trips) : Fin 2 → Nat :=
  let c0_i32_155 : BitVec 32 := 0#32
  let c0_i32_145 : BitVec 32 := 0#32
  let v274 : BitVec 32 := Scalar.subi v34 c0_i32_145
  let c128_i32_146 : BitVec 32 := 128#32
  let v275 : BitVec 32 := Scalar.minsi v274 c128_i32_146
  let v284 : BitVec 32 := Scalar.subi v275 c0_i32_155
  let c1_i32_156 : BitVec 32 := 1#32
  let v286 : BitVec 32 := Scalar.divsi v284 c1_i32_156
  let v287 : BitVec 32 := Scalar.muli v286 c1_i32_156
  let v288 : BitVec 32 := Scalar.addi c0_i32_155 v287
  let c1_i32_158 : BitVec 32 := 1#32
  let arg12 : BitVec 32 := Scf.iv v288 c1_i32_158 k0_t4
  let v320 : Index := Scalar.indexCast arg12
  let c112_174 : Index := 112#32
  ![v320.toNat, 112]
@[reducible] def k0_t5_loop (v34 : BitVec 32) : Scf.Loop 32 :=
  let c0_i32_155 : BitVec 32 := 0#32
  let c128_i32_145 : BitVec 32 := 128#32
  let v274 : BitVec 32 := Scalar.subi v34 c128_i32_145
  let c128_i32_146 : BitVec 32 := 128#32
  let v275 : BitVec 32 := Scalar.minsi v274 c128_i32_146
  let v284 : BitVec 32 := Scalar.subi v275 c0_i32_155
  let c1_i32_156 : BitVec 32 := 1#32
  let v286 : BitVec 32 := Scalar.divsi v284 c1_i32_156
  let v287 : BitVec 32 := Scalar.muli v286 c1_i32_156
  let v288 : BitVec 32 := Scalar.addi c0_i32_155 v287
  let c1_i32_157 : BitVec 32 := 1#32
  ⟨c0_i32_155, v288, c1_i32_157⟩
def k0_cond5 (v34 : BitVec 32) : BitVec 1 :=
  let c128_i32_33 : BitVec 32 := 128#32
  let v63 : BitVec 1 := Scalar.cmpi .sgt v34 c128_i32_33
  let v64 : BitVec 32 := Scalar.extui v63
  let c0_i32_34 : BitVec 32 := 0#32
  let v65 : BitVec 1 := Scalar.cmpi .ne v64 c0_i32_34
  v65

def k0_off20 (v34 : BitVec 32) (k0_t5 : Fin (k0_t5_loop v34).trips) : Fin 2 → Nat :=
  let c0_i32_155 : BitVec 32 := 0#32
  let c1_i32_157 : BitVec 32 := 1#32
  let arg12 : BitVec 32 := Scf.iv c0_i32_155 c1_i32_157 k0_t5
  let v299 : Index := Scalar.indexCast arg12
  let c0_167 : Index := 0#32
  ![v299.toNat, 0]
def k0_off21 (v34 : BitVec 32) (k0_t5 : Fin (k0_t5_loop v34).trips) : Fin 2 → Nat :=
  let c0_i32_155 : BitVec 32 := 0#32
  let c1_i32_157 : BitVec 32 := 1#32
  let arg12 : BitVec 32 := Scf.iv c0_i32_155 c1_i32_157 k0_t5
  let v302 : Index := Scalar.indexCast arg12
  let c16_168 : Index := 16#32
  ![v302.toNat, 16]
def k0_off22 (v34 : BitVec 32) (k0_t5 : Fin (k0_t5_loop v34).trips) : Fin 2 → Nat :=
  let c0_i32_155 : BitVec 32 := 0#32
  let c1_i32_157 : BitVec 32 := 1#32
  let arg12 : BitVec 32 := Scf.iv c0_i32_155 c1_i32_157 k0_t5
  let v305 : Index := Scalar.indexCast arg12
  let c32_169 : Index := 32#32
  ![v305.toNat, 32]
def k0_off23 (v34 : BitVec 32) (k0_t5 : Fin (k0_t5_loop v34).trips) : Fin 2 → Nat :=
  let c0_i32_155 : BitVec 32 := 0#32
  let c1_i32_157 : BitVec 32 := 1#32
  let arg12 : BitVec 32 := Scf.iv c0_i32_155 c1_i32_157 k0_t5
  let v308 : Index := Scalar.indexCast arg12
  let c48_170 : Index := 48#32
  ![v308.toNat, 48]
def k0_off24 (v34 : BitVec 32) (k0_t5 : Fin (k0_t5_loop v34).trips) : Fin 2 → Nat :=
  let c0_i32_155 : BitVec 32 := 0#32
  let c1_i32_157 : BitVec 32 := 1#32
  let arg12 : BitVec 32 := Scf.iv c0_i32_155 c1_i32_157 k0_t5
  let v311 : Index := Scalar.indexCast arg12
  let c64_171 : Index := 64#32
  ![v311.toNat, 64]
def k0_off25 (v34 : BitVec 32) (k0_t5 : Fin (k0_t5_loop v34).trips) : Fin 2 → Nat :=
  let c0_i32_155 : BitVec 32 := 0#32
  let c1_i32_157 : BitVec 32 := 1#32
  let arg12 : BitVec 32 := Scf.iv c0_i32_155 c1_i32_157 k0_t5
  let v314 : Index := Scalar.indexCast arg12
  let c80_172 : Index := 80#32
  ![v314.toNat, 80]
def k0_off26 (v34 : BitVec 32) (k0_t5 : Fin (k0_t5_loop v34).trips) : Fin 2 → Nat :=
  let c0_i32_155 : BitVec 32 := 0#32
  let c1_i32_157 : BitVec 32 := 1#32
  let arg12 : BitVec 32 := Scf.iv c0_i32_155 c1_i32_157 k0_t5
  let v317 : Index := Scalar.indexCast arg12
  let c96_173 : Index := 96#32
  ![v317.toNat, 96]
def k0_off27 (v34 : BitVec 32) (k0_t5 : Fin (k0_t5_loop v34).trips) : Fin 2 → Nat :=
  let c0_i32_155 : BitVec 32 := 0#32
  let c1_i32_157 : BitVec 32 := 1#32
  let arg12 : BitVec 32 := Scf.iv c0_i32_155 c1_i32_157 k0_t5
  let v320 : Index := Scalar.indexCast arg12
  let c112_174 : Index := 112#32
  ![v320.toNat, 112]
@[reducible] def k0_t6_loop (v34 : BitVec 32) : Scf.Loop 32 :=
  let c0_i32_155 : BitVec 32 := 0#32
  let c128_i32_145 : BitVec 32 := 128#32
  let v274 : BitVec 32 := Scalar.subi v34 c128_i32_145
  let c128_i32_146 : BitVec 32 := 128#32
  let v275 : BitVec 32 := Scalar.minsi v274 c128_i32_146
  let v284 : BitVec 32 := Scalar.subi v275 c0_i32_155
  let c1_i32_156 : BitVec 32 := 1#32
  let v286 : BitVec 32 := Scalar.divsi v284 c1_i32_156
  let v287 : BitVec 32 := Scalar.muli v286 c1_i32_156
  let v288 : BitVec 32 := Scalar.addi c0_i32_155 v287
  let v285 : BitVec 32 := Scalar.addi c0_i32_155 v284
  let c1_i32_158 : BitVec 32 := 1#32
  ⟨v288, v285, c1_i32_158⟩
def k0_off28 (v34 : BitVec 32) (k0_t6 : Fin (k0_t6_loop v34).trips) : Fin 2 → Nat :=
  let c0_i32_155 : BitVec 32 := 0#32
  let c128_i32_145 : BitVec 32 := 128#32
  let v274 : BitVec 32 := Scalar.subi v34 c128_i32_145
  let c128_i32_146 : BitVec 32 := 128#32
  let v275 : BitVec 32 := Scalar.minsi v274 c128_i32_146
  let v284 : BitVec 32 := Scalar.subi v275 c0_i32_155
  let c1_i32_156 : BitVec 32 := 1#32
  let v286 : BitVec 32 := Scalar.divsi v284 c1_i32_156
  let v287 : BitVec 32 := Scalar.muli v286 c1_i32_156
  let v288 : BitVec 32 := Scalar.addi c0_i32_155 v287
  let c1_i32_158 : BitVec 32 := 1#32
  let arg12 : BitVec 32 := Scf.iv v288 c1_i32_158 k0_t6
  let v299 : Index := Scalar.indexCast arg12
  let c0_167 : Index := 0#32
  ![v299.toNat, 0]
def k0_off29 (v34 : BitVec 32) (k0_t6 : Fin (k0_t6_loop v34).trips) : Fin 2 → Nat :=
  let c0_i32_155 : BitVec 32 := 0#32
  let c128_i32_145 : BitVec 32 := 128#32
  let v274 : BitVec 32 := Scalar.subi v34 c128_i32_145
  let c128_i32_146 : BitVec 32 := 128#32
  let v275 : BitVec 32 := Scalar.minsi v274 c128_i32_146
  let v284 : BitVec 32 := Scalar.subi v275 c0_i32_155
  let c1_i32_156 : BitVec 32 := 1#32
  let v286 : BitVec 32 := Scalar.divsi v284 c1_i32_156
  let v287 : BitVec 32 := Scalar.muli v286 c1_i32_156
  let v288 : BitVec 32 := Scalar.addi c0_i32_155 v287
  let c1_i32_158 : BitVec 32 := 1#32
  let arg12 : BitVec 32 := Scf.iv v288 c1_i32_158 k0_t6
  let v302 : Index := Scalar.indexCast arg12
  let c16_168 : Index := 16#32
  ![v302.toNat, 16]
def k0_off30 (v34 : BitVec 32) (k0_t6 : Fin (k0_t6_loop v34).trips) : Fin 2 → Nat :=
  let c0_i32_155 : BitVec 32 := 0#32
  let c128_i32_145 : BitVec 32 := 128#32
  let v274 : BitVec 32 := Scalar.subi v34 c128_i32_145
  let c128_i32_146 : BitVec 32 := 128#32
  let v275 : BitVec 32 := Scalar.minsi v274 c128_i32_146
  let v284 : BitVec 32 := Scalar.subi v275 c0_i32_155
  let c1_i32_156 : BitVec 32 := 1#32
  let v286 : BitVec 32 := Scalar.divsi v284 c1_i32_156
  let v287 : BitVec 32 := Scalar.muli v286 c1_i32_156
  let v288 : BitVec 32 := Scalar.addi c0_i32_155 v287
  let c1_i32_158 : BitVec 32 := 1#32
  let arg12 : BitVec 32 := Scf.iv v288 c1_i32_158 k0_t6
  let v305 : Index := Scalar.indexCast arg12
  let c32_169 : Index := 32#32
  ![v305.toNat, 32]
def k0_off31 (v34 : BitVec 32) (k0_t6 : Fin (k0_t6_loop v34).trips) : Fin 2 → Nat :=
  let c0_i32_155 : BitVec 32 := 0#32
  let c128_i32_145 : BitVec 32 := 128#32
  let v274 : BitVec 32 := Scalar.subi v34 c128_i32_145
  let c128_i32_146 : BitVec 32 := 128#32
  let v275 : BitVec 32 := Scalar.minsi v274 c128_i32_146
  let v284 : BitVec 32 := Scalar.subi v275 c0_i32_155
  let c1_i32_156 : BitVec 32 := 1#32
  let v286 : BitVec 32 := Scalar.divsi v284 c1_i32_156
  let v287 : BitVec 32 := Scalar.muli v286 c1_i32_156
  let v288 : BitVec 32 := Scalar.addi c0_i32_155 v287
  let c1_i32_158 : BitVec 32 := 1#32
  let arg12 : BitVec 32 := Scf.iv v288 c1_i32_158 k0_t6
  let v308 : Index := Scalar.indexCast arg12
  let c48_170 : Index := 48#32
  ![v308.toNat, 48]
def k0_off32 (v34 : BitVec 32) (k0_t6 : Fin (k0_t6_loop v34).trips) : Fin 2 → Nat :=
  let c0_i32_155 : BitVec 32 := 0#32
  let c128_i32_145 : BitVec 32 := 128#32
  let v274 : BitVec 32 := Scalar.subi v34 c128_i32_145
  let c128_i32_146 : BitVec 32 := 128#32
  let v275 : BitVec 32 := Scalar.minsi v274 c128_i32_146
  let v284 : BitVec 32 := Scalar.subi v275 c0_i32_155
  let c1_i32_156 : BitVec 32 := 1#32
  let v286 : BitVec 32 := Scalar.divsi v284 c1_i32_156
  let v287 : BitVec 32 := Scalar.muli v286 c1_i32_156
  let v288 : BitVec 32 := Scalar.addi c0_i32_155 v287
  let c1_i32_158 : BitVec 32 := 1#32
  let arg12 : BitVec 32 := Scf.iv v288 c1_i32_158 k0_t6
  let v311 : Index := Scalar.indexCast arg12
  let c64_171 : Index := 64#32
  ![v311.toNat, 64]
def k0_off33 (v34 : BitVec 32) (k0_t6 : Fin (k0_t6_loop v34).trips) : Fin 2 → Nat :=
  let c0_i32_155 : BitVec 32 := 0#32
  let c128_i32_145 : BitVec 32 := 128#32
  let v274 : BitVec 32 := Scalar.subi v34 c128_i32_145
  let c128_i32_146 : BitVec 32 := 128#32
  let v275 : BitVec 32 := Scalar.minsi v274 c128_i32_146
  let v284 : BitVec 32 := Scalar.subi v275 c0_i32_155
  let c1_i32_156 : BitVec 32 := 1#32
  let v286 : BitVec 32 := Scalar.divsi v284 c1_i32_156
  let v287 : BitVec 32 := Scalar.muli v286 c1_i32_156
  let v288 : BitVec 32 := Scalar.addi c0_i32_155 v287
  let c1_i32_158 : BitVec 32 := 1#32
  let arg12 : BitVec 32 := Scf.iv v288 c1_i32_158 k0_t6
  let v314 : Index := Scalar.indexCast arg12
  let c80_172 : Index := 80#32
  ![v314.toNat, 80]
def k0_off34 (v34 : BitVec 32) (k0_t6 : Fin (k0_t6_loop v34).trips) : Fin 2 → Nat :=
  let c0_i32_155 : BitVec 32 := 0#32
  let c128_i32_145 : BitVec 32 := 128#32
  let v274 : BitVec 32 := Scalar.subi v34 c128_i32_145
  let c128_i32_146 : BitVec 32 := 128#32
  let v275 : BitVec 32 := Scalar.minsi v274 c128_i32_146
  let v284 : BitVec 32 := Scalar.subi v275 c0_i32_155
  let c1_i32_156 : BitVec 32 := 1#32
  let v286 : BitVec 32 := Scalar.divsi v284 c1_i32_156
  let v287 : BitVec 32 := Scalar.muli v286 c1_i32_156
  let v288 : BitVec 32 := Scalar.addi c0_i32_155 v287
  let c1_i32_158 : BitVec 32 := 1#32
  let arg12 : BitVec 32 := Scf.iv v288 c1_i32_158 k0_t6
  let v317 : Index := Scalar.indexCast arg12
  let c96_173 : Index := 96#32
  ![v317.toNat, 96]
def k0_off35 (v34 : BitVec 32) (k0_t6 : Fin (k0_t6_loop v34).trips) : Fin 2 → Nat :=
  let c0_i32_155 : BitVec 32 := 0#32
  let c128_i32_145 : BitVec 32 := 128#32
  let v274 : BitVec 32 := Scalar.subi v34 c128_i32_145
  let c128_i32_146 : BitVec 32 := 128#32
  let v275 : BitVec 32 := Scalar.minsi v274 c128_i32_146
  let v284 : BitVec 32 := Scalar.subi v275 c0_i32_155
  let c1_i32_156 : BitVec 32 := 1#32
  let v286 : BitVec 32 := Scalar.divsi v284 c1_i32_156
  let v287 : BitVec 32 := Scalar.muli v286 c1_i32_156
  let v288 : BitVec 32 := Scalar.addi c0_i32_155 v287
  let c1_i32_158 : BitVec 32 := 1#32
  let arg12 : BitVec 32 := Scf.iv v288 c1_i32_158 k0_t6
  let v320 : Index := Scalar.indexCast arg12
  let c112_174 : Index := 112#32
  ![v320.toNat, 112]
@[reducible] def k0_t7_loop (v34 : BitVec 32) : Scf.Loop 32 :=
  let c0_i32_155 : BitVec 32 := 0#32
  let c256_i32_145 : BitVec 32 := 256#32
  let v274 : BitVec 32 := Scalar.subi v34 c256_i32_145
  let c128_i32_146 : BitVec 32 := 128#32
  let v275 : BitVec 32 := Scalar.minsi v274 c128_i32_146
  let v284 : BitVec 32 := Scalar.subi v275 c0_i32_155
  let c1_i32_156 : BitVec 32 := 1#32
  let v286 : BitVec 32 := Scalar.divsi v284 c1_i32_156
  let v287 : BitVec 32 := Scalar.muli v286 c1_i32_156
  let v288 : BitVec 32 := Scalar.addi c0_i32_155 v287
  let c1_i32_157 : BitVec 32 := 1#32
  ⟨c0_i32_155, v288, c1_i32_157⟩
def k0_cond7 (v34 : BitVec 32) : BitVec 1 :=
  let c256_i32_36 : BitVec 32 := 256#32
  let v69 : BitVec 1 := Scalar.cmpi .sgt v34 c256_i32_36
  let v70 : BitVec 32 := Scalar.extui v69
  let c0_i32_37 : BitVec 32 := 0#32
  let v71 : BitVec 1 := Scalar.cmpi .ne v70 c0_i32_37
  v71

def k0_off36 (v34 : BitVec 32) (k0_t7 : Fin (k0_t7_loop v34).trips) : Fin 2 → Nat :=
  let c0_i32_155 : BitVec 32 := 0#32
  let c1_i32_157 : BitVec 32 := 1#32
  let arg12 : BitVec 32 := Scf.iv c0_i32_155 c1_i32_157 k0_t7
  let v299 : Index := Scalar.indexCast arg12
  let c0_167 : Index := 0#32
  ![v299.toNat, 0]
def k0_off37 (v34 : BitVec 32) (k0_t7 : Fin (k0_t7_loop v34).trips) : Fin 2 → Nat :=
  let c0_i32_155 : BitVec 32 := 0#32
  let c1_i32_157 : BitVec 32 := 1#32
  let arg12 : BitVec 32 := Scf.iv c0_i32_155 c1_i32_157 k0_t7
  let v302 : Index := Scalar.indexCast arg12
  let c16_168 : Index := 16#32
  ![v302.toNat, 16]
def k0_off38 (v34 : BitVec 32) (k0_t7 : Fin (k0_t7_loop v34).trips) : Fin 2 → Nat :=
  let c0_i32_155 : BitVec 32 := 0#32
  let c1_i32_157 : BitVec 32 := 1#32
  let arg12 : BitVec 32 := Scf.iv c0_i32_155 c1_i32_157 k0_t7
  let v305 : Index := Scalar.indexCast arg12
  let c32_169 : Index := 32#32
  ![v305.toNat, 32]
def k0_off39 (v34 : BitVec 32) (k0_t7 : Fin (k0_t7_loop v34).trips) : Fin 2 → Nat :=
  let c0_i32_155 : BitVec 32 := 0#32
  let c1_i32_157 : BitVec 32 := 1#32
  let arg12 : BitVec 32 := Scf.iv c0_i32_155 c1_i32_157 k0_t7
  let v308 : Index := Scalar.indexCast arg12
  let c48_170 : Index := 48#32
  ![v308.toNat, 48]
def k0_off40 (v34 : BitVec 32) (k0_t7 : Fin (k0_t7_loop v34).trips) : Fin 2 → Nat :=
  let c0_i32_155 : BitVec 32 := 0#32
  let c1_i32_157 : BitVec 32 := 1#32
  let arg12 : BitVec 32 := Scf.iv c0_i32_155 c1_i32_157 k0_t7
  let v311 : Index := Scalar.indexCast arg12
  let c64_171 : Index := 64#32
  ![v311.toNat, 64]
def k0_off41 (v34 : BitVec 32) (k0_t7 : Fin (k0_t7_loop v34).trips) : Fin 2 → Nat :=
  let c0_i32_155 : BitVec 32 := 0#32
  let c1_i32_157 : BitVec 32 := 1#32
  let arg12 : BitVec 32 := Scf.iv c0_i32_155 c1_i32_157 k0_t7
  let v314 : Index := Scalar.indexCast arg12
  let c80_172 : Index := 80#32
  ![v314.toNat, 80]
def k0_off42 (v34 : BitVec 32) (k0_t7 : Fin (k0_t7_loop v34).trips) : Fin 2 → Nat :=
  let c0_i32_155 : BitVec 32 := 0#32
  let c1_i32_157 : BitVec 32 := 1#32
  let arg12 : BitVec 32 := Scf.iv c0_i32_155 c1_i32_157 k0_t7
  let v317 : Index := Scalar.indexCast arg12
  let c96_173 : Index := 96#32
  ![v317.toNat, 96]
def k0_off43 (v34 : BitVec 32) (k0_t7 : Fin (k0_t7_loop v34).trips) : Fin 2 → Nat :=
  let c0_i32_155 : BitVec 32 := 0#32
  let c1_i32_157 : BitVec 32 := 1#32
  let arg12 : BitVec 32 := Scf.iv c0_i32_155 c1_i32_157 k0_t7
  let v320 : Index := Scalar.indexCast arg12
  let c112_174 : Index := 112#32
  ![v320.toNat, 112]
@[reducible] def k0_t8_loop (v34 : BitVec 32) : Scf.Loop 32 :=
  let c0_i32_155 : BitVec 32 := 0#32
  let c256_i32_145 : BitVec 32 := 256#32
  let v274 : BitVec 32 := Scalar.subi v34 c256_i32_145
  let c128_i32_146 : BitVec 32 := 128#32
  let v275 : BitVec 32 := Scalar.minsi v274 c128_i32_146
  let v284 : BitVec 32 := Scalar.subi v275 c0_i32_155
  let c1_i32_156 : BitVec 32 := 1#32
  let v286 : BitVec 32 := Scalar.divsi v284 c1_i32_156
  let v287 : BitVec 32 := Scalar.muli v286 c1_i32_156
  let v288 : BitVec 32 := Scalar.addi c0_i32_155 v287
  let v285 : BitVec 32 := Scalar.addi c0_i32_155 v284
  let c1_i32_158 : BitVec 32 := 1#32
  ⟨v288, v285, c1_i32_158⟩
def k0_off44 (v34 : BitVec 32) (k0_t8 : Fin (k0_t8_loop v34).trips) : Fin 2 → Nat :=
  let c0_i32_155 : BitVec 32 := 0#32
  let c256_i32_145 : BitVec 32 := 256#32
  let v274 : BitVec 32 := Scalar.subi v34 c256_i32_145
  let c128_i32_146 : BitVec 32 := 128#32
  let v275 : BitVec 32 := Scalar.minsi v274 c128_i32_146
  let v284 : BitVec 32 := Scalar.subi v275 c0_i32_155
  let c1_i32_156 : BitVec 32 := 1#32
  let v286 : BitVec 32 := Scalar.divsi v284 c1_i32_156
  let v287 : BitVec 32 := Scalar.muli v286 c1_i32_156
  let v288 : BitVec 32 := Scalar.addi c0_i32_155 v287
  let c1_i32_158 : BitVec 32 := 1#32
  let arg12 : BitVec 32 := Scf.iv v288 c1_i32_158 k0_t8
  let v299 : Index := Scalar.indexCast arg12
  let c0_167 : Index := 0#32
  ![v299.toNat, 0]
def k0_off45 (v34 : BitVec 32) (k0_t8 : Fin (k0_t8_loop v34).trips) : Fin 2 → Nat :=
  let c0_i32_155 : BitVec 32 := 0#32
  let c256_i32_145 : BitVec 32 := 256#32
  let v274 : BitVec 32 := Scalar.subi v34 c256_i32_145
  let c128_i32_146 : BitVec 32 := 128#32
  let v275 : BitVec 32 := Scalar.minsi v274 c128_i32_146
  let v284 : BitVec 32 := Scalar.subi v275 c0_i32_155
  let c1_i32_156 : BitVec 32 := 1#32
  let v286 : BitVec 32 := Scalar.divsi v284 c1_i32_156
  let v287 : BitVec 32 := Scalar.muli v286 c1_i32_156
  let v288 : BitVec 32 := Scalar.addi c0_i32_155 v287
  let c1_i32_158 : BitVec 32 := 1#32
  let arg12 : BitVec 32 := Scf.iv v288 c1_i32_158 k0_t8
  let v302 : Index := Scalar.indexCast arg12
  let c16_168 : Index := 16#32
  ![v302.toNat, 16]
def k0_off46 (v34 : BitVec 32) (k0_t8 : Fin (k0_t8_loop v34).trips) : Fin 2 → Nat :=
  let c0_i32_155 : BitVec 32 := 0#32
  let c256_i32_145 : BitVec 32 := 256#32
  let v274 : BitVec 32 := Scalar.subi v34 c256_i32_145
  let c128_i32_146 : BitVec 32 := 128#32
  let v275 : BitVec 32 := Scalar.minsi v274 c128_i32_146
  let v284 : BitVec 32 := Scalar.subi v275 c0_i32_155
  let c1_i32_156 : BitVec 32 := 1#32
  let v286 : BitVec 32 := Scalar.divsi v284 c1_i32_156
  let v287 : BitVec 32 := Scalar.muli v286 c1_i32_156
  let v288 : BitVec 32 := Scalar.addi c0_i32_155 v287
  let c1_i32_158 : BitVec 32 := 1#32
  let arg12 : BitVec 32 := Scf.iv v288 c1_i32_158 k0_t8
  let v305 : Index := Scalar.indexCast arg12
  let c32_169 : Index := 32#32
  ![v305.toNat, 32]
def k0_off47 (v34 : BitVec 32) (k0_t8 : Fin (k0_t8_loop v34).trips) : Fin 2 → Nat :=
  let c0_i32_155 : BitVec 32 := 0#32
  let c256_i32_145 : BitVec 32 := 256#32
  let v274 : BitVec 32 := Scalar.subi v34 c256_i32_145
  let c128_i32_146 : BitVec 32 := 128#32
  let v275 : BitVec 32 := Scalar.minsi v274 c128_i32_146
  let v284 : BitVec 32 := Scalar.subi v275 c0_i32_155
  let c1_i32_156 : BitVec 32 := 1#32
  let v286 : BitVec 32 := Scalar.divsi v284 c1_i32_156
  let v287 : BitVec 32 := Scalar.muli v286 c1_i32_156
  let v288 : BitVec 32 := Scalar.addi c0_i32_155 v287
  let c1_i32_158 : BitVec 32 := 1#32
  let arg12 : BitVec 32 := Scf.iv v288 c1_i32_158 k0_t8
  let v308 : Index := Scalar.indexCast arg12
  let c48_170 : Index := 48#32
  ![v308.toNat, 48]
def k0_off48 (v34 : BitVec 32) (k0_t8 : Fin (k0_t8_loop v34).trips) : Fin 2 → Nat :=
  let c0_i32_155 : BitVec 32 := 0#32
  let c256_i32_145 : BitVec 32 := 256#32
  let v274 : BitVec 32 := Scalar.subi v34 c256_i32_145
  let c128_i32_146 : BitVec 32 := 128#32
  let v275 : BitVec 32 := Scalar.minsi v274 c128_i32_146
  let v284 : BitVec 32 := Scalar.subi v275 c0_i32_155
  let c1_i32_156 : BitVec 32 := 1#32
  let v286 : BitVec 32 := Scalar.divsi v284 c1_i32_156
  let v287 : BitVec 32 := Scalar.muli v286 c1_i32_156
  let v288 : BitVec 32 := Scalar.addi c0_i32_155 v287
  let c1_i32_158 : BitVec 32 := 1#32
  let arg12 : BitVec 32 := Scf.iv v288 c1_i32_158 k0_t8
  let v311 : Index := Scalar.indexCast arg12
  let c64_171 : Index := 64#32
  ![v311.toNat, 64]
def k0_off49 (v34 : BitVec 32) (k0_t8 : Fin (k0_t8_loop v34).trips) : Fin 2 → Nat :=
  let c0_i32_155 : BitVec 32 := 0#32
  let c256_i32_145 : BitVec 32 := 256#32
  let v274 : BitVec 32 := Scalar.subi v34 c256_i32_145
  let c128_i32_146 : BitVec 32 := 128#32
  let v275 : BitVec 32 := Scalar.minsi v274 c128_i32_146
  let v284 : BitVec 32 := Scalar.subi v275 c0_i32_155
  let c1_i32_156 : BitVec 32 := 1#32
  let v286 : BitVec 32 := Scalar.divsi v284 c1_i32_156
  let v287 : BitVec 32 := Scalar.muli v286 c1_i32_156
  let v288 : BitVec 32 := Scalar.addi c0_i32_155 v287
  let c1_i32_158 : BitVec 32 := 1#32
  let arg12 : BitVec 32 := Scf.iv v288 c1_i32_158 k0_t8
  let v314 : Index := Scalar.indexCast arg12
  let c80_172 : Index := 80#32
  ![v314.toNat, 80]
def k0_off50 (v34 : BitVec 32) (k0_t8 : Fin (k0_t8_loop v34).trips) : Fin 2 → Nat :=
  let c0_i32_155 : BitVec 32 := 0#32
  let c256_i32_145 : BitVec 32 := 256#32
  let v274 : BitVec 32 := Scalar.subi v34 c256_i32_145
  let c128_i32_146 : BitVec 32 := 128#32
  let v275 : BitVec 32 := Scalar.minsi v274 c128_i32_146
  let v284 : BitVec 32 := Scalar.subi v275 c0_i32_155
  let c1_i32_156 : BitVec 32 := 1#32
  let v286 : BitVec 32 := Scalar.divsi v284 c1_i32_156
  let v287 : BitVec 32 := Scalar.muli v286 c1_i32_156
  let v288 : BitVec 32 := Scalar.addi c0_i32_155 v287
  let c1_i32_158 : BitVec 32 := 1#32
  let arg12 : BitVec 32 := Scf.iv v288 c1_i32_158 k0_t8
  let v317 : Index := Scalar.indexCast arg12
  let c96_173 : Index := 96#32
  ![v317.toNat, 96]
def k0_off51 (v34 : BitVec 32) (k0_t8 : Fin (k0_t8_loop v34).trips) : Fin 2 → Nat :=
  let c0_i32_155 : BitVec 32 := 0#32
  let c256_i32_145 : BitVec 32 := 256#32
  let v274 : BitVec 32 := Scalar.subi v34 c256_i32_145
  let c128_i32_146 : BitVec 32 := 128#32
  let v275 : BitVec 32 := Scalar.minsi v274 c128_i32_146
  let v284 : BitVec 32 := Scalar.subi v275 c0_i32_155
  let c1_i32_156 : BitVec 32 := 1#32
  let v286 : BitVec 32 := Scalar.divsi v284 c1_i32_156
  let v287 : BitVec 32 := Scalar.muli v286 c1_i32_156
  let v288 : BitVec 32 := Scalar.addi c0_i32_155 v287
  let c1_i32_158 : BitVec 32 := 1#32
  let arg12 : BitVec 32 := Scf.iv v288 c1_i32_158 k0_t8
  let v320 : Index := Scalar.indexCast arg12
  let c112_174 : Index := 112#32
  ![v320.toNat, 112]
@[reducible] def k0_t9_loop (v34 : BitVec 32) : Scf.Loop 32 :=
  let c0_i32_155 : BitVec 32 := 0#32
  let c384_i32_145 : BitVec 32 := 384#32
  let v274 : BitVec 32 := Scalar.subi v34 c384_i32_145
  let c128_i32_146 : BitVec 32 := 128#32
  let v275 : BitVec 32 := Scalar.minsi v274 c128_i32_146
  let v284 : BitVec 32 := Scalar.subi v275 c0_i32_155
  let c1_i32_156 : BitVec 32 := 1#32
  let v286 : BitVec 32 := Scalar.divsi v284 c1_i32_156
  let v287 : BitVec 32 := Scalar.muli v286 c1_i32_156
  let v288 : BitVec 32 := Scalar.addi c0_i32_155 v287
  let c1_i32_157 : BitVec 32 := 1#32
  ⟨c0_i32_155, v288, c1_i32_157⟩
def k0_cond9 (v34 : BitVec 32) : BitVec 1 :=
  let c384_i32_39 : BitVec 32 := 384#32
  let v75 : BitVec 1 := Scalar.cmpi .sgt v34 c384_i32_39
  let v76 : BitVec 32 := Scalar.extui v75
  let c0_i32_40 : BitVec 32 := 0#32
  let v77 : BitVec 1 := Scalar.cmpi .ne v76 c0_i32_40
  v77

def k0_off52 (v34 : BitVec 32) (k0_t9 : Fin (k0_t9_loop v34).trips) : Fin 2 → Nat :=
  let c0_i32_155 : BitVec 32 := 0#32
  let c1_i32_157 : BitVec 32 := 1#32
  let arg12 : BitVec 32 := Scf.iv c0_i32_155 c1_i32_157 k0_t9
  let v299 : Index := Scalar.indexCast arg12
  let c0_167 : Index := 0#32
  ![v299.toNat, 0]
def k0_off53 (v34 : BitVec 32) (k0_t9 : Fin (k0_t9_loop v34).trips) : Fin 2 → Nat :=
  let c0_i32_155 : BitVec 32 := 0#32
  let c1_i32_157 : BitVec 32 := 1#32
  let arg12 : BitVec 32 := Scf.iv c0_i32_155 c1_i32_157 k0_t9
  let v302 : Index := Scalar.indexCast arg12
  let c16_168 : Index := 16#32
  ![v302.toNat, 16]
def k0_off54 (v34 : BitVec 32) (k0_t9 : Fin (k0_t9_loop v34).trips) : Fin 2 → Nat :=
  let c0_i32_155 : BitVec 32 := 0#32
  let c1_i32_157 : BitVec 32 := 1#32
  let arg12 : BitVec 32 := Scf.iv c0_i32_155 c1_i32_157 k0_t9
  let v305 : Index := Scalar.indexCast arg12
  let c32_169 : Index := 32#32
  ![v305.toNat, 32]
def k0_off55 (v34 : BitVec 32) (k0_t9 : Fin (k0_t9_loop v34).trips) : Fin 2 → Nat :=
  let c0_i32_155 : BitVec 32 := 0#32
  let c1_i32_157 : BitVec 32 := 1#32
  let arg12 : BitVec 32 := Scf.iv c0_i32_155 c1_i32_157 k0_t9
  let v308 : Index := Scalar.indexCast arg12
  let c48_170 : Index := 48#32
  ![v308.toNat, 48]
def k0_off56 (v34 : BitVec 32) (k0_t9 : Fin (k0_t9_loop v34).trips) : Fin 2 → Nat :=
  let c0_i32_155 : BitVec 32 := 0#32
  let c1_i32_157 : BitVec 32 := 1#32
  let arg12 : BitVec 32 := Scf.iv c0_i32_155 c1_i32_157 k0_t9
  let v311 : Index := Scalar.indexCast arg12
  let c64_171 : Index := 64#32
  ![v311.toNat, 64]
def k0_off57 (v34 : BitVec 32) (k0_t9 : Fin (k0_t9_loop v34).trips) : Fin 2 → Nat :=
  let c0_i32_155 : BitVec 32 := 0#32
  let c1_i32_157 : BitVec 32 := 1#32
  let arg12 : BitVec 32 := Scf.iv c0_i32_155 c1_i32_157 k0_t9
  let v314 : Index := Scalar.indexCast arg12
  let c80_172 : Index := 80#32
  ![v314.toNat, 80]
def k0_off58 (v34 : BitVec 32) (k0_t9 : Fin (k0_t9_loop v34).trips) : Fin 2 → Nat :=
  let c0_i32_155 : BitVec 32 := 0#32
  let c1_i32_157 : BitVec 32 := 1#32
  let arg12 : BitVec 32 := Scf.iv c0_i32_155 c1_i32_157 k0_t9
  let v317 : Index := Scalar.indexCast arg12
  let c96_173 : Index := 96#32
  ![v317.toNat, 96]
def k0_off59 (v34 : BitVec 32) (k0_t9 : Fin (k0_t9_loop v34).trips) : Fin 2 → Nat :=
  let c0_i32_155 : BitVec 32 := 0#32
  let c1_i32_157 : BitVec 32 := 1#32
  let arg12 : BitVec 32 := Scf.iv c0_i32_155 c1_i32_157 k0_t9
  let v320 : Index := Scalar.indexCast arg12
  let c112_174 : Index := 112#32
  ![v320.toNat, 112]
@[reducible] def k0_t10_loop (v34 : BitVec 32) : Scf.Loop 32 :=
  let c0_i32_155 : BitVec 32 := 0#32
  let c384_i32_145 : BitVec 32 := 384#32
  let v274 : BitVec 32 := Scalar.subi v34 c384_i32_145
  let c128_i32_146 : BitVec 32 := 128#32
  let v275 : BitVec 32 := Scalar.minsi v274 c128_i32_146
  let v284 : BitVec 32 := Scalar.subi v275 c0_i32_155
  let c1_i32_156 : BitVec 32 := 1#32
  let v286 : BitVec 32 := Scalar.divsi v284 c1_i32_156
  let v287 : BitVec 32 := Scalar.muli v286 c1_i32_156
  let v288 : BitVec 32 := Scalar.addi c0_i32_155 v287
  let v285 : BitVec 32 := Scalar.addi c0_i32_155 v284
  let c1_i32_158 : BitVec 32 := 1#32
  ⟨v288, v285, c1_i32_158⟩
def k0_off60 (v34 : BitVec 32) (k0_t10 : Fin (k0_t10_loop v34).trips) : Fin 2 → Nat :=
  let c0_i32_155 : BitVec 32 := 0#32
  let c384_i32_145 : BitVec 32 := 384#32
  let v274 : BitVec 32 := Scalar.subi v34 c384_i32_145
  let c128_i32_146 : BitVec 32 := 128#32
  let v275 : BitVec 32 := Scalar.minsi v274 c128_i32_146
  let v284 : BitVec 32 := Scalar.subi v275 c0_i32_155
  let c1_i32_156 : BitVec 32 := 1#32
  let v286 : BitVec 32 := Scalar.divsi v284 c1_i32_156
  let v287 : BitVec 32 := Scalar.muli v286 c1_i32_156
  let v288 : BitVec 32 := Scalar.addi c0_i32_155 v287
  let c1_i32_158 : BitVec 32 := 1#32
  let arg12 : BitVec 32 := Scf.iv v288 c1_i32_158 k0_t10
  let v299 : Index := Scalar.indexCast arg12
  let c0_167 : Index := 0#32
  ![v299.toNat, 0]
def k0_off61 (v34 : BitVec 32) (k0_t10 : Fin (k0_t10_loop v34).trips) : Fin 2 → Nat :=
  let c0_i32_155 : BitVec 32 := 0#32
  let c384_i32_145 : BitVec 32 := 384#32
  let v274 : BitVec 32 := Scalar.subi v34 c384_i32_145
  let c128_i32_146 : BitVec 32 := 128#32
  let v275 : BitVec 32 := Scalar.minsi v274 c128_i32_146
  let v284 : BitVec 32 := Scalar.subi v275 c0_i32_155
  let c1_i32_156 : BitVec 32 := 1#32
  let v286 : BitVec 32 := Scalar.divsi v284 c1_i32_156
  let v287 : BitVec 32 := Scalar.muli v286 c1_i32_156
  let v288 : BitVec 32 := Scalar.addi c0_i32_155 v287
  let c1_i32_158 : BitVec 32 := 1#32
  let arg12 : BitVec 32 := Scf.iv v288 c1_i32_158 k0_t10
  let v302 : Index := Scalar.indexCast arg12
  let c16_168 : Index := 16#32
  ![v302.toNat, 16]
def k0_off62 (v34 : BitVec 32) (k0_t10 : Fin (k0_t10_loop v34).trips) : Fin 2 → Nat :=
  let c0_i32_155 : BitVec 32 := 0#32
  let c384_i32_145 : BitVec 32 := 384#32
  let v274 : BitVec 32 := Scalar.subi v34 c384_i32_145
  let c128_i32_146 : BitVec 32 := 128#32
  let v275 : BitVec 32 := Scalar.minsi v274 c128_i32_146
  let v284 : BitVec 32 := Scalar.subi v275 c0_i32_155
  let c1_i32_156 : BitVec 32 := 1#32
  let v286 : BitVec 32 := Scalar.divsi v284 c1_i32_156
  let v287 : BitVec 32 := Scalar.muli v286 c1_i32_156
  let v288 : BitVec 32 := Scalar.addi c0_i32_155 v287
  let c1_i32_158 : BitVec 32 := 1#32
  let arg12 : BitVec 32 := Scf.iv v288 c1_i32_158 k0_t10
  let v305 : Index := Scalar.indexCast arg12
  let c32_169 : Index := 32#32
  ![v305.toNat, 32]
def k0_off63 (v34 : BitVec 32) (k0_t10 : Fin (k0_t10_loop v34).trips) : Fin 2 → Nat :=
  let c0_i32_155 : BitVec 32 := 0#32
  let c384_i32_145 : BitVec 32 := 384#32
  let v274 : BitVec 32 := Scalar.subi v34 c384_i32_145
  let c128_i32_146 : BitVec 32 := 128#32
  let v275 : BitVec 32 := Scalar.minsi v274 c128_i32_146
  let v284 : BitVec 32 := Scalar.subi v275 c0_i32_155
  let c1_i32_156 : BitVec 32 := 1#32
  let v286 : BitVec 32 := Scalar.divsi v284 c1_i32_156
  let v287 : BitVec 32 := Scalar.muli v286 c1_i32_156
  let v288 : BitVec 32 := Scalar.addi c0_i32_155 v287
  let c1_i32_158 : BitVec 32 := 1#32
  let arg12 : BitVec 32 := Scf.iv v288 c1_i32_158 k0_t10
  let v308 : Index := Scalar.indexCast arg12
  let c48_170 : Index := 48#32
  ![v308.toNat, 48]
def k0_off64 (v34 : BitVec 32) (k0_t10 : Fin (k0_t10_loop v34).trips) : Fin 2 → Nat :=
  let c0_i32_155 : BitVec 32 := 0#32
  let c384_i32_145 : BitVec 32 := 384#32
  let v274 : BitVec 32 := Scalar.subi v34 c384_i32_145
  let c128_i32_146 : BitVec 32 := 128#32
  let v275 : BitVec 32 := Scalar.minsi v274 c128_i32_146
  let v284 : BitVec 32 := Scalar.subi v275 c0_i32_155
  let c1_i32_156 : BitVec 32 := 1#32
  let v286 : BitVec 32 := Scalar.divsi v284 c1_i32_156
  let v287 : BitVec 32 := Scalar.muli v286 c1_i32_156
  let v288 : BitVec 32 := Scalar.addi c0_i32_155 v287
  let c1_i32_158 : BitVec 32 := 1#32
  let arg12 : BitVec 32 := Scf.iv v288 c1_i32_158 k0_t10
  let v311 : Index := Scalar.indexCast arg12
  let c64_171 : Index := 64#32
  ![v311.toNat, 64]
def k0_off65 (v34 : BitVec 32) (k0_t10 : Fin (k0_t10_loop v34).trips) : Fin 2 → Nat :=
  let c0_i32_155 : BitVec 32 := 0#32
  let c384_i32_145 : BitVec 32 := 384#32
  let v274 : BitVec 32 := Scalar.subi v34 c384_i32_145
  let c128_i32_146 : BitVec 32 := 128#32
  let v275 : BitVec 32 := Scalar.minsi v274 c128_i32_146
  let v284 : BitVec 32 := Scalar.subi v275 c0_i32_155
  let c1_i32_156 : BitVec 32 := 1#32
  let v286 : BitVec 32 := Scalar.divsi v284 c1_i32_156
  let v287 : BitVec 32 := Scalar.muli v286 c1_i32_156
  let v288 : BitVec 32 := Scalar.addi c0_i32_155 v287
  let c1_i32_158 : BitVec 32 := 1#32
  let arg12 : BitVec 32 := Scf.iv v288 c1_i32_158 k0_t10
  let v314 : Index := Scalar.indexCast arg12
  let c80_172 : Index := 80#32
  ![v314.toNat, 80]
def k0_off66 (v34 : BitVec 32) (k0_t10 : Fin (k0_t10_loop v34).trips) : Fin 2 → Nat :=
  let c0_i32_155 : BitVec 32 := 0#32
  let c384_i32_145 : BitVec 32 := 384#32
  let v274 : BitVec 32 := Scalar.subi v34 c384_i32_145
  let c128_i32_146 : BitVec 32 := 128#32
  let v275 : BitVec 32 := Scalar.minsi v274 c128_i32_146
  let v284 : BitVec 32 := Scalar.subi v275 c0_i32_155
  let c1_i32_156 : BitVec 32 := 1#32
  let v286 : BitVec 32 := Scalar.divsi v284 c1_i32_156
  let v287 : BitVec 32 := Scalar.muli v286 c1_i32_156
  let v288 : BitVec 32 := Scalar.addi c0_i32_155 v287
  let c1_i32_158 : BitVec 32 := 1#32
  let arg12 : BitVec 32 := Scf.iv v288 c1_i32_158 k0_t10
  let v317 : Index := Scalar.indexCast arg12
  let c96_173 : Index := 96#32
  ![v317.toNat, 96]
def k0_off67 (v34 : BitVec 32) (k0_t10 : Fin (k0_t10_loop v34).trips) : Fin 2 → Nat :=
  let c0_i32_155 : BitVec 32 := 0#32
  let c384_i32_145 : BitVec 32 := 384#32
  let v274 : BitVec 32 := Scalar.subi v34 c384_i32_145
  let c128_i32_146 : BitVec 32 := 128#32
  let v275 : BitVec 32 := Scalar.minsi v274 c128_i32_146
  let v284 : BitVec 32 := Scalar.subi v275 c0_i32_155
  let c1_i32_156 : BitVec 32 := 1#32
  let v286 : BitVec 32 := Scalar.divsi v284 c1_i32_156
  let v287 : BitVec 32 := Scalar.muli v286 c1_i32_156
  let v288 : BitVec 32 := Scalar.addi c0_i32_155 v287
  let c1_i32_158 : BitVec 32 := 1#32
  let arg12 : BitVec 32 := Scf.iv v288 c1_i32_158 k0_t10
  let v320 : Index := Scalar.indexCast arg12
  let c112_174 : Index := 112#32
  ![v320.toNat, 112]
@[reducible] def k0_t11_loop (v34 : BitVec 32) : Scf.Loop 32 :=
  let c0_i32_155 : BitVec 32 := 0#32
  let c512_i32_145 : BitVec 32 := 512#32
  let v274 : BitVec 32 := Scalar.subi v34 c512_i32_145
  let c128_i32_146 : BitVec 32 := 128#32
  let v275 : BitVec 32 := Scalar.minsi v274 c128_i32_146
  let v284 : BitVec 32 := Scalar.subi v275 c0_i32_155
  let c1_i32_156 : BitVec 32 := 1#32
  let v286 : BitVec 32 := Scalar.divsi v284 c1_i32_156
  let v287 : BitVec 32 := Scalar.muli v286 c1_i32_156
  let v288 : BitVec 32 := Scalar.addi c0_i32_155 v287
  let c1_i32_157 : BitVec 32 := 1#32
  ⟨c0_i32_155, v288, c1_i32_157⟩
def k0_cond11 (v34 : BitVec 32) : BitVec 1 :=
  let c512_i32_42 : BitVec 32 := 512#32
  let v81 : BitVec 1 := Scalar.cmpi .sgt v34 c512_i32_42
  let v82 : BitVec 32 := Scalar.extui v81
  let c0_i32_43 : BitVec 32 := 0#32
  let v83 : BitVec 1 := Scalar.cmpi .ne v82 c0_i32_43
  v83

def k0_off68 (v34 : BitVec 32) (k0_t11 : Fin (k0_t11_loop v34).trips) : Fin 2 → Nat :=
  let c0_i32_155 : BitVec 32 := 0#32
  let c1_i32_157 : BitVec 32 := 1#32
  let arg12 : BitVec 32 := Scf.iv c0_i32_155 c1_i32_157 k0_t11
  let v299 : Index := Scalar.indexCast arg12
  let c0_167 : Index := 0#32
  ![v299.toNat, 0]
def k0_off69 (v34 : BitVec 32) (k0_t11 : Fin (k0_t11_loop v34).trips) : Fin 2 → Nat :=
  let c0_i32_155 : BitVec 32 := 0#32
  let c1_i32_157 : BitVec 32 := 1#32
  let arg12 : BitVec 32 := Scf.iv c0_i32_155 c1_i32_157 k0_t11
  let v302 : Index := Scalar.indexCast arg12
  let c16_168 : Index := 16#32
  ![v302.toNat, 16]
def k0_off70 (v34 : BitVec 32) (k0_t11 : Fin (k0_t11_loop v34).trips) : Fin 2 → Nat :=
  let c0_i32_155 : BitVec 32 := 0#32
  let c1_i32_157 : BitVec 32 := 1#32
  let arg12 : BitVec 32 := Scf.iv c0_i32_155 c1_i32_157 k0_t11
  let v305 : Index := Scalar.indexCast arg12
  let c32_169 : Index := 32#32
  ![v305.toNat, 32]
def k0_off71 (v34 : BitVec 32) (k0_t11 : Fin (k0_t11_loop v34).trips) : Fin 2 → Nat :=
  let c0_i32_155 : BitVec 32 := 0#32
  let c1_i32_157 : BitVec 32 := 1#32
  let arg12 : BitVec 32 := Scf.iv c0_i32_155 c1_i32_157 k0_t11
  let v308 : Index := Scalar.indexCast arg12
  let c48_170 : Index := 48#32
  ![v308.toNat, 48]
def k0_off72 (v34 : BitVec 32) (k0_t11 : Fin (k0_t11_loop v34).trips) : Fin 2 → Nat :=
  let c0_i32_155 : BitVec 32 := 0#32
  let c1_i32_157 : BitVec 32 := 1#32
  let arg12 : BitVec 32 := Scf.iv c0_i32_155 c1_i32_157 k0_t11
  let v311 : Index := Scalar.indexCast arg12
  let c64_171 : Index := 64#32
  ![v311.toNat, 64]
def k0_off73 (v34 : BitVec 32) (k0_t11 : Fin (k0_t11_loop v34).trips) : Fin 2 → Nat :=
  let c0_i32_155 : BitVec 32 := 0#32
  let c1_i32_157 : BitVec 32 := 1#32
  let arg12 : BitVec 32 := Scf.iv c0_i32_155 c1_i32_157 k0_t11
  let v314 : Index := Scalar.indexCast arg12
  let c80_172 : Index := 80#32
  ![v314.toNat, 80]
def k0_off74 (v34 : BitVec 32) (k0_t11 : Fin (k0_t11_loop v34).trips) : Fin 2 → Nat :=
  let c0_i32_155 : BitVec 32 := 0#32
  let c1_i32_157 : BitVec 32 := 1#32
  let arg12 : BitVec 32 := Scf.iv c0_i32_155 c1_i32_157 k0_t11
  let v317 : Index := Scalar.indexCast arg12
  let c96_173 : Index := 96#32
  ![v317.toNat, 96]
def k0_off75 (v34 : BitVec 32) (k0_t11 : Fin (k0_t11_loop v34).trips) : Fin 2 → Nat :=
  let c0_i32_155 : BitVec 32 := 0#32
  let c1_i32_157 : BitVec 32 := 1#32
  let arg12 : BitVec 32 := Scf.iv c0_i32_155 c1_i32_157 k0_t11
  let v320 : Index := Scalar.indexCast arg12
  let c112_174 : Index := 112#32
  ![v320.toNat, 112]
@[reducible] def k0_t12_loop (v34 : BitVec 32) : Scf.Loop 32 :=
  let c0_i32_155 : BitVec 32 := 0#32
  let c512_i32_145 : BitVec 32 := 512#32
  let v274 : BitVec 32 := Scalar.subi v34 c512_i32_145
  let c128_i32_146 : BitVec 32 := 128#32
  let v275 : BitVec 32 := Scalar.minsi v274 c128_i32_146
  let v284 : BitVec 32 := Scalar.subi v275 c0_i32_155
  let c1_i32_156 : BitVec 32 := 1#32
  let v286 : BitVec 32 := Scalar.divsi v284 c1_i32_156
  let v287 : BitVec 32 := Scalar.muli v286 c1_i32_156
  let v288 : BitVec 32 := Scalar.addi c0_i32_155 v287
  let v285 : BitVec 32 := Scalar.addi c0_i32_155 v284
  let c1_i32_158 : BitVec 32 := 1#32
  ⟨v288, v285, c1_i32_158⟩
def k0_off76 (v34 : BitVec 32) (k0_t12 : Fin (k0_t12_loop v34).trips) : Fin 2 → Nat :=
  let c0_i32_155 : BitVec 32 := 0#32
  let c512_i32_145 : BitVec 32 := 512#32
  let v274 : BitVec 32 := Scalar.subi v34 c512_i32_145
  let c128_i32_146 : BitVec 32 := 128#32
  let v275 : BitVec 32 := Scalar.minsi v274 c128_i32_146
  let v284 : BitVec 32 := Scalar.subi v275 c0_i32_155
  let c1_i32_156 : BitVec 32 := 1#32
  let v286 : BitVec 32 := Scalar.divsi v284 c1_i32_156
  let v287 : BitVec 32 := Scalar.muli v286 c1_i32_156
  let v288 : BitVec 32 := Scalar.addi c0_i32_155 v287
  let c1_i32_158 : BitVec 32 := 1#32
  let arg12 : BitVec 32 := Scf.iv v288 c1_i32_158 k0_t12
  let v299 : Index := Scalar.indexCast arg12
  let c0_167 : Index := 0#32
  ![v299.toNat, 0]
def k0_off77 (v34 : BitVec 32) (k0_t12 : Fin (k0_t12_loop v34).trips) : Fin 2 → Nat :=
  let c0_i32_155 : BitVec 32 := 0#32
  let c512_i32_145 : BitVec 32 := 512#32
  let v274 : BitVec 32 := Scalar.subi v34 c512_i32_145
  let c128_i32_146 : BitVec 32 := 128#32
  let v275 : BitVec 32 := Scalar.minsi v274 c128_i32_146
  let v284 : BitVec 32 := Scalar.subi v275 c0_i32_155
  let c1_i32_156 : BitVec 32 := 1#32
  let v286 : BitVec 32 := Scalar.divsi v284 c1_i32_156
  let v287 : BitVec 32 := Scalar.muli v286 c1_i32_156
  let v288 : BitVec 32 := Scalar.addi c0_i32_155 v287
  let c1_i32_158 : BitVec 32 := 1#32
  let arg12 : BitVec 32 := Scf.iv v288 c1_i32_158 k0_t12
  let v302 : Index := Scalar.indexCast arg12
  let c16_168 : Index := 16#32
  ![v302.toNat, 16]
def k0_off78 (v34 : BitVec 32) (k0_t12 : Fin (k0_t12_loop v34).trips) : Fin 2 → Nat :=
  let c0_i32_155 : BitVec 32 := 0#32
  let c512_i32_145 : BitVec 32 := 512#32
  let v274 : BitVec 32 := Scalar.subi v34 c512_i32_145
  let c128_i32_146 : BitVec 32 := 128#32
  let v275 : BitVec 32 := Scalar.minsi v274 c128_i32_146
  let v284 : BitVec 32 := Scalar.subi v275 c0_i32_155
  let c1_i32_156 : BitVec 32 := 1#32
  let v286 : BitVec 32 := Scalar.divsi v284 c1_i32_156
  let v287 : BitVec 32 := Scalar.muli v286 c1_i32_156
  let v288 : BitVec 32 := Scalar.addi c0_i32_155 v287
  let c1_i32_158 : BitVec 32 := 1#32
  let arg12 : BitVec 32 := Scf.iv v288 c1_i32_158 k0_t12
  let v305 : Index := Scalar.indexCast arg12
  let c32_169 : Index := 32#32
  ![v305.toNat, 32]
def k0_off79 (v34 : BitVec 32) (k0_t12 : Fin (k0_t12_loop v34).trips) : Fin 2 → Nat :=
  let c0_i32_155 : BitVec 32 := 0#32
  let c512_i32_145 : BitVec 32 := 512#32
  let v274 : BitVec 32 := Scalar.subi v34 c512_i32_145
  let c128_i32_146 : BitVec 32 := 128#32
  let v275 : BitVec 32 := Scalar.minsi v274 c128_i32_146
  let v284 : BitVec 32 := Scalar.subi v275 c0_i32_155
  let c1_i32_156 : BitVec 32 := 1#32
  let v286 : BitVec 32 := Scalar.divsi v284 c1_i32_156
  let v287 : BitVec 32 := Scalar.muli v286 c1_i32_156
  let v288 : BitVec 32 := Scalar.addi c0_i32_155 v287
  let c1_i32_158 : BitVec 32 := 1#32
  let arg12 : BitVec 32 := Scf.iv v288 c1_i32_158 k0_t12
  let v308 : Index := Scalar.indexCast arg12
  let c48_170 : Index := 48#32
  ![v308.toNat, 48]
def k0_off80 (v34 : BitVec 32) (k0_t12 : Fin (k0_t12_loop v34).trips) : Fin 2 → Nat :=
  let c0_i32_155 : BitVec 32 := 0#32
  let c512_i32_145 : BitVec 32 := 512#32
  let v274 : BitVec 32 := Scalar.subi v34 c512_i32_145
  let c128_i32_146 : BitVec 32 := 128#32
  let v275 : BitVec 32 := Scalar.minsi v274 c128_i32_146
  let v284 : BitVec 32 := Scalar.subi v275 c0_i32_155
  let c1_i32_156 : BitVec 32 := 1#32
  let v286 : BitVec 32 := Scalar.divsi v284 c1_i32_156
  let v287 : BitVec 32 := Scalar.muli v286 c1_i32_156
  let v288 : BitVec 32 := Scalar.addi c0_i32_155 v287
  let c1_i32_158 : BitVec 32 := 1#32
  let arg12 : BitVec 32 := Scf.iv v288 c1_i32_158 k0_t12
  let v311 : Index := Scalar.indexCast arg12
  let c64_171 : Index := 64#32
  ![v311.toNat, 64]
def k0_off81 (v34 : BitVec 32) (k0_t12 : Fin (k0_t12_loop v34).trips) : Fin 2 → Nat :=
  let c0_i32_155 : BitVec 32 := 0#32
  let c512_i32_145 : BitVec 32 := 512#32
  let v274 : BitVec 32 := Scalar.subi v34 c512_i32_145
  let c128_i32_146 : BitVec 32 := 128#32
  let v275 : BitVec 32 := Scalar.minsi v274 c128_i32_146
  let v284 : BitVec 32 := Scalar.subi v275 c0_i32_155
  let c1_i32_156 : BitVec 32 := 1#32
  let v286 : BitVec 32 := Scalar.divsi v284 c1_i32_156
  let v287 : BitVec 32 := Scalar.muli v286 c1_i32_156
  let v288 : BitVec 32 := Scalar.addi c0_i32_155 v287
  let c1_i32_158 : BitVec 32 := 1#32
  let arg12 : BitVec 32 := Scf.iv v288 c1_i32_158 k0_t12
  let v314 : Index := Scalar.indexCast arg12
  let c80_172 : Index := 80#32
  ![v314.toNat, 80]
def k0_off82 (v34 : BitVec 32) (k0_t12 : Fin (k0_t12_loop v34).trips) : Fin 2 → Nat :=
  let c0_i32_155 : BitVec 32 := 0#32
  let c512_i32_145 : BitVec 32 := 512#32
  let v274 : BitVec 32 := Scalar.subi v34 c512_i32_145
  let c128_i32_146 : BitVec 32 := 128#32
  let v275 : BitVec 32 := Scalar.minsi v274 c128_i32_146
  let v284 : BitVec 32 := Scalar.subi v275 c0_i32_155
  let c1_i32_156 : BitVec 32 := 1#32
  let v286 : BitVec 32 := Scalar.divsi v284 c1_i32_156
  let v287 : BitVec 32 := Scalar.muli v286 c1_i32_156
  let v288 : BitVec 32 := Scalar.addi c0_i32_155 v287
  let c1_i32_158 : BitVec 32 := 1#32
  let arg12 : BitVec 32 := Scf.iv v288 c1_i32_158 k0_t12
  let v317 : Index := Scalar.indexCast arg12
  let c96_173 : Index := 96#32
  ![v317.toNat, 96]
def k0_off83 (v34 : BitVec 32) (k0_t12 : Fin (k0_t12_loop v34).trips) : Fin 2 → Nat :=
  let c0_i32_155 : BitVec 32 := 0#32
  let c512_i32_145 : BitVec 32 := 512#32
  let v274 : BitVec 32 := Scalar.subi v34 c512_i32_145
  let c128_i32_146 : BitVec 32 := 128#32
  let v275 : BitVec 32 := Scalar.minsi v274 c128_i32_146
  let v284 : BitVec 32 := Scalar.subi v275 c0_i32_155
  let c1_i32_156 : BitVec 32 := 1#32
  let v286 : BitVec 32 := Scalar.divsi v284 c1_i32_156
  let v287 : BitVec 32 := Scalar.muli v286 c1_i32_156
  let v288 : BitVec 32 := Scalar.addi c0_i32_155 v287
  let c1_i32_158 : BitVec 32 := 1#32
  let arg12 : BitVec 32 := Scf.iv v288 c1_i32_158 k0_t12
  let v320 : Index := Scalar.indexCast arg12
  let c112_174 : Index := 112#32
  ![v320.toNat, 112]
@[reducible] def k0_t13_loop (v34 : BitVec 32) : Scf.Loop 32 :=
  let c0_i32_155 : BitVec 32 := 0#32
  let c640_i32_145 : BitVec 32 := 640#32
  let v274 : BitVec 32 := Scalar.subi v34 c640_i32_145
  let c128_i32_146 : BitVec 32 := 128#32
  let v275 : BitVec 32 := Scalar.minsi v274 c128_i32_146
  let v284 : BitVec 32 := Scalar.subi v275 c0_i32_155
  let c1_i32_156 : BitVec 32 := 1#32
  let v286 : BitVec 32 := Scalar.divsi v284 c1_i32_156
  let v287 : BitVec 32 := Scalar.muli v286 c1_i32_156
  let v288 : BitVec 32 := Scalar.addi c0_i32_155 v287
  let c1_i32_157 : BitVec 32 := 1#32
  ⟨c0_i32_155, v288, c1_i32_157⟩
def k0_cond13 (v34 : BitVec 32) : BitVec 1 :=
  let c640_i32_45 : BitVec 32 := 640#32
  let v87 : BitVec 1 := Scalar.cmpi .sgt v34 c640_i32_45
  let v88 : BitVec 32 := Scalar.extui v87
  let c0_i32_46 : BitVec 32 := 0#32
  let v89 : BitVec 1 := Scalar.cmpi .ne v88 c0_i32_46
  v89

def k0_off84 (v34 : BitVec 32) (k0_t13 : Fin (k0_t13_loop v34).trips) : Fin 2 → Nat :=
  let c0_i32_155 : BitVec 32 := 0#32
  let c1_i32_157 : BitVec 32 := 1#32
  let arg12 : BitVec 32 := Scf.iv c0_i32_155 c1_i32_157 k0_t13
  let v299 : Index := Scalar.indexCast arg12
  let c0_167 : Index := 0#32
  ![v299.toNat, 0]
def k0_off85 (v34 : BitVec 32) (k0_t13 : Fin (k0_t13_loop v34).trips) : Fin 2 → Nat :=
  let c0_i32_155 : BitVec 32 := 0#32
  let c1_i32_157 : BitVec 32 := 1#32
  let arg12 : BitVec 32 := Scf.iv c0_i32_155 c1_i32_157 k0_t13
  let v302 : Index := Scalar.indexCast arg12
  let c16_168 : Index := 16#32
  ![v302.toNat, 16]
def k0_off86 (v34 : BitVec 32) (k0_t13 : Fin (k0_t13_loop v34).trips) : Fin 2 → Nat :=
  let c0_i32_155 : BitVec 32 := 0#32
  let c1_i32_157 : BitVec 32 := 1#32
  let arg12 : BitVec 32 := Scf.iv c0_i32_155 c1_i32_157 k0_t13
  let v305 : Index := Scalar.indexCast arg12
  let c32_169 : Index := 32#32
  ![v305.toNat, 32]
def k0_off87 (v34 : BitVec 32) (k0_t13 : Fin (k0_t13_loop v34).trips) : Fin 2 → Nat :=
  let c0_i32_155 : BitVec 32 := 0#32
  let c1_i32_157 : BitVec 32 := 1#32
  let arg12 : BitVec 32 := Scf.iv c0_i32_155 c1_i32_157 k0_t13
  let v308 : Index := Scalar.indexCast arg12
  let c48_170 : Index := 48#32
  ![v308.toNat, 48]
def k0_off88 (v34 : BitVec 32) (k0_t13 : Fin (k0_t13_loop v34).trips) : Fin 2 → Nat :=
  let c0_i32_155 : BitVec 32 := 0#32
  let c1_i32_157 : BitVec 32 := 1#32
  let arg12 : BitVec 32 := Scf.iv c0_i32_155 c1_i32_157 k0_t13
  let v311 : Index := Scalar.indexCast arg12
  let c64_171 : Index := 64#32
  ![v311.toNat, 64]
def k0_off89 (v34 : BitVec 32) (k0_t13 : Fin (k0_t13_loop v34).trips) : Fin 2 → Nat :=
  let c0_i32_155 : BitVec 32 := 0#32
  let c1_i32_157 : BitVec 32 := 1#32
  let arg12 : BitVec 32 := Scf.iv c0_i32_155 c1_i32_157 k0_t13
  let v314 : Index := Scalar.indexCast arg12
  let c80_172 : Index := 80#32
  ![v314.toNat, 80]
def k0_off90 (v34 : BitVec 32) (k0_t13 : Fin (k0_t13_loop v34).trips) : Fin 2 → Nat :=
  let c0_i32_155 : BitVec 32 := 0#32
  let c1_i32_157 : BitVec 32 := 1#32
  let arg12 : BitVec 32 := Scf.iv c0_i32_155 c1_i32_157 k0_t13
  let v317 : Index := Scalar.indexCast arg12
  let c96_173 : Index := 96#32
  ![v317.toNat, 96]
def k0_off91 (v34 : BitVec 32) (k0_t13 : Fin (k0_t13_loop v34).trips) : Fin 2 → Nat :=
  let c0_i32_155 : BitVec 32 := 0#32
  let c1_i32_157 : BitVec 32 := 1#32
  let arg12 : BitVec 32 := Scf.iv c0_i32_155 c1_i32_157 k0_t13
  let v320 : Index := Scalar.indexCast arg12
  let c112_174 : Index := 112#32
  ![v320.toNat, 112]
@[reducible] def k0_t14_loop (v34 : BitVec 32) : Scf.Loop 32 :=
  let c0_i32_155 : BitVec 32 := 0#32
  let c640_i32_145 : BitVec 32 := 640#32
  let v274 : BitVec 32 := Scalar.subi v34 c640_i32_145
  let c128_i32_146 : BitVec 32 := 128#32
  let v275 : BitVec 32 := Scalar.minsi v274 c128_i32_146
  let v284 : BitVec 32 := Scalar.subi v275 c0_i32_155
  let c1_i32_156 : BitVec 32 := 1#32
  let v286 : BitVec 32 := Scalar.divsi v284 c1_i32_156
  let v287 : BitVec 32 := Scalar.muli v286 c1_i32_156
  let v288 : BitVec 32 := Scalar.addi c0_i32_155 v287
  let v285 : BitVec 32 := Scalar.addi c0_i32_155 v284
  let c1_i32_158 : BitVec 32 := 1#32
  ⟨v288, v285, c1_i32_158⟩
def k0_off92 (v34 : BitVec 32) (k0_t14 : Fin (k0_t14_loop v34).trips) : Fin 2 → Nat :=
  let c0_i32_155 : BitVec 32 := 0#32
  let c640_i32_145 : BitVec 32 := 640#32
  let v274 : BitVec 32 := Scalar.subi v34 c640_i32_145
  let c128_i32_146 : BitVec 32 := 128#32
  let v275 : BitVec 32 := Scalar.minsi v274 c128_i32_146
  let v284 : BitVec 32 := Scalar.subi v275 c0_i32_155
  let c1_i32_156 : BitVec 32 := 1#32
  let v286 : BitVec 32 := Scalar.divsi v284 c1_i32_156
  let v287 : BitVec 32 := Scalar.muli v286 c1_i32_156
  let v288 : BitVec 32 := Scalar.addi c0_i32_155 v287
  let c1_i32_158 : BitVec 32 := 1#32
  let arg12 : BitVec 32 := Scf.iv v288 c1_i32_158 k0_t14
  let v299 : Index := Scalar.indexCast arg12
  let c0_167 : Index := 0#32
  ![v299.toNat, 0]
def k0_off93 (v34 : BitVec 32) (k0_t14 : Fin (k0_t14_loop v34).trips) : Fin 2 → Nat :=
  let c0_i32_155 : BitVec 32 := 0#32
  let c640_i32_145 : BitVec 32 := 640#32
  let v274 : BitVec 32 := Scalar.subi v34 c640_i32_145
  let c128_i32_146 : BitVec 32 := 128#32
  let v275 : BitVec 32 := Scalar.minsi v274 c128_i32_146
  let v284 : BitVec 32 := Scalar.subi v275 c0_i32_155
  let c1_i32_156 : BitVec 32 := 1#32
  let v286 : BitVec 32 := Scalar.divsi v284 c1_i32_156
  let v287 : BitVec 32 := Scalar.muli v286 c1_i32_156
  let v288 : BitVec 32 := Scalar.addi c0_i32_155 v287
  let c1_i32_158 : BitVec 32 := 1#32
  let arg12 : BitVec 32 := Scf.iv v288 c1_i32_158 k0_t14
  let v302 : Index := Scalar.indexCast arg12
  let c16_168 : Index := 16#32
  ![v302.toNat, 16]
def k0_off94 (v34 : BitVec 32) (k0_t14 : Fin (k0_t14_loop v34).trips) : Fin 2 → Nat :=
  let c0_i32_155 : BitVec 32 := 0#32
  let c640_i32_145 : BitVec 32 := 640#32
  let v274 : BitVec 32 := Scalar.subi v34 c640_i32_145
  let c128_i32_146 : BitVec 32 := 128#32
  let v275 : BitVec 32 := Scalar.minsi v274 c128_i32_146
  let v284 : BitVec 32 := Scalar.subi v275 c0_i32_155
  let c1_i32_156 : BitVec 32 := 1#32
  let v286 : BitVec 32 := Scalar.divsi v284 c1_i32_156
  let v287 : BitVec 32 := Scalar.muli v286 c1_i32_156
  let v288 : BitVec 32 := Scalar.addi c0_i32_155 v287
  let c1_i32_158 : BitVec 32 := 1#32
  let arg12 : BitVec 32 := Scf.iv v288 c1_i32_158 k0_t14
  let v305 : Index := Scalar.indexCast arg12
  let c32_169 : Index := 32#32
  ![v305.toNat, 32]
def k0_off95 (v34 : BitVec 32) (k0_t14 : Fin (k0_t14_loop v34).trips) : Fin 2 → Nat :=
  let c0_i32_155 : BitVec 32 := 0#32
  let c640_i32_145 : BitVec 32 := 640#32
  let v274 : BitVec 32 := Scalar.subi v34 c640_i32_145
  let c128_i32_146 : BitVec 32 := 128#32
  let v275 : BitVec 32 := Scalar.minsi v274 c128_i32_146
  let v284 : BitVec 32 := Scalar.subi v275 c0_i32_155
  let c1_i32_156 : BitVec 32 := 1#32
  let v286 : BitVec 32 := Scalar.divsi v284 c1_i32_156
  let v287 : BitVec 32 := Scalar.muli v286 c1_i32_156
  let v288 : BitVec 32 := Scalar.addi c0_i32_155 v287
  let c1_i32_158 : BitVec 32 := 1#32
  let arg12 : BitVec 32 := Scf.iv v288 c1_i32_158 k0_t14
  let v308 : Index := Scalar.indexCast arg12
  let c48_170 : Index := 48#32
  ![v308.toNat, 48]
def k0_off96 (v34 : BitVec 32) (k0_t14 : Fin (k0_t14_loop v34).trips) : Fin 2 → Nat :=
  let c0_i32_155 : BitVec 32 := 0#32
  let c640_i32_145 : BitVec 32 := 640#32
  let v274 : BitVec 32 := Scalar.subi v34 c640_i32_145
  let c128_i32_146 : BitVec 32 := 128#32
  let v275 : BitVec 32 := Scalar.minsi v274 c128_i32_146
  let v284 : BitVec 32 := Scalar.subi v275 c0_i32_155
  let c1_i32_156 : BitVec 32 := 1#32
  let v286 : BitVec 32 := Scalar.divsi v284 c1_i32_156
  let v287 : BitVec 32 := Scalar.muli v286 c1_i32_156
  let v288 : BitVec 32 := Scalar.addi c0_i32_155 v287
  let c1_i32_158 : BitVec 32 := 1#32
  let arg12 : BitVec 32 := Scf.iv v288 c1_i32_158 k0_t14
  let v311 : Index := Scalar.indexCast arg12
  let c64_171 : Index := 64#32
  ![v311.toNat, 64]
def k0_off97 (v34 : BitVec 32) (k0_t14 : Fin (k0_t14_loop v34).trips) : Fin 2 → Nat :=
  let c0_i32_155 : BitVec 32 := 0#32
  let c640_i32_145 : BitVec 32 := 640#32
  let v274 : BitVec 32 := Scalar.subi v34 c640_i32_145
  let c128_i32_146 : BitVec 32 := 128#32
  let v275 : BitVec 32 := Scalar.minsi v274 c128_i32_146
  let v284 : BitVec 32 := Scalar.subi v275 c0_i32_155
  let c1_i32_156 : BitVec 32 := 1#32
  let v286 : BitVec 32 := Scalar.divsi v284 c1_i32_156
  let v287 : BitVec 32 := Scalar.muli v286 c1_i32_156
  let v288 : BitVec 32 := Scalar.addi c0_i32_155 v287
  let c1_i32_158 : BitVec 32 := 1#32
  let arg12 : BitVec 32 := Scf.iv v288 c1_i32_158 k0_t14
  let v314 : Index := Scalar.indexCast arg12
  let c80_172 : Index := 80#32
  ![v314.toNat, 80]
def k0_off98 (v34 : BitVec 32) (k0_t14 : Fin (k0_t14_loop v34).trips) : Fin 2 → Nat :=
  let c0_i32_155 : BitVec 32 := 0#32
  let c640_i32_145 : BitVec 32 := 640#32
  let v274 : BitVec 32 := Scalar.subi v34 c640_i32_145
  let c128_i32_146 : BitVec 32 := 128#32
  let v275 : BitVec 32 := Scalar.minsi v274 c128_i32_146
  let v284 : BitVec 32 := Scalar.subi v275 c0_i32_155
  let c1_i32_156 : BitVec 32 := 1#32
  let v286 : BitVec 32 := Scalar.divsi v284 c1_i32_156
  let v287 : BitVec 32 := Scalar.muli v286 c1_i32_156
  let v288 : BitVec 32 := Scalar.addi c0_i32_155 v287
  let c1_i32_158 : BitVec 32 := 1#32
  let arg12 : BitVec 32 := Scf.iv v288 c1_i32_158 k0_t14
  let v317 : Index := Scalar.indexCast arg12
  let c96_173 : Index := 96#32
  ![v317.toNat, 96]
def k0_off99 (v34 : BitVec 32) (k0_t14 : Fin (k0_t14_loop v34).trips) : Fin 2 → Nat :=
  let c0_i32_155 : BitVec 32 := 0#32
  let c640_i32_145 : BitVec 32 := 640#32
  let v274 : BitVec 32 := Scalar.subi v34 c640_i32_145
  let c128_i32_146 : BitVec 32 := 128#32
  let v275 : BitVec 32 := Scalar.minsi v274 c128_i32_146
  let v284 : BitVec 32 := Scalar.subi v275 c0_i32_155
  let c1_i32_156 : BitVec 32 := 1#32
  let v286 : BitVec 32 := Scalar.divsi v284 c1_i32_156
  let v287 : BitVec 32 := Scalar.muli v286 c1_i32_156
  let v288 : BitVec 32 := Scalar.addi c0_i32_155 v287
  let c1_i32_158 : BitVec 32 := 1#32
  let arg12 : BitVec 32 := Scf.iv v288 c1_i32_158 k0_t14
  let v320 : Index := Scalar.indexCast arg12
  let c112_174 : Index := 112#32
  ![v320.toNat, 112]
@[reducible] def k0_t15_loop (v34 : BitVec 32) : Scf.Loop 32 :=
  let c0_i32_155 : BitVec 32 := 0#32
  let c768_i32_145 : BitVec 32 := 768#32
  let v274 : BitVec 32 := Scalar.subi v34 c768_i32_145
  let c128_i32_146 : BitVec 32 := 128#32
  let v275 : BitVec 32 := Scalar.minsi v274 c128_i32_146
  let v284 : BitVec 32 := Scalar.subi v275 c0_i32_155
  let c1_i32_156 : BitVec 32 := 1#32
  let v286 : BitVec 32 := Scalar.divsi v284 c1_i32_156
  let v287 : BitVec 32 := Scalar.muli v286 c1_i32_156
  let v288 : BitVec 32 := Scalar.addi c0_i32_155 v287
  let c1_i32_157 : BitVec 32 := 1#32
  ⟨c0_i32_155, v288, c1_i32_157⟩
def k0_cond15 (v34 : BitVec 32) : BitVec 1 :=
  let c768_i32_48 : BitVec 32 := 768#32
  let v93 : BitVec 1 := Scalar.cmpi .sgt v34 c768_i32_48
  let v94 : BitVec 32 := Scalar.extui v93
  let c0_i32_49 : BitVec 32 := 0#32
  let v95 : BitVec 1 := Scalar.cmpi .ne v94 c0_i32_49
  v95

def k0_off100 (v34 : BitVec 32) (k0_t15 : Fin (k0_t15_loop v34).trips) : Fin 2 → Nat :=
  let c0_i32_155 : BitVec 32 := 0#32
  let c1_i32_157 : BitVec 32 := 1#32
  let arg12 : BitVec 32 := Scf.iv c0_i32_155 c1_i32_157 k0_t15
  let v299 : Index := Scalar.indexCast arg12
  let c0_167 : Index := 0#32
  ![v299.toNat, 0]
def k0_off101 (v34 : BitVec 32) (k0_t15 : Fin (k0_t15_loop v34).trips) : Fin 2 → Nat :=
  let c0_i32_155 : BitVec 32 := 0#32
  let c1_i32_157 : BitVec 32 := 1#32
  let arg12 : BitVec 32 := Scf.iv c0_i32_155 c1_i32_157 k0_t15
  let v302 : Index := Scalar.indexCast arg12
  let c16_168 : Index := 16#32
  ![v302.toNat, 16]
def k0_off102 (v34 : BitVec 32) (k0_t15 : Fin (k0_t15_loop v34).trips) : Fin 2 → Nat :=
  let c0_i32_155 : BitVec 32 := 0#32
  let c1_i32_157 : BitVec 32 := 1#32
  let arg12 : BitVec 32 := Scf.iv c0_i32_155 c1_i32_157 k0_t15
  let v305 : Index := Scalar.indexCast arg12
  let c32_169 : Index := 32#32
  ![v305.toNat, 32]
def k0_off103 (v34 : BitVec 32) (k0_t15 : Fin (k0_t15_loop v34).trips) : Fin 2 → Nat :=
  let c0_i32_155 : BitVec 32 := 0#32
  let c1_i32_157 : BitVec 32 := 1#32
  let arg12 : BitVec 32 := Scf.iv c0_i32_155 c1_i32_157 k0_t15
  let v308 : Index := Scalar.indexCast arg12
  let c48_170 : Index := 48#32
  ![v308.toNat, 48]
def k0_off104 (v34 : BitVec 32) (k0_t15 : Fin (k0_t15_loop v34).trips) : Fin 2 → Nat :=
  let c0_i32_155 : BitVec 32 := 0#32
  let c1_i32_157 : BitVec 32 := 1#32
  let arg12 : BitVec 32 := Scf.iv c0_i32_155 c1_i32_157 k0_t15
  let v311 : Index := Scalar.indexCast arg12
  let c64_171 : Index := 64#32
  ![v311.toNat, 64]
def k0_off105 (v34 : BitVec 32) (k0_t15 : Fin (k0_t15_loop v34).trips) : Fin 2 → Nat :=
  let c0_i32_155 : BitVec 32 := 0#32
  let c1_i32_157 : BitVec 32 := 1#32
  let arg12 : BitVec 32 := Scf.iv c0_i32_155 c1_i32_157 k0_t15
  let v314 : Index := Scalar.indexCast arg12
  let c80_172 : Index := 80#32
  ![v314.toNat, 80]
def k0_off106 (v34 : BitVec 32) (k0_t15 : Fin (k0_t15_loop v34).trips) : Fin 2 → Nat :=
  let c0_i32_155 : BitVec 32 := 0#32
  let c1_i32_157 : BitVec 32 := 1#32
  let arg12 : BitVec 32 := Scf.iv c0_i32_155 c1_i32_157 k0_t15
  let v317 : Index := Scalar.indexCast arg12
  let c96_173 : Index := 96#32
  ![v317.toNat, 96]
def k0_off107 (v34 : BitVec 32) (k0_t15 : Fin (k0_t15_loop v34).trips) : Fin 2 → Nat :=
  let c0_i32_155 : BitVec 32 := 0#32
  let c1_i32_157 : BitVec 32 := 1#32
  let arg12 : BitVec 32 := Scf.iv c0_i32_155 c1_i32_157 k0_t15
  let v320 : Index := Scalar.indexCast arg12
  let c112_174 : Index := 112#32
  ![v320.toNat, 112]
@[reducible] def k0_t16_loop (v34 : BitVec 32) : Scf.Loop 32 :=
  let c0_i32_155 : BitVec 32 := 0#32
  let c768_i32_145 : BitVec 32 := 768#32
  let v274 : BitVec 32 := Scalar.subi v34 c768_i32_145
  let c128_i32_146 : BitVec 32 := 128#32
  let v275 : BitVec 32 := Scalar.minsi v274 c128_i32_146
  let v284 : BitVec 32 := Scalar.subi v275 c0_i32_155
  let c1_i32_156 : BitVec 32 := 1#32
  let v286 : BitVec 32 := Scalar.divsi v284 c1_i32_156
  let v287 : BitVec 32 := Scalar.muli v286 c1_i32_156
  let v288 : BitVec 32 := Scalar.addi c0_i32_155 v287
  let v285 : BitVec 32 := Scalar.addi c0_i32_155 v284
  let c1_i32_158 : BitVec 32 := 1#32
  ⟨v288, v285, c1_i32_158⟩
def k0_off108 (v34 : BitVec 32) (k0_t16 : Fin (k0_t16_loop v34).trips) : Fin 2 → Nat :=
  let c0_i32_155 : BitVec 32 := 0#32
  let c768_i32_145 : BitVec 32 := 768#32
  let v274 : BitVec 32 := Scalar.subi v34 c768_i32_145
  let c128_i32_146 : BitVec 32 := 128#32
  let v275 : BitVec 32 := Scalar.minsi v274 c128_i32_146
  let v284 : BitVec 32 := Scalar.subi v275 c0_i32_155
  let c1_i32_156 : BitVec 32 := 1#32
  let v286 : BitVec 32 := Scalar.divsi v284 c1_i32_156
  let v287 : BitVec 32 := Scalar.muli v286 c1_i32_156
  let v288 : BitVec 32 := Scalar.addi c0_i32_155 v287
  let c1_i32_158 : BitVec 32 := 1#32
  let arg12 : BitVec 32 := Scf.iv v288 c1_i32_158 k0_t16
  let v299 : Index := Scalar.indexCast arg12
  let c0_167 : Index := 0#32
  ![v299.toNat, 0]
def k0_off109 (v34 : BitVec 32) (k0_t16 : Fin (k0_t16_loop v34).trips) : Fin 2 → Nat :=
  let c0_i32_155 : BitVec 32 := 0#32
  let c768_i32_145 : BitVec 32 := 768#32
  let v274 : BitVec 32 := Scalar.subi v34 c768_i32_145
  let c128_i32_146 : BitVec 32 := 128#32
  let v275 : BitVec 32 := Scalar.minsi v274 c128_i32_146
  let v284 : BitVec 32 := Scalar.subi v275 c0_i32_155
  let c1_i32_156 : BitVec 32 := 1#32
  let v286 : BitVec 32 := Scalar.divsi v284 c1_i32_156
  let v287 : BitVec 32 := Scalar.muli v286 c1_i32_156
  let v288 : BitVec 32 := Scalar.addi c0_i32_155 v287
  let c1_i32_158 : BitVec 32 := 1#32
  let arg12 : BitVec 32 := Scf.iv v288 c1_i32_158 k0_t16
  let v302 : Index := Scalar.indexCast arg12
  let c16_168 : Index := 16#32
  ![v302.toNat, 16]
def k0_off110 (v34 : BitVec 32) (k0_t16 : Fin (k0_t16_loop v34).trips) : Fin 2 → Nat :=
  let c0_i32_155 : BitVec 32 := 0#32
  let c768_i32_145 : BitVec 32 := 768#32
  let v274 : BitVec 32 := Scalar.subi v34 c768_i32_145
  let c128_i32_146 : BitVec 32 := 128#32
  let v275 : BitVec 32 := Scalar.minsi v274 c128_i32_146
  let v284 : BitVec 32 := Scalar.subi v275 c0_i32_155
  let c1_i32_156 : BitVec 32 := 1#32
  let v286 : BitVec 32 := Scalar.divsi v284 c1_i32_156
  let v287 : BitVec 32 := Scalar.muli v286 c1_i32_156
  let v288 : BitVec 32 := Scalar.addi c0_i32_155 v287
  let c1_i32_158 : BitVec 32 := 1#32
  let arg12 : BitVec 32 := Scf.iv v288 c1_i32_158 k0_t16
  let v305 : Index := Scalar.indexCast arg12
  let c32_169 : Index := 32#32
  ![v305.toNat, 32]
def k0_off111 (v34 : BitVec 32) (k0_t16 : Fin (k0_t16_loop v34).trips) : Fin 2 → Nat :=
  let c0_i32_155 : BitVec 32 := 0#32
  let c768_i32_145 : BitVec 32 := 768#32
  let v274 : BitVec 32 := Scalar.subi v34 c768_i32_145
  let c128_i32_146 : BitVec 32 := 128#32
  let v275 : BitVec 32 := Scalar.minsi v274 c128_i32_146
  let v284 : BitVec 32 := Scalar.subi v275 c0_i32_155
  let c1_i32_156 : BitVec 32 := 1#32
  let v286 : BitVec 32 := Scalar.divsi v284 c1_i32_156
  let v287 : BitVec 32 := Scalar.muli v286 c1_i32_156
  let v288 : BitVec 32 := Scalar.addi c0_i32_155 v287
  let c1_i32_158 : BitVec 32 := 1#32
  let arg12 : BitVec 32 := Scf.iv v288 c1_i32_158 k0_t16
  let v308 : Index := Scalar.indexCast arg12
  let c48_170 : Index := 48#32
  ![v308.toNat, 48]
def k0_off112 (v34 : BitVec 32) (k0_t16 : Fin (k0_t16_loop v34).trips) : Fin 2 → Nat :=
  let c0_i32_155 : BitVec 32 := 0#32
  let c768_i32_145 : BitVec 32 := 768#32
  let v274 : BitVec 32 := Scalar.subi v34 c768_i32_145
  let c128_i32_146 : BitVec 32 := 128#32
  let v275 : BitVec 32 := Scalar.minsi v274 c128_i32_146
  let v284 : BitVec 32 := Scalar.subi v275 c0_i32_155
  let c1_i32_156 : BitVec 32 := 1#32
  let v286 : BitVec 32 := Scalar.divsi v284 c1_i32_156
  let v287 : BitVec 32 := Scalar.muli v286 c1_i32_156
  let v288 : BitVec 32 := Scalar.addi c0_i32_155 v287
  let c1_i32_158 : BitVec 32 := 1#32
  let arg12 : BitVec 32 := Scf.iv v288 c1_i32_158 k0_t16
  let v311 : Index := Scalar.indexCast arg12
  let c64_171 : Index := 64#32
  ![v311.toNat, 64]
def k0_off113 (v34 : BitVec 32) (k0_t16 : Fin (k0_t16_loop v34).trips) : Fin 2 → Nat :=
  let c0_i32_155 : BitVec 32 := 0#32
  let c768_i32_145 : BitVec 32 := 768#32
  let v274 : BitVec 32 := Scalar.subi v34 c768_i32_145
  let c128_i32_146 : BitVec 32 := 128#32
  let v275 : BitVec 32 := Scalar.minsi v274 c128_i32_146
  let v284 : BitVec 32 := Scalar.subi v275 c0_i32_155
  let c1_i32_156 : BitVec 32 := 1#32
  let v286 : BitVec 32 := Scalar.divsi v284 c1_i32_156
  let v287 : BitVec 32 := Scalar.muli v286 c1_i32_156
  let v288 : BitVec 32 := Scalar.addi c0_i32_155 v287
  let c1_i32_158 : BitVec 32 := 1#32
  let arg12 : BitVec 32 := Scf.iv v288 c1_i32_158 k0_t16
  let v314 : Index := Scalar.indexCast arg12
  let c80_172 : Index := 80#32
  ![v314.toNat, 80]
def k0_off114 (v34 : BitVec 32) (k0_t16 : Fin (k0_t16_loop v34).trips) : Fin 2 → Nat :=
  let c0_i32_155 : BitVec 32 := 0#32
  let c768_i32_145 : BitVec 32 := 768#32
  let v274 : BitVec 32 := Scalar.subi v34 c768_i32_145
  let c128_i32_146 : BitVec 32 := 128#32
  let v275 : BitVec 32 := Scalar.minsi v274 c128_i32_146
  let v284 : BitVec 32 := Scalar.subi v275 c0_i32_155
  let c1_i32_156 : BitVec 32 := 1#32
  let v286 : BitVec 32 := Scalar.divsi v284 c1_i32_156
  let v287 : BitVec 32 := Scalar.muli v286 c1_i32_156
  let v288 : BitVec 32 := Scalar.addi c0_i32_155 v287
  let c1_i32_158 : BitVec 32 := 1#32
  let arg12 : BitVec 32 := Scf.iv v288 c1_i32_158 k0_t16
  let v317 : Index := Scalar.indexCast arg12
  let c96_173 : Index := 96#32
  ![v317.toNat, 96]
def k0_off115 (v34 : BitVec 32) (k0_t16 : Fin (k0_t16_loop v34).trips) : Fin 2 → Nat :=
  let c0_i32_155 : BitVec 32 := 0#32
  let c768_i32_145 : BitVec 32 := 768#32
  let v274 : BitVec 32 := Scalar.subi v34 c768_i32_145
  let c128_i32_146 : BitVec 32 := 128#32
  let v275 : BitVec 32 := Scalar.minsi v274 c128_i32_146
  let v284 : BitVec 32 := Scalar.subi v275 c0_i32_155
  let c1_i32_156 : BitVec 32 := 1#32
  let v286 : BitVec 32 := Scalar.divsi v284 c1_i32_156
  let v287 : BitVec 32 := Scalar.muli v286 c1_i32_156
  let v288 : BitVec 32 := Scalar.addi c0_i32_155 v287
  let c1_i32_158 : BitVec 32 := 1#32
  let arg12 : BitVec 32 := Scf.iv v288 c1_i32_158 k0_t16
  let v320 : Index := Scalar.indexCast arg12
  let c112_174 : Index := 112#32
  ![v320.toNat, 112]
@[reducible] def k0_t17_loop (v34 : BitVec 32) : Scf.Loop 32 :=
  let c0_i32_155 : BitVec 32 := 0#32
  let c896_i32_145 : BitVec 32 := 896#32
  let v274 : BitVec 32 := Scalar.subi v34 c896_i32_145
  let c128_i32_146 : BitVec 32 := 128#32
  let v275 : BitVec 32 := Scalar.minsi v274 c128_i32_146
  let v284 : BitVec 32 := Scalar.subi v275 c0_i32_155
  let c1_i32_156 : BitVec 32 := 1#32
  let v286 : BitVec 32 := Scalar.divsi v284 c1_i32_156
  let v287 : BitVec 32 := Scalar.muli v286 c1_i32_156
  let v288 : BitVec 32 := Scalar.addi c0_i32_155 v287
  let c1_i32_157 : BitVec 32 := 1#32
  ⟨c0_i32_155, v288, c1_i32_157⟩
def k0_cond17 (v34 : BitVec 32) : BitVec 1 :=
  let c896_i32_51 : BitVec 32 := 896#32
  let v99 : BitVec 1 := Scalar.cmpi .sgt v34 c896_i32_51
  let v100 : BitVec 32 := Scalar.extui v99
  let c0_i32_52 : BitVec 32 := 0#32
  let v101 : BitVec 1 := Scalar.cmpi .ne v100 c0_i32_52
  v101

def k0_off116 (v34 : BitVec 32) (k0_t17 : Fin (k0_t17_loop v34).trips) : Fin 2 → Nat :=
  let c0_i32_155 : BitVec 32 := 0#32
  let c1_i32_157 : BitVec 32 := 1#32
  let arg12 : BitVec 32 := Scf.iv c0_i32_155 c1_i32_157 k0_t17
  let v299 : Index := Scalar.indexCast arg12
  let c0_167 : Index := 0#32
  ![v299.toNat, 0]
def k0_off117 (v34 : BitVec 32) (k0_t17 : Fin (k0_t17_loop v34).trips) : Fin 2 → Nat :=
  let c0_i32_155 : BitVec 32 := 0#32
  let c1_i32_157 : BitVec 32 := 1#32
  let arg12 : BitVec 32 := Scf.iv c0_i32_155 c1_i32_157 k0_t17
  let v302 : Index := Scalar.indexCast arg12
  let c16_168 : Index := 16#32
  ![v302.toNat, 16]
def k0_off118 (v34 : BitVec 32) (k0_t17 : Fin (k0_t17_loop v34).trips) : Fin 2 → Nat :=
  let c0_i32_155 : BitVec 32 := 0#32
  let c1_i32_157 : BitVec 32 := 1#32
  let arg12 : BitVec 32 := Scf.iv c0_i32_155 c1_i32_157 k0_t17
  let v305 : Index := Scalar.indexCast arg12
  let c32_169 : Index := 32#32
  ![v305.toNat, 32]
def k0_off119 (v34 : BitVec 32) (k0_t17 : Fin (k0_t17_loop v34).trips) : Fin 2 → Nat :=
  let c0_i32_155 : BitVec 32 := 0#32
  let c1_i32_157 : BitVec 32 := 1#32
  let arg12 : BitVec 32 := Scf.iv c0_i32_155 c1_i32_157 k0_t17
  let v308 : Index := Scalar.indexCast arg12
  let c48_170 : Index := 48#32
  ![v308.toNat, 48]
def k0_off120 (v34 : BitVec 32) (k0_t17 : Fin (k0_t17_loop v34).trips) : Fin 2 → Nat :=
  let c0_i32_155 : BitVec 32 := 0#32
  let c1_i32_157 : BitVec 32 := 1#32
  let arg12 : BitVec 32 := Scf.iv c0_i32_155 c1_i32_157 k0_t17
  let v311 : Index := Scalar.indexCast arg12
  let c64_171 : Index := 64#32
  ![v311.toNat, 64]
def k0_off121 (v34 : BitVec 32) (k0_t17 : Fin (k0_t17_loop v34).trips) : Fin 2 → Nat :=
  let c0_i32_155 : BitVec 32 := 0#32
  let c1_i32_157 : BitVec 32 := 1#32
  let arg12 : BitVec 32 := Scf.iv c0_i32_155 c1_i32_157 k0_t17
  let v314 : Index := Scalar.indexCast arg12
  let c80_172 : Index := 80#32
  ![v314.toNat, 80]
def k0_off122 (v34 : BitVec 32) (k0_t17 : Fin (k0_t17_loop v34).trips) : Fin 2 → Nat :=
  let c0_i32_155 : BitVec 32 := 0#32
  let c1_i32_157 : BitVec 32 := 1#32
  let arg12 : BitVec 32 := Scf.iv c0_i32_155 c1_i32_157 k0_t17
  let v317 : Index := Scalar.indexCast arg12
  let c96_173 : Index := 96#32
  ![v317.toNat, 96]
def k0_off123 (v34 : BitVec 32) (k0_t17 : Fin (k0_t17_loop v34).trips) : Fin 2 → Nat :=
  let c0_i32_155 : BitVec 32 := 0#32
  let c1_i32_157 : BitVec 32 := 1#32
  let arg12 : BitVec 32 := Scf.iv c0_i32_155 c1_i32_157 k0_t17
  let v320 : Index := Scalar.indexCast arg12
  let c112_174 : Index := 112#32
  ![v320.toNat, 112]
@[reducible] def k0_t18_loop (v34 : BitVec 32) : Scf.Loop 32 :=
  let c0_i32_155 : BitVec 32 := 0#32
  let c896_i32_145 : BitVec 32 := 896#32
  let v274 : BitVec 32 := Scalar.subi v34 c896_i32_145
  let c128_i32_146 : BitVec 32 := 128#32
  let v275 : BitVec 32 := Scalar.minsi v274 c128_i32_146
  let v284 : BitVec 32 := Scalar.subi v275 c0_i32_155
  let c1_i32_156 : BitVec 32 := 1#32
  let v286 : BitVec 32 := Scalar.divsi v284 c1_i32_156
  let v287 : BitVec 32 := Scalar.muli v286 c1_i32_156
  let v288 : BitVec 32 := Scalar.addi c0_i32_155 v287
  let v285 : BitVec 32 := Scalar.addi c0_i32_155 v284
  let c1_i32_158 : BitVec 32 := 1#32
  ⟨v288, v285, c1_i32_158⟩
def k0_off124 (v34 : BitVec 32) (k0_t18 : Fin (k0_t18_loop v34).trips) : Fin 2 → Nat :=
  let c0_i32_155 : BitVec 32 := 0#32
  let c896_i32_145 : BitVec 32 := 896#32
  let v274 : BitVec 32 := Scalar.subi v34 c896_i32_145
  let c128_i32_146 : BitVec 32 := 128#32
  let v275 : BitVec 32 := Scalar.minsi v274 c128_i32_146
  let v284 : BitVec 32 := Scalar.subi v275 c0_i32_155
  let c1_i32_156 : BitVec 32 := 1#32
  let v286 : BitVec 32 := Scalar.divsi v284 c1_i32_156
  let v287 : BitVec 32 := Scalar.muli v286 c1_i32_156
  let v288 : BitVec 32 := Scalar.addi c0_i32_155 v287
  let c1_i32_158 : BitVec 32 := 1#32
  let arg12 : BitVec 32 := Scf.iv v288 c1_i32_158 k0_t18
  let v299 : Index := Scalar.indexCast arg12
  let c0_167 : Index := 0#32
  ![v299.toNat, 0]
def k0_off125 (v34 : BitVec 32) (k0_t18 : Fin (k0_t18_loop v34).trips) : Fin 2 → Nat :=
  let c0_i32_155 : BitVec 32 := 0#32
  let c896_i32_145 : BitVec 32 := 896#32
  let v274 : BitVec 32 := Scalar.subi v34 c896_i32_145
  let c128_i32_146 : BitVec 32 := 128#32
  let v275 : BitVec 32 := Scalar.minsi v274 c128_i32_146
  let v284 : BitVec 32 := Scalar.subi v275 c0_i32_155
  let c1_i32_156 : BitVec 32 := 1#32
  let v286 : BitVec 32 := Scalar.divsi v284 c1_i32_156
  let v287 : BitVec 32 := Scalar.muli v286 c1_i32_156
  let v288 : BitVec 32 := Scalar.addi c0_i32_155 v287
  let c1_i32_158 : BitVec 32 := 1#32
  let arg12 : BitVec 32 := Scf.iv v288 c1_i32_158 k0_t18
  let v302 : Index := Scalar.indexCast arg12
  let c16_168 : Index := 16#32
  ![v302.toNat, 16]
def k0_off126 (v34 : BitVec 32) (k0_t18 : Fin (k0_t18_loop v34).trips) : Fin 2 → Nat :=
  let c0_i32_155 : BitVec 32 := 0#32
  let c896_i32_145 : BitVec 32 := 896#32
  let v274 : BitVec 32 := Scalar.subi v34 c896_i32_145
  let c128_i32_146 : BitVec 32 := 128#32
  let v275 : BitVec 32 := Scalar.minsi v274 c128_i32_146
  let v284 : BitVec 32 := Scalar.subi v275 c0_i32_155
  let c1_i32_156 : BitVec 32 := 1#32
  let v286 : BitVec 32 := Scalar.divsi v284 c1_i32_156
  let v287 : BitVec 32 := Scalar.muli v286 c1_i32_156
  let v288 : BitVec 32 := Scalar.addi c0_i32_155 v287
  let c1_i32_158 : BitVec 32 := 1#32
  let arg12 : BitVec 32 := Scf.iv v288 c1_i32_158 k0_t18
  let v305 : Index := Scalar.indexCast arg12
  let c32_169 : Index := 32#32
  ![v305.toNat, 32]
def k0_off127 (v34 : BitVec 32) (k0_t18 : Fin (k0_t18_loop v34).trips) : Fin 2 → Nat :=
  let c0_i32_155 : BitVec 32 := 0#32
  let c896_i32_145 : BitVec 32 := 896#32
  let v274 : BitVec 32 := Scalar.subi v34 c896_i32_145
  let c128_i32_146 : BitVec 32 := 128#32
  let v275 : BitVec 32 := Scalar.minsi v274 c128_i32_146
  let v284 : BitVec 32 := Scalar.subi v275 c0_i32_155
  let c1_i32_156 : BitVec 32 := 1#32
  let v286 : BitVec 32 := Scalar.divsi v284 c1_i32_156
  let v287 : BitVec 32 := Scalar.muli v286 c1_i32_156
  let v288 : BitVec 32 := Scalar.addi c0_i32_155 v287
  let c1_i32_158 : BitVec 32 := 1#32
  let arg12 : BitVec 32 := Scf.iv v288 c1_i32_158 k0_t18
  let v308 : Index := Scalar.indexCast arg12
  let c48_170 : Index := 48#32
  ![v308.toNat, 48]
def k0_off128 (v34 : BitVec 32) (k0_t18 : Fin (k0_t18_loop v34).trips) : Fin 2 → Nat :=
  let c0_i32_155 : BitVec 32 := 0#32
  let c896_i32_145 : BitVec 32 := 896#32
  let v274 : BitVec 32 := Scalar.subi v34 c896_i32_145
  let c128_i32_146 : BitVec 32 := 128#32
  let v275 : BitVec 32 := Scalar.minsi v274 c128_i32_146
  let v284 : BitVec 32 := Scalar.subi v275 c0_i32_155
  let c1_i32_156 : BitVec 32 := 1#32
  let v286 : BitVec 32 := Scalar.divsi v284 c1_i32_156
  let v287 : BitVec 32 := Scalar.muli v286 c1_i32_156
  let v288 : BitVec 32 := Scalar.addi c0_i32_155 v287
  let c1_i32_158 : BitVec 32 := 1#32
  let arg12 : BitVec 32 := Scf.iv v288 c1_i32_158 k0_t18
  let v311 : Index := Scalar.indexCast arg12
  let c64_171 : Index := 64#32
  ![v311.toNat, 64]
def k0_off129 (v34 : BitVec 32) (k0_t18 : Fin (k0_t18_loop v34).trips) : Fin 2 → Nat :=
  let c0_i32_155 : BitVec 32 := 0#32
  let c896_i32_145 : BitVec 32 := 896#32
  let v274 : BitVec 32 := Scalar.subi v34 c896_i32_145
  let c128_i32_146 : BitVec 32 := 128#32
  let v275 : BitVec 32 := Scalar.minsi v274 c128_i32_146
  let v284 : BitVec 32 := Scalar.subi v275 c0_i32_155
  let c1_i32_156 : BitVec 32 := 1#32
  let v286 : BitVec 32 := Scalar.divsi v284 c1_i32_156
  let v287 : BitVec 32 := Scalar.muli v286 c1_i32_156
  let v288 : BitVec 32 := Scalar.addi c0_i32_155 v287
  let c1_i32_158 : BitVec 32 := 1#32
  let arg12 : BitVec 32 := Scf.iv v288 c1_i32_158 k0_t18
  let v314 : Index := Scalar.indexCast arg12
  let c80_172 : Index := 80#32
  ![v314.toNat, 80]
def k0_off130 (v34 : BitVec 32) (k0_t18 : Fin (k0_t18_loop v34).trips) : Fin 2 → Nat :=
  let c0_i32_155 : BitVec 32 := 0#32
  let c896_i32_145 : BitVec 32 := 896#32
  let v274 : BitVec 32 := Scalar.subi v34 c896_i32_145
  let c128_i32_146 : BitVec 32 := 128#32
  let v275 : BitVec 32 := Scalar.minsi v274 c128_i32_146
  let v284 : BitVec 32 := Scalar.subi v275 c0_i32_155
  let c1_i32_156 : BitVec 32 := 1#32
  let v286 : BitVec 32 := Scalar.divsi v284 c1_i32_156
  let v287 : BitVec 32 := Scalar.muli v286 c1_i32_156
  let v288 : BitVec 32 := Scalar.addi c0_i32_155 v287
  let c1_i32_158 : BitVec 32 := 1#32
  let arg12 : BitVec 32 := Scf.iv v288 c1_i32_158 k0_t18
  let v317 : Index := Scalar.indexCast arg12
  let c96_173 : Index := 96#32
  ![v317.toNat, 96]
def k0_off131 (v34 : BitVec 32) (k0_t18 : Fin (k0_t18_loop v34).trips) : Fin 2 → Nat :=
  let c0_i32_155 : BitVec 32 := 0#32
  let c896_i32_145 : BitVec 32 := 896#32
  let v274 : BitVec 32 := Scalar.subi v34 c896_i32_145
  let c128_i32_146 : BitVec 32 := 128#32
  let v275 : BitVec 32 := Scalar.minsi v274 c128_i32_146
  let v284 : BitVec 32 := Scalar.subi v275 c0_i32_155
  let c1_i32_156 : BitVec 32 := 1#32
  let v286 : BitVec 32 := Scalar.divsi v284 c1_i32_156
  let v287 : BitVec 32 := Scalar.muli v286 c1_i32_156
  let v288 : BitVec 32 := Scalar.addi c0_i32_155 v287
  let c1_i32_158 : BitVec 32 := 1#32
  let arg12 : BitVec 32 := Scf.iv v288 c1_i32_158 k0_t18
  let v320 : Index := Scalar.indexCast arg12
  let c112_174 : Index := 112#32
  ![v320.toNat, 112]
@[reducible] def k0_t19_loop (v34 : BitVec 32) : Scf.Loop 32 :=
  let c0_i32_155 : BitVec 32 := 0#32
  let c1024_i32_145 : BitVec 32 := 1024#32
  let v274 : BitVec 32 := Scalar.subi v34 c1024_i32_145
  let c128_i32_146 : BitVec 32 := 128#32
  let v275 : BitVec 32 := Scalar.minsi v274 c128_i32_146
  let v284 : BitVec 32 := Scalar.subi v275 c0_i32_155
  let c1_i32_156 : BitVec 32 := 1#32
  let v286 : BitVec 32 := Scalar.divsi v284 c1_i32_156
  let v287 : BitVec 32 := Scalar.muli v286 c1_i32_156
  let v288 : BitVec 32 := Scalar.addi c0_i32_155 v287
  let c1_i32_157 : BitVec 32 := 1#32
  ⟨c0_i32_155, v288, c1_i32_157⟩
def k0_cond19 (v34 : BitVec 32) : BitVec 1 :=
  let c1024_i32_54 : BitVec 32 := 1024#32
  let v105 : BitVec 1 := Scalar.cmpi .sgt v34 c1024_i32_54
  let v106 : BitVec 32 := Scalar.extui v105
  let c0_i32_55 : BitVec 32 := 0#32
  let v107 : BitVec 1 := Scalar.cmpi .ne v106 c0_i32_55
  v107

def k0_off132 (v34 : BitVec 32) (k0_t19 : Fin (k0_t19_loop v34).trips) : Fin 2 → Nat :=
  let c0_i32_155 : BitVec 32 := 0#32
  let c1_i32_157 : BitVec 32 := 1#32
  let arg12 : BitVec 32 := Scf.iv c0_i32_155 c1_i32_157 k0_t19
  let v299 : Index := Scalar.indexCast arg12
  let c0_167 : Index := 0#32
  ![v299.toNat, 0]
def k0_off133 (v34 : BitVec 32) (k0_t19 : Fin (k0_t19_loop v34).trips) : Fin 2 → Nat :=
  let c0_i32_155 : BitVec 32 := 0#32
  let c1_i32_157 : BitVec 32 := 1#32
  let arg12 : BitVec 32 := Scf.iv c0_i32_155 c1_i32_157 k0_t19
  let v302 : Index := Scalar.indexCast arg12
  let c16_168 : Index := 16#32
  ![v302.toNat, 16]
def k0_off134 (v34 : BitVec 32) (k0_t19 : Fin (k0_t19_loop v34).trips) : Fin 2 → Nat :=
  let c0_i32_155 : BitVec 32 := 0#32
  let c1_i32_157 : BitVec 32 := 1#32
  let arg12 : BitVec 32 := Scf.iv c0_i32_155 c1_i32_157 k0_t19
  let v305 : Index := Scalar.indexCast arg12
  let c32_169 : Index := 32#32
  ![v305.toNat, 32]
def k0_off135 (v34 : BitVec 32) (k0_t19 : Fin (k0_t19_loop v34).trips) : Fin 2 → Nat :=
  let c0_i32_155 : BitVec 32 := 0#32
  let c1_i32_157 : BitVec 32 := 1#32
  let arg12 : BitVec 32 := Scf.iv c0_i32_155 c1_i32_157 k0_t19
  let v308 : Index := Scalar.indexCast arg12
  let c48_170 : Index := 48#32
  ![v308.toNat, 48]
def k0_off136 (v34 : BitVec 32) (k0_t19 : Fin (k0_t19_loop v34).trips) : Fin 2 → Nat :=
  let c0_i32_155 : BitVec 32 := 0#32
  let c1_i32_157 : BitVec 32 := 1#32
  let arg12 : BitVec 32 := Scf.iv c0_i32_155 c1_i32_157 k0_t19
  let v311 : Index := Scalar.indexCast arg12
  let c64_171 : Index := 64#32
  ![v311.toNat, 64]
def k0_off137 (v34 : BitVec 32) (k0_t19 : Fin (k0_t19_loop v34).trips) : Fin 2 → Nat :=
  let c0_i32_155 : BitVec 32 := 0#32
  let c1_i32_157 : BitVec 32 := 1#32
  let arg12 : BitVec 32 := Scf.iv c0_i32_155 c1_i32_157 k0_t19
  let v314 : Index := Scalar.indexCast arg12
  let c80_172 : Index := 80#32
  ![v314.toNat, 80]
def k0_off138 (v34 : BitVec 32) (k0_t19 : Fin (k0_t19_loop v34).trips) : Fin 2 → Nat :=
  let c0_i32_155 : BitVec 32 := 0#32
  let c1_i32_157 : BitVec 32 := 1#32
  let arg12 : BitVec 32 := Scf.iv c0_i32_155 c1_i32_157 k0_t19
  let v317 : Index := Scalar.indexCast arg12
  let c96_173 : Index := 96#32
  ![v317.toNat, 96]
def k0_off139 (v34 : BitVec 32) (k0_t19 : Fin (k0_t19_loop v34).trips) : Fin 2 → Nat :=
  let c0_i32_155 : BitVec 32 := 0#32
  let c1_i32_157 : BitVec 32 := 1#32
  let arg12 : BitVec 32 := Scf.iv c0_i32_155 c1_i32_157 k0_t19
  let v320 : Index := Scalar.indexCast arg12
  let c112_174 : Index := 112#32
  ![v320.toNat, 112]
@[reducible] def k0_t20_loop (v34 : BitVec 32) : Scf.Loop 32 :=
  let c0_i32_155 : BitVec 32 := 0#32
  let c1024_i32_145 : BitVec 32 := 1024#32
  let v274 : BitVec 32 := Scalar.subi v34 c1024_i32_145
  let c128_i32_146 : BitVec 32 := 128#32
  let v275 : BitVec 32 := Scalar.minsi v274 c128_i32_146
  let v284 : BitVec 32 := Scalar.subi v275 c0_i32_155
  let c1_i32_156 : BitVec 32 := 1#32
  let v286 : BitVec 32 := Scalar.divsi v284 c1_i32_156
  let v287 : BitVec 32 := Scalar.muli v286 c1_i32_156
  let v288 : BitVec 32 := Scalar.addi c0_i32_155 v287
  let v285 : BitVec 32 := Scalar.addi c0_i32_155 v284
  let c1_i32_158 : BitVec 32 := 1#32
  ⟨v288, v285, c1_i32_158⟩
def k0_off140 (v34 : BitVec 32) (k0_t20 : Fin (k0_t20_loop v34).trips) : Fin 2 → Nat :=
  let c0_i32_155 : BitVec 32 := 0#32
  let c1024_i32_145 : BitVec 32 := 1024#32
  let v274 : BitVec 32 := Scalar.subi v34 c1024_i32_145
  let c128_i32_146 : BitVec 32 := 128#32
  let v275 : BitVec 32 := Scalar.minsi v274 c128_i32_146
  let v284 : BitVec 32 := Scalar.subi v275 c0_i32_155
  let c1_i32_156 : BitVec 32 := 1#32
  let v286 : BitVec 32 := Scalar.divsi v284 c1_i32_156
  let v287 : BitVec 32 := Scalar.muli v286 c1_i32_156
  let v288 : BitVec 32 := Scalar.addi c0_i32_155 v287
  let c1_i32_158 : BitVec 32 := 1#32
  let arg12 : BitVec 32 := Scf.iv v288 c1_i32_158 k0_t20
  let v299 : Index := Scalar.indexCast arg12
  let c0_167 : Index := 0#32
  ![v299.toNat, 0]
def k0_off141 (v34 : BitVec 32) (k0_t20 : Fin (k0_t20_loop v34).trips) : Fin 2 → Nat :=
  let c0_i32_155 : BitVec 32 := 0#32
  let c1024_i32_145 : BitVec 32 := 1024#32
  let v274 : BitVec 32 := Scalar.subi v34 c1024_i32_145
  let c128_i32_146 : BitVec 32 := 128#32
  let v275 : BitVec 32 := Scalar.minsi v274 c128_i32_146
  let v284 : BitVec 32 := Scalar.subi v275 c0_i32_155
  let c1_i32_156 : BitVec 32 := 1#32
  let v286 : BitVec 32 := Scalar.divsi v284 c1_i32_156
  let v287 : BitVec 32 := Scalar.muli v286 c1_i32_156
  let v288 : BitVec 32 := Scalar.addi c0_i32_155 v287
  let c1_i32_158 : BitVec 32 := 1#32
  let arg12 : BitVec 32 := Scf.iv v288 c1_i32_158 k0_t20
  let v302 : Index := Scalar.indexCast arg12
  let c16_168 : Index := 16#32
  ![v302.toNat, 16]
def k0_off142 (v34 : BitVec 32) (k0_t20 : Fin (k0_t20_loop v34).trips) : Fin 2 → Nat :=
  let c0_i32_155 : BitVec 32 := 0#32
  let c1024_i32_145 : BitVec 32 := 1024#32
  let v274 : BitVec 32 := Scalar.subi v34 c1024_i32_145
  let c128_i32_146 : BitVec 32 := 128#32
  let v275 : BitVec 32 := Scalar.minsi v274 c128_i32_146
  let v284 : BitVec 32 := Scalar.subi v275 c0_i32_155
  let c1_i32_156 : BitVec 32 := 1#32
  let v286 : BitVec 32 := Scalar.divsi v284 c1_i32_156
  let v287 : BitVec 32 := Scalar.muli v286 c1_i32_156
  let v288 : BitVec 32 := Scalar.addi c0_i32_155 v287
  let c1_i32_158 : BitVec 32 := 1#32
  let arg12 : BitVec 32 := Scf.iv v288 c1_i32_158 k0_t20
  let v305 : Index := Scalar.indexCast arg12
  let c32_169 : Index := 32#32
  ![v305.toNat, 32]
def k0_off143 (v34 : BitVec 32) (k0_t20 : Fin (k0_t20_loop v34).trips) : Fin 2 → Nat :=
  let c0_i32_155 : BitVec 32 := 0#32
  let c1024_i32_145 : BitVec 32 := 1024#32
  let v274 : BitVec 32 := Scalar.subi v34 c1024_i32_145
  let c128_i32_146 : BitVec 32 := 128#32
  let v275 : BitVec 32 := Scalar.minsi v274 c128_i32_146
  let v284 : BitVec 32 := Scalar.subi v275 c0_i32_155
  let c1_i32_156 : BitVec 32 := 1#32
  let v286 : BitVec 32 := Scalar.divsi v284 c1_i32_156
  let v287 : BitVec 32 := Scalar.muli v286 c1_i32_156
  let v288 : BitVec 32 := Scalar.addi c0_i32_155 v287
  let c1_i32_158 : BitVec 32 := 1#32
  let arg12 : BitVec 32 := Scf.iv v288 c1_i32_158 k0_t20
  let v308 : Index := Scalar.indexCast arg12
  let c48_170 : Index := 48#32
  ![v308.toNat, 48]
def k0_off144 (v34 : BitVec 32) (k0_t20 : Fin (k0_t20_loop v34).trips) : Fin 2 → Nat :=
  let c0_i32_155 : BitVec 32 := 0#32
  let c1024_i32_145 : BitVec 32 := 1024#32
  let v274 : BitVec 32 := Scalar.subi v34 c1024_i32_145
  let c128_i32_146 : BitVec 32 := 128#32
  let v275 : BitVec 32 := Scalar.minsi v274 c128_i32_146
  let v284 : BitVec 32 := Scalar.subi v275 c0_i32_155
  let c1_i32_156 : BitVec 32 := 1#32
  let v286 : BitVec 32 := Scalar.divsi v284 c1_i32_156
  let v287 : BitVec 32 := Scalar.muli v286 c1_i32_156
  let v288 : BitVec 32 := Scalar.addi c0_i32_155 v287
  let c1_i32_158 : BitVec 32 := 1#32
  let arg12 : BitVec 32 := Scf.iv v288 c1_i32_158 k0_t20
  let v311 : Index := Scalar.indexCast arg12
  let c64_171 : Index := 64#32
  ![v311.toNat, 64]
def k0_off145 (v34 : BitVec 32) (k0_t20 : Fin (k0_t20_loop v34).trips) : Fin 2 → Nat :=
  let c0_i32_155 : BitVec 32 := 0#32
  let c1024_i32_145 : BitVec 32 := 1024#32
  let v274 : BitVec 32 := Scalar.subi v34 c1024_i32_145
  let c128_i32_146 : BitVec 32 := 128#32
  let v275 : BitVec 32 := Scalar.minsi v274 c128_i32_146
  let v284 : BitVec 32 := Scalar.subi v275 c0_i32_155
  let c1_i32_156 : BitVec 32 := 1#32
  let v286 : BitVec 32 := Scalar.divsi v284 c1_i32_156
  let v287 : BitVec 32 := Scalar.muli v286 c1_i32_156
  let v288 : BitVec 32 := Scalar.addi c0_i32_155 v287
  let c1_i32_158 : BitVec 32 := 1#32
  let arg12 : BitVec 32 := Scf.iv v288 c1_i32_158 k0_t20
  let v314 : Index := Scalar.indexCast arg12
  let c80_172 : Index := 80#32
  ![v314.toNat, 80]
def k0_off146 (v34 : BitVec 32) (k0_t20 : Fin (k0_t20_loop v34).trips) : Fin 2 → Nat :=
  let c0_i32_155 : BitVec 32 := 0#32
  let c1024_i32_145 : BitVec 32 := 1024#32
  let v274 : BitVec 32 := Scalar.subi v34 c1024_i32_145
  let c128_i32_146 : BitVec 32 := 128#32
  let v275 : BitVec 32 := Scalar.minsi v274 c128_i32_146
  let v284 : BitVec 32 := Scalar.subi v275 c0_i32_155
  let c1_i32_156 : BitVec 32 := 1#32
  let v286 : BitVec 32 := Scalar.divsi v284 c1_i32_156
  let v287 : BitVec 32 := Scalar.muli v286 c1_i32_156
  let v288 : BitVec 32 := Scalar.addi c0_i32_155 v287
  let c1_i32_158 : BitVec 32 := 1#32
  let arg12 : BitVec 32 := Scf.iv v288 c1_i32_158 k0_t20
  let v317 : Index := Scalar.indexCast arg12
  let c96_173 : Index := 96#32
  ![v317.toNat, 96]
def k0_off147 (v34 : BitVec 32) (k0_t20 : Fin (k0_t20_loop v34).trips) : Fin 2 → Nat :=
  let c0_i32_155 : BitVec 32 := 0#32
  let c1024_i32_145 : BitVec 32 := 1024#32
  let v274 : BitVec 32 := Scalar.subi v34 c1024_i32_145
  let c128_i32_146 : BitVec 32 := 128#32
  let v275 : BitVec 32 := Scalar.minsi v274 c128_i32_146
  let v284 : BitVec 32 := Scalar.subi v275 c0_i32_155
  let c1_i32_156 : BitVec 32 := 1#32
  let v286 : BitVec 32 := Scalar.divsi v284 c1_i32_156
  let v287 : BitVec 32 := Scalar.muli v286 c1_i32_156
  let v288 : BitVec 32 := Scalar.addi c0_i32_155 v287
  let c1_i32_158 : BitVec 32 := 1#32
  let arg12 : BitVec 32 := Scf.iv v288 c1_i32_158 k0_t20
  let v320 : Index := Scalar.indexCast arg12
  let c112_174 : Index := 112#32
  ![v320.toNat, 112]
@[reducible] def k0_t21_loop (v34 : BitVec 32) : Scf.Loop 32 :=
  let c0_i32_155 : BitVec 32 := 0#32
  let c1152_i32_145 : BitVec 32 := 1152#32
  let v274 : BitVec 32 := Scalar.subi v34 c1152_i32_145
  let c128_i32_146 : BitVec 32 := 128#32
  let v275 : BitVec 32 := Scalar.minsi v274 c128_i32_146
  let v284 : BitVec 32 := Scalar.subi v275 c0_i32_155
  let c1_i32_156 : BitVec 32 := 1#32
  let v286 : BitVec 32 := Scalar.divsi v284 c1_i32_156
  let v287 : BitVec 32 := Scalar.muli v286 c1_i32_156
  let v288 : BitVec 32 := Scalar.addi c0_i32_155 v287
  let c1_i32_157 : BitVec 32 := 1#32
  ⟨c0_i32_155, v288, c1_i32_157⟩
def k0_cond21 (v34 : BitVec 32) : BitVec 1 :=
  let c1152_i32_57 : BitVec 32 := 1152#32
  let v111 : BitVec 1 := Scalar.cmpi .sgt v34 c1152_i32_57
  let v112 : BitVec 32 := Scalar.extui v111
  let c0_i32_58 : BitVec 32 := 0#32
  let v113 : BitVec 1 := Scalar.cmpi .ne v112 c0_i32_58
  v113

def k0_off148 (v34 : BitVec 32) (k0_t21 : Fin (k0_t21_loop v34).trips) : Fin 2 → Nat :=
  let c0_i32_155 : BitVec 32 := 0#32
  let c1_i32_157 : BitVec 32 := 1#32
  let arg12 : BitVec 32 := Scf.iv c0_i32_155 c1_i32_157 k0_t21
  let v299 : Index := Scalar.indexCast arg12
  let c0_167 : Index := 0#32
  ![v299.toNat, 0]
def k0_off149 (v34 : BitVec 32) (k0_t21 : Fin (k0_t21_loop v34).trips) : Fin 2 → Nat :=
  let c0_i32_155 : BitVec 32 := 0#32
  let c1_i32_157 : BitVec 32 := 1#32
  let arg12 : BitVec 32 := Scf.iv c0_i32_155 c1_i32_157 k0_t21
  let v302 : Index := Scalar.indexCast arg12
  let c16_168 : Index := 16#32
  ![v302.toNat, 16]
def k0_off150 (v34 : BitVec 32) (k0_t21 : Fin (k0_t21_loop v34).trips) : Fin 2 → Nat :=
  let c0_i32_155 : BitVec 32 := 0#32
  let c1_i32_157 : BitVec 32 := 1#32
  let arg12 : BitVec 32 := Scf.iv c0_i32_155 c1_i32_157 k0_t21
  let v305 : Index := Scalar.indexCast arg12
  let c32_169 : Index := 32#32
  ![v305.toNat, 32]
def k0_off151 (v34 : BitVec 32) (k0_t21 : Fin (k0_t21_loop v34).trips) : Fin 2 → Nat :=
  let c0_i32_155 : BitVec 32 := 0#32
  let c1_i32_157 : BitVec 32 := 1#32
  let arg12 : BitVec 32 := Scf.iv c0_i32_155 c1_i32_157 k0_t21
  let v308 : Index := Scalar.indexCast arg12
  let c48_170 : Index := 48#32
  ![v308.toNat, 48]
def k0_off152 (v34 : BitVec 32) (k0_t21 : Fin (k0_t21_loop v34).trips) : Fin 2 → Nat :=
  let c0_i32_155 : BitVec 32 := 0#32
  let c1_i32_157 : BitVec 32 := 1#32
  let arg12 : BitVec 32 := Scf.iv c0_i32_155 c1_i32_157 k0_t21
  let v311 : Index := Scalar.indexCast arg12
  let c64_171 : Index := 64#32
  ![v311.toNat, 64]
def k0_off153 (v34 : BitVec 32) (k0_t21 : Fin (k0_t21_loop v34).trips) : Fin 2 → Nat :=
  let c0_i32_155 : BitVec 32 := 0#32
  let c1_i32_157 : BitVec 32 := 1#32
  let arg12 : BitVec 32 := Scf.iv c0_i32_155 c1_i32_157 k0_t21
  let v314 : Index := Scalar.indexCast arg12
  let c80_172 : Index := 80#32
  ![v314.toNat, 80]
def k0_off154 (v34 : BitVec 32) (k0_t21 : Fin (k0_t21_loop v34).trips) : Fin 2 → Nat :=
  let c0_i32_155 : BitVec 32 := 0#32
  let c1_i32_157 : BitVec 32 := 1#32
  let arg12 : BitVec 32 := Scf.iv c0_i32_155 c1_i32_157 k0_t21
  let v317 : Index := Scalar.indexCast arg12
  let c96_173 : Index := 96#32
  ![v317.toNat, 96]
def k0_off155 (v34 : BitVec 32) (k0_t21 : Fin (k0_t21_loop v34).trips) : Fin 2 → Nat :=
  let c0_i32_155 : BitVec 32 := 0#32
  let c1_i32_157 : BitVec 32 := 1#32
  let arg12 : BitVec 32 := Scf.iv c0_i32_155 c1_i32_157 k0_t21
  let v320 : Index := Scalar.indexCast arg12
  let c112_174 : Index := 112#32
  ![v320.toNat, 112]
@[reducible] def k0_t22_loop (v34 : BitVec 32) : Scf.Loop 32 :=
  let c0_i32_155 : BitVec 32 := 0#32
  let c1152_i32_145 : BitVec 32 := 1152#32
  let v274 : BitVec 32 := Scalar.subi v34 c1152_i32_145
  let c128_i32_146 : BitVec 32 := 128#32
  let v275 : BitVec 32 := Scalar.minsi v274 c128_i32_146
  let v284 : BitVec 32 := Scalar.subi v275 c0_i32_155
  let c1_i32_156 : BitVec 32 := 1#32
  let v286 : BitVec 32 := Scalar.divsi v284 c1_i32_156
  let v287 : BitVec 32 := Scalar.muli v286 c1_i32_156
  let v288 : BitVec 32 := Scalar.addi c0_i32_155 v287
  let v285 : BitVec 32 := Scalar.addi c0_i32_155 v284
  let c1_i32_158 : BitVec 32 := 1#32
  ⟨v288, v285, c1_i32_158⟩
def k0_off156 (v34 : BitVec 32) (k0_t22 : Fin (k0_t22_loop v34).trips) : Fin 2 → Nat :=
  let c0_i32_155 : BitVec 32 := 0#32
  let c1152_i32_145 : BitVec 32 := 1152#32
  let v274 : BitVec 32 := Scalar.subi v34 c1152_i32_145
  let c128_i32_146 : BitVec 32 := 128#32
  let v275 : BitVec 32 := Scalar.minsi v274 c128_i32_146
  let v284 : BitVec 32 := Scalar.subi v275 c0_i32_155
  let c1_i32_156 : BitVec 32 := 1#32
  let v286 : BitVec 32 := Scalar.divsi v284 c1_i32_156
  let v287 : BitVec 32 := Scalar.muli v286 c1_i32_156
  let v288 : BitVec 32 := Scalar.addi c0_i32_155 v287
  let c1_i32_158 : BitVec 32 := 1#32
  let arg12 : BitVec 32 := Scf.iv v288 c1_i32_158 k0_t22
  let v299 : Index := Scalar.indexCast arg12
  let c0_167 : Index := 0#32
  ![v299.toNat, 0]
def k0_off157 (v34 : BitVec 32) (k0_t22 : Fin (k0_t22_loop v34).trips) : Fin 2 → Nat :=
  let c0_i32_155 : BitVec 32 := 0#32
  let c1152_i32_145 : BitVec 32 := 1152#32
  let v274 : BitVec 32 := Scalar.subi v34 c1152_i32_145
  let c128_i32_146 : BitVec 32 := 128#32
  let v275 : BitVec 32 := Scalar.minsi v274 c128_i32_146
  let v284 : BitVec 32 := Scalar.subi v275 c0_i32_155
  let c1_i32_156 : BitVec 32 := 1#32
  let v286 : BitVec 32 := Scalar.divsi v284 c1_i32_156
  let v287 : BitVec 32 := Scalar.muli v286 c1_i32_156
  let v288 : BitVec 32 := Scalar.addi c0_i32_155 v287
  let c1_i32_158 : BitVec 32 := 1#32
  let arg12 : BitVec 32 := Scf.iv v288 c1_i32_158 k0_t22
  let v302 : Index := Scalar.indexCast arg12
  let c16_168 : Index := 16#32
  ![v302.toNat, 16]
def k0_off158 (v34 : BitVec 32) (k0_t22 : Fin (k0_t22_loop v34).trips) : Fin 2 → Nat :=
  let c0_i32_155 : BitVec 32 := 0#32
  let c1152_i32_145 : BitVec 32 := 1152#32
  let v274 : BitVec 32 := Scalar.subi v34 c1152_i32_145
  let c128_i32_146 : BitVec 32 := 128#32
  let v275 : BitVec 32 := Scalar.minsi v274 c128_i32_146
  let v284 : BitVec 32 := Scalar.subi v275 c0_i32_155
  let c1_i32_156 : BitVec 32 := 1#32
  let v286 : BitVec 32 := Scalar.divsi v284 c1_i32_156
  let v287 : BitVec 32 := Scalar.muli v286 c1_i32_156
  let v288 : BitVec 32 := Scalar.addi c0_i32_155 v287
  let c1_i32_158 : BitVec 32 := 1#32
  let arg12 : BitVec 32 := Scf.iv v288 c1_i32_158 k0_t22
  let v305 : Index := Scalar.indexCast arg12
  let c32_169 : Index := 32#32
  ![v305.toNat, 32]
def k0_off159 (v34 : BitVec 32) (k0_t22 : Fin (k0_t22_loop v34).trips) : Fin 2 → Nat :=
  let c0_i32_155 : BitVec 32 := 0#32
  let c1152_i32_145 : BitVec 32 := 1152#32
  let v274 : BitVec 32 := Scalar.subi v34 c1152_i32_145
  let c128_i32_146 : BitVec 32 := 128#32
  let v275 : BitVec 32 := Scalar.minsi v274 c128_i32_146
  let v284 : BitVec 32 := Scalar.subi v275 c0_i32_155
  let c1_i32_156 : BitVec 32 := 1#32
  let v286 : BitVec 32 := Scalar.divsi v284 c1_i32_156
  let v287 : BitVec 32 := Scalar.muli v286 c1_i32_156
  let v288 : BitVec 32 := Scalar.addi c0_i32_155 v287
  let c1_i32_158 : BitVec 32 := 1#32
  let arg12 : BitVec 32 := Scf.iv v288 c1_i32_158 k0_t22
  let v308 : Index := Scalar.indexCast arg12
  let c48_170 : Index := 48#32
  ![v308.toNat, 48]
def k0_off160 (v34 : BitVec 32) (k0_t22 : Fin (k0_t22_loop v34).trips) : Fin 2 → Nat :=
  let c0_i32_155 : BitVec 32 := 0#32
  let c1152_i32_145 : BitVec 32 := 1152#32
  let v274 : BitVec 32 := Scalar.subi v34 c1152_i32_145
  let c128_i32_146 : BitVec 32 := 128#32
  let v275 : BitVec 32 := Scalar.minsi v274 c128_i32_146
  let v284 : BitVec 32 := Scalar.subi v275 c0_i32_155
  let c1_i32_156 : BitVec 32 := 1#32
  let v286 : BitVec 32 := Scalar.divsi v284 c1_i32_156
  let v287 : BitVec 32 := Scalar.muli v286 c1_i32_156
  let v288 : BitVec 32 := Scalar.addi c0_i32_155 v287
  let c1_i32_158 : BitVec 32 := 1#32
  let arg12 : BitVec 32 := Scf.iv v288 c1_i32_158 k0_t22
  let v311 : Index := Scalar.indexCast arg12
  let c64_171 : Index := 64#32
  ![v311.toNat, 64]
def k0_off161 (v34 : BitVec 32) (k0_t22 : Fin (k0_t22_loop v34).trips) : Fin 2 → Nat :=
  let c0_i32_155 : BitVec 32 := 0#32
  let c1152_i32_145 : BitVec 32 := 1152#32
  let v274 : BitVec 32 := Scalar.subi v34 c1152_i32_145
  let c128_i32_146 : BitVec 32 := 128#32
  let v275 : BitVec 32 := Scalar.minsi v274 c128_i32_146
  let v284 : BitVec 32 := Scalar.subi v275 c0_i32_155
  let c1_i32_156 : BitVec 32 := 1#32
  let v286 : BitVec 32 := Scalar.divsi v284 c1_i32_156
  let v287 : BitVec 32 := Scalar.muli v286 c1_i32_156
  let v288 : BitVec 32 := Scalar.addi c0_i32_155 v287
  let c1_i32_158 : BitVec 32 := 1#32
  let arg12 : BitVec 32 := Scf.iv v288 c1_i32_158 k0_t22
  let v314 : Index := Scalar.indexCast arg12
  let c80_172 : Index := 80#32
  ![v314.toNat, 80]
def k0_off162 (v34 : BitVec 32) (k0_t22 : Fin (k0_t22_loop v34).trips) : Fin 2 → Nat :=
  let c0_i32_155 : BitVec 32 := 0#32
  let c1152_i32_145 : BitVec 32 := 1152#32
  let v274 : BitVec 32 := Scalar.subi v34 c1152_i32_145
  let c128_i32_146 : BitVec 32 := 128#32
  let v275 : BitVec 32 := Scalar.minsi v274 c128_i32_146
  let v284 : BitVec 32 := Scalar.subi v275 c0_i32_155
  let c1_i32_156 : BitVec 32 := 1#32
  let v286 : BitVec 32 := Scalar.divsi v284 c1_i32_156
  let v287 : BitVec 32 := Scalar.muli v286 c1_i32_156
  let v288 : BitVec 32 := Scalar.addi c0_i32_155 v287
  let c1_i32_158 : BitVec 32 := 1#32
  let arg12 : BitVec 32 := Scf.iv v288 c1_i32_158 k0_t22
  let v317 : Index := Scalar.indexCast arg12
  let c96_173 : Index := 96#32
  ![v317.toNat, 96]
def k0_off163 (v34 : BitVec 32) (k0_t22 : Fin (k0_t22_loop v34).trips) : Fin 2 → Nat :=
  let c0_i32_155 : BitVec 32 := 0#32
  let c1152_i32_145 : BitVec 32 := 1152#32
  let v274 : BitVec 32 := Scalar.subi v34 c1152_i32_145
  let c128_i32_146 : BitVec 32 := 128#32
  let v275 : BitVec 32 := Scalar.minsi v274 c128_i32_146
  let v284 : BitVec 32 := Scalar.subi v275 c0_i32_155
  let c1_i32_156 : BitVec 32 := 1#32
  let v286 : BitVec 32 := Scalar.divsi v284 c1_i32_156
  let v287 : BitVec 32 := Scalar.muli v286 c1_i32_156
  let v288 : BitVec 32 := Scalar.addi c0_i32_155 v287
  let c1_i32_158 : BitVec 32 := 1#32
  let arg12 : BitVec 32 := Scf.iv v288 c1_i32_158 k0_t22
  let v320 : Index := Scalar.indexCast arg12
  let c112_174 : Index := 112#32
  ![v320.toNat, 112]
@[reducible] def k0_t23_loop (v34 : BitVec 32) : Scf.Loop 32 :=
  let c0_i32_155 : BitVec 32 := 0#32
  let c1280_i32_145 : BitVec 32 := 1280#32
  let v274 : BitVec 32 := Scalar.subi v34 c1280_i32_145
  let c128_i32_146 : BitVec 32 := 128#32
  let v275 : BitVec 32 := Scalar.minsi v274 c128_i32_146
  let v284 : BitVec 32 := Scalar.subi v275 c0_i32_155
  let c1_i32_156 : BitVec 32 := 1#32
  let v286 : BitVec 32 := Scalar.divsi v284 c1_i32_156
  let v287 : BitVec 32 := Scalar.muli v286 c1_i32_156
  let v288 : BitVec 32 := Scalar.addi c0_i32_155 v287
  let c1_i32_157 : BitVec 32 := 1#32
  ⟨c0_i32_155, v288, c1_i32_157⟩
def k0_cond23 (v34 : BitVec 32) : BitVec 1 :=
  let c1280_i32_60 : BitVec 32 := 1280#32
  let v117 : BitVec 1 := Scalar.cmpi .sgt v34 c1280_i32_60
  let v118 : BitVec 32 := Scalar.extui v117
  let c0_i32_61 : BitVec 32 := 0#32
  let v119 : BitVec 1 := Scalar.cmpi .ne v118 c0_i32_61
  v119

def k0_off164 (v34 : BitVec 32) (k0_t23 : Fin (k0_t23_loop v34).trips) : Fin 2 → Nat :=
  let c0_i32_155 : BitVec 32 := 0#32
  let c1_i32_157 : BitVec 32 := 1#32
  let arg12 : BitVec 32 := Scf.iv c0_i32_155 c1_i32_157 k0_t23
  let v299 : Index := Scalar.indexCast arg12
  let c0_167 : Index := 0#32
  ![v299.toNat, 0]
def k0_off165 (v34 : BitVec 32) (k0_t23 : Fin (k0_t23_loop v34).trips) : Fin 2 → Nat :=
  let c0_i32_155 : BitVec 32 := 0#32
  let c1_i32_157 : BitVec 32 := 1#32
  let arg12 : BitVec 32 := Scf.iv c0_i32_155 c1_i32_157 k0_t23
  let v302 : Index := Scalar.indexCast arg12
  let c16_168 : Index := 16#32
  ![v302.toNat, 16]
def k0_off166 (v34 : BitVec 32) (k0_t23 : Fin (k0_t23_loop v34).trips) : Fin 2 → Nat :=
  let c0_i32_155 : BitVec 32 := 0#32
  let c1_i32_157 : BitVec 32 := 1#32
  let arg12 : BitVec 32 := Scf.iv c0_i32_155 c1_i32_157 k0_t23
  let v305 : Index := Scalar.indexCast arg12
  let c32_169 : Index := 32#32
  ![v305.toNat, 32]
def k0_off167 (v34 : BitVec 32) (k0_t23 : Fin (k0_t23_loop v34).trips) : Fin 2 → Nat :=
  let c0_i32_155 : BitVec 32 := 0#32
  let c1_i32_157 : BitVec 32 := 1#32
  let arg12 : BitVec 32 := Scf.iv c0_i32_155 c1_i32_157 k0_t23
  let v308 : Index := Scalar.indexCast arg12
  let c48_170 : Index := 48#32
  ![v308.toNat, 48]
def k0_off168 (v34 : BitVec 32) (k0_t23 : Fin (k0_t23_loop v34).trips) : Fin 2 → Nat :=
  let c0_i32_155 : BitVec 32 := 0#32
  let c1_i32_157 : BitVec 32 := 1#32
  let arg12 : BitVec 32 := Scf.iv c0_i32_155 c1_i32_157 k0_t23
  let v311 : Index := Scalar.indexCast arg12
  let c64_171 : Index := 64#32
  ![v311.toNat, 64]
def k0_off169 (v34 : BitVec 32) (k0_t23 : Fin (k0_t23_loop v34).trips) : Fin 2 → Nat :=
  let c0_i32_155 : BitVec 32 := 0#32
  let c1_i32_157 : BitVec 32 := 1#32
  let arg12 : BitVec 32 := Scf.iv c0_i32_155 c1_i32_157 k0_t23
  let v314 : Index := Scalar.indexCast arg12
  let c80_172 : Index := 80#32
  ![v314.toNat, 80]
def k0_off170 (v34 : BitVec 32) (k0_t23 : Fin (k0_t23_loop v34).trips) : Fin 2 → Nat :=
  let c0_i32_155 : BitVec 32 := 0#32
  let c1_i32_157 : BitVec 32 := 1#32
  let arg12 : BitVec 32 := Scf.iv c0_i32_155 c1_i32_157 k0_t23
  let v317 : Index := Scalar.indexCast arg12
  let c96_173 : Index := 96#32
  ![v317.toNat, 96]
def k0_off171 (v34 : BitVec 32) (k0_t23 : Fin (k0_t23_loop v34).trips) : Fin 2 → Nat :=
  let c0_i32_155 : BitVec 32 := 0#32
  let c1_i32_157 : BitVec 32 := 1#32
  let arg12 : BitVec 32 := Scf.iv c0_i32_155 c1_i32_157 k0_t23
  let v320 : Index := Scalar.indexCast arg12
  let c112_174 : Index := 112#32
  ![v320.toNat, 112]
@[reducible] def k0_t24_loop (v34 : BitVec 32) : Scf.Loop 32 :=
  let c0_i32_155 : BitVec 32 := 0#32
  let c1280_i32_145 : BitVec 32 := 1280#32
  let v274 : BitVec 32 := Scalar.subi v34 c1280_i32_145
  let c128_i32_146 : BitVec 32 := 128#32
  let v275 : BitVec 32 := Scalar.minsi v274 c128_i32_146
  let v284 : BitVec 32 := Scalar.subi v275 c0_i32_155
  let c1_i32_156 : BitVec 32 := 1#32
  let v286 : BitVec 32 := Scalar.divsi v284 c1_i32_156
  let v287 : BitVec 32 := Scalar.muli v286 c1_i32_156
  let v288 : BitVec 32 := Scalar.addi c0_i32_155 v287
  let v285 : BitVec 32 := Scalar.addi c0_i32_155 v284
  let c1_i32_158 : BitVec 32 := 1#32
  ⟨v288, v285, c1_i32_158⟩
def k0_off172 (v34 : BitVec 32) (k0_t24 : Fin (k0_t24_loop v34).trips) : Fin 2 → Nat :=
  let c0_i32_155 : BitVec 32 := 0#32
  let c1280_i32_145 : BitVec 32 := 1280#32
  let v274 : BitVec 32 := Scalar.subi v34 c1280_i32_145
  let c128_i32_146 : BitVec 32 := 128#32
  let v275 : BitVec 32 := Scalar.minsi v274 c128_i32_146
  let v284 : BitVec 32 := Scalar.subi v275 c0_i32_155
  let c1_i32_156 : BitVec 32 := 1#32
  let v286 : BitVec 32 := Scalar.divsi v284 c1_i32_156
  let v287 : BitVec 32 := Scalar.muli v286 c1_i32_156
  let v288 : BitVec 32 := Scalar.addi c0_i32_155 v287
  let c1_i32_158 : BitVec 32 := 1#32
  let arg12 : BitVec 32 := Scf.iv v288 c1_i32_158 k0_t24
  let v299 : Index := Scalar.indexCast arg12
  let c0_167 : Index := 0#32
  ![v299.toNat, 0]
def k0_off173 (v34 : BitVec 32) (k0_t24 : Fin (k0_t24_loop v34).trips) : Fin 2 → Nat :=
  let c0_i32_155 : BitVec 32 := 0#32
  let c1280_i32_145 : BitVec 32 := 1280#32
  let v274 : BitVec 32 := Scalar.subi v34 c1280_i32_145
  let c128_i32_146 : BitVec 32 := 128#32
  let v275 : BitVec 32 := Scalar.minsi v274 c128_i32_146
  let v284 : BitVec 32 := Scalar.subi v275 c0_i32_155
  let c1_i32_156 : BitVec 32 := 1#32
  let v286 : BitVec 32 := Scalar.divsi v284 c1_i32_156
  let v287 : BitVec 32 := Scalar.muli v286 c1_i32_156
  let v288 : BitVec 32 := Scalar.addi c0_i32_155 v287
  let c1_i32_158 : BitVec 32 := 1#32
  let arg12 : BitVec 32 := Scf.iv v288 c1_i32_158 k0_t24
  let v302 : Index := Scalar.indexCast arg12
  let c16_168 : Index := 16#32
  ![v302.toNat, 16]
def k0_off174 (v34 : BitVec 32) (k0_t24 : Fin (k0_t24_loop v34).trips) : Fin 2 → Nat :=
  let c0_i32_155 : BitVec 32 := 0#32
  let c1280_i32_145 : BitVec 32 := 1280#32
  let v274 : BitVec 32 := Scalar.subi v34 c1280_i32_145
  let c128_i32_146 : BitVec 32 := 128#32
  let v275 : BitVec 32 := Scalar.minsi v274 c128_i32_146
  let v284 : BitVec 32 := Scalar.subi v275 c0_i32_155
  let c1_i32_156 : BitVec 32 := 1#32
  let v286 : BitVec 32 := Scalar.divsi v284 c1_i32_156
  let v287 : BitVec 32 := Scalar.muli v286 c1_i32_156
  let v288 : BitVec 32 := Scalar.addi c0_i32_155 v287
  let c1_i32_158 : BitVec 32 := 1#32
  let arg12 : BitVec 32 := Scf.iv v288 c1_i32_158 k0_t24
  let v305 : Index := Scalar.indexCast arg12
  let c32_169 : Index := 32#32
  ![v305.toNat, 32]
def k0_off175 (v34 : BitVec 32) (k0_t24 : Fin (k0_t24_loop v34).trips) : Fin 2 → Nat :=
  let c0_i32_155 : BitVec 32 := 0#32
  let c1280_i32_145 : BitVec 32 := 1280#32
  let v274 : BitVec 32 := Scalar.subi v34 c1280_i32_145
  let c128_i32_146 : BitVec 32 := 128#32
  let v275 : BitVec 32 := Scalar.minsi v274 c128_i32_146
  let v284 : BitVec 32 := Scalar.subi v275 c0_i32_155
  let c1_i32_156 : BitVec 32 := 1#32
  let v286 : BitVec 32 := Scalar.divsi v284 c1_i32_156
  let v287 : BitVec 32 := Scalar.muli v286 c1_i32_156
  let v288 : BitVec 32 := Scalar.addi c0_i32_155 v287
  let c1_i32_158 : BitVec 32 := 1#32
  let arg12 : BitVec 32 := Scf.iv v288 c1_i32_158 k0_t24
  let v308 : Index := Scalar.indexCast arg12
  let c48_170 : Index := 48#32
  ![v308.toNat, 48]
def k0_off176 (v34 : BitVec 32) (k0_t24 : Fin (k0_t24_loop v34).trips) : Fin 2 → Nat :=
  let c0_i32_155 : BitVec 32 := 0#32
  let c1280_i32_145 : BitVec 32 := 1280#32
  let v274 : BitVec 32 := Scalar.subi v34 c1280_i32_145
  let c128_i32_146 : BitVec 32 := 128#32
  let v275 : BitVec 32 := Scalar.minsi v274 c128_i32_146
  let v284 : BitVec 32 := Scalar.subi v275 c0_i32_155
  let c1_i32_156 : BitVec 32 := 1#32
  let v286 : BitVec 32 := Scalar.divsi v284 c1_i32_156
  let v287 : BitVec 32 := Scalar.muli v286 c1_i32_156
  let v288 : BitVec 32 := Scalar.addi c0_i32_155 v287
  let c1_i32_158 : BitVec 32 := 1#32
  let arg12 : BitVec 32 := Scf.iv v288 c1_i32_158 k0_t24
  let v311 : Index := Scalar.indexCast arg12
  let c64_171 : Index := 64#32
  ![v311.toNat, 64]
def k0_off177 (v34 : BitVec 32) (k0_t24 : Fin (k0_t24_loop v34).trips) : Fin 2 → Nat :=
  let c0_i32_155 : BitVec 32 := 0#32
  let c1280_i32_145 : BitVec 32 := 1280#32
  let v274 : BitVec 32 := Scalar.subi v34 c1280_i32_145
  let c128_i32_146 : BitVec 32 := 128#32
  let v275 : BitVec 32 := Scalar.minsi v274 c128_i32_146
  let v284 : BitVec 32 := Scalar.subi v275 c0_i32_155
  let c1_i32_156 : BitVec 32 := 1#32
  let v286 : BitVec 32 := Scalar.divsi v284 c1_i32_156
  let v287 : BitVec 32 := Scalar.muli v286 c1_i32_156
  let v288 : BitVec 32 := Scalar.addi c0_i32_155 v287
  let c1_i32_158 : BitVec 32 := 1#32
  let arg12 : BitVec 32 := Scf.iv v288 c1_i32_158 k0_t24
  let v314 : Index := Scalar.indexCast arg12
  let c80_172 : Index := 80#32
  ![v314.toNat, 80]
def k0_off178 (v34 : BitVec 32) (k0_t24 : Fin (k0_t24_loop v34).trips) : Fin 2 → Nat :=
  let c0_i32_155 : BitVec 32 := 0#32
  let c1280_i32_145 : BitVec 32 := 1280#32
  let v274 : BitVec 32 := Scalar.subi v34 c1280_i32_145
  let c128_i32_146 : BitVec 32 := 128#32
  let v275 : BitVec 32 := Scalar.minsi v274 c128_i32_146
  let v284 : BitVec 32 := Scalar.subi v275 c0_i32_155
  let c1_i32_156 : BitVec 32 := 1#32
  let v286 : BitVec 32 := Scalar.divsi v284 c1_i32_156
  let v287 : BitVec 32 := Scalar.muli v286 c1_i32_156
  let v288 : BitVec 32 := Scalar.addi c0_i32_155 v287
  let c1_i32_158 : BitVec 32 := 1#32
  let arg12 : BitVec 32 := Scf.iv v288 c1_i32_158 k0_t24
  let v317 : Index := Scalar.indexCast arg12
  let c96_173 : Index := 96#32
  ![v317.toNat, 96]
def k0_off179 (v34 : BitVec 32) (k0_t24 : Fin (k0_t24_loop v34).trips) : Fin 2 → Nat :=
  let c0_i32_155 : BitVec 32 := 0#32
  let c1280_i32_145 : BitVec 32 := 1280#32
  let v274 : BitVec 32 := Scalar.subi v34 c1280_i32_145
  let c128_i32_146 : BitVec 32 := 128#32
  let v275 : BitVec 32 := Scalar.minsi v274 c128_i32_146
  let v284 : BitVec 32 := Scalar.subi v275 c0_i32_155
  let c1_i32_156 : BitVec 32 := 1#32
  let v286 : BitVec 32 := Scalar.divsi v284 c1_i32_156
  let v287 : BitVec 32 := Scalar.muli v286 c1_i32_156
  let v288 : BitVec 32 := Scalar.addi c0_i32_155 v287
  let c1_i32_158 : BitVec 32 := 1#32
  let arg12 : BitVec 32 := Scf.iv v288 c1_i32_158 k0_t24
  let v320 : Index := Scalar.indexCast arg12
  let c112_174 : Index := 112#32
  ![v320.toNat, 112]
@[reducible] def k0_t25_loop (v34 : BitVec 32) : Scf.Loop 32 :=
  let c0_i32_155 : BitVec 32 := 0#32
  let c1408_i32_145 : BitVec 32 := 1408#32
  let v274 : BitVec 32 := Scalar.subi v34 c1408_i32_145
  let c128_i32_146 : BitVec 32 := 128#32
  let v275 : BitVec 32 := Scalar.minsi v274 c128_i32_146
  let v284 : BitVec 32 := Scalar.subi v275 c0_i32_155
  let c1_i32_156 : BitVec 32 := 1#32
  let v286 : BitVec 32 := Scalar.divsi v284 c1_i32_156
  let v287 : BitVec 32 := Scalar.muli v286 c1_i32_156
  let v288 : BitVec 32 := Scalar.addi c0_i32_155 v287
  let c1_i32_157 : BitVec 32 := 1#32
  ⟨c0_i32_155, v288, c1_i32_157⟩
def k0_cond25 (v34 : BitVec 32) : BitVec 1 :=
  let c1408_i32_63 : BitVec 32 := 1408#32
  let v123 : BitVec 1 := Scalar.cmpi .sgt v34 c1408_i32_63
  let v124 : BitVec 32 := Scalar.extui v123
  let c0_i32_64 : BitVec 32 := 0#32
  let v125 : BitVec 1 := Scalar.cmpi .ne v124 c0_i32_64
  v125

def k0_off180 (v34 : BitVec 32) (k0_t25 : Fin (k0_t25_loop v34).trips) : Fin 2 → Nat :=
  let c0_i32_155 : BitVec 32 := 0#32
  let c1_i32_157 : BitVec 32 := 1#32
  let arg12 : BitVec 32 := Scf.iv c0_i32_155 c1_i32_157 k0_t25
  let v299 : Index := Scalar.indexCast arg12
  let c0_167 : Index := 0#32
  ![v299.toNat, 0]
def k0_off181 (v34 : BitVec 32) (k0_t25 : Fin (k0_t25_loop v34).trips) : Fin 2 → Nat :=
  let c0_i32_155 : BitVec 32 := 0#32
  let c1_i32_157 : BitVec 32 := 1#32
  let arg12 : BitVec 32 := Scf.iv c0_i32_155 c1_i32_157 k0_t25
  let v302 : Index := Scalar.indexCast arg12
  let c16_168 : Index := 16#32
  ![v302.toNat, 16]
def k0_off182 (v34 : BitVec 32) (k0_t25 : Fin (k0_t25_loop v34).trips) : Fin 2 → Nat :=
  let c0_i32_155 : BitVec 32 := 0#32
  let c1_i32_157 : BitVec 32 := 1#32
  let arg12 : BitVec 32 := Scf.iv c0_i32_155 c1_i32_157 k0_t25
  let v305 : Index := Scalar.indexCast arg12
  let c32_169 : Index := 32#32
  ![v305.toNat, 32]
def k0_off183 (v34 : BitVec 32) (k0_t25 : Fin (k0_t25_loop v34).trips) : Fin 2 → Nat :=
  let c0_i32_155 : BitVec 32 := 0#32
  let c1_i32_157 : BitVec 32 := 1#32
  let arg12 : BitVec 32 := Scf.iv c0_i32_155 c1_i32_157 k0_t25
  let v308 : Index := Scalar.indexCast arg12
  let c48_170 : Index := 48#32
  ![v308.toNat, 48]
def k0_off184 (v34 : BitVec 32) (k0_t25 : Fin (k0_t25_loop v34).trips) : Fin 2 → Nat :=
  let c0_i32_155 : BitVec 32 := 0#32
  let c1_i32_157 : BitVec 32 := 1#32
  let arg12 : BitVec 32 := Scf.iv c0_i32_155 c1_i32_157 k0_t25
  let v311 : Index := Scalar.indexCast arg12
  let c64_171 : Index := 64#32
  ![v311.toNat, 64]
def k0_off185 (v34 : BitVec 32) (k0_t25 : Fin (k0_t25_loop v34).trips) : Fin 2 → Nat :=
  let c0_i32_155 : BitVec 32 := 0#32
  let c1_i32_157 : BitVec 32 := 1#32
  let arg12 : BitVec 32 := Scf.iv c0_i32_155 c1_i32_157 k0_t25
  let v314 : Index := Scalar.indexCast arg12
  let c80_172 : Index := 80#32
  ![v314.toNat, 80]
def k0_off186 (v34 : BitVec 32) (k0_t25 : Fin (k0_t25_loop v34).trips) : Fin 2 → Nat :=
  let c0_i32_155 : BitVec 32 := 0#32
  let c1_i32_157 : BitVec 32 := 1#32
  let arg12 : BitVec 32 := Scf.iv c0_i32_155 c1_i32_157 k0_t25
  let v317 : Index := Scalar.indexCast arg12
  let c96_173 : Index := 96#32
  ![v317.toNat, 96]
def k0_off187 (v34 : BitVec 32) (k0_t25 : Fin (k0_t25_loop v34).trips) : Fin 2 → Nat :=
  let c0_i32_155 : BitVec 32 := 0#32
  let c1_i32_157 : BitVec 32 := 1#32
  let arg12 : BitVec 32 := Scf.iv c0_i32_155 c1_i32_157 k0_t25
  let v320 : Index := Scalar.indexCast arg12
  let c112_174 : Index := 112#32
  ![v320.toNat, 112]
@[reducible] def k0_t26_loop (v34 : BitVec 32) : Scf.Loop 32 :=
  let c0_i32_155 : BitVec 32 := 0#32
  let c1408_i32_145 : BitVec 32 := 1408#32
  let v274 : BitVec 32 := Scalar.subi v34 c1408_i32_145
  let c128_i32_146 : BitVec 32 := 128#32
  let v275 : BitVec 32 := Scalar.minsi v274 c128_i32_146
  let v284 : BitVec 32 := Scalar.subi v275 c0_i32_155
  let c1_i32_156 : BitVec 32 := 1#32
  let v286 : BitVec 32 := Scalar.divsi v284 c1_i32_156
  let v287 : BitVec 32 := Scalar.muli v286 c1_i32_156
  let v288 : BitVec 32 := Scalar.addi c0_i32_155 v287
  let v285 : BitVec 32 := Scalar.addi c0_i32_155 v284
  let c1_i32_158 : BitVec 32 := 1#32
  ⟨v288, v285, c1_i32_158⟩
def k0_off188 (v34 : BitVec 32) (k0_t26 : Fin (k0_t26_loop v34).trips) : Fin 2 → Nat :=
  let c0_i32_155 : BitVec 32 := 0#32
  let c1408_i32_145 : BitVec 32 := 1408#32
  let v274 : BitVec 32 := Scalar.subi v34 c1408_i32_145
  let c128_i32_146 : BitVec 32 := 128#32
  let v275 : BitVec 32 := Scalar.minsi v274 c128_i32_146
  let v284 : BitVec 32 := Scalar.subi v275 c0_i32_155
  let c1_i32_156 : BitVec 32 := 1#32
  let v286 : BitVec 32 := Scalar.divsi v284 c1_i32_156
  let v287 : BitVec 32 := Scalar.muli v286 c1_i32_156
  let v288 : BitVec 32 := Scalar.addi c0_i32_155 v287
  let c1_i32_158 : BitVec 32 := 1#32
  let arg12 : BitVec 32 := Scf.iv v288 c1_i32_158 k0_t26
  let v299 : Index := Scalar.indexCast arg12
  let c0_167 : Index := 0#32
  ![v299.toNat, 0]
def k0_off189 (v34 : BitVec 32) (k0_t26 : Fin (k0_t26_loop v34).trips) : Fin 2 → Nat :=
  let c0_i32_155 : BitVec 32 := 0#32
  let c1408_i32_145 : BitVec 32 := 1408#32
  let v274 : BitVec 32 := Scalar.subi v34 c1408_i32_145
  let c128_i32_146 : BitVec 32 := 128#32
  let v275 : BitVec 32 := Scalar.minsi v274 c128_i32_146
  let v284 : BitVec 32 := Scalar.subi v275 c0_i32_155
  let c1_i32_156 : BitVec 32 := 1#32
  let v286 : BitVec 32 := Scalar.divsi v284 c1_i32_156
  let v287 : BitVec 32 := Scalar.muli v286 c1_i32_156
  let v288 : BitVec 32 := Scalar.addi c0_i32_155 v287
  let c1_i32_158 : BitVec 32 := 1#32
  let arg12 : BitVec 32 := Scf.iv v288 c1_i32_158 k0_t26
  let v302 : Index := Scalar.indexCast arg12
  let c16_168 : Index := 16#32
  ![v302.toNat, 16]
def k0_off190 (v34 : BitVec 32) (k0_t26 : Fin (k0_t26_loop v34).trips) : Fin 2 → Nat :=
  let c0_i32_155 : BitVec 32 := 0#32
  let c1408_i32_145 : BitVec 32 := 1408#32
  let v274 : BitVec 32 := Scalar.subi v34 c1408_i32_145
  let c128_i32_146 : BitVec 32 := 128#32
  let v275 : BitVec 32 := Scalar.minsi v274 c128_i32_146
  let v284 : BitVec 32 := Scalar.subi v275 c0_i32_155
  let c1_i32_156 : BitVec 32 := 1#32
  let v286 : BitVec 32 := Scalar.divsi v284 c1_i32_156
  let v287 : BitVec 32 := Scalar.muli v286 c1_i32_156
  let v288 : BitVec 32 := Scalar.addi c0_i32_155 v287
  let c1_i32_158 : BitVec 32 := 1#32
  let arg12 : BitVec 32 := Scf.iv v288 c1_i32_158 k0_t26
  let v305 : Index := Scalar.indexCast arg12
  let c32_169 : Index := 32#32
  ![v305.toNat, 32]
def k0_off191 (v34 : BitVec 32) (k0_t26 : Fin (k0_t26_loop v34).trips) : Fin 2 → Nat :=
  let c0_i32_155 : BitVec 32 := 0#32
  let c1408_i32_145 : BitVec 32 := 1408#32
  let v274 : BitVec 32 := Scalar.subi v34 c1408_i32_145
  let c128_i32_146 : BitVec 32 := 128#32
  let v275 : BitVec 32 := Scalar.minsi v274 c128_i32_146
  let v284 : BitVec 32 := Scalar.subi v275 c0_i32_155
  let c1_i32_156 : BitVec 32 := 1#32
  let v286 : BitVec 32 := Scalar.divsi v284 c1_i32_156
  let v287 : BitVec 32 := Scalar.muli v286 c1_i32_156
  let v288 : BitVec 32 := Scalar.addi c0_i32_155 v287
  let c1_i32_158 : BitVec 32 := 1#32
  let arg12 : BitVec 32 := Scf.iv v288 c1_i32_158 k0_t26
  let v308 : Index := Scalar.indexCast arg12
  let c48_170 : Index := 48#32
  ![v308.toNat, 48]
def k0_off192 (v34 : BitVec 32) (k0_t26 : Fin (k0_t26_loop v34).trips) : Fin 2 → Nat :=
  let c0_i32_155 : BitVec 32 := 0#32
  let c1408_i32_145 : BitVec 32 := 1408#32
  let v274 : BitVec 32 := Scalar.subi v34 c1408_i32_145
  let c128_i32_146 : BitVec 32 := 128#32
  let v275 : BitVec 32 := Scalar.minsi v274 c128_i32_146
  let v284 : BitVec 32 := Scalar.subi v275 c0_i32_155
  let c1_i32_156 : BitVec 32 := 1#32
  let v286 : BitVec 32 := Scalar.divsi v284 c1_i32_156
  let v287 : BitVec 32 := Scalar.muli v286 c1_i32_156
  let v288 : BitVec 32 := Scalar.addi c0_i32_155 v287
  let c1_i32_158 : BitVec 32 := 1#32
  let arg12 : BitVec 32 := Scf.iv v288 c1_i32_158 k0_t26
  let v311 : Index := Scalar.indexCast arg12
  let c64_171 : Index := 64#32
  ![v311.toNat, 64]
def k0_off193 (v34 : BitVec 32) (k0_t26 : Fin (k0_t26_loop v34).trips) : Fin 2 → Nat :=
  let c0_i32_155 : BitVec 32 := 0#32
  let c1408_i32_145 : BitVec 32 := 1408#32
  let v274 : BitVec 32 := Scalar.subi v34 c1408_i32_145
  let c128_i32_146 : BitVec 32 := 128#32
  let v275 : BitVec 32 := Scalar.minsi v274 c128_i32_146
  let v284 : BitVec 32 := Scalar.subi v275 c0_i32_155
  let c1_i32_156 : BitVec 32 := 1#32
  let v286 : BitVec 32 := Scalar.divsi v284 c1_i32_156
  let v287 : BitVec 32 := Scalar.muli v286 c1_i32_156
  let v288 : BitVec 32 := Scalar.addi c0_i32_155 v287
  let c1_i32_158 : BitVec 32 := 1#32
  let arg12 : BitVec 32 := Scf.iv v288 c1_i32_158 k0_t26
  let v314 : Index := Scalar.indexCast arg12
  let c80_172 : Index := 80#32
  ![v314.toNat, 80]
def k0_off194 (v34 : BitVec 32) (k0_t26 : Fin (k0_t26_loop v34).trips) : Fin 2 → Nat :=
  let c0_i32_155 : BitVec 32 := 0#32
  let c1408_i32_145 : BitVec 32 := 1408#32
  let v274 : BitVec 32 := Scalar.subi v34 c1408_i32_145
  let c128_i32_146 : BitVec 32 := 128#32
  let v275 : BitVec 32 := Scalar.minsi v274 c128_i32_146
  let v284 : BitVec 32 := Scalar.subi v275 c0_i32_155
  let c1_i32_156 : BitVec 32 := 1#32
  let v286 : BitVec 32 := Scalar.divsi v284 c1_i32_156
  let v287 : BitVec 32 := Scalar.muli v286 c1_i32_156
  let v288 : BitVec 32 := Scalar.addi c0_i32_155 v287
  let c1_i32_158 : BitVec 32 := 1#32
  let arg12 : BitVec 32 := Scf.iv v288 c1_i32_158 k0_t26
  let v317 : Index := Scalar.indexCast arg12
  let c96_173 : Index := 96#32
  ![v317.toNat, 96]
def k0_off195 (v34 : BitVec 32) (k0_t26 : Fin (k0_t26_loop v34).trips) : Fin 2 → Nat :=
  let c0_i32_155 : BitVec 32 := 0#32
  let c1408_i32_145 : BitVec 32 := 1408#32
  let v274 : BitVec 32 := Scalar.subi v34 c1408_i32_145
  let c128_i32_146 : BitVec 32 := 128#32
  let v275 : BitVec 32 := Scalar.minsi v274 c128_i32_146
  let v284 : BitVec 32 := Scalar.subi v275 c0_i32_155
  let c1_i32_156 : BitVec 32 := 1#32
  let v286 : BitVec 32 := Scalar.divsi v284 c1_i32_156
  let v287 : BitVec 32 := Scalar.muli v286 c1_i32_156
  let v288 : BitVec 32 := Scalar.addi c0_i32_155 v287
  let c1_i32_158 : BitVec 32 := 1#32
  let arg12 : BitVec 32 := Scf.iv v288 c1_i32_158 k0_t26
  let v320 : Index := Scalar.indexCast arg12
  let c112_174 : Index := 112#32
  ![v320.toNat, 112]
@[reducible] def k0_t27_loop (v34 : BitVec 32) : Scf.Loop 32 :=
  let c0_i32_155 : BitVec 32 := 0#32
  let c1536_i32_145 : BitVec 32 := 1536#32
  let v274 : BitVec 32 := Scalar.subi v34 c1536_i32_145
  let c128_i32_146 : BitVec 32 := 128#32
  let v275 : BitVec 32 := Scalar.minsi v274 c128_i32_146
  let v284 : BitVec 32 := Scalar.subi v275 c0_i32_155
  let c1_i32_156 : BitVec 32 := 1#32
  let v286 : BitVec 32 := Scalar.divsi v284 c1_i32_156
  let v287 : BitVec 32 := Scalar.muli v286 c1_i32_156
  let v288 : BitVec 32 := Scalar.addi c0_i32_155 v287
  let c1_i32_157 : BitVec 32 := 1#32
  ⟨c0_i32_155, v288, c1_i32_157⟩
def k0_cond27 (v34 : BitVec 32) : BitVec 1 :=
  let c1536_i32_66 : BitVec 32 := 1536#32
  let v129 : BitVec 1 := Scalar.cmpi .sgt v34 c1536_i32_66
  let v130 : BitVec 32 := Scalar.extui v129
  let c0_i32_67 : BitVec 32 := 0#32
  let v131 : BitVec 1 := Scalar.cmpi .ne v130 c0_i32_67
  v131

def k0_off196 (v34 : BitVec 32) (k0_t27 : Fin (k0_t27_loop v34).trips) : Fin 2 → Nat :=
  let c0_i32_155 : BitVec 32 := 0#32
  let c1_i32_157 : BitVec 32 := 1#32
  let arg12 : BitVec 32 := Scf.iv c0_i32_155 c1_i32_157 k0_t27
  let v299 : Index := Scalar.indexCast arg12
  let c0_167 : Index := 0#32
  ![v299.toNat, 0]
def k0_off197 (v34 : BitVec 32) (k0_t27 : Fin (k0_t27_loop v34).trips) : Fin 2 → Nat :=
  let c0_i32_155 : BitVec 32 := 0#32
  let c1_i32_157 : BitVec 32 := 1#32
  let arg12 : BitVec 32 := Scf.iv c0_i32_155 c1_i32_157 k0_t27
  let v302 : Index := Scalar.indexCast arg12
  let c16_168 : Index := 16#32
  ![v302.toNat, 16]
def k0_off198 (v34 : BitVec 32) (k0_t27 : Fin (k0_t27_loop v34).trips) : Fin 2 → Nat :=
  let c0_i32_155 : BitVec 32 := 0#32
  let c1_i32_157 : BitVec 32 := 1#32
  let arg12 : BitVec 32 := Scf.iv c0_i32_155 c1_i32_157 k0_t27
  let v305 : Index := Scalar.indexCast arg12
  let c32_169 : Index := 32#32
  ![v305.toNat, 32]
def k0_off199 (v34 : BitVec 32) (k0_t27 : Fin (k0_t27_loop v34).trips) : Fin 2 → Nat :=
  let c0_i32_155 : BitVec 32 := 0#32
  let c1_i32_157 : BitVec 32 := 1#32
  let arg12 : BitVec 32 := Scf.iv c0_i32_155 c1_i32_157 k0_t27
  let v308 : Index := Scalar.indexCast arg12
  let c48_170 : Index := 48#32
  ![v308.toNat, 48]
def k0_off200 (v34 : BitVec 32) (k0_t27 : Fin (k0_t27_loop v34).trips) : Fin 2 → Nat :=
  let c0_i32_155 : BitVec 32 := 0#32
  let c1_i32_157 : BitVec 32 := 1#32
  let arg12 : BitVec 32 := Scf.iv c0_i32_155 c1_i32_157 k0_t27
  let v311 : Index := Scalar.indexCast arg12
  let c64_171 : Index := 64#32
  ![v311.toNat, 64]
def k0_off201 (v34 : BitVec 32) (k0_t27 : Fin (k0_t27_loop v34).trips) : Fin 2 → Nat :=
  let c0_i32_155 : BitVec 32 := 0#32
  let c1_i32_157 : BitVec 32 := 1#32
  let arg12 : BitVec 32 := Scf.iv c0_i32_155 c1_i32_157 k0_t27
  let v314 : Index := Scalar.indexCast arg12
  let c80_172 : Index := 80#32
  ![v314.toNat, 80]
def k0_off202 (v34 : BitVec 32) (k0_t27 : Fin (k0_t27_loop v34).trips) : Fin 2 → Nat :=
  let c0_i32_155 : BitVec 32 := 0#32
  let c1_i32_157 : BitVec 32 := 1#32
  let arg12 : BitVec 32 := Scf.iv c0_i32_155 c1_i32_157 k0_t27
  let v317 : Index := Scalar.indexCast arg12
  let c96_173 : Index := 96#32
  ![v317.toNat, 96]
def k0_off203 (v34 : BitVec 32) (k0_t27 : Fin (k0_t27_loop v34).trips) : Fin 2 → Nat :=
  let c0_i32_155 : BitVec 32 := 0#32
  let c1_i32_157 : BitVec 32 := 1#32
  let arg12 : BitVec 32 := Scf.iv c0_i32_155 c1_i32_157 k0_t27
  let v320 : Index := Scalar.indexCast arg12
  let c112_174 : Index := 112#32
  ![v320.toNat, 112]
@[reducible] def k0_t28_loop (v34 : BitVec 32) : Scf.Loop 32 :=
  let c0_i32_155 : BitVec 32 := 0#32
  let c1536_i32_145 : BitVec 32 := 1536#32
  let v274 : BitVec 32 := Scalar.subi v34 c1536_i32_145
  let c128_i32_146 : BitVec 32 := 128#32
  let v275 : BitVec 32 := Scalar.minsi v274 c128_i32_146
  let v284 : BitVec 32 := Scalar.subi v275 c0_i32_155
  let c1_i32_156 : BitVec 32 := 1#32
  let v286 : BitVec 32 := Scalar.divsi v284 c1_i32_156
  let v287 : BitVec 32 := Scalar.muli v286 c1_i32_156
  let v288 : BitVec 32 := Scalar.addi c0_i32_155 v287
  let v285 : BitVec 32 := Scalar.addi c0_i32_155 v284
  let c1_i32_158 : BitVec 32 := 1#32
  ⟨v288, v285, c1_i32_158⟩
def k0_off204 (v34 : BitVec 32) (k0_t28 : Fin (k0_t28_loop v34).trips) : Fin 2 → Nat :=
  let c0_i32_155 : BitVec 32 := 0#32
  let c1536_i32_145 : BitVec 32 := 1536#32
  let v274 : BitVec 32 := Scalar.subi v34 c1536_i32_145
  let c128_i32_146 : BitVec 32 := 128#32
  let v275 : BitVec 32 := Scalar.minsi v274 c128_i32_146
  let v284 : BitVec 32 := Scalar.subi v275 c0_i32_155
  let c1_i32_156 : BitVec 32 := 1#32
  let v286 : BitVec 32 := Scalar.divsi v284 c1_i32_156
  let v287 : BitVec 32 := Scalar.muli v286 c1_i32_156
  let v288 : BitVec 32 := Scalar.addi c0_i32_155 v287
  let c1_i32_158 : BitVec 32 := 1#32
  let arg12 : BitVec 32 := Scf.iv v288 c1_i32_158 k0_t28
  let v299 : Index := Scalar.indexCast arg12
  let c0_167 : Index := 0#32
  ![v299.toNat, 0]
def k0_off205 (v34 : BitVec 32) (k0_t28 : Fin (k0_t28_loop v34).trips) : Fin 2 → Nat :=
  let c0_i32_155 : BitVec 32 := 0#32
  let c1536_i32_145 : BitVec 32 := 1536#32
  let v274 : BitVec 32 := Scalar.subi v34 c1536_i32_145
  let c128_i32_146 : BitVec 32 := 128#32
  let v275 : BitVec 32 := Scalar.minsi v274 c128_i32_146
  let v284 : BitVec 32 := Scalar.subi v275 c0_i32_155
  let c1_i32_156 : BitVec 32 := 1#32
  let v286 : BitVec 32 := Scalar.divsi v284 c1_i32_156
  let v287 : BitVec 32 := Scalar.muli v286 c1_i32_156
  let v288 : BitVec 32 := Scalar.addi c0_i32_155 v287
  let c1_i32_158 : BitVec 32 := 1#32
  let arg12 : BitVec 32 := Scf.iv v288 c1_i32_158 k0_t28
  let v302 : Index := Scalar.indexCast arg12
  let c16_168 : Index := 16#32
  ![v302.toNat, 16]
def k0_off206 (v34 : BitVec 32) (k0_t28 : Fin (k0_t28_loop v34).trips) : Fin 2 → Nat :=
  let c0_i32_155 : BitVec 32 := 0#32
  let c1536_i32_145 : BitVec 32 := 1536#32
  let v274 : BitVec 32 := Scalar.subi v34 c1536_i32_145
  let c128_i32_146 : BitVec 32 := 128#32
  let v275 : BitVec 32 := Scalar.minsi v274 c128_i32_146
  let v284 : BitVec 32 := Scalar.subi v275 c0_i32_155
  let c1_i32_156 : BitVec 32 := 1#32
  let v286 : BitVec 32 := Scalar.divsi v284 c1_i32_156
  let v287 : BitVec 32 := Scalar.muli v286 c1_i32_156
  let v288 : BitVec 32 := Scalar.addi c0_i32_155 v287
  let c1_i32_158 : BitVec 32 := 1#32
  let arg12 : BitVec 32 := Scf.iv v288 c1_i32_158 k0_t28
  let v305 : Index := Scalar.indexCast arg12
  let c32_169 : Index := 32#32
  ![v305.toNat, 32]
def k0_off207 (v34 : BitVec 32) (k0_t28 : Fin (k0_t28_loop v34).trips) : Fin 2 → Nat :=
  let c0_i32_155 : BitVec 32 := 0#32
  let c1536_i32_145 : BitVec 32 := 1536#32
  let v274 : BitVec 32 := Scalar.subi v34 c1536_i32_145
  let c128_i32_146 : BitVec 32 := 128#32
  let v275 : BitVec 32 := Scalar.minsi v274 c128_i32_146
  let v284 : BitVec 32 := Scalar.subi v275 c0_i32_155
  let c1_i32_156 : BitVec 32 := 1#32
  let v286 : BitVec 32 := Scalar.divsi v284 c1_i32_156
  let v287 : BitVec 32 := Scalar.muli v286 c1_i32_156
  let v288 : BitVec 32 := Scalar.addi c0_i32_155 v287
  let c1_i32_158 : BitVec 32 := 1#32
  let arg12 : BitVec 32 := Scf.iv v288 c1_i32_158 k0_t28
  let v308 : Index := Scalar.indexCast arg12
  let c48_170 : Index := 48#32
  ![v308.toNat, 48]
def k0_off208 (v34 : BitVec 32) (k0_t28 : Fin (k0_t28_loop v34).trips) : Fin 2 → Nat :=
  let c0_i32_155 : BitVec 32 := 0#32
  let c1536_i32_145 : BitVec 32 := 1536#32
  let v274 : BitVec 32 := Scalar.subi v34 c1536_i32_145
  let c128_i32_146 : BitVec 32 := 128#32
  let v275 : BitVec 32 := Scalar.minsi v274 c128_i32_146
  let v284 : BitVec 32 := Scalar.subi v275 c0_i32_155
  let c1_i32_156 : BitVec 32 := 1#32
  let v286 : BitVec 32 := Scalar.divsi v284 c1_i32_156
  let v287 : BitVec 32 := Scalar.muli v286 c1_i32_156
  let v288 : BitVec 32 := Scalar.addi c0_i32_155 v287
  let c1_i32_158 : BitVec 32 := 1#32
  let arg12 : BitVec 32 := Scf.iv v288 c1_i32_158 k0_t28
  let v311 : Index := Scalar.indexCast arg12
  let c64_171 : Index := 64#32
  ![v311.toNat, 64]
def k0_off209 (v34 : BitVec 32) (k0_t28 : Fin (k0_t28_loop v34).trips) : Fin 2 → Nat :=
  let c0_i32_155 : BitVec 32 := 0#32
  let c1536_i32_145 : BitVec 32 := 1536#32
  let v274 : BitVec 32 := Scalar.subi v34 c1536_i32_145
  let c128_i32_146 : BitVec 32 := 128#32
  let v275 : BitVec 32 := Scalar.minsi v274 c128_i32_146
  let v284 : BitVec 32 := Scalar.subi v275 c0_i32_155
  let c1_i32_156 : BitVec 32 := 1#32
  let v286 : BitVec 32 := Scalar.divsi v284 c1_i32_156
  let v287 : BitVec 32 := Scalar.muli v286 c1_i32_156
  let v288 : BitVec 32 := Scalar.addi c0_i32_155 v287
  let c1_i32_158 : BitVec 32 := 1#32
  let arg12 : BitVec 32 := Scf.iv v288 c1_i32_158 k0_t28
  let v314 : Index := Scalar.indexCast arg12
  let c80_172 : Index := 80#32
  ![v314.toNat, 80]
def k0_off210 (v34 : BitVec 32) (k0_t28 : Fin (k0_t28_loop v34).trips) : Fin 2 → Nat :=
  let c0_i32_155 : BitVec 32 := 0#32
  let c1536_i32_145 : BitVec 32 := 1536#32
  let v274 : BitVec 32 := Scalar.subi v34 c1536_i32_145
  let c128_i32_146 : BitVec 32 := 128#32
  let v275 : BitVec 32 := Scalar.minsi v274 c128_i32_146
  let v284 : BitVec 32 := Scalar.subi v275 c0_i32_155
  let c1_i32_156 : BitVec 32 := 1#32
  let v286 : BitVec 32 := Scalar.divsi v284 c1_i32_156
  let v287 : BitVec 32 := Scalar.muli v286 c1_i32_156
  let v288 : BitVec 32 := Scalar.addi c0_i32_155 v287
  let c1_i32_158 : BitVec 32 := 1#32
  let arg12 : BitVec 32 := Scf.iv v288 c1_i32_158 k0_t28
  let v317 : Index := Scalar.indexCast arg12
  let c96_173 : Index := 96#32
  ![v317.toNat, 96]
def k0_off211 (v34 : BitVec 32) (k0_t28 : Fin (k0_t28_loop v34).trips) : Fin 2 → Nat :=
  let c0_i32_155 : BitVec 32 := 0#32
  let c1536_i32_145 : BitVec 32 := 1536#32
  let v274 : BitVec 32 := Scalar.subi v34 c1536_i32_145
  let c128_i32_146 : BitVec 32 := 128#32
  let v275 : BitVec 32 := Scalar.minsi v274 c128_i32_146
  let v284 : BitVec 32 := Scalar.subi v275 c0_i32_155
  let c1_i32_156 : BitVec 32 := 1#32
  let v286 : BitVec 32 := Scalar.divsi v284 c1_i32_156
  let v287 : BitVec 32 := Scalar.muli v286 c1_i32_156
  let v288 : BitVec 32 := Scalar.addi c0_i32_155 v287
  let c1_i32_158 : BitVec 32 := 1#32
  let arg12 : BitVec 32 := Scf.iv v288 c1_i32_158 k0_t28
  let v320 : Index := Scalar.indexCast arg12
  let c112_174 : Index := 112#32
  ![v320.toNat, 112]
@[reducible] def k0_t29_loop (v34 : BitVec 32) : Scf.Loop 32 :=
  let c0_i32_155 : BitVec 32 := 0#32
  let c1664_i32_145 : BitVec 32 := 1664#32
  let v274 : BitVec 32 := Scalar.subi v34 c1664_i32_145
  let c128_i32_146 : BitVec 32 := 128#32
  let v275 : BitVec 32 := Scalar.minsi v274 c128_i32_146
  let v284 : BitVec 32 := Scalar.subi v275 c0_i32_155
  let c1_i32_156 : BitVec 32 := 1#32
  let v286 : BitVec 32 := Scalar.divsi v284 c1_i32_156
  let v287 : BitVec 32 := Scalar.muli v286 c1_i32_156
  let v288 : BitVec 32 := Scalar.addi c0_i32_155 v287
  let c1_i32_157 : BitVec 32 := 1#32
  ⟨c0_i32_155, v288, c1_i32_157⟩
def k0_cond29 (v34 : BitVec 32) : BitVec 1 :=
  let c1664_i32_69 : BitVec 32 := 1664#32
  let v135 : BitVec 1 := Scalar.cmpi .sgt v34 c1664_i32_69
  let v136 : BitVec 32 := Scalar.extui v135
  let c0_i32_70 : BitVec 32 := 0#32
  let v137 : BitVec 1 := Scalar.cmpi .ne v136 c0_i32_70
  v137

def k0_off212 (v34 : BitVec 32) (k0_t29 : Fin (k0_t29_loop v34).trips) : Fin 2 → Nat :=
  let c0_i32_155 : BitVec 32 := 0#32
  let c1_i32_157 : BitVec 32 := 1#32
  let arg12 : BitVec 32 := Scf.iv c0_i32_155 c1_i32_157 k0_t29
  let v299 : Index := Scalar.indexCast arg12
  let c0_167 : Index := 0#32
  ![v299.toNat, 0]
def k0_off213 (v34 : BitVec 32) (k0_t29 : Fin (k0_t29_loop v34).trips) : Fin 2 → Nat :=
  let c0_i32_155 : BitVec 32 := 0#32
  let c1_i32_157 : BitVec 32 := 1#32
  let arg12 : BitVec 32 := Scf.iv c0_i32_155 c1_i32_157 k0_t29
  let v302 : Index := Scalar.indexCast arg12
  let c16_168 : Index := 16#32
  ![v302.toNat, 16]
def k0_off214 (v34 : BitVec 32) (k0_t29 : Fin (k0_t29_loop v34).trips) : Fin 2 → Nat :=
  let c0_i32_155 : BitVec 32 := 0#32
  let c1_i32_157 : BitVec 32 := 1#32
  let arg12 : BitVec 32 := Scf.iv c0_i32_155 c1_i32_157 k0_t29
  let v305 : Index := Scalar.indexCast arg12
  let c32_169 : Index := 32#32
  ![v305.toNat, 32]
def k0_off215 (v34 : BitVec 32) (k0_t29 : Fin (k0_t29_loop v34).trips) : Fin 2 → Nat :=
  let c0_i32_155 : BitVec 32 := 0#32
  let c1_i32_157 : BitVec 32 := 1#32
  let arg12 : BitVec 32 := Scf.iv c0_i32_155 c1_i32_157 k0_t29
  let v308 : Index := Scalar.indexCast arg12
  let c48_170 : Index := 48#32
  ![v308.toNat, 48]
def k0_off216 (v34 : BitVec 32) (k0_t29 : Fin (k0_t29_loop v34).trips) : Fin 2 → Nat :=
  let c0_i32_155 : BitVec 32 := 0#32
  let c1_i32_157 : BitVec 32 := 1#32
  let arg12 : BitVec 32 := Scf.iv c0_i32_155 c1_i32_157 k0_t29
  let v311 : Index := Scalar.indexCast arg12
  let c64_171 : Index := 64#32
  ![v311.toNat, 64]
def k0_off217 (v34 : BitVec 32) (k0_t29 : Fin (k0_t29_loop v34).trips) : Fin 2 → Nat :=
  let c0_i32_155 : BitVec 32 := 0#32
  let c1_i32_157 : BitVec 32 := 1#32
  let arg12 : BitVec 32 := Scf.iv c0_i32_155 c1_i32_157 k0_t29
  let v314 : Index := Scalar.indexCast arg12
  let c80_172 : Index := 80#32
  ![v314.toNat, 80]
def k0_off218 (v34 : BitVec 32) (k0_t29 : Fin (k0_t29_loop v34).trips) : Fin 2 → Nat :=
  let c0_i32_155 : BitVec 32 := 0#32
  let c1_i32_157 : BitVec 32 := 1#32
  let arg12 : BitVec 32 := Scf.iv c0_i32_155 c1_i32_157 k0_t29
  let v317 : Index := Scalar.indexCast arg12
  let c96_173 : Index := 96#32
  ![v317.toNat, 96]
def k0_off219 (v34 : BitVec 32) (k0_t29 : Fin (k0_t29_loop v34).trips) : Fin 2 → Nat :=
  let c0_i32_155 : BitVec 32 := 0#32
  let c1_i32_157 : BitVec 32 := 1#32
  let arg12 : BitVec 32 := Scf.iv c0_i32_155 c1_i32_157 k0_t29
  let v320 : Index := Scalar.indexCast arg12
  let c112_174 : Index := 112#32
  ![v320.toNat, 112]
@[reducible] def k0_t30_loop (v34 : BitVec 32) : Scf.Loop 32 :=
  let c0_i32_155 : BitVec 32 := 0#32
  let c1664_i32_145 : BitVec 32 := 1664#32
  let v274 : BitVec 32 := Scalar.subi v34 c1664_i32_145
  let c128_i32_146 : BitVec 32 := 128#32
  let v275 : BitVec 32 := Scalar.minsi v274 c128_i32_146
  let v284 : BitVec 32 := Scalar.subi v275 c0_i32_155
  let c1_i32_156 : BitVec 32 := 1#32
  let v286 : BitVec 32 := Scalar.divsi v284 c1_i32_156
  let v287 : BitVec 32 := Scalar.muli v286 c1_i32_156
  let v288 : BitVec 32 := Scalar.addi c0_i32_155 v287
  let v285 : BitVec 32 := Scalar.addi c0_i32_155 v284
  let c1_i32_158 : BitVec 32 := 1#32
  ⟨v288, v285, c1_i32_158⟩
def k0_off220 (v34 : BitVec 32) (k0_t30 : Fin (k0_t30_loop v34).trips) : Fin 2 → Nat :=
  let c0_i32_155 : BitVec 32 := 0#32
  let c1664_i32_145 : BitVec 32 := 1664#32
  let v274 : BitVec 32 := Scalar.subi v34 c1664_i32_145
  let c128_i32_146 : BitVec 32 := 128#32
  let v275 : BitVec 32 := Scalar.minsi v274 c128_i32_146
  let v284 : BitVec 32 := Scalar.subi v275 c0_i32_155
  let c1_i32_156 : BitVec 32 := 1#32
  let v286 : BitVec 32 := Scalar.divsi v284 c1_i32_156
  let v287 : BitVec 32 := Scalar.muli v286 c1_i32_156
  let v288 : BitVec 32 := Scalar.addi c0_i32_155 v287
  let c1_i32_158 : BitVec 32 := 1#32
  let arg12 : BitVec 32 := Scf.iv v288 c1_i32_158 k0_t30
  let v299 : Index := Scalar.indexCast arg12
  let c0_167 : Index := 0#32
  ![v299.toNat, 0]
def k0_off221 (v34 : BitVec 32) (k0_t30 : Fin (k0_t30_loop v34).trips) : Fin 2 → Nat :=
  let c0_i32_155 : BitVec 32 := 0#32
  let c1664_i32_145 : BitVec 32 := 1664#32
  let v274 : BitVec 32 := Scalar.subi v34 c1664_i32_145
  let c128_i32_146 : BitVec 32 := 128#32
  let v275 : BitVec 32 := Scalar.minsi v274 c128_i32_146
  let v284 : BitVec 32 := Scalar.subi v275 c0_i32_155
  let c1_i32_156 : BitVec 32 := 1#32
  let v286 : BitVec 32 := Scalar.divsi v284 c1_i32_156
  let v287 : BitVec 32 := Scalar.muli v286 c1_i32_156
  let v288 : BitVec 32 := Scalar.addi c0_i32_155 v287
  let c1_i32_158 : BitVec 32 := 1#32
  let arg12 : BitVec 32 := Scf.iv v288 c1_i32_158 k0_t30
  let v302 : Index := Scalar.indexCast arg12
  let c16_168 : Index := 16#32
  ![v302.toNat, 16]
def k0_off222 (v34 : BitVec 32) (k0_t30 : Fin (k0_t30_loop v34).trips) : Fin 2 → Nat :=
  let c0_i32_155 : BitVec 32 := 0#32
  let c1664_i32_145 : BitVec 32 := 1664#32
  let v274 : BitVec 32 := Scalar.subi v34 c1664_i32_145
  let c128_i32_146 : BitVec 32 := 128#32
  let v275 : BitVec 32 := Scalar.minsi v274 c128_i32_146
  let v284 : BitVec 32 := Scalar.subi v275 c0_i32_155
  let c1_i32_156 : BitVec 32 := 1#32
  let v286 : BitVec 32 := Scalar.divsi v284 c1_i32_156
  let v287 : BitVec 32 := Scalar.muli v286 c1_i32_156
  let v288 : BitVec 32 := Scalar.addi c0_i32_155 v287
  let c1_i32_158 : BitVec 32 := 1#32
  let arg12 : BitVec 32 := Scf.iv v288 c1_i32_158 k0_t30
  let v305 : Index := Scalar.indexCast arg12
  let c32_169 : Index := 32#32
  ![v305.toNat, 32]
def k0_off223 (v34 : BitVec 32) (k0_t30 : Fin (k0_t30_loop v34).trips) : Fin 2 → Nat :=
  let c0_i32_155 : BitVec 32 := 0#32
  let c1664_i32_145 : BitVec 32 := 1664#32
  let v274 : BitVec 32 := Scalar.subi v34 c1664_i32_145
  let c128_i32_146 : BitVec 32 := 128#32
  let v275 : BitVec 32 := Scalar.minsi v274 c128_i32_146
  let v284 : BitVec 32 := Scalar.subi v275 c0_i32_155
  let c1_i32_156 : BitVec 32 := 1#32
  let v286 : BitVec 32 := Scalar.divsi v284 c1_i32_156
  let v287 : BitVec 32 := Scalar.muli v286 c1_i32_156
  let v288 : BitVec 32 := Scalar.addi c0_i32_155 v287
  let c1_i32_158 : BitVec 32 := 1#32
  let arg12 : BitVec 32 := Scf.iv v288 c1_i32_158 k0_t30
  let v308 : Index := Scalar.indexCast arg12
  let c48_170 : Index := 48#32
  ![v308.toNat, 48]
def k0_off224 (v34 : BitVec 32) (k0_t30 : Fin (k0_t30_loop v34).trips) : Fin 2 → Nat :=
  let c0_i32_155 : BitVec 32 := 0#32
  let c1664_i32_145 : BitVec 32 := 1664#32
  let v274 : BitVec 32 := Scalar.subi v34 c1664_i32_145
  let c128_i32_146 : BitVec 32 := 128#32
  let v275 : BitVec 32 := Scalar.minsi v274 c128_i32_146
  let v284 : BitVec 32 := Scalar.subi v275 c0_i32_155
  let c1_i32_156 : BitVec 32 := 1#32
  let v286 : BitVec 32 := Scalar.divsi v284 c1_i32_156
  let v287 : BitVec 32 := Scalar.muli v286 c1_i32_156
  let v288 : BitVec 32 := Scalar.addi c0_i32_155 v287
  let c1_i32_158 : BitVec 32 := 1#32
  let arg12 : BitVec 32 := Scf.iv v288 c1_i32_158 k0_t30
  let v311 : Index := Scalar.indexCast arg12
  let c64_171 : Index := 64#32
  ![v311.toNat, 64]
def k0_off225 (v34 : BitVec 32) (k0_t30 : Fin (k0_t30_loop v34).trips) : Fin 2 → Nat :=
  let c0_i32_155 : BitVec 32 := 0#32
  let c1664_i32_145 : BitVec 32 := 1664#32
  let v274 : BitVec 32 := Scalar.subi v34 c1664_i32_145
  let c128_i32_146 : BitVec 32 := 128#32
  let v275 : BitVec 32 := Scalar.minsi v274 c128_i32_146
  let v284 : BitVec 32 := Scalar.subi v275 c0_i32_155
  let c1_i32_156 : BitVec 32 := 1#32
  let v286 : BitVec 32 := Scalar.divsi v284 c1_i32_156
  let v287 : BitVec 32 := Scalar.muli v286 c1_i32_156
  let v288 : BitVec 32 := Scalar.addi c0_i32_155 v287
  let c1_i32_158 : BitVec 32 := 1#32
  let arg12 : BitVec 32 := Scf.iv v288 c1_i32_158 k0_t30
  let v314 : Index := Scalar.indexCast arg12
  let c80_172 : Index := 80#32
  ![v314.toNat, 80]
def k0_off226 (v34 : BitVec 32) (k0_t30 : Fin (k0_t30_loop v34).trips) : Fin 2 → Nat :=
  let c0_i32_155 : BitVec 32 := 0#32
  let c1664_i32_145 : BitVec 32 := 1664#32
  let v274 : BitVec 32 := Scalar.subi v34 c1664_i32_145
  let c128_i32_146 : BitVec 32 := 128#32
  let v275 : BitVec 32 := Scalar.minsi v274 c128_i32_146
  let v284 : BitVec 32 := Scalar.subi v275 c0_i32_155
  let c1_i32_156 : BitVec 32 := 1#32
  let v286 : BitVec 32 := Scalar.divsi v284 c1_i32_156
  let v287 : BitVec 32 := Scalar.muli v286 c1_i32_156
  let v288 : BitVec 32 := Scalar.addi c0_i32_155 v287
  let c1_i32_158 : BitVec 32 := 1#32
  let arg12 : BitVec 32 := Scf.iv v288 c1_i32_158 k0_t30
  let v317 : Index := Scalar.indexCast arg12
  let c96_173 : Index := 96#32
  ![v317.toNat, 96]
def k0_off227 (v34 : BitVec 32) (k0_t30 : Fin (k0_t30_loop v34).trips) : Fin 2 → Nat :=
  let c0_i32_155 : BitVec 32 := 0#32
  let c1664_i32_145 : BitVec 32 := 1664#32
  let v274 : BitVec 32 := Scalar.subi v34 c1664_i32_145
  let c128_i32_146 : BitVec 32 := 128#32
  let v275 : BitVec 32 := Scalar.minsi v274 c128_i32_146
  let v284 : BitVec 32 := Scalar.subi v275 c0_i32_155
  let c1_i32_156 : BitVec 32 := 1#32
  let v286 : BitVec 32 := Scalar.divsi v284 c1_i32_156
  let v287 : BitVec 32 := Scalar.muli v286 c1_i32_156
  let v288 : BitVec 32 := Scalar.addi c0_i32_155 v287
  let c1_i32_158 : BitVec 32 := 1#32
  let arg12 : BitVec 32 := Scf.iv v288 c1_i32_158 k0_t30
  let v320 : Index := Scalar.indexCast arg12
  let c112_174 : Index := 112#32
  ![v320.toNat, 112]
@[reducible] def k0_t31_loop (v34 : BitVec 32) : Scf.Loop 32 :=
  let c0_i32_155 : BitVec 32 := 0#32
  let c1792_i32_145 : BitVec 32 := 1792#32
  let v274 : BitVec 32 := Scalar.subi v34 c1792_i32_145
  let c128_i32_146 : BitVec 32 := 128#32
  let v275 : BitVec 32 := Scalar.minsi v274 c128_i32_146
  let v284 : BitVec 32 := Scalar.subi v275 c0_i32_155
  let c1_i32_156 : BitVec 32 := 1#32
  let v286 : BitVec 32 := Scalar.divsi v284 c1_i32_156
  let v287 : BitVec 32 := Scalar.muli v286 c1_i32_156
  let v288 : BitVec 32 := Scalar.addi c0_i32_155 v287
  let c1_i32_157 : BitVec 32 := 1#32
  ⟨c0_i32_155, v288, c1_i32_157⟩
def k0_cond31 (v34 : BitVec 32) : BitVec 1 :=
  let c1792_i32_72 : BitVec 32 := 1792#32
  let v141 : BitVec 1 := Scalar.cmpi .sgt v34 c1792_i32_72
  let v142 : BitVec 32 := Scalar.extui v141
  let c0_i32_73 : BitVec 32 := 0#32
  let v143 : BitVec 1 := Scalar.cmpi .ne v142 c0_i32_73
  v143

def k0_off228 (v34 : BitVec 32) (k0_t31 : Fin (k0_t31_loop v34).trips) : Fin 2 → Nat :=
  let c0_i32_155 : BitVec 32 := 0#32
  let c1_i32_157 : BitVec 32 := 1#32
  let arg12 : BitVec 32 := Scf.iv c0_i32_155 c1_i32_157 k0_t31
  let v299 : Index := Scalar.indexCast arg12
  let c0_167 : Index := 0#32
  ![v299.toNat, 0]
def k0_off229 (v34 : BitVec 32) (k0_t31 : Fin (k0_t31_loop v34).trips) : Fin 2 → Nat :=
  let c0_i32_155 : BitVec 32 := 0#32
  let c1_i32_157 : BitVec 32 := 1#32
  let arg12 : BitVec 32 := Scf.iv c0_i32_155 c1_i32_157 k0_t31
  let v302 : Index := Scalar.indexCast arg12
  let c16_168 : Index := 16#32
  ![v302.toNat, 16]
def k0_off230 (v34 : BitVec 32) (k0_t31 : Fin (k0_t31_loop v34).trips) : Fin 2 → Nat :=
  let c0_i32_155 : BitVec 32 := 0#32
  let c1_i32_157 : BitVec 32 := 1#32
  let arg12 : BitVec 32 := Scf.iv c0_i32_155 c1_i32_157 k0_t31
  let v305 : Index := Scalar.indexCast arg12
  let c32_169 : Index := 32#32
  ![v305.toNat, 32]
def k0_off231 (v34 : BitVec 32) (k0_t31 : Fin (k0_t31_loop v34).trips) : Fin 2 → Nat :=
  let c0_i32_155 : BitVec 32 := 0#32
  let c1_i32_157 : BitVec 32 := 1#32
  let arg12 : BitVec 32 := Scf.iv c0_i32_155 c1_i32_157 k0_t31
  let v308 : Index := Scalar.indexCast arg12
  let c48_170 : Index := 48#32
  ![v308.toNat, 48]
def k0_off232 (v34 : BitVec 32) (k0_t31 : Fin (k0_t31_loop v34).trips) : Fin 2 → Nat :=
  let c0_i32_155 : BitVec 32 := 0#32
  let c1_i32_157 : BitVec 32 := 1#32
  let arg12 : BitVec 32 := Scf.iv c0_i32_155 c1_i32_157 k0_t31
  let v311 : Index := Scalar.indexCast arg12
  let c64_171 : Index := 64#32
  ![v311.toNat, 64]
def k0_off233 (v34 : BitVec 32) (k0_t31 : Fin (k0_t31_loop v34).trips) : Fin 2 → Nat :=
  let c0_i32_155 : BitVec 32 := 0#32
  let c1_i32_157 : BitVec 32 := 1#32
  let arg12 : BitVec 32 := Scf.iv c0_i32_155 c1_i32_157 k0_t31
  let v314 : Index := Scalar.indexCast arg12
  let c80_172 : Index := 80#32
  ![v314.toNat, 80]
def k0_off234 (v34 : BitVec 32) (k0_t31 : Fin (k0_t31_loop v34).trips) : Fin 2 → Nat :=
  let c0_i32_155 : BitVec 32 := 0#32
  let c1_i32_157 : BitVec 32 := 1#32
  let arg12 : BitVec 32 := Scf.iv c0_i32_155 c1_i32_157 k0_t31
  let v317 : Index := Scalar.indexCast arg12
  let c96_173 : Index := 96#32
  ![v317.toNat, 96]
def k0_off235 (v34 : BitVec 32) (k0_t31 : Fin (k0_t31_loop v34).trips) : Fin 2 → Nat :=
  let c0_i32_155 : BitVec 32 := 0#32
  let c1_i32_157 : BitVec 32 := 1#32
  let arg12 : BitVec 32 := Scf.iv c0_i32_155 c1_i32_157 k0_t31
  let v320 : Index := Scalar.indexCast arg12
  let c112_174 : Index := 112#32
  ![v320.toNat, 112]
@[reducible] def k0_t32_loop (v34 : BitVec 32) : Scf.Loop 32 :=
  let c0_i32_155 : BitVec 32 := 0#32
  let c1792_i32_145 : BitVec 32 := 1792#32
  let v274 : BitVec 32 := Scalar.subi v34 c1792_i32_145
  let c128_i32_146 : BitVec 32 := 128#32
  let v275 : BitVec 32 := Scalar.minsi v274 c128_i32_146
  let v284 : BitVec 32 := Scalar.subi v275 c0_i32_155
  let c1_i32_156 : BitVec 32 := 1#32
  let v286 : BitVec 32 := Scalar.divsi v284 c1_i32_156
  let v287 : BitVec 32 := Scalar.muli v286 c1_i32_156
  let v288 : BitVec 32 := Scalar.addi c0_i32_155 v287
  let v285 : BitVec 32 := Scalar.addi c0_i32_155 v284
  let c1_i32_158 : BitVec 32 := 1#32
  ⟨v288, v285, c1_i32_158⟩
def k0_off236 (v34 : BitVec 32) (k0_t32 : Fin (k0_t32_loop v34).trips) : Fin 2 → Nat :=
  let c0_i32_155 : BitVec 32 := 0#32
  let c1792_i32_145 : BitVec 32 := 1792#32
  let v274 : BitVec 32 := Scalar.subi v34 c1792_i32_145
  let c128_i32_146 : BitVec 32 := 128#32
  let v275 : BitVec 32 := Scalar.minsi v274 c128_i32_146
  let v284 : BitVec 32 := Scalar.subi v275 c0_i32_155
  let c1_i32_156 : BitVec 32 := 1#32
  let v286 : BitVec 32 := Scalar.divsi v284 c1_i32_156
  let v287 : BitVec 32 := Scalar.muli v286 c1_i32_156
  let v288 : BitVec 32 := Scalar.addi c0_i32_155 v287
  let c1_i32_158 : BitVec 32 := 1#32
  let arg12 : BitVec 32 := Scf.iv v288 c1_i32_158 k0_t32
  let v299 : Index := Scalar.indexCast arg12
  let c0_167 : Index := 0#32
  ![v299.toNat, 0]
def k0_off237 (v34 : BitVec 32) (k0_t32 : Fin (k0_t32_loop v34).trips) : Fin 2 → Nat :=
  let c0_i32_155 : BitVec 32 := 0#32
  let c1792_i32_145 : BitVec 32 := 1792#32
  let v274 : BitVec 32 := Scalar.subi v34 c1792_i32_145
  let c128_i32_146 : BitVec 32 := 128#32
  let v275 : BitVec 32 := Scalar.minsi v274 c128_i32_146
  let v284 : BitVec 32 := Scalar.subi v275 c0_i32_155
  let c1_i32_156 : BitVec 32 := 1#32
  let v286 : BitVec 32 := Scalar.divsi v284 c1_i32_156
  let v287 : BitVec 32 := Scalar.muli v286 c1_i32_156
  let v288 : BitVec 32 := Scalar.addi c0_i32_155 v287
  let c1_i32_158 : BitVec 32 := 1#32
  let arg12 : BitVec 32 := Scf.iv v288 c1_i32_158 k0_t32
  let v302 : Index := Scalar.indexCast arg12
  let c16_168 : Index := 16#32
  ![v302.toNat, 16]
def k0_off238 (v34 : BitVec 32) (k0_t32 : Fin (k0_t32_loop v34).trips) : Fin 2 → Nat :=
  let c0_i32_155 : BitVec 32 := 0#32
  let c1792_i32_145 : BitVec 32 := 1792#32
  let v274 : BitVec 32 := Scalar.subi v34 c1792_i32_145
  let c128_i32_146 : BitVec 32 := 128#32
  let v275 : BitVec 32 := Scalar.minsi v274 c128_i32_146
  let v284 : BitVec 32 := Scalar.subi v275 c0_i32_155
  let c1_i32_156 : BitVec 32 := 1#32
  let v286 : BitVec 32 := Scalar.divsi v284 c1_i32_156
  let v287 : BitVec 32 := Scalar.muli v286 c1_i32_156
  let v288 : BitVec 32 := Scalar.addi c0_i32_155 v287
  let c1_i32_158 : BitVec 32 := 1#32
  let arg12 : BitVec 32 := Scf.iv v288 c1_i32_158 k0_t32
  let v305 : Index := Scalar.indexCast arg12
  let c32_169 : Index := 32#32
  ![v305.toNat, 32]
def k0_off239 (v34 : BitVec 32) (k0_t32 : Fin (k0_t32_loop v34).trips) : Fin 2 → Nat :=
  let c0_i32_155 : BitVec 32 := 0#32
  let c1792_i32_145 : BitVec 32 := 1792#32
  let v274 : BitVec 32 := Scalar.subi v34 c1792_i32_145
  let c128_i32_146 : BitVec 32 := 128#32
  let v275 : BitVec 32 := Scalar.minsi v274 c128_i32_146
  let v284 : BitVec 32 := Scalar.subi v275 c0_i32_155
  let c1_i32_156 : BitVec 32 := 1#32
  let v286 : BitVec 32 := Scalar.divsi v284 c1_i32_156
  let v287 : BitVec 32 := Scalar.muli v286 c1_i32_156
  let v288 : BitVec 32 := Scalar.addi c0_i32_155 v287
  let c1_i32_158 : BitVec 32 := 1#32
  let arg12 : BitVec 32 := Scf.iv v288 c1_i32_158 k0_t32
  let v308 : Index := Scalar.indexCast arg12
  let c48_170 : Index := 48#32
  ![v308.toNat, 48]
def k0_off240 (v34 : BitVec 32) (k0_t32 : Fin (k0_t32_loop v34).trips) : Fin 2 → Nat :=
  let c0_i32_155 : BitVec 32 := 0#32
  let c1792_i32_145 : BitVec 32 := 1792#32
  let v274 : BitVec 32 := Scalar.subi v34 c1792_i32_145
  let c128_i32_146 : BitVec 32 := 128#32
  let v275 : BitVec 32 := Scalar.minsi v274 c128_i32_146
  let v284 : BitVec 32 := Scalar.subi v275 c0_i32_155
  let c1_i32_156 : BitVec 32 := 1#32
  let v286 : BitVec 32 := Scalar.divsi v284 c1_i32_156
  let v287 : BitVec 32 := Scalar.muli v286 c1_i32_156
  let v288 : BitVec 32 := Scalar.addi c0_i32_155 v287
  let c1_i32_158 : BitVec 32 := 1#32
  let arg12 : BitVec 32 := Scf.iv v288 c1_i32_158 k0_t32
  let v311 : Index := Scalar.indexCast arg12
  let c64_171 : Index := 64#32
  ![v311.toNat, 64]
def k0_off241 (v34 : BitVec 32) (k0_t32 : Fin (k0_t32_loop v34).trips) : Fin 2 → Nat :=
  let c0_i32_155 : BitVec 32 := 0#32
  let c1792_i32_145 : BitVec 32 := 1792#32
  let v274 : BitVec 32 := Scalar.subi v34 c1792_i32_145
  let c128_i32_146 : BitVec 32 := 128#32
  let v275 : BitVec 32 := Scalar.minsi v274 c128_i32_146
  let v284 : BitVec 32 := Scalar.subi v275 c0_i32_155
  let c1_i32_156 : BitVec 32 := 1#32
  let v286 : BitVec 32 := Scalar.divsi v284 c1_i32_156
  let v287 : BitVec 32 := Scalar.muli v286 c1_i32_156
  let v288 : BitVec 32 := Scalar.addi c0_i32_155 v287
  let c1_i32_158 : BitVec 32 := 1#32
  let arg12 : BitVec 32 := Scf.iv v288 c1_i32_158 k0_t32
  let v314 : Index := Scalar.indexCast arg12
  let c80_172 : Index := 80#32
  ![v314.toNat, 80]
def k0_off242 (v34 : BitVec 32) (k0_t32 : Fin (k0_t32_loop v34).trips) : Fin 2 → Nat :=
  let c0_i32_155 : BitVec 32 := 0#32
  let c1792_i32_145 : BitVec 32 := 1792#32
  let v274 : BitVec 32 := Scalar.subi v34 c1792_i32_145
  let c128_i32_146 : BitVec 32 := 128#32
  let v275 : BitVec 32 := Scalar.minsi v274 c128_i32_146
  let v284 : BitVec 32 := Scalar.subi v275 c0_i32_155
  let c1_i32_156 : BitVec 32 := 1#32
  let v286 : BitVec 32 := Scalar.divsi v284 c1_i32_156
  let v287 : BitVec 32 := Scalar.muli v286 c1_i32_156
  let v288 : BitVec 32 := Scalar.addi c0_i32_155 v287
  let c1_i32_158 : BitVec 32 := 1#32
  let arg12 : BitVec 32 := Scf.iv v288 c1_i32_158 k0_t32
  let v317 : Index := Scalar.indexCast arg12
  let c96_173 : Index := 96#32
  ![v317.toNat, 96]
def k0_off243 (v34 : BitVec 32) (k0_t32 : Fin (k0_t32_loop v34).trips) : Fin 2 → Nat :=
  let c0_i32_155 : BitVec 32 := 0#32
  let c1792_i32_145 : BitVec 32 := 1792#32
  let v274 : BitVec 32 := Scalar.subi v34 c1792_i32_145
  let c128_i32_146 : BitVec 32 := 128#32
  let v275 : BitVec 32 := Scalar.minsi v274 c128_i32_146
  let v284 : BitVec 32 := Scalar.subi v275 c0_i32_155
  let c1_i32_156 : BitVec 32 := 1#32
  let v286 : BitVec 32 := Scalar.divsi v284 c1_i32_156
  let v287 : BitVec 32 := Scalar.muli v286 c1_i32_156
  let v288 : BitVec 32 := Scalar.addi c0_i32_155 v287
  let c1_i32_158 : BitVec 32 := 1#32
  let arg12 : BitVec 32 := Scf.iv v288 c1_i32_158 k0_t32
  let v320 : Index := Scalar.indexCast arg12
  let c112_174 : Index := 112#32
  ![v320.toNat, 112]
@[reducible] def k0_t33_loop (v34 : BitVec 32) : Scf.Loop 32 :=
  let c0_i32_155 : BitVec 32 := 0#32
  let c1920_i32_145 : BitVec 32 := 1920#32
  let v274 : BitVec 32 := Scalar.subi v34 c1920_i32_145
  let c128_i32_146 : BitVec 32 := 128#32
  let v275 : BitVec 32 := Scalar.minsi v274 c128_i32_146
  let v284 : BitVec 32 := Scalar.subi v275 c0_i32_155
  let c1_i32_156 : BitVec 32 := 1#32
  let v286 : BitVec 32 := Scalar.divsi v284 c1_i32_156
  let v287 : BitVec 32 := Scalar.muli v286 c1_i32_156
  let v288 : BitVec 32 := Scalar.addi c0_i32_155 v287
  let c1_i32_157 : BitVec 32 := 1#32
  ⟨c0_i32_155, v288, c1_i32_157⟩
def k0_cond33 (v34 : BitVec 32) : BitVec 1 :=
  let c1920_i32_75 : BitVec 32 := 1920#32
  let v147 : BitVec 1 := Scalar.cmpi .sgt v34 c1920_i32_75
  let v148 : BitVec 32 := Scalar.extui v147
  let c0_i32_76 : BitVec 32 := 0#32
  let v149 : BitVec 1 := Scalar.cmpi .ne v148 c0_i32_76
  v149

def k0_off244 (v34 : BitVec 32) (k0_t33 : Fin (k0_t33_loop v34).trips) : Fin 2 → Nat :=
  let c0_i32_155 : BitVec 32 := 0#32
  let c1_i32_157 : BitVec 32 := 1#32
  let arg12 : BitVec 32 := Scf.iv c0_i32_155 c1_i32_157 k0_t33
  let v299 : Index := Scalar.indexCast arg12
  let c0_167 : Index := 0#32
  ![v299.toNat, 0]
def k0_off245 (v34 : BitVec 32) (k0_t33 : Fin (k0_t33_loop v34).trips) : Fin 2 → Nat :=
  let c0_i32_155 : BitVec 32 := 0#32
  let c1_i32_157 : BitVec 32 := 1#32
  let arg12 : BitVec 32 := Scf.iv c0_i32_155 c1_i32_157 k0_t33
  let v302 : Index := Scalar.indexCast arg12
  let c16_168 : Index := 16#32
  ![v302.toNat, 16]
def k0_off246 (v34 : BitVec 32) (k0_t33 : Fin (k0_t33_loop v34).trips) : Fin 2 → Nat :=
  let c0_i32_155 : BitVec 32 := 0#32
  let c1_i32_157 : BitVec 32 := 1#32
  let arg12 : BitVec 32 := Scf.iv c0_i32_155 c1_i32_157 k0_t33
  let v305 : Index := Scalar.indexCast arg12
  let c32_169 : Index := 32#32
  ![v305.toNat, 32]
def k0_off247 (v34 : BitVec 32) (k0_t33 : Fin (k0_t33_loop v34).trips) : Fin 2 → Nat :=
  let c0_i32_155 : BitVec 32 := 0#32
  let c1_i32_157 : BitVec 32 := 1#32
  let arg12 : BitVec 32 := Scf.iv c0_i32_155 c1_i32_157 k0_t33
  let v308 : Index := Scalar.indexCast arg12
  let c48_170 : Index := 48#32
  ![v308.toNat, 48]
def k0_off248 (v34 : BitVec 32) (k0_t33 : Fin (k0_t33_loop v34).trips) : Fin 2 → Nat :=
  let c0_i32_155 : BitVec 32 := 0#32
  let c1_i32_157 : BitVec 32 := 1#32
  let arg12 : BitVec 32 := Scf.iv c0_i32_155 c1_i32_157 k0_t33
  let v311 : Index := Scalar.indexCast arg12
  let c64_171 : Index := 64#32
  ![v311.toNat, 64]
def k0_off249 (v34 : BitVec 32) (k0_t33 : Fin (k0_t33_loop v34).trips) : Fin 2 → Nat :=
  let c0_i32_155 : BitVec 32 := 0#32
  let c1_i32_157 : BitVec 32 := 1#32
  let arg12 : BitVec 32 := Scf.iv c0_i32_155 c1_i32_157 k0_t33
  let v314 : Index := Scalar.indexCast arg12
  let c80_172 : Index := 80#32
  ![v314.toNat, 80]
def k0_off250 (v34 : BitVec 32) (k0_t33 : Fin (k0_t33_loop v34).trips) : Fin 2 → Nat :=
  let c0_i32_155 : BitVec 32 := 0#32
  let c1_i32_157 : BitVec 32 := 1#32
  let arg12 : BitVec 32 := Scf.iv c0_i32_155 c1_i32_157 k0_t33
  let v317 : Index := Scalar.indexCast arg12
  let c96_173 : Index := 96#32
  ![v317.toNat, 96]
def k0_off251 (v34 : BitVec 32) (k0_t33 : Fin (k0_t33_loop v34).trips) : Fin 2 → Nat :=
  let c0_i32_155 : BitVec 32 := 0#32
  let c1_i32_157 : BitVec 32 := 1#32
  let arg12 : BitVec 32 := Scf.iv c0_i32_155 c1_i32_157 k0_t33
  let v320 : Index := Scalar.indexCast arg12
  let c112_174 : Index := 112#32
  ![v320.toNat, 112]
@[reducible] def k0_t34_loop (v34 : BitVec 32) : Scf.Loop 32 :=
  let c0_i32_155 : BitVec 32 := 0#32
  let c1920_i32_145 : BitVec 32 := 1920#32
  let v274 : BitVec 32 := Scalar.subi v34 c1920_i32_145
  let c128_i32_146 : BitVec 32 := 128#32
  let v275 : BitVec 32 := Scalar.minsi v274 c128_i32_146
  let v284 : BitVec 32 := Scalar.subi v275 c0_i32_155
  let c1_i32_156 : BitVec 32 := 1#32
  let v286 : BitVec 32 := Scalar.divsi v284 c1_i32_156
  let v287 : BitVec 32 := Scalar.muli v286 c1_i32_156
  let v288 : BitVec 32 := Scalar.addi c0_i32_155 v287
  let v285 : BitVec 32 := Scalar.addi c0_i32_155 v284
  let c1_i32_158 : BitVec 32 := 1#32
  ⟨v288, v285, c1_i32_158⟩
def k0_off252 (v34 : BitVec 32) (k0_t34 : Fin (k0_t34_loop v34).trips) : Fin 2 → Nat :=
  let c0_i32_155 : BitVec 32 := 0#32
  let c1920_i32_145 : BitVec 32 := 1920#32
  let v274 : BitVec 32 := Scalar.subi v34 c1920_i32_145
  let c128_i32_146 : BitVec 32 := 128#32
  let v275 : BitVec 32 := Scalar.minsi v274 c128_i32_146
  let v284 : BitVec 32 := Scalar.subi v275 c0_i32_155
  let c1_i32_156 : BitVec 32 := 1#32
  let v286 : BitVec 32 := Scalar.divsi v284 c1_i32_156
  let v287 : BitVec 32 := Scalar.muli v286 c1_i32_156
  let v288 : BitVec 32 := Scalar.addi c0_i32_155 v287
  let c1_i32_158 : BitVec 32 := 1#32
  let arg12 : BitVec 32 := Scf.iv v288 c1_i32_158 k0_t34
  let v299 : Index := Scalar.indexCast arg12
  let c0_167 : Index := 0#32
  ![v299.toNat, 0]
def k0_off253 (v34 : BitVec 32) (k0_t34 : Fin (k0_t34_loop v34).trips) : Fin 2 → Nat :=
  let c0_i32_155 : BitVec 32 := 0#32
  let c1920_i32_145 : BitVec 32 := 1920#32
  let v274 : BitVec 32 := Scalar.subi v34 c1920_i32_145
  let c128_i32_146 : BitVec 32 := 128#32
  let v275 : BitVec 32 := Scalar.minsi v274 c128_i32_146
  let v284 : BitVec 32 := Scalar.subi v275 c0_i32_155
  let c1_i32_156 : BitVec 32 := 1#32
  let v286 : BitVec 32 := Scalar.divsi v284 c1_i32_156
  let v287 : BitVec 32 := Scalar.muli v286 c1_i32_156
  let v288 : BitVec 32 := Scalar.addi c0_i32_155 v287
  let c1_i32_158 : BitVec 32 := 1#32
  let arg12 : BitVec 32 := Scf.iv v288 c1_i32_158 k0_t34
  let v302 : Index := Scalar.indexCast arg12
  let c16_168 : Index := 16#32
  ![v302.toNat, 16]
def k0_off254 (v34 : BitVec 32) (k0_t34 : Fin (k0_t34_loop v34).trips) : Fin 2 → Nat :=
  let c0_i32_155 : BitVec 32 := 0#32
  let c1920_i32_145 : BitVec 32 := 1920#32
  let v274 : BitVec 32 := Scalar.subi v34 c1920_i32_145
  let c128_i32_146 : BitVec 32 := 128#32
  let v275 : BitVec 32 := Scalar.minsi v274 c128_i32_146
  let v284 : BitVec 32 := Scalar.subi v275 c0_i32_155
  let c1_i32_156 : BitVec 32 := 1#32
  let v286 : BitVec 32 := Scalar.divsi v284 c1_i32_156
  let v287 : BitVec 32 := Scalar.muli v286 c1_i32_156
  let v288 : BitVec 32 := Scalar.addi c0_i32_155 v287
  let c1_i32_158 : BitVec 32 := 1#32
  let arg12 : BitVec 32 := Scf.iv v288 c1_i32_158 k0_t34
  let v305 : Index := Scalar.indexCast arg12
  let c32_169 : Index := 32#32
  ![v305.toNat, 32]
def k0_off255 (v34 : BitVec 32) (k0_t34 : Fin (k0_t34_loop v34).trips) : Fin 2 → Nat :=
  let c0_i32_155 : BitVec 32 := 0#32
  let c1920_i32_145 : BitVec 32 := 1920#32
  let v274 : BitVec 32 := Scalar.subi v34 c1920_i32_145
  let c128_i32_146 : BitVec 32 := 128#32
  let v275 : BitVec 32 := Scalar.minsi v274 c128_i32_146
  let v284 : BitVec 32 := Scalar.subi v275 c0_i32_155
  let c1_i32_156 : BitVec 32 := 1#32
  let v286 : BitVec 32 := Scalar.divsi v284 c1_i32_156
  let v287 : BitVec 32 := Scalar.muli v286 c1_i32_156
  let v288 : BitVec 32 := Scalar.addi c0_i32_155 v287
  let c1_i32_158 : BitVec 32 := 1#32
  let arg12 : BitVec 32 := Scf.iv v288 c1_i32_158 k0_t34
  let v308 : Index := Scalar.indexCast arg12
  let c48_170 : Index := 48#32
  ![v308.toNat, 48]
def k0_off256 (v34 : BitVec 32) (k0_t34 : Fin (k0_t34_loop v34).trips) : Fin 2 → Nat :=
  let c0_i32_155 : BitVec 32 := 0#32
  let c1920_i32_145 : BitVec 32 := 1920#32
  let v274 : BitVec 32 := Scalar.subi v34 c1920_i32_145
  let c128_i32_146 : BitVec 32 := 128#32
  let v275 : BitVec 32 := Scalar.minsi v274 c128_i32_146
  let v284 : BitVec 32 := Scalar.subi v275 c0_i32_155
  let c1_i32_156 : BitVec 32 := 1#32
  let v286 : BitVec 32 := Scalar.divsi v284 c1_i32_156
  let v287 : BitVec 32 := Scalar.muli v286 c1_i32_156
  let v288 : BitVec 32 := Scalar.addi c0_i32_155 v287
  let c1_i32_158 : BitVec 32 := 1#32
  let arg12 : BitVec 32 := Scf.iv v288 c1_i32_158 k0_t34
  let v311 : Index := Scalar.indexCast arg12
  let c64_171 : Index := 64#32
  ![v311.toNat, 64]
def k0_off257 (v34 : BitVec 32) (k0_t34 : Fin (k0_t34_loop v34).trips) : Fin 2 → Nat :=
  let c0_i32_155 : BitVec 32 := 0#32
  let c1920_i32_145 : BitVec 32 := 1920#32
  let v274 : BitVec 32 := Scalar.subi v34 c1920_i32_145
  let c128_i32_146 : BitVec 32 := 128#32
  let v275 : BitVec 32 := Scalar.minsi v274 c128_i32_146
  let v284 : BitVec 32 := Scalar.subi v275 c0_i32_155
  let c1_i32_156 : BitVec 32 := 1#32
  let v286 : BitVec 32 := Scalar.divsi v284 c1_i32_156
  let v287 : BitVec 32 := Scalar.muli v286 c1_i32_156
  let v288 : BitVec 32 := Scalar.addi c0_i32_155 v287
  let c1_i32_158 : BitVec 32 := 1#32
  let arg12 : BitVec 32 := Scf.iv v288 c1_i32_158 k0_t34
  let v314 : Index := Scalar.indexCast arg12
  let c80_172 : Index := 80#32
  ![v314.toNat, 80]
def k0_off258 (v34 : BitVec 32) (k0_t34 : Fin (k0_t34_loop v34).trips) : Fin 2 → Nat :=
  let c0_i32_155 : BitVec 32 := 0#32
  let c1920_i32_145 : BitVec 32 := 1920#32
  let v274 : BitVec 32 := Scalar.subi v34 c1920_i32_145
  let c128_i32_146 : BitVec 32 := 128#32
  let v275 : BitVec 32 := Scalar.minsi v274 c128_i32_146
  let v284 : BitVec 32 := Scalar.subi v275 c0_i32_155
  let c1_i32_156 : BitVec 32 := 1#32
  let v286 : BitVec 32 := Scalar.divsi v284 c1_i32_156
  let v287 : BitVec 32 := Scalar.muli v286 c1_i32_156
  let v288 : BitVec 32 := Scalar.addi c0_i32_155 v287
  let c1_i32_158 : BitVec 32 := 1#32
  let arg12 : BitVec 32 := Scf.iv v288 c1_i32_158 k0_t34
  let v317 : Index := Scalar.indexCast arg12
  let c96_173 : Index := 96#32
  ![v317.toNat, 96]
def k0_off259 (v34 : BitVec 32) (k0_t34 : Fin (k0_t34_loop v34).trips) : Fin 2 → Nat :=
  let c0_i32_155 : BitVec 32 := 0#32
  let c1920_i32_145 : BitVec 32 := 1920#32
  let v274 : BitVec 32 := Scalar.subi v34 c1920_i32_145
  let c128_i32_146 : BitVec 32 := 128#32
  let v275 : BitVec 32 := Scalar.minsi v274 c128_i32_146
  let v284 : BitVec 32 := Scalar.subi v275 c0_i32_155
  let c1_i32_156 : BitVec 32 := 1#32
  let v286 : BitVec 32 := Scalar.divsi v284 c1_i32_156
  let v287 : BitVec 32 := Scalar.muli v286 c1_i32_156
  let v288 : BitVec 32 := Scalar.addi c0_i32_155 v287
  let c1_i32_158 : BitVec 32 := 1#32
  let arg12 : BitVec 32 := Scf.iv v288 c1_i32_158 k0_t34
  let v320 : Index := Scalar.indexCast arg12
  let c112_174 : Index := 112#32
  ![v320.toNat, 112]
@[reducible] def k0_t35_loop (v34 : BitVec 32) : Scf.Loop 32 :=
  let c0_i32_155 : BitVec 32 := 0#32
  let c2048_i32_145 : BitVec 32 := 2048#32
  let v274 : BitVec 32 := Scalar.subi v34 c2048_i32_145
  let c128_i32_146 : BitVec 32 := 128#32
  let v275 : BitVec 32 := Scalar.minsi v274 c128_i32_146
  let v284 : BitVec 32 := Scalar.subi v275 c0_i32_155
  let c1_i32_156 : BitVec 32 := 1#32
  let v286 : BitVec 32 := Scalar.divsi v284 c1_i32_156
  let v287 : BitVec 32 := Scalar.muli v286 c1_i32_156
  let v288 : BitVec 32 := Scalar.addi c0_i32_155 v287
  let c1_i32_157 : BitVec 32 := 1#32
  ⟨c0_i32_155, v288, c1_i32_157⟩
def k0_cond35 (v34 : BitVec 32) : BitVec 1 :=
  let c2048_i32_78 : BitVec 32 := 2048#32
  let v153 : BitVec 1 := Scalar.cmpi .sgt v34 c2048_i32_78
  let v154 : BitVec 32 := Scalar.extui v153
  let c0_i32_79 : BitVec 32 := 0#32
  let v155 : BitVec 1 := Scalar.cmpi .ne v154 c0_i32_79
  v155

def k0_off260 (v34 : BitVec 32) (k0_t35 : Fin (k0_t35_loop v34).trips) : Fin 2 → Nat :=
  let c0_i32_155 : BitVec 32 := 0#32
  let c1_i32_157 : BitVec 32 := 1#32
  let arg12 : BitVec 32 := Scf.iv c0_i32_155 c1_i32_157 k0_t35
  let v299 : Index := Scalar.indexCast arg12
  let c0_167 : Index := 0#32
  ![v299.toNat, 0]
def k0_off261 (v34 : BitVec 32) (k0_t35 : Fin (k0_t35_loop v34).trips) : Fin 2 → Nat :=
  let c0_i32_155 : BitVec 32 := 0#32
  let c1_i32_157 : BitVec 32 := 1#32
  let arg12 : BitVec 32 := Scf.iv c0_i32_155 c1_i32_157 k0_t35
  let v302 : Index := Scalar.indexCast arg12
  let c16_168 : Index := 16#32
  ![v302.toNat, 16]
def k0_off262 (v34 : BitVec 32) (k0_t35 : Fin (k0_t35_loop v34).trips) : Fin 2 → Nat :=
  let c0_i32_155 : BitVec 32 := 0#32
  let c1_i32_157 : BitVec 32 := 1#32
  let arg12 : BitVec 32 := Scf.iv c0_i32_155 c1_i32_157 k0_t35
  let v305 : Index := Scalar.indexCast arg12
  let c32_169 : Index := 32#32
  ![v305.toNat, 32]
def k0_off263 (v34 : BitVec 32) (k0_t35 : Fin (k0_t35_loop v34).trips) : Fin 2 → Nat :=
  let c0_i32_155 : BitVec 32 := 0#32
  let c1_i32_157 : BitVec 32 := 1#32
  let arg12 : BitVec 32 := Scf.iv c0_i32_155 c1_i32_157 k0_t35
  let v308 : Index := Scalar.indexCast arg12
  let c48_170 : Index := 48#32
  ![v308.toNat, 48]
def k0_off264 (v34 : BitVec 32) (k0_t35 : Fin (k0_t35_loop v34).trips) : Fin 2 → Nat :=
  let c0_i32_155 : BitVec 32 := 0#32
  let c1_i32_157 : BitVec 32 := 1#32
  let arg12 : BitVec 32 := Scf.iv c0_i32_155 c1_i32_157 k0_t35
  let v311 : Index := Scalar.indexCast arg12
  let c64_171 : Index := 64#32
  ![v311.toNat, 64]
def k0_off265 (v34 : BitVec 32) (k0_t35 : Fin (k0_t35_loop v34).trips) : Fin 2 → Nat :=
  let c0_i32_155 : BitVec 32 := 0#32
  let c1_i32_157 : BitVec 32 := 1#32
  let arg12 : BitVec 32 := Scf.iv c0_i32_155 c1_i32_157 k0_t35
  let v314 : Index := Scalar.indexCast arg12
  let c80_172 : Index := 80#32
  ![v314.toNat, 80]
def k0_off266 (v34 : BitVec 32) (k0_t35 : Fin (k0_t35_loop v34).trips) : Fin 2 → Nat :=
  let c0_i32_155 : BitVec 32 := 0#32
  let c1_i32_157 : BitVec 32 := 1#32
  let arg12 : BitVec 32 := Scf.iv c0_i32_155 c1_i32_157 k0_t35
  let v317 : Index := Scalar.indexCast arg12
  let c96_173 : Index := 96#32
  ![v317.toNat, 96]
def k0_off267 (v34 : BitVec 32) (k0_t35 : Fin (k0_t35_loop v34).trips) : Fin 2 → Nat :=
  let c0_i32_155 : BitVec 32 := 0#32
  let c1_i32_157 : BitVec 32 := 1#32
  let arg12 : BitVec 32 := Scf.iv c0_i32_155 c1_i32_157 k0_t35
  let v320 : Index := Scalar.indexCast arg12
  let c112_174 : Index := 112#32
  ![v320.toNat, 112]
@[reducible] def k0_t36_loop (v34 : BitVec 32) : Scf.Loop 32 :=
  let c0_i32_155 : BitVec 32 := 0#32
  let c2048_i32_145 : BitVec 32 := 2048#32
  let v274 : BitVec 32 := Scalar.subi v34 c2048_i32_145
  let c128_i32_146 : BitVec 32 := 128#32
  let v275 : BitVec 32 := Scalar.minsi v274 c128_i32_146
  let v284 : BitVec 32 := Scalar.subi v275 c0_i32_155
  let c1_i32_156 : BitVec 32 := 1#32
  let v286 : BitVec 32 := Scalar.divsi v284 c1_i32_156
  let v287 : BitVec 32 := Scalar.muli v286 c1_i32_156
  let v288 : BitVec 32 := Scalar.addi c0_i32_155 v287
  let v285 : BitVec 32 := Scalar.addi c0_i32_155 v284
  let c1_i32_158 : BitVec 32 := 1#32
  ⟨v288, v285, c1_i32_158⟩
def k0_off268 (v34 : BitVec 32) (k0_t36 : Fin (k0_t36_loop v34).trips) : Fin 2 → Nat :=
  let c0_i32_155 : BitVec 32 := 0#32
  let c2048_i32_145 : BitVec 32 := 2048#32
  let v274 : BitVec 32 := Scalar.subi v34 c2048_i32_145
  let c128_i32_146 : BitVec 32 := 128#32
  let v275 : BitVec 32 := Scalar.minsi v274 c128_i32_146
  let v284 : BitVec 32 := Scalar.subi v275 c0_i32_155
  let c1_i32_156 : BitVec 32 := 1#32
  let v286 : BitVec 32 := Scalar.divsi v284 c1_i32_156
  let v287 : BitVec 32 := Scalar.muli v286 c1_i32_156
  let v288 : BitVec 32 := Scalar.addi c0_i32_155 v287
  let c1_i32_158 : BitVec 32 := 1#32
  let arg12 : BitVec 32 := Scf.iv v288 c1_i32_158 k0_t36
  let v299 : Index := Scalar.indexCast arg12
  let c0_167 : Index := 0#32
  ![v299.toNat, 0]
def k0_off269 (v34 : BitVec 32) (k0_t36 : Fin (k0_t36_loop v34).trips) : Fin 2 → Nat :=
  let c0_i32_155 : BitVec 32 := 0#32
  let c2048_i32_145 : BitVec 32 := 2048#32
  let v274 : BitVec 32 := Scalar.subi v34 c2048_i32_145
  let c128_i32_146 : BitVec 32 := 128#32
  let v275 : BitVec 32 := Scalar.minsi v274 c128_i32_146
  let v284 : BitVec 32 := Scalar.subi v275 c0_i32_155
  let c1_i32_156 : BitVec 32 := 1#32
  let v286 : BitVec 32 := Scalar.divsi v284 c1_i32_156
  let v287 : BitVec 32 := Scalar.muli v286 c1_i32_156
  let v288 : BitVec 32 := Scalar.addi c0_i32_155 v287
  let c1_i32_158 : BitVec 32 := 1#32
  let arg12 : BitVec 32 := Scf.iv v288 c1_i32_158 k0_t36
  let v302 : Index := Scalar.indexCast arg12
  let c16_168 : Index := 16#32
  ![v302.toNat, 16]
def k0_off270 (v34 : BitVec 32) (k0_t36 : Fin (k0_t36_loop v34).trips) : Fin 2 → Nat :=
  let c0_i32_155 : BitVec 32 := 0#32
  let c2048_i32_145 : BitVec 32 := 2048#32
  let v274 : BitVec 32 := Scalar.subi v34 c2048_i32_145
  let c128_i32_146 : BitVec 32 := 128#32
  let v275 : BitVec 32 := Scalar.minsi v274 c128_i32_146
  let v284 : BitVec 32 := Scalar.subi v275 c0_i32_155
  let c1_i32_156 : BitVec 32 := 1#32
  let v286 : BitVec 32 := Scalar.divsi v284 c1_i32_156
  let v287 : BitVec 32 := Scalar.muli v286 c1_i32_156
  let v288 : BitVec 32 := Scalar.addi c0_i32_155 v287
  let c1_i32_158 : BitVec 32 := 1#32
  let arg12 : BitVec 32 := Scf.iv v288 c1_i32_158 k0_t36
  let v305 : Index := Scalar.indexCast arg12
  let c32_169 : Index := 32#32
  ![v305.toNat, 32]
def k0_off271 (v34 : BitVec 32) (k0_t36 : Fin (k0_t36_loop v34).trips) : Fin 2 → Nat :=
  let c0_i32_155 : BitVec 32 := 0#32
  let c2048_i32_145 : BitVec 32 := 2048#32
  let v274 : BitVec 32 := Scalar.subi v34 c2048_i32_145
  let c128_i32_146 : BitVec 32 := 128#32
  let v275 : BitVec 32 := Scalar.minsi v274 c128_i32_146
  let v284 : BitVec 32 := Scalar.subi v275 c0_i32_155
  let c1_i32_156 : BitVec 32 := 1#32
  let v286 : BitVec 32 := Scalar.divsi v284 c1_i32_156
  let v287 : BitVec 32 := Scalar.muli v286 c1_i32_156
  let v288 : BitVec 32 := Scalar.addi c0_i32_155 v287
  let c1_i32_158 : BitVec 32 := 1#32
  let arg12 : BitVec 32 := Scf.iv v288 c1_i32_158 k0_t36
  let v308 : Index := Scalar.indexCast arg12
  let c48_170 : Index := 48#32
  ![v308.toNat, 48]
def k0_off272 (v34 : BitVec 32) (k0_t36 : Fin (k0_t36_loop v34).trips) : Fin 2 → Nat :=
  let c0_i32_155 : BitVec 32 := 0#32
  let c2048_i32_145 : BitVec 32 := 2048#32
  let v274 : BitVec 32 := Scalar.subi v34 c2048_i32_145
  let c128_i32_146 : BitVec 32 := 128#32
  let v275 : BitVec 32 := Scalar.minsi v274 c128_i32_146
  let v284 : BitVec 32 := Scalar.subi v275 c0_i32_155
  let c1_i32_156 : BitVec 32 := 1#32
  let v286 : BitVec 32 := Scalar.divsi v284 c1_i32_156
  let v287 : BitVec 32 := Scalar.muli v286 c1_i32_156
  let v288 : BitVec 32 := Scalar.addi c0_i32_155 v287
  let c1_i32_158 : BitVec 32 := 1#32
  let arg12 : BitVec 32 := Scf.iv v288 c1_i32_158 k0_t36
  let v311 : Index := Scalar.indexCast arg12
  let c64_171 : Index := 64#32
  ![v311.toNat, 64]
def k0_off273 (v34 : BitVec 32) (k0_t36 : Fin (k0_t36_loop v34).trips) : Fin 2 → Nat :=
  let c0_i32_155 : BitVec 32 := 0#32
  let c2048_i32_145 : BitVec 32 := 2048#32
  let v274 : BitVec 32 := Scalar.subi v34 c2048_i32_145
  let c128_i32_146 : BitVec 32 := 128#32
  let v275 : BitVec 32 := Scalar.minsi v274 c128_i32_146
  let v284 : BitVec 32 := Scalar.subi v275 c0_i32_155
  let c1_i32_156 : BitVec 32 := 1#32
  let v286 : BitVec 32 := Scalar.divsi v284 c1_i32_156
  let v287 : BitVec 32 := Scalar.muli v286 c1_i32_156
  let v288 : BitVec 32 := Scalar.addi c0_i32_155 v287
  let c1_i32_158 : BitVec 32 := 1#32
  let arg12 : BitVec 32 := Scf.iv v288 c1_i32_158 k0_t36
  let v314 : Index := Scalar.indexCast arg12
  let c80_172 : Index := 80#32
  ![v314.toNat, 80]
def k0_off274 (v34 : BitVec 32) (k0_t36 : Fin (k0_t36_loop v34).trips) : Fin 2 → Nat :=
  let c0_i32_155 : BitVec 32 := 0#32
  let c2048_i32_145 : BitVec 32 := 2048#32
  let v274 : BitVec 32 := Scalar.subi v34 c2048_i32_145
  let c128_i32_146 : BitVec 32 := 128#32
  let v275 : BitVec 32 := Scalar.minsi v274 c128_i32_146
  let v284 : BitVec 32 := Scalar.subi v275 c0_i32_155
  let c1_i32_156 : BitVec 32 := 1#32
  let v286 : BitVec 32 := Scalar.divsi v284 c1_i32_156
  let v287 : BitVec 32 := Scalar.muli v286 c1_i32_156
  let v288 : BitVec 32 := Scalar.addi c0_i32_155 v287
  let c1_i32_158 : BitVec 32 := 1#32
  let arg12 : BitVec 32 := Scf.iv v288 c1_i32_158 k0_t36
  let v317 : Index := Scalar.indexCast arg12
  let c96_173 : Index := 96#32
  ![v317.toNat, 96]
def k0_off275 (v34 : BitVec 32) (k0_t36 : Fin (k0_t36_loop v34).trips) : Fin 2 → Nat :=
  let c0_i32_155 : BitVec 32 := 0#32
  let c2048_i32_145 : BitVec 32 := 2048#32
  let v274 : BitVec 32 := Scalar.subi v34 c2048_i32_145
  let c128_i32_146 : BitVec 32 := 128#32
  let v275 : BitVec 32 := Scalar.minsi v274 c128_i32_146
  let v284 : BitVec 32 := Scalar.subi v275 c0_i32_155
  let c1_i32_156 : BitVec 32 := 1#32
  let v286 : BitVec 32 := Scalar.divsi v284 c1_i32_156
  let v287 : BitVec 32 := Scalar.muli v286 c1_i32_156
  let v288 : BitVec 32 := Scalar.addi c0_i32_155 v287
  let c1_i32_158 : BitVec 32 := 1#32
  let arg12 : BitVec 32 := Scf.iv v288 c1_i32_158 k0_t36
  let v320 : Index := Scalar.indexCast arg12
  let c112_174 : Index := 112#32
  ![v320.toNat, 112]
@[reducible] def k0_t37_loop (v34 : BitVec 32) : Scf.Loop 32 :=
  let c0_i32_155 : BitVec 32 := 0#32
  let c2176_i32_145 : BitVec 32 := 2176#32
  let v274 : BitVec 32 := Scalar.subi v34 c2176_i32_145
  let c128_i32_146 : BitVec 32 := 128#32
  let v275 : BitVec 32 := Scalar.minsi v274 c128_i32_146
  let v284 : BitVec 32 := Scalar.subi v275 c0_i32_155
  let c1_i32_156 : BitVec 32 := 1#32
  let v286 : BitVec 32 := Scalar.divsi v284 c1_i32_156
  let v287 : BitVec 32 := Scalar.muli v286 c1_i32_156
  let v288 : BitVec 32 := Scalar.addi c0_i32_155 v287
  let c1_i32_157 : BitVec 32 := 1#32
  ⟨c0_i32_155, v288, c1_i32_157⟩
def k0_cond37 (v34 : BitVec 32) : BitVec 1 :=
  let c2176_i32_81 : BitVec 32 := 2176#32
  let v159 : BitVec 1 := Scalar.cmpi .sgt v34 c2176_i32_81
  let v160 : BitVec 32 := Scalar.extui v159
  let c0_i32_82 : BitVec 32 := 0#32
  let v161 : BitVec 1 := Scalar.cmpi .ne v160 c0_i32_82
  v161

def k0_off276 (v34 : BitVec 32) (k0_t37 : Fin (k0_t37_loop v34).trips) : Fin 2 → Nat :=
  let c0_i32_155 : BitVec 32 := 0#32
  let c1_i32_157 : BitVec 32 := 1#32
  let arg12 : BitVec 32 := Scf.iv c0_i32_155 c1_i32_157 k0_t37
  let v299 : Index := Scalar.indexCast arg12
  let c0_167 : Index := 0#32
  ![v299.toNat, 0]
def k0_off277 (v34 : BitVec 32) (k0_t37 : Fin (k0_t37_loop v34).trips) : Fin 2 → Nat :=
  let c0_i32_155 : BitVec 32 := 0#32
  let c1_i32_157 : BitVec 32 := 1#32
  let arg12 : BitVec 32 := Scf.iv c0_i32_155 c1_i32_157 k0_t37
  let v302 : Index := Scalar.indexCast arg12
  let c16_168 : Index := 16#32
  ![v302.toNat, 16]
def k0_off278 (v34 : BitVec 32) (k0_t37 : Fin (k0_t37_loop v34).trips) : Fin 2 → Nat :=
  let c0_i32_155 : BitVec 32 := 0#32
  let c1_i32_157 : BitVec 32 := 1#32
  let arg12 : BitVec 32 := Scf.iv c0_i32_155 c1_i32_157 k0_t37
  let v305 : Index := Scalar.indexCast arg12
  let c32_169 : Index := 32#32
  ![v305.toNat, 32]
def k0_off279 (v34 : BitVec 32) (k0_t37 : Fin (k0_t37_loop v34).trips) : Fin 2 → Nat :=
  let c0_i32_155 : BitVec 32 := 0#32
  let c1_i32_157 : BitVec 32 := 1#32
  let arg12 : BitVec 32 := Scf.iv c0_i32_155 c1_i32_157 k0_t37
  let v308 : Index := Scalar.indexCast arg12
  let c48_170 : Index := 48#32
  ![v308.toNat, 48]
def k0_off280 (v34 : BitVec 32) (k0_t37 : Fin (k0_t37_loop v34).trips) : Fin 2 → Nat :=
  let c0_i32_155 : BitVec 32 := 0#32
  let c1_i32_157 : BitVec 32 := 1#32
  let arg12 : BitVec 32 := Scf.iv c0_i32_155 c1_i32_157 k0_t37
  let v311 : Index := Scalar.indexCast arg12
  let c64_171 : Index := 64#32
  ![v311.toNat, 64]
def k0_off281 (v34 : BitVec 32) (k0_t37 : Fin (k0_t37_loop v34).trips) : Fin 2 → Nat :=
  let c0_i32_155 : BitVec 32 := 0#32
  let c1_i32_157 : BitVec 32 := 1#32
  let arg12 : BitVec 32 := Scf.iv c0_i32_155 c1_i32_157 k0_t37
  let v314 : Index := Scalar.indexCast arg12
  let c80_172 : Index := 80#32
  ![v314.toNat, 80]
def k0_off282 (v34 : BitVec 32) (k0_t37 : Fin (k0_t37_loop v34).trips) : Fin 2 → Nat :=
  let c0_i32_155 : BitVec 32 := 0#32
  let c1_i32_157 : BitVec 32 := 1#32
  let arg12 : BitVec 32 := Scf.iv c0_i32_155 c1_i32_157 k0_t37
  let v317 : Index := Scalar.indexCast arg12
  let c96_173 : Index := 96#32
  ![v317.toNat, 96]
def k0_off283 (v34 : BitVec 32) (k0_t37 : Fin (k0_t37_loop v34).trips) : Fin 2 → Nat :=
  let c0_i32_155 : BitVec 32 := 0#32
  let c1_i32_157 : BitVec 32 := 1#32
  let arg12 : BitVec 32 := Scf.iv c0_i32_155 c1_i32_157 k0_t37
  let v320 : Index := Scalar.indexCast arg12
  let c112_174 : Index := 112#32
  ![v320.toNat, 112]
@[reducible] def k0_t38_loop (v34 : BitVec 32) : Scf.Loop 32 :=
  let c0_i32_155 : BitVec 32 := 0#32
  let c2176_i32_145 : BitVec 32 := 2176#32
  let v274 : BitVec 32 := Scalar.subi v34 c2176_i32_145
  let c128_i32_146 : BitVec 32 := 128#32
  let v275 : BitVec 32 := Scalar.minsi v274 c128_i32_146
  let v284 : BitVec 32 := Scalar.subi v275 c0_i32_155
  let c1_i32_156 : BitVec 32 := 1#32
  let v286 : BitVec 32 := Scalar.divsi v284 c1_i32_156
  let v287 : BitVec 32 := Scalar.muli v286 c1_i32_156
  let v288 : BitVec 32 := Scalar.addi c0_i32_155 v287
  let v285 : BitVec 32 := Scalar.addi c0_i32_155 v284
  let c1_i32_158 : BitVec 32 := 1#32
  ⟨v288, v285, c1_i32_158⟩
def k0_off284 (v34 : BitVec 32) (k0_t38 : Fin (k0_t38_loop v34).trips) : Fin 2 → Nat :=
  let c0_i32_155 : BitVec 32 := 0#32
  let c2176_i32_145 : BitVec 32 := 2176#32
  let v274 : BitVec 32 := Scalar.subi v34 c2176_i32_145
  let c128_i32_146 : BitVec 32 := 128#32
  let v275 : BitVec 32 := Scalar.minsi v274 c128_i32_146
  let v284 : BitVec 32 := Scalar.subi v275 c0_i32_155
  let c1_i32_156 : BitVec 32 := 1#32
  let v286 : BitVec 32 := Scalar.divsi v284 c1_i32_156
  let v287 : BitVec 32 := Scalar.muli v286 c1_i32_156
  let v288 : BitVec 32 := Scalar.addi c0_i32_155 v287
  let c1_i32_158 : BitVec 32 := 1#32
  let arg12 : BitVec 32 := Scf.iv v288 c1_i32_158 k0_t38
  let v299 : Index := Scalar.indexCast arg12
  let c0_167 : Index := 0#32
  ![v299.toNat, 0]
def k0_off285 (v34 : BitVec 32) (k0_t38 : Fin (k0_t38_loop v34).trips) : Fin 2 → Nat :=
  let c0_i32_155 : BitVec 32 := 0#32
  let c2176_i32_145 : BitVec 32 := 2176#32
  let v274 : BitVec 32 := Scalar.subi v34 c2176_i32_145
  let c128_i32_146 : BitVec 32 := 128#32
  let v275 : BitVec 32 := Scalar.minsi v274 c128_i32_146
  let v284 : BitVec 32 := Scalar.subi v275 c0_i32_155
  let c1_i32_156 : BitVec 32 := 1#32
  let v286 : BitVec 32 := Scalar.divsi v284 c1_i32_156
  let v287 : BitVec 32 := Scalar.muli v286 c1_i32_156
  let v288 : BitVec 32 := Scalar.addi c0_i32_155 v287
  let c1_i32_158 : BitVec 32 := 1#32
  let arg12 : BitVec 32 := Scf.iv v288 c1_i32_158 k0_t38
  let v302 : Index := Scalar.indexCast arg12
  let c16_168 : Index := 16#32
  ![v302.toNat, 16]
def k0_off286 (v34 : BitVec 32) (k0_t38 : Fin (k0_t38_loop v34).trips) : Fin 2 → Nat :=
  let c0_i32_155 : BitVec 32 := 0#32
  let c2176_i32_145 : BitVec 32 := 2176#32
  let v274 : BitVec 32 := Scalar.subi v34 c2176_i32_145
  let c128_i32_146 : BitVec 32 := 128#32
  let v275 : BitVec 32 := Scalar.minsi v274 c128_i32_146
  let v284 : BitVec 32 := Scalar.subi v275 c0_i32_155
  let c1_i32_156 : BitVec 32 := 1#32
  let v286 : BitVec 32 := Scalar.divsi v284 c1_i32_156
  let v287 : BitVec 32 := Scalar.muli v286 c1_i32_156
  let v288 : BitVec 32 := Scalar.addi c0_i32_155 v287
  let c1_i32_158 : BitVec 32 := 1#32
  let arg12 : BitVec 32 := Scf.iv v288 c1_i32_158 k0_t38
  let v305 : Index := Scalar.indexCast arg12
  let c32_169 : Index := 32#32
  ![v305.toNat, 32]
def k0_off287 (v34 : BitVec 32) (k0_t38 : Fin (k0_t38_loop v34).trips) : Fin 2 → Nat :=
  let c0_i32_155 : BitVec 32 := 0#32
  let c2176_i32_145 : BitVec 32 := 2176#32
  let v274 : BitVec 32 := Scalar.subi v34 c2176_i32_145
  let c128_i32_146 : BitVec 32 := 128#32
  let v275 : BitVec 32 := Scalar.minsi v274 c128_i32_146
  let v284 : BitVec 32 := Scalar.subi v275 c0_i32_155
  let c1_i32_156 : BitVec 32 := 1#32
  let v286 : BitVec 32 := Scalar.divsi v284 c1_i32_156
  let v287 : BitVec 32 := Scalar.muli v286 c1_i32_156
  let v288 : BitVec 32 := Scalar.addi c0_i32_155 v287
  let c1_i32_158 : BitVec 32 := 1#32
  let arg12 : BitVec 32 := Scf.iv v288 c1_i32_158 k0_t38
  let v308 : Index := Scalar.indexCast arg12
  let c48_170 : Index := 48#32
  ![v308.toNat, 48]
def k0_off288 (v34 : BitVec 32) (k0_t38 : Fin (k0_t38_loop v34).trips) : Fin 2 → Nat :=
  let c0_i32_155 : BitVec 32 := 0#32
  let c2176_i32_145 : BitVec 32 := 2176#32
  let v274 : BitVec 32 := Scalar.subi v34 c2176_i32_145
  let c128_i32_146 : BitVec 32 := 128#32
  let v275 : BitVec 32 := Scalar.minsi v274 c128_i32_146
  let v284 : BitVec 32 := Scalar.subi v275 c0_i32_155
  let c1_i32_156 : BitVec 32 := 1#32
  let v286 : BitVec 32 := Scalar.divsi v284 c1_i32_156
  let v287 : BitVec 32 := Scalar.muli v286 c1_i32_156
  let v288 : BitVec 32 := Scalar.addi c0_i32_155 v287
  let c1_i32_158 : BitVec 32 := 1#32
  let arg12 : BitVec 32 := Scf.iv v288 c1_i32_158 k0_t38
  let v311 : Index := Scalar.indexCast arg12
  let c64_171 : Index := 64#32
  ![v311.toNat, 64]
def k0_off289 (v34 : BitVec 32) (k0_t38 : Fin (k0_t38_loop v34).trips) : Fin 2 → Nat :=
  let c0_i32_155 : BitVec 32 := 0#32
  let c2176_i32_145 : BitVec 32 := 2176#32
  let v274 : BitVec 32 := Scalar.subi v34 c2176_i32_145
  let c128_i32_146 : BitVec 32 := 128#32
  let v275 : BitVec 32 := Scalar.minsi v274 c128_i32_146
  let v284 : BitVec 32 := Scalar.subi v275 c0_i32_155
  let c1_i32_156 : BitVec 32 := 1#32
  let v286 : BitVec 32 := Scalar.divsi v284 c1_i32_156
  let v287 : BitVec 32 := Scalar.muli v286 c1_i32_156
  let v288 : BitVec 32 := Scalar.addi c0_i32_155 v287
  let c1_i32_158 : BitVec 32 := 1#32
  let arg12 : BitVec 32 := Scf.iv v288 c1_i32_158 k0_t38
  let v314 : Index := Scalar.indexCast arg12
  let c80_172 : Index := 80#32
  ![v314.toNat, 80]
def k0_off290 (v34 : BitVec 32) (k0_t38 : Fin (k0_t38_loop v34).trips) : Fin 2 → Nat :=
  let c0_i32_155 : BitVec 32 := 0#32
  let c2176_i32_145 : BitVec 32 := 2176#32
  let v274 : BitVec 32 := Scalar.subi v34 c2176_i32_145
  let c128_i32_146 : BitVec 32 := 128#32
  let v275 : BitVec 32 := Scalar.minsi v274 c128_i32_146
  let v284 : BitVec 32 := Scalar.subi v275 c0_i32_155
  let c1_i32_156 : BitVec 32 := 1#32
  let v286 : BitVec 32 := Scalar.divsi v284 c1_i32_156
  let v287 : BitVec 32 := Scalar.muli v286 c1_i32_156
  let v288 : BitVec 32 := Scalar.addi c0_i32_155 v287
  let c1_i32_158 : BitVec 32 := 1#32
  let arg12 : BitVec 32 := Scf.iv v288 c1_i32_158 k0_t38
  let v317 : Index := Scalar.indexCast arg12
  let c96_173 : Index := 96#32
  ![v317.toNat, 96]
def k0_off291 (v34 : BitVec 32) (k0_t38 : Fin (k0_t38_loop v34).trips) : Fin 2 → Nat :=
  let c0_i32_155 : BitVec 32 := 0#32
  let c2176_i32_145 : BitVec 32 := 2176#32
  let v274 : BitVec 32 := Scalar.subi v34 c2176_i32_145
  let c128_i32_146 : BitVec 32 := 128#32
  let v275 : BitVec 32 := Scalar.minsi v274 c128_i32_146
  let v284 : BitVec 32 := Scalar.subi v275 c0_i32_155
  let c1_i32_156 : BitVec 32 := 1#32
  let v286 : BitVec 32 := Scalar.divsi v284 c1_i32_156
  let v287 : BitVec 32 := Scalar.muli v286 c1_i32_156
  let v288 : BitVec 32 := Scalar.addi c0_i32_155 v287
  let c1_i32_158 : BitVec 32 := 1#32
  let arg12 : BitVec 32 := Scf.iv v288 c1_i32_158 k0_t38
  let v320 : Index := Scalar.indexCast arg12
  let c112_174 : Index := 112#32
  ![v320.toNat, 112]
@[reducible] def k0_t39_loop (v34 : BitVec 32) : Scf.Loop 32 :=
  let c0_i32_155 : BitVec 32 := 0#32
  let c2304_i32_145 : BitVec 32 := 2304#32
  let v274 : BitVec 32 := Scalar.subi v34 c2304_i32_145
  let c128_i32_146 : BitVec 32 := 128#32
  let v275 : BitVec 32 := Scalar.minsi v274 c128_i32_146
  let v284 : BitVec 32 := Scalar.subi v275 c0_i32_155
  let c1_i32_156 : BitVec 32 := 1#32
  let v286 : BitVec 32 := Scalar.divsi v284 c1_i32_156
  let v287 : BitVec 32 := Scalar.muli v286 c1_i32_156
  let v288 : BitVec 32 := Scalar.addi c0_i32_155 v287
  let c1_i32_157 : BitVec 32 := 1#32
  ⟨c0_i32_155, v288, c1_i32_157⟩
def k0_cond39 (v34 : BitVec 32) : BitVec 1 :=
  let c2304_i32_84 : BitVec 32 := 2304#32
  let v165 : BitVec 1 := Scalar.cmpi .sgt v34 c2304_i32_84
  let v166 : BitVec 32 := Scalar.extui v165
  let c0_i32_85 : BitVec 32 := 0#32
  let v167 : BitVec 1 := Scalar.cmpi .ne v166 c0_i32_85
  v167

def k0_off292 (v34 : BitVec 32) (k0_t39 : Fin (k0_t39_loop v34).trips) : Fin 2 → Nat :=
  let c0_i32_155 : BitVec 32 := 0#32
  let c1_i32_157 : BitVec 32 := 1#32
  let arg12 : BitVec 32 := Scf.iv c0_i32_155 c1_i32_157 k0_t39
  let v299 : Index := Scalar.indexCast arg12
  let c0_167 : Index := 0#32
  ![v299.toNat, 0]
def k0_off293 (v34 : BitVec 32) (k0_t39 : Fin (k0_t39_loop v34).trips) : Fin 2 → Nat :=
  let c0_i32_155 : BitVec 32 := 0#32
  let c1_i32_157 : BitVec 32 := 1#32
  let arg12 : BitVec 32 := Scf.iv c0_i32_155 c1_i32_157 k0_t39
  let v302 : Index := Scalar.indexCast arg12
  let c16_168 : Index := 16#32
  ![v302.toNat, 16]
def k0_off294 (v34 : BitVec 32) (k0_t39 : Fin (k0_t39_loop v34).trips) : Fin 2 → Nat :=
  let c0_i32_155 : BitVec 32 := 0#32
  let c1_i32_157 : BitVec 32 := 1#32
  let arg12 : BitVec 32 := Scf.iv c0_i32_155 c1_i32_157 k0_t39
  let v305 : Index := Scalar.indexCast arg12
  let c32_169 : Index := 32#32
  ![v305.toNat, 32]
def k0_off295 (v34 : BitVec 32) (k0_t39 : Fin (k0_t39_loop v34).trips) : Fin 2 → Nat :=
  let c0_i32_155 : BitVec 32 := 0#32
  let c1_i32_157 : BitVec 32 := 1#32
  let arg12 : BitVec 32 := Scf.iv c0_i32_155 c1_i32_157 k0_t39
  let v308 : Index := Scalar.indexCast arg12
  let c48_170 : Index := 48#32
  ![v308.toNat, 48]
def k0_off296 (v34 : BitVec 32) (k0_t39 : Fin (k0_t39_loop v34).trips) : Fin 2 → Nat :=
  let c0_i32_155 : BitVec 32 := 0#32
  let c1_i32_157 : BitVec 32 := 1#32
  let arg12 : BitVec 32 := Scf.iv c0_i32_155 c1_i32_157 k0_t39
  let v311 : Index := Scalar.indexCast arg12
  let c64_171 : Index := 64#32
  ![v311.toNat, 64]
def k0_off297 (v34 : BitVec 32) (k0_t39 : Fin (k0_t39_loop v34).trips) : Fin 2 → Nat :=
  let c0_i32_155 : BitVec 32 := 0#32
  let c1_i32_157 : BitVec 32 := 1#32
  let arg12 : BitVec 32 := Scf.iv c0_i32_155 c1_i32_157 k0_t39
  let v314 : Index := Scalar.indexCast arg12
  let c80_172 : Index := 80#32
  ![v314.toNat, 80]
def k0_off298 (v34 : BitVec 32) (k0_t39 : Fin (k0_t39_loop v34).trips) : Fin 2 → Nat :=
  let c0_i32_155 : BitVec 32 := 0#32
  let c1_i32_157 : BitVec 32 := 1#32
  let arg12 : BitVec 32 := Scf.iv c0_i32_155 c1_i32_157 k0_t39
  let v317 : Index := Scalar.indexCast arg12
  let c96_173 : Index := 96#32
  ![v317.toNat, 96]
def k0_off299 (v34 : BitVec 32) (k0_t39 : Fin (k0_t39_loop v34).trips) : Fin 2 → Nat :=
  let c0_i32_155 : BitVec 32 := 0#32
  let c1_i32_157 : BitVec 32 := 1#32
  let arg12 : BitVec 32 := Scf.iv c0_i32_155 c1_i32_157 k0_t39
  let v320 : Index := Scalar.indexCast arg12
  let c112_174 : Index := 112#32
  ![v320.toNat, 112]
@[reducible] def k0_t40_loop (v34 : BitVec 32) : Scf.Loop 32 :=
  let c0_i32_155 : BitVec 32 := 0#32
  let c2304_i32_145 : BitVec 32 := 2304#32
  let v274 : BitVec 32 := Scalar.subi v34 c2304_i32_145
  let c128_i32_146 : BitVec 32 := 128#32
  let v275 : BitVec 32 := Scalar.minsi v274 c128_i32_146
  let v284 : BitVec 32 := Scalar.subi v275 c0_i32_155
  let c1_i32_156 : BitVec 32 := 1#32
  let v286 : BitVec 32 := Scalar.divsi v284 c1_i32_156
  let v287 : BitVec 32 := Scalar.muli v286 c1_i32_156
  let v288 : BitVec 32 := Scalar.addi c0_i32_155 v287
  let v285 : BitVec 32 := Scalar.addi c0_i32_155 v284
  let c1_i32_158 : BitVec 32 := 1#32
  ⟨v288, v285, c1_i32_158⟩
def k0_off300 (v34 : BitVec 32) (k0_t40 : Fin (k0_t40_loop v34).trips) : Fin 2 → Nat :=
  let c0_i32_155 : BitVec 32 := 0#32
  let c2304_i32_145 : BitVec 32 := 2304#32
  let v274 : BitVec 32 := Scalar.subi v34 c2304_i32_145
  let c128_i32_146 : BitVec 32 := 128#32
  let v275 : BitVec 32 := Scalar.minsi v274 c128_i32_146
  let v284 : BitVec 32 := Scalar.subi v275 c0_i32_155
  let c1_i32_156 : BitVec 32 := 1#32
  let v286 : BitVec 32 := Scalar.divsi v284 c1_i32_156
  let v287 : BitVec 32 := Scalar.muli v286 c1_i32_156
  let v288 : BitVec 32 := Scalar.addi c0_i32_155 v287
  let c1_i32_158 : BitVec 32 := 1#32
  let arg12 : BitVec 32 := Scf.iv v288 c1_i32_158 k0_t40
  let v299 : Index := Scalar.indexCast arg12
  let c0_167 : Index := 0#32
  ![v299.toNat, 0]
def k0_off301 (v34 : BitVec 32) (k0_t40 : Fin (k0_t40_loop v34).trips) : Fin 2 → Nat :=
  let c0_i32_155 : BitVec 32 := 0#32
  let c2304_i32_145 : BitVec 32 := 2304#32
  let v274 : BitVec 32 := Scalar.subi v34 c2304_i32_145
  let c128_i32_146 : BitVec 32 := 128#32
  let v275 : BitVec 32 := Scalar.minsi v274 c128_i32_146
  let v284 : BitVec 32 := Scalar.subi v275 c0_i32_155
  let c1_i32_156 : BitVec 32 := 1#32
  let v286 : BitVec 32 := Scalar.divsi v284 c1_i32_156
  let v287 : BitVec 32 := Scalar.muli v286 c1_i32_156
  let v288 : BitVec 32 := Scalar.addi c0_i32_155 v287
  let c1_i32_158 : BitVec 32 := 1#32
  let arg12 : BitVec 32 := Scf.iv v288 c1_i32_158 k0_t40
  let v302 : Index := Scalar.indexCast arg12
  let c16_168 : Index := 16#32
  ![v302.toNat, 16]
def k0_off302 (v34 : BitVec 32) (k0_t40 : Fin (k0_t40_loop v34).trips) : Fin 2 → Nat :=
  let c0_i32_155 : BitVec 32 := 0#32
  let c2304_i32_145 : BitVec 32 := 2304#32
  let v274 : BitVec 32 := Scalar.subi v34 c2304_i32_145
  let c128_i32_146 : BitVec 32 := 128#32
  let v275 : BitVec 32 := Scalar.minsi v274 c128_i32_146
  let v284 : BitVec 32 := Scalar.subi v275 c0_i32_155
  let c1_i32_156 : BitVec 32 := 1#32
  let v286 : BitVec 32 := Scalar.divsi v284 c1_i32_156
  let v287 : BitVec 32 := Scalar.muli v286 c1_i32_156
  let v288 : BitVec 32 := Scalar.addi c0_i32_155 v287
  let c1_i32_158 : BitVec 32 := 1#32
  let arg12 : BitVec 32 := Scf.iv v288 c1_i32_158 k0_t40
  let v305 : Index := Scalar.indexCast arg12
  let c32_169 : Index := 32#32
  ![v305.toNat, 32]
def k0_off303 (v34 : BitVec 32) (k0_t40 : Fin (k0_t40_loop v34).trips) : Fin 2 → Nat :=
  let c0_i32_155 : BitVec 32 := 0#32
  let c2304_i32_145 : BitVec 32 := 2304#32
  let v274 : BitVec 32 := Scalar.subi v34 c2304_i32_145
  let c128_i32_146 : BitVec 32 := 128#32
  let v275 : BitVec 32 := Scalar.minsi v274 c128_i32_146
  let v284 : BitVec 32 := Scalar.subi v275 c0_i32_155
  let c1_i32_156 : BitVec 32 := 1#32
  let v286 : BitVec 32 := Scalar.divsi v284 c1_i32_156
  let v287 : BitVec 32 := Scalar.muli v286 c1_i32_156
  let v288 : BitVec 32 := Scalar.addi c0_i32_155 v287
  let c1_i32_158 : BitVec 32 := 1#32
  let arg12 : BitVec 32 := Scf.iv v288 c1_i32_158 k0_t40
  let v308 : Index := Scalar.indexCast arg12
  let c48_170 : Index := 48#32
  ![v308.toNat, 48]
def k0_off304 (v34 : BitVec 32) (k0_t40 : Fin (k0_t40_loop v34).trips) : Fin 2 → Nat :=
  let c0_i32_155 : BitVec 32 := 0#32
  let c2304_i32_145 : BitVec 32 := 2304#32
  let v274 : BitVec 32 := Scalar.subi v34 c2304_i32_145
  let c128_i32_146 : BitVec 32 := 128#32
  let v275 : BitVec 32 := Scalar.minsi v274 c128_i32_146
  let v284 : BitVec 32 := Scalar.subi v275 c0_i32_155
  let c1_i32_156 : BitVec 32 := 1#32
  let v286 : BitVec 32 := Scalar.divsi v284 c1_i32_156
  let v287 : BitVec 32 := Scalar.muli v286 c1_i32_156
  let v288 : BitVec 32 := Scalar.addi c0_i32_155 v287
  let c1_i32_158 : BitVec 32 := 1#32
  let arg12 : BitVec 32 := Scf.iv v288 c1_i32_158 k0_t40
  let v311 : Index := Scalar.indexCast arg12
  let c64_171 : Index := 64#32
  ![v311.toNat, 64]
def k0_off305 (v34 : BitVec 32) (k0_t40 : Fin (k0_t40_loop v34).trips) : Fin 2 → Nat :=
  let c0_i32_155 : BitVec 32 := 0#32
  let c2304_i32_145 : BitVec 32 := 2304#32
  let v274 : BitVec 32 := Scalar.subi v34 c2304_i32_145
  let c128_i32_146 : BitVec 32 := 128#32
  let v275 : BitVec 32 := Scalar.minsi v274 c128_i32_146
  let v284 : BitVec 32 := Scalar.subi v275 c0_i32_155
  let c1_i32_156 : BitVec 32 := 1#32
  let v286 : BitVec 32 := Scalar.divsi v284 c1_i32_156
  let v287 : BitVec 32 := Scalar.muli v286 c1_i32_156
  let v288 : BitVec 32 := Scalar.addi c0_i32_155 v287
  let c1_i32_158 : BitVec 32 := 1#32
  let arg12 : BitVec 32 := Scf.iv v288 c1_i32_158 k0_t40
  let v314 : Index := Scalar.indexCast arg12
  let c80_172 : Index := 80#32
  ![v314.toNat, 80]
def k0_off306 (v34 : BitVec 32) (k0_t40 : Fin (k0_t40_loop v34).trips) : Fin 2 → Nat :=
  let c0_i32_155 : BitVec 32 := 0#32
  let c2304_i32_145 : BitVec 32 := 2304#32
  let v274 : BitVec 32 := Scalar.subi v34 c2304_i32_145
  let c128_i32_146 : BitVec 32 := 128#32
  let v275 : BitVec 32 := Scalar.minsi v274 c128_i32_146
  let v284 : BitVec 32 := Scalar.subi v275 c0_i32_155
  let c1_i32_156 : BitVec 32 := 1#32
  let v286 : BitVec 32 := Scalar.divsi v284 c1_i32_156
  let v287 : BitVec 32 := Scalar.muli v286 c1_i32_156
  let v288 : BitVec 32 := Scalar.addi c0_i32_155 v287
  let c1_i32_158 : BitVec 32 := 1#32
  let arg12 : BitVec 32 := Scf.iv v288 c1_i32_158 k0_t40
  let v317 : Index := Scalar.indexCast arg12
  let c96_173 : Index := 96#32
  ![v317.toNat, 96]
def k0_off307 (v34 : BitVec 32) (k0_t40 : Fin (k0_t40_loop v34).trips) : Fin 2 → Nat :=
  let c0_i32_155 : BitVec 32 := 0#32
  let c2304_i32_145 : BitVec 32 := 2304#32
  let v274 : BitVec 32 := Scalar.subi v34 c2304_i32_145
  let c128_i32_146 : BitVec 32 := 128#32
  let v275 : BitVec 32 := Scalar.minsi v274 c128_i32_146
  let v284 : BitVec 32 := Scalar.subi v275 c0_i32_155
  let c1_i32_156 : BitVec 32 := 1#32
  let v286 : BitVec 32 := Scalar.divsi v284 c1_i32_156
  let v287 : BitVec 32 := Scalar.muli v286 c1_i32_156
  let v288 : BitVec 32 := Scalar.addi c0_i32_155 v287
  let c1_i32_158 : BitVec 32 := 1#32
  let arg12 : BitVec 32 := Scf.iv v288 c1_i32_158 k0_t40
  let v320 : Index := Scalar.indexCast arg12
  let c112_174 : Index := 112#32
  ![v320.toNat, 112]
@[reducible] def k0_t41_loop (v34 : BitVec 32) : Scf.Loop 32 :=
  let c0_i32_155 : BitVec 32 := 0#32
  let c2432_i32_145 : BitVec 32 := 2432#32
  let v274 : BitVec 32 := Scalar.subi v34 c2432_i32_145
  let c128_i32_146 : BitVec 32 := 128#32
  let v275 : BitVec 32 := Scalar.minsi v274 c128_i32_146
  let v284 : BitVec 32 := Scalar.subi v275 c0_i32_155
  let c1_i32_156 : BitVec 32 := 1#32
  let v286 : BitVec 32 := Scalar.divsi v284 c1_i32_156
  let v287 : BitVec 32 := Scalar.muli v286 c1_i32_156
  let v288 : BitVec 32 := Scalar.addi c0_i32_155 v287
  let c1_i32_157 : BitVec 32 := 1#32
  ⟨c0_i32_155, v288, c1_i32_157⟩
def k0_cond41 (v34 : BitVec 32) : BitVec 1 :=
  let c2432_i32_87 : BitVec 32 := 2432#32
  let v171 : BitVec 1 := Scalar.cmpi .sgt v34 c2432_i32_87
  let v172 : BitVec 32 := Scalar.extui v171
  let c0_i32_88 : BitVec 32 := 0#32
  let v173 : BitVec 1 := Scalar.cmpi .ne v172 c0_i32_88
  v173

def k0_off308 (v34 : BitVec 32) (k0_t41 : Fin (k0_t41_loop v34).trips) : Fin 2 → Nat :=
  let c0_i32_155 : BitVec 32 := 0#32
  let c1_i32_157 : BitVec 32 := 1#32
  let arg12 : BitVec 32 := Scf.iv c0_i32_155 c1_i32_157 k0_t41
  let v299 : Index := Scalar.indexCast arg12
  let c0_167 : Index := 0#32
  ![v299.toNat, 0]
def k0_off309 (v34 : BitVec 32) (k0_t41 : Fin (k0_t41_loop v34).trips) : Fin 2 → Nat :=
  let c0_i32_155 : BitVec 32 := 0#32
  let c1_i32_157 : BitVec 32 := 1#32
  let arg12 : BitVec 32 := Scf.iv c0_i32_155 c1_i32_157 k0_t41
  let v302 : Index := Scalar.indexCast arg12
  let c16_168 : Index := 16#32
  ![v302.toNat, 16]
def k0_off310 (v34 : BitVec 32) (k0_t41 : Fin (k0_t41_loop v34).trips) : Fin 2 → Nat :=
  let c0_i32_155 : BitVec 32 := 0#32
  let c1_i32_157 : BitVec 32 := 1#32
  let arg12 : BitVec 32 := Scf.iv c0_i32_155 c1_i32_157 k0_t41
  let v305 : Index := Scalar.indexCast arg12
  let c32_169 : Index := 32#32
  ![v305.toNat, 32]
def k0_off311 (v34 : BitVec 32) (k0_t41 : Fin (k0_t41_loop v34).trips) : Fin 2 → Nat :=
  let c0_i32_155 : BitVec 32 := 0#32
  let c1_i32_157 : BitVec 32 := 1#32
  let arg12 : BitVec 32 := Scf.iv c0_i32_155 c1_i32_157 k0_t41
  let v308 : Index := Scalar.indexCast arg12
  let c48_170 : Index := 48#32
  ![v308.toNat, 48]
def k0_off312 (v34 : BitVec 32) (k0_t41 : Fin (k0_t41_loop v34).trips) : Fin 2 → Nat :=
  let c0_i32_155 : BitVec 32 := 0#32
  let c1_i32_157 : BitVec 32 := 1#32
  let arg12 : BitVec 32 := Scf.iv c0_i32_155 c1_i32_157 k0_t41
  let v311 : Index := Scalar.indexCast arg12
  let c64_171 : Index := 64#32
  ![v311.toNat, 64]
def k0_off313 (v34 : BitVec 32) (k0_t41 : Fin (k0_t41_loop v34).trips) : Fin 2 → Nat :=
  let c0_i32_155 : BitVec 32 := 0#32
  let c1_i32_157 : BitVec 32 := 1#32
  let arg12 : BitVec 32 := Scf.iv c0_i32_155 c1_i32_157 k0_t41
  let v314 : Index := Scalar.indexCast arg12
  let c80_172 : Index := 80#32
  ![v314.toNat, 80]
def k0_off314 (v34 : BitVec 32) (k0_t41 : Fin (k0_t41_loop v34).trips) : Fin 2 → Nat :=
  let c0_i32_155 : BitVec 32 := 0#32
  let c1_i32_157 : BitVec 32 := 1#32
  let arg12 : BitVec 32 := Scf.iv c0_i32_155 c1_i32_157 k0_t41
  let v317 : Index := Scalar.indexCast arg12
  let c96_173 : Index := 96#32
  ![v317.toNat, 96]
def k0_off315 (v34 : BitVec 32) (k0_t41 : Fin (k0_t41_loop v34).trips) : Fin 2 → Nat :=
  let c0_i32_155 : BitVec 32 := 0#32
  let c1_i32_157 : BitVec 32 := 1#32
  let arg12 : BitVec 32 := Scf.iv c0_i32_155 c1_i32_157 k0_t41
  let v320 : Index := Scalar.indexCast arg12
  let c112_174 : Index := 112#32
  ![v320.toNat, 112]
@[reducible] def k0_t42_loop (v34 : BitVec 32) : Scf.Loop 32 :=
  let c0_i32_155 : BitVec 32 := 0#32
  let c2432_i32_145 : BitVec 32 := 2432#32
  let v274 : BitVec 32 := Scalar.subi v34 c2432_i32_145
  let c128_i32_146 : BitVec 32 := 128#32
  let v275 : BitVec 32 := Scalar.minsi v274 c128_i32_146
  let v284 : BitVec 32 := Scalar.subi v275 c0_i32_155
  let c1_i32_156 : BitVec 32 := 1#32
  let v286 : BitVec 32 := Scalar.divsi v284 c1_i32_156
  let v287 : BitVec 32 := Scalar.muli v286 c1_i32_156
  let v288 : BitVec 32 := Scalar.addi c0_i32_155 v287
  let v285 : BitVec 32 := Scalar.addi c0_i32_155 v284
  let c1_i32_158 : BitVec 32 := 1#32
  ⟨v288, v285, c1_i32_158⟩
def k0_off316 (v34 : BitVec 32) (k0_t42 : Fin (k0_t42_loop v34).trips) : Fin 2 → Nat :=
  let c0_i32_155 : BitVec 32 := 0#32
  let c2432_i32_145 : BitVec 32 := 2432#32
  let v274 : BitVec 32 := Scalar.subi v34 c2432_i32_145
  let c128_i32_146 : BitVec 32 := 128#32
  let v275 : BitVec 32 := Scalar.minsi v274 c128_i32_146
  let v284 : BitVec 32 := Scalar.subi v275 c0_i32_155
  let c1_i32_156 : BitVec 32 := 1#32
  let v286 : BitVec 32 := Scalar.divsi v284 c1_i32_156
  let v287 : BitVec 32 := Scalar.muli v286 c1_i32_156
  let v288 : BitVec 32 := Scalar.addi c0_i32_155 v287
  let c1_i32_158 : BitVec 32 := 1#32
  let arg12 : BitVec 32 := Scf.iv v288 c1_i32_158 k0_t42
  let v299 : Index := Scalar.indexCast arg12
  let c0_167 : Index := 0#32
  ![v299.toNat, 0]
def k0_off317 (v34 : BitVec 32) (k0_t42 : Fin (k0_t42_loop v34).trips) : Fin 2 → Nat :=
  let c0_i32_155 : BitVec 32 := 0#32
  let c2432_i32_145 : BitVec 32 := 2432#32
  let v274 : BitVec 32 := Scalar.subi v34 c2432_i32_145
  let c128_i32_146 : BitVec 32 := 128#32
  let v275 : BitVec 32 := Scalar.minsi v274 c128_i32_146
  let v284 : BitVec 32 := Scalar.subi v275 c0_i32_155
  let c1_i32_156 : BitVec 32 := 1#32
  let v286 : BitVec 32 := Scalar.divsi v284 c1_i32_156
  let v287 : BitVec 32 := Scalar.muli v286 c1_i32_156
  let v288 : BitVec 32 := Scalar.addi c0_i32_155 v287
  let c1_i32_158 : BitVec 32 := 1#32
  let arg12 : BitVec 32 := Scf.iv v288 c1_i32_158 k0_t42
  let v302 : Index := Scalar.indexCast arg12
  let c16_168 : Index := 16#32
  ![v302.toNat, 16]
def k0_off318 (v34 : BitVec 32) (k0_t42 : Fin (k0_t42_loop v34).trips) : Fin 2 → Nat :=
  let c0_i32_155 : BitVec 32 := 0#32
  let c2432_i32_145 : BitVec 32 := 2432#32
  let v274 : BitVec 32 := Scalar.subi v34 c2432_i32_145
  let c128_i32_146 : BitVec 32 := 128#32
  let v275 : BitVec 32 := Scalar.minsi v274 c128_i32_146
  let v284 : BitVec 32 := Scalar.subi v275 c0_i32_155
  let c1_i32_156 : BitVec 32 := 1#32
  let v286 : BitVec 32 := Scalar.divsi v284 c1_i32_156
  let v287 : BitVec 32 := Scalar.muli v286 c1_i32_156
  let v288 : BitVec 32 := Scalar.addi c0_i32_155 v287
  let c1_i32_158 : BitVec 32 := 1#32
  let arg12 : BitVec 32 := Scf.iv v288 c1_i32_158 k0_t42
  let v305 : Index := Scalar.indexCast arg12
  let c32_169 : Index := 32#32
  ![v305.toNat, 32]
def k0_off319 (v34 : BitVec 32) (k0_t42 : Fin (k0_t42_loop v34).trips) : Fin 2 → Nat :=
  let c0_i32_155 : BitVec 32 := 0#32
  let c2432_i32_145 : BitVec 32 := 2432#32
  let v274 : BitVec 32 := Scalar.subi v34 c2432_i32_145
  let c128_i32_146 : BitVec 32 := 128#32
  let v275 : BitVec 32 := Scalar.minsi v274 c128_i32_146
  let v284 : BitVec 32 := Scalar.subi v275 c0_i32_155
  let c1_i32_156 : BitVec 32 := 1#32
  let v286 : BitVec 32 := Scalar.divsi v284 c1_i32_156
  let v287 : BitVec 32 := Scalar.muli v286 c1_i32_156
  let v288 : BitVec 32 := Scalar.addi c0_i32_155 v287
  let c1_i32_158 : BitVec 32 := 1#32
  let arg12 : BitVec 32 := Scf.iv v288 c1_i32_158 k0_t42
  let v308 : Index := Scalar.indexCast arg12
  let c48_170 : Index := 48#32
  ![v308.toNat, 48]
def k0_off320 (v34 : BitVec 32) (k0_t42 : Fin (k0_t42_loop v34).trips) : Fin 2 → Nat :=
  let c0_i32_155 : BitVec 32 := 0#32
  let c2432_i32_145 : BitVec 32 := 2432#32
  let v274 : BitVec 32 := Scalar.subi v34 c2432_i32_145
  let c128_i32_146 : BitVec 32 := 128#32
  let v275 : BitVec 32 := Scalar.minsi v274 c128_i32_146
  let v284 : BitVec 32 := Scalar.subi v275 c0_i32_155
  let c1_i32_156 : BitVec 32 := 1#32
  let v286 : BitVec 32 := Scalar.divsi v284 c1_i32_156
  let v287 : BitVec 32 := Scalar.muli v286 c1_i32_156
  let v288 : BitVec 32 := Scalar.addi c0_i32_155 v287
  let c1_i32_158 : BitVec 32 := 1#32
  let arg12 : BitVec 32 := Scf.iv v288 c1_i32_158 k0_t42
  let v311 : Index := Scalar.indexCast arg12
  let c64_171 : Index := 64#32
  ![v311.toNat, 64]
def k0_off321 (v34 : BitVec 32) (k0_t42 : Fin (k0_t42_loop v34).trips) : Fin 2 → Nat :=
  let c0_i32_155 : BitVec 32 := 0#32
  let c2432_i32_145 : BitVec 32 := 2432#32
  let v274 : BitVec 32 := Scalar.subi v34 c2432_i32_145
  let c128_i32_146 : BitVec 32 := 128#32
  let v275 : BitVec 32 := Scalar.minsi v274 c128_i32_146
  let v284 : BitVec 32 := Scalar.subi v275 c0_i32_155
  let c1_i32_156 : BitVec 32 := 1#32
  let v286 : BitVec 32 := Scalar.divsi v284 c1_i32_156
  let v287 : BitVec 32 := Scalar.muli v286 c1_i32_156
  let v288 : BitVec 32 := Scalar.addi c0_i32_155 v287
  let c1_i32_158 : BitVec 32 := 1#32
  let arg12 : BitVec 32 := Scf.iv v288 c1_i32_158 k0_t42
  let v314 : Index := Scalar.indexCast arg12
  let c80_172 : Index := 80#32
  ![v314.toNat, 80]
def k0_off322 (v34 : BitVec 32) (k0_t42 : Fin (k0_t42_loop v34).trips) : Fin 2 → Nat :=
  let c0_i32_155 : BitVec 32 := 0#32
  let c2432_i32_145 : BitVec 32 := 2432#32
  let v274 : BitVec 32 := Scalar.subi v34 c2432_i32_145
  let c128_i32_146 : BitVec 32 := 128#32
  let v275 : BitVec 32 := Scalar.minsi v274 c128_i32_146
  let v284 : BitVec 32 := Scalar.subi v275 c0_i32_155
  let c1_i32_156 : BitVec 32 := 1#32
  let v286 : BitVec 32 := Scalar.divsi v284 c1_i32_156
  let v287 : BitVec 32 := Scalar.muli v286 c1_i32_156
  let v288 : BitVec 32 := Scalar.addi c0_i32_155 v287
  let c1_i32_158 : BitVec 32 := 1#32
  let arg12 : BitVec 32 := Scf.iv v288 c1_i32_158 k0_t42
  let v317 : Index := Scalar.indexCast arg12
  let c96_173 : Index := 96#32
  ![v317.toNat, 96]
def k0_off323 (v34 : BitVec 32) (k0_t42 : Fin (k0_t42_loop v34).trips) : Fin 2 → Nat :=
  let c0_i32_155 : BitVec 32 := 0#32
  let c2432_i32_145 : BitVec 32 := 2432#32
  let v274 : BitVec 32 := Scalar.subi v34 c2432_i32_145
  let c128_i32_146 : BitVec 32 := 128#32
  let v275 : BitVec 32 := Scalar.minsi v274 c128_i32_146
  let v284 : BitVec 32 := Scalar.subi v275 c0_i32_155
  let c1_i32_156 : BitVec 32 := 1#32
  let v286 : BitVec 32 := Scalar.divsi v284 c1_i32_156
  let v287 : BitVec 32 := Scalar.muli v286 c1_i32_156
  let v288 : BitVec 32 := Scalar.addi c0_i32_155 v287
  let c1_i32_158 : BitVec 32 := 1#32
  let arg12 : BitVec 32 := Scf.iv v288 c1_i32_158 k0_t42
  let v320 : Index := Scalar.indexCast arg12
  let c112_174 : Index := 112#32
  ![v320.toNat, 112]
@[reducible] def k0_t43_loop (v34 : BitVec 32) : Scf.Loop 32 :=
  let c0_i32_155 : BitVec 32 := 0#32
  let c2560_i32_145 : BitVec 32 := 2560#32
  let v274 : BitVec 32 := Scalar.subi v34 c2560_i32_145
  let c128_i32_146 : BitVec 32 := 128#32
  let v275 : BitVec 32 := Scalar.minsi v274 c128_i32_146
  let v284 : BitVec 32 := Scalar.subi v275 c0_i32_155
  let c1_i32_156 : BitVec 32 := 1#32
  let v286 : BitVec 32 := Scalar.divsi v284 c1_i32_156
  let v287 : BitVec 32 := Scalar.muli v286 c1_i32_156
  let v288 : BitVec 32 := Scalar.addi c0_i32_155 v287
  let c1_i32_157 : BitVec 32 := 1#32
  ⟨c0_i32_155, v288, c1_i32_157⟩
def k0_cond43 (v34 : BitVec 32) : BitVec 1 :=
  let c2560_i32_90 : BitVec 32 := 2560#32
  let v177 : BitVec 1 := Scalar.cmpi .sgt v34 c2560_i32_90
  let v178 : BitVec 32 := Scalar.extui v177
  let c0_i32_91 : BitVec 32 := 0#32
  let v179 : BitVec 1 := Scalar.cmpi .ne v178 c0_i32_91
  v179

def k0_off324 (v34 : BitVec 32) (k0_t43 : Fin (k0_t43_loop v34).trips) : Fin 2 → Nat :=
  let c0_i32_155 : BitVec 32 := 0#32
  let c1_i32_157 : BitVec 32 := 1#32
  let arg12 : BitVec 32 := Scf.iv c0_i32_155 c1_i32_157 k0_t43
  let v299 : Index := Scalar.indexCast arg12
  let c0_167 : Index := 0#32
  ![v299.toNat, 0]
def k0_off325 (v34 : BitVec 32) (k0_t43 : Fin (k0_t43_loop v34).trips) : Fin 2 → Nat :=
  let c0_i32_155 : BitVec 32 := 0#32
  let c1_i32_157 : BitVec 32 := 1#32
  let arg12 : BitVec 32 := Scf.iv c0_i32_155 c1_i32_157 k0_t43
  let v302 : Index := Scalar.indexCast arg12
  let c16_168 : Index := 16#32
  ![v302.toNat, 16]
def k0_off326 (v34 : BitVec 32) (k0_t43 : Fin (k0_t43_loop v34).trips) : Fin 2 → Nat :=
  let c0_i32_155 : BitVec 32 := 0#32
  let c1_i32_157 : BitVec 32 := 1#32
  let arg12 : BitVec 32 := Scf.iv c0_i32_155 c1_i32_157 k0_t43
  let v305 : Index := Scalar.indexCast arg12
  let c32_169 : Index := 32#32
  ![v305.toNat, 32]
def k0_off327 (v34 : BitVec 32) (k0_t43 : Fin (k0_t43_loop v34).trips) : Fin 2 → Nat :=
  let c0_i32_155 : BitVec 32 := 0#32
  let c1_i32_157 : BitVec 32 := 1#32
  let arg12 : BitVec 32 := Scf.iv c0_i32_155 c1_i32_157 k0_t43
  let v308 : Index := Scalar.indexCast arg12
  let c48_170 : Index := 48#32
  ![v308.toNat, 48]
def k0_off328 (v34 : BitVec 32) (k0_t43 : Fin (k0_t43_loop v34).trips) : Fin 2 → Nat :=
  let c0_i32_155 : BitVec 32 := 0#32
  let c1_i32_157 : BitVec 32 := 1#32
  let arg12 : BitVec 32 := Scf.iv c0_i32_155 c1_i32_157 k0_t43
  let v311 : Index := Scalar.indexCast arg12
  let c64_171 : Index := 64#32
  ![v311.toNat, 64]
def k0_off329 (v34 : BitVec 32) (k0_t43 : Fin (k0_t43_loop v34).trips) : Fin 2 → Nat :=
  let c0_i32_155 : BitVec 32 := 0#32
  let c1_i32_157 : BitVec 32 := 1#32
  let arg12 : BitVec 32 := Scf.iv c0_i32_155 c1_i32_157 k0_t43
  let v314 : Index := Scalar.indexCast arg12
  let c80_172 : Index := 80#32
  ![v314.toNat, 80]
def k0_off330 (v34 : BitVec 32) (k0_t43 : Fin (k0_t43_loop v34).trips) : Fin 2 → Nat :=
  let c0_i32_155 : BitVec 32 := 0#32
  let c1_i32_157 : BitVec 32 := 1#32
  let arg12 : BitVec 32 := Scf.iv c0_i32_155 c1_i32_157 k0_t43
  let v317 : Index := Scalar.indexCast arg12
  let c96_173 : Index := 96#32
  ![v317.toNat, 96]
def k0_off331 (v34 : BitVec 32) (k0_t43 : Fin (k0_t43_loop v34).trips) : Fin 2 → Nat :=
  let c0_i32_155 : BitVec 32 := 0#32
  let c1_i32_157 : BitVec 32 := 1#32
  let arg12 : BitVec 32 := Scf.iv c0_i32_155 c1_i32_157 k0_t43
  let v320 : Index := Scalar.indexCast arg12
  let c112_174 : Index := 112#32
  ![v320.toNat, 112]
@[reducible] def k0_t44_loop (v34 : BitVec 32) : Scf.Loop 32 :=
  let c0_i32_155 : BitVec 32 := 0#32
  let c2560_i32_145 : BitVec 32 := 2560#32
  let v274 : BitVec 32 := Scalar.subi v34 c2560_i32_145
  let c128_i32_146 : BitVec 32 := 128#32
  let v275 : BitVec 32 := Scalar.minsi v274 c128_i32_146
  let v284 : BitVec 32 := Scalar.subi v275 c0_i32_155
  let c1_i32_156 : BitVec 32 := 1#32
  let v286 : BitVec 32 := Scalar.divsi v284 c1_i32_156
  let v287 : BitVec 32 := Scalar.muli v286 c1_i32_156
  let v288 : BitVec 32 := Scalar.addi c0_i32_155 v287
  let v285 : BitVec 32 := Scalar.addi c0_i32_155 v284
  let c1_i32_158 : BitVec 32 := 1#32
  ⟨v288, v285, c1_i32_158⟩
def k0_off332 (v34 : BitVec 32) (k0_t44 : Fin (k0_t44_loop v34).trips) : Fin 2 → Nat :=
  let c0_i32_155 : BitVec 32 := 0#32
  let c2560_i32_145 : BitVec 32 := 2560#32
  let v274 : BitVec 32 := Scalar.subi v34 c2560_i32_145
  let c128_i32_146 : BitVec 32 := 128#32
  let v275 : BitVec 32 := Scalar.minsi v274 c128_i32_146
  let v284 : BitVec 32 := Scalar.subi v275 c0_i32_155
  let c1_i32_156 : BitVec 32 := 1#32
  let v286 : BitVec 32 := Scalar.divsi v284 c1_i32_156
  let v287 : BitVec 32 := Scalar.muli v286 c1_i32_156
  let v288 : BitVec 32 := Scalar.addi c0_i32_155 v287
  let c1_i32_158 : BitVec 32 := 1#32
  let arg12 : BitVec 32 := Scf.iv v288 c1_i32_158 k0_t44
  let v299 : Index := Scalar.indexCast arg12
  let c0_167 : Index := 0#32
  ![v299.toNat, 0]
def k0_off333 (v34 : BitVec 32) (k0_t44 : Fin (k0_t44_loop v34).trips) : Fin 2 → Nat :=
  let c0_i32_155 : BitVec 32 := 0#32
  let c2560_i32_145 : BitVec 32 := 2560#32
  let v274 : BitVec 32 := Scalar.subi v34 c2560_i32_145
  let c128_i32_146 : BitVec 32 := 128#32
  let v275 : BitVec 32 := Scalar.minsi v274 c128_i32_146
  let v284 : BitVec 32 := Scalar.subi v275 c0_i32_155
  let c1_i32_156 : BitVec 32 := 1#32
  let v286 : BitVec 32 := Scalar.divsi v284 c1_i32_156
  let v287 : BitVec 32 := Scalar.muli v286 c1_i32_156
  let v288 : BitVec 32 := Scalar.addi c0_i32_155 v287
  let c1_i32_158 : BitVec 32 := 1#32
  let arg12 : BitVec 32 := Scf.iv v288 c1_i32_158 k0_t44
  let v302 : Index := Scalar.indexCast arg12
  let c16_168 : Index := 16#32
  ![v302.toNat, 16]
def k0_off334 (v34 : BitVec 32) (k0_t44 : Fin (k0_t44_loop v34).trips) : Fin 2 → Nat :=
  let c0_i32_155 : BitVec 32 := 0#32
  let c2560_i32_145 : BitVec 32 := 2560#32
  let v274 : BitVec 32 := Scalar.subi v34 c2560_i32_145
  let c128_i32_146 : BitVec 32 := 128#32
  let v275 : BitVec 32 := Scalar.minsi v274 c128_i32_146
  let v284 : BitVec 32 := Scalar.subi v275 c0_i32_155
  let c1_i32_156 : BitVec 32 := 1#32
  let v286 : BitVec 32 := Scalar.divsi v284 c1_i32_156
  let v287 : BitVec 32 := Scalar.muli v286 c1_i32_156
  let v288 : BitVec 32 := Scalar.addi c0_i32_155 v287
  let c1_i32_158 : BitVec 32 := 1#32
  let arg12 : BitVec 32 := Scf.iv v288 c1_i32_158 k0_t44
  let v305 : Index := Scalar.indexCast arg12
  let c32_169 : Index := 32#32
  ![v305.toNat, 32]
def k0_off335 (v34 : BitVec 32) (k0_t44 : Fin (k0_t44_loop v34).trips) : Fin 2 → Nat :=
  let c0_i32_155 : BitVec 32 := 0#32
  let c2560_i32_145 : BitVec 32 := 2560#32
  let v274 : BitVec 32 := Scalar.subi v34 c2560_i32_145
  let c128_i32_146 : BitVec 32 := 128#32
  let v275 : BitVec 32 := Scalar.minsi v274 c128_i32_146
  let v284 : BitVec 32 := Scalar.subi v275 c0_i32_155
  let c1_i32_156 : BitVec 32 := 1#32
  let v286 : BitVec 32 := Scalar.divsi v284 c1_i32_156
  let v287 : BitVec 32 := Scalar.muli v286 c1_i32_156
  let v288 : BitVec 32 := Scalar.addi c0_i32_155 v287
  let c1_i32_158 : BitVec 32 := 1#32
  let arg12 : BitVec 32 := Scf.iv v288 c1_i32_158 k0_t44
  let v308 : Index := Scalar.indexCast arg12
  let c48_170 : Index := 48#32
  ![v308.toNat, 48]
def k0_off336 (v34 : BitVec 32) (k0_t44 : Fin (k0_t44_loop v34).trips) : Fin 2 → Nat :=
  let c0_i32_155 : BitVec 32 := 0#32
  let c2560_i32_145 : BitVec 32 := 2560#32
  let v274 : BitVec 32 := Scalar.subi v34 c2560_i32_145
  let c128_i32_146 : BitVec 32 := 128#32
  let v275 : BitVec 32 := Scalar.minsi v274 c128_i32_146
  let v284 : BitVec 32 := Scalar.subi v275 c0_i32_155
  let c1_i32_156 : BitVec 32 := 1#32
  let v286 : BitVec 32 := Scalar.divsi v284 c1_i32_156
  let v287 : BitVec 32 := Scalar.muli v286 c1_i32_156
  let v288 : BitVec 32 := Scalar.addi c0_i32_155 v287
  let c1_i32_158 : BitVec 32 := 1#32
  let arg12 : BitVec 32 := Scf.iv v288 c1_i32_158 k0_t44
  let v311 : Index := Scalar.indexCast arg12
  let c64_171 : Index := 64#32
  ![v311.toNat, 64]
def k0_off337 (v34 : BitVec 32) (k0_t44 : Fin (k0_t44_loop v34).trips) : Fin 2 → Nat :=
  let c0_i32_155 : BitVec 32 := 0#32
  let c2560_i32_145 : BitVec 32 := 2560#32
  let v274 : BitVec 32 := Scalar.subi v34 c2560_i32_145
  let c128_i32_146 : BitVec 32 := 128#32
  let v275 : BitVec 32 := Scalar.minsi v274 c128_i32_146
  let v284 : BitVec 32 := Scalar.subi v275 c0_i32_155
  let c1_i32_156 : BitVec 32 := 1#32
  let v286 : BitVec 32 := Scalar.divsi v284 c1_i32_156
  let v287 : BitVec 32 := Scalar.muli v286 c1_i32_156
  let v288 : BitVec 32 := Scalar.addi c0_i32_155 v287
  let c1_i32_158 : BitVec 32 := 1#32
  let arg12 : BitVec 32 := Scf.iv v288 c1_i32_158 k0_t44
  let v314 : Index := Scalar.indexCast arg12
  let c80_172 : Index := 80#32
  ![v314.toNat, 80]
def k0_off338 (v34 : BitVec 32) (k0_t44 : Fin (k0_t44_loop v34).trips) : Fin 2 → Nat :=
  let c0_i32_155 : BitVec 32 := 0#32
  let c2560_i32_145 : BitVec 32 := 2560#32
  let v274 : BitVec 32 := Scalar.subi v34 c2560_i32_145
  let c128_i32_146 : BitVec 32 := 128#32
  let v275 : BitVec 32 := Scalar.minsi v274 c128_i32_146
  let v284 : BitVec 32 := Scalar.subi v275 c0_i32_155
  let c1_i32_156 : BitVec 32 := 1#32
  let v286 : BitVec 32 := Scalar.divsi v284 c1_i32_156
  let v287 : BitVec 32 := Scalar.muli v286 c1_i32_156
  let v288 : BitVec 32 := Scalar.addi c0_i32_155 v287
  let c1_i32_158 : BitVec 32 := 1#32
  let arg12 : BitVec 32 := Scf.iv v288 c1_i32_158 k0_t44
  let v317 : Index := Scalar.indexCast arg12
  let c96_173 : Index := 96#32
  ![v317.toNat, 96]
def k0_off339 (v34 : BitVec 32) (k0_t44 : Fin (k0_t44_loop v34).trips) : Fin 2 → Nat :=
  let c0_i32_155 : BitVec 32 := 0#32
  let c2560_i32_145 : BitVec 32 := 2560#32
  let v274 : BitVec 32 := Scalar.subi v34 c2560_i32_145
  let c128_i32_146 : BitVec 32 := 128#32
  let v275 : BitVec 32 := Scalar.minsi v274 c128_i32_146
  let v284 : BitVec 32 := Scalar.subi v275 c0_i32_155
  let c1_i32_156 : BitVec 32 := 1#32
  let v286 : BitVec 32 := Scalar.divsi v284 c1_i32_156
  let v287 : BitVec 32 := Scalar.muli v286 c1_i32_156
  let v288 : BitVec 32 := Scalar.addi c0_i32_155 v287
  let c1_i32_158 : BitVec 32 := 1#32
  let arg12 : BitVec 32 := Scf.iv v288 c1_i32_158 k0_t44
  let v320 : Index := Scalar.indexCast arg12
  let c112_174 : Index := 112#32
  ![v320.toNat, 112]
@[reducible] def k0_t45_loop (v34 : BitVec 32) : Scf.Loop 32 :=
  let c0_i32_155 : BitVec 32 := 0#32
  let c2688_i32_145 : BitVec 32 := 2688#32
  let v274 : BitVec 32 := Scalar.subi v34 c2688_i32_145
  let c128_i32_146 : BitVec 32 := 128#32
  let v275 : BitVec 32 := Scalar.minsi v274 c128_i32_146
  let v284 : BitVec 32 := Scalar.subi v275 c0_i32_155
  let c1_i32_156 : BitVec 32 := 1#32
  let v286 : BitVec 32 := Scalar.divsi v284 c1_i32_156
  let v287 : BitVec 32 := Scalar.muli v286 c1_i32_156
  let v288 : BitVec 32 := Scalar.addi c0_i32_155 v287
  let c1_i32_157 : BitVec 32 := 1#32
  ⟨c0_i32_155, v288, c1_i32_157⟩
def k0_cond45 (v34 : BitVec 32) : BitVec 1 :=
  let c2688_i32_93 : BitVec 32 := 2688#32
  let v183 : BitVec 1 := Scalar.cmpi .sgt v34 c2688_i32_93
  let v184 : BitVec 32 := Scalar.extui v183
  let c0_i32_94 : BitVec 32 := 0#32
  let v185 : BitVec 1 := Scalar.cmpi .ne v184 c0_i32_94
  v185

def k0_off340 (v34 : BitVec 32) (k0_t45 : Fin (k0_t45_loop v34).trips) : Fin 2 → Nat :=
  let c0_i32_155 : BitVec 32 := 0#32
  let c1_i32_157 : BitVec 32 := 1#32
  let arg12 : BitVec 32 := Scf.iv c0_i32_155 c1_i32_157 k0_t45
  let v299 : Index := Scalar.indexCast arg12
  let c0_167 : Index := 0#32
  ![v299.toNat, 0]
def k0_off341 (v34 : BitVec 32) (k0_t45 : Fin (k0_t45_loop v34).trips) : Fin 2 → Nat :=
  let c0_i32_155 : BitVec 32 := 0#32
  let c1_i32_157 : BitVec 32 := 1#32
  let arg12 : BitVec 32 := Scf.iv c0_i32_155 c1_i32_157 k0_t45
  let v302 : Index := Scalar.indexCast arg12
  let c16_168 : Index := 16#32
  ![v302.toNat, 16]
def k0_off342 (v34 : BitVec 32) (k0_t45 : Fin (k0_t45_loop v34).trips) : Fin 2 → Nat :=
  let c0_i32_155 : BitVec 32 := 0#32
  let c1_i32_157 : BitVec 32 := 1#32
  let arg12 : BitVec 32 := Scf.iv c0_i32_155 c1_i32_157 k0_t45
  let v305 : Index := Scalar.indexCast arg12
  let c32_169 : Index := 32#32
  ![v305.toNat, 32]
def k0_off343 (v34 : BitVec 32) (k0_t45 : Fin (k0_t45_loop v34).trips) : Fin 2 → Nat :=
  let c0_i32_155 : BitVec 32 := 0#32
  let c1_i32_157 : BitVec 32 := 1#32
  let arg12 : BitVec 32 := Scf.iv c0_i32_155 c1_i32_157 k0_t45
  let v308 : Index := Scalar.indexCast arg12
  let c48_170 : Index := 48#32
  ![v308.toNat, 48]
def k0_off344 (v34 : BitVec 32) (k0_t45 : Fin (k0_t45_loop v34).trips) : Fin 2 → Nat :=
  let c0_i32_155 : BitVec 32 := 0#32
  let c1_i32_157 : BitVec 32 := 1#32
  let arg12 : BitVec 32 := Scf.iv c0_i32_155 c1_i32_157 k0_t45
  let v311 : Index := Scalar.indexCast arg12
  let c64_171 : Index := 64#32
  ![v311.toNat, 64]
def k0_off345 (v34 : BitVec 32) (k0_t45 : Fin (k0_t45_loop v34).trips) : Fin 2 → Nat :=
  let c0_i32_155 : BitVec 32 := 0#32
  let c1_i32_157 : BitVec 32 := 1#32
  let arg12 : BitVec 32 := Scf.iv c0_i32_155 c1_i32_157 k0_t45
  let v314 : Index := Scalar.indexCast arg12
  let c80_172 : Index := 80#32
  ![v314.toNat, 80]
def k0_off346 (v34 : BitVec 32) (k0_t45 : Fin (k0_t45_loop v34).trips) : Fin 2 → Nat :=
  let c0_i32_155 : BitVec 32 := 0#32
  let c1_i32_157 : BitVec 32 := 1#32
  let arg12 : BitVec 32 := Scf.iv c0_i32_155 c1_i32_157 k0_t45
  let v317 : Index := Scalar.indexCast arg12
  let c96_173 : Index := 96#32
  ![v317.toNat, 96]
def k0_off347 (v34 : BitVec 32) (k0_t45 : Fin (k0_t45_loop v34).trips) : Fin 2 → Nat :=
  let c0_i32_155 : BitVec 32 := 0#32
  let c1_i32_157 : BitVec 32 := 1#32
  let arg12 : BitVec 32 := Scf.iv c0_i32_155 c1_i32_157 k0_t45
  let v320 : Index := Scalar.indexCast arg12
  let c112_174 : Index := 112#32
  ![v320.toNat, 112]
@[reducible] def k0_t46_loop (v34 : BitVec 32) : Scf.Loop 32 :=
  let c0_i32_155 : BitVec 32 := 0#32
  let c2688_i32_145 : BitVec 32 := 2688#32
  let v274 : BitVec 32 := Scalar.subi v34 c2688_i32_145
  let c128_i32_146 : BitVec 32 := 128#32
  let v275 : BitVec 32 := Scalar.minsi v274 c128_i32_146
  let v284 : BitVec 32 := Scalar.subi v275 c0_i32_155
  let c1_i32_156 : BitVec 32 := 1#32
  let v286 : BitVec 32 := Scalar.divsi v284 c1_i32_156
  let v287 : BitVec 32 := Scalar.muli v286 c1_i32_156
  let v288 : BitVec 32 := Scalar.addi c0_i32_155 v287
  let v285 : BitVec 32 := Scalar.addi c0_i32_155 v284
  let c1_i32_158 : BitVec 32 := 1#32
  ⟨v288, v285, c1_i32_158⟩
def k0_off348 (v34 : BitVec 32) (k0_t46 : Fin (k0_t46_loop v34).trips) : Fin 2 → Nat :=
  let c0_i32_155 : BitVec 32 := 0#32
  let c2688_i32_145 : BitVec 32 := 2688#32
  let v274 : BitVec 32 := Scalar.subi v34 c2688_i32_145
  let c128_i32_146 : BitVec 32 := 128#32
  let v275 : BitVec 32 := Scalar.minsi v274 c128_i32_146
  let v284 : BitVec 32 := Scalar.subi v275 c0_i32_155
  let c1_i32_156 : BitVec 32 := 1#32
  let v286 : BitVec 32 := Scalar.divsi v284 c1_i32_156
  let v287 : BitVec 32 := Scalar.muli v286 c1_i32_156
  let v288 : BitVec 32 := Scalar.addi c0_i32_155 v287
  let c1_i32_158 : BitVec 32 := 1#32
  let arg12 : BitVec 32 := Scf.iv v288 c1_i32_158 k0_t46
  let v299 : Index := Scalar.indexCast arg12
  let c0_167 : Index := 0#32
  ![v299.toNat, 0]
def k0_off349 (v34 : BitVec 32) (k0_t46 : Fin (k0_t46_loop v34).trips) : Fin 2 → Nat :=
  let c0_i32_155 : BitVec 32 := 0#32
  let c2688_i32_145 : BitVec 32 := 2688#32
  let v274 : BitVec 32 := Scalar.subi v34 c2688_i32_145
  let c128_i32_146 : BitVec 32 := 128#32
  let v275 : BitVec 32 := Scalar.minsi v274 c128_i32_146
  let v284 : BitVec 32 := Scalar.subi v275 c0_i32_155
  let c1_i32_156 : BitVec 32 := 1#32
  let v286 : BitVec 32 := Scalar.divsi v284 c1_i32_156
  let v287 : BitVec 32 := Scalar.muli v286 c1_i32_156
  let v288 : BitVec 32 := Scalar.addi c0_i32_155 v287
  let c1_i32_158 : BitVec 32 := 1#32
  let arg12 : BitVec 32 := Scf.iv v288 c1_i32_158 k0_t46
  let v302 : Index := Scalar.indexCast arg12
  let c16_168 : Index := 16#32
  ![v302.toNat, 16]
def k0_off350 (v34 : BitVec 32) (k0_t46 : Fin (k0_t46_loop v34).trips) : Fin 2 → Nat :=
  let c0_i32_155 : BitVec 32 := 0#32
  let c2688_i32_145 : BitVec 32 := 2688#32
  let v274 : BitVec 32 := Scalar.subi v34 c2688_i32_145
  let c128_i32_146 : BitVec 32 := 128#32
  let v275 : BitVec 32 := Scalar.minsi v274 c128_i32_146
  let v284 : BitVec 32 := Scalar.subi v275 c0_i32_155
  let c1_i32_156 : BitVec 32 := 1#32
  let v286 : BitVec 32 := Scalar.divsi v284 c1_i32_156
  let v287 : BitVec 32 := Scalar.muli v286 c1_i32_156
  let v288 : BitVec 32 := Scalar.addi c0_i32_155 v287
  let c1_i32_158 : BitVec 32 := 1#32
  let arg12 : BitVec 32 := Scf.iv v288 c1_i32_158 k0_t46
  let v305 : Index := Scalar.indexCast arg12
  let c32_169 : Index := 32#32
  ![v305.toNat, 32]
def k0_off351 (v34 : BitVec 32) (k0_t46 : Fin (k0_t46_loop v34).trips) : Fin 2 → Nat :=
  let c0_i32_155 : BitVec 32 := 0#32
  let c2688_i32_145 : BitVec 32 := 2688#32
  let v274 : BitVec 32 := Scalar.subi v34 c2688_i32_145
  let c128_i32_146 : BitVec 32 := 128#32
  let v275 : BitVec 32 := Scalar.minsi v274 c128_i32_146
  let v284 : BitVec 32 := Scalar.subi v275 c0_i32_155
  let c1_i32_156 : BitVec 32 := 1#32
  let v286 : BitVec 32 := Scalar.divsi v284 c1_i32_156
  let v287 : BitVec 32 := Scalar.muli v286 c1_i32_156
  let v288 : BitVec 32 := Scalar.addi c0_i32_155 v287
  let c1_i32_158 : BitVec 32 := 1#32
  let arg12 : BitVec 32 := Scf.iv v288 c1_i32_158 k0_t46
  let v308 : Index := Scalar.indexCast arg12
  let c48_170 : Index := 48#32
  ![v308.toNat, 48]
def k0_off352 (v34 : BitVec 32) (k0_t46 : Fin (k0_t46_loop v34).trips) : Fin 2 → Nat :=
  let c0_i32_155 : BitVec 32 := 0#32
  let c2688_i32_145 : BitVec 32 := 2688#32
  let v274 : BitVec 32 := Scalar.subi v34 c2688_i32_145
  let c128_i32_146 : BitVec 32 := 128#32
  let v275 : BitVec 32 := Scalar.minsi v274 c128_i32_146
  let v284 : BitVec 32 := Scalar.subi v275 c0_i32_155
  let c1_i32_156 : BitVec 32 := 1#32
  let v286 : BitVec 32 := Scalar.divsi v284 c1_i32_156
  let v287 : BitVec 32 := Scalar.muli v286 c1_i32_156
  let v288 : BitVec 32 := Scalar.addi c0_i32_155 v287
  let c1_i32_158 : BitVec 32 := 1#32
  let arg12 : BitVec 32 := Scf.iv v288 c1_i32_158 k0_t46
  let v311 : Index := Scalar.indexCast arg12
  let c64_171 : Index := 64#32
  ![v311.toNat, 64]
def k0_off353 (v34 : BitVec 32) (k0_t46 : Fin (k0_t46_loop v34).trips) : Fin 2 → Nat :=
  let c0_i32_155 : BitVec 32 := 0#32
  let c2688_i32_145 : BitVec 32 := 2688#32
  let v274 : BitVec 32 := Scalar.subi v34 c2688_i32_145
  let c128_i32_146 : BitVec 32 := 128#32
  let v275 : BitVec 32 := Scalar.minsi v274 c128_i32_146
  let v284 : BitVec 32 := Scalar.subi v275 c0_i32_155
  let c1_i32_156 : BitVec 32 := 1#32
  let v286 : BitVec 32 := Scalar.divsi v284 c1_i32_156
  let v287 : BitVec 32 := Scalar.muli v286 c1_i32_156
  let v288 : BitVec 32 := Scalar.addi c0_i32_155 v287
  let c1_i32_158 : BitVec 32 := 1#32
  let arg12 : BitVec 32 := Scf.iv v288 c1_i32_158 k0_t46
  let v314 : Index := Scalar.indexCast arg12
  let c80_172 : Index := 80#32
  ![v314.toNat, 80]
def k0_off354 (v34 : BitVec 32) (k0_t46 : Fin (k0_t46_loop v34).trips) : Fin 2 → Nat :=
  let c0_i32_155 : BitVec 32 := 0#32
  let c2688_i32_145 : BitVec 32 := 2688#32
  let v274 : BitVec 32 := Scalar.subi v34 c2688_i32_145
  let c128_i32_146 : BitVec 32 := 128#32
  let v275 : BitVec 32 := Scalar.minsi v274 c128_i32_146
  let v284 : BitVec 32 := Scalar.subi v275 c0_i32_155
  let c1_i32_156 : BitVec 32 := 1#32
  let v286 : BitVec 32 := Scalar.divsi v284 c1_i32_156
  let v287 : BitVec 32 := Scalar.muli v286 c1_i32_156
  let v288 : BitVec 32 := Scalar.addi c0_i32_155 v287
  let c1_i32_158 : BitVec 32 := 1#32
  let arg12 : BitVec 32 := Scf.iv v288 c1_i32_158 k0_t46
  let v317 : Index := Scalar.indexCast arg12
  let c96_173 : Index := 96#32
  ![v317.toNat, 96]
def k0_off355 (v34 : BitVec 32) (k0_t46 : Fin (k0_t46_loop v34).trips) : Fin 2 → Nat :=
  let c0_i32_155 : BitVec 32 := 0#32
  let c2688_i32_145 : BitVec 32 := 2688#32
  let v274 : BitVec 32 := Scalar.subi v34 c2688_i32_145
  let c128_i32_146 : BitVec 32 := 128#32
  let v275 : BitVec 32 := Scalar.minsi v274 c128_i32_146
  let v284 : BitVec 32 := Scalar.subi v275 c0_i32_155
  let c1_i32_156 : BitVec 32 := 1#32
  let v286 : BitVec 32 := Scalar.divsi v284 c1_i32_156
  let v287 : BitVec 32 := Scalar.muli v286 c1_i32_156
  let v288 : BitVec 32 := Scalar.addi c0_i32_155 v287
  let c1_i32_158 : BitVec 32 := 1#32
  let arg12 : BitVec 32 := Scf.iv v288 c1_i32_158 k0_t46
  let v320 : Index := Scalar.indexCast arg12
  let c112_174 : Index := 112#32
  ![v320.toNat, 112]
@[reducible] def k0_t47_loop (v34 : BitVec 32) : Scf.Loop 32 :=
  let c0_i32_155 : BitVec 32 := 0#32
  let c2816_i32_145 : BitVec 32 := 2816#32
  let v274 : BitVec 32 := Scalar.subi v34 c2816_i32_145
  let c128_i32_146 : BitVec 32 := 128#32
  let v275 : BitVec 32 := Scalar.minsi v274 c128_i32_146
  let v284 : BitVec 32 := Scalar.subi v275 c0_i32_155
  let c1_i32_156 : BitVec 32 := 1#32
  let v286 : BitVec 32 := Scalar.divsi v284 c1_i32_156
  let v287 : BitVec 32 := Scalar.muli v286 c1_i32_156
  let v288 : BitVec 32 := Scalar.addi c0_i32_155 v287
  let c1_i32_157 : BitVec 32 := 1#32
  ⟨c0_i32_155, v288, c1_i32_157⟩
def k0_cond47 (v34 : BitVec 32) : BitVec 1 :=
  let c2816_i32_96 : BitVec 32 := 2816#32
  let v189 : BitVec 1 := Scalar.cmpi .sgt v34 c2816_i32_96
  let v190 : BitVec 32 := Scalar.extui v189
  let c0_i32_97 : BitVec 32 := 0#32
  let v191 : BitVec 1 := Scalar.cmpi .ne v190 c0_i32_97
  v191

def k0_off356 (v34 : BitVec 32) (k0_t47 : Fin (k0_t47_loop v34).trips) : Fin 2 → Nat :=
  let c0_i32_155 : BitVec 32 := 0#32
  let c1_i32_157 : BitVec 32 := 1#32
  let arg12 : BitVec 32 := Scf.iv c0_i32_155 c1_i32_157 k0_t47
  let v299 : Index := Scalar.indexCast arg12
  let c0_167 : Index := 0#32
  ![v299.toNat, 0]
def k0_off357 (v34 : BitVec 32) (k0_t47 : Fin (k0_t47_loop v34).trips) : Fin 2 → Nat :=
  let c0_i32_155 : BitVec 32 := 0#32
  let c1_i32_157 : BitVec 32 := 1#32
  let arg12 : BitVec 32 := Scf.iv c0_i32_155 c1_i32_157 k0_t47
  let v302 : Index := Scalar.indexCast arg12
  let c16_168 : Index := 16#32
  ![v302.toNat, 16]
def k0_off358 (v34 : BitVec 32) (k0_t47 : Fin (k0_t47_loop v34).trips) : Fin 2 → Nat :=
  let c0_i32_155 : BitVec 32 := 0#32
  let c1_i32_157 : BitVec 32 := 1#32
  let arg12 : BitVec 32 := Scf.iv c0_i32_155 c1_i32_157 k0_t47
  let v305 : Index := Scalar.indexCast arg12
  let c32_169 : Index := 32#32
  ![v305.toNat, 32]
def k0_off359 (v34 : BitVec 32) (k0_t47 : Fin (k0_t47_loop v34).trips) : Fin 2 → Nat :=
  let c0_i32_155 : BitVec 32 := 0#32
  let c1_i32_157 : BitVec 32 := 1#32
  let arg12 : BitVec 32 := Scf.iv c0_i32_155 c1_i32_157 k0_t47
  let v308 : Index := Scalar.indexCast arg12
  let c48_170 : Index := 48#32
  ![v308.toNat, 48]
def k0_off360 (v34 : BitVec 32) (k0_t47 : Fin (k0_t47_loop v34).trips) : Fin 2 → Nat :=
  let c0_i32_155 : BitVec 32 := 0#32
  let c1_i32_157 : BitVec 32 := 1#32
  let arg12 : BitVec 32 := Scf.iv c0_i32_155 c1_i32_157 k0_t47
  let v311 : Index := Scalar.indexCast arg12
  let c64_171 : Index := 64#32
  ![v311.toNat, 64]
def k0_off361 (v34 : BitVec 32) (k0_t47 : Fin (k0_t47_loop v34).trips) : Fin 2 → Nat :=
  let c0_i32_155 : BitVec 32 := 0#32
  let c1_i32_157 : BitVec 32 := 1#32
  let arg12 : BitVec 32 := Scf.iv c0_i32_155 c1_i32_157 k0_t47
  let v314 : Index := Scalar.indexCast arg12
  let c80_172 : Index := 80#32
  ![v314.toNat, 80]
def k0_off362 (v34 : BitVec 32) (k0_t47 : Fin (k0_t47_loop v34).trips) : Fin 2 → Nat :=
  let c0_i32_155 : BitVec 32 := 0#32
  let c1_i32_157 : BitVec 32 := 1#32
  let arg12 : BitVec 32 := Scf.iv c0_i32_155 c1_i32_157 k0_t47
  let v317 : Index := Scalar.indexCast arg12
  let c96_173 : Index := 96#32
  ![v317.toNat, 96]
def k0_off363 (v34 : BitVec 32) (k0_t47 : Fin (k0_t47_loop v34).trips) : Fin 2 → Nat :=
  let c0_i32_155 : BitVec 32 := 0#32
  let c1_i32_157 : BitVec 32 := 1#32
  let arg12 : BitVec 32 := Scf.iv c0_i32_155 c1_i32_157 k0_t47
  let v320 : Index := Scalar.indexCast arg12
  let c112_174 : Index := 112#32
  ![v320.toNat, 112]
@[reducible] def k0_t48_loop (v34 : BitVec 32) : Scf.Loop 32 :=
  let c0_i32_155 : BitVec 32 := 0#32
  let c2816_i32_145 : BitVec 32 := 2816#32
  let v274 : BitVec 32 := Scalar.subi v34 c2816_i32_145
  let c128_i32_146 : BitVec 32 := 128#32
  let v275 : BitVec 32 := Scalar.minsi v274 c128_i32_146
  let v284 : BitVec 32 := Scalar.subi v275 c0_i32_155
  let c1_i32_156 : BitVec 32 := 1#32
  let v286 : BitVec 32 := Scalar.divsi v284 c1_i32_156
  let v287 : BitVec 32 := Scalar.muli v286 c1_i32_156
  let v288 : BitVec 32 := Scalar.addi c0_i32_155 v287
  let v285 : BitVec 32 := Scalar.addi c0_i32_155 v284
  let c1_i32_158 : BitVec 32 := 1#32
  ⟨v288, v285, c1_i32_158⟩
def k0_off364 (v34 : BitVec 32) (k0_t48 : Fin (k0_t48_loop v34).trips) : Fin 2 → Nat :=
  let c0_i32_155 : BitVec 32 := 0#32
  let c2816_i32_145 : BitVec 32 := 2816#32
  let v274 : BitVec 32 := Scalar.subi v34 c2816_i32_145
  let c128_i32_146 : BitVec 32 := 128#32
  let v275 : BitVec 32 := Scalar.minsi v274 c128_i32_146
  let v284 : BitVec 32 := Scalar.subi v275 c0_i32_155
  let c1_i32_156 : BitVec 32 := 1#32
  let v286 : BitVec 32 := Scalar.divsi v284 c1_i32_156
  let v287 : BitVec 32 := Scalar.muli v286 c1_i32_156
  let v288 : BitVec 32 := Scalar.addi c0_i32_155 v287
  let c1_i32_158 : BitVec 32 := 1#32
  let arg12 : BitVec 32 := Scf.iv v288 c1_i32_158 k0_t48
  let v299 : Index := Scalar.indexCast arg12
  let c0_167 : Index := 0#32
  ![v299.toNat, 0]
def k0_off365 (v34 : BitVec 32) (k0_t48 : Fin (k0_t48_loop v34).trips) : Fin 2 → Nat :=
  let c0_i32_155 : BitVec 32 := 0#32
  let c2816_i32_145 : BitVec 32 := 2816#32
  let v274 : BitVec 32 := Scalar.subi v34 c2816_i32_145
  let c128_i32_146 : BitVec 32 := 128#32
  let v275 : BitVec 32 := Scalar.minsi v274 c128_i32_146
  let v284 : BitVec 32 := Scalar.subi v275 c0_i32_155
  let c1_i32_156 : BitVec 32 := 1#32
  let v286 : BitVec 32 := Scalar.divsi v284 c1_i32_156
  let v287 : BitVec 32 := Scalar.muli v286 c1_i32_156
  let v288 : BitVec 32 := Scalar.addi c0_i32_155 v287
  let c1_i32_158 : BitVec 32 := 1#32
  let arg12 : BitVec 32 := Scf.iv v288 c1_i32_158 k0_t48
  let v302 : Index := Scalar.indexCast arg12
  let c16_168 : Index := 16#32
  ![v302.toNat, 16]
def k0_off366 (v34 : BitVec 32) (k0_t48 : Fin (k0_t48_loop v34).trips) : Fin 2 → Nat :=
  let c0_i32_155 : BitVec 32 := 0#32
  let c2816_i32_145 : BitVec 32 := 2816#32
  let v274 : BitVec 32 := Scalar.subi v34 c2816_i32_145
  let c128_i32_146 : BitVec 32 := 128#32
  let v275 : BitVec 32 := Scalar.minsi v274 c128_i32_146
  let v284 : BitVec 32 := Scalar.subi v275 c0_i32_155
  let c1_i32_156 : BitVec 32 := 1#32
  let v286 : BitVec 32 := Scalar.divsi v284 c1_i32_156
  let v287 : BitVec 32 := Scalar.muli v286 c1_i32_156
  let v288 : BitVec 32 := Scalar.addi c0_i32_155 v287
  let c1_i32_158 : BitVec 32 := 1#32
  let arg12 : BitVec 32 := Scf.iv v288 c1_i32_158 k0_t48
  let v305 : Index := Scalar.indexCast arg12
  let c32_169 : Index := 32#32
  ![v305.toNat, 32]
def k0_off367 (v34 : BitVec 32) (k0_t48 : Fin (k0_t48_loop v34).trips) : Fin 2 → Nat :=
  let c0_i32_155 : BitVec 32 := 0#32
  let c2816_i32_145 : BitVec 32 := 2816#32
  let v274 : BitVec 32 := Scalar.subi v34 c2816_i32_145
  let c128_i32_146 : BitVec 32 := 128#32
  let v275 : BitVec 32 := Scalar.minsi v274 c128_i32_146
  let v284 : BitVec 32 := Scalar.subi v275 c0_i32_155
  let c1_i32_156 : BitVec 32 := 1#32
  let v286 : BitVec 32 := Scalar.divsi v284 c1_i32_156
  let v287 : BitVec 32 := Scalar.muli v286 c1_i32_156
  let v288 : BitVec 32 := Scalar.addi c0_i32_155 v287
  let c1_i32_158 : BitVec 32 := 1#32
  let arg12 : BitVec 32 := Scf.iv v288 c1_i32_158 k0_t48
  let v308 : Index := Scalar.indexCast arg12
  let c48_170 : Index := 48#32
  ![v308.toNat, 48]
def k0_off368 (v34 : BitVec 32) (k0_t48 : Fin (k0_t48_loop v34).trips) : Fin 2 → Nat :=
  let c0_i32_155 : BitVec 32 := 0#32
  let c2816_i32_145 : BitVec 32 := 2816#32
  let v274 : BitVec 32 := Scalar.subi v34 c2816_i32_145
  let c128_i32_146 : BitVec 32 := 128#32
  let v275 : BitVec 32 := Scalar.minsi v274 c128_i32_146
  let v284 : BitVec 32 := Scalar.subi v275 c0_i32_155
  let c1_i32_156 : BitVec 32 := 1#32
  let v286 : BitVec 32 := Scalar.divsi v284 c1_i32_156
  let v287 : BitVec 32 := Scalar.muli v286 c1_i32_156
  let v288 : BitVec 32 := Scalar.addi c0_i32_155 v287
  let c1_i32_158 : BitVec 32 := 1#32
  let arg12 : BitVec 32 := Scf.iv v288 c1_i32_158 k0_t48
  let v311 : Index := Scalar.indexCast arg12
  let c64_171 : Index := 64#32
  ![v311.toNat, 64]
def k0_off369 (v34 : BitVec 32) (k0_t48 : Fin (k0_t48_loop v34).trips) : Fin 2 → Nat :=
  let c0_i32_155 : BitVec 32 := 0#32
  let c2816_i32_145 : BitVec 32 := 2816#32
  let v274 : BitVec 32 := Scalar.subi v34 c2816_i32_145
  let c128_i32_146 : BitVec 32 := 128#32
  let v275 : BitVec 32 := Scalar.minsi v274 c128_i32_146
  let v284 : BitVec 32 := Scalar.subi v275 c0_i32_155
  let c1_i32_156 : BitVec 32 := 1#32
  let v286 : BitVec 32 := Scalar.divsi v284 c1_i32_156
  let v287 : BitVec 32 := Scalar.muli v286 c1_i32_156
  let v288 : BitVec 32 := Scalar.addi c0_i32_155 v287
  let c1_i32_158 : BitVec 32 := 1#32
  let arg12 : BitVec 32 := Scf.iv v288 c1_i32_158 k0_t48
  let v314 : Index := Scalar.indexCast arg12
  let c80_172 : Index := 80#32
  ![v314.toNat, 80]
def k0_off370 (v34 : BitVec 32) (k0_t48 : Fin (k0_t48_loop v34).trips) : Fin 2 → Nat :=
  let c0_i32_155 : BitVec 32 := 0#32
  let c2816_i32_145 : BitVec 32 := 2816#32
  let v274 : BitVec 32 := Scalar.subi v34 c2816_i32_145
  let c128_i32_146 : BitVec 32 := 128#32
  let v275 : BitVec 32 := Scalar.minsi v274 c128_i32_146
  let v284 : BitVec 32 := Scalar.subi v275 c0_i32_155
  let c1_i32_156 : BitVec 32 := 1#32
  let v286 : BitVec 32 := Scalar.divsi v284 c1_i32_156
  let v287 : BitVec 32 := Scalar.muli v286 c1_i32_156
  let v288 : BitVec 32 := Scalar.addi c0_i32_155 v287
  let c1_i32_158 : BitVec 32 := 1#32
  let arg12 : BitVec 32 := Scf.iv v288 c1_i32_158 k0_t48
  let v317 : Index := Scalar.indexCast arg12
  let c96_173 : Index := 96#32
  ![v317.toNat, 96]
def k0_off371 (v34 : BitVec 32) (k0_t48 : Fin (k0_t48_loop v34).trips) : Fin 2 → Nat :=
  let c0_i32_155 : BitVec 32 := 0#32
  let c2816_i32_145 : BitVec 32 := 2816#32
  let v274 : BitVec 32 := Scalar.subi v34 c2816_i32_145
  let c128_i32_146 : BitVec 32 := 128#32
  let v275 : BitVec 32 := Scalar.minsi v274 c128_i32_146
  let v284 : BitVec 32 := Scalar.subi v275 c0_i32_155
  let c1_i32_156 : BitVec 32 := 1#32
  let v286 : BitVec 32 := Scalar.divsi v284 c1_i32_156
  let v287 : BitVec 32 := Scalar.muli v286 c1_i32_156
  let v288 : BitVec 32 := Scalar.addi c0_i32_155 v287
  let c1_i32_158 : BitVec 32 := 1#32
  let arg12 : BitVec 32 := Scf.iv v288 c1_i32_158 k0_t48
  let v320 : Index := Scalar.indexCast arg12
  let c112_174 : Index := 112#32
  ![v320.toNat, 112]
@[reducible] def k0_t49_loop (v34 : BitVec 32) : Scf.Loop 32 :=
  let c0_i32_155 : BitVec 32 := 0#32
  let c2944_i32_145 : BitVec 32 := 2944#32
  let v274 : BitVec 32 := Scalar.subi v34 c2944_i32_145
  let c128_i32_146 : BitVec 32 := 128#32
  let v275 : BitVec 32 := Scalar.minsi v274 c128_i32_146
  let v284 : BitVec 32 := Scalar.subi v275 c0_i32_155
  let c1_i32_156 : BitVec 32 := 1#32
  let v286 : BitVec 32 := Scalar.divsi v284 c1_i32_156
  let v287 : BitVec 32 := Scalar.muli v286 c1_i32_156
  let v288 : BitVec 32 := Scalar.addi c0_i32_155 v287
  let c1_i32_157 : BitVec 32 := 1#32
  ⟨c0_i32_155, v288, c1_i32_157⟩
def k0_cond49 (v34 : BitVec 32) : BitVec 1 :=
  let c2944_i32_99 : BitVec 32 := 2944#32
  let v195 : BitVec 1 := Scalar.cmpi .sgt v34 c2944_i32_99
  let v196 : BitVec 32 := Scalar.extui v195
  let c0_i32_100 : BitVec 32 := 0#32
  let v197 : BitVec 1 := Scalar.cmpi .ne v196 c0_i32_100
  v197

def k0_off372 (v34 : BitVec 32) (k0_t49 : Fin (k0_t49_loop v34).trips) : Fin 2 → Nat :=
  let c0_i32_155 : BitVec 32 := 0#32
  let c1_i32_157 : BitVec 32 := 1#32
  let arg12 : BitVec 32 := Scf.iv c0_i32_155 c1_i32_157 k0_t49
  let v299 : Index := Scalar.indexCast arg12
  let c0_167 : Index := 0#32
  ![v299.toNat, 0]
def k0_off373 (v34 : BitVec 32) (k0_t49 : Fin (k0_t49_loop v34).trips) : Fin 2 → Nat :=
  let c0_i32_155 : BitVec 32 := 0#32
  let c1_i32_157 : BitVec 32 := 1#32
  let arg12 : BitVec 32 := Scf.iv c0_i32_155 c1_i32_157 k0_t49
  let v302 : Index := Scalar.indexCast arg12
  let c16_168 : Index := 16#32
  ![v302.toNat, 16]
def k0_off374 (v34 : BitVec 32) (k0_t49 : Fin (k0_t49_loop v34).trips) : Fin 2 → Nat :=
  let c0_i32_155 : BitVec 32 := 0#32
  let c1_i32_157 : BitVec 32 := 1#32
  let arg12 : BitVec 32 := Scf.iv c0_i32_155 c1_i32_157 k0_t49
  let v305 : Index := Scalar.indexCast arg12
  let c32_169 : Index := 32#32
  ![v305.toNat, 32]
def k0_off375 (v34 : BitVec 32) (k0_t49 : Fin (k0_t49_loop v34).trips) : Fin 2 → Nat :=
  let c0_i32_155 : BitVec 32 := 0#32
  let c1_i32_157 : BitVec 32 := 1#32
  let arg12 : BitVec 32 := Scf.iv c0_i32_155 c1_i32_157 k0_t49
  let v308 : Index := Scalar.indexCast arg12
  let c48_170 : Index := 48#32
  ![v308.toNat, 48]
def k0_off376 (v34 : BitVec 32) (k0_t49 : Fin (k0_t49_loop v34).trips) : Fin 2 → Nat :=
  let c0_i32_155 : BitVec 32 := 0#32
  let c1_i32_157 : BitVec 32 := 1#32
  let arg12 : BitVec 32 := Scf.iv c0_i32_155 c1_i32_157 k0_t49
  let v311 : Index := Scalar.indexCast arg12
  let c64_171 : Index := 64#32
  ![v311.toNat, 64]
def k0_off377 (v34 : BitVec 32) (k0_t49 : Fin (k0_t49_loop v34).trips) : Fin 2 → Nat :=
  let c0_i32_155 : BitVec 32 := 0#32
  let c1_i32_157 : BitVec 32 := 1#32
  let arg12 : BitVec 32 := Scf.iv c0_i32_155 c1_i32_157 k0_t49
  let v314 : Index := Scalar.indexCast arg12
  let c80_172 : Index := 80#32
  ![v314.toNat, 80]
def k0_off378 (v34 : BitVec 32) (k0_t49 : Fin (k0_t49_loop v34).trips) : Fin 2 → Nat :=
  let c0_i32_155 : BitVec 32 := 0#32
  let c1_i32_157 : BitVec 32 := 1#32
  let arg12 : BitVec 32 := Scf.iv c0_i32_155 c1_i32_157 k0_t49
  let v317 : Index := Scalar.indexCast arg12
  let c96_173 : Index := 96#32
  ![v317.toNat, 96]
def k0_off379 (v34 : BitVec 32) (k0_t49 : Fin (k0_t49_loop v34).trips) : Fin 2 → Nat :=
  let c0_i32_155 : BitVec 32 := 0#32
  let c1_i32_157 : BitVec 32 := 1#32
  let arg12 : BitVec 32 := Scf.iv c0_i32_155 c1_i32_157 k0_t49
  let v320 : Index := Scalar.indexCast arg12
  let c112_174 : Index := 112#32
  ![v320.toNat, 112]
@[reducible] def k0_t50_loop (v34 : BitVec 32) : Scf.Loop 32 :=
  let c0_i32_155 : BitVec 32 := 0#32
  let c2944_i32_145 : BitVec 32 := 2944#32
  let v274 : BitVec 32 := Scalar.subi v34 c2944_i32_145
  let c128_i32_146 : BitVec 32 := 128#32
  let v275 : BitVec 32 := Scalar.minsi v274 c128_i32_146
  let v284 : BitVec 32 := Scalar.subi v275 c0_i32_155
  let c1_i32_156 : BitVec 32 := 1#32
  let v286 : BitVec 32 := Scalar.divsi v284 c1_i32_156
  let v287 : BitVec 32 := Scalar.muli v286 c1_i32_156
  let v288 : BitVec 32 := Scalar.addi c0_i32_155 v287
  let v285 : BitVec 32 := Scalar.addi c0_i32_155 v284
  let c1_i32_158 : BitVec 32 := 1#32
  ⟨v288, v285, c1_i32_158⟩
def k0_off380 (v34 : BitVec 32) (k0_t50 : Fin (k0_t50_loop v34).trips) : Fin 2 → Nat :=
  let c0_i32_155 : BitVec 32 := 0#32
  let c2944_i32_145 : BitVec 32 := 2944#32
  let v274 : BitVec 32 := Scalar.subi v34 c2944_i32_145
  let c128_i32_146 : BitVec 32 := 128#32
  let v275 : BitVec 32 := Scalar.minsi v274 c128_i32_146
  let v284 : BitVec 32 := Scalar.subi v275 c0_i32_155
  let c1_i32_156 : BitVec 32 := 1#32
  let v286 : BitVec 32 := Scalar.divsi v284 c1_i32_156
  let v287 : BitVec 32 := Scalar.muli v286 c1_i32_156
  let v288 : BitVec 32 := Scalar.addi c0_i32_155 v287
  let c1_i32_158 : BitVec 32 := 1#32
  let arg12 : BitVec 32 := Scf.iv v288 c1_i32_158 k0_t50
  let v299 : Index := Scalar.indexCast arg12
  let c0_167 : Index := 0#32
  ![v299.toNat, 0]
def k0_off381 (v34 : BitVec 32) (k0_t50 : Fin (k0_t50_loop v34).trips) : Fin 2 → Nat :=
  let c0_i32_155 : BitVec 32 := 0#32
  let c2944_i32_145 : BitVec 32 := 2944#32
  let v274 : BitVec 32 := Scalar.subi v34 c2944_i32_145
  let c128_i32_146 : BitVec 32 := 128#32
  let v275 : BitVec 32 := Scalar.minsi v274 c128_i32_146
  let v284 : BitVec 32 := Scalar.subi v275 c0_i32_155
  let c1_i32_156 : BitVec 32 := 1#32
  let v286 : BitVec 32 := Scalar.divsi v284 c1_i32_156
  let v287 : BitVec 32 := Scalar.muli v286 c1_i32_156
  let v288 : BitVec 32 := Scalar.addi c0_i32_155 v287
  let c1_i32_158 : BitVec 32 := 1#32
  let arg12 : BitVec 32 := Scf.iv v288 c1_i32_158 k0_t50
  let v302 : Index := Scalar.indexCast arg12
  let c16_168 : Index := 16#32
  ![v302.toNat, 16]
def k0_off382 (v34 : BitVec 32) (k0_t50 : Fin (k0_t50_loop v34).trips) : Fin 2 → Nat :=
  let c0_i32_155 : BitVec 32 := 0#32
  let c2944_i32_145 : BitVec 32 := 2944#32
  let v274 : BitVec 32 := Scalar.subi v34 c2944_i32_145
  let c128_i32_146 : BitVec 32 := 128#32
  let v275 : BitVec 32 := Scalar.minsi v274 c128_i32_146
  let v284 : BitVec 32 := Scalar.subi v275 c0_i32_155
  let c1_i32_156 : BitVec 32 := 1#32
  let v286 : BitVec 32 := Scalar.divsi v284 c1_i32_156
  let v287 : BitVec 32 := Scalar.muli v286 c1_i32_156
  let v288 : BitVec 32 := Scalar.addi c0_i32_155 v287
  let c1_i32_158 : BitVec 32 := 1#32
  let arg12 : BitVec 32 := Scf.iv v288 c1_i32_158 k0_t50
  let v305 : Index := Scalar.indexCast arg12
  let c32_169 : Index := 32#32
  ![v305.toNat, 32]
def k0_off383 (v34 : BitVec 32) (k0_t50 : Fin (k0_t50_loop v34).trips) : Fin 2 → Nat :=
  let c0_i32_155 : BitVec 32 := 0#32
  let c2944_i32_145 : BitVec 32 := 2944#32
  let v274 : BitVec 32 := Scalar.subi v34 c2944_i32_145
  let c128_i32_146 : BitVec 32 := 128#32
  let v275 : BitVec 32 := Scalar.minsi v274 c128_i32_146
  let v284 : BitVec 32 := Scalar.subi v275 c0_i32_155
  let c1_i32_156 : BitVec 32 := 1#32
  let v286 : BitVec 32 := Scalar.divsi v284 c1_i32_156
  let v287 : BitVec 32 := Scalar.muli v286 c1_i32_156
  let v288 : BitVec 32 := Scalar.addi c0_i32_155 v287
  let c1_i32_158 : BitVec 32 := 1#32
  let arg12 : BitVec 32 := Scf.iv v288 c1_i32_158 k0_t50
  let v308 : Index := Scalar.indexCast arg12
  let c48_170 : Index := 48#32
  ![v308.toNat, 48]
def k0_off384 (v34 : BitVec 32) (k0_t50 : Fin (k0_t50_loop v34).trips) : Fin 2 → Nat :=
  let c0_i32_155 : BitVec 32 := 0#32
  let c2944_i32_145 : BitVec 32 := 2944#32
  let v274 : BitVec 32 := Scalar.subi v34 c2944_i32_145
  let c128_i32_146 : BitVec 32 := 128#32
  let v275 : BitVec 32 := Scalar.minsi v274 c128_i32_146
  let v284 : BitVec 32 := Scalar.subi v275 c0_i32_155
  let c1_i32_156 : BitVec 32 := 1#32
  let v286 : BitVec 32 := Scalar.divsi v284 c1_i32_156
  let v287 : BitVec 32 := Scalar.muli v286 c1_i32_156
  let v288 : BitVec 32 := Scalar.addi c0_i32_155 v287
  let c1_i32_158 : BitVec 32 := 1#32
  let arg12 : BitVec 32 := Scf.iv v288 c1_i32_158 k0_t50
  let v311 : Index := Scalar.indexCast arg12
  let c64_171 : Index := 64#32
  ![v311.toNat, 64]
def k0_off385 (v34 : BitVec 32) (k0_t50 : Fin (k0_t50_loop v34).trips) : Fin 2 → Nat :=
  let c0_i32_155 : BitVec 32 := 0#32
  let c2944_i32_145 : BitVec 32 := 2944#32
  let v274 : BitVec 32 := Scalar.subi v34 c2944_i32_145
  let c128_i32_146 : BitVec 32 := 128#32
  let v275 : BitVec 32 := Scalar.minsi v274 c128_i32_146
  let v284 : BitVec 32 := Scalar.subi v275 c0_i32_155
  let c1_i32_156 : BitVec 32 := 1#32
  let v286 : BitVec 32 := Scalar.divsi v284 c1_i32_156
  let v287 : BitVec 32 := Scalar.muli v286 c1_i32_156
  let v288 : BitVec 32 := Scalar.addi c0_i32_155 v287
  let c1_i32_158 : BitVec 32 := 1#32
  let arg12 : BitVec 32 := Scf.iv v288 c1_i32_158 k0_t50
  let v314 : Index := Scalar.indexCast arg12
  let c80_172 : Index := 80#32
  ![v314.toNat, 80]
def k0_off386 (v34 : BitVec 32) (k0_t50 : Fin (k0_t50_loop v34).trips) : Fin 2 → Nat :=
  let c0_i32_155 : BitVec 32 := 0#32
  let c2944_i32_145 : BitVec 32 := 2944#32
  let v274 : BitVec 32 := Scalar.subi v34 c2944_i32_145
  let c128_i32_146 : BitVec 32 := 128#32
  let v275 : BitVec 32 := Scalar.minsi v274 c128_i32_146
  let v284 : BitVec 32 := Scalar.subi v275 c0_i32_155
  let c1_i32_156 : BitVec 32 := 1#32
  let v286 : BitVec 32 := Scalar.divsi v284 c1_i32_156
  let v287 : BitVec 32 := Scalar.muli v286 c1_i32_156
  let v288 : BitVec 32 := Scalar.addi c0_i32_155 v287
  let c1_i32_158 : BitVec 32 := 1#32
  let arg12 : BitVec 32 := Scf.iv v288 c1_i32_158 k0_t50
  let v317 : Index := Scalar.indexCast arg12
  let c96_173 : Index := 96#32
  ![v317.toNat, 96]
def k0_off387 (v34 : BitVec 32) (k0_t50 : Fin (k0_t50_loop v34).trips) : Fin 2 → Nat :=
  let c0_i32_155 : BitVec 32 := 0#32
  let c2944_i32_145 : BitVec 32 := 2944#32
  let v274 : BitVec 32 := Scalar.subi v34 c2944_i32_145
  let c128_i32_146 : BitVec 32 := 128#32
  let v275 : BitVec 32 := Scalar.minsi v274 c128_i32_146
  let v284 : BitVec 32 := Scalar.subi v275 c0_i32_155
  let c1_i32_156 : BitVec 32 := 1#32
  let v286 : BitVec 32 := Scalar.divsi v284 c1_i32_156
  let v287 : BitVec 32 := Scalar.muli v286 c1_i32_156
  let v288 : BitVec 32 := Scalar.addi c0_i32_155 v287
  let c1_i32_158 : BitVec 32 := 1#32
  let arg12 : BitVec 32 := Scf.iv v288 c1_i32_158 k0_t50
  let v320 : Index := Scalar.indexCast arg12
  let c112_174 : Index := 112#32
  ![v320.toNat, 112]
@[reducible] def k0_t51_loop (v34 : BitVec 32) : Scf.Loop 32 :=
  let c0_i32_155 : BitVec 32 := 0#32
  let c3072_i32_145 : BitVec 32 := 3072#32
  let v274 : BitVec 32 := Scalar.subi v34 c3072_i32_145
  let c128_i32_146 : BitVec 32 := 128#32
  let v275 : BitVec 32 := Scalar.minsi v274 c128_i32_146
  let v284 : BitVec 32 := Scalar.subi v275 c0_i32_155
  let c1_i32_156 : BitVec 32 := 1#32
  let v286 : BitVec 32 := Scalar.divsi v284 c1_i32_156
  let v287 : BitVec 32 := Scalar.muli v286 c1_i32_156
  let v288 : BitVec 32 := Scalar.addi c0_i32_155 v287
  let c1_i32_157 : BitVec 32 := 1#32
  ⟨c0_i32_155, v288, c1_i32_157⟩
def k0_cond51 (v34 : BitVec 32) : BitVec 1 :=
  let c3072_i32_102 : BitVec 32 := 3072#32
  let v201 : BitVec 1 := Scalar.cmpi .sgt v34 c3072_i32_102
  let v202 : BitVec 32 := Scalar.extui v201
  let c0_i32_103 : BitVec 32 := 0#32
  let v203 : BitVec 1 := Scalar.cmpi .ne v202 c0_i32_103
  v203

def k0_off388 (v34 : BitVec 32) (k0_t51 : Fin (k0_t51_loop v34).trips) : Fin 2 → Nat :=
  let c0_i32_155 : BitVec 32 := 0#32
  let c1_i32_157 : BitVec 32 := 1#32
  let arg12 : BitVec 32 := Scf.iv c0_i32_155 c1_i32_157 k0_t51
  let v299 : Index := Scalar.indexCast arg12
  let c0_167 : Index := 0#32
  ![v299.toNat, 0]
def k0_off389 (v34 : BitVec 32) (k0_t51 : Fin (k0_t51_loop v34).trips) : Fin 2 → Nat :=
  let c0_i32_155 : BitVec 32 := 0#32
  let c1_i32_157 : BitVec 32 := 1#32
  let arg12 : BitVec 32 := Scf.iv c0_i32_155 c1_i32_157 k0_t51
  let v302 : Index := Scalar.indexCast arg12
  let c16_168 : Index := 16#32
  ![v302.toNat, 16]
def k0_off390 (v34 : BitVec 32) (k0_t51 : Fin (k0_t51_loop v34).trips) : Fin 2 → Nat :=
  let c0_i32_155 : BitVec 32 := 0#32
  let c1_i32_157 : BitVec 32 := 1#32
  let arg12 : BitVec 32 := Scf.iv c0_i32_155 c1_i32_157 k0_t51
  let v305 : Index := Scalar.indexCast arg12
  let c32_169 : Index := 32#32
  ![v305.toNat, 32]
def k0_off391 (v34 : BitVec 32) (k0_t51 : Fin (k0_t51_loop v34).trips) : Fin 2 → Nat :=
  let c0_i32_155 : BitVec 32 := 0#32
  let c1_i32_157 : BitVec 32 := 1#32
  let arg12 : BitVec 32 := Scf.iv c0_i32_155 c1_i32_157 k0_t51
  let v308 : Index := Scalar.indexCast arg12
  let c48_170 : Index := 48#32
  ![v308.toNat, 48]
def k0_off392 (v34 : BitVec 32) (k0_t51 : Fin (k0_t51_loop v34).trips) : Fin 2 → Nat :=
  let c0_i32_155 : BitVec 32 := 0#32
  let c1_i32_157 : BitVec 32 := 1#32
  let arg12 : BitVec 32 := Scf.iv c0_i32_155 c1_i32_157 k0_t51
  let v311 : Index := Scalar.indexCast arg12
  let c64_171 : Index := 64#32
  ![v311.toNat, 64]
def k0_off393 (v34 : BitVec 32) (k0_t51 : Fin (k0_t51_loop v34).trips) : Fin 2 → Nat :=
  let c0_i32_155 : BitVec 32 := 0#32
  let c1_i32_157 : BitVec 32 := 1#32
  let arg12 : BitVec 32 := Scf.iv c0_i32_155 c1_i32_157 k0_t51
  let v314 : Index := Scalar.indexCast arg12
  let c80_172 : Index := 80#32
  ![v314.toNat, 80]
def k0_off394 (v34 : BitVec 32) (k0_t51 : Fin (k0_t51_loop v34).trips) : Fin 2 → Nat :=
  let c0_i32_155 : BitVec 32 := 0#32
  let c1_i32_157 : BitVec 32 := 1#32
  let arg12 : BitVec 32 := Scf.iv c0_i32_155 c1_i32_157 k0_t51
  let v317 : Index := Scalar.indexCast arg12
  let c96_173 : Index := 96#32
  ![v317.toNat, 96]
def k0_off395 (v34 : BitVec 32) (k0_t51 : Fin (k0_t51_loop v34).trips) : Fin 2 → Nat :=
  let c0_i32_155 : BitVec 32 := 0#32
  let c1_i32_157 : BitVec 32 := 1#32
  let arg12 : BitVec 32 := Scf.iv c0_i32_155 c1_i32_157 k0_t51
  let v320 : Index := Scalar.indexCast arg12
  let c112_174 : Index := 112#32
  ![v320.toNat, 112]
@[reducible] def k0_t52_loop (v34 : BitVec 32) : Scf.Loop 32 :=
  let c0_i32_155 : BitVec 32 := 0#32
  let c3072_i32_145 : BitVec 32 := 3072#32
  let v274 : BitVec 32 := Scalar.subi v34 c3072_i32_145
  let c128_i32_146 : BitVec 32 := 128#32
  let v275 : BitVec 32 := Scalar.minsi v274 c128_i32_146
  let v284 : BitVec 32 := Scalar.subi v275 c0_i32_155
  let c1_i32_156 : BitVec 32 := 1#32
  let v286 : BitVec 32 := Scalar.divsi v284 c1_i32_156
  let v287 : BitVec 32 := Scalar.muli v286 c1_i32_156
  let v288 : BitVec 32 := Scalar.addi c0_i32_155 v287
  let v285 : BitVec 32 := Scalar.addi c0_i32_155 v284
  let c1_i32_158 : BitVec 32 := 1#32
  ⟨v288, v285, c1_i32_158⟩
def k0_off396 (v34 : BitVec 32) (k0_t52 : Fin (k0_t52_loop v34).trips) : Fin 2 → Nat :=
  let c0_i32_155 : BitVec 32 := 0#32
  let c3072_i32_145 : BitVec 32 := 3072#32
  let v274 : BitVec 32 := Scalar.subi v34 c3072_i32_145
  let c128_i32_146 : BitVec 32 := 128#32
  let v275 : BitVec 32 := Scalar.minsi v274 c128_i32_146
  let v284 : BitVec 32 := Scalar.subi v275 c0_i32_155
  let c1_i32_156 : BitVec 32 := 1#32
  let v286 : BitVec 32 := Scalar.divsi v284 c1_i32_156
  let v287 : BitVec 32 := Scalar.muli v286 c1_i32_156
  let v288 : BitVec 32 := Scalar.addi c0_i32_155 v287
  let c1_i32_158 : BitVec 32 := 1#32
  let arg12 : BitVec 32 := Scf.iv v288 c1_i32_158 k0_t52
  let v299 : Index := Scalar.indexCast arg12
  let c0_167 : Index := 0#32
  ![v299.toNat, 0]
def k0_off397 (v34 : BitVec 32) (k0_t52 : Fin (k0_t52_loop v34).trips) : Fin 2 → Nat :=
  let c0_i32_155 : BitVec 32 := 0#32
  let c3072_i32_145 : BitVec 32 := 3072#32
  let v274 : BitVec 32 := Scalar.subi v34 c3072_i32_145
  let c128_i32_146 : BitVec 32 := 128#32
  let v275 : BitVec 32 := Scalar.minsi v274 c128_i32_146
  let v284 : BitVec 32 := Scalar.subi v275 c0_i32_155
  let c1_i32_156 : BitVec 32 := 1#32
  let v286 : BitVec 32 := Scalar.divsi v284 c1_i32_156
  let v287 : BitVec 32 := Scalar.muli v286 c1_i32_156
  let v288 : BitVec 32 := Scalar.addi c0_i32_155 v287
  let c1_i32_158 : BitVec 32 := 1#32
  let arg12 : BitVec 32 := Scf.iv v288 c1_i32_158 k0_t52
  let v302 : Index := Scalar.indexCast arg12
  let c16_168 : Index := 16#32
  ![v302.toNat, 16]
def k0_off398 (v34 : BitVec 32) (k0_t52 : Fin (k0_t52_loop v34).trips) : Fin 2 → Nat :=
  let c0_i32_155 : BitVec 32 := 0#32
  let c3072_i32_145 : BitVec 32 := 3072#32
  let v274 : BitVec 32 := Scalar.subi v34 c3072_i32_145
  let c128_i32_146 : BitVec 32 := 128#32
  let v275 : BitVec 32 := Scalar.minsi v274 c128_i32_146
  let v284 : BitVec 32 := Scalar.subi v275 c0_i32_155
  let c1_i32_156 : BitVec 32 := 1#32
  let v286 : BitVec 32 := Scalar.divsi v284 c1_i32_156
  let v287 : BitVec 32 := Scalar.muli v286 c1_i32_156
  let v288 : BitVec 32 := Scalar.addi c0_i32_155 v287
  let c1_i32_158 : BitVec 32 := 1#32
  let arg12 : BitVec 32 := Scf.iv v288 c1_i32_158 k0_t52
  let v305 : Index := Scalar.indexCast arg12
  let c32_169 : Index := 32#32
  ![v305.toNat, 32]
def k0_off399 (v34 : BitVec 32) (k0_t52 : Fin (k0_t52_loop v34).trips) : Fin 2 → Nat :=
  let c0_i32_155 : BitVec 32 := 0#32
  let c3072_i32_145 : BitVec 32 := 3072#32
  let v274 : BitVec 32 := Scalar.subi v34 c3072_i32_145
  let c128_i32_146 : BitVec 32 := 128#32
  let v275 : BitVec 32 := Scalar.minsi v274 c128_i32_146
  let v284 : BitVec 32 := Scalar.subi v275 c0_i32_155
  let c1_i32_156 : BitVec 32 := 1#32
  let v286 : BitVec 32 := Scalar.divsi v284 c1_i32_156
  let v287 : BitVec 32 := Scalar.muli v286 c1_i32_156
  let v288 : BitVec 32 := Scalar.addi c0_i32_155 v287
  let c1_i32_158 : BitVec 32 := 1#32
  let arg12 : BitVec 32 := Scf.iv v288 c1_i32_158 k0_t52
  let v308 : Index := Scalar.indexCast arg12
  let c48_170 : Index := 48#32
  ![v308.toNat, 48]
def k0_off400 (v34 : BitVec 32) (k0_t52 : Fin (k0_t52_loop v34).trips) : Fin 2 → Nat :=
  let c0_i32_155 : BitVec 32 := 0#32
  let c3072_i32_145 : BitVec 32 := 3072#32
  let v274 : BitVec 32 := Scalar.subi v34 c3072_i32_145
  let c128_i32_146 : BitVec 32 := 128#32
  let v275 : BitVec 32 := Scalar.minsi v274 c128_i32_146
  let v284 : BitVec 32 := Scalar.subi v275 c0_i32_155
  let c1_i32_156 : BitVec 32 := 1#32
  let v286 : BitVec 32 := Scalar.divsi v284 c1_i32_156
  let v287 : BitVec 32 := Scalar.muli v286 c1_i32_156
  let v288 : BitVec 32 := Scalar.addi c0_i32_155 v287
  let c1_i32_158 : BitVec 32 := 1#32
  let arg12 : BitVec 32 := Scf.iv v288 c1_i32_158 k0_t52
  let v311 : Index := Scalar.indexCast arg12
  let c64_171 : Index := 64#32
  ![v311.toNat, 64]
def k0_off401 (v34 : BitVec 32) (k0_t52 : Fin (k0_t52_loop v34).trips) : Fin 2 → Nat :=
  let c0_i32_155 : BitVec 32 := 0#32
  let c3072_i32_145 : BitVec 32 := 3072#32
  let v274 : BitVec 32 := Scalar.subi v34 c3072_i32_145
  let c128_i32_146 : BitVec 32 := 128#32
  let v275 : BitVec 32 := Scalar.minsi v274 c128_i32_146
  let v284 : BitVec 32 := Scalar.subi v275 c0_i32_155
  let c1_i32_156 : BitVec 32 := 1#32
  let v286 : BitVec 32 := Scalar.divsi v284 c1_i32_156
  let v287 : BitVec 32 := Scalar.muli v286 c1_i32_156
  let v288 : BitVec 32 := Scalar.addi c0_i32_155 v287
  let c1_i32_158 : BitVec 32 := 1#32
  let arg12 : BitVec 32 := Scf.iv v288 c1_i32_158 k0_t52
  let v314 : Index := Scalar.indexCast arg12
  let c80_172 : Index := 80#32
  ![v314.toNat, 80]
def k0_off402 (v34 : BitVec 32) (k0_t52 : Fin (k0_t52_loop v34).trips) : Fin 2 → Nat :=
  let c0_i32_155 : BitVec 32 := 0#32
  let c3072_i32_145 : BitVec 32 := 3072#32
  let v274 : BitVec 32 := Scalar.subi v34 c3072_i32_145
  let c128_i32_146 : BitVec 32 := 128#32
  let v275 : BitVec 32 := Scalar.minsi v274 c128_i32_146
  let v284 : BitVec 32 := Scalar.subi v275 c0_i32_155
  let c1_i32_156 : BitVec 32 := 1#32
  let v286 : BitVec 32 := Scalar.divsi v284 c1_i32_156
  let v287 : BitVec 32 := Scalar.muli v286 c1_i32_156
  let v288 : BitVec 32 := Scalar.addi c0_i32_155 v287
  let c1_i32_158 : BitVec 32 := 1#32
  let arg12 : BitVec 32 := Scf.iv v288 c1_i32_158 k0_t52
  let v317 : Index := Scalar.indexCast arg12
  let c96_173 : Index := 96#32
  ![v317.toNat, 96]
def k0_off403 (v34 : BitVec 32) (k0_t52 : Fin (k0_t52_loop v34).trips) : Fin 2 → Nat :=
  let c0_i32_155 : BitVec 32 := 0#32
  let c3072_i32_145 : BitVec 32 := 3072#32
  let v274 : BitVec 32 := Scalar.subi v34 c3072_i32_145
  let c128_i32_146 : BitVec 32 := 128#32
  let v275 : BitVec 32 := Scalar.minsi v274 c128_i32_146
  let v284 : BitVec 32 := Scalar.subi v275 c0_i32_155
  let c1_i32_156 : BitVec 32 := 1#32
  let v286 : BitVec 32 := Scalar.divsi v284 c1_i32_156
  let v287 : BitVec 32 := Scalar.muli v286 c1_i32_156
  let v288 : BitVec 32 := Scalar.addi c0_i32_155 v287
  let c1_i32_158 : BitVec 32 := 1#32
  let arg12 : BitVec 32 := Scf.iv v288 c1_i32_158 k0_t52
  let v320 : Index := Scalar.indexCast arg12
  let c112_174 : Index := 112#32
  ![v320.toNat, 112]
@[reducible] def k0_t53_loop (v34 : BitVec 32) : Scf.Loop 32 :=
  let c0_i32_155 : BitVec 32 := 0#32
  let c3200_i32_145 : BitVec 32 := 3200#32
  let v274 : BitVec 32 := Scalar.subi v34 c3200_i32_145
  let c128_i32_146 : BitVec 32 := 128#32
  let v275 : BitVec 32 := Scalar.minsi v274 c128_i32_146
  let v284 : BitVec 32 := Scalar.subi v275 c0_i32_155
  let c1_i32_156 : BitVec 32 := 1#32
  let v286 : BitVec 32 := Scalar.divsi v284 c1_i32_156
  let v287 : BitVec 32 := Scalar.muli v286 c1_i32_156
  let v288 : BitVec 32 := Scalar.addi c0_i32_155 v287
  let c1_i32_157 : BitVec 32 := 1#32
  ⟨c0_i32_155, v288, c1_i32_157⟩
def k0_cond53 (v34 : BitVec 32) : BitVec 1 :=
  let c3200_i32_105 : BitVec 32 := 3200#32
  let v207 : BitVec 1 := Scalar.cmpi .sgt v34 c3200_i32_105
  let v208 : BitVec 32 := Scalar.extui v207
  let c0_i32_106 : BitVec 32 := 0#32
  let v209 : BitVec 1 := Scalar.cmpi .ne v208 c0_i32_106
  v209

def k0_off404 (v34 : BitVec 32) (k0_t53 : Fin (k0_t53_loop v34).trips) : Fin 2 → Nat :=
  let c0_i32_155 : BitVec 32 := 0#32
  let c1_i32_157 : BitVec 32 := 1#32
  let arg12 : BitVec 32 := Scf.iv c0_i32_155 c1_i32_157 k0_t53
  let v299 : Index := Scalar.indexCast arg12
  let c0_167 : Index := 0#32
  ![v299.toNat, 0]
def k0_off405 (v34 : BitVec 32) (k0_t53 : Fin (k0_t53_loop v34).trips) : Fin 2 → Nat :=
  let c0_i32_155 : BitVec 32 := 0#32
  let c1_i32_157 : BitVec 32 := 1#32
  let arg12 : BitVec 32 := Scf.iv c0_i32_155 c1_i32_157 k0_t53
  let v302 : Index := Scalar.indexCast arg12
  let c16_168 : Index := 16#32
  ![v302.toNat, 16]
def k0_off406 (v34 : BitVec 32) (k0_t53 : Fin (k0_t53_loop v34).trips) : Fin 2 → Nat :=
  let c0_i32_155 : BitVec 32 := 0#32
  let c1_i32_157 : BitVec 32 := 1#32
  let arg12 : BitVec 32 := Scf.iv c0_i32_155 c1_i32_157 k0_t53
  let v305 : Index := Scalar.indexCast arg12
  let c32_169 : Index := 32#32
  ![v305.toNat, 32]
def k0_off407 (v34 : BitVec 32) (k0_t53 : Fin (k0_t53_loop v34).trips) : Fin 2 → Nat :=
  let c0_i32_155 : BitVec 32 := 0#32
  let c1_i32_157 : BitVec 32 := 1#32
  let arg12 : BitVec 32 := Scf.iv c0_i32_155 c1_i32_157 k0_t53
  let v308 : Index := Scalar.indexCast arg12
  let c48_170 : Index := 48#32
  ![v308.toNat, 48]
def k0_off408 (v34 : BitVec 32) (k0_t53 : Fin (k0_t53_loop v34).trips) : Fin 2 → Nat :=
  let c0_i32_155 : BitVec 32 := 0#32
  let c1_i32_157 : BitVec 32 := 1#32
  let arg12 : BitVec 32 := Scf.iv c0_i32_155 c1_i32_157 k0_t53
  let v311 : Index := Scalar.indexCast arg12
  let c64_171 : Index := 64#32
  ![v311.toNat, 64]
def k0_off409 (v34 : BitVec 32) (k0_t53 : Fin (k0_t53_loop v34).trips) : Fin 2 → Nat :=
  let c0_i32_155 : BitVec 32 := 0#32
  let c1_i32_157 : BitVec 32 := 1#32
  let arg12 : BitVec 32 := Scf.iv c0_i32_155 c1_i32_157 k0_t53
  let v314 : Index := Scalar.indexCast arg12
  let c80_172 : Index := 80#32
  ![v314.toNat, 80]
def k0_off410 (v34 : BitVec 32) (k0_t53 : Fin (k0_t53_loop v34).trips) : Fin 2 → Nat :=
  let c0_i32_155 : BitVec 32 := 0#32
  let c1_i32_157 : BitVec 32 := 1#32
  let arg12 : BitVec 32 := Scf.iv c0_i32_155 c1_i32_157 k0_t53
  let v317 : Index := Scalar.indexCast arg12
  let c96_173 : Index := 96#32
  ![v317.toNat, 96]
def k0_off411 (v34 : BitVec 32) (k0_t53 : Fin (k0_t53_loop v34).trips) : Fin 2 → Nat :=
  let c0_i32_155 : BitVec 32 := 0#32
  let c1_i32_157 : BitVec 32 := 1#32
  let arg12 : BitVec 32 := Scf.iv c0_i32_155 c1_i32_157 k0_t53
  let v320 : Index := Scalar.indexCast arg12
  let c112_174 : Index := 112#32
  ![v320.toNat, 112]
@[reducible] def k0_t54_loop (v34 : BitVec 32) : Scf.Loop 32 :=
  let c0_i32_155 : BitVec 32 := 0#32
  let c3200_i32_145 : BitVec 32 := 3200#32
  let v274 : BitVec 32 := Scalar.subi v34 c3200_i32_145
  let c128_i32_146 : BitVec 32 := 128#32
  let v275 : BitVec 32 := Scalar.minsi v274 c128_i32_146
  let v284 : BitVec 32 := Scalar.subi v275 c0_i32_155
  let c1_i32_156 : BitVec 32 := 1#32
  let v286 : BitVec 32 := Scalar.divsi v284 c1_i32_156
  let v287 : BitVec 32 := Scalar.muli v286 c1_i32_156
  let v288 : BitVec 32 := Scalar.addi c0_i32_155 v287
  let v285 : BitVec 32 := Scalar.addi c0_i32_155 v284
  let c1_i32_158 : BitVec 32 := 1#32
  ⟨v288, v285, c1_i32_158⟩
def k0_off412 (v34 : BitVec 32) (k0_t54 : Fin (k0_t54_loop v34).trips) : Fin 2 → Nat :=
  let c0_i32_155 : BitVec 32 := 0#32
  let c3200_i32_145 : BitVec 32 := 3200#32
  let v274 : BitVec 32 := Scalar.subi v34 c3200_i32_145
  let c128_i32_146 : BitVec 32 := 128#32
  let v275 : BitVec 32 := Scalar.minsi v274 c128_i32_146
  let v284 : BitVec 32 := Scalar.subi v275 c0_i32_155
  let c1_i32_156 : BitVec 32 := 1#32
  let v286 : BitVec 32 := Scalar.divsi v284 c1_i32_156
  let v287 : BitVec 32 := Scalar.muli v286 c1_i32_156
  let v288 : BitVec 32 := Scalar.addi c0_i32_155 v287
  let c1_i32_158 : BitVec 32 := 1#32
  let arg12 : BitVec 32 := Scf.iv v288 c1_i32_158 k0_t54
  let v299 : Index := Scalar.indexCast arg12
  let c0_167 : Index := 0#32
  ![v299.toNat, 0]
def k0_off413 (v34 : BitVec 32) (k0_t54 : Fin (k0_t54_loop v34).trips) : Fin 2 → Nat :=
  let c0_i32_155 : BitVec 32 := 0#32
  let c3200_i32_145 : BitVec 32 := 3200#32
  let v274 : BitVec 32 := Scalar.subi v34 c3200_i32_145
  let c128_i32_146 : BitVec 32 := 128#32
  let v275 : BitVec 32 := Scalar.minsi v274 c128_i32_146
  let v284 : BitVec 32 := Scalar.subi v275 c0_i32_155
  let c1_i32_156 : BitVec 32 := 1#32
  let v286 : BitVec 32 := Scalar.divsi v284 c1_i32_156
  let v287 : BitVec 32 := Scalar.muli v286 c1_i32_156
  let v288 : BitVec 32 := Scalar.addi c0_i32_155 v287
  let c1_i32_158 : BitVec 32 := 1#32
  let arg12 : BitVec 32 := Scf.iv v288 c1_i32_158 k0_t54
  let v302 : Index := Scalar.indexCast arg12
  let c16_168 : Index := 16#32
  ![v302.toNat, 16]
def k0_off414 (v34 : BitVec 32) (k0_t54 : Fin (k0_t54_loop v34).trips) : Fin 2 → Nat :=
  let c0_i32_155 : BitVec 32 := 0#32
  let c3200_i32_145 : BitVec 32 := 3200#32
  let v274 : BitVec 32 := Scalar.subi v34 c3200_i32_145
  let c128_i32_146 : BitVec 32 := 128#32
  let v275 : BitVec 32 := Scalar.minsi v274 c128_i32_146
  let v284 : BitVec 32 := Scalar.subi v275 c0_i32_155
  let c1_i32_156 : BitVec 32 := 1#32
  let v286 : BitVec 32 := Scalar.divsi v284 c1_i32_156
  let v287 : BitVec 32 := Scalar.muli v286 c1_i32_156
  let v288 : BitVec 32 := Scalar.addi c0_i32_155 v287
  let c1_i32_158 : BitVec 32 := 1#32
  let arg12 : BitVec 32 := Scf.iv v288 c1_i32_158 k0_t54
  let v305 : Index := Scalar.indexCast arg12
  let c32_169 : Index := 32#32
  ![v305.toNat, 32]
def k0_off415 (v34 : BitVec 32) (k0_t54 : Fin (k0_t54_loop v34).trips) : Fin 2 → Nat :=
  let c0_i32_155 : BitVec 32 := 0#32
  let c3200_i32_145 : BitVec 32 := 3200#32
  let v274 : BitVec 32 := Scalar.subi v34 c3200_i32_145
  let c128_i32_146 : BitVec 32 := 128#32
  let v275 : BitVec 32 := Scalar.minsi v274 c128_i32_146
  let v284 : BitVec 32 := Scalar.subi v275 c0_i32_155
  let c1_i32_156 : BitVec 32 := 1#32
  let v286 : BitVec 32 := Scalar.divsi v284 c1_i32_156
  let v287 : BitVec 32 := Scalar.muli v286 c1_i32_156
  let v288 : BitVec 32 := Scalar.addi c0_i32_155 v287
  let c1_i32_158 : BitVec 32 := 1#32
  let arg12 : BitVec 32 := Scf.iv v288 c1_i32_158 k0_t54
  let v308 : Index := Scalar.indexCast arg12
  let c48_170 : Index := 48#32
  ![v308.toNat, 48]
def k0_off416 (v34 : BitVec 32) (k0_t54 : Fin (k0_t54_loop v34).trips) : Fin 2 → Nat :=
  let c0_i32_155 : BitVec 32 := 0#32
  let c3200_i32_145 : BitVec 32 := 3200#32
  let v274 : BitVec 32 := Scalar.subi v34 c3200_i32_145
  let c128_i32_146 : BitVec 32 := 128#32
  let v275 : BitVec 32 := Scalar.minsi v274 c128_i32_146
  let v284 : BitVec 32 := Scalar.subi v275 c0_i32_155
  let c1_i32_156 : BitVec 32 := 1#32
  let v286 : BitVec 32 := Scalar.divsi v284 c1_i32_156
  let v287 : BitVec 32 := Scalar.muli v286 c1_i32_156
  let v288 : BitVec 32 := Scalar.addi c0_i32_155 v287
  let c1_i32_158 : BitVec 32 := 1#32
  let arg12 : BitVec 32 := Scf.iv v288 c1_i32_158 k0_t54
  let v311 : Index := Scalar.indexCast arg12
  let c64_171 : Index := 64#32
  ![v311.toNat, 64]
def k0_off417 (v34 : BitVec 32) (k0_t54 : Fin (k0_t54_loop v34).trips) : Fin 2 → Nat :=
  let c0_i32_155 : BitVec 32 := 0#32
  let c3200_i32_145 : BitVec 32 := 3200#32
  let v274 : BitVec 32 := Scalar.subi v34 c3200_i32_145
  let c128_i32_146 : BitVec 32 := 128#32
  let v275 : BitVec 32 := Scalar.minsi v274 c128_i32_146
  let v284 : BitVec 32 := Scalar.subi v275 c0_i32_155
  let c1_i32_156 : BitVec 32 := 1#32
  let v286 : BitVec 32 := Scalar.divsi v284 c1_i32_156
  let v287 : BitVec 32 := Scalar.muli v286 c1_i32_156
  let v288 : BitVec 32 := Scalar.addi c0_i32_155 v287
  let c1_i32_158 : BitVec 32 := 1#32
  let arg12 : BitVec 32 := Scf.iv v288 c1_i32_158 k0_t54
  let v314 : Index := Scalar.indexCast arg12
  let c80_172 : Index := 80#32
  ![v314.toNat, 80]
def k0_off418 (v34 : BitVec 32) (k0_t54 : Fin (k0_t54_loop v34).trips) : Fin 2 → Nat :=
  let c0_i32_155 : BitVec 32 := 0#32
  let c3200_i32_145 : BitVec 32 := 3200#32
  let v274 : BitVec 32 := Scalar.subi v34 c3200_i32_145
  let c128_i32_146 : BitVec 32 := 128#32
  let v275 : BitVec 32 := Scalar.minsi v274 c128_i32_146
  let v284 : BitVec 32 := Scalar.subi v275 c0_i32_155
  let c1_i32_156 : BitVec 32 := 1#32
  let v286 : BitVec 32 := Scalar.divsi v284 c1_i32_156
  let v287 : BitVec 32 := Scalar.muli v286 c1_i32_156
  let v288 : BitVec 32 := Scalar.addi c0_i32_155 v287
  let c1_i32_158 : BitVec 32 := 1#32
  let arg12 : BitVec 32 := Scf.iv v288 c1_i32_158 k0_t54
  let v317 : Index := Scalar.indexCast arg12
  let c96_173 : Index := 96#32
  ![v317.toNat, 96]
def k0_off419 (v34 : BitVec 32) (k0_t54 : Fin (k0_t54_loop v34).trips) : Fin 2 → Nat :=
  let c0_i32_155 : BitVec 32 := 0#32
  let c3200_i32_145 : BitVec 32 := 3200#32
  let v274 : BitVec 32 := Scalar.subi v34 c3200_i32_145
  let c128_i32_146 : BitVec 32 := 128#32
  let v275 : BitVec 32 := Scalar.minsi v274 c128_i32_146
  let v284 : BitVec 32 := Scalar.subi v275 c0_i32_155
  let c1_i32_156 : BitVec 32 := 1#32
  let v286 : BitVec 32 := Scalar.divsi v284 c1_i32_156
  let v287 : BitVec 32 := Scalar.muli v286 c1_i32_156
  let v288 : BitVec 32 := Scalar.addi c0_i32_155 v287
  let c1_i32_158 : BitVec 32 := 1#32
  let arg12 : BitVec 32 := Scf.iv v288 c1_i32_158 k0_t54
  let v320 : Index := Scalar.indexCast arg12
  let c112_174 : Index := 112#32
  ![v320.toNat, 112]
@[reducible] def k0_t55_loop (v34 : BitVec 32) : Scf.Loop 32 :=
  let c0_i32_155 : BitVec 32 := 0#32
  let c3328_i32_145 : BitVec 32 := 3328#32
  let v274 : BitVec 32 := Scalar.subi v34 c3328_i32_145
  let c128_i32_146 : BitVec 32 := 128#32
  let v275 : BitVec 32 := Scalar.minsi v274 c128_i32_146
  let v284 : BitVec 32 := Scalar.subi v275 c0_i32_155
  let c1_i32_156 : BitVec 32 := 1#32
  let v286 : BitVec 32 := Scalar.divsi v284 c1_i32_156
  let v287 : BitVec 32 := Scalar.muli v286 c1_i32_156
  let v288 : BitVec 32 := Scalar.addi c0_i32_155 v287
  let c1_i32_157 : BitVec 32 := 1#32
  ⟨c0_i32_155, v288, c1_i32_157⟩
def k0_cond55 (v34 : BitVec 32) : BitVec 1 :=
  let c3328_i32_108 : BitVec 32 := 3328#32
  let v213 : BitVec 1 := Scalar.cmpi .sgt v34 c3328_i32_108
  let v214 : BitVec 32 := Scalar.extui v213
  let c0_i32_109 : BitVec 32 := 0#32
  let v215 : BitVec 1 := Scalar.cmpi .ne v214 c0_i32_109
  v215

def k0_off420 (v34 : BitVec 32) (k0_t55 : Fin (k0_t55_loop v34).trips) : Fin 2 → Nat :=
  let c0_i32_155 : BitVec 32 := 0#32
  let c1_i32_157 : BitVec 32 := 1#32
  let arg12 : BitVec 32 := Scf.iv c0_i32_155 c1_i32_157 k0_t55
  let v299 : Index := Scalar.indexCast arg12
  let c0_167 : Index := 0#32
  ![v299.toNat, 0]
def k0_off421 (v34 : BitVec 32) (k0_t55 : Fin (k0_t55_loop v34).trips) : Fin 2 → Nat :=
  let c0_i32_155 : BitVec 32 := 0#32
  let c1_i32_157 : BitVec 32 := 1#32
  let arg12 : BitVec 32 := Scf.iv c0_i32_155 c1_i32_157 k0_t55
  let v302 : Index := Scalar.indexCast arg12
  let c16_168 : Index := 16#32
  ![v302.toNat, 16]
def k0_off422 (v34 : BitVec 32) (k0_t55 : Fin (k0_t55_loop v34).trips) : Fin 2 → Nat :=
  let c0_i32_155 : BitVec 32 := 0#32
  let c1_i32_157 : BitVec 32 := 1#32
  let arg12 : BitVec 32 := Scf.iv c0_i32_155 c1_i32_157 k0_t55
  let v305 : Index := Scalar.indexCast arg12
  let c32_169 : Index := 32#32
  ![v305.toNat, 32]
def k0_off423 (v34 : BitVec 32) (k0_t55 : Fin (k0_t55_loop v34).trips) : Fin 2 → Nat :=
  let c0_i32_155 : BitVec 32 := 0#32
  let c1_i32_157 : BitVec 32 := 1#32
  let arg12 : BitVec 32 := Scf.iv c0_i32_155 c1_i32_157 k0_t55
  let v308 : Index := Scalar.indexCast arg12
  let c48_170 : Index := 48#32
  ![v308.toNat, 48]
def k0_off424 (v34 : BitVec 32) (k0_t55 : Fin (k0_t55_loop v34).trips) : Fin 2 → Nat :=
  let c0_i32_155 : BitVec 32 := 0#32
  let c1_i32_157 : BitVec 32 := 1#32
  let arg12 : BitVec 32 := Scf.iv c0_i32_155 c1_i32_157 k0_t55
  let v311 : Index := Scalar.indexCast arg12
  let c64_171 : Index := 64#32
  ![v311.toNat, 64]
def k0_off425 (v34 : BitVec 32) (k0_t55 : Fin (k0_t55_loop v34).trips) : Fin 2 → Nat :=
  let c0_i32_155 : BitVec 32 := 0#32
  let c1_i32_157 : BitVec 32 := 1#32
  let arg12 : BitVec 32 := Scf.iv c0_i32_155 c1_i32_157 k0_t55
  let v314 : Index := Scalar.indexCast arg12
  let c80_172 : Index := 80#32
  ![v314.toNat, 80]
def k0_off426 (v34 : BitVec 32) (k0_t55 : Fin (k0_t55_loop v34).trips) : Fin 2 → Nat :=
  let c0_i32_155 : BitVec 32 := 0#32
  let c1_i32_157 : BitVec 32 := 1#32
  let arg12 : BitVec 32 := Scf.iv c0_i32_155 c1_i32_157 k0_t55
  let v317 : Index := Scalar.indexCast arg12
  let c96_173 : Index := 96#32
  ![v317.toNat, 96]
def k0_off427 (v34 : BitVec 32) (k0_t55 : Fin (k0_t55_loop v34).trips) : Fin 2 → Nat :=
  let c0_i32_155 : BitVec 32 := 0#32
  let c1_i32_157 : BitVec 32 := 1#32
  let arg12 : BitVec 32 := Scf.iv c0_i32_155 c1_i32_157 k0_t55
  let v320 : Index := Scalar.indexCast arg12
  let c112_174 : Index := 112#32
  ![v320.toNat, 112]
@[reducible] def k0_t56_loop (v34 : BitVec 32) : Scf.Loop 32 :=
  let c0_i32_155 : BitVec 32 := 0#32
  let c3328_i32_145 : BitVec 32 := 3328#32
  let v274 : BitVec 32 := Scalar.subi v34 c3328_i32_145
  let c128_i32_146 : BitVec 32 := 128#32
  let v275 : BitVec 32 := Scalar.minsi v274 c128_i32_146
  let v284 : BitVec 32 := Scalar.subi v275 c0_i32_155
  let c1_i32_156 : BitVec 32 := 1#32
  let v286 : BitVec 32 := Scalar.divsi v284 c1_i32_156
  let v287 : BitVec 32 := Scalar.muli v286 c1_i32_156
  let v288 : BitVec 32 := Scalar.addi c0_i32_155 v287
  let v285 : BitVec 32 := Scalar.addi c0_i32_155 v284
  let c1_i32_158 : BitVec 32 := 1#32
  ⟨v288, v285, c1_i32_158⟩
def k0_off428 (v34 : BitVec 32) (k0_t56 : Fin (k0_t56_loop v34).trips) : Fin 2 → Nat :=
  let c0_i32_155 : BitVec 32 := 0#32
  let c3328_i32_145 : BitVec 32 := 3328#32
  let v274 : BitVec 32 := Scalar.subi v34 c3328_i32_145
  let c128_i32_146 : BitVec 32 := 128#32
  let v275 : BitVec 32 := Scalar.minsi v274 c128_i32_146
  let v284 : BitVec 32 := Scalar.subi v275 c0_i32_155
  let c1_i32_156 : BitVec 32 := 1#32
  let v286 : BitVec 32 := Scalar.divsi v284 c1_i32_156
  let v287 : BitVec 32 := Scalar.muli v286 c1_i32_156
  let v288 : BitVec 32 := Scalar.addi c0_i32_155 v287
  let c1_i32_158 : BitVec 32 := 1#32
  let arg12 : BitVec 32 := Scf.iv v288 c1_i32_158 k0_t56
  let v299 : Index := Scalar.indexCast arg12
  let c0_167 : Index := 0#32
  ![v299.toNat, 0]
def k0_off429 (v34 : BitVec 32) (k0_t56 : Fin (k0_t56_loop v34).trips) : Fin 2 → Nat :=
  let c0_i32_155 : BitVec 32 := 0#32
  let c3328_i32_145 : BitVec 32 := 3328#32
  let v274 : BitVec 32 := Scalar.subi v34 c3328_i32_145
  let c128_i32_146 : BitVec 32 := 128#32
  let v275 : BitVec 32 := Scalar.minsi v274 c128_i32_146
  let v284 : BitVec 32 := Scalar.subi v275 c0_i32_155
  let c1_i32_156 : BitVec 32 := 1#32
  let v286 : BitVec 32 := Scalar.divsi v284 c1_i32_156
  let v287 : BitVec 32 := Scalar.muli v286 c1_i32_156
  let v288 : BitVec 32 := Scalar.addi c0_i32_155 v287
  let c1_i32_158 : BitVec 32 := 1#32
  let arg12 : BitVec 32 := Scf.iv v288 c1_i32_158 k0_t56
  let v302 : Index := Scalar.indexCast arg12
  let c16_168 : Index := 16#32
  ![v302.toNat, 16]
def k0_off430 (v34 : BitVec 32) (k0_t56 : Fin (k0_t56_loop v34).trips) : Fin 2 → Nat :=
  let c0_i32_155 : BitVec 32 := 0#32
  let c3328_i32_145 : BitVec 32 := 3328#32
  let v274 : BitVec 32 := Scalar.subi v34 c3328_i32_145
  let c128_i32_146 : BitVec 32 := 128#32
  let v275 : BitVec 32 := Scalar.minsi v274 c128_i32_146
  let v284 : BitVec 32 := Scalar.subi v275 c0_i32_155
  let c1_i32_156 : BitVec 32 := 1#32
  let v286 : BitVec 32 := Scalar.divsi v284 c1_i32_156
  let v287 : BitVec 32 := Scalar.muli v286 c1_i32_156
  let v288 : BitVec 32 := Scalar.addi c0_i32_155 v287
  let c1_i32_158 : BitVec 32 := 1#32
  let arg12 : BitVec 32 := Scf.iv v288 c1_i32_158 k0_t56
  let v305 : Index := Scalar.indexCast arg12
  let c32_169 : Index := 32#32
  ![v305.toNat, 32]
def k0_off431 (v34 : BitVec 32) (k0_t56 : Fin (k0_t56_loop v34).trips) : Fin 2 → Nat :=
  let c0_i32_155 : BitVec 32 := 0#32
  let c3328_i32_145 : BitVec 32 := 3328#32
  let v274 : BitVec 32 := Scalar.subi v34 c3328_i32_145
  let c128_i32_146 : BitVec 32 := 128#32
  let v275 : BitVec 32 := Scalar.minsi v274 c128_i32_146
  let v284 : BitVec 32 := Scalar.subi v275 c0_i32_155
  let c1_i32_156 : BitVec 32 := 1#32
  let v286 : BitVec 32 := Scalar.divsi v284 c1_i32_156
  let v287 : BitVec 32 := Scalar.muli v286 c1_i32_156
  let v288 : BitVec 32 := Scalar.addi c0_i32_155 v287
  let c1_i32_158 : BitVec 32 := 1#32
  let arg12 : BitVec 32 := Scf.iv v288 c1_i32_158 k0_t56
  let v308 : Index := Scalar.indexCast arg12
  let c48_170 : Index := 48#32
  ![v308.toNat, 48]
def k0_off432 (v34 : BitVec 32) (k0_t56 : Fin (k0_t56_loop v34).trips) : Fin 2 → Nat :=
  let c0_i32_155 : BitVec 32 := 0#32
  let c3328_i32_145 : BitVec 32 := 3328#32
  let v274 : BitVec 32 := Scalar.subi v34 c3328_i32_145
  let c128_i32_146 : BitVec 32 := 128#32
  let v275 : BitVec 32 := Scalar.minsi v274 c128_i32_146
  let v284 : BitVec 32 := Scalar.subi v275 c0_i32_155
  let c1_i32_156 : BitVec 32 := 1#32
  let v286 : BitVec 32 := Scalar.divsi v284 c1_i32_156
  let v287 : BitVec 32 := Scalar.muli v286 c1_i32_156
  let v288 : BitVec 32 := Scalar.addi c0_i32_155 v287
  let c1_i32_158 : BitVec 32 := 1#32
  let arg12 : BitVec 32 := Scf.iv v288 c1_i32_158 k0_t56
  let v311 : Index := Scalar.indexCast arg12
  let c64_171 : Index := 64#32
  ![v311.toNat, 64]
def k0_off433 (v34 : BitVec 32) (k0_t56 : Fin (k0_t56_loop v34).trips) : Fin 2 → Nat :=
  let c0_i32_155 : BitVec 32 := 0#32
  let c3328_i32_145 : BitVec 32 := 3328#32
  let v274 : BitVec 32 := Scalar.subi v34 c3328_i32_145
  let c128_i32_146 : BitVec 32 := 128#32
  let v275 : BitVec 32 := Scalar.minsi v274 c128_i32_146
  let v284 : BitVec 32 := Scalar.subi v275 c0_i32_155
  let c1_i32_156 : BitVec 32 := 1#32
  let v286 : BitVec 32 := Scalar.divsi v284 c1_i32_156
  let v287 : BitVec 32 := Scalar.muli v286 c1_i32_156
  let v288 : BitVec 32 := Scalar.addi c0_i32_155 v287
  let c1_i32_158 : BitVec 32 := 1#32
  let arg12 : BitVec 32 := Scf.iv v288 c1_i32_158 k0_t56
  let v314 : Index := Scalar.indexCast arg12
  let c80_172 : Index := 80#32
  ![v314.toNat, 80]
def k0_off434 (v34 : BitVec 32) (k0_t56 : Fin (k0_t56_loop v34).trips) : Fin 2 → Nat :=
  let c0_i32_155 : BitVec 32 := 0#32
  let c3328_i32_145 : BitVec 32 := 3328#32
  let v274 : BitVec 32 := Scalar.subi v34 c3328_i32_145
  let c128_i32_146 : BitVec 32 := 128#32
  let v275 : BitVec 32 := Scalar.minsi v274 c128_i32_146
  let v284 : BitVec 32 := Scalar.subi v275 c0_i32_155
  let c1_i32_156 : BitVec 32 := 1#32
  let v286 : BitVec 32 := Scalar.divsi v284 c1_i32_156
  let v287 : BitVec 32 := Scalar.muli v286 c1_i32_156
  let v288 : BitVec 32 := Scalar.addi c0_i32_155 v287
  let c1_i32_158 : BitVec 32 := 1#32
  let arg12 : BitVec 32 := Scf.iv v288 c1_i32_158 k0_t56
  let v317 : Index := Scalar.indexCast arg12
  let c96_173 : Index := 96#32
  ![v317.toNat, 96]
def k0_off435 (v34 : BitVec 32) (k0_t56 : Fin (k0_t56_loop v34).trips) : Fin 2 → Nat :=
  let c0_i32_155 : BitVec 32 := 0#32
  let c3328_i32_145 : BitVec 32 := 3328#32
  let v274 : BitVec 32 := Scalar.subi v34 c3328_i32_145
  let c128_i32_146 : BitVec 32 := 128#32
  let v275 : BitVec 32 := Scalar.minsi v274 c128_i32_146
  let v284 : BitVec 32 := Scalar.subi v275 c0_i32_155
  let c1_i32_156 : BitVec 32 := 1#32
  let v286 : BitVec 32 := Scalar.divsi v284 c1_i32_156
  let v287 : BitVec 32 := Scalar.muli v286 c1_i32_156
  let v288 : BitVec 32 := Scalar.addi c0_i32_155 v287
  let c1_i32_158 : BitVec 32 := 1#32
  let arg12 : BitVec 32 := Scf.iv v288 c1_i32_158 k0_t56
  let v320 : Index := Scalar.indexCast arg12
  let c112_174 : Index := 112#32
  ![v320.toNat, 112]
@[reducible] def k0_t57_loop (v34 : BitVec 32) : Scf.Loop 32 :=
  let c0_i32_155 : BitVec 32 := 0#32
  let c3456_i32_145 : BitVec 32 := 3456#32
  let v274 : BitVec 32 := Scalar.subi v34 c3456_i32_145
  let c128_i32_146 : BitVec 32 := 128#32
  let v275 : BitVec 32 := Scalar.minsi v274 c128_i32_146
  let v284 : BitVec 32 := Scalar.subi v275 c0_i32_155
  let c1_i32_156 : BitVec 32 := 1#32
  let v286 : BitVec 32 := Scalar.divsi v284 c1_i32_156
  let v287 : BitVec 32 := Scalar.muli v286 c1_i32_156
  let v288 : BitVec 32 := Scalar.addi c0_i32_155 v287
  let c1_i32_157 : BitVec 32 := 1#32
  ⟨c0_i32_155, v288, c1_i32_157⟩
def k0_cond57 (v34 : BitVec 32) : BitVec 1 :=
  let c3456_i32_111 : BitVec 32 := 3456#32
  let v219 : BitVec 1 := Scalar.cmpi .sgt v34 c3456_i32_111
  let v220 : BitVec 32 := Scalar.extui v219
  let c0_i32_112 : BitVec 32 := 0#32
  let v221 : BitVec 1 := Scalar.cmpi .ne v220 c0_i32_112
  v221

def k0_off436 (v34 : BitVec 32) (k0_t57 : Fin (k0_t57_loop v34).trips) : Fin 2 → Nat :=
  let c0_i32_155 : BitVec 32 := 0#32
  let c1_i32_157 : BitVec 32 := 1#32
  let arg12 : BitVec 32 := Scf.iv c0_i32_155 c1_i32_157 k0_t57
  let v299 : Index := Scalar.indexCast arg12
  let c0_167 : Index := 0#32
  ![v299.toNat, 0]
def k0_off437 (v34 : BitVec 32) (k0_t57 : Fin (k0_t57_loop v34).trips) : Fin 2 → Nat :=
  let c0_i32_155 : BitVec 32 := 0#32
  let c1_i32_157 : BitVec 32 := 1#32
  let arg12 : BitVec 32 := Scf.iv c0_i32_155 c1_i32_157 k0_t57
  let v302 : Index := Scalar.indexCast arg12
  let c16_168 : Index := 16#32
  ![v302.toNat, 16]
def k0_off438 (v34 : BitVec 32) (k0_t57 : Fin (k0_t57_loop v34).trips) : Fin 2 → Nat :=
  let c0_i32_155 : BitVec 32 := 0#32
  let c1_i32_157 : BitVec 32 := 1#32
  let arg12 : BitVec 32 := Scf.iv c0_i32_155 c1_i32_157 k0_t57
  let v305 : Index := Scalar.indexCast arg12
  let c32_169 : Index := 32#32
  ![v305.toNat, 32]
def k0_off439 (v34 : BitVec 32) (k0_t57 : Fin (k0_t57_loop v34).trips) : Fin 2 → Nat :=
  let c0_i32_155 : BitVec 32 := 0#32
  let c1_i32_157 : BitVec 32 := 1#32
  let arg12 : BitVec 32 := Scf.iv c0_i32_155 c1_i32_157 k0_t57
  let v308 : Index := Scalar.indexCast arg12
  let c48_170 : Index := 48#32
  ![v308.toNat, 48]
def k0_off440 (v34 : BitVec 32) (k0_t57 : Fin (k0_t57_loop v34).trips) : Fin 2 → Nat :=
  let c0_i32_155 : BitVec 32 := 0#32
  let c1_i32_157 : BitVec 32 := 1#32
  let arg12 : BitVec 32 := Scf.iv c0_i32_155 c1_i32_157 k0_t57
  let v311 : Index := Scalar.indexCast arg12
  let c64_171 : Index := 64#32
  ![v311.toNat, 64]
def k0_off441 (v34 : BitVec 32) (k0_t57 : Fin (k0_t57_loop v34).trips) : Fin 2 → Nat :=
  let c0_i32_155 : BitVec 32 := 0#32
  let c1_i32_157 : BitVec 32 := 1#32
  let arg12 : BitVec 32 := Scf.iv c0_i32_155 c1_i32_157 k0_t57
  let v314 : Index := Scalar.indexCast arg12
  let c80_172 : Index := 80#32
  ![v314.toNat, 80]
def k0_off442 (v34 : BitVec 32) (k0_t57 : Fin (k0_t57_loop v34).trips) : Fin 2 → Nat :=
  let c0_i32_155 : BitVec 32 := 0#32
  let c1_i32_157 : BitVec 32 := 1#32
  let arg12 : BitVec 32 := Scf.iv c0_i32_155 c1_i32_157 k0_t57
  let v317 : Index := Scalar.indexCast arg12
  let c96_173 : Index := 96#32
  ![v317.toNat, 96]
def k0_off443 (v34 : BitVec 32) (k0_t57 : Fin (k0_t57_loop v34).trips) : Fin 2 → Nat :=
  let c0_i32_155 : BitVec 32 := 0#32
  let c1_i32_157 : BitVec 32 := 1#32
  let arg12 : BitVec 32 := Scf.iv c0_i32_155 c1_i32_157 k0_t57
  let v320 : Index := Scalar.indexCast arg12
  let c112_174 : Index := 112#32
  ![v320.toNat, 112]
@[reducible] def k0_t58_loop (v34 : BitVec 32) : Scf.Loop 32 :=
  let c0_i32_155 : BitVec 32 := 0#32
  let c3456_i32_145 : BitVec 32 := 3456#32
  let v274 : BitVec 32 := Scalar.subi v34 c3456_i32_145
  let c128_i32_146 : BitVec 32 := 128#32
  let v275 : BitVec 32 := Scalar.minsi v274 c128_i32_146
  let v284 : BitVec 32 := Scalar.subi v275 c0_i32_155
  let c1_i32_156 : BitVec 32 := 1#32
  let v286 : BitVec 32 := Scalar.divsi v284 c1_i32_156
  let v287 : BitVec 32 := Scalar.muli v286 c1_i32_156
  let v288 : BitVec 32 := Scalar.addi c0_i32_155 v287
  let v285 : BitVec 32 := Scalar.addi c0_i32_155 v284
  let c1_i32_158 : BitVec 32 := 1#32
  ⟨v288, v285, c1_i32_158⟩
def k0_off444 (v34 : BitVec 32) (k0_t58 : Fin (k0_t58_loop v34).trips) : Fin 2 → Nat :=
  let c0_i32_155 : BitVec 32 := 0#32
  let c3456_i32_145 : BitVec 32 := 3456#32
  let v274 : BitVec 32 := Scalar.subi v34 c3456_i32_145
  let c128_i32_146 : BitVec 32 := 128#32
  let v275 : BitVec 32 := Scalar.minsi v274 c128_i32_146
  let v284 : BitVec 32 := Scalar.subi v275 c0_i32_155
  let c1_i32_156 : BitVec 32 := 1#32
  let v286 : BitVec 32 := Scalar.divsi v284 c1_i32_156
  let v287 : BitVec 32 := Scalar.muli v286 c1_i32_156
  let v288 : BitVec 32 := Scalar.addi c0_i32_155 v287
  let c1_i32_158 : BitVec 32 := 1#32
  let arg12 : BitVec 32 := Scf.iv v288 c1_i32_158 k0_t58
  let v299 : Index := Scalar.indexCast arg12
  let c0_167 : Index := 0#32
  ![v299.toNat, 0]
def k0_off445 (v34 : BitVec 32) (k0_t58 : Fin (k0_t58_loop v34).trips) : Fin 2 → Nat :=
  let c0_i32_155 : BitVec 32 := 0#32
  let c3456_i32_145 : BitVec 32 := 3456#32
  let v274 : BitVec 32 := Scalar.subi v34 c3456_i32_145
  let c128_i32_146 : BitVec 32 := 128#32
  let v275 : BitVec 32 := Scalar.minsi v274 c128_i32_146
  let v284 : BitVec 32 := Scalar.subi v275 c0_i32_155
  let c1_i32_156 : BitVec 32 := 1#32
  let v286 : BitVec 32 := Scalar.divsi v284 c1_i32_156
  let v287 : BitVec 32 := Scalar.muli v286 c1_i32_156
  let v288 : BitVec 32 := Scalar.addi c0_i32_155 v287
  let c1_i32_158 : BitVec 32 := 1#32
  let arg12 : BitVec 32 := Scf.iv v288 c1_i32_158 k0_t58
  let v302 : Index := Scalar.indexCast arg12
  let c16_168 : Index := 16#32
  ![v302.toNat, 16]
def k0_off446 (v34 : BitVec 32) (k0_t58 : Fin (k0_t58_loop v34).trips) : Fin 2 → Nat :=
  let c0_i32_155 : BitVec 32 := 0#32
  let c3456_i32_145 : BitVec 32 := 3456#32
  let v274 : BitVec 32 := Scalar.subi v34 c3456_i32_145
  let c128_i32_146 : BitVec 32 := 128#32
  let v275 : BitVec 32 := Scalar.minsi v274 c128_i32_146
  let v284 : BitVec 32 := Scalar.subi v275 c0_i32_155
  let c1_i32_156 : BitVec 32 := 1#32
  let v286 : BitVec 32 := Scalar.divsi v284 c1_i32_156
  let v287 : BitVec 32 := Scalar.muli v286 c1_i32_156
  let v288 : BitVec 32 := Scalar.addi c0_i32_155 v287
  let c1_i32_158 : BitVec 32 := 1#32
  let arg12 : BitVec 32 := Scf.iv v288 c1_i32_158 k0_t58
  let v305 : Index := Scalar.indexCast arg12
  let c32_169 : Index := 32#32
  ![v305.toNat, 32]
def k0_off447 (v34 : BitVec 32) (k0_t58 : Fin (k0_t58_loop v34).trips) : Fin 2 → Nat :=
  let c0_i32_155 : BitVec 32 := 0#32
  let c3456_i32_145 : BitVec 32 := 3456#32
  let v274 : BitVec 32 := Scalar.subi v34 c3456_i32_145
  let c128_i32_146 : BitVec 32 := 128#32
  let v275 : BitVec 32 := Scalar.minsi v274 c128_i32_146
  let v284 : BitVec 32 := Scalar.subi v275 c0_i32_155
  let c1_i32_156 : BitVec 32 := 1#32
  let v286 : BitVec 32 := Scalar.divsi v284 c1_i32_156
  let v287 : BitVec 32 := Scalar.muli v286 c1_i32_156
  let v288 : BitVec 32 := Scalar.addi c0_i32_155 v287
  let c1_i32_158 : BitVec 32 := 1#32
  let arg12 : BitVec 32 := Scf.iv v288 c1_i32_158 k0_t58
  let v308 : Index := Scalar.indexCast arg12
  let c48_170 : Index := 48#32
  ![v308.toNat, 48]
def k0_off448 (v34 : BitVec 32) (k0_t58 : Fin (k0_t58_loop v34).trips) : Fin 2 → Nat :=
  let c0_i32_155 : BitVec 32 := 0#32
  let c3456_i32_145 : BitVec 32 := 3456#32
  let v274 : BitVec 32 := Scalar.subi v34 c3456_i32_145
  let c128_i32_146 : BitVec 32 := 128#32
  let v275 : BitVec 32 := Scalar.minsi v274 c128_i32_146
  let v284 : BitVec 32 := Scalar.subi v275 c0_i32_155
  let c1_i32_156 : BitVec 32 := 1#32
  let v286 : BitVec 32 := Scalar.divsi v284 c1_i32_156
  let v287 : BitVec 32 := Scalar.muli v286 c1_i32_156
  let v288 : BitVec 32 := Scalar.addi c0_i32_155 v287
  let c1_i32_158 : BitVec 32 := 1#32
  let arg12 : BitVec 32 := Scf.iv v288 c1_i32_158 k0_t58
  let v311 : Index := Scalar.indexCast arg12
  let c64_171 : Index := 64#32
  ![v311.toNat, 64]
def k0_off449 (v34 : BitVec 32) (k0_t58 : Fin (k0_t58_loop v34).trips) : Fin 2 → Nat :=
  let c0_i32_155 : BitVec 32 := 0#32
  let c3456_i32_145 : BitVec 32 := 3456#32
  let v274 : BitVec 32 := Scalar.subi v34 c3456_i32_145
  let c128_i32_146 : BitVec 32 := 128#32
  let v275 : BitVec 32 := Scalar.minsi v274 c128_i32_146
  let v284 : BitVec 32 := Scalar.subi v275 c0_i32_155
  let c1_i32_156 : BitVec 32 := 1#32
  let v286 : BitVec 32 := Scalar.divsi v284 c1_i32_156
  let v287 : BitVec 32 := Scalar.muli v286 c1_i32_156
  let v288 : BitVec 32 := Scalar.addi c0_i32_155 v287
  let c1_i32_158 : BitVec 32 := 1#32
  let arg12 : BitVec 32 := Scf.iv v288 c1_i32_158 k0_t58
  let v314 : Index := Scalar.indexCast arg12
  let c80_172 : Index := 80#32
  ![v314.toNat, 80]
def k0_off450 (v34 : BitVec 32) (k0_t58 : Fin (k0_t58_loop v34).trips) : Fin 2 → Nat :=
  let c0_i32_155 : BitVec 32 := 0#32
  let c3456_i32_145 : BitVec 32 := 3456#32
  let v274 : BitVec 32 := Scalar.subi v34 c3456_i32_145
  let c128_i32_146 : BitVec 32 := 128#32
  let v275 : BitVec 32 := Scalar.minsi v274 c128_i32_146
  let v284 : BitVec 32 := Scalar.subi v275 c0_i32_155
  let c1_i32_156 : BitVec 32 := 1#32
  let v286 : BitVec 32 := Scalar.divsi v284 c1_i32_156
  let v287 : BitVec 32 := Scalar.muli v286 c1_i32_156
  let v288 : BitVec 32 := Scalar.addi c0_i32_155 v287
  let c1_i32_158 : BitVec 32 := 1#32
  let arg12 : BitVec 32 := Scf.iv v288 c1_i32_158 k0_t58
  let v317 : Index := Scalar.indexCast arg12
  let c96_173 : Index := 96#32
  ![v317.toNat, 96]
def k0_off451 (v34 : BitVec 32) (k0_t58 : Fin (k0_t58_loop v34).trips) : Fin 2 → Nat :=
  let c0_i32_155 : BitVec 32 := 0#32
  let c3456_i32_145 : BitVec 32 := 3456#32
  let v274 : BitVec 32 := Scalar.subi v34 c3456_i32_145
  let c128_i32_146 : BitVec 32 := 128#32
  let v275 : BitVec 32 := Scalar.minsi v274 c128_i32_146
  let v284 : BitVec 32 := Scalar.subi v275 c0_i32_155
  let c1_i32_156 : BitVec 32 := 1#32
  let v286 : BitVec 32 := Scalar.divsi v284 c1_i32_156
  let v287 : BitVec 32 := Scalar.muli v286 c1_i32_156
  let v288 : BitVec 32 := Scalar.addi c0_i32_155 v287
  let c1_i32_158 : BitVec 32 := 1#32
  let arg12 : BitVec 32 := Scf.iv v288 c1_i32_158 k0_t58
  let v320 : Index := Scalar.indexCast arg12
  let c112_174 : Index := 112#32
  ![v320.toNat, 112]
@[reducible] def k0_t59_loop (v34 : BitVec 32) : Scf.Loop 32 :=
  let c0_i32_155 : BitVec 32 := 0#32
  let c3584_i32_145 : BitVec 32 := 3584#32
  let v274 : BitVec 32 := Scalar.subi v34 c3584_i32_145
  let c128_i32_146 : BitVec 32 := 128#32
  let v275 : BitVec 32 := Scalar.minsi v274 c128_i32_146
  let v284 : BitVec 32 := Scalar.subi v275 c0_i32_155
  let c1_i32_156 : BitVec 32 := 1#32
  let v286 : BitVec 32 := Scalar.divsi v284 c1_i32_156
  let v287 : BitVec 32 := Scalar.muli v286 c1_i32_156
  let v288 : BitVec 32 := Scalar.addi c0_i32_155 v287
  let c1_i32_157 : BitVec 32 := 1#32
  ⟨c0_i32_155, v288, c1_i32_157⟩
def k0_cond59 (v34 : BitVec 32) : BitVec 1 :=
  let c3584_i32_114 : BitVec 32 := 3584#32
  let v225 : BitVec 1 := Scalar.cmpi .sgt v34 c3584_i32_114
  let v226 : BitVec 32 := Scalar.extui v225
  let c0_i32_115 : BitVec 32 := 0#32
  let v227 : BitVec 1 := Scalar.cmpi .ne v226 c0_i32_115
  v227

def k0_off452 (v34 : BitVec 32) (k0_t59 : Fin (k0_t59_loop v34).trips) : Fin 2 → Nat :=
  let c0_i32_155 : BitVec 32 := 0#32
  let c1_i32_157 : BitVec 32 := 1#32
  let arg12 : BitVec 32 := Scf.iv c0_i32_155 c1_i32_157 k0_t59
  let v299 : Index := Scalar.indexCast arg12
  let c0_167 : Index := 0#32
  ![v299.toNat, 0]
def k0_off453 (v34 : BitVec 32) (k0_t59 : Fin (k0_t59_loop v34).trips) : Fin 2 → Nat :=
  let c0_i32_155 : BitVec 32 := 0#32
  let c1_i32_157 : BitVec 32 := 1#32
  let arg12 : BitVec 32 := Scf.iv c0_i32_155 c1_i32_157 k0_t59
  let v302 : Index := Scalar.indexCast arg12
  let c16_168 : Index := 16#32
  ![v302.toNat, 16]
def k0_off454 (v34 : BitVec 32) (k0_t59 : Fin (k0_t59_loop v34).trips) : Fin 2 → Nat :=
  let c0_i32_155 : BitVec 32 := 0#32
  let c1_i32_157 : BitVec 32 := 1#32
  let arg12 : BitVec 32 := Scf.iv c0_i32_155 c1_i32_157 k0_t59
  let v305 : Index := Scalar.indexCast arg12
  let c32_169 : Index := 32#32
  ![v305.toNat, 32]
def k0_off455 (v34 : BitVec 32) (k0_t59 : Fin (k0_t59_loop v34).trips) : Fin 2 → Nat :=
  let c0_i32_155 : BitVec 32 := 0#32
  let c1_i32_157 : BitVec 32 := 1#32
  let arg12 : BitVec 32 := Scf.iv c0_i32_155 c1_i32_157 k0_t59
  let v308 : Index := Scalar.indexCast arg12
  let c48_170 : Index := 48#32
  ![v308.toNat, 48]
def k0_off456 (v34 : BitVec 32) (k0_t59 : Fin (k0_t59_loop v34).trips) : Fin 2 → Nat :=
  let c0_i32_155 : BitVec 32 := 0#32
  let c1_i32_157 : BitVec 32 := 1#32
  let arg12 : BitVec 32 := Scf.iv c0_i32_155 c1_i32_157 k0_t59
  let v311 : Index := Scalar.indexCast arg12
  let c64_171 : Index := 64#32
  ![v311.toNat, 64]
def k0_off457 (v34 : BitVec 32) (k0_t59 : Fin (k0_t59_loop v34).trips) : Fin 2 → Nat :=
  let c0_i32_155 : BitVec 32 := 0#32
  let c1_i32_157 : BitVec 32 := 1#32
  let arg12 : BitVec 32 := Scf.iv c0_i32_155 c1_i32_157 k0_t59
  let v314 : Index := Scalar.indexCast arg12
  let c80_172 : Index := 80#32
  ![v314.toNat, 80]
def k0_off458 (v34 : BitVec 32) (k0_t59 : Fin (k0_t59_loop v34).trips) : Fin 2 → Nat :=
  let c0_i32_155 : BitVec 32 := 0#32
  let c1_i32_157 : BitVec 32 := 1#32
  let arg12 : BitVec 32 := Scf.iv c0_i32_155 c1_i32_157 k0_t59
  let v317 : Index := Scalar.indexCast arg12
  let c96_173 : Index := 96#32
  ![v317.toNat, 96]
def k0_off459 (v34 : BitVec 32) (k0_t59 : Fin (k0_t59_loop v34).trips) : Fin 2 → Nat :=
  let c0_i32_155 : BitVec 32 := 0#32
  let c1_i32_157 : BitVec 32 := 1#32
  let arg12 : BitVec 32 := Scf.iv c0_i32_155 c1_i32_157 k0_t59
  let v320 : Index := Scalar.indexCast arg12
  let c112_174 : Index := 112#32
  ![v320.toNat, 112]
@[reducible] def k0_t60_loop (v34 : BitVec 32) : Scf.Loop 32 :=
  let c0_i32_155 : BitVec 32 := 0#32
  let c3584_i32_145 : BitVec 32 := 3584#32
  let v274 : BitVec 32 := Scalar.subi v34 c3584_i32_145
  let c128_i32_146 : BitVec 32 := 128#32
  let v275 : BitVec 32 := Scalar.minsi v274 c128_i32_146
  let v284 : BitVec 32 := Scalar.subi v275 c0_i32_155
  let c1_i32_156 : BitVec 32 := 1#32
  let v286 : BitVec 32 := Scalar.divsi v284 c1_i32_156
  let v287 : BitVec 32 := Scalar.muli v286 c1_i32_156
  let v288 : BitVec 32 := Scalar.addi c0_i32_155 v287
  let v285 : BitVec 32 := Scalar.addi c0_i32_155 v284
  let c1_i32_158 : BitVec 32 := 1#32
  ⟨v288, v285, c1_i32_158⟩
def k0_off460 (v34 : BitVec 32) (k0_t60 : Fin (k0_t60_loop v34).trips) : Fin 2 → Nat :=
  let c0_i32_155 : BitVec 32 := 0#32
  let c3584_i32_145 : BitVec 32 := 3584#32
  let v274 : BitVec 32 := Scalar.subi v34 c3584_i32_145
  let c128_i32_146 : BitVec 32 := 128#32
  let v275 : BitVec 32 := Scalar.minsi v274 c128_i32_146
  let v284 : BitVec 32 := Scalar.subi v275 c0_i32_155
  let c1_i32_156 : BitVec 32 := 1#32
  let v286 : BitVec 32 := Scalar.divsi v284 c1_i32_156
  let v287 : BitVec 32 := Scalar.muli v286 c1_i32_156
  let v288 : BitVec 32 := Scalar.addi c0_i32_155 v287
  let c1_i32_158 : BitVec 32 := 1#32
  let arg12 : BitVec 32 := Scf.iv v288 c1_i32_158 k0_t60
  let v299 : Index := Scalar.indexCast arg12
  let c0_167 : Index := 0#32
  ![v299.toNat, 0]
def k0_off461 (v34 : BitVec 32) (k0_t60 : Fin (k0_t60_loop v34).trips) : Fin 2 → Nat :=
  let c0_i32_155 : BitVec 32 := 0#32
  let c3584_i32_145 : BitVec 32 := 3584#32
  let v274 : BitVec 32 := Scalar.subi v34 c3584_i32_145
  let c128_i32_146 : BitVec 32 := 128#32
  let v275 : BitVec 32 := Scalar.minsi v274 c128_i32_146
  let v284 : BitVec 32 := Scalar.subi v275 c0_i32_155
  let c1_i32_156 : BitVec 32 := 1#32
  let v286 : BitVec 32 := Scalar.divsi v284 c1_i32_156
  let v287 : BitVec 32 := Scalar.muli v286 c1_i32_156
  let v288 : BitVec 32 := Scalar.addi c0_i32_155 v287
  let c1_i32_158 : BitVec 32 := 1#32
  let arg12 : BitVec 32 := Scf.iv v288 c1_i32_158 k0_t60
  let v302 : Index := Scalar.indexCast arg12
  let c16_168 : Index := 16#32
  ![v302.toNat, 16]
def k0_off462 (v34 : BitVec 32) (k0_t60 : Fin (k0_t60_loop v34).trips) : Fin 2 → Nat :=
  let c0_i32_155 : BitVec 32 := 0#32
  let c3584_i32_145 : BitVec 32 := 3584#32
  let v274 : BitVec 32 := Scalar.subi v34 c3584_i32_145
  let c128_i32_146 : BitVec 32 := 128#32
  let v275 : BitVec 32 := Scalar.minsi v274 c128_i32_146
  let v284 : BitVec 32 := Scalar.subi v275 c0_i32_155
  let c1_i32_156 : BitVec 32 := 1#32
  let v286 : BitVec 32 := Scalar.divsi v284 c1_i32_156
  let v287 : BitVec 32 := Scalar.muli v286 c1_i32_156
  let v288 : BitVec 32 := Scalar.addi c0_i32_155 v287
  let c1_i32_158 : BitVec 32 := 1#32
  let arg12 : BitVec 32 := Scf.iv v288 c1_i32_158 k0_t60
  let v305 : Index := Scalar.indexCast arg12
  let c32_169 : Index := 32#32
  ![v305.toNat, 32]
def k0_off463 (v34 : BitVec 32) (k0_t60 : Fin (k0_t60_loop v34).trips) : Fin 2 → Nat :=
  let c0_i32_155 : BitVec 32 := 0#32
  let c3584_i32_145 : BitVec 32 := 3584#32
  let v274 : BitVec 32 := Scalar.subi v34 c3584_i32_145
  let c128_i32_146 : BitVec 32 := 128#32
  let v275 : BitVec 32 := Scalar.minsi v274 c128_i32_146
  let v284 : BitVec 32 := Scalar.subi v275 c0_i32_155
  let c1_i32_156 : BitVec 32 := 1#32
  let v286 : BitVec 32 := Scalar.divsi v284 c1_i32_156
  let v287 : BitVec 32 := Scalar.muli v286 c1_i32_156
  let v288 : BitVec 32 := Scalar.addi c0_i32_155 v287
  let c1_i32_158 : BitVec 32 := 1#32
  let arg12 : BitVec 32 := Scf.iv v288 c1_i32_158 k0_t60
  let v308 : Index := Scalar.indexCast arg12
  let c48_170 : Index := 48#32
  ![v308.toNat, 48]
def k0_off464 (v34 : BitVec 32) (k0_t60 : Fin (k0_t60_loop v34).trips) : Fin 2 → Nat :=
  let c0_i32_155 : BitVec 32 := 0#32
  let c3584_i32_145 : BitVec 32 := 3584#32
  let v274 : BitVec 32 := Scalar.subi v34 c3584_i32_145
  let c128_i32_146 : BitVec 32 := 128#32
  let v275 : BitVec 32 := Scalar.minsi v274 c128_i32_146
  let v284 : BitVec 32 := Scalar.subi v275 c0_i32_155
  let c1_i32_156 : BitVec 32 := 1#32
  let v286 : BitVec 32 := Scalar.divsi v284 c1_i32_156
  let v287 : BitVec 32 := Scalar.muli v286 c1_i32_156
  let v288 : BitVec 32 := Scalar.addi c0_i32_155 v287
  let c1_i32_158 : BitVec 32 := 1#32
  let arg12 : BitVec 32 := Scf.iv v288 c1_i32_158 k0_t60
  let v311 : Index := Scalar.indexCast arg12
  let c64_171 : Index := 64#32
  ![v311.toNat, 64]
def k0_off465 (v34 : BitVec 32) (k0_t60 : Fin (k0_t60_loop v34).trips) : Fin 2 → Nat :=
  let c0_i32_155 : BitVec 32 := 0#32
  let c3584_i32_145 : BitVec 32 := 3584#32
  let v274 : BitVec 32 := Scalar.subi v34 c3584_i32_145
  let c128_i32_146 : BitVec 32 := 128#32
  let v275 : BitVec 32 := Scalar.minsi v274 c128_i32_146
  let v284 : BitVec 32 := Scalar.subi v275 c0_i32_155
  let c1_i32_156 : BitVec 32 := 1#32
  let v286 : BitVec 32 := Scalar.divsi v284 c1_i32_156
  let v287 : BitVec 32 := Scalar.muli v286 c1_i32_156
  let v288 : BitVec 32 := Scalar.addi c0_i32_155 v287
  let c1_i32_158 : BitVec 32 := 1#32
  let arg12 : BitVec 32 := Scf.iv v288 c1_i32_158 k0_t60
  let v314 : Index := Scalar.indexCast arg12
  let c80_172 : Index := 80#32
  ![v314.toNat, 80]
def k0_off466 (v34 : BitVec 32) (k0_t60 : Fin (k0_t60_loop v34).trips) : Fin 2 → Nat :=
  let c0_i32_155 : BitVec 32 := 0#32
  let c3584_i32_145 : BitVec 32 := 3584#32
  let v274 : BitVec 32 := Scalar.subi v34 c3584_i32_145
  let c128_i32_146 : BitVec 32 := 128#32
  let v275 : BitVec 32 := Scalar.minsi v274 c128_i32_146
  let v284 : BitVec 32 := Scalar.subi v275 c0_i32_155
  let c1_i32_156 : BitVec 32 := 1#32
  let v286 : BitVec 32 := Scalar.divsi v284 c1_i32_156
  let v287 : BitVec 32 := Scalar.muli v286 c1_i32_156
  let v288 : BitVec 32 := Scalar.addi c0_i32_155 v287
  let c1_i32_158 : BitVec 32 := 1#32
  let arg12 : BitVec 32 := Scf.iv v288 c1_i32_158 k0_t60
  let v317 : Index := Scalar.indexCast arg12
  let c96_173 : Index := 96#32
  ![v317.toNat, 96]
def k0_off467 (v34 : BitVec 32) (k0_t60 : Fin (k0_t60_loop v34).trips) : Fin 2 → Nat :=
  let c0_i32_155 : BitVec 32 := 0#32
  let c3584_i32_145 : BitVec 32 := 3584#32
  let v274 : BitVec 32 := Scalar.subi v34 c3584_i32_145
  let c128_i32_146 : BitVec 32 := 128#32
  let v275 : BitVec 32 := Scalar.minsi v274 c128_i32_146
  let v284 : BitVec 32 := Scalar.subi v275 c0_i32_155
  let c1_i32_156 : BitVec 32 := 1#32
  let v286 : BitVec 32 := Scalar.divsi v284 c1_i32_156
  let v287 : BitVec 32 := Scalar.muli v286 c1_i32_156
  let v288 : BitVec 32 := Scalar.addi c0_i32_155 v287
  let c1_i32_158 : BitVec 32 := 1#32
  let arg12 : BitVec 32 := Scf.iv v288 c1_i32_158 k0_t60
  let v320 : Index := Scalar.indexCast arg12
  let c112_174 : Index := 112#32
  ![v320.toNat, 112]
@[reducible] def k0_t61_loop (v34 : BitVec 32) : Scf.Loop 32 :=
  let c0_i32_155 : BitVec 32 := 0#32
  let c3712_i32_145 : BitVec 32 := 3712#32
  let v274 : BitVec 32 := Scalar.subi v34 c3712_i32_145
  let c128_i32_146 : BitVec 32 := 128#32
  let v275 : BitVec 32 := Scalar.minsi v274 c128_i32_146
  let v284 : BitVec 32 := Scalar.subi v275 c0_i32_155
  let c1_i32_156 : BitVec 32 := 1#32
  let v286 : BitVec 32 := Scalar.divsi v284 c1_i32_156
  let v287 : BitVec 32 := Scalar.muli v286 c1_i32_156
  let v288 : BitVec 32 := Scalar.addi c0_i32_155 v287
  let c1_i32_157 : BitVec 32 := 1#32
  ⟨c0_i32_155, v288, c1_i32_157⟩
def k0_cond61 (v34 : BitVec 32) : BitVec 1 :=
  let c3712_i32_117 : BitVec 32 := 3712#32
  let v231 : BitVec 1 := Scalar.cmpi .sgt v34 c3712_i32_117
  let v232 : BitVec 32 := Scalar.extui v231
  let c0_i32_118 : BitVec 32 := 0#32
  let v233 : BitVec 1 := Scalar.cmpi .ne v232 c0_i32_118
  v233

def k0_off468 (v34 : BitVec 32) (k0_t61 : Fin (k0_t61_loop v34).trips) : Fin 2 → Nat :=
  let c0_i32_155 : BitVec 32 := 0#32
  let c1_i32_157 : BitVec 32 := 1#32
  let arg12 : BitVec 32 := Scf.iv c0_i32_155 c1_i32_157 k0_t61
  let v299 : Index := Scalar.indexCast arg12
  let c0_167 : Index := 0#32
  ![v299.toNat, 0]
def k0_off469 (v34 : BitVec 32) (k0_t61 : Fin (k0_t61_loop v34).trips) : Fin 2 → Nat :=
  let c0_i32_155 : BitVec 32 := 0#32
  let c1_i32_157 : BitVec 32 := 1#32
  let arg12 : BitVec 32 := Scf.iv c0_i32_155 c1_i32_157 k0_t61
  let v302 : Index := Scalar.indexCast arg12
  let c16_168 : Index := 16#32
  ![v302.toNat, 16]
def k0_off470 (v34 : BitVec 32) (k0_t61 : Fin (k0_t61_loop v34).trips) : Fin 2 → Nat :=
  let c0_i32_155 : BitVec 32 := 0#32
  let c1_i32_157 : BitVec 32 := 1#32
  let arg12 : BitVec 32 := Scf.iv c0_i32_155 c1_i32_157 k0_t61
  let v305 : Index := Scalar.indexCast arg12
  let c32_169 : Index := 32#32
  ![v305.toNat, 32]
def k0_off471 (v34 : BitVec 32) (k0_t61 : Fin (k0_t61_loop v34).trips) : Fin 2 → Nat :=
  let c0_i32_155 : BitVec 32 := 0#32
  let c1_i32_157 : BitVec 32 := 1#32
  let arg12 : BitVec 32 := Scf.iv c0_i32_155 c1_i32_157 k0_t61
  let v308 : Index := Scalar.indexCast arg12
  let c48_170 : Index := 48#32
  ![v308.toNat, 48]
def k0_off472 (v34 : BitVec 32) (k0_t61 : Fin (k0_t61_loop v34).trips) : Fin 2 → Nat :=
  let c0_i32_155 : BitVec 32 := 0#32
  let c1_i32_157 : BitVec 32 := 1#32
  let arg12 : BitVec 32 := Scf.iv c0_i32_155 c1_i32_157 k0_t61
  let v311 : Index := Scalar.indexCast arg12
  let c64_171 : Index := 64#32
  ![v311.toNat, 64]
def k0_off473 (v34 : BitVec 32) (k0_t61 : Fin (k0_t61_loop v34).trips) : Fin 2 → Nat :=
  let c0_i32_155 : BitVec 32 := 0#32
  let c1_i32_157 : BitVec 32 := 1#32
  let arg12 : BitVec 32 := Scf.iv c0_i32_155 c1_i32_157 k0_t61
  let v314 : Index := Scalar.indexCast arg12
  let c80_172 : Index := 80#32
  ![v314.toNat, 80]
def k0_off474 (v34 : BitVec 32) (k0_t61 : Fin (k0_t61_loop v34).trips) : Fin 2 → Nat :=
  let c0_i32_155 : BitVec 32 := 0#32
  let c1_i32_157 : BitVec 32 := 1#32
  let arg12 : BitVec 32 := Scf.iv c0_i32_155 c1_i32_157 k0_t61
  let v317 : Index := Scalar.indexCast arg12
  let c96_173 : Index := 96#32
  ![v317.toNat, 96]
def k0_off475 (v34 : BitVec 32) (k0_t61 : Fin (k0_t61_loop v34).trips) : Fin 2 → Nat :=
  let c0_i32_155 : BitVec 32 := 0#32
  let c1_i32_157 : BitVec 32 := 1#32
  let arg12 : BitVec 32 := Scf.iv c0_i32_155 c1_i32_157 k0_t61
  let v320 : Index := Scalar.indexCast arg12
  let c112_174 : Index := 112#32
  ![v320.toNat, 112]
@[reducible] def k0_t62_loop (v34 : BitVec 32) : Scf.Loop 32 :=
  let c0_i32_155 : BitVec 32 := 0#32
  let c3712_i32_145 : BitVec 32 := 3712#32
  let v274 : BitVec 32 := Scalar.subi v34 c3712_i32_145
  let c128_i32_146 : BitVec 32 := 128#32
  let v275 : BitVec 32 := Scalar.minsi v274 c128_i32_146
  let v284 : BitVec 32 := Scalar.subi v275 c0_i32_155
  let c1_i32_156 : BitVec 32 := 1#32
  let v286 : BitVec 32 := Scalar.divsi v284 c1_i32_156
  let v287 : BitVec 32 := Scalar.muli v286 c1_i32_156
  let v288 : BitVec 32 := Scalar.addi c0_i32_155 v287
  let v285 : BitVec 32 := Scalar.addi c0_i32_155 v284
  let c1_i32_158 : BitVec 32 := 1#32
  ⟨v288, v285, c1_i32_158⟩
def k0_off476 (v34 : BitVec 32) (k0_t62 : Fin (k0_t62_loop v34).trips) : Fin 2 → Nat :=
  let c0_i32_155 : BitVec 32 := 0#32
  let c3712_i32_145 : BitVec 32 := 3712#32
  let v274 : BitVec 32 := Scalar.subi v34 c3712_i32_145
  let c128_i32_146 : BitVec 32 := 128#32
  let v275 : BitVec 32 := Scalar.minsi v274 c128_i32_146
  let v284 : BitVec 32 := Scalar.subi v275 c0_i32_155
  let c1_i32_156 : BitVec 32 := 1#32
  let v286 : BitVec 32 := Scalar.divsi v284 c1_i32_156
  let v287 : BitVec 32 := Scalar.muli v286 c1_i32_156
  let v288 : BitVec 32 := Scalar.addi c0_i32_155 v287
  let c1_i32_158 : BitVec 32 := 1#32
  let arg12 : BitVec 32 := Scf.iv v288 c1_i32_158 k0_t62
  let v299 : Index := Scalar.indexCast arg12
  let c0_167 : Index := 0#32
  ![v299.toNat, 0]
def k0_off477 (v34 : BitVec 32) (k0_t62 : Fin (k0_t62_loop v34).trips) : Fin 2 → Nat :=
  let c0_i32_155 : BitVec 32 := 0#32
  let c3712_i32_145 : BitVec 32 := 3712#32
  let v274 : BitVec 32 := Scalar.subi v34 c3712_i32_145
  let c128_i32_146 : BitVec 32 := 128#32
  let v275 : BitVec 32 := Scalar.minsi v274 c128_i32_146
  let v284 : BitVec 32 := Scalar.subi v275 c0_i32_155
  let c1_i32_156 : BitVec 32 := 1#32
  let v286 : BitVec 32 := Scalar.divsi v284 c1_i32_156
  let v287 : BitVec 32 := Scalar.muli v286 c1_i32_156
  let v288 : BitVec 32 := Scalar.addi c0_i32_155 v287
  let c1_i32_158 : BitVec 32 := 1#32
  let arg12 : BitVec 32 := Scf.iv v288 c1_i32_158 k0_t62
  let v302 : Index := Scalar.indexCast arg12
  let c16_168 : Index := 16#32
  ![v302.toNat, 16]
def k0_off478 (v34 : BitVec 32) (k0_t62 : Fin (k0_t62_loop v34).trips) : Fin 2 → Nat :=
  let c0_i32_155 : BitVec 32 := 0#32
  let c3712_i32_145 : BitVec 32 := 3712#32
  let v274 : BitVec 32 := Scalar.subi v34 c3712_i32_145
  let c128_i32_146 : BitVec 32 := 128#32
  let v275 : BitVec 32 := Scalar.minsi v274 c128_i32_146
  let v284 : BitVec 32 := Scalar.subi v275 c0_i32_155
  let c1_i32_156 : BitVec 32 := 1#32
  let v286 : BitVec 32 := Scalar.divsi v284 c1_i32_156
  let v287 : BitVec 32 := Scalar.muli v286 c1_i32_156
  let v288 : BitVec 32 := Scalar.addi c0_i32_155 v287
  let c1_i32_158 : BitVec 32 := 1#32
  let arg12 : BitVec 32 := Scf.iv v288 c1_i32_158 k0_t62
  let v305 : Index := Scalar.indexCast arg12
  let c32_169 : Index := 32#32
  ![v305.toNat, 32]
def k0_off479 (v34 : BitVec 32) (k0_t62 : Fin (k0_t62_loop v34).trips) : Fin 2 → Nat :=
  let c0_i32_155 : BitVec 32 := 0#32
  let c3712_i32_145 : BitVec 32 := 3712#32
  let v274 : BitVec 32 := Scalar.subi v34 c3712_i32_145
  let c128_i32_146 : BitVec 32 := 128#32
  let v275 : BitVec 32 := Scalar.minsi v274 c128_i32_146
  let v284 : BitVec 32 := Scalar.subi v275 c0_i32_155
  let c1_i32_156 : BitVec 32 := 1#32
  let v286 : BitVec 32 := Scalar.divsi v284 c1_i32_156
  let v287 : BitVec 32 := Scalar.muli v286 c1_i32_156
  let v288 : BitVec 32 := Scalar.addi c0_i32_155 v287
  let c1_i32_158 : BitVec 32 := 1#32
  let arg12 : BitVec 32 := Scf.iv v288 c1_i32_158 k0_t62
  let v308 : Index := Scalar.indexCast arg12
  let c48_170 : Index := 48#32
  ![v308.toNat, 48]
def k0_off480 (v34 : BitVec 32) (k0_t62 : Fin (k0_t62_loop v34).trips) : Fin 2 → Nat :=
  let c0_i32_155 : BitVec 32 := 0#32
  let c3712_i32_145 : BitVec 32 := 3712#32
  let v274 : BitVec 32 := Scalar.subi v34 c3712_i32_145
  let c128_i32_146 : BitVec 32 := 128#32
  let v275 : BitVec 32 := Scalar.minsi v274 c128_i32_146
  let v284 : BitVec 32 := Scalar.subi v275 c0_i32_155
  let c1_i32_156 : BitVec 32 := 1#32
  let v286 : BitVec 32 := Scalar.divsi v284 c1_i32_156
  let v287 : BitVec 32 := Scalar.muli v286 c1_i32_156
  let v288 : BitVec 32 := Scalar.addi c0_i32_155 v287
  let c1_i32_158 : BitVec 32 := 1#32
  let arg12 : BitVec 32 := Scf.iv v288 c1_i32_158 k0_t62
  let v311 : Index := Scalar.indexCast arg12
  let c64_171 : Index := 64#32
  ![v311.toNat, 64]
def k0_off481 (v34 : BitVec 32) (k0_t62 : Fin (k0_t62_loop v34).trips) : Fin 2 → Nat :=
  let c0_i32_155 : BitVec 32 := 0#32
  let c3712_i32_145 : BitVec 32 := 3712#32
  let v274 : BitVec 32 := Scalar.subi v34 c3712_i32_145
  let c128_i32_146 : BitVec 32 := 128#32
  let v275 : BitVec 32 := Scalar.minsi v274 c128_i32_146
  let v284 : BitVec 32 := Scalar.subi v275 c0_i32_155
  let c1_i32_156 : BitVec 32 := 1#32
  let v286 : BitVec 32 := Scalar.divsi v284 c1_i32_156
  let v287 : BitVec 32 := Scalar.muli v286 c1_i32_156
  let v288 : BitVec 32 := Scalar.addi c0_i32_155 v287
  let c1_i32_158 : BitVec 32 := 1#32
  let arg12 : BitVec 32 := Scf.iv v288 c1_i32_158 k0_t62
  let v314 : Index := Scalar.indexCast arg12
  let c80_172 : Index := 80#32
  ![v314.toNat, 80]
def k0_off482 (v34 : BitVec 32) (k0_t62 : Fin (k0_t62_loop v34).trips) : Fin 2 → Nat :=
  let c0_i32_155 : BitVec 32 := 0#32
  let c3712_i32_145 : BitVec 32 := 3712#32
  let v274 : BitVec 32 := Scalar.subi v34 c3712_i32_145
  let c128_i32_146 : BitVec 32 := 128#32
  let v275 : BitVec 32 := Scalar.minsi v274 c128_i32_146
  let v284 : BitVec 32 := Scalar.subi v275 c0_i32_155
  let c1_i32_156 : BitVec 32 := 1#32
  let v286 : BitVec 32 := Scalar.divsi v284 c1_i32_156
  let v287 : BitVec 32 := Scalar.muli v286 c1_i32_156
  let v288 : BitVec 32 := Scalar.addi c0_i32_155 v287
  let c1_i32_158 : BitVec 32 := 1#32
  let arg12 : BitVec 32 := Scf.iv v288 c1_i32_158 k0_t62
  let v317 : Index := Scalar.indexCast arg12
  let c96_173 : Index := 96#32
  ![v317.toNat, 96]
def k0_off483 (v34 : BitVec 32) (k0_t62 : Fin (k0_t62_loop v34).trips) : Fin 2 → Nat :=
  let c0_i32_155 : BitVec 32 := 0#32
  let c3712_i32_145 : BitVec 32 := 3712#32
  let v274 : BitVec 32 := Scalar.subi v34 c3712_i32_145
  let c128_i32_146 : BitVec 32 := 128#32
  let v275 : BitVec 32 := Scalar.minsi v274 c128_i32_146
  let v284 : BitVec 32 := Scalar.subi v275 c0_i32_155
  let c1_i32_156 : BitVec 32 := 1#32
  let v286 : BitVec 32 := Scalar.divsi v284 c1_i32_156
  let v287 : BitVec 32 := Scalar.muli v286 c1_i32_156
  let v288 : BitVec 32 := Scalar.addi c0_i32_155 v287
  let c1_i32_158 : BitVec 32 := 1#32
  let arg12 : BitVec 32 := Scf.iv v288 c1_i32_158 k0_t62
  let v320 : Index := Scalar.indexCast arg12
  let c112_174 : Index := 112#32
  ![v320.toNat, 112]
@[reducible] def k0_t63_loop (v34 : BitVec 32) : Scf.Loop 32 :=
  let c0_i32_155 : BitVec 32 := 0#32
  let c3840_i32_145 : BitVec 32 := 3840#32
  let v274 : BitVec 32 := Scalar.subi v34 c3840_i32_145
  let c128_i32_146 : BitVec 32 := 128#32
  let v275 : BitVec 32 := Scalar.minsi v274 c128_i32_146
  let v284 : BitVec 32 := Scalar.subi v275 c0_i32_155
  let c1_i32_156 : BitVec 32 := 1#32
  let v286 : BitVec 32 := Scalar.divsi v284 c1_i32_156
  let v287 : BitVec 32 := Scalar.muli v286 c1_i32_156
  let v288 : BitVec 32 := Scalar.addi c0_i32_155 v287
  let c1_i32_157 : BitVec 32 := 1#32
  ⟨c0_i32_155, v288, c1_i32_157⟩
def k0_cond63 (v34 : BitVec 32) : BitVec 1 :=
  let c3840_i32_120 : BitVec 32 := 3840#32
  let v237 : BitVec 1 := Scalar.cmpi .sgt v34 c3840_i32_120
  let v238 : BitVec 32 := Scalar.extui v237
  let c0_i32_121 : BitVec 32 := 0#32
  let v239 : BitVec 1 := Scalar.cmpi .ne v238 c0_i32_121
  v239

def k0_off484 (v34 : BitVec 32) (k0_t63 : Fin (k0_t63_loop v34).trips) : Fin 2 → Nat :=
  let c0_i32_155 : BitVec 32 := 0#32
  let c1_i32_157 : BitVec 32 := 1#32
  let arg12 : BitVec 32 := Scf.iv c0_i32_155 c1_i32_157 k0_t63
  let v299 : Index := Scalar.indexCast arg12
  let c0_167 : Index := 0#32
  ![v299.toNat, 0]
def k0_off485 (v34 : BitVec 32) (k0_t63 : Fin (k0_t63_loop v34).trips) : Fin 2 → Nat :=
  let c0_i32_155 : BitVec 32 := 0#32
  let c1_i32_157 : BitVec 32 := 1#32
  let arg12 : BitVec 32 := Scf.iv c0_i32_155 c1_i32_157 k0_t63
  let v302 : Index := Scalar.indexCast arg12
  let c16_168 : Index := 16#32
  ![v302.toNat, 16]
def k0_off486 (v34 : BitVec 32) (k0_t63 : Fin (k0_t63_loop v34).trips) : Fin 2 → Nat :=
  let c0_i32_155 : BitVec 32 := 0#32
  let c1_i32_157 : BitVec 32 := 1#32
  let arg12 : BitVec 32 := Scf.iv c0_i32_155 c1_i32_157 k0_t63
  let v305 : Index := Scalar.indexCast arg12
  let c32_169 : Index := 32#32
  ![v305.toNat, 32]
def k0_off487 (v34 : BitVec 32) (k0_t63 : Fin (k0_t63_loop v34).trips) : Fin 2 → Nat :=
  let c0_i32_155 : BitVec 32 := 0#32
  let c1_i32_157 : BitVec 32 := 1#32
  let arg12 : BitVec 32 := Scf.iv c0_i32_155 c1_i32_157 k0_t63
  let v308 : Index := Scalar.indexCast arg12
  let c48_170 : Index := 48#32
  ![v308.toNat, 48]
def k0_off488 (v34 : BitVec 32) (k0_t63 : Fin (k0_t63_loop v34).trips) : Fin 2 → Nat :=
  let c0_i32_155 : BitVec 32 := 0#32
  let c1_i32_157 : BitVec 32 := 1#32
  let arg12 : BitVec 32 := Scf.iv c0_i32_155 c1_i32_157 k0_t63
  let v311 : Index := Scalar.indexCast arg12
  let c64_171 : Index := 64#32
  ![v311.toNat, 64]
def k0_off489 (v34 : BitVec 32) (k0_t63 : Fin (k0_t63_loop v34).trips) : Fin 2 → Nat :=
  let c0_i32_155 : BitVec 32 := 0#32
  let c1_i32_157 : BitVec 32 := 1#32
  let arg12 : BitVec 32 := Scf.iv c0_i32_155 c1_i32_157 k0_t63
  let v314 : Index := Scalar.indexCast arg12
  let c80_172 : Index := 80#32
  ![v314.toNat, 80]
def k0_off490 (v34 : BitVec 32) (k0_t63 : Fin (k0_t63_loop v34).trips) : Fin 2 → Nat :=
  let c0_i32_155 : BitVec 32 := 0#32
  let c1_i32_157 : BitVec 32 := 1#32
  let arg12 : BitVec 32 := Scf.iv c0_i32_155 c1_i32_157 k0_t63
  let v317 : Index := Scalar.indexCast arg12
  let c96_173 : Index := 96#32
  ![v317.toNat, 96]
def k0_off491 (v34 : BitVec 32) (k0_t63 : Fin (k0_t63_loop v34).trips) : Fin 2 → Nat :=
  let c0_i32_155 : BitVec 32 := 0#32
  let c1_i32_157 : BitVec 32 := 1#32
  let arg12 : BitVec 32 := Scf.iv c0_i32_155 c1_i32_157 k0_t63
  let v320 : Index := Scalar.indexCast arg12
  let c112_174 : Index := 112#32
  ![v320.toNat, 112]
@[reducible] def k0_t64_loop (v34 : BitVec 32) : Scf.Loop 32 :=
  let c0_i32_155 : BitVec 32 := 0#32
  let c3840_i32_145 : BitVec 32 := 3840#32
  let v274 : BitVec 32 := Scalar.subi v34 c3840_i32_145
  let c128_i32_146 : BitVec 32 := 128#32
  let v275 : BitVec 32 := Scalar.minsi v274 c128_i32_146
  let v284 : BitVec 32 := Scalar.subi v275 c0_i32_155
  let c1_i32_156 : BitVec 32 := 1#32
  let v286 : BitVec 32 := Scalar.divsi v284 c1_i32_156
  let v287 : BitVec 32 := Scalar.muli v286 c1_i32_156
  let v288 : BitVec 32 := Scalar.addi c0_i32_155 v287
  let v285 : BitVec 32 := Scalar.addi c0_i32_155 v284
  let c1_i32_158 : BitVec 32 := 1#32
  ⟨v288, v285, c1_i32_158⟩
def k0_off492 (v34 : BitVec 32) (k0_t64 : Fin (k0_t64_loop v34).trips) : Fin 2 → Nat :=
  let c0_i32_155 : BitVec 32 := 0#32
  let c3840_i32_145 : BitVec 32 := 3840#32
  let v274 : BitVec 32 := Scalar.subi v34 c3840_i32_145
  let c128_i32_146 : BitVec 32 := 128#32
  let v275 : BitVec 32 := Scalar.minsi v274 c128_i32_146
  let v284 : BitVec 32 := Scalar.subi v275 c0_i32_155
  let c1_i32_156 : BitVec 32 := 1#32
  let v286 : BitVec 32 := Scalar.divsi v284 c1_i32_156
  let v287 : BitVec 32 := Scalar.muli v286 c1_i32_156
  let v288 : BitVec 32 := Scalar.addi c0_i32_155 v287
  let c1_i32_158 : BitVec 32 := 1#32
  let arg12 : BitVec 32 := Scf.iv v288 c1_i32_158 k0_t64
  let v299 : Index := Scalar.indexCast arg12
  let c0_167 : Index := 0#32
  ![v299.toNat, 0]
def k0_off493 (v34 : BitVec 32) (k0_t64 : Fin (k0_t64_loop v34).trips) : Fin 2 → Nat :=
  let c0_i32_155 : BitVec 32 := 0#32
  let c3840_i32_145 : BitVec 32 := 3840#32
  let v274 : BitVec 32 := Scalar.subi v34 c3840_i32_145
  let c128_i32_146 : BitVec 32 := 128#32
  let v275 : BitVec 32 := Scalar.minsi v274 c128_i32_146
  let v284 : BitVec 32 := Scalar.subi v275 c0_i32_155
  let c1_i32_156 : BitVec 32 := 1#32
  let v286 : BitVec 32 := Scalar.divsi v284 c1_i32_156
  let v287 : BitVec 32 := Scalar.muli v286 c1_i32_156
  let v288 : BitVec 32 := Scalar.addi c0_i32_155 v287
  let c1_i32_158 : BitVec 32 := 1#32
  let arg12 : BitVec 32 := Scf.iv v288 c1_i32_158 k0_t64
  let v302 : Index := Scalar.indexCast arg12
  let c16_168 : Index := 16#32
  ![v302.toNat, 16]
def k0_off494 (v34 : BitVec 32) (k0_t64 : Fin (k0_t64_loop v34).trips) : Fin 2 → Nat :=
  let c0_i32_155 : BitVec 32 := 0#32
  let c3840_i32_145 : BitVec 32 := 3840#32
  let v274 : BitVec 32 := Scalar.subi v34 c3840_i32_145
  let c128_i32_146 : BitVec 32 := 128#32
  let v275 : BitVec 32 := Scalar.minsi v274 c128_i32_146
  let v284 : BitVec 32 := Scalar.subi v275 c0_i32_155
  let c1_i32_156 : BitVec 32 := 1#32
  let v286 : BitVec 32 := Scalar.divsi v284 c1_i32_156
  let v287 : BitVec 32 := Scalar.muli v286 c1_i32_156
  let v288 : BitVec 32 := Scalar.addi c0_i32_155 v287
  let c1_i32_158 : BitVec 32 := 1#32
  let arg12 : BitVec 32 := Scf.iv v288 c1_i32_158 k0_t64
  let v305 : Index := Scalar.indexCast arg12
  let c32_169 : Index := 32#32
  ![v305.toNat, 32]
def k0_off495 (v34 : BitVec 32) (k0_t64 : Fin (k0_t64_loop v34).trips) : Fin 2 → Nat :=
  let c0_i32_155 : BitVec 32 := 0#32
  let c3840_i32_145 : BitVec 32 := 3840#32
  let v274 : BitVec 32 := Scalar.subi v34 c3840_i32_145
  let c128_i32_146 : BitVec 32 := 128#32
  let v275 : BitVec 32 := Scalar.minsi v274 c128_i32_146
  let v284 : BitVec 32 := Scalar.subi v275 c0_i32_155
  let c1_i32_156 : BitVec 32 := 1#32
  let v286 : BitVec 32 := Scalar.divsi v284 c1_i32_156
  let v287 : BitVec 32 := Scalar.muli v286 c1_i32_156
  let v288 : BitVec 32 := Scalar.addi c0_i32_155 v287
  let c1_i32_158 : BitVec 32 := 1#32
  let arg12 : BitVec 32 := Scf.iv v288 c1_i32_158 k0_t64
  let v308 : Index := Scalar.indexCast arg12
  let c48_170 : Index := 48#32
  ![v308.toNat, 48]
def k0_off496 (v34 : BitVec 32) (k0_t64 : Fin (k0_t64_loop v34).trips) : Fin 2 → Nat :=
  let c0_i32_155 : BitVec 32 := 0#32
  let c3840_i32_145 : BitVec 32 := 3840#32
  let v274 : BitVec 32 := Scalar.subi v34 c3840_i32_145
  let c128_i32_146 : BitVec 32 := 128#32
  let v275 : BitVec 32 := Scalar.minsi v274 c128_i32_146
  let v284 : BitVec 32 := Scalar.subi v275 c0_i32_155
  let c1_i32_156 : BitVec 32 := 1#32
  let v286 : BitVec 32 := Scalar.divsi v284 c1_i32_156
  let v287 : BitVec 32 := Scalar.muli v286 c1_i32_156
  let v288 : BitVec 32 := Scalar.addi c0_i32_155 v287
  let c1_i32_158 : BitVec 32 := 1#32
  let arg12 : BitVec 32 := Scf.iv v288 c1_i32_158 k0_t64
  let v311 : Index := Scalar.indexCast arg12
  let c64_171 : Index := 64#32
  ![v311.toNat, 64]
def k0_off497 (v34 : BitVec 32) (k0_t64 : Fin (k0_t64_loop v34).trips) : Fin 2 → Nat :=
  let c0_i32_155 : BitVec 32 := 0#32
  let c3840_i32_145 : BitVec 32 := 3840#32
  let v274 : BitVec 32 := Scalar.subi v34 c3840_i32_145
  let c128_i32_146 : BitVec 32 := 128#32
  let v275 : BitVec 32 := Scalar.minsi v274 c128_i32_146
  let v284 : BitVec 32 := Scalar.subi v275 c0_i32_155
  let c1_i32_156 : BitVec 32 := 1#32
  let v286 : BitVec 32 := Scalar.divsi v284 c1_i32_156
  let v287 : BitVec 32 := Scalar.muli v286 c1_i32_156
  let v288 : BitVec 32 := Scalar.addi c0_i32_155 v287
  let c1_i32_158 : BitVec 32 := 1#32
  let arg12 : BitVec 32 := Scf.iv v288 c1_i32_158 k0_t64
  let v314 : Index := Scalar.indexCast arg12
  let c80_172 : Index := 80#32
  ![v314.toNat, 80]
def k0_off498 (v34 : BitVec 32) (k0_t64 : Fin (k0_t64_loop v34).trips) : Fin 2 → Nat :=
  let c0_i32_155 : BitVec 32 := 0#32
  let c3840_i32_145 : BitVec 32 := 3840#32
  let v274 : BitVec 32 := Scalar.subi v34 c3840_i32_145
  let c128_i32_146 : BitVec 32 := 128#32
  let v275 : BitVec 32 := Scalar.minsi v274 c128_i32_146
  let v284 : BitVec 32 := Scalar.subi v275 c0_i32_155
  let c1_i32_156 : BitVec 32 := 1#32
  let v286 : BitVec 32 := Scalar.divsi v284 c1_i32_156
  let v287 : BitVec 32 := Scalar.muli v286 c1_i32_156
  let v288 : BitVec 32 := Scalar.addi c0_i32_155 v287
  let c1_i32_158 : BitVec 32 := 1#32
  let arg12 : BitVec 32 := Scf.iv v288 c1_i32_158 k0_t64
  let v317 : Index := Scalar.indexCast arg12
  let c96_173 : Index := 96#32
  ![v317.toNat, 96]
def k0_off499 (v34 : BitVec 32) (k0_t64 : Fin (k0_t64_loop v34).trips) : Fin 2 → Nat :=
  let c0_i32_155 : BitVec 32 := 0#32
  let c3840_i32_145 : BitVec 32 := 3840#32
  let v274 : BitVec 32 := Scalar.subi v34 c3840_i32_145
  let c128_i32_146 : BitVec 32 := 128#32
  let v275 : BitVec 32 := Scalar.minsi v274 c128_i32_146
  let v284 : BitVec 32 := Scalar.subi v275 c0_i32_155
  let c1_i32_156 : BitVec 32 := 1#32
  let v286 : BitVec 32 := Scalar.divsi v284 c1_i32_156
  let v287 : BitVec 32 := Scalar.muli v286 c1_i32_156
  let v288 : BitVec 32 := Scalar.addi c0_i32_155 v287
  let c1_i32_158 : BitVec 32 := 1#32
  let arg12 : BitVec 32 := Scf.iv v288 c1_i32_158 k0_t64
  let v320 : Index := Scalar.indexCast arg12
  let c112_174 : Index := 112#32
  ![v320.toNat, 112]
@[reducible] def k0_t65_loop (v34 : BitVec 32) : Scf.Loop 32 :=
  let c0_i32_155 : BitVec 32 := 0#32
  let c3968_i32_145 : BitVec 32 := 3968#32
  let v274 : BitVec 32 := Scalar.subi v34 c3968_i32_145
  let c128_i32_146 : BitVec 32 := 128#32
  let v275 : BitVec 32 := Scalar.minsi v274 c128_i32_146
  let v284 : BitVec 32 := Scalar.subi v275 c0_i32_155
  let c1_i32_156 : BitVec 32 := 1#32
  let v286 : BitVec 32 := Scalar.divsi v284 c1_i32_156
  let v287 : BitVec 32 := Scalar.muli v286 c1_i32_156
  let v288 : BitVec 32 := Scalar.addi c0_i32_155 v287
  let c1_i32_157 : BitVec 32 := 1#32
  ⟨c0_i32_155, v288, c1_i32_157⟩
def k0_cond64 (v34 : BitVec 32) : BitVec 1 :=
  let c3968_i32_122 : BitVec 32 := 3968#32
  let v240 : BitVec 1 := Scalar.cmpi .sgt v34 c3968_i32_122
  let v241 : BitVec 32 := Scalar.extui v240
  let c0_i32_123 : BitVec 32 := 0#32
  let v242 : BitVec 1 := Scalar.cmpi .ne v241 c0_i32_123
  v242

def k0_off500 (v34 : BitVec 32) (k0_t65 : Fin (k0_t65_loop v34).trips) : Fin 2 → Nat :=
  let c0_i32_155 : BitVec 32 := 0#32
  let c1_i32_157 : BitVec 32 := 1#32
  let arg12 : BitVec 32 := Scf.iv c0_i32_155 c1_i32_157 k0_t65
  let v299 : Index := Scalar.indexCast arg12
  let c0_167 : Index := 0#32
  ![v299.toNat, 0]
def k0_off501 (v34 : BitVec 32) (k0_t65 : Fin (k0_t65_loop v34).trips) : Fin 2 → Nat :=
  let c0_i32_155 : BitVec 32 := 0#32
  let c1_i32_157 : BitVec 32 := 1#32
  let arg12 : BitVec 32 := Scf.iv c0_i32_155 c1_i32_157 k0_t65
  let v302 : Index := Scalar.indexCast arg12
  let c16_168 : Index := 16#32
  ![v302.toNat, 16]
def k0_off502 (v34 : BitVec 32) (k0_t65 : Fin (k0_t65_loop v34).trips) : Fin 2 → Nat :=
  let c0_i32_155 : BitVec 32 := 0#32
  let c1_i32_157 : BitVec 32 := 1#32
  let arg12 : BitVec 32 := Scf.iv c0_i32_155 c1_i32_157 k0_t65
  let v305 : Index := Scalar.indexCast arg12
  let c32_169 : Index := 32#32
  ![v305.toNat, 32]
def k0_off503 (v34 : BitVec 32) (k0_t65 : Fin (k0_t65_loop v34).trips) : Fin 2 → Nat :=
  let c0_i32_155 : BitVec 32 := 0#32
  let c1_i32_157 : BitVec 32 := 1#32
  let arg12 : BitVec 32 := Scf.iv c0_i32_155 c1_i32_157 k0_t65
  let v308 : Index := Scalar.indexCast arg12
  let c48_170 : Index := 48#32
  ![v308.toNat, 48]
def k0_off504 (v34 : BitVec 32) (k0_t65 : Fin (k0_t65_loop v34).trips) : Fin 2 → Nat :=
  let c0_i32_155 : BitVec 32 := 0#32
  let c1_i32_157 : BitVec 32 := 1#32
  let arg12 : BitVec 32 := Scf.iv c0_i32_155 c1_i32_157 k0_t65
  let v311 : Index := Scalar.indexCast arg12
  let c64_171 : Index := 64#32
  ![v311.toNat, 64]
def k0_off505 (v34 : BitVec 32) (k0_t65 : Fin (k0_t65_loop v34).trips) : Fin 2 → Nat :=
  let c0_i32_155 : BitVec 32 := 0#32
  let c1_i32_157 : BitVec 32 := 1#32
  let arg12 : BitVec 32 := Scf.iv c0_i32_155 c1_i32_157 k0_t65
  let v314 : Index := Scalar.indexCast arg12
  let c80_172 : Index := 80#32
  ![v314.toNat, 80]
def k0_off506 (v34 : BitVec 32) (k0_t65 : Fin (k0_t65_loop v34).trips) : Fin 2 → Nat :=
  let c0_i32_155 : BitVec 32 := 0#32
  let c1_i32_157 : BitVec 32 := 1#32
  let arg12 : BitVec 32 := Scf.iv c0_i32_155 c1_i32_157 k0_t65
  let v317 : Index := Scalar.indexCast arg12
  let c96_173 : Index := 96#32
  ![v317.toNat, 96]
def k0_off507 (v34 : BitVec 32) (k0_t65 : Fin (k0_t65_loop v34).trips) : Fin 2 → Nat :=
  let c0_i32_155 : BitVec 32 := 0#32
  let c1_i32_157 : BitVec 32 := 1#32
  let arg12 : BitVec 32 := Scf.iv c0_i32_155 c1_i32_157 k0_t65
  let v320 : Index := Scalar.indexCast arg12
  let c112_174 : Index := 112#32
  ![v320.toNat, 112]
@[reducible] def k0_t66_loop (v34 : BitVec 32) : Scf.Loop 32 :=
  let c0_i32_155 : BitVec 32 := 0#32
  let c3968_i32_145 : BitVec 32 := 3968#32
  let v274 : BitVec 32 := Scalar.subi v34 c3968_i32_145
  let c128_i32_146 : BitVec 32 := 128#32
  let v275 : BitVec 32 := Scalar.minsi v274 c128_i32_146
  let v284 : BitVec 32 := Scalar.subi v275 c0_i32_155
  let c1_i32_156 : BitVec 32 := 1#32
  let v286 : BitVec 32 := Scalar.divsi v284 c1_i32_156
  let v287 : BitVec 32 := Scalar.muli v286 c1_i32_156
  let v288 : BitVec 32 := Scalar.addi c0_i32_155 v287
  let v285 : BitVec 32 := Scalar.addi c0_i32_155 v284
  let c1_i32_158 : BitVec 32 := 1#32
  ⟨v288, v285, c1_i32_158⟩
def k0_off508 (v34 : BitVec 32) (k0_t66 : Fin (k0_t66_loop v34).trips) : Fin 2 → Nat :=
  let c0_i32_155 : BitVec 32 := 0#32
  let c3968_i32_145 : BitVec 32 := 3968#32
  let v274 : BitVec 32 := Scalar.subi v34 c3968_i32_145
  let c128_i32_146 : BitVec 32 := 128#32
  let v275 : BitVec 32 := Scalar.minsi v274 c128_i32_146
  let v284 : BitVec 32 := Scalar.subi v275 c0_i32_155
  let c1_i32_156 : BitVec 32 := 1#32
  let v286 : BitVec 32 := Scalar.divsi v284 c1_i32_156
  let v287 : BitVec 32 := Scalar.muli v286 c1_i32_156
  let v288 : BitVec 32 := Scalar.addi c0_i32_155 v287
  let c1_i32_158 : BitVec 32 := 1#32
  let arg12 : BitVec 32 := Scf.iv v288 c1_i32_158 k0_t66
  let v299 : Index := Scalar.indexCast arg12
  let c0_167 : Index := 0#32
  ![v299.toNat, 0]
def k0_off509 (v34 : BitVec 32) (k0_t66 : Fin (k0_t66_loop v34).trips) : Fin 2 → Nat :=
  let c0_i32_155 : BitVec 32 := 0#32
  let c3968_i32_145 : BitVec 32 := 3968#32
  let v274 : BitVec 32 := Scalar.subi v34 c3968_i32_145
  let c128_i32_146 : BitVec 32 := 128#32
  let v275 : BitVec 32 := Scalar.minsi v274 c128_i32_146
  let v284 : BitVec 32 := Scalar.subi v275 c0_i32_155
  let c1_i32_156 : BitVec 32 := 1#32
  let v286 : BitVec 32 := Scalar.divsi v284 c1_i32_156
  let v287 : BitVec 32 := Scalar.muli v286 c1_i32_156
  let v288 : BitVec 32 := Scalar.addi c0_i32_155 v287
  let c1_i32_158 : BitVec 32 := 1#32
  let arg12 : BitVec 32 := Scf.iv v288 c1_i32_158 k0_t66
  let v302 : Index := Scalar.indexCast arg12
  let c16_168 : Index := 16#32
  ![v302.toNat, 16]
def k0_off510 (v34 : BitVec 32) (k0_t66 : Fin (k0_t66_loop v34).trips) : Fin 2 → Nat :=
  let c0_i32_155 : BitVec 32 := 0#32
  let c3968_i32_145 : BitVec 32 := 3968#32
  let v274 : BitVec 32 := Scalar.subi v34 c3968_i32_145
  let c128_i32_146 : BitVec 32 := 128#32
  let v275 : BitVec 32 := Scalar.minsi v274 c128_i32_146
  let v284 : BitVec 32 := Scalar.subi v275 c0_i32_155
  let c1_i32_156 : BitVec 32 := 1#32
  let v286 : BitVec 32 := Scalar.divsi v284 c1_i32_156
  let v287 : BitVec 32 := Scalar.muli v286 c1_i32_156
  let v288 : BitVec 32 := Scalar.addi c0_i32_155 v287
  let c1_i32_158 : BitVec 32 := 1#32
  let arg12 : BitVec 32 := Scf.iv v288 c1_i32_158 k0_t66
  let v305 : Index := Scalar.indexCast arg12
  let c32_169 : Index := 32#32
  ![v305.toNat, 32]
def k0_off511 (v34 : BitVec 32) (k0_t66 : Fin (k0_t66_loop v34).trips) : Fin 2 → Nat :=
  let c0_i32_155 : BitVec 32 := 0#32
  let c3968_i32_145 : BitVec 32 := 3968#32
  let v274 : BitVec 32 := Scalar.subi v34 c3968_i32_145
  let c128_i32_146 : BitVec 32 := 128#32
  let v275 : BitVec 32 := Scalar.minsi v274 c128_i32_146
  let v284 : BitVec 32 := Scalar.subi v275 c0_i32_155
  let c1_i32_156 : BitVec 32 := 1#32
  let v286 : BitVec 32 := Scalar.divsi v284 c1_i32_156
  let v287 : BitVec 32 := Scalar.muli v286 c1_i32_156
  let v288 : BitVec 32 := Scalar.addi c0_i32_155 v287
  let c1_i32_158 : BitVec 32 := 1#32
  let arg12 : BitVec 32 := Scf.iv v288 c1_i32_158 k0_t66
  let v308 : Index := Scalar.indexCast arg12
  let c48_170 : Index := 48#32
  ![v308.toNat, 48]
def k0_off512 (v34 : BitVec 32) (k0_t66 : Fin (k0_t66_loop v34).trips) : Fin 2 → Nat :=
  let c0_i32_155 : BitVec 32 := 0#32
  let c3968_i32_145 : BitVec 32 := 3968#32
  let v274 : BitVec 32 := Scalar.subi v34 c3968_i32_145
  let c128_i32_146 : BitVec 32 := 128#32
  let v275 : BitVec 32 := Scalar.minsi v274 c128_i32_146
  let v284 : BitVec 32 := Scalar.subi v275 c0_i32_155
  let c1_i32_156 : BitVec 32 := 1#32
  let v286 : BitVec 32 := Scalar.divsi v284 c1_i32_156
  let v287 : BitVec 32 := Scalar.muli v286 c1_i32_156
  let v288 : BitVec 32 := Scalar.addi c0_i32_155 v287
  let c1_i32_158 : BitVec 32 := 1#32
  let arg12 : BitVec 32 := Scf.iv v288 c1_i32_158 k0_t66
  let v311 : Index := Scalar.indexCast arg12
  let c64_171 : Index := 64#32
  ![v311.toNat, 64]
def k0_off513 (v34 : BitVec 32) (k0_t66 : Fin (k0_t66_loop v34).trips) : Fin 2 → Nat :=
  let c0_i32_155 : BitVec 32 := 0#32
  let c3968_i32_145 : BitVec 32 := 3968#32
  let v274 : BitVec 32 := Scalar.subi v34 c3968_i32_145
  let c128_i32_146 : BitVec 32 := 128#32
  let v275 : BitVec 32 := Scalar.minsi v274 c128_i32_146
  let v284 : BitVec 32 := Scalar.subi v275 c0_i32_155
  let c1_i32_156 : BitVec 32 := 1#32
  let v286 : BitVec 32 := Scalar.divsi v284 c1_i32_156
  let v287 : BitVec 32 := Scalar.muli v286 c1_i32_156
  let v288 : BitVec 32 := Scalar.addi c0_i32_155 v287
  let c1_i32_158 : BitVec 32 := 1#32
  let arg12 : BitVec 32 := Scf.iv v288 c1_i32_158 k0_t66
  let v314 : Index := Scalar.indexCast arg12
  let c80_172 : Index := 80#32
  ![v314.toNat, 80]
def k0_off514 (v34 : BitVec 32) (k0_t66 : Fin (k0_t66_loop v34).trips) : Fin 2 → Nat :=
  let c0_i32_155 : BitVec 32 := 0#32
  let c3968_i32_145 : BitVec 32 := 3968#32
  let v274 : BitVec 32 := Scalar.subi v34 c3968_i32_145
  let c128_i32_146 : BitVec 32 := 128#32
  let v275 : BitVec 32 := Scalar.minsi v274 c128_i32_146
  let v284 : BitVec 32 := Scalar.subi v275 c0_i32_155
  let c1_i32_156 : BitVec 32 := 1#32
  let v286 : BitVec 32 := Scalar.divsi v284 c1_i32_156
  let v287 : BitVec 32 := Scalar.muli v286 c1_i32_156
  let v288 : BitVec 32 := Scalar.addi c0_i32_155 v287
  let c1_i32_158 : BitVec 32 := 1#32
  let arg12 : BitVec 32 := Scf.iv v288 c1_i32_158 k0_t66
  let v317 : Index := Scalar.indexCast arg12
  let c96_173 : Index := 96#32
  ![v317.toNat, 96]
def k0_off515 (v34 : BitVec 32) (k0_t66 : Fin (k0_t66_loop v34).trips) : Fin 2 → Nat :=
  let c0_i32_155 : BitVec 32 := 0#32
  let c3968_i32_145 : BitVec 32 := 3968#32
  let v274 : BitVec 32 := Scalar.subi v34 c3968_i32_145
  let c128_i32_146 : BitVec 32 := 128#32
  let v275 : BitVec 32 := Scalar.minsi v274 c128_i32_146
  let v284 : BitVec 32 := Scalar.subi v275 c0_i32_155
  let c1_i32_156 : BitVec 32 := 1#32
  let v286 : BitVec 32 := Scalar.divsi v284 c1_i32_156
  let v287 : BitVec 32 := Scalar.muli v286 c1_i32_156
  let v288 : BitVec 32 := Scalar.addi c0_i32_155 v287
  let c1_i32_158 : BitVec 32 := 1#32
  let arg12 : BitVec 32 := Scf.iv v288 c1_i32_158 k0_t66
  let v320 : Index := Scalar.indexCast arg12
  let c112_174 : Index := 112#32
  ![v320.toNat, 112]

def k0_chk2_0 (v34 : BitVec 32) : Prop :=
  (∀ (k0_h3 : k0_cond3 v34 = 1#1), (k0_t3_loop v34).OK) ∧
  (∀ k0_t3 : Fin (k0_t3_loop v34).trips, ∀ (k0_h3 : k0_cond3 v34 = 1#1), ∀ a, (k0_off4 v34 k0_t3) a + S1x16.size a ≤ S128x128.size a) ∧
  (∀ k0_t3 : Fin (k0_t3_loop v34).trips, ∀ (k0_h3 : k0_cond3 v34 = 1#1), ∀ a, (k0_off5 v34 k0_t3) a + S1x16.size a ≤ S128x128.size a) ∧
  (∀ k0_t3 : Fin (k0_t3_loop v34).trips, ∀ (k0_h3 : k0_cond3 v34 = 1#1), ∀ a, (k0_off6 v34 k0_t3) a + S1x16.size a ≤ S128x128.size a) ∧
  (∀ k0_t3 : Fin (k0_t3_loop v34).trips, ∀ (k0_h3 : k0_cond3 v34 = 1#1), ∀ a, (k0_off7 v34 k0_t3) a + S1x16.size a ≤ S128x128.size a) ∧
  (∀ k0_t3 : Fin (k0_t3_loop v34).trips, ∀ (k0_h3 : k0_cond3 v34 = 1#1), ∀ a, (k0_off8 v34 k0_t3) a + S1x16.size a ≤ S128x128.size a) ∧
  (∀ k0_t3 : Fin (k0_t3_loop v34).trips, ∀ (k0_h3 : k0_cond3 v34 = 1#1), ∀ a, (k0_off9 v34 k0_t3) a + S1x16.size a ≤ S128x128.size a) ∧
  (∀ k0_t3 : Fin (k0_t3_loop v34).trips, ∀ (k0_h3 : k0_cond3 v34 = 1#1), ∀ a, (k0_off10 v34 k0_t3) a + S1x16.size a ≤ S128x128.size a) ∧
  (∀ k0_t3 : Fin (k0_t3_loop v34).trips, ∀ (k0_h3 : k0_cond3 v34 = 1#1), ∀ a, (k0_off11 v34 k0_t3) a + S1x16.size a ≤ S128x128.size a) ∧
  (∀ (k0_h3 : k0_cond3 v34 = 1#1), (k0_t4_loop v34).OK) ∧
  (∀ k0_t4 : Fin (k0_t4_loop v34).trips, ∀ (k0_h3 : k0_cond3 v34 = 1#1), ∀ a, (k0_off12 v34 k0_t4) a + S1x16.size a ≤ S128x128.size a) ∧
  (∀ k0_t4 : Fin (k0_t4_loop v34).trips, ∀ (k0_h3 : k0_cond3 v34 = 1#1), ∀ a, (k0_off13 v34 k0_t4) a + S1x16.size a ≤ S128x128.size a) ∧
  (∀ k0_t4 : Fin (k0_t4_loop v34).trips, ∀ (k0_h3 : k0_cond3 v34 = 1#1), ∀ a, (k0_off14 v34 k0_t4) a + S1x16.size a ≤ S128x128.size a) ∧
  (∀ k0_t4 : Fin (k0_t4_loop v34).trips, ∀ (k0_h3 : k0_cond3 v34 = 1#1), ∀ a, (k0_off15 v34 k0_t4) a + S1x16.size a ≤ S128x128.size a) ∧
  (∀ k0_t4 : Fin (k0_t4_loop v34).trips, ∀ (k0_h3 : k0_cond3 v34 = 1#1), ∀ a, (k0_off16 v34 k0_t4) a + S1x16.size a ≤ S128x128.size a) ∧
  (∀ k0_t4 : Fin (k0_t4_loop v34).trips, ∀ (k0_h3 : k0_cond3 v34 = 1#1), ∀ a, (k0_off17 v34 k0_t4) a + S1x16.size a ≤ S128x128.size a) ∧
  (∀ k0_t4 : Fin (k0_t4_loop v34).trips, ∀ (k0_h3 : k0_cond3 v34 = 1#1), ∀ a, (k0_off18 v34 k0_t4) a + S1x16.size a ≤ S128x128.size a) ∧
  (∀ k0_t4 : Fin (k0_t4_loop v34).trips, ∀ (k0_h3 : k0_cond3 v34 = 1#1), ∀ a, (k0_off19 v34 k0_t4) a + S1x16.size a ≤ S128x128.size a) ∧
  (∀ (k0_h5 : k0_cond5 v34 = 1#1), (k0_t5_loop v34).OK) ∧
  (∀ k0_t5 : Fin (k0_t5_loop v34).trips, ∀ (k0_h5 : k0_cond5 v34 = 1#1), ∀ a, (k0_off20 v34 k0_t5) a + S1x16.size a ≤ S128x128.size a) ∧
  (∀ k0_t5 : Fin (k0_t5_loop v34).trips, ∀ (k0_h5 : k0_cond5 v34 = 1#1), ∀ a, (k0_off21 v34 k0_t5) a + S1x16.size a ≤ S128x128.size a) ∧
  (∀ k0_t5 : Fin (k0_t5_loop v34).trips, ∀ (k0_h5 : k0_cond5 v34 = 1#1), ∀ a, (k0_off22 v34 k0_t5) a + S1x16.size a ≤ S128x128.size a) ∧
  (∀ k0_t5 : Fin (k0_t5_loop v34).trips, ∀ (k0_h5 : k0_cond5 v34 = 1#1), ∀ a, (k0_off23 v34 k0_t5) a + S1x16.size a ≤ S128x128.size a) ∧
  (∀ k0_t5 : Fin (k0_t5_loop v34).trips, ∀ (k0_h5 : k0_cond5 v34 = 1#1), ∀ a, (k0_off24 v34 k0_t5) a + S1x16.size a ≤ S128x128.size a) ∧
  (∀ k0_t5 : Fin (k0_t5_loop v34).trips, ∀ (k0_h5 : k0_cond5 v34 = 1#1), ∀ a, (k0_off25 v34 k0_t5) a + S1x16.size a ≤ S128x128.size a) ∧
  (∀ k0_t5 : Fin (k0_t5_loop v34).trips, ∀ (k0_h5 : k0_cond5 v34 = 1#1), ∀ a, (k0_off26 v34 k0_t5) a + S1x16.size a ≤ S128x128.size a) ∧
  (∀ k0_t5 : Fin (k0_t5_loop v34).trips, ∀ (k0_h5 : k0_cond5 v34 = 1#1), ∀ a, (k0_off27 v34 k0_t5) a + S1x16.size a ≤ S128x128.size a) ∧
  (∀ (k0_h5 : k0_cond5 v34 = 1#1), (k0_t6_loop v34).OK) ∧
  (∀ k0_t6 : Fin (k0_t6_loop v34).trips, ∀ (k0_h5 : k0_cond5 v34 = 1#1), ∀ a, (k0_off28 v34 k0_t6) a + S1x16.size a ≤ S128x128.size a) ∧
  (∀ k0_t6 : Fin (k0_t6_loop v34).trips, ∀ (k0_h5 : k0_cond5 v34 = 1#1), ∀ a, (k0_off29 v34 k0_t6) a + S1x16.size a ≤ S128x128.size a) ∧
  (∀ k0_t6 : Fin (k0_t6_loop v34).trips, ∀ (k0_h5 : k0_cond5 v34 = 1#1), ∀ a, (k0_off30 v34 k0_t6) a + S1x16.size a ≤ S128x128.size a) ∧
  (∀ k0_t6 : Fin (k0_t6_loop v34).trips, ∀ (k0_h5 : k0_cond5 v34 = 1#1), ∀ a, (k0_off31 v34 k0_t6) a + S1x16.size a ≤ S128x128.size a)
def k0_chk2_1 (v34 : BitVec 32) : Prop :=
  (∀ k0_t6 : Fin (k0_t6_loop v34).trips, ∀ (k0_h5 : k0_cond5 v34 = 1#1), ∀ a, (k0_off32 v34 k0_t6) a + S1x16.size a ≤ S128x128.size a) ∧
  (∀ k0_t6 : Fin (k0_t6_loop v34).trips, ∀ (k0_h5 : k0_cond5 v34 = 1#1), ∀ a, (k0_off33 v34 k0_t6) a + S1x16.size a ≤ S128x128.size a) ∧
  (∀ k0_t6 : Fin (k0_t6_loop v34).trips, ∀ (k0_h5 : k0_cond5 v34 = 1#1), ∀ a, (k0_off34 v34 k0_t6) a + S1x16.size a ≤ S128x128.size a) ∧
  (∀ k0_t6 : Fin (k0_t6_loop v34).trips, ∀ (k0_h5 : k0_cond5 v34 = 1#1), ∀ a, (k0_off35 v34 k0_t6) a + S1x16.size a ≤ S128x128.size a) ∧
  (∀ (k0_h7 : k0_cond7 v34 = 1#1), (k0_t7_loop v34).OK) ∧
  (∀ k0_t7 : Fin (k0_t7_loop v34).trips, ∀ (k0_h7 : k0_cond7 v34 = 1#1), ∀ a, (k0_off36 v34 k0_t7) a + S1x16.size a ≤ S128x128.size a) ∧
  (∀ k0_t7 : Fin (k0_t7_loop v34).trips, ∀ (k0_h7 : k0_cond7 v34 = 1#1), ∀ a, (k0_off37 v34 k0_t7) a + S1x16.size a ≤ S128x128.size a) ∧
  (∀ k0_t7 : Fin (k0_t7_loop v34).trips, ∀ (k0_h7 : k0_cond7 v34 = 1#1), ∀ a, (k0_off38 v34 k0_t7) a + S1x16.size a ≤ S128x128.size a) ∧
  (∀ k0_t7 : Fin (k0_t7_loop v34).trips, ∀ (k0_h7 : k0_cond7 v34 = 1#1), ∀ a, (k0_off39 v34 k0_t7) a + S1x16.size a ≤ S128x128.size a) ∧
  (∀ k0_t7 : Fin (k0_t7_loop v34).trips, ∀ (k0_h7 : k0_cond7 v34 = 1#1), ∀ a, (k0_off40 v34 k0_t7) a + S1x16.size a ≤ S128x128.size a) ∧
  (∀ k0_t7 : Fin (k0_t7_loop v34).trips, ∀ (k0_h7 : k0_cond7 v34 = 1#1), ∀ a, (k0_off41 v34 k0_t7) a + S1x16.size a ≤ S128x128.size a) ∧
  (∀ k0_t7 : Fin (k0_t7_loop v34).trips, ∀ (k0_h7 : k0_cond7 v34 = 1#1), ∀ a, (k0_off42 v34 k0_t7) a + S1x16.size a ≤ S128x128.size a) ∧
  (∀ k0_t7 : Fin (k0_t7_loop v34).trips, ∀ (k0_h7 : k0_cond7 v34 = 1#1), ∀ a, (k0_off43 v34 k0_t7) a + S1x16.size a ≤ S128x128.size a) ∧
  (∀ (k0_h7 : k0_cond7 v34 = 1#1), (k0_t8_loop v34).OK) ∧
  (∀ k0_t8 : Fin (k0_t8_loop v34).trips, ∀ (k0_h7 : k0_cond7 v34 = 1#1), ∀ a, (k0_off44 v34 k0_t8) a + S1x16.size a ≤ S128x128.size a) ∧
  (∀ k0_t8 : Fin (k0_t8_loop v34).trips, ∀ (k0_h7 : k0_cond7 v34 = 1#1), ∀ a, (k0_off45 v34 k0_t8) a + S1x16.size a ≤ S128x128.size a) ∧
  (∀ k0_t8 : Fin (k0_t8_loop v34).trips, ∀ (k0_h7 : k0_cond7 v34 = 1#1), ∀ a, (k0_off46 v34 k0_t8) a + S1x16.size a ≤ S128x128.size a) ∧
  (∀ k0_t8 : Fin (k0_t8_loop v34).trips, ∀ (k0_h7 : k0_cond7 v34 = 1#1), ∀ a, (k0_off47 v34 k0_t8) a + S1x16.size a ≤ S128x128.size a) ∧
  (∀ k0_t8 : Fin (k0_t8_loop v34).trips, ∀ (k0_h7 : k0_cond7 v34 = 1#1), ∀ a, (k0_off48 v34 k0_t8) a + S1x16.size a ≤ S128x128.size a) ∧
  (∀ k0_t8 : Fin (k0_t8_loop v34).trips, ∀ (k0_h7 : k0_cond7 v34 = 1#1), ∀ a, (k0_off49 v34 k0_t8) a + S1x16.size a ≤ S128x128.size a) ∧
  (∀ k0_t8 : Fin (k0_t8_loop v34).trips, ∀ (k0_h7 : k0_cond7 v34 = 1#1), ∀ a, (k0_off50 v34 k0_t8) a + S1x16.size a ≤ S128x128.size a) ∧
  (∀ k0_t8 : Fin (k0_t8_loop v34).trips, ∀ (k0_h7 : k0_cond7 v34 = 1#1), ∀ a, (k0_off51 v34 k0_t8) a + S1x16.size a ≤ S128x128.size a) ∧
  (∀ (k0_h9 : k0_cond9 v34 = 1#1), (k0_t9_loop v34).OK) ∧
  (∀ k0_t9 : Fin (k0_t9_loop v34).trips, ∀ (k0_h9 : k0_cond9 v34 = 1#1), ∀ a, (k0_off52 v34 k0_t9) a + S1x16.size a ≤ S128x128.size a) ∧
  (∀ k0_t9 : Fin (k0_t9_loop v34).trips, ∀ (k0_h9 : k0_cond9 v34 = 1#1), ∀ a, (k0_off53 v34 k0_t9) a + S1x16.size a ≤ S128x128.size a) ∧
  (∀ k0_t9 : Fin (k0_t9_loop v34).trips, ∀ (k0_h9 : k0_cond9 v34 = 1#1), ∀ a, (k0_off54 v34 k0_t9) a + S1x16.size a ≤ S128x128.size a) ∧
  (∀ k0_t9 : Fin (k0_t9_loop v34).trips, ∀ (k0_h9 : k0_cond9 v34 = 1#1), ∀ a, (k0_off55 v34 k0_t9) a + S1x16.size a ≤ S128x128.size a) ∧
  (∀ k0_t9 : Fin (k0_t9_loop v34).trips, ∀ (k0_h9 : k0_cond9 v34 = 1#1), ∀ a, (k0_off56 v34 k0_t9) a + S1x16.size a ≤ S128x128.size a) ∧
  (∀ k0_t9 : Fin (k0_t9_loop v34).trips, ∀ (k0_h9 : k0_cond9 v34 = 1#1), ∀ a, (k0_off57 v34 k0_t9) a + S1x16.size a ≤ S128x128.size a) ∧
  (∀ k0_t9 : Fin (k0_t9_loop v34).trips, ∀ (k0_h9 : k0_cond9 v34 = 1#1), ∀ a, (k0_off58 v34 k0_t9) a + S1x16.size a ≤ S128x128.size a) ∧
  (∀ k0_t9 : Fin (k0_t9_loop v34).trips, ∀ (k0_h9 : k0_cond9 v34 = 1#1), ∀ a, (k0_off59 v34 k0_t9) a + S1x16.size a ≤ S128x128.size a) ∧
  (∀ (k0_h9 : k0_cond9 v34 = 1#1), (k0_t10_loop v34).OK)
def k0_chk2_2 (v34 : BitVec 32) : Prop :=
  (∀ k0_t10 : Fin (k0_t10_loop v34).trips, ∀ (k0_h9 : k0_cond9 v34 = 1#1), ∀ a, (k0_off60 v34 k0_t10) a + S1x16.size a ≤ S128x128.size a) ∧
  (∀ k0_t10 : Fin (k0_t10_loop v34).trips, ∀ (k0_h9 : k0_cond9 v34 = 1#1), ∀ a, (k0_off61 v34 k0_t10) a + S1x16.size a ≤ S128x128.size a) ∧
  (∀ k0_t10 : Fin (k0_t10_loop v34).trips, ∀ (k0_h9 : k0_cond9 v34 = 1#1), ∀ a, (k0_off62 v34 k0_t10) a + S1x16.size a ≤ S128x128.size a) ∧
  (∀ k0_t10 : Fin (k0_t10_loop v34).trips, ∀ (k0_h9 : k0_cond9 v34 = 1#1), ∀ a, (k0_off63 v34 k0_t10) a + S1x16.size a ≤ S128x128.size a) ∧
  (∀ k0_t10 : Fin (k0_t10_loop v34).trips, ∀ (k0_h9 : k0_cond9 v34 = 1#1), ∀ a, (k0_off64 v34 k0_t10) a + S1x16.size a ≤ S128x128.size a) ∧
  (∀ k0_t10 : Fin (k0_t10_loop v34).trips, ∀ (k0_h9 : k0_cond9 v34 = 1#1), ∀ a, (k0_off65 v34 k0_t10) a + S1x16.size a ≤ S128x128.size a) ∧
  (∀ k0_t10 : Fin (k0_t10_loop v34).trips, ∀ (k0_h9 : k0_cond9 v34 = 1#1), ∀ a, (k0_off66 v34 k0_t10) a + S1x16.size a ≤ S128x128.size a) ∧
  (∀ k0_t10 : Fin (k0_t10_loop v34).trips, ∀ (k0_h9 : k0_cond9 v34 = 1#1), ∀ a, (k0_off67 v34 k0_t10) a + S1x16.size a ≤ S128x128.size a) ∧
  (∀ (k0_h11 : k0_cond11 v34 = 1#1), (k0_t11_loop v34).OK) ∧
  (∀ k0_t11 : Fin (k0_t11_loop v34).trips, ∀ (k0_h11 : k0_cond11 v34 = 1#1), ∀ a, (k0_off68 v34 k0_t11) a + S1x16.size a ≤ S128x128.size a) ∧
  (∀ k0_t11 : Fin (k0_t11_loop v34).trips, ∀ (k0_h11 : k0_cond11 v34 = 1#1), ∀ a, (k0_off69 v34 k0_t11) a + S1x16.size a ≤ S128x128.size a) ∧
  (∀ k0_t11 : Fin (k0_t11_loop v34).trips, ∀ (k0_h11 : k0_cond11 v34 = 1#1), ∀ a, (k0_off70 v34 k0_t11) a + S1x16.size a ≤ S128x128.size a) ∧
  (∀ k0_t11 : Fin (k0_t11_loop v34).trips, ∀ (k0_h11 : k0_cond11 v34 = 1#1), ∀ a, (k0_off71 v34 k0_t11) a + S1x16.size a ≤ S128x128.size a) ∧
  (∀ k0_t11 : Fin (k0_t11_loop v34).trips, ∀ (k0_h11 : k0_cond11 v34 = 1#1), ∀ a, (k0_off72 v34 k0_t11) a + S1x16.size a ≤ S128x128.size a) ∧
  (∀ k0_t11 : Fin (k0_t11_loop v34).trips, ∀ (k0_h11 : k0_cond11 v34 = 1#1), ∀ a, (k0_off73 v34 k0_t11) a + S1x16.size a ≤ S128x128.size a) ∧
  (∀ k0_t11 : Fin (k0_t11_loop v34).trips, ∀ (k0_h11 : k0_cond11 v34 = 1#1), ∀ a, (k0_off74 v34 k0_t11) a + S1x16.size a ≤ S128x128.size a) ∧
  (∀ k0_t11 : Fin (k0_t11_loop v34).trips, ∀ (k0_h11 : k0_cond11 v34 = 1#1), ∀ a, (k0_off75 v34 k0_t11) a + S1x16.size a ≤ S128x128.size a) ∧
  (∀ (k0_h11 : k0_cond11 v34 = 1#1), (k0_t12_loop v34).OK) ∧
  (∀ k0_t12 : Fin (k0_t12_loop v34).trips, ∀ (k0_h11 : k0_cond11 v34 = 1#1), ∀ a, (k0_off76 v34 k0_t12) a + S1x16.size a ≤ S128x128.size a) ∧
  (∀ k0_t12 : Fin (k0_t12_loop v34).trips, ∀ (k0_h11 : k0_cond11 v34 = 1#1), ∀ a, (k0_off77 v34 k0_t12) a + S1x16.size a ≤ S128x128.size a) ∧
  (∀ k0_t12 : Fin (k0_t12_loop v34).trips, ∀ (k0_h11 : k0_cond11 v34 = 1#1), ∀ a, (k0_off78 v34 k0_t12) a + S1x16.size a ≤ S128x128.size a) ∧
  (∀ k0_t12 : Fin (k0_t12_loop v34).trips, ∀ (k0_h11 : k0_cond11 v34 = 1#1), ∀ a, (k0_off79 v34 k0_t12) a + S1x16.size a ≤ S128x128.size a) ∧
  (∀ k0_t12 : Fin (k0_t12_loop v34).trips, ∀ (k0_h11 : k0_cond11 v34 = 1#1), ∀ a, (k0_off80 v34 k0_t12) a + S1x16.size a ≤ S128x128.size a) ∧
  (∀ k0_t12 : Fin (k0_t12_loop v34).trips, ∀ (k0_h11 : k0_cond11 v34 = 1#1), ∀ a, (k0_off81 v34 k0_t12) a + S1x16.size a ≤ S128x128.size a) ∧
  (∀ k0_t12 : Fin (k0_t12_loop v34).trips, ∀ (k0_h11 : k0_cond11 v34 = 1#1), ∀ a, (k0_off82 v34 k0_t12) a + S1x16.size a ≤ S128x128.size a) ∧
  (∀ k0_t12 : Fin (k0_t12_loop v34).trips, ∀ (k0_h11 : k0_cond11 v34 = 1#1), ∀ a, (k0_off83 v34 k0_t12) a + S1x16.size a ≤ S128x128.size a) ∧
  (∀ (k0_h13 : k0_cond13 v34 = 1#1), (k0_t13_loop v34).OK) ∧
  (∀ k0_t13 : Fin (k0_t13_loop v34).trips, ∀ (k0_h13 : k0_cond13 v34 = 1#1), ∀ a, (k0_off84 v34 k0_t13) a + S1x16.size a ≤ S128x128.size a) ∧
  (∀ k0_t13 : Fin (k0_t13_loop v34).trips, ∀ (k0_h13 : k0_cond13 v34 = 1#1), ∀ a, (k0_off85 v34 k0_t13) a + S1x16.size a ≤ S128x128.size a) ∧
  (∀ k0_t13 : Fin (k0_t13_loop v34).trips, ∀ (k0_h13 : k0_cond13 v34 = 1#1), ∀ a, (k0_off86 v34 k0_t13) a + S1x16.size a ≤ S128x128.size a) ∧
  (∀ k0_t13 : Fin (k0_t13_loop v34).trips, ∀ (k0_h13 : k0_cond13 v34 = 1#1), ∀ a, (k0_off87 v34 k0_t13) a + S1x16.size a ≤ S128x128.size a) ∧
  (∀ k0_t13 : Fin (k0_t13_loop v34).trips, ∀ (k0_h13 : k0_cond13 v34 = 1#1), ∀ a, (k0_off88 v34 k0_t13) a + S1x16.size a ≤ S128x128.size a)
def k0_chk2_3 (v34 : BitVec 32) : Prop :=
  (∀ k0_t13 : Fin (k0_t13_loop v34).trips, ∀ (k0_h13 : k0_cond13 v34 = 1#1), ∀ a, (k0_off89 v34 k0_t13) a + S1x16.size a ≤ S128x128.size a) ∧
  (∀ k0_t13 : Fin (k0_t13_loop v34).trips, ∀ (k0_h13 : k0_cond13 v34 = 1#1), ∀ a, (k0_off90 v34 k0_t13) a + S1x16.size a ≤ S128x128.size a) ∧
  (∀ k0_t13 : Fin (k0_t13_loop v34).trips, ∀ (k0_h13 : k0_cond13 v34 = 1#1), ∀ a, (k0_off91 v34 k0_t13) a + S1x16.size a ≤ S128x128.size a) ∧
  (∀ (k0_h13 : k0_cond13 v34 = 1#1), (k0_t14_loop v34).OK) ∧
  (∀ k0_t14 : Fin (k0_t14_loop v34).trips, ∀ (k0_h13 : k0_cond13 v34 = 1#1), ∀ a, (k0_off92 v34 k0_t14) a + S1x16.size a ≤ S128x128.size a) ∧
  (∀ k0_t14 : Fin (k0_t14_loop v34).trips, ∀ (k0_h13 : k0_cond13 v34 = 1#1), ∀ a, (k0_off93 v34 k0_t14) a + S1x16.size a ≤ S128x128.size a) ∧
  (∀ k0_t14 : Fin (k0_t14_loop v34).trips, ∀ (k0_h13 : k0_cond13 v34 = 1#1), ∀ a, (k0_off94 v34 k0_t14) a + S1x16.size a ≤ S128x128.size a) ∧
  (∀ k0_t14 : Fin (k0_t14_loop v34).trips, ∀ (k0_h13 : k0_cond13 v34 = 1#1), ∀ a, (k0_off95 v34 k0_t14) a + S1x16.size a ≤ S128x128.size a) ∧
  (∀ k0_t14 : Fin (k0_t14_loop v34).trips, ∀ (k0_h13 : k0_cond13 v34 = 1#1), ∀ a, (k0_off96 v34 k0_t14) a + S1x16.size a ≤ S128x128.size a) ∧
  (∀ k0_t14 : Fin (k0_t14_loop v34).trips, ∀ (k0_h13 : k0_cond13 v34 = 1#1), ∀ a, (k0_off97 v34 k0_t14) a + S1x16.size a ≤ S128x128.size a) ∧
  (∀ k0_t14 : Fin (k0_t14_loop v34).trips, ∀ (k0_h13 : k0_cond13 v34 = 1#1), ∀ a, (k0_off98 v34 k0_t14) a + S1x16.size a ≤ S128x128.size a) ∧
  (∀ k0_t14 : Fin (k0_t14_loop v34).trips, ∀ (k0_h13 : k0_cond13 v34 = 1#1), ∀ a, (k0_off99 v34 k0_t14) a + S1x16.size a ≤ S128x128.size a) ∧
  (∀ (k0_h15 : k0_cond15 v34 = 1#1), (k0_t15_loop v34).OK) ∧
  (∀ k0_t15 : Fin (k0_t15_loop v34).trips, ∀ (k0_h15 : k0_cond15 v34 = 1#1), ∀ a, (k0_off100 v34 k0_t15) a + S1x16.size a ≤ S128x128.size a) ∧
  (∀ k0_t15 : Fin (k0_t15_loop v34).trips, ∀ (k0_h15 : k0_cond15 v34 = 1#1), ∀ a, (k0_off101 v34 k0_t15) a + S1x16.size a ≤ S128x128.size a) ∧
  (∀ k0_t15 : Fin (k0_t15_loop v34).trips, ∀ (k0_h15 : k0_cond15 v34 = 1#1), ∀ a, (k0_off102 v34 k0_t15) a + S1x16.size a ≤ S128x128.size a) ∧
  (∀ k0_t15 : Fin (k0_t15_loop v34).trips, ∀ (k0_h15 : k0_cond15 v34 = 1#1), ∀ a, (k0_off103 v34 k0_t15) a + S1x16.size a ≤ S128x128.size a) ∧
  (∀ k0_t15 : Fin (k0_t15_loop v34).trips, ∀ (k0_h15 : k0_cond15 v34 = 1#1), ∀ a, (k0_off104 v34 k0_t15) a + S1x16.size a ≤ S128x128.size a) ∧
  (∀ k0_t15 : Fin (k0_t15_loop v34).trips, ∀ (k0_h15 : k0_cond15 v34 = 1#1), ∀ a, (k0_off105 v34 k0_t15) a + S1x16.size a ≤ S128x128.size a) ∧
  (∀ k0_t15 : Fin (k0_t15_loop v34).trips, ∀ (k0_h15 : k0_cond15 v34 = 1#1), ∀ a, (k0_off106 v34 k0_t15) a + S1x16.size a ≤ S128x128.size a) ∧
  (∀ k0_t15 : Fin (k0_t15_loop v34).trips, ∀ (k0_h15 : k0_cond15 v34 = 1#1), ∀ a, (k0_off107 v34 k0_t15) a + S1x16.size a ≤ S128x128.size a) ∧
  (∀ (k0_h15 : k0_cond15 v34 = 1#1), (k0_t16_loop v34).OK) ∧
  (∀ k0_t16 : Fin (k0_t16_loop v34).trips, ∀ (k0_h15 : k0_cond15 v34 = 1#1), ∀ a, (k0_off108 v34 k0_t16) a + S1x16.size a ≤ S128x128.size a) ∧
  (∀ k0_t16 : Fin (k0_t16_loop v34).trips, ∀ (k0_h15 : k0_cond15 v34 = 1#1), ∀ a, (k0_off109 v34 k0_t16) a + S1x16.size a ≤ S128x128.size a) ∧
  (∀ k0_t16 : Fin (k0_t16_loop v34).trips, ∀ (k0_h15 : k0_cond15 v34 = 1#1), ∀ a, (k0_off110 v34 k0_t16) a + S1x16.size a ≤ S128x128.size a) ∧
  (∀ k0_t16 : Fin (k0_t16_loop v34).trips, ∀ (k0_h15 : k0_cond15 v34 = 1#1), ∀ a, (k0_off111 v34 k0_t16) a + S1x16.size a ≤ S128x128.size a) ∧
  (∀ k0_t16 : Fin (k0_t16_loop v34).trips, ∀ (k0_h15 : k0_cond15 v34 = 1#1), ∀ a, (k0_off112 v34 k0_t16) a + S1x16.size a ≤ S128x128.size a) ∧
  (∀ k0_t16 : Fin (k0_t16_loop v34).trips, ∀ (k0_h15 : k0_cond15 v34 = 1#1), ∀ a, (k0_off113 v34 k0_t16) a + S1x16.size a ≤ S128x128.size a) ∧
  (∀ k0_t16 : Fin (k0_t16_loop v34).trips, ∀ (k0_h15 : k0_cond15 v34 = 1#1), ∀ a, (k0_off114 v34 k0_t16) a + S1x16.size a ≤ S128x128.size a) ∧
  (∀ k0_t16 : Fin (k0_t16_loop v34).trips, ∀ (k0_h15 : k0_cond15 v34 = 1#1), ∀ a, (k0_off115 v34 k0_t16) a + S1x16.size a ≤ S128x128.size a) ∧
  (∀ (k0_h17 : k0_cond17 v34 = 1#1), (k0_t17_loop v34).OK) ∧
  (∀ k0_t17 : Fin (k0_t17_loop v34).trips, ∀ (k0_h17 : k0_cond17 v34 = 1#1), ∀ a, (k0_off116 v34 k0_t17) a + S1x16.size a ≤ S128x128.size a)
def k0_chk2_4 (v34 : BitVec 32) : Prop :=
  (∀ k0_t17 : Fin (k0_t17_loop v34).trips, ∀ (k0_h17 : k0_cond17 v34 = 1#1), ∀ a, (k0_off117 v34 k0_t17) a + S1x16.size a ≤ S128x128.size a) ∧
  (∀ k0_t17 : Fin (k0_t17_loop v34).trips, ∀ (k0_h17 : k0_cond17 v34 = 1#1), ∀ a, (k0_off118 v34 k0_t17) a + S1x16.size a ≤ S128x128.size a) ∧
  (∀ k0_t17 : Fin (k0_t17_loop v34).trips, ∀ (k0_h17 : k0_cond17 v34 = 1#1), ∀ a, (k0_off119 v34 k0_t17) a + S1x16.size a ≤ S128x128.size a) ∧
  (∀ k0_t17 : Fin (k0_t17_loop v34).trips, ∀ (k0_h17 : k0_cond17 v34 = 1#1), ∀ a, (k0_off120 v34 k0_t17) a + S1x16.size a ≤ S128x128.size a) ∧
  (∀ k0_t17 : Fin (k0_t17_loop v34).trips, ∀ (k0_h17 : k0_cond17 v34 = 1#1), ∀ a, (k0_off121 v34 k0_t17) a + S1x16.size a ≤ S128x128.size a) ∧
  (∀ k0_t17 : Fin (k0_t17_loop v34).trips, ∀ (k0_h17 : k0_cond17 v34 = 1#1), ∀ a, (k0_off122 v34 k0_t17) a + S1x16.size a ≤ S128x128.size a) ∧
  (∀ k0_t17 : Fin (k0_t17_loop v34).trips, ∀ (k0_h17 : k0_cond17 v34 = 1#1), ∀ a, (k0_off123 v34 k0_t17) a + S1x16.size a ≤ S128x128.size a) ∧
  (∀ (k0_h17 : k0_cond17 v34 = 1#1), (k0_t18_loop v34).OK) ∧
  (∀ k0_t18 : Fin (k0_t18_loop v34).trips, ∀ (k0_h17 : k0_cond17 v34 = 1#1), ∀ a, (k0_off124 v34 k0_t18) a + S1x16.size a ≤ S128x128.size a) ∧
  (∀ k0_t18 : Fin (k0_t18_loop v34).trips, ∀ (k0_h17 : k0_cond17 v34 = 1#1), ∀ a, (k0_off125 v34 k0_t18) a + S1x16.size a ≤ S128x128.size a) ∧
  (∀ k0_t18 : Fin (k0_t18_loop v34).trips, ∀ (k0_h17 : k0_cond17 v34 = 1#1), ∀ a, (k0_off126 v34 k0_t18) a + S1x16.size a ≤ S128x128.size a) ∧
  (∀ k0_t18 : Fin (k0_t18_loop v34).trips, ∀ (k0_h17 : k0_cond17 v34 = 1#1), ∀ a, (k0_off127 v34 k0_t18) a + S1x16.size a ≤ S128x128.size a) ∧
  (∀ k0_t18 : Fin (k0_t18_loop v34).trips, ∀ (k0_h17 : k0_cond17 v34 = 1#1), ∀ a, (k0_off128 v34 k0_t18) a + S1x16.size a ≤ S128x128.size a) ∧
  (∀ k0_t18 : Fin (k0_t18_loop v34).trips, ∀ (k0_h17 : k0_cond17 v34 = 1#1), ∀ a, (k0_off129 v34 k0_t18) a + S1x16.size a ≤ S128x128.size a) ∧
  (∀ k0_t18 : Fin (k0_t18_loop v34).trips, ∀ (k0_h17 : k0_cond17 v34 = 1#1), ∀ a, (k0_off130 v34 k0_t18) a + S1x16.size a ≤ S128x128.size a) ∧
  (∀ k0_t18 : Fin (k0_t18_loop v34).trips, ∀ (k0_h17 : k0_cond17 v34 = 1#1), ∀ a, (k0_off131 v34 k0_t18) a + S1x16.size a ≤ S128x128.size a) ∧
  (∀ (k0_h19 : k0_cond19 v34 = 1#1), (k0_t19_loop v34).OK) ∧
  (∀ k0_t19 : Fin (k0_t19_loop v34).trips, ∀ (k0_h19 : k0_cond19 v34 = 1#1), ∀ a, (k0_off132 v34 k0_t19) a + S1x16.size a ≤ S128x128.size a) ∧
  (∀ k0_t19 : Fin (k0_t19_loop v34).trips, ∀ (k0_h19 : k0_cond19 v34 = 1#1), ∀ a, (k0_off133 v34 k0_t19) a + S1x16.size a ≤ S128x128.size a) ∧
  (∀ k0_t19 : Fin (k0_t19_loop v34).trips, ∀ (k0_h19 : k0_cond19 v34 = 1#1), ∀ a, (k0_off134 v34 k0_t19) a + S1x16.size a ≤ S128x128.size a) ∧
  (∀ k0_t19 : Fin (k0_t19_loop v34).trips, ∀ (k0_h19 : k0_cond19 v34 = 1#1), ∀ a, (k0_off135 v34 k0_t19) a + S1x16.size a ≤ S128x128.size a) ∧
  (∀ k0_t19 : Fin (k0_t19_loop v34).trips, ∀ (k0_h19 : k0_cond19 v34 = 1#1), ∀ a, (k0_off136 v34 k0_t19) a + S1x16.size a ≤ S128x128.size a) ∧
  (∀ k0_t19 : Fin (k0_t19_loop v34).trips, ∀ (k0_h19 : k0_cond19 v34 = 1#1), ∀ a, (k0_off137 v34 k0_t19) a + S1x16.size a ≤ S128x128.size a) ∧
  (∀ k0_t19 : Fin (k0_t19_loop v34).trips, ∀ (k0_h19 : k0_cond19 v34 = 1#1), ∀ a, (k0_off138 v34 k0_t19) a + S1x16.size a ≤ S128x128.size a) ∧
  (∀ k0_t19 : Fin (k0_t19_loop v34).trips, ∀ (k0_h19 : k0_cond19 v34 = 1#1), ∀ a, (k0_off139 v34 k0_t19) a + S1x16.size a ≤ S128x128.size a) ∧
  (∀ (k0_h19 : k0_cond19 v34 = 1#1), (k0_t20_loop v34).OK) ∧
  (∀ k0_t20 : Fin (k0_t20_loop v34).trips, ∀ (k0_h19 : k0_cond19 v34 = 1#1), ∀ a, (k0_off140 v34 k0_t20) a + S1x16.size a ≤ S128x128.size a) ∧
  (∀ k0_t20 : Fin (k0_t20_loop v34).trips, ∀ (k0_h19 : k0_cond19 v34 = 1#1), ∀ a, (k0_off141 v34 k0_t20) a + S1x16.size a ≤ S128x128.size a) ∧
  (∀ k0_t20 : Fin (k0_t20_loop v34).trips, ∀ (k0_h19 : k0_cond19 v34 = 1#1), ∀ a, (k0_off142 v34 k0_t20) a + S1x16.size a ≤ S128x128.size a) ∧
  (∀ k0_t20 : Fin (k0_t20_loop v34).trips, ∀ (k0_h19 : k0_cond19 v34 = 1#1), ∀ a, (k0_off143 v34 k0_t20) a + S1x16.size a ≤ S128x128.size a) ∧
  (∀ k0_t20 : Fin (k0_t20_loop v34).trips, ∀ (k0_h19 : k0_cond19 v34 = 1#1), ∀ a, (k0_off144 v34 k0_t20) a + S1x16.size a ≤ S128x128.size a) ∧
  (∀ k0_t20 : Fin (k0_t20_loop v34).trips, ∀ (k0_h19 : k0_cond19 v34 = 1#1), ∀ a, (k0_off145 v34 k0_t20) a + S1x16.size a ≤ S128x128.size a)
def k0_chk2_5 (v34 : BitVec 32) : Prop :=
  (∀ k0_t20 : Fin (k0_t20_loop v34).trips, ∀ (k0_h19 : k0_cond19 v34 = 1#1), ∀ a, (k0_off146 v34 k0_t20) a + S1x16.size a ≤ S128x128.size a) ∧
  (∀ k0_t20 : Fin (k0_t20_loop v34).trips, ∀ (k0_h19 : k0_cond19 v34 = 1#1), ∀ a, (k0_off147 v34 k0_t20) a + S1x16.size a ≤ S128x128.size a) ∧
  (∀ (k0_h21 : k0_cond21 v34 = 1#1), (k0_t21_loop v34).OK) ∧
  (∀ k0_t21 : Fin (k0_t21_loop v34).trips, ∀ (k0_h21 : k0_cond21 v34 = 1#1), ∀ a, (k0_off148 v34 k0_t21) a + S1x16.size a ≤ S128x128.size a) ∧
  (∀ k0_t21 : Fin (k0_t21_loop v34).trips, ∀ (k0_h21 : k0_cond21 v34 = 1#1), ∀ a, (k0_off149 v34 k0_t21) a + S1x16.size a ≤ S128x128.size a) ∧
  (∀ k0_t21 : Fin (k0_t21_loop v34).trips, ∀ (k0_h21 : k0_cond21 v34 = 1#1), ∀ a, (k0_off150 v34 k0_t21) a + S1x16.size a ≤ S128x128.size a) ∧
  (∀ k0_t21 : Fin (k0_t21_loop v34).trips, ∀ (k0_h21 : k0_cond21 v34 = 1#1), ∀ a, (k0_off151 v34 k0_t21) a + S1x16.size a ≤ S128x128.size a) ∧
  (∀ k0_t21 : Fin (k0_t21_loop v34).trips, ∀ (k0_h21 : k0_cond21 v34 = 1#1), ∀ a, (k0_off152 v34 k0_t21) a + S1x16.size a ≤ S128x128.size a) ∧
  (∀ k0_t21 : Fin (k0_t21_loop v34).trips, ∀ (k0_h21 : k0_cond21 v34 = 1#1), ∀ a, (k0_off153 v34 k0_t21) a + S1x16.size a ≤ S128x128.size a) ∧
  (∀ k0_t21 : Fin (k0_t21_loop v34).trips, ∀ (k0_h21 : k0_cond21 v34 = 1#1), ∀ a, (k0_off154 v34 k0_t21) a + S1x16.size a ≤ S128x128.size a) ∧
  (∀ k0_t21 : Fin (k0_t21_loop v34).trips, ∀ (k0_h21 : k0_cond21 v34 = 1#1), ∀ a, (k0_off155 v34 k0_t21) a + S1x16.size a ≤ S128x128.size a) ∧
  (∀ (k0_h21 : k0_cond21 v34 = 1#1), (k0_t22_loop v34).OK) ∧
  (∀ k0_t22 : Fin (k0_t22_loop v34).trips, ∀ (k0_h21 : k0_cond21 v34 = 1#1), ∀ a, (k0_off156 v34 k0_t22) a + S1x16.size a ≤ S128x128.size a) ∧
  (∀ k0_t22 : Fin (k0_t22_loop v34).trips, ∀ (k0_h21 : k0_cond21 v34 = 1#1), ∀ a, (k0_off157 v34 k0_t22) a + S1x16.size a ≤ S128x128.size a) ∧
  (∀ k0_t22 : Fin (k0_t22_loop v34).trips, ∀ (k0_h21 : k0_cond21 v34 = 1#1), ∀ a, (k0_off158 v34 k0_t22) a + S1x16.size a ≤ S128x128.size a) ∧
  (∀ k0_t22 : Fin (k0_t22_loop v34).trips, ∀ (k0_h21 : k0_cond21 v34 = 1#1), ∀ a, (k0_off159 v34 k0_t22) a + S1x16.size a ≤ S128x128.size a) ∧
  (∀ k0_t22 : Fin (k0_t22_loop v34).trips, ∀ (k0_h21 : k0_cond21 v34 = 1#1), ∀ a, (k0_off160 v34 k0_t22) a + S1x16.size a ≤ S128x128.size a) ∧
  (∀ k0_t22 : Fin (k0_t22_loop v34).trips, ∀ (k0_h21 : k0_cond21 v34 = 1#1), ∀ a, (k0_off161 v34 k0_t22) a + S1x16.size a ≤ S128x128.size a) ∧
  (∀ k0_t22 : Fin (k0_t22_loop v34).trips, ∀ (k0_h21 : k0_cond21 v34 = 1#1), ∀ a, (k0_off162 v34 k0_t22) a + S1x16.size a ≤ S128x128.size a) ∧
  (∀ k0_t22 : Fin (k0_t22_loop v34).trips, ∀ (k0_h21 : k0_cond21 v34 = 1#1), ∀ a, (k0_off163 v34 k0_t22) a + S1x16.size a ≤ S128x128.size a) ∧
  (∀ (k0_h23 : k0_cond23 v34 = 1#1), (k0_t23_loop v34).OK) ∧
  (∀ k0_t23 : Fin (k0_t23_loop v34).trips, ∀ (k0_h23 : k0_cond23 v34 = 1#1), ∀ a, (k0_off164 v34 k0_t23) a + S1x16.size a ≤ S128x128.size a) ∧
  (∀ k0_t23 : Fin (k0_t23_loop v34).trips, ∀ (k0_h23 : k0_cond23 v34 = 1#1), ∀ a, (k0_off165 v34 k0_t23) a + S1x16.size a ≤ S128x128.size a) ∧
  (∀ k0_t23 : Fin (k0_t23_loop v34).trips, ∀ (k0_h23 : k0_cond23 v34 = 1#1), ∀ a, (k0_off166 v34 k0_t23) a + S1x16.size a ≤ S128x128.size a) ∧
  (∀ k0_t23 : Fin (k0_t23_loop v34).trips, ∀ (k0_h23 : k0_cond23 v34 = 1#1), ∀ a, (k0_off167 v34 k0_t23) a + S1x16.size a ≤ S128x128.size a) ∧
  (∀ k0_t23 : Fin (k0_t23_loop v34).trips, ∀ (k0_h23 : k0_cond23 v34 = 1#1), ∀ a, (k0_off168 v34 k0_t23) a + S1x16.size a ≤ S128x128.size a) ∧
  (∀ k0_t23 : Fin (k0_t23_loop v34).trips, ∀ (k0_h23 : k0_cond23 v34 = 1#1), ∀ a, (k0_off169 v34 k0_t23) a + S1x16.size a ≤ S128x128.size a) ∧
  (∀ k0_t23 : Fin (k0_t23_loop v34).trips, ∀ (k0_h23 : k0_cond23 v34 = 1#1), ∀ a, (k0_off170 v34 k0_t23) a + S1x16.size a ≤ S128x128.size a) ∧
  (∀ k0_t23 : Fin (k0_t23_loop v34).trips, ∀ (k0_h23 : k0_cond23 v34 = 1#1), ∀ a, (k0_off171 v34 k0_t23) a + S1x16.size a ≤ S128x128.size a) ∧
  (∀ (k0_h23 : k0_cond23 v34 = 1#1), (k0_t24_loop v34).OK) ∧
  (∀ k0_t24 : Fin (k0_t24_loop v34).trips, ∀ (k0_h23 : k0_cond23 v34 = 1#1), ∀ a, (k0_off172 v34 k0_t24) a + S1x16.size a ≤ S128x128.size a) ∧
  (∀ k0_t24 : Fin (k0_t24_loop v34).trips, ∀ (k0_h23 : k0_cond23 v34 = 1#1), ∀ a, (k0_off173 v34 k0_t24) a + S1x16.size a ≤ S128x128.size a)
def k0_chk2_6 (v34 : BitVec 32) : Prop :=
  (∀ k0_t24 : Fin (k0_t24_loop v34).trips, ∀ (k0_h23 : k0_cond23 v34 = 1#1), ∀ a, (k0_off174 v34 k0_t24) a + S1x16.size a ≤ S128x128.size a) ∧
  (∀ k0_t24 : Fin (k0_t24_loop v34).trips, ∀ (k0_h23 : k0_cond23 v34 = 1#1), ∀ a, (k0_off175 v34 k0_t24) a + S1x16.size a ≤ S128x128.size a) ∧
  (∀ k0_t24 : Fin (k0_t24_loop v34).trips, ∀ (k0_h23 : k0_cond23 v34 = 1#1), ∀ a, (k0_off176 v34 k0_t24) a + S1x16.size a ≤ S128x128.size a) ∧
  (∀ k0_t24 : Fin (k0_t24_loop v34).trips, ∀ (k0_h23 : k0_cond23 v34 = 1#1), ∀ a, (k0_off177 v34 k0_t24) a + S1x16.size a ≤ S128x128.size a) ∧
  (∀ k0_t24 : Fin (k0_t24_loop v34).trips, ∀ (k0_h23 : k0_cond23 v34 = 1#1), ∀ a, (k0_off178 v34 k0_t24) a + S1x16.size a ≤ S128x128.size a) ∧
  (∀ k0_t24 : Fin (k0_t24_loop v34).trips, ∀ (k0_h23 : k0_cond23 v34 = 1#1), ∀ a, (k0_off179 v34 k0_t24) a + S1x16.size a ≤ S128x128.size a) ∧
  (∀ (k0_h25 : k0_cond25 v34 = 1#1), (k0_t25_loop v34).OK) ∧
  (∀ k0_t25 : Fin (k0_t25_loop v34).trips, ∀ (k0_h25 : k0_cond25 v34 = 1#1), ∀ a, (k0_off180 v34 k0_t25) a + S1x16.size a ≤ S128x128.size a) ∧
  (∀ k0_t25 : Fin (k0_t25_loop v34).trips, ∀ (k0_h25 : k0_cond25 v34 = 1#1), ∀ a, (k0_off181 v34 k0_t25) a + S1x16.size a ≤ S128x128.size a) ∧
  (∀ k0_t25 : Fin (k0_t25_loop v34).trips, ∀ (k0_h25 : k0_cond25 v34 = 1#1), ∀ a, (k0_off182 v34 k0_t25) a + S1x16.size a ≤ S128x128.size a) ∧
  (∀ k0_t25 : Fin (k0_t25_loop v34).trips, ∀ (k0_h25 : k0_cond25 v34 = 1#1), ∀ a, (k0_off183 v34 k0_t25) a + S1x16.size a ≤ S128x128.size a) ∧
  (∀ k0_t25 : Fin (k0_t25_loop v34).trips, ∀ (k0_h25 : k0_cond25 v34 = 1#1), ∀ a, (k0_off184 v34 k0_t25) a + S1x16.size a ≤ S128x128.size a) ∧
  (∀ k0_t25 : Fin (k0_t25_loop v34).trips, ∀ (k0_h25 : k0_cond25 v34 = 1#1), ∀ a, (k0_off185 v34 k0_t25) a + S1x16.size a ≤ S128x128.size a) ∧
  (∀ k0_t25 : Fin (k0_t25_loop v34).trips, ∀ (k0_h25 : k0_cond25 v34 = 1#1), ∀ a, (k0_off186 v34 k0_t25) a + S1x16.size a ≤ S128x128.size a) ∧
  (∀ k0_t25 : Fin (k0_t25_loop v34).trips, ∀ (k0_h25 : k0_cond25 v34 = 1#1), ∀ a, (k0_off187 v34 k0_t25) a + S1x16.size a ≤ S128x128.size a) ∧
  (∀ (k0_h25 : k0_cond25 v34 = 1#1), (k0_t26_loop v34).OK) ∧
  (∀ k0_t26 : Fin (k0_t26_loop v34).trips, ∀ (k0_h25 : k0_cond25 v34 = 1#1), ∀ a, (k0_off188 v34 k0_t26) a + S1x16.size a ≤ S128x128.size a) ∧
  (∀ k0_t26 : Fin (k0_t26_loop v34).trips, ∀ (k0_h25 : k0_cond25 v34 = 1#1), ∀ a, (k0_off189 v34 k0_t26) a + S1x16.size a ≤ S128x128.size a) ∧
  (∀ k0_t26 : Fin (k0_t26_loop v34).trips, ∀ (k0_h25 : k0_cond25 v34 = 1#1), ∀ a, (k0_off190 v34 k0_t26) a + S1x16.size a ≤ S128x128.size a) ∧
  (∀ k0_t26 : Fin (k0_t26_loop v34).trips, ∀ (k0_h25 : k0_cond25 v34 = 1#1), ∀ a, (k0_off191 v34 k0_t26) a + S1x16.size a ≤ S128x128.size a) ∧
  (∀ k0_t26 : Fin (k0_t26_loop v34).trips, ∀ (k0_h25 : k0_cond25 v34 = 1#1), ∀ a, (k0_off192 v34 k0_t26) a + S1x16.size a ≤ S128x128.size a) ∧
  (∀ k0_t26 : Fin (k0_t26_loop v34).trips, ∀ (k0_h25 : k0_cond25 v34 = 1#1), ∀ a, (k0_off193 v34 k0_t26) a + S1x16.size a ≤ S128x128.size a) ∧
  (∀ k0_t26 : Fin (k0_t26_loop v34).trips, ∀ (k0_h25 : k0_cond25 v34 = 1#1), ∀ a, (k0_off194 v34 k0_t26) a + S1x16.size a ≤ S128x128.size a) ∧
  (∀ k0_t26 : Fin (k0_t26_loop v34).trips, ∀ (k0_h25 : k0_cond25 v34 = 1#1), ∀ a, (k0_off195 v34 k0_t26) a + S1x16.size a ≤ S128x128.size a) ∧
  (∀ (k0_h27 : k0_cond27 v34 = 1#1), (k0_t27_loop v34).OK) ∧
  (∀ k0_t27 : Fin (k0_t27_loop v34).trips, ∀ (k0_h27 : k0_cond27 v34 = 1#1), ∀ a, (k0_off196 v34 k0_t27) a + S1x16.size a ≤ S128x128.size a) ∧
  (∀ k0_t27 : Fin (k0_t27_loop v34).trips, ∀ (k0_h27 : k0_cond27 v34 = 1#1), ∀ a, (k0_off197 v34 k0_t27) a + S1x16.size a ≤ S128x128.size a) ∧
  (∀ k0_t27 : Fin (k0_t27_loop v34).trips, ∀ (k0_h27 : k0_cond27 v34 = 1#1), ∀ a, (k0_off198 v34 k0_t27) a + S1x16.size a ≤ S128x128.size a) ∧
  (∀ k0_t27 : Fin (k0_t27_loop v34).trips, ∀ (k0_h27 : k0_cond27 v34 = 1#1), ∀ a, (k0_off199 v34 k0_t27) a + S1x16.size a ≤ S128x128.size a) ∧
  (∀ k0_t27 : Fin (k0_t27_loop v34).trips, ∀ (k0_h27 : k0_cond27 v34 = 1#1), ∀ a, (k0_off200 v34 k0_t27) a + S1x16.size a ≤ S128x128.size a) ∧
  (∀ k0_t27 : Fin (k0_t27_loop v34).trips, ∀ (k0_h27 : k0_cond27 v34 = 1#1), ∀ a, (k0_off201 v34 k0_t27) a + S1x16.size a ≤ S128x128.size a) ∧
  (∀ k0_t27 : Fin (k0_t27_loop v34).trips, ∀ (k0_h27 : k0_cond27 v34 = 1#1), ∀ a, (k0_off202 v34 k0_t27) a + S1x16.size a ≤ S128x128.size a)
def k0_chk2_7 (v34 : BitVec 32) : Prop :=
  (∀ k0_t27 : Fin (k0_t27_loop v34).trips, ∀ (k0_h27 : k0_cond27 v34 = 1#1), ∀ a, (k0_off203 v34 k0_t27) a + S1x16.size a ≤ S128x128.size a) ∧
  (∀ (k0_h27 : k0_cond27 v34 = 1#1), (k0_t28_loop v34).OK) ∧
  (∀ k0_t28 : Fin (k0_t28_loop v34).trips, ∀ (k0_h27 : k0_cond27 v34 = 1#1), ∀ a, (k0_off204 v34 k0_t28) a + S1x16.size a ≤ S128x128.size a) ∧
  (∀ k0_t28 : Fin (k0_t28_loop v34).trips, ∀ (k0_h27 : k0_cond27 v34 = 1#1), ∀ a, (k0_off205 v34 k0_t28) a + S1x16.size a ≤ S128x128.size a) ∧
  (∀ k0_t28 : Fin (k0_t28_loop v34).trips, ∀ (k0_h27 : k0_cond27 v34 = 1#1), ∀ a, (k0_off206 v34 k0_t28) a + S1x16.size a ≤ S128x128.size a) ∧
  (∀ k0_t28 : Fin (k0_t28_loop v34).trips, ∀ (k0_h27 : k0_cond27 v34 = 1#1), ∀ a, (k0_off207 v34 k0_t28) a + S1x16.size a ≤ S128x128.size a) ∧
  (∀ k0_t28 : Fin (k0_t28_loop v34).trips, ∀ (k0_h27 : k0_cond27 v34 = 1#1), ∀ a, (k0_off208 v34 k0_t28) a + S1x16.size a ≤ S128x128.size a) ∧
  (∀ k0_t28 : Fin (k0_t28_loop v34).trips, ∀ (k0_h27 : k0_cond27 v34 = 1#1), ∀ a, (k0_off209 v34 k0_t28) a + S1x16.size a ≤ S128x128.size a) ∧
  (∀ k0_t28 : Fin (k0_t28_loop v34).trips, ∀ (k0_h27 : k0_cond27 v34 = 1#1), ∀ a, (k0_off210 v34 k0_t28) a + S1x16.size a ≤ S128x128.size a) ∧
  (∀ k0_t28 : Fin (k0_t28_loop v34).trips, ∀ (k0_h27 : k0_cond27 v34 = 1#1), ∀ a, (k0_off211 v34 k0_t28) a + S1x16.size a ≤ S128x128.size a) ∧
  (∀ (k0_h29 : k0_cond29 v34 = 1#1), (k0_t29_loop v34).OK) ∧
  (∀ k0_t29 : Fin (k0_t29_loop v34).trips, ∀ (k0_h29 : k0_cond29 v34 = 1#1), ∀ a, (k0_off212 v34 k0_t29) a + S1x16.size a ≤ S128x128.size a) ∧
  (∀ k0_t29 : Fin (k0_t29_loop v34).trips, ∀ (k0_h29 : k0_cond29 v34 = 1#1), ∀ a, (k0_off213 v34 k0_t29) a + S1x16.size a ≤ S128x128.size a) ∧
  (∀ k0_t29 : Fin (k0_t29_loop v34).trips, ∀ (k0_h29 : k0_cond29 v34 = 1#1), ∀ a, (k0_off214 v34 k0_t29) a + S1x16.size a ≤ S128x128.size a) ∧
  (∀ k0_t29 : Fin (k0_t29_loop v34).trips, ∀ (k0_h29 : k0_cond29 v34 = 1#1), ∀ a, (k0_off215 v34 k0_t29) a + S1x16.size a ≤ S128x128.size a) ∧
  (∀ k0_t29 : Fin (k0_t29_loop v34).trips, ∀ (k0_h29 : k0_cond29 v34 = 1#1), ∀ a, (k0_off216 v34 k0_t29) a + S1x16.size a ≤ S128x128.size a) ∧
  (∀ k0_t29 : Fin (k0_t29_loop v34).trips, ∀ (k0_h29 : k0_cond29 v34 = 1#1), ∀ a, (k0_off217 v34 k0_t29) a + S1x16.size a ≤ S128x128.size a) ∧
  (∀ k0_t29 : Fin (k0_t29_loop v34).trips, ∀ (k0_h29 : k0_cond29 v34 = 1#1), ∀ a, (k0_off218 v34 k0_t29) a + S1x16.size a ≤ S128x128.size a) ∧
  (∀ k0_t29 : Fin (k0_t29_loop v34).trips, ∀ (k0_h29 : k0_cond29 v34 = 1#1), ∀ a, (k0_off219 v34 k0_t29) a + S1x16.size a ≤ S128x128.size a) ∧
  (∀ (k0_h29 : k0_cond29 v34 = 1#1), (k0_t30_loop v34).OK) ∧
  (∀ k0_t30 : Fin (k0_t30_loop v34).trips, ∀ (k0_h29 : k0_cond29 v34 = 1#1), ∀ a, (k0_off220 v34 k0_t30) a + S1x16.size a ≤ S128x128.size a) ∧
  (∀ k0_t30 : Fin (k0_t30_loop v34).trips, ∀ (k0_h29 : k0_cond29 v34 = 1#1), ∀ a, (k0_off221 v34 k0_t30) a + S1x16.size a ≤ S128x128.size a) ∧
  (∀ k0_t30 : Fin (k0_t30_loop v34).trips, ∀ (k0_h29 : k0_cond29 v34 = 1#1), ∀ a, (k0_off222 v34 k0_t30) a + S1x16.size a ≤ S128x128.size a) ∧
  (∀ k0_t30 : Fin (k0_t30_loop v34).trips, ∀ (k0_h29 : k0_cond29 v34 = 1#1), ∀ a, (k0_off223 v34 k0_t30) a + S1x16.size a ≤ S128x128.size a) ∧
  (∀ k0_t30 : Fin (k0_t30_loop v34).trips, ∀ (k0_h29 : k0_cond29 v34 = 1#1), ∀ a, (k0_off224 v34 k0_t30) a + S1x16.size a ≤ S128x128.size a) ∧
  (∀ k0_t30 : Fin (k0_t30_loop v34).trips, ∀ (k0_h29 : k0_cond29 v34 = 1#1), ∀ a, (k0_off225 v34 k0_t30) a + S1x16.size a ≤ S128x128.size a) ∧
  (∀ k0_t30 : Fin (k0_t30_loop v34).trips, ∀ (k0_h29 : k0_cond29 v34 = 1#1), ∀ a, (k0_off226 v34 k0_t30) a + S1x16.size a ≤ S128x128.size a) ∧
  (∀ k0_t30 : Fin (k0_t30_loop v34).trips, ∀ (k0_h29 : k0_cond29 v34 = 1#1), ∀ a, (k0_off227 v34 k0_t30) a + S1x16.size a ≤ S128x128.size a) ∧
  (∀ (k0_h31 : k0_cond31 v34 = 1#1), (k0_t31_loop v34).OK) ∧
  (∀ k0_t31 : Fin (k0_t31_loop v34).trips, ∀ (k0_h31 : k0_cond31 v34 = 1#1), ∀ a, (k0_off228 v34 k0_t31) a + S1x16.size a ≤ S128x128.size a) ∧
  (∀ k0_t31 : Fin (k0_t31_loop v34).trips, ∀ (k0_h31 : k0_cond31 v34 = 1#1), ∀ a, (k0_off229 v34 k0_t31) a + S1x16.size a ≤ S128x128.size a) ∧
  (∀ k0_t31 : Fin (k0_t31_loop v34).trips, ∀ (k0_h31 : k0_cond31 v34 = 1#1), ∀ a, (k0_off230 v34 k0_t31) a + S1x16.size a ≤ S128x128.size a)
def k0_chk2_8 (v34 : BitVec 32) : Prop :=
  (∀ k0_t31 : Fin (k0_t31_loop v34).trips, ∀ (k0_h31 : k0_cond31 v34 = 1#1), ∀ a, (k0_off231 v34 k0_t31) a + S1x16.size a ≤ S128x128.size a) ∧
  (∀ k0_t31 : Fin (k0_t31_loop v34).trips, ∀ (k0_h31 : k0_cond31 v34 = 1#1), ∀ a, (k0_off232 v34 k0_t31) a + S1x16.size a ≤ S128x128.size a) ∧
  (∀ k0_t31 : Fin (k0_t31_loop v34).trips, ∀ (k0_h31 : k0_cond31 v34 = 1#1), ∀ a, (k0_off233 v34 k0_t31) a + S1x16.size a ≤ S128x128.size a) ∧
  (∀ k0_t31 : Fin (k0_t31_loop v34).trips, ∀ (k0_h31 : k0_cond31 v34 = 1#1), ∀ a, (k0_off234 v34 k0_t31) a + S1x16.size a ≤ S128x128.size a) ∧
  (∀ k0_t31 : Fin (k0_t31_loop v34).trips, ∀ (k0_h31 : k0_cond31 v34 = 1#1), ∀ a, (k0_off235 v34 k0_t31) a + S1x16.size a ≤ S128x128.size a) ∧
  (∀ (k0_h31 : k0_cond31 v34 = 1#1), (k0_t32_loop v34).OK) ∧
  (∀ k0_t32 : Fin (k0_t32_loop v34).trips, ∀ (k0_h31 : k0_cond31 v34 = 1#1), ∀ a, (k0_off236 v34 k0_t32) a + S1x16.size a ≤ S128x128.size a) ∧
  (∀ k0_t32 : Fin (k0_t32_loop v34).trips, ∀ (k0_h31 : k0_cond31 v34 = 1#1), ∀ a, (k0_off237 v34 k0_t32) a + S1x16.size a ≤ S128x128.size a) ∧
  (∀ k0_t32 : Fin (k0_t32_loop v34).trips, ∀ (k0_h31 : k0_cond31 v34 = 1#1), ∀ a, (k0_off238 v34 k0_t32) a + S1x16.size a ≤ S128x128.size a) ∧
  (∀ k0_t32 : Fin (k0_t32_loop v34).trips, ∀ (k0_h31 : k0_cond31 v34 = 1#1), ∀ a, (k0_off239 v34 k0_t32) a + S1x16.size a ≤ S128x128.size a) ∧
  (∀ k0_t32 : Fin (k0_t32_loop v34).trips, ∀ (k0_h31 : k0_cond31 v34 = 1#1), ∀ a, (k0_off240 v34 k0_t32) a + S1x16.size a ≤ S128x128.size a) ∧
  (∀ k0_t32 : Fin (k0_t32_loop v34).trips, ∀ (k0_h31 : k0_cond31 v34 = 1#1), ∀ a, (k0_off241 v34 k0_t32) a + S1x16.size a ≤ S128x128.size a) ∧
  (∀ k0_t32 : Fin (k0_t32_loop v34).trips, ∀ (k0_h31 : k0_cond31 v34 = 1#1), ∀ a, (k0_off242 v34 k0_t32) a + S1x16.size a ≤ S128x128.size a) ∧
  (∀ k0_t32 : Fin (k0_t32_loop v34).trips, ∀ (k0_h31 : k0_cond31 v34 = 1#1), ∀ a, (k0_off243 v34 k0_t32) a + S1x16.size a ≤ S128x128.size a) ∧
  (∀ (k0_h33 : k0_cond33 v34 = 1#1), (k0_t33_loop v34).OK) ∧
  (∀ k0_t33 : Fin (k0_t33_loop v34).trips, ∀ (k0_h33 : k0_cond33 v34 = 1#1), ∀ a, (k0_off244 v34 k0_t33) a + S1x16.size a ≤ S128x128.size a) ∧
  (∀ k0_t33 : Fin (k0_t33_loop v34).trips, ∀ (k0_h33 : k0_cond33 v34 = 1#1), ∀ a, (k0_off245 v34 k0_t33) a + S1x16.size a ≤ S128x128.size a) ∧
  (∀ k0_t33 : Fin (k0_t33_loop v34).trips, ∀ (k0_h33 : k0_cond33 v34 = 1#1), ∀ a, (k0_off246 v34 k0_t33) a + S1x16.size a ≤ S128x128.size a) ∧
  (∀ k0_t33 : Fin (k0_t33_loop v34).trips, ∀ (k0_h33 : k0_cond33 v34 = 1#1), ∀ a, (k0_off247 v34 k0_t33) a + S1x16.size a ≤ S128x128.size a) ∧
  (∀ k0_t33 : Fin (k0_t33_loop v34).trips, ∀ (k0_h33 : k0_cond33 v34 = 1#1), ∀ a, (k0_off248 v34 k0_t33) a + S1x16.size a ≤ S128x128.size a) ∧
  (∀ k0_t33 : Fin (k0_t33_loop v34).trips, ∀ (k0_h33 : k0_cond33 v34 = 1#1), ∀ a, (k0_off249 v34 k0_t33) a + S1x16.size a ≤ S128x128.size a) ∧
  (∀ k0_t33 : Fin (k0_t33_loop v34).trips, ∀ (k0_h33 : k0_cond33 v34 = 1#1), ∀ a, (k0_off250 v34 k0_t33) a + S1x16.size a ≤ S128x128.size a) ∧
  (∀ k0_t33 : Fin (k0_t33_loop v34).trips, ∀ (k0_h33 : k0_cond33 v34 = 1#1), ∀ a, (k0_off251 v34 k0_t33) a + S1x16.size a ≤ S128x128.size a) ∧
  (∀ (k0_h33 : k0_cond33 v34 = 1#1), (k0_t34_loop v34).OK) ∧
  (∀ k0_t34 : Fin (k0_t34_loop v34).trips, ∀ (k0_h33 : k0_cond33 v34 = 1#1), ∀ a, (k0_off252 v34 k0_t34) a + S1x16.size a ≤ S128x128.size a) ∧
  (∀ k0_t34 : Fin (k0_t34_loop v34).trips, ∀ (k0_h33 : k0_cond33 v34 = 1#1), ∀ a, (k0_off253 v34 k0_t34) a + S1x16.size a ≤ S128x128.size a) ∧
  (∀ k0_t34 : Fin (k0_t34_loop v34).trips, ∀ (k0_h33 : k0_cond33 v34 = 1#1), ∀ a, (k0_off254 v34 k0_t34) a + S1x16.size a ≤ S128x128.size a) ∧
  (∀ k0_t34 : Fin (k0_t34_loop v34).trips, ∀ (k0_h33 : k0_cond33 v34 = 1#1), ∀ a, (k0_off255 v34 k0_t34) a + S1x16.size a ≤ S128x128.size a) ∧
  (∀ k0_t34 : Fin (k0_t34_loop v34).trips, ∀ (k0_h33 : k0_cond33 v34 = 1#1), ∀ a, (k0_off256 v34 k0_t34) a + S1x16.size a ≤ S128x128.size a) ∧
  (∀ k0_t34 : Fin (k0_t34_loop v34).trips, ∀ (k0_h33 : k0_cond33 v34 = 1#1), ∀ a, (k0_off257 v34 k0_t34) a + S1x16.size a ≤ S128x128.size a) ∧
  (∀ k0_t34 : Fin (k0_t34_loop v34).trips, ∀ (k0_h33 : k0_cond33 v34 = 1#1), ∀ a, (k0_off258 v34 k0_t34) a + S1x16.size a ≤ S128x128.size a) ∧
  (∀ k0_t34 : Fin (k0_t34_loop v34).trips, ∀ (k0_h33 : k0_cond33 v34 = 1#1), ∀ a, (k0_off259 v34 k0_t34) a + S1x16.size a ≤ S128x128.size a)
def k0_chk2_9 (v34 : BitVec 32) : Prop :=
  (∀ (k0_h35 : k0_cond35 v34 = 1#1), (k0_t35_loop v34).OK) ∧
  (∀ k0_t35 : Fin (k0_t35_loop v34).trips, ∀ (k0_h35 : k0_cond35 v34 = 1#1), ∀ a, (k0_off260 v34 k0_t35) a + S1x16.size a ≤ S128x128.size a) ∧
  (∀ k0_t35 : Fin (k0_t35_loop v34).trips, ∀ (k0_h35 : k0_cond35 v34 = 1#1), ∀ a, (k0_off261 v34 k0_t35) a + S1x16.size a ≤ S128x128.size a) ∧
  (∀ k0_t35 : Fin (k0_t35_loop v34).trips, ∀ (k0_h35 : k0_cond35 v34 = 1#1), ∀ a, (k0_off262 v34 k0_t35) a + S1x16.size a ≤ S128x128.size a) ∧
  (∀ k0_t35 : Fin (k0_t35_loop v34).trips, ∀ (k0_h35 : k0_cond35 v34 = 1#1), ∀ a, (k0_off263 v34 k0_t35) a + S1x16.size a ≤ S128x128.size a) ∧
  (∀ k0_t35 : Fin (k0_t35_loop v34).trips, ∀ (k0_h35 : k0_cond35 v34 = 1#1), ∀ a, (k0_off264 v34 k0_t35) a + S1x16.size a ≤ S128x128.size a) ∧
  (∀ k0_t35 : Fin (k0_t35_loop v34).trips, ∀ (k0_h35 : k0_cond35 v34 = 1#1), ∀ a, (k0_off265 v34 k0_t35) a + S1x16.size a ≤ S128x128.size a) ∧
  (∀ k0_t35 : Fin (k0_t35_loop v34).trips, ∀ (k0_h35 : k0_cond35 v34 = 1#1), ∀ a, (k0_off266 v34 k0_t35) a + S1x16.size a ≤ S128x128.size a) ∧
  (∀ k0_t35 : Fin (k0_t35_loop v34).trips, ∀ (k0_h35 : k0_cond35 v34 = 1#1), ∀ a, (k0_off267 v34 k0_t35) a + S1x16.size a ≤ S128x128.size a) ∧
  (∀ (k0_h35 : k0_cond35 v34 = 1#1), (k0_t36_loop v34).OK) ∧
  (∀ k0_t36 : Fin (k0_t36_loop v34).trips, ∀ (k0_h35 : k0_cond35 v34 = 1#1), ∀ a, (k0_off268 v34 k0_t36) a + S1x16.size a ≤ S128x128.size a) ∧
  (∀ k0_t36 : Fin (k0_t36_loop v34).trips, ∀ (k0_h35 : k0_cond35 v34 = 1#1), ∀ a, (k0_off269 v34 k0_t36) a + S1x16.size a ≤ S128x128.size a) ∧
  (∀ k0_t36 : Fin (k0_t36_loop v34).trips, ∀ (k0_h35 : k0_cond35 v34 = 1#1), ∀ a, (k0_off270 v34 k0_t36) a + S1x16.size a ≤ S128x128.size a) ∧
  (∀ k0_t36 : Fin (k0_t36_loop v34).trips, ∀ (k0_h35 : k0_cond35 v34 = 1#1), ∀ a, (k0_off271 v34 k0_t36) a + S1x16.size a ≤ S128x128.size a) ∧
  (∀ k0_t36 : Fin (k0_t36_loop v34).trips, ∀ (k0_h35 : k0_cond35 v34 = 1#1), ∀ a, (k0_off272 v34 k0_t36) a + S1x16.size a ≤ S128x128.size a) ∧
  (∀ k0_t36 : Fin (k0_t36_loop v34).trips, ∀ (k0_h35 : k0_cond35 v34 = 1#1), ∀ a, (k0_off273 v34 k0_t36) a + S1x16.size a ≤ S128x128.size a) ∧
  (∀ k0_t36 : Fin (k0_t36_loop v34).trips, ∀ (k0_h35 : k0_cond35 v34 = 1#1), ∀ a, (k0_off274 v34 k0_t36) a + S1x16.size a ≤ S128x128.size a) ∧
  (∀ k0_t36 : Fin (k0_t36_loop v34).trips, ∀ (k0_h35 : k0_cond35 v34 = 1#1), ∀ a, (k0_off275 v34 k0_t36) a + S1x16.size a ≤ S128x128.size a) ∧
  (∀ (k0_h37 : k0_cond37 v34 = 1#1), (k0_t37_loop v34).OK) ∧
  (∀ k0_t37 : Fin (k0_t37_loop v34).trips, ∀ (k0_h37 : k0_cond37 v34 = 1#1), ∀ a, (k0_off276 v34 k0_t37) a + S1x16.size a ≤ S128x128.size a) ∧
  (∀ k0_t37 : Fin (k0_t37_loop v34).trips, ∀ (k0_h37 : k0_cond37 v34 = 1#1), ∀ a, (k0_off277 v34 k0_t37) a + S1x16.size a ≤ S128x128.size a) ∧
  (∀ k0_t37 : Fin (k0_t37_loop v34).trips, ∀ (k0_h37 : k0_cond37 v34 = 1#1), ∀ a, (k0_off278 v34 k0_t37) a + S1x16.size a ≤ S128x128.size a) ∧
  (∀ k0_t37 : Fin (k0_t37_loop v34).trips, ∀ (k0_h37 : k0_cond37 v34 = 1#1), ∀ a, (k0_off279 v34 k0_t37) a + S1x16.size a ≤ S128x128.size a) ∧
  (∀ k0_t37 : Fin (k0_t37_loop v34).trips, ∀ (k0_h37 : k0_cond37 v34 = 1#1), ∀ a, (k0_off280 v34 k0_t37) a + S1x16.size a ≤ S128x128.size a) ∧
  (∀ k0_t37 : Fin (k0_t37_loop v34).trips, ∀ (k0_h37 : k0_cond37 v34 = 1#1), ∀ a, (k0_off281 v34 k0_t37) a + S1x16.size a ≤ S128x128.size a) ∧
  (∀ k0_t37 : Fin (k0_t37_loop v34).trips, ∀ (k0_h37 : k0_cond37 v34 = 1#1), ∀ a, (k0_off282 v34 k0_t37) a + S1x16.size a ≤ S128x128.size a) ∧
  (∀ k0_t37 : Fin (k0_t37_loop v34).trips, ∀ (k0_h37 : k0_cond37 v34 = 1#1), ∀ a, (k0_off283 v34 k0_t37) a + S1x16.size a ≤ S128x128.size a) ∧
  (∀ (k0_h37 : k0_cond37 v34 = 1#1), (k0_t38_loop v34).OK) ∧
  (∀ k0_t38 : Fin (k0_t38_loop v34).trips, ∀ (k0_h37 : k0_cond37 v34 = 1#1), ∀ a, (k0_off284 v34 k0_t38) a + S1x16.size a ≤ S128x128.size a) ∧
  (∀ k0_t38 : Fin (k0_t38_loop v34).trips, ∀ (k0_h37 : k0_cond37 v34 = 1#1), ∀ a, (k0_off285 v34 k0_t38) a + S1x16.size a ≤ S128x128.size a) ∧
  (∀ k0_t38 : Fin (k0_t38_loop v34).trips, ∀ (k0_h37 : k0_cond37 v34 = 1#1), ∀ a, (k0_off286 v34 k0_t38) a + S1x16.size a ≤ S128x128.size a) ∧
  (∀ k0_t38 : Fin (k0_t38_loop v34).trips, ∀ (k0_h37 : k0_cond37 v34 = 1#1), ∀ a, (k0_off287 v34 k0_t38) a + S1x16.size a ≤ S128x128.size a)
def k0_chk2_10 (v34 : BitVec 32) : Prop :=
  (∀ k0_t38 : Fin (k0_t38_loop v34).trips, ∀ (k0_h37 : k0_cond37 v34 = 1#1), ∀ a, (k0_off288 v34 k0_t38) a + S1x16.size a ≤ S128x128.size a) ∧
  (∀ k0_t38 : Fin (k0_t38_loop v34).trips, ∀ (k0_h37 : k0_cond37 v34 = 1#1), ∀ a, (k0_off289 v34 k0_t38) a + S1x16.size a ≤ S128x128.size a) ∧
  (∀ k0_t38 : Fin (k0_t38_loop v34).trips, ∀ (k0_h37 : k0_cond37 v34 = 1#1), ∀ a, (k0_off290 v34 k0_t38) a + S1x16.size a ≤ S128x128.size a) ∧
  (∀ k0_t38 : Fin (k0_t38_loop v34).trips, ∀ (k0_h37 : k0_cond37 v34 = 1#1), ∀ a, (k0_off291 v34 k0_t38) a + S1x16.size a ≤ S128x128.size a) ∧
  (∀ (k0_h39 : k0_cond39 v34 = 1#1), (k0_t39_loop v34).OK) ∧
  (∀ k0_t39 : Fin (k0_t39_loop v34).trips, ∀ (k0_h39 : k0_cond39 v34 = 1#1), ∀ a, (k0_off292 v34 k0_t39) a + S1x16.size a ≤ S128x128.size a) ∧
  (∀ k0_t39 : Fin (k0_t39_loop v34).trips, ∀ (k0_h39 : k0_cond39 v34 = 1#1), ∀ a, (k0_off293 v34 k0_t39) a + S1x16.size a ≤ S128x128.size a) ∧
  (∀ k0_t39 : Fin (k0_t39_loop v34).trips, ∀ (k0_h39 : k0_cond39 v34 = 1#1), ∀ a, (k0_off294 v34 k0_t39) a + S1x16.size a ≤ S128x128.size a) ∧
  (∀ k0_t39 : Fin (k0_t39_loop v34).trips, ∀ (k0_h39 : k0_cond39 v34 = 1#1), ∀ a, (k0_off295 v34 k0_t39) a + S1x16.size a ≤ S128x128.size a) ∧
  (∀ k0_t39 : Fin (k0_t39_loop v34).trips, ∀ (k0_h39 : k0_cond39 v34 = 1#1), ∀ a, (k0_off296 v34 k0_t39) a + S1x16.size a ≤ S128x128.size a) ∧
  (∀ k0_t39 : Fin (k0_t39_loop v34).trips, ∀ (k0_h39 : k0_cond39 v34 = 1#1), ∀ a, (k0_off297 v34 k0_t39) a + S1x16.size a ≤ S128x128.size a) ∧
  (∀ k0_t39 : Fin (k0_t39_loop v34).trips, ∀ (k0_h39 : k0_cond39 v34 = 1#1), ∀ a, (k0_off298 v34 k0_t39) a + S1x16.size a ≤ S128x128.size a) ∧
  (∀ k0_t39 : Fin (k0_t39_loop v34).trips, ∀ (k0_h39 : k0_cond39 v34 = 1#1), ∀ a, (k0_off299 v34 k0_t39) a + S1x16.size a ≤ S128x128.size a) ∧
  (∀ (k0_h39 : k0_cond39 v34 = 1#1), (k0_t40_loop v34).OK) ∧
  (∀ k0_t40 : Fin (k0_t40_loop v34).trips, ∀ (k0_h39 : k0_cond39 v34 = 1#1), ∀ a, (k0_off300 v34 k0_t40) a + S1x16.size a ≤ S128x128.size a) ∧
  (∀ k0_t40 : Fin (k0_t40_loop v34).trips, ∀ (k0_h39 : k0_cond39 v34 = 1#1), ∀ a, (k0_off301 v34 k0_t40) a + S1x16.size a ≤ S128x128.size a) ∧
  (∀ k0_t40 : Fin (k0_t40_loop v34).trips, ∀ (k0_h39 : k0_cond39 v34 = 1#1), ∀ a, (k0_off302 v34 k0_t40) a + S1x16.size a ≤ S128x128.size a) ∧
  (∀ k0_t40 : Fin (k0_t40_loop v34).trips, ∀ (k0_h39 : k0_cond39 v34 = 1#1), ∀ a, (k0_off303 v34 k0_t40) a + S1x16.size a ≤ S128x128.size a) ∧
  (∀ k0_t40 : Fin (k0_t40_loop v34).trips, ∀ (k0_h39 : k0_cond39 v34 = 1#1), ∀ a, (k0_off304 v34 k0_t40) a + S1x16.size a ≤ S128x128.size a) ∧
  (∀ k0_t40 : Fin (k0_t40_loop v34).trips, ∀ (k0_h39 : k0_cond39 v34 = 1#1), ∀ a, (k0_off305 v34 k0_t40) a + S1x16.size a ≤ S128x128.size a) ∧
  (∀ k0_t40 : Fin (k0_t40_loop v34).trips, ∀ (k0_h39 : k0_cond39 v34 = 1#1), ∀ a, (k0_off306 v34 k0_t40) a + S1x16.size a ≤ S128x128.size a) ∧
  (∀ k0_t40 : Fin (k0_t40_loop v34).trips, ∀ (k0_h39 : k0_cond39 v34 = 1#1), ∀ a, (k0_off307 v34 k0_t40) a + S1x16.size a ≤ S128x128.size a) ∧
  (∀ (k0_h41 : k0_cond41 v34 = 1#1), (k0_t41_loop v34).OK) ∧
  (∀ k0_t41 : Fin (k0_t41_loop v34).trips, ∀ (k0_h41 : k0_cond41 v34 = 1#1), ∀ a, (k0_off308 v34 k0_t41) a + S1x16.size a ≤ S128x128.size a) ∧
  (∀ k0_t41 : Fin (k0_t41_loop v34).trips, ∀ (k0_h41 : k0_cond41 v34 = 1#1), ∀ a, (k0_off309 v34 k0_t41) a + S1x16.size a ≤ S128x128.size a) ∧
  (∀ k0_t41 : Fin (k0_t41_loop v34).trips, ∀ (k0_h41 : k0_cond41 v34 = 1#1), ∀ a, (k0_off310 v34 k0_t41) a + S1x16.size a ≤ S128x128.size a) ∧
  (∀ k0_t41 : Fin (k0_t41_loop v34).trips, ∀ (k0_h41 : k0_cond41 v34 = 1#1), ∀ a, (k0_off311 v34 k0_t41) a + S1x16.size a ≤ S128x128.size a) ∧
  (∀ k0_t41 : Fin (k0_t41_loop v34).trips, ∀ (k0_h41 : k0_cond41 v34 = 1#1), ∀ a, (k0_off312 v34 k0_t41) a + S1x16.size a ≤ S128x128.size a) ∧
  (∀ k0_t41 : Fin (k0_t41_loop v34).trips, ∀ (k0_h41 : k0_cond41 v34 = 1#1), ∀ a, (k0_off313 v34 k0_t41) a + S1x16.size a ≤ S128x128.size a) ∧
  (∀ k0_t41 : Fin (k0_t41_loop v34).trips, ∀ (k0_h41 : k0_cond41 v34 = 1#1), ∀ a, (k0_off314 v34 k0_t41) a + S1x16.size a ≤ S128x128.size a) ∧
  (∀ k0_t41 : Fin (k0_t41_loop v34).trips, ∀ (k0_h41 : k0_cond41 v34 = 1#1), ∀ a, (k0_off315 v34 k0_t41) a + S1x16.size a ≤ S128x128.size a) ∧
  (∀ (k0_h41 : k0_cond41 v34 = 1#1), (k0_t42_loop v34).OK)
def k0_chk2_11 (v34 : BitVec 32) : Prop :=
  (∀ k0_t42 : Fin (k0_t42_loop v34).trips, ∀ (k0_h41 : k0_cond41 v34 = 1#1), ∀ a, (k0_off316 v34 k0_t42) a + S1x16.size a ≤ S128x128.size a) ∧
  (∀ k0_t42 : Fin (k0_t42_loop v34).trips, ∀ (k0_h41 : k0_cond41 v34 = 1#1), ∀ a, (k0_off317 v34 k0_t42) a + S1x16.size a ≤ S128x128.size a) ∧
  (∀ k0_t42 : Fin (k0_t42_loop v34).trips, ∀ (k0_h41 : k0_cond41 v34 = 1#1), ∀ a, (k0_off318 v34 k0_t42) a + S1x16.size a ≤ S128x128.size a) ∧
  (∀ k0_t42 : Fin (k0_t42_loop v34).trips, ∀ (k0_h41 : k0_cond41 v34 = 1#1), ∀ a, (k0_off319 v34 k0_t42) a + S1x16.size a ≤ S128x128.size a) ∧
  (∀ k0_t42 : Fin (k0_t42_loop v34).trips, ∀ (k0_h41 : k0_cond41 v34 = 1#1), ∀ a, (k0_off320 v34 k0_t42) a + S1x16.size a ≤ S128x128.size a) ∧
  (∀ k0_t42 : Fin (k0_t42_loop v34).trips, ∀ (k0_h41 : k0_cond41 v34 = 1#1), ∀ a, (k0_off321 v34 k0_t42) a + S1x16.size a ≤ S128x128.size a) ∧
  (∀ k0_t42 : Fin (k0_t42_loop v34).trips, ∀ (k0_h41 : k0_cond41 v34 = 1#1), ∀ a, (k0_off322 v34 k0_t42) a + S1x16.size a ≤ S128x128.size a) ∧
  (∀ k0_t42 : Fin (k0_t42_loop v34).trips, ∀ (k0_h41 : k0_cond41 v34 = 1#1), ∀ a, (k0_off323 v34 k0_t42) a + S1x16.size a ≤ S128x128.size a) ∧
  (∀ (k0_h43 : k0_cond43 v34 = 1#1), (k0_t43_loop v34).OK) ∧
  (∀ k0_t43 : Fin (k0_t43_loop v34).trips, ∀ (k0_h43 : k0_cond43 v34 = 1#1), ∀ a, (k0_off324 v34 k0_t43) a + S1x16.size a ≤ S128x128.size a) ∧
  (∀ k0_t43 : Fin (k0_t43_loop v34).trips, ∀ (k0_h43 : k0_cond43 v34 = 1#1), ∀ a, (k0_off325 v34 k0_t43) a + S1x16.size a ≤ S128x128.size a) ∧
  (∀ k0_t43 : Fin (k0_t43_loop v34).trips, ∀ (k0_h43 : k0_cond43 v34 = 1#1), ∀ a, (k0_off326 v34 k0_t43) a + S1x16.size a ≤ S128x128.size a) ∧
  (∀ k0_t43 : Fin (k0_t43_loop v34).trips, ∀ (k0_h43 : k0_cond43 v34 = 1#1), ∀ a, (k0_off327 v34 k0_t43) a + S1x16.size a ≤ S128x128.size a) ∧
  (∀ k0_t43 : Fin (k0_t43_loop v34).trips, ∀ (k0_h43 : k0_cond43 v34 = 1#1), ∀ a, (k0_off328 v34 k0_t43) a + S1x16.size a ≤ S128x128.size a) ∧
  (∀ k0_t43 : Fin (k0_t43_loop v34).trips, ∀ (k0_h43 : k0_cond43 v34 = 1#1), ∀ a, (k0_off329 v34 k0_t43) a + S1x16.size a ≤ S128x128.size a) ∧
  (∀ k0_t43 : Fin (k0_t43_loop v34).trips, ∀ (k0_h43 : k0_cond43 v34 = 1#1), ∀ a, (k0_off330 v34 k0_t43) a + S1x16.size a ≤ S128x128.size a) ∧
  (∀ k0_t43 : Fin (k0_t43_loop v34).trips, ∀ (k0_h43 : k0_cond43 v34 = 1#1), ∀ a, (k0_off331 v34 k0_t43) a + S1x16.size a ≤ S128x128.size a) ∧
  (∀ (k0_h43 : k0_cond43 v34 = 1#1), (k0_t44_loop v34).OK) ∧
  (∀ k0_t44 : Fin (k0_t44_loop v34).trips, ∀ (k0_h43 : k0_cond43 v34 = 1#1), ∀ a, (k0_off332 v34 k0_t44) a + S1x16.size a ≤ S128x128.size a) ∧
  (∀ k0_t44 : Fin (k0_t44_loop v34).trips, ∀ (k0_h43 : k0_cond43 v34 = 1#1), ∀ a, (k0_off333 v34 k0_t44) a + S1x16.size a ≤ S128x128.size a) ∧
  (∀ k0_t44 : Fin (k0_t44_loop v34).trips, ∀ (k0_h43 : k0_cond43 v34 = 1#1), ∀ a, (k0_off334 v34 k0_t44) a + S1x16.size a ≤ S128x128.size a) ∧
  (∀ k0_t44 : Fin (k0_t44_loop v34).trips, ∀ (k0_h43 : k0_cond43 v34 = 1#1), ∀ a, (k0_off335 v34 k0_t44) a + S1x16.size a ≤ S128x128.size a) ∧
  (∀ k0_t44 : Fin (k0_t44_loop v34).trips, ∀ (k0_h43 : k0_cond43 v34 = 1#1), ∀ a, (k0_off336 v34 k0_t44) a + S1x16.size a ≤ S128x128.size a) ∧
  (∀ k0_t44 : Fin (k0_t44_loop v34).trips, ∀ (k0_h43 : k0_cond43 v34 = 1#1), ∀ a, (k0_off337 v34 k0_t44) a + S1x16.size a ≤ S128x128.size a) ∧
  (∀ k0_t44 : Fin (k0_t44_loop v34).trips, ∀ (k0_h43 : k0_cond43 v34 = 1#1), ∀ a, (k0_off338 v34 k0_t44) a + S1x16.size a ≤ S128x128.size a) ∧
  (∀ k0_t44 : Fin (k0_t44_loop v34).trips, ∀ (k0_h43 : k0_cond43 v34 = 1#1), ∀ a, (k0_off339 v34 k0_t44) a + S1x16.size a ≤ S128x128.size a) ∧
  (∀ (k0_h45 : k0_cond45 v34 = 1#1), (k0_t45_loop v34).OK) ∧
  (∀ k0_t45 : Fin (k0_t45_loop v34).trips, ∀ (k0_h45 : k0_cond45 v34 = 1#1), ∀ a, (k0_off340 v34 k0_t45) a + S1x16.size a ≤ S128x128.size a) ∧
  (∀ k0_t45 : Fin (k0_t45_loop v34).trips, ∀ (k0_h45 : k0_cond45 v34 = 1#1), ∀ a, (k0_off341 v34 k0_t45) a + S1x16.size a ≤ S128x128.size a) ∧
  (∀ k0_t45 : Fin (k0_t45_loop v34).trips, ∀ (k0_h45 : k0_cond45 v34 = 1#1), ∀ a, (k0_off342 v34 k0_t45) a + S1x16.size a ≤ S128x128.size a) ∧
  (∀ k0_t45 : Fin (k0_t45_loop v34).trips, ∀ (k0_h45 : k0_cond45 v34 = 1#1), ∀ a, (k0_off343 v34 k0_t45) a + S1x16.size a ≤ S128x128.size a) ∧
  (∀ k0_t45 : Fin (k0_t45_loop v34).trips, ∀ (k0_h45 : k0_cond45 v34 = 1#1), ∀ a, (k0_off344 v34 k0_t45) a + S1x16.size a ≤ S128x128.size a)
def k0_chk2_12 (v34 : BitVec 32) : Prop :=
  (∀ k0_t45 : Fin (k0_t45_loop v34).trips, ∀ (k0_h45 : k0_cond45 v34 = 1#1), ∀ a, (k0_off345 v34 k0_t45) a + S1x16.size a ≤ S128x128.size a) ∧
  (∀ k0_t45 : Fin (k0_t45_loop v34).trips, ∀ (k0_h45 : k0_cond45 v34 = 1#1), ∀ a, (k0_off346 v34 k0_t45) a + S1x16.size a ≤ S128x128.size a) ∧
  (∀ k0_t45 : Fin (k0_t45_loop v34).trips, ∀ (k0_h45 : k0_cond45 v34 = 1#1), ∀ a, (k0_off347 v34 k0_t45) a + S1x16.size a ≤ S128x128.size a) ∧
  (∀ (k0_h45 : k0_cond45 v34 = 1#1), (k0_t46_loop v34).OK) ∧
  (∀ k0_t46 : Fin (k0_t46_loop v34).trips, ∀ (k0_h45 : k0_cond45 v34 = 1#1), ∀ a, (k0_off348 v34 k0_t46) a + S1x16.size a ≤ S128x128.size a) ∧
  (∀ k0_t46 : Fin (k0_t46_loop v34).trips, ∀ (k0_h45 : k0_cond45 v34 = 1#1), ∀ a, (k0_off349 v34 k0_t46) a + S1x16.size a ≤ S128x128.size a) ∧
  (∀ k0_t46 : Fin (k0_t46_loop v34).trips, ∀ (k0_h45 : k0_cond45 v34 = 1#1), ∀ a, (k0_off350 v34 k0_t46) a + S1x16.size a ≤ S128x128.size a) ∧
  (∀ k0_t46 : Fin (k0_t46_loop v34).trips, ∀ (k0_h45 : k0_cond45 v34 = 1#1), ∀ a, (k0_off351 v34 k0_t46) a + S1x16.size a ≤ S128x128.size a) ∧
  (∀ k0_t46 : Fin (k0_t46_loop v34).trips, ∀ (k0_h45 : k0_cond45 v34 = 1#1), ∀ a, (k0_off352 v34 k0_t46) a + S1x16.size a ≤ S128x128.size a) ∧
  (∀ k0_t46 : Fin (k0_t46_loop v34).trips, ∀ (k0_h45 : k0_cond45 v34 = 1#1), ∀ a, (k0_off353 v34 k0_t46) a + S1x16.size a ≤ S128x128.size a) ∧
  (∀ k0_t46 : Fin (k0_t46_loop v34).trips, ∀ (k0_h45 : k0_cond45 v34 = 1#1), ∀ a, (k0_off354 v34 k0_t46) a + S1x16.size a ≤ S128x128.size a) ∧
  (∀ k0_t46 : Fin (k0_t46_loop v34).trips, ∀ (k0_h45 : k0_cond45 v34 = 1#1), ∀ a, (k0_off355 v34 k0_t46) a + S1x16.size a ≤ S128x128.size a) ∧
  (∀ (k0_h47 : k0_cond47 v34 = 1#1), (k0_t47_loop v34).OK) ∧
  (∀ k0_t47 : Fin (k0_t47_loop v34).trips, ∀ (k0_h47 : k0_cond47 v34 = 1#1), ∀ a, (k0_off356 v34 k0_t47) a + S1x16.size a ≤ S128x128.size a) ∧
  (∀ k0_t47 : Fin (k0_t47_loop v34).trips, ∀ (k0_h47 : k0_cond47 v34 = 1#1), ∀ a, (k0_off357 v34 k0_t47) a + S1x16.size a ≤ S128x128.size a) ∧
  (∀ k0_t47 : Fin (k0_t47_loop v34).trips, ∀ (k0_h47 : k0_cond47 v34 = 1#1), ∀ a, (k0_off358 v34 k0_t47) a + S1x16.size a ≤ S128x128.size a) ∧
  (∀ k0_t47 : Fin (k0_t47_loop v34).trips, ∀ (k0_h47 : k0_cond47 v34 = 1#1), ∀ a, (k0_off359 v34 k0_t47) a + S1x16.size a ≤ S128x128.size a) ∧
  (∀ k0_t47 : Fin (k0_t47_loop v34).trips, ∀ (k0_h47 : k0_cond47 v34 = 1#1), ∀ a, (k0_off360 v34 k0_t47) a + S1x16.size a ≤ S128x128.size a) ∧
  (∀ k0_t47 : Fin (k0_t47_loop v34).trips, ∀ (k0_h47 : k0_cond47 v34 = 1#1), ∀ a, (k0_off361 v34 k0_t47) a + S1x16.size a ≤ S128x128.size a) ∧
  (∀ k0_t47 : Fin (k0_t47_loop v34).trips, ∀ (k0_h47 : k0_cond47 v34 = 1#1), ∀ a, (k0_off362 v34 k0_t47) a + S1x16.size a ≤ S128x128.size a) ∧
  (∀ k0_t47 : Fin (k0_t47_loop v34).trips, ∀ (k0_h47 : k0_cond47 v34 = 1#1), ∀ a, (k0_off363 v34 k0_t47) a + S1x16.size a ≤ S128x128.size a) ∧
  (∀ (k0_h47 : k0_cond47 v34 = 1#1), (k0_t48_loop v34).OK) ∧
  (∀ k0_t48 : Fin (k0_t48_loop v34).trips, ∀ (k0_h47 : k0_cond47 v34 = 1#1), ∀ a, (k0_off364 v34 k0_t48) a + S1x16.size a ≤ S128x128.size a) ∧
  (∀ k0_t48 : Fin (k0_t48_loop v34).trips, ∀ (k0_h47 : k0_cond47 v34 = 1#1), ∀ a, (k0_off365 v34 k0_t48) a + S1x16.size a ≤ S128x128.size a) ∧
  (∀ k0_t48 : Fin (k0_t48_loop v34).trips, ∀ (k0_h47 : k0_cond47 v34 = 1#1), ∀ a, (k0_off366 v34 k0_t48) a + S1x16.size a ≤ S128x128.size a) ∧
  (∀ k0_t48 : Fin (k0_t48_loop v34).trips, ∀ (k0_h47 : k0_cond47 v34 = 1#1), ∀ a, (k0_off367 v34 k0_t48) a + S1x16.size a ≤ S128x128.size a) ∧
  (∀ k0_t48 : Fin (k0_t48_loop v34).trips, ∀ (k0_h47 : k0_cond47 v34 = 1#1), ∀ a, (k0_off368 v34 k0_t48) a + S1x16.size a ≤ S128x128.size a) ∧
  (∀ k0_t48 : Fin (k0_t48_loop v34).trips, ∀ (k0_h47 : k0_cond47 v34 = 1#1), ∀ a, (k0_off369 v34 k0_t48) a + S1x16.size a ≤ S128x128.size a) ∧
  (∀ k0_t48 : Fin (k0_t48_loop v34).trips, ∀ (k0_h47 : k0_cond47 v34 = 1#1), ∀ a, (k0_off370 v34 k0_t48) a + S1x16.size a ≤ S128x128.size a) ∧
  (∀ k0_t48 : Fin (k0_t48_loop v34).trips, ∀ (k0_h47 : k0_cond47 v34 = 1#1), ∀ a, (k0_off371 v34 k0_t48) a + S1x16.size a ≤ S128x128.size a) ∧
  (∀ (k0_h49 : k0_cond49 v34 = 1#1), (k0_t49_loop v34).OK) ∧
  (∀ k0_t49 : Fin (k0_t49_loop v34).trips, ∀ (k0_h49 : k0_cond49 v34 = 1#1), ∀ a, (k0_off372 v34 k0_t49) a + S1x16.size a ≤ S128x128.size a)
def k0_chk2_13 (v34 : BitVec 32) : Prop :=
  (∀ k0_t49 : Fin (k0_t49_loop v34).trips, ∀ (k0_h49 : k0_cond49 v34 = 1#1), ∀ a, (k0_off373 v34 k0_t49) a + S1x16.size a ≤ S128x128.size a) ∧
  (∀ k0_t49 : Fin (k0_t49_loop v34).trips, ∀ (k0_h49 : k0_cond49 v34 = 1#1), ∀ a, (k0_off374 v34 k0_t49) a + S1x16.size a ≤ S128x128.size a) ∧
  (∀ k0_t49 : Fin (k0_t49_loop v34).trips, ∀ (k0_h49 : k0_cond49 v34 = 1#1), ∀ a, (k0_off375 v34 k0_t49) a + S1x16.size a ≤ S128x128.size a) ∧
  (∀ k0_t49 : Fin (k0_t49_loop v34).trips, ∀ (k0_h49 : k0_cond49 v34 = 1#1), ∀ a, (k0_off376 v34 k0_t49) a + S1x16.size a ≤ S128x128.size a) ∧
  (∀ k0_t49 : Fin (k0_t49_loop v34).trips, ∀ (k0_h49 : k0_cond49 v34 = 1#1), ∀ a, (k0_off377 v34 k0_t49) a + S1x16.size a ≤ S128x128.size a) ∧
  (∀ k0_t49 : Fin (k0_t49_loop v34).trips, ∀ (k0_h49 : k0_cond49 v34 = 1#1), ∀ a, (k0_off378 v34 k0_t49) a + S1x16.size a ≤ S128x128.size a) ∧
  (∀ k0_t49 : Fin (k0_t49_loop v34).trips, ∀ (k0_h49 : k0_cond49 v34 = 1#1), ∀ a, (k0_off379 v34 k0_t49) a + S1x16.size a ≤ S128x128.size a) ∧
  (∀ (k0_h49 : k0_cond49 v34 = 1#1), (k0_t50_loop v34).OK) ∧
  (∀ k0_t50 : Fin (k0_t50_loop v34).trips, ∀ (k0_h49 : k0_cond49 v34 = 1#1), ∀ a, (k0_off380 v34 k0_t50) a + S1x16.size a ≤ S128x128.size a) ∧
  (∀ k0_t50 : Fin (k0_t50_loop v34).trips, ∀ (k0_h49 : k0_cond49 v34 = 1#1), ∀ a, (k0_off381 v34 k0_t50) a + S1x16.size a ≤ S128x128.size a) ∧
  (∀ k0_t50 : Fin (k0_t50_loop v34).trips, ∀ (k0_h49 : k0_cond49 v34 = 1#1), ∀ a, (k0_off382 v34 k0_t50) a + S1x16.size a ≤ S128x128.size a) ∧
  (∀ k0_t50 : Fin (k0_t50_loop v34).trips, ∀ (k0_h49 : k0_cond49 v34 = 1#1), ∀ a, (k0_off383 v34 k0_t50) a + S1x16.size a ≤ S128x128.size a) ∧
  (∀ k0_t50 : Fin (k0_t50_loop v34).trips, ∀ (k0_h49 : k0_cond49 v34 = 1#1), ∀ a, (k0_off384 v34 k0_t50) a + S1x16.size a ≤ S128x128.size a) ∧
  (∀ k0_t50 : Fin (k0_t50_loop v34).trips, ∀ (k0_h49 : k0_cond49 v34 = 1#1), ∀ a, (k0_off385 v34 k0_t50) a + S1x16.size a ≤ S128x128.size a) ∧
  (∀ k0_t50 : Fin (k0_t50_loop v34).trips, ∀ (k0_h49 : k0_cond49 v34 = 1#1), ∀ a, (k0_off386 v34 k0_t50) a + S1x16.size a ≤ S128x128.size a) ∧
  (∀ k0_t50 : Fin (k0_t50_loop v34).trips, ∀ (k0_h49 : k0_cond49 v34 = 1#1), ∀ a, (k0_off387 v34 k0_t50) a + S1x16.size a ≤ S128x128.size a) ∧
  (∀ (k0_h51 : k0_cond51 v34 = 1#1), (k0_t51_loop v34).OK) ∧
  (∀ k0_t51 : Fin (k0_t51_loop v34).trips, ∀ (k0_h51 : k0_cond51 v34 = 1#1), ∀ a, (k0_off388 v34 k0_t51) a + S1x16.size a ≤ S128x128.size a) ∧
  (∀ k0_t51 : Fin (k0_t51_loop v34).trips, ∀ (k0_h51 : k0_cond51 v34 = 1#1), ∀ a, (k0_off389 v34 k0_t51) a + S1x16.size a ≤ S128x128.size a) ∧
  (∀ k0_t51 : Fin (k0_t51_loop v34).trips, ∀ (k0_h51 : k0_cond51 v34 = 1#1), ∀ a, (k0_off390 v34 k0_t51) a + S1x16.size a ≤ S128x128.size a) ∧
  (∀ k0_t51 : Fin (k0_t51_loop v34).trips, ∀ (k0_h51 : k0_cond51 v34 = 1#1), ∀ a, (k0_off391 v34 k0_t51) a + S1x16.size a ≤ S128x128.size a) ∧
  (∀ k0_t51 : Fin (k0_t51_loop v34).trips, ∀ (k0_h51 : k0_cond51 v34 = 1#1), ∀ a, (k0_off392 v34 k0_t51) a + S1x16.size a ≤ S128x128.size a) ∧
  (∀ k0_t51 : Fin (k0_t51_loop v34).trips, ∀ (k0_h51 : k0_cond51 v34 = 1#1), ∀ a, (k0_off393 v34 k0_t51) a + S1x16.size a ≤ S128x128.size a) ∧
  (∀ k0_t51 : Fin (k0_t51_loop v34).trips, ∀ (k0_h51 : k0_cond51 v34 = 1#1), ∀ a, (k0_off394 v34 k0_t51) a + S1x16.size a ≤ S128x128.size a) ∧
  (∀ k0_t51 : Fin (k0_t51_loop v34).trips, ∀ (k0_h51 : k0_cond51 v34 = 1#1), ∀ a, (k0_off395 v34 k0_t51) a + S1x16.size a ≤ S128x128.size a) ∧
  (∀ (k0_h51 : k0_cond51 v34 = 1#1), (k0_t52_loop v34).OK) ∧
  (∀ k0_t52 : Fin (k0_t52_loop v34).trips, ∀ (k0_h51 : k0_cond51 v34 = 1#1), ∀ a, (k0_off396 v34 k0_t52) a + S1x16.size a ≤ S128x128.size a) ∧
  (∀ k0_t52 : Fin (k0_t52_loop v34).trips, ∀ (k0_h51 : k0_cond51 v34 = 1#1), ∀ a, (k0_off397 v34 k0_t52) a + S1x16.size a ≤ S128x128.size a) ∧
  (∀ k0_t52 : Fin (k0_t52_loop v34).trips, ∀ (k0_h51 : k0_cond51 v34 = 1#1), ∀ a, (k0_off398 v34 k0_t52) a + S1x16.size a ≤ S128x128.size a) ∧
  (∀ k0_t52 : Fin (k0_t52_loop v34).trips, ∀ (k0_h51 : k0_cond51 v34 = 1#1), ∀ a, (k0_off399 v34 k0_t52) a + S1x16.size a ≤ S128x128.size a) ∧
  (∀ k0_t52 : Fin (k0_t52_loop v34).trips, ∀ (k0_h51 : k0_cond51 v34 = 1#1), ∀ a, (k0_off400 v34 k0_t52) a + S1x16.size a ≤ S128x128.size a) ∧
  (∀ k0_t52 : Fin (k0_t52_loop v34).trips, ∀ (k0_h51 : k0_cond51 v34 = 1#1), ∀ a, (k0_off401 v34 k0_t52) a + S1x16.size a ≤ S128x128.size a)
def k0_chk2_14 (v34 : BitVec 32) : Prop :=
  (∀ k0_t52 : Fin (k0_t52_loop v34).trips, ∀ (k0_h51 : k0_cond51 v34 = 1#1), ∀ a, (k0_off402 v34 k0_t52) a + S1x16.size a ≤ S128x128.size a) ∧
  (∀ k0_t52 : Fin (k0_t52_loop v34).trips, ∀ (k0_h51 : k0_cond51 v34 = 1#1), ∀ a, (k0_off403 v34 k0_t52) a + S1x16.size a ≤ S128x128.size a) ∧
  (∀ (k0_h53 : k0_cond53 v34 = 1#1), (k0_t53_loop v34).OK) ∧
  (∀ k0_t53 : Fin (k0_t53_loop v34).trips, ∀ (k0_h53 : k0_cond53 v34 = 1#1), ∀ a, (k0_off404 v34 k0_t53) a + S1x16.size a ≤ S128x128.size a) ∧
  (∀ k0_t53 : Fin (k0_t53_loop v34).trips, ∀ (k0_h53 : k0_cond53 v34 = 1#1), ∀ a, (k0_off405 v34 k0_t53) a + S1x16.size a ≤ S128x128.size a) ∧
  (∀ k0_t53 : Fin (k0_t53_loop v34).trips, ∀ (k0_h53 : k0_cond53 v34 = 1#1), ∀ a, (k0_off406 v34 k0_t53) a + S1x16.size a ≤ S128x128.size a) ∧
  (∀ k0_t53 : Fin (k0_t53_loop v34).trips, ∀ (k0_h53 : k0_cond53 v34 = 1#1), ∀ a, (k0_off407 v34 k0_t53) a + S1x16.size a ≤ S128x128.size a) ∧
  (∀ k0_t53 : Fin (k0_t53_loop v34).trips, ∀ (k0_h53 : k0_cond53 v34 = 1#1), ∀ a, (k0_off408 v34 k0_t53) a + S1x16.size a ≤ S128x128.size a) ∧
  (∀ k0_t53 : Fin (k0_t53_loop v34).trips, ∀ (k0_h53 : k0_cond53 v34 = 1#1), ∀ a, (k0_off409 v34 k0_t53) a + S1x16.size a ≤ S128x128.size a) ∧
  (∀ k0_t53 : Fin (k0_t53_loop v34).trips, ∀ (k0_h53 : k0_cond53 v34 = 1#1), ∀ a, (k0_off410 v34 k0_t53) a + S1x16.size a ≤ S128x128.size a) ∧
  (∀ k0_t53 : Fin (k0_t53_loop v34).trips, ∀ (k0_h53 : k0_cond53 v34 = 1#1), ∀ a, (k0_off411 v34 k0_t53) a + S1x16.size a ≤ S128x128.size a) ∧
  (∀ (k0_h53 : k0_cond53 v34 = 1#1), (k0_t54_loop v34).OK) ∧
  (∀ k0_t54 : Fin (k0_t54_loop v34).trips, ∀ (k0_h53 : k0_cond53 v34 = 1#1), ∀ a, (k0_off412 v34 k0_t54) a + S1x16.size a ≤ S128x128.size a) ∧
  (∀ k0_t54 : Fin (k0_t54_loop v34).trips, ∀ (k0_h53 : k0_cond53 v34 = 1#1), ∀ a, (k0_off413 v34 k0_t54) a + S1x16.size a ≤ S128x128.size a) ∧
  (∀ k0_t54 : Fin (k0_t54_loop v34).trips, ∀ (k0_h53 : k0_cond53 v34 = 1#1), ∀ a, (k0_off414 v34 k0_t54) a + S1x16.size a ≤ S128x128.size a) ∧
  (∀ k0_t54 : Fin (k0_t54_loop v34).trips, ∀ (k0_h53 : k0_cond53 v34 = 1#1), ∀ a, (k0_off415 v34 k0_t54) a + S1x16.size a ≤ S128x128.size a) ∧
  (∀ k0_t54 : Fin (k0_t54_loop v34).trips, ∀ (k0_h53 : k0_cond53 v34 = 1#1), ∀ a, (k0_off416 v34 k0_t54) a + S1x16.size a ≤ S128x128.size a) ∧
  (∀ k0_t54 : Fin (k0_t54_loop v34).trips, ∀ (k0_h53 : k0_cond53 v34 = 1#1), ∀ a, (k0_off417 v34 k0_t54) a + S1x16.size a ≤ S128x128.size a) ∧
  (∀ k0_t54 : Fin (k0_t54_loop v34).trips, ∀ (k0_h53 : k0_cond53 v34 = 1#1), ∀ a, (k0_off418 v34 k0_t54) a + S1x16.size a ≤ S128x128.size a) ∧
  (∀ k0_t54 : Fin (k0_t54_loop v34).trips, ∀ (k0_h53 : k0_cond53 v34 = 1#1), ∀ a, (k0_off419 v34 k0_t54) a + S1x16.size a ≤ S128x128.size a) ∧
  (∀ (k0_h55 : k0_cond55 v34 = 1#1), (k0_t55_loop v34).OK) ∧
  (∀ k0_t55 : Fin (k0_t55_loop v34).trips, ∀ (k0_h55 : k0_cond55 v34 = 1#1), ∀ a, (k0_off420 v34 k0_t55) a + S1x16.size a ≤ S128x128.size a) ∧
  (∀ k0_t55 : Fin (k0_t55_loop v34).trips, ∀ (k0_h55 : k0_cond55 v34 = 1#1), ∀ a, (k0_off421 v34 k0_t55) a + S1x16.size a ≤ S128x128.size a) ∧
  (∀ k0_t55 : Fin (k0_t55_loop v34).trips, ∀ (k0_h55 : k0_cond55 v34 = 1#1), ∀ a, (k0_off422 v34 k0_t55) a + S1x16.size a ≤ S128x128.size a) ∧
  (∀ k0_t55 : Fin (k0_t55_loop v34).trips, ∀ (k0_h55 : k0_cond55 v34 = 1#1), ∀ a, (k0_off423 v34 k0_t55) a + S1x16.size a ≤ S128x128.size a) ∧
  (∀ k0_t55 : Fin (k0_t55_loop v34).trips, ∀ (k0_h55 : k0_cond55 v34 = 1#1), ∀ a, (k0_off424 v34 k0_t55) a + S1x16.size a ≤ S128x128.size a) ∧
  (∀ k0_t55 : Fin (k0_t55_loop v34).trips, ∀ (k0_h55 : k0_cond55 v34 = 1#1), ∀ a, (k0_off425 v34 k0_t55) a + S1x16.size a ≤ S128x128.size a) ∧
  (∀ k0_t55 : Fin (k0_t55_loop v34).trips, ∀ (k0_h55 : k0_cond55 v34 = 1#1), ∀ a, (k0_off426 v34 k0_t55) a + S1x16.size a ≤ S128x128.size a) ∧
  (∀ k0_t55 : Fin (k0_t55_loop v34).trips, ∀ (k0_h55 : k0_cond55 v34 = 1#1), ∀ a, (k0_off427 v34 k0_t55) a + S1x16.size a ≤ S128x128.size a) ∧
  (∀ (k0_h55 : k0_cond55 v34 = 1#1), (k0_t56_loop v34).OK) ∧
  (∀ k0_t56 : Fin (k0_t56_loop v34).trips, ∀ (k0_h55 : k0_cond55 v34 = 1#1), ∀ a, (k0_off428 v34 k0_t56) a + S1x16.size a ≤ S128x128.size a) ∧
  (∀ k0_t56 : Fin (k0_t56_loop v34).trips, ∀ (k0_h55 : k0_cond55 v34 = 1#1), ∀ a, (k0_off429 v34 k0_t56) a + S1x16.size a ≤ S128x128.size a)
def k0_chk2_15 (v34 : BitVec 32) : Prop :=
  (∀ k0_t56 : Fin (k0_t56_loop v34).trips, ∀ (k0_h55 : k0_cond55 v34 = 1#1), ∀ a, (k0_off430 v34 k0_t56) a + S1x16.size a ≤ S128x128.size a) ∧
  (∀ k0_t56 : Fin (k0_t56_loop v34).trips, ∀ (k0_h55 : k0_cond55 v34 = 1#1), ∀ a, (k0_off431 v34 k0_t56) a + S1x16.size a ≤ S128x128.size a) ∧
  (∀ k0_t56 : Fin (k0_t56_loop v34).trips, ∀ (k0_h55 : k0_cond55 v34 = 1#1), ∀ a, (k0_off432 v34 k0_t56) a + S1x16.size a ≤ S128x128.size a) ∧
  (∀ k0_t56 : Fin (k0_t56_loop v34).trips, ∀ (k0_h55 : k0_cond55 v34 = 1#1), ∀ a, (k0_off433 v34 k0_t56) a + S1x16.size a ≤ S128x128.size a) ∧
  (∀ k0_t56 : Fin (k0_t56_loop v34).trips, ∀ (k0_h55 : k0_cond55 v34 = 1#1), ∀ a, (k0_off434 v34 k0_t56) a + S1x16.size a ≤ S128x128.size a) ∧
  (∀ k0_t56 : Fin (k0_t56_loop v34).trips, ∀ (k0_h55 : k0_cond55 v34 = 1#1), ∀ a, (k0_off435 v34 k0_t56) a + S1x16.size a ≤ S128x128.size a) ∧
  (∀ (k0_h57 : k0_cond57 v34 = 1#1), (k0_t57_loop v34).OK) ∧
  (∀ k0_t57 : Fin (k0_t57_loop v34).trips, ∀ (k0_h57 : k0_cond57 v34 = 1#1), ∀ a, (k0_off436 v34 k0_t57) a + S1x16.size a ≤ S128x128.size a) ∧
  (∀ k0_t57 : Fin (k0_t57_loop v34).trips, ∀ (k0_h57 : k0_cond57 v34 = 1#1), ∀ a, (k0_off437 v34 k0_t57) a + S1x16.size a ≤ S128x128.size a) ∧
  (∀ k0_t57 : Fin (k0_t57_loop v34).trips, ∀ (k0_h57 : k0_cond57 v34 = 1#1), ∀ a, (k0_off438 v34 k0_t57) a + S1x16.size a ≤ S128x128.size a) ∧
  (∀ k0_t57 : Fin (k0_t57_loop v34).trips, ∀ (k0_h57 : k0_cond57 v34 = 1#1), ∀ a, (k0_off439 v34 k0_t57) a + S1x16.size a ≤ S128x128.size a) ∧
  (∀ k0_t57 : Fin (k0_t57_loop v34).trips, ∀ (k0_h57 : k0_cond57 v34 = 1#1), ∀ a, (k0_off440 v34 k0_t57) a + S1x16.size a ≤ S128x128.size a) ∧
  (∀ k0_t57 : Fin (k0_t57_loop v34).trips, ∀ (k0_h57 : k0_cond57 v34 = 1#1), ∀ a, (k0_off441 v34 k0_t57) a + S1x16.size a ≤ S128x128.size a) ∧
  (∀ k0_t57 : Fin (k0_t57_loop v34).trips, ∀ (k0_h57 : k0_cond57 v34 = 1#1), ∀ a, (k0_off442 v34 k0_t57) a + S1x16.size a ≤ S128x128.size a) ∧
  (∀ k0_t57 : Fin (k0_t57_loop v34).trips, ∀ (k0_h57 : k0_cond57 v34 = 1#1), ∀ a, (k0_off443 v34 k0_t57) a + S1x16.size a ≤ S128x128.size a) ∧
  (∀ (k0_h57 : k0_cond57 v34 = 1#1), (k0_t58_loop v34).OK) ∧
  (∀ k0_t58 : Fin (k0_t58_loop v34).trips, ∀ (k0_h57 : k0_cond57 v34 = 1#1), ∀ a, (k0_off444 v34 k0_t58) a + S1x16.size a ≤ S128x128.size a) ∧
  (∀ k0_t58 : Fin (k0_t58_loop v34).trips, ∀ (k0_h57 : k0_cond57 v34 = 1#1), ∀ a, (k0_off445 v34 k0_t58) a + S1x16.size a ≤ S128x128.size a) ∧
  (∀ k0_t58 : Fin (k0_t58_loop v34).trips, ∀ (k0_h57 : k0_cond57 v34 = 1#1), ∀ a, (k0_off446 v34 k0_t58) a + S1x16.size a ≤ S128x128.size a) ∧
  (∀ k0_t58 : Fin (k0_t58_loop v34).trips, ∀ (k0_h57 : k0_cond57 v34 = 1#1), ∀ a, (k0_off447 v34 k0_t58) a + S1x16.size a ≤ S128x128.size a) ∧
  (∀ k0_t58 : Fin (k0_t58_loop v34).trips, ∀ (k0_h57 : k0_cond57 v34 = 1#1), ∀ a, (k0_off448 v34 k0_t58) a + S1x16.size a ≤ S128x128.size a) ∧
  (∀ k0_t58 : Fin (k0_t58_loop v34).trips, ∀ (k0_h57 : k0_cond57 v34 = 1#1), ∀ a, (k0_off449 v34 k0_t58) a + S1x16.size a ≤ S128x128.size a) ∧
  (∀ k0_t58 : Fin (k0_t58_loop v34).trips, ∀ (k0_h57 : k0_cond57 v34 = 1#1), ∀ a, (k0_off450 v34 k0_t58) a + S1x16.size a ≤ S128x128.size a) ∧
  (∀ k0_t58 : Fin (k0_t58_loop v34).trips, ∀ (k0_h57 : k0_cond57 v34 = 1#1), ∀ a, (k0_off451 v34 k0_t58) a + S1x16.size a ≤ S128x128.size a) ∧
  (∀ (k0_h59 : k0_cond59 v34 = 1#1), (k0_t59_loop v34).OK) ∧
  (∀ k0_t59 : Fin (k0_t59_loop v34).trips, ∀ (k0_h59 : k0_cond59 v34 = 1#1), ∀ a, (k0_off452 v34 k0_t59) a + S1x16.size a ≤ S128x128.size a) ∧
  (∀ k0_t59 : Fin (k0_t59_loop v34).trips, ∀ (k0_h59 : k0_cond59 v34 = 1#1), ∀ a, (k0_off453 v34 k0_t59) a + S1x16.size a ≤ S128x128.size a) ∧
  (∀ k0_t59 : Fin (k0_t59_loop v34).trips, ∀ (k0_h59 : k0_cond59 v34 = 1#1), ∀ a, (k0_off454 v34 k0_t59) a + S1x16.size a ≤ S128x128.size a) ∧
  (∀ k0_t59 : Fin (k0_t59_loop v34).trips, ∀ (k0_h59 : k0_cond59 v34 = 1#1), ∀ a, (k0_off455 v34 k0_t59) a + S1x16.size a ≤ S128x128.size a) ∧
  (∀ k0_t59 : Fin (k0_t59_loop v34).trips, ∀ (k0_h59 : k0_cond59 v34 = 1#1), ∀ a, (k0_off456 v34 k0_t59) a + S1x16.size a ≤ S128x128.size a) ∧
  (∀ k0_t59 : Fin (k0_t59_loop v34).trips, ∀ (k0_h59 : k0_cond59 v34 = 1#1), ∀ a, (k0_off457 v34 k0_t59) a + S1x16.size a ≤ S128x128.size a) ∧
  (∀ k0_t59 : Fin (k0_t59_loop v34).trips, ∀ (k0_h59 : k0_cond59 v34 = 1#1), ∀ a, (k0_off458 v34 k0_t59) a + S1x16.size a ≤ S128x128.size a)
def k0_chk2_16 (v34 : BitVec 32) : Prop :=
  (∀ k0_t59 : Fin (k0_t59_loop v34).trips, ∀ (k0_h59 : k0_cond59 v34 = 1#1), ∀ a, (k0_off459 v34 k0_t59) a + S1x16.size a ≤ S128x128.size a) ∧
  (∀ (k0_h59 : k0_cond59 v34 = 1#1), (k0_t60_loop v34).OK) ∧
  (∀ k0_t60 : Fin (k0_t60_loop v34).trips, ∀ (k0_h59 : k0_cond59 v34 = 1#1), ∀ a, (k0_off460 v34 k0_t60) a + S1x16.size a ≤ S128x128.size a) ∧
  (∀ k0_t60 : Fin (k0_t60_loop v34).trips, ∀ (k0_h59 : k0_cond59 v34 = 1#1), ∀ a, (k0_off461 v34 k0_t60) a + S1x16.size a ≤ S128x128.size a) ∧
  (∀ k0_t60 : Fin (k0_t60_loop v34).trips, ∀ (k0_h59 : k0_cond59 v34 = 1#1), ∀ a, (k0_off462 v34 k0_t60) a + S1x16.size a ≤ S128x128.size a) ∧
  (∀ k0_t60 : Fin (k0_t60_loop v34).trips, ∀ (k0_h59 : k0_cond59 v34 = 1#1), ∀ a, (k0_off463 v34 k0_t60) a + S1x16.size a ≤ S128x128.size a) ∧
  (∀ k0_t60 : Fin (k0_t60_loop v34).trips, ∀ (k0_h59 : k0_cond59 v34 = 1#1), ∀ a, (k0_off464 v34 k0_t60) a + S1x16.size a ≤ S128x128.size a) ∧
  (∀ k0_t60 : Fin (k0_t60_loop v34).trips, ∀ (k0_h59 : k0_cond59 v34 = 1#1), ∀ a, (k0_off465 v34 k0_t60) a + S1x16.size a ≤ S128x128.size a) ∧
  (∀ k0_t60 : Fin (k0_t60_loop v34).trips, ∀ (k0_h59 : k0_cond59 v34 = 1#1), ∀ a, (k0_off466 v34 k0_t60) a + S1x16.size a ≤ S128x128.size a) ∧
  (∀ k0_t60 : Fin (k0_t60_loop v34).trips, ∀ (k0_h59 : k0_cond59 v34 = 1#1), ∀ a, (k0_off467 v34 k0_t60) a + S1x16.size a ≤ S128x128.size a) ∧
  (∀ (k0_h61 : k0_cond61 v34 = 1#1), (k0_t61_loop v34).OK) ∧
  (∀ k0_t61 : Fin (k0_t61_loop v34).trips, ∀ (k0_h61 : k0_cond61 v34 = 1#1), ∀ a, (k0_off468 v34 k0_t61) a + S1x16.size a ≤ S128x128.size a) ∧
  (∀ k0_t61 : Fin (k0_t61_loop v34).trips, ∀ (k0_h61 : k0_cond61 v34 = 1#1), ∀ a, (k0_off469 v34 k0_t61) a + S1x16.size a ≤ S128x128.size a) ∧
  (∀ k0_t61 : Fin (k0_t61_loop v34).trips, ∀ (k0_h61 : k0_cond61 v34 = 1#1), ∀ a, (k0_off470 v34 k0_t61) a + S1x16.size a ≤ S128x128.size a) ∧
  (∀ k0_t61 : Fin (k0_t61_loop v34).trips, ∀ (k0_h61 : k0_cond61 v34 = 1#1), ∀ a, (k0_off471 v34 k0_t61) a + S1x16.size a ≤ S128x128.size a) ∧
  (∀ k0_t61 : Fin (k0_t61_loop v34).trips, ∀ (k0_h61 : k0_cond61 v34 = 1#1), ∀ a, (k0_off472 v34 k0_t61) a + S1x16.size a ≤ S128x128.size a) ∧
  (∀ k0_t61 : Fin (k0_t61_loop v34).trips, ∀ (k0_h61 : k0_cond61 v34 = 1#1), ∀ a, (k0_off473 v34 k0_t61) a + S1x16.size a ≤ S128x128.size a) ∧
  (∀ k0_t61 : Fin (k0_t61_loop v34).trips, ∀ (k0_h61 : k0_cond61 v34 = 1#1), ∀ a, (k0_off474 v34 k0_t61) a + S1x16.size a ≤ S128x128.size a) ∧
  (∀ k0_t61 : Fin (k0_t61_loop v34).trips, ∀ (k0_h61 : k0_cond61 v34 = 1#1), ∀ a, (k0_off475 v34 k0_t61) a + S1x16.size a ≤ S128x128.size a) ∧
  (∀ (k0_h61 : k0_cond61 v34 = 1#1), (k0_t62_loop v34).OK) ∧
  (∀ k0_t62 : Fin (k0_t62_loop v34).trips, ∀ (k0_h61 : k0_cond61 v34 = 1#1), ∀ a, (k0_off476 v34 k0_t62) a + S1x16.size a ≤ S128x128.size a) ∧
  (∀ k0_t62 : Fin (k0_t62_loop v34).trips, ∀ (k0_h61 : k0_cond61 v34 = 1#1), ∀ a, (k0_off477 v34 k0_t62) a + S1x16.size a ≤ S128x128.size a) ∧
  (∀ k0_t62 : Fin (k0_t62_loop v34).trips, ∀ (k0_h61 : k0_cond61 v34 = 1#1), ∀ a, (k0_off478 v34 k0_t62) a + S1x16.size a ≤ S128x128.size a) ∧
  (∀ k0_t62 : Fin (k0_t62_loop v34).trips, ∀ (k0_h61 : k0_cond61 v34 = 1#1), ∀ a, (k0_off479 v34 k0_t62) a + S1x16.size a ≤ S128x128.size a) ∧
  (∀ k0_t62 : Fin (k0_t62_loop v34).trips, ∀ (k0_h61 : k0_cond61 v34 = 1#1), ∀ a, (k0_off480 v34 k0_t62) a + S1x16.size a ≤ S128x128.size a) ∧
  (∀ k0_t62 : Fin (k0_t62_loop v34).trips, ∀ (k0_h61 : k0_cond61 v34 = 1#1), ∀ a, (k0_off481 v34 k0_t62) a + S1x16.size a ≤ S128x128.size a) ∧
  (∀ k0_t62 : Fin (k0_t62_loop v34).trips, ∀ (k0_h61 : k0_cond61 v34 = 1#1), ∀ a, (k0_off482 v34 k0_t62) a + S1x16.size a ≤ S128x128.size a) ∧
  (∀ k0_t62 : Fin (k0_t62_loop v34).trips, ∀ (k0_h61 : k0_cond61 v34 = 1#1), ∀ a, (k0_off483 v34 k0_t62) a + S1x16.size a ≤ S128x128.size a) ∧
  (∀ (k0_h63 : k0_cond63 v34 = 1#1), (k0_t63_loop v34).OK) ∧
  (∀ k0_t63 : Fin (k0_t63_loop v34).trips, ∀ (k0_h63 : k0_cond63 v34 = 1#1), ∀ a, (k0_off484 v34 k0_t63) a + S1x16.size a ≤ S128x128.size a) ∧
  (∀ k0_t63 : Fin (k0_t63_loop v34).trips, ∀ (k0_h63 : k0_cond63 v34 = 1#1), ∀ a, (k0_off485 v34 k0_t63) a + S1x16.size a ≤ S128x128.size a) ∧
  (∀ k0_t63 : Fin (k0_t63_loop v34).trips, ∀ (k0_h63 : k0_cond63 v34 = 1#1), ∀ a, (k0_off486 v34 k0_t63) a + S1x16.size a ≤ S128x128.size a)
def k0_chk2_17 (v34 : BitVec 32) : Prop :=
  (∀ k0_t63 : Fin (k0_t63_loop v34).trips, ∀ (k0_h63 : k0_cond63 v34 = 1#1), ∀ a, (k0_off487 v34 k0_t63) a + S1x16.size a ≤ S128x128.size a) ∧
  (∀ k0_t63 : Fin (k0_t63_loop v34).trips, ∀ (k0_h63 : k0_cond63 v34 = 1#1), ∀ a, (k0_off488 v34 k0_t63) a + S1x16.size a ≤ S128x128.size a) ∧
  (∀ k0_t63 : Fin (k0_t63_loop v34).trips, ∀ (k0_h63 : k0_cond63 v34 = 1#1), ∀ a, (k0_off489 v34 k0_t63) a + S1x16.size a ≤ S128x128.size a) ∧
  (∀ k0_t63 : Fin (k0_t63_loop v34).trips, ∀ (k0_h63 : k0_cond63 v34 = 1#1), ∀ a, (k0_off490 v34 k0_t63) a + S1x16.size a ≤ S128x128.size a) ∧
  (∀ k0_t63 : Fin (k0_t63_loop v34).trips, ∀ (k0_h63 : k0_cond63 v34 = 1#1), ∀ a, (k0_off491 v34 k0_t63) a + S1x16.size a ≤ S128x128.size a) ∧
  (∀ (k0_h63 : k0_cond63 v34 = 1#1), (k0_t64_loop v34).OK) ∧
  (∀ k0_t64 : Fin (k0_t64_loop v34).trips, ∀ (k0_h63 : k0_cond63 v34 = 1#1), ∀ a, (k0_off492 v34 k0_t64) a + S1x16.size a ≤ S128x128.size a) ∧
  (∀ k0_t64 : Fin (k0_t64_loop v34).trips, ∀ (k0_h63 : k0_cond63 v34 = 1#1), ∀ a, (k0_off493 v34 k0_t64) a + S1x16.size a ≤ S128x128.size a) ∧
  (∀ k0_t64 : Fin (k0_t64_loop v34).trips, ∀ (k0_h63 : k0_cond63 v34 = 1#1), ∀ a, (k0_off494 v34 k0_t64) a + S1x16.size a ≤ S128x128.size a) ∧
  (∀ k0_t64 : Fin (k0_t64_loop v34).trips, ∀ (k0_h63 : k0_cond63 v34 = 1#1), ∀ a, (k0_off495 v34 k0_t64) a + S1x16.size a ≤ S128x128.size a) ∧
  (∀ k0_t64 : Fin (k0_t64_loop v34).trips, ∀ (k0_h63 : k0_cond63 v34 = 1#1), ∀ a, (k0_off496 v34 k0_t64) a + S1x16.size a ≤ S128x128.size a) ∧
  (∀ k0_t64 : Fin (k0_t64_loop v34).trips, ∀ (k0_h63 : k0_cond63 v34 = 1#1), ∀ a, (k0_off497 v34 k0_t64) a + S1x16.size a ≤ S128x128.size a) ∧
  (∀ k0_t64 : Fin (k0_t64_loop v34).trips, ∀ (k0_h63 : k0_cond63 v34 = 1#1), ∀ a, (k0_off498 v34 k0_t64) a + S1x16.size a ≤ S128x128.size a) ∧
  (∀ k0_t64 : Fin (k0_t64_loop v34).trips, ∀ (k0_h63 : k0_cond63 v34 = 1#1), ∀ a, (k0_off499 v34 k0_t64) a + S1x16.size a ≤ S128x128.size a) ∧
  (∀ (k0_h64 : k0_cond64 v34 = 1#1), (k0_t65_loop v34).OK) ∧
  (∀ k0_t65 : Fin (k0_t65_loop v34).trips, ∀ (k0_h64 : k0_cond64 v34 = 1#1), ∀ a, (k0_off500 v34 k0_t65) a + S1x16.size a ≤ S128x128.size a) ∧
  (∀ k0_t65 : Fin (k0_t65_loop v34).trips, ∀ (k0_h64 : k0_cond64 v34 = 1#1), ∀ a, (k0_off501 v34 k0_t65) a + S1x16.size a ≤ S128x128.size a) ∧
  (∀ k0_t65 : Fin (k0_t65_loop v34).trips, ∀ (k0_h64 : k0_cond64 v34 = 1#1), ∀ a, (k0_off502 v34 k0_t65) a + S1x16.size a ≤ S128x128.size a) ∧
  (∀ k0_t65 : Fin (k0_t65_loop v34).trips, ∀ (k0_h64 : k0_cond64 v34 = 1#1), ∀ a, (k0_off503 v34 k0_t65) a + S1x16.size a ≤ S128x128.size a) ∧
  (∀ k0_t65 : Fin (k0_t65_loop v34).trips, ∀ (k0_h64 : k0_cond64 v34 = 1#1), ∀ a, (k0_off504 v34 k0_t65) a + S1x16.size a ≤ S128x128.size a) ∧
  (∀ k0_t65 : Fin (k0_t65_loop v34).trips, ∀ (k0_h64 : k0_cond64 v34 = 1#1), ∀ a, (k0_off505 v34 k0_t65) a + S1x16.size a ≤ S128x128.size a) ∧
  (∀ k0_t65 : Fin (k0_t65_loop v34).trips, ∀ (k0_h64 : k0_cond64 v34 = 1#1), ∀ a, (k0_off506 v34 k0_t65) a + S1x16.size a ≤ S128x128.size a) ∧
  (∀ k0_t65 : Fin (k0_t65_loop v34).trips, ∀ (k0_h64 : k0_cond64 v34 = 1#1), ∀ a, (k0_off507 v34 k0_t65) a + S1x16.size a ≤ S128x128.size a) ∧
  (∀ (k0_h64 : k0_cond64 v34 = 1#1), (k0_t66_loop v34).OK) ∧
  (∀ k0_t66 : Fin (k0_t66_loop v34).trips, ∀ (k0_h64 : k0_cond64 v34 = 1#1), ∀ a, (k0_off508 v34 k0_t66) a + S1x16.size a ≤ S128x128.size a) ∧
  (∀ k0_t66 : Fin (k0_t66_loop v34).trips, ∀ (k0_h64 : k0_cond64 v34 = 1#1), ∀ a, (k0_off509 v34 k0_t66) a + S1x16.size a ≤ S128x128.size a) ∧
  (∀ k0_t66 : Fin (k0_t66_loop v34).trips, ∀ (k0_h64 : k0_cond64 v34 = 1#1), ∀ a, (k0_off510 v34 k0_t66) a + S1x16.size a ≤ S128x128.size a) ∧
  (∀ k0_t66 : Fin (k0_t66_loop v34).trips, ∀ (k0_h64 : k0_cond64 v34 = 1#1), ∀ a, (k0_off511 v34 k0_t66) a + S1x16.size a ≤ S128x128.size a) ∧
  (∀ k0_t66 : Fin (k0_t66_loop v34).trips, ∀ (k0_h64 : k0_cond64 v34 = 1#1), ∀ a, (k0_off512 v34 k0_t66) a + S1x16.size a ≤ S128x128.size a) ∧
  (∀ k0_t66 : Fin (k0_t66_loop v34).trips, ∀ (k0_h64 : k0_cond64 v34 = 1#1), ∀ a, (k0_off513 v34 k0_t66) a + S1x16.size a ≤ S128x128.size a) ∧
  (∀ k0_t66 : Fin (k0_t66_loop v34).trips, ∀ (k0_h64 : k0_cond64 v34 = 1#1), ∀ a, (k0_off514 v34 k0_t66) a + S1x16.size a ≤ S128x128.size a) ∧
  (∀ k0_t66 : Fin (k0_t66_loop v34).trips, ∀ (k0_h64 : k0_cond64 v34 = 1#1), ∀ a, (k0_off515 v34 k0_t66) a + S1x16.size a ≤ S128x128.size a)
def k0_chk2 (v34 : BitVec 32) : Prop :=
  k0_chk2_0 v34 ∧
  k0_chk2_1 v34 ∧
  k0_chk2_2 v34 ∧
  k0_chk2_3 v34 ∧
  k0_chk2_4 v34 ∧
  k0_chk2_5 v34 ∧
  k0_chk2_6 v34 ∧
  k0_chk2_7 v34 ∧
  k0_chk2_8 v34 ∧
  k0_chk2_9 v34 ∧
  k0_chk2_10 v34 ∧
  k0_chk2_11 v34 ∧
  k0_chk2_12 v34 ∧
  k0_chk2_13 v34 ∧
  k0_chk2_14 v34 ∧
  k0_chk2_15 v34 ∧
  k0_chk2_16 v34 ∧
  k0_chk2_17 v34
theorem k0_t3_ok : ∀ (v34 : BitVec 32) (k0_hw2 : k0_chk2 v34), ∀ (k0_h3 : k0_cond3 v34 = 1#1), (k0_t3_loop v34).OK := fun v34 k0_hw2 k0_h3 => k0_hw2.1.1 k0_h3
theorem k0_off4_inb : ∀ (v34 : BitVec 32) (k0_hw2 : k0_chk2 v34) (k0_t3 : Fin (k0_t3_loop v34).trips), ∀ (k0_h3 : k0_cond3 v34 = 1#1), ∀ a, (k0_off4 v34 k0_t3) a + S1x16.size a ≤ S128x128.size a := fun v34 k0_hw2 k0_t3 k0_h3 => k0_hw2.1.2.1 k0_t3 k0_h3
theorem k0_off5_inb : ∀ (v34 : BitVec 32) (k0_hw2 : k0_chk2 v34) (k0_t3 : Fin (k0_t3_loop v34).trips), ∀ (k0_h3 : k0_cond3 v34 = 1#1), ∀ a, (k0_off5 v34 k0_t3) a + S1x16.size a ≤ S128x128.size a := fun v34 k0_hw2 k0_t3 k0_h3 => k0_hw2.1.2.2.1 k0_t3 k0_h3
theorem k0_off6_inb : ∀ (v34 : BitVec 32) (k0_hw2 : k0_chk2 v34) (k0_t3 : Fin (k0_t3_loop v34).trips), ∀ (k0_h3 : k0_cond3 v34 = 1#1), ∀ a, (k0_off6 v34 k0_t3) a + S1x16.size a ≤ S128x128.size a := fun v34 k0_hw2 k0_t3 k0_h3 => k0_hw2.1.2.2.2.1 k0_t3 k0_h3
theorem k0_off7_inb : ∀ (v34 : BitVec 32) (k0_hw2 : k0_chk2 v34) (k0_t3 : Fin (k0_t3_loop v34).trips), ∀ (k0_h3 : k0_cond3 v34 = 1#1), ∀ a, (k0_off7 v34 k0_t3) a + S1x16.size a ≤ S128x128.size a := fun v34 k0_hw2 k0_t3 k0_h3 => k0_hw2.1.2.2.2.2.1 k0_t3 k0_h3
theorem k0_off8_inb : ∀ (v34 : BitVec 32) (k0_hw2 : k0_chk2 v34) (k0_t3 : Fin (k0_t3_loop v34).trips), ∀ (k0_h3 : k0_cond3 v34 = 1#1), ∀ a, (k0_off8 v34 k0_t3) a + S1x16.size a ≤ S128x128.size a := fun v34 k0_hw2 k0_t3 k0_h3 => k0_hw2.1.2.2.2.2.2.1 k0_t3 k0_h3
theorem k0_off9_inb : ∀ (v34 : BitVec 32) (k0_hw2 : k0_chk2 v34) (k0_t3 : Fin (k0_t3_loop v34).trips), ∀ (k0_h3 : k0_cond3 v34 = 1#1), ∀ a, (k0_off9 v34 k0_t3) a + S1x16.size a ≤ S128x128.size a := fun v34 k0_hw2 k0_t3 k0_h3 => k0_hw2.1.2.2.2.2.2.2.1 k0_t3 k0_h3
theorem k0_off10_inb : ∀ (v34 : BitVec 32) (k0_hw2 : k0_chk2 v34) (k0_t3 : Fin (k0_t3_loop v34).trips), ∀ (k0_h3 : k0_cond3 v34 = 1#1), ∀ a, (k0_off10 v34 k0_t3) a + S1x16.size a ≤ S128x128.size a := fun v34 k0_hw2 k0_t3 k0_h3 => k0_hw2.1.2.2.2.2.2.2.2.1 k0_t3 k0_h3
theorem k0_off11_inb : ∀ (v34 : BitVec 32) (k0_hw2 : k0_chk2 v34) (k0_t3 : Fin (k0_t3_loop v34).trips), ∀ (k0_h3 : k0_cond3 v34 = 1#1), ∀ a, (k0_off11 v34 k0_t3) a + S1x16.size a ≤ S128x128.size a := fun v34 k0_hw2 k0_t3 k0_h3 => k0_hw2.1.2.2.2.2.2.2.2.2.1 k0_t3 k0_h3
theorem k0_t4_ok : ∀ (v34 : BitVec 32) (k0_hw2 : k0_chk2 v34), ∀ (k0_h3 : k0_cond3 v34 = 1#1), (k0_t4_loop v34).OK := fun v34 k0_hw2 k0_h3 => k0_hw2.1.2.2.2.2.2.2.2.2.2.1 k0_h3
theorem k0_off12_inb : ∀ (v34 : BitVec 32) (k0_hw2 : k0_chk2 v34) (k0_t4 : Fin (k0_t4_loop v34).trips), ∀ (k0_h3 : k0_cond3 v34 = 1#1), ∀ a, (k0_off12 v34 k0_t4) a + S1x16.size a ≤ S128x128.size a := fun v34 k0_hw2 k0_t4 k0_h3 => k0_hw2.1.2.2.2.2.2.2.2.2.2.2.1 k0_t4 k0_h3
theorem k0_off13_inb : ∀ (v34 : BitVec 32) (k0_hw2 : k0_chk2 v34) (k0_t4 : Fin (k0_t4_loop v34).trips), ∀ (k0_h3 : k0_cond3 v34 = 1#1), ∀ a, (k0_off13 v34 k0_t4) a + S1x16.size a ≤ S128x128.size a := fun v34 k0_hw2 k0_t4 k0_h3 => k0_hw2.1.2.2.2.2.2.2.2.2.2.2.2.1 k0_t4 k0_h3
theorem k0_off14_inb : ∀ (v34 : BitVec 32) (k0_hw2 : k0_chk2 v34) (k0_t4 : Fin (k0_t4_loop v34).trips), ∀ (k0_h3 : k0_cond3 v34 = 1#1), ∀ a, (k0_off14 v34 k0_t4) a + S1x16.size a ≤ S128x128.size a := fun v34 k0_hw2 k0_t4 k0_h3 => k0_hw2.1.2.2.2.2.2.2.2.2.2.2.2.2.1 k0_t4 k0_h3
theorem k0_off15_inb : ∀ (v34 : BitVec 32) (k0_hw2 : k0_chk2 v34) (k0_t4 : Fin (k0_t4_loop v34).trips), ∀ (k0_h3 : k0_cond3 v34 = 1#1), ∀ a, (k0_off15 v34 k0_t4) a + S1x16.size a ≤ S128x128.size a := fun v34 k0_hw2 k0_t4 k0_h3 => k0_hw2.1.2.2.2.2.2.2.2.2.2.2.2.2.2.1 k0_t4 k0_h3
theorem k0_off16_inb : ∀ (v34 : BitVec 32) (k0_hw2 : k0_chk2 v34) (k0_t4 : Fin (k0_t4_loop v34).trips), ∀ (k0_h3 : k0_cond3 v34 = 1#1), ∀ a, (k0_off16 v34 k0_t4) a + S1x16.size a ≤ S128x128.size a := fun v34 k0_hw2 k0_t4 k0_h3 => k0_hw2.1.2.2.2.2.2.2.2.2.2.2.2.2.2.2.1 k0_t4 k0_h3
theorem k0_off17_inb : ∀ (v34 : BitVec 32) (k0_hw2 : k0_chk2 v34) (k0_t4 : Fin (k0_t4_loop v34).trips), ∀ (k0_h3 : k0_cond3 v34 = 1#1), ∀ a, (k0_off17 v34 k0_t4) a + S1x16.size a ≤ S128x128.size a := fun v34 k0_hw2 k0_t4 k0_h3 => k0_hw2.1.2.2.2.2.2.2.2.2.2.2.2.2.2.2.2.1 k0_t4 k0_h3
theorem k0_off18_inb : ∀ (v34 : BitVec 32) (k0_hw2 : k0_chk2 v34) (k0_t4 : Fin (k0_t4_loop v34).trips), ∀ (k0_h3 : k0_cond3 v34 = 1#1), ∀ a, (k0_off18 v34 k0_t4) a + S1x16.size a ≤ S128x128.size a := fun v34 k0_hw2 k0_t4 k0_h3 => k0_hw2.1.2.2.2.2.2.2.2.2.2.2.2.2.2.2.2.2.1 k0_t4 k0_h3
theorem k0_off19_inb : ∀ (v34 : BitVec 32) (k0_hw2 : k0_chk2 v34) (k0_t4 : Fin (k0_t4_loop v34).trips), ∀ (k0_h3 : k0_cond3 v34 = 1#1), ∀ a, (k0_off19 v34 k0_t4) a + S1x16.size a ≤ S128x128.size a := fun v34 k0_hw2 k0_t4 k0_h3 => k0_hw2.1.2.2.2.2.2.2.2.2.2.2.2.2.2.2.2.2.2.1 k0_t4 k0_h3
theorem k0_t5_ok : ∀ (v34 : BitVec 32) (k0_hw2 : k0_chk2 v34), ∀ (k0_h5 : k0_cond5 v34 = 1#1), (k0_t5_loop v34).OK := fun v34 k0_hw2 k0_h5 => k0_hw2.1.2.2.2.2.2.2.2.2.2.2.2.2.2.2.2.2.2.2.1 k0_h5
theorem k0_off20_inb : ∀ (v34 : BitVec 32) (k0_hw2 : k0_chk2 v34) (k0_t5 : Fin (k0_t5_loop v34).trips), ∀ (k0_h5 : k0_cond5 v34 = 1#1), ∀ a, (k0_off20 v34 k0_t5) a + S1x16.size a ≤ S128x128.size a := fun v34 k0_hw2 k0_t5 k0_h5 => k0_hw2.1.2.2.2.2.2.2.2.2.2.2.2.2.2.2.2.2.2.2.2.1 k0_t5 k0_h5
theorem k0_off21_inb : ∀ (v34 : BitVec 32) (k0_hw2 : k0_chk2 v34) (k0_t5 : Fin (k0_t5_loop v34).trips), ∀ (k0_h5 : k0_cond5 v34 = 1#1), ∀ a, (k0_off21 v34 k0_t5) a + S1x16.size a ≤ S128x128.size a := fun v34 k0_hw2 k0_t5 k0_h5 => k0_hw2.1.2.2.2.2.2.2.2.2.2.2.2.2.2.2.2.2.2.2.2.2.1 k0_t5 k0_h5
theorem k0_off22_inb : ∀ (v34 : BitVec 32) (k0_hw2 : k0_chk2 v34) (k0_t5 : Fin (k0_t5_loop v34).trips), ∀ (k0_h5 : k0_cond5 v34 = 1#1), ∀ a, (k0_off22 v34 k0_t5) a + S1x16.size a ≤ S128x128.size a := fun v34 k0_hw2 k0_t5 k0_h5 => k0_hw2.1.2.2.2.2.2.2.2.2.2.2.2.2.2.2.2.2.2.2.2.2.2.1 k0_t5 k0_h5
theorem k0_off23_inb : ∀ (v34 : BitVec 32) (k0_hw2 : k0_chk2 v34) (k0_t5 : Fin (k0_t5_loop v34).trips), ∀ (k0_h5 : k0_cond5 v34 = 1#1), ∀ a, (k0_off23 v34 k0_t5) a + S1x16.size a ≤ S128x128.size a := fun v34 k0_hw2 k0_t5 k0_h5 => k0_hw2.1.2.2.2.2.2.2.2.2.2.2.2.2.2.2.2.2.2.2.2.2.2.2.1 k0_t5 k0_h5
theorem k0_off24_inb : ∀ (v34 : BitVec 32) (k0_hw2 : k0_chk2 v34) (k0_t5 : Fin (k0_t5_loop v34).trips), ∀ (k0_h5 : k0_cond5 v34 = 1#1), ∀ a, (k0_off24 v34 k0_t5) a + S1x16.size a ≤ S128x128.size a := fun v34 k0_hw2 k0_t5 k0_h5 => k0_hw2.1.2.2.2.2.2.2.2.2.2.2.2.2.2.2.2.2.2.2.2.2.2.2.2.1 k0_t5 k0_h5
theorem k0_off25_inb : ∀ (v34 : BitVec 32) (k0_hw2 : k0_chk2 v34) (k0_t5 : Fin (k0_t5_loop v34).trips), ∀ (k0_h5 : k0_cond5 v34 = 1#1), ∀ a, (k0_off25 v34 k0_t5) a + S1x16.size a ≤ S128x128.size a := fun v34 k0_hw2 k0_t5 k0_h5 => k0_hw2.1.2.2.2.2.2.2.2.2.2.2.2.2.2.2.2.2.2.2.2.2.2.2.2.2.1 k0_t5 k0_h5
theorem k0_off26_inb : ∀ (v34 : BitVec 32) (k0_hw2 : k0_chk2 v34) (k0_t5 : Fin (k0_t5_loop v34).trips), ∀ (k0_h5 : k0_cond5 v34 = 1#1), ∀ a, (k0_off26 v34 k0_t5) a + S1x16.size a ≤ S128x128.size a := fun v34 k0_hw2 k0_t5 k0_h5 => k0_hw2.1.2.2.2.2.2.2.2.2.2.2.2.2.2.2.2.2.2.2.2.2.2.2.2.2.2.1 k0_t5 k0_h5
theorem k0_off27_inb : ∀ (v34 : BitVec 32) (k0_hw2 : k0_chk2 v34) (k0_t5 : Fin (k0_t5_loop v34).trips), ∀ (k0_h5 : k0_cond5 v34 = 1#1), ∀ a, (k0_off27 v34 k0_t5) a + S1x16.size a ≤ S128x128.size a := fun v34 k0_hw2 k0_t5 k0_h5 => k0_hw2.1.2.2.2.2.2.2.2.2.2.2.2.2.2.2.2.2.2.2.2.2.2.2.2.2.2.2.1 k0_t5 k0_h5
theorem k0_t6_ok : ∀ (v34 : BitVec 32) (k0_hw2 : k0_chk2 v34), ∀ (k0_h5 : k0_cond5 v34 = 1#1), (k0_t6_loop v34).OK := fun v34 k0_hw2 k0_h5 => k0_hw2.1.2.2.2.2.2.2.2.2.2.2.2.2.2.2.2.2.2.2.2.2.2.2.2.2.2.2.2.1 k0_h5
theorem k0_off28_inb : ∀ (v34 : BitVec 32) (k0_hw2 : k0_chk2 v34) (k0_t6 : Fin (k0_t6_loop v34).trips), ∀ (k0_h5 : k0_cond5 v34 = 1#1), ∀ a, (k0_off28 v34 k0_t6) a + S1x16.size a ≤ S128x128.size a := fun v34 k0_hw2 k0_t6 k0_h5 => k0_hw2.1.2.2.2.2.2.2.2.2.2.2.2.2.2.2.2.2.2.2.2.2.2.2.2.2.2.2.2.2.1 k0_t6 k0_h5
theorem k0_off29_inb : ∀ (v34 : BitVec 32) (k0_hw2 : k0_chk2 v34) (k0_t6 : Fin (k0_t6_loop v34).trips), ∀ (k0_h5 : k0_cond5 v34 = 1#1), ∀ a, (k0_off29 v34 k0_t6) a + S1x16.size a ≤ S128x128.size a := fun v34 k0_hw2 k0_t6 k0_h5 => k0_hw2.1.2.2.2.2.2.2.2.2.2.2.2.2.2.2.2.2.2.2.2.2.2.2.2.2.2.2.2.2.2.1 k0_t6 k0_h5
theorem k0_off30_inb : ∀ (v34 : BitVec 32) (k0_hw2 : k0_chk2 v34) (k0_t6 : Fin (k0_t6_loop v34).trips), ∀ (k0_h5 : k0_cond5 v34 = 1#1), ∀ a, (k0_off30 v34 k0_t6) a + S1x16.size a ≤ S128x128.size a := fun v34 k0_hw2 k0_t6 k0_h5 => k0_hw2.1.2.2.2.2.2.2.2.2.2.2.2.2.2.2.2.2.2.2.2.2.2.2.2.2.2.2.2.2.2.2.1 k0_t6 k0_h5
theorem k0_off31_inb : ∀ (v34 : BitVec 32) (k0_hw2 : k0_chk2 v34) (k0_t6 : Fin (k0_t6_loop v34).trips), ∀ (k0_h5 : k0_cond5 v34 = 1#1), ∀ a, (k0_off31 v34 k0_t6) a + S1x16.size a ≤ S128x128.size a := fun v34 k0_hw2 k0_t6 k0_h5 => k0_hw2.1.2.2.2.2.2.2.2.2.2.2.2.2.2.2.2.2.2.2.2.2.2.2.2.2.2.2.2.2.2.2.2 k0_t6 k0_h5
theorem k0_off32_inb : ∀ (v34 : BitVec 32) (k0_hw2 : k0_chk2 v34) (k0_t6 : Fin (k0_t6_loop v34).trips), ∀ (k0_h5 : k0_cond5 v34 = 1#1), ∀ a, (k0_off32 v34 k0_t6) a + S1x16.size a ≤ S128x128.size a := fun v34 k0_hw2 k0_t6 k0_h5 => k0_hw2.2.1.1 k0_t6 k0_h5
theorem k0_off33_inb : ∀ (v34 : BitVec 32) (k0_hw2 : k0_chk2 v34) (k0_t6 : Fin (k0_t6_loop v34).trips), ∀ (k0_h5 : k0_cond5 v34 = 1#1), ∀ a, (k0_off33 v34 k0_t6) a + S1x16.size a ≤ S128x128.size a := fun v34 k0_hw2 k0_t6 k0_h5 => k0_hw2.2.1.2.1 k0_t6 k0_h5
theorem k0_off34_inb : ∀ (v34 : BitVec 32) (k0_hw2 : k0_chk2 v34) (k0_t6 : Fin (k0_t6_loop v34).trips), ∀ (k0_h5 : k0_cond5 v34 = 1#1), ∀ a, (k0_off34 v34 k0_t6) a + S1x16.size a ≤ S128x128.size a := fun v34 k0_hw2 k0_t6 k0_h5 => k0_hw2.2.1.2.2.1 k0_t6 k0_h5
theorem k0_off35_inb : ∀ (v34 : BitVec 32) (k0_hw2 : k0_chk2 v34) (k0_t6 : Fin (k0_t6_loop v34).trips), ∀ (k0_h5 : k0_cond5 v34 = 1#1), ∀ a, (k0_off35 v34 k0_t6) a + S1x16.size a ≤ S128x128.size a := fun v34 k0_hw2 k0_t6 k0_h5 => k0_hw2.2.1.2.2.2.1 k0_t6 k0_h5
theorem k0_t7_ok : ∀ (v34 : BitVec 32) (k0_hw2 : k0_chk2 v34), ∀ (k0_h7 : k0_cond7 v34 = 1#1), (k0_t7_loop v34).OK := fun v34 k0_hw2 k0_h7 => k0_hw2.2.1.2.2.2.2.1 k0_h7
theorem k0_off36_inb : ∀ (v34 : BitVec 32) (k0_hw2 : k0_chk2 v34) (k0_t7 : Fin (k0_t7_loop v34).trips), ∀ (k0_h7 : k0_cond7 v34 = 1#1), ∀ a, (k0_off36 v34 k0_t7) a + S1x16.size a ≤ S128x128.size a := fun v34 k0_hw2 k0_t7 k0_h7 => k0_hw2.2.1.2.2.2.2.2.1 k0_t7 k0_h7
theorem k0_off37_inb : ∀ (v34 : BitVec 32) (k0_hw2 : k0_chk2 v34) (k0_t7 : Fin (k0_t7_loop v34).trips), ∀ (k0_h7 : k0_cond7 v34 = 1#1), ∀ a, (k0_off37 v34 k0_t7) a + S1x16.size a ≤ S128x128.size a := fun v34 k0_hw2 k0_t7 k0_h7 => k0_hw2.2.1.2.2.2.2.2.2.1 k0_t7 k0_h7
theorem k0_off38_inb : ∀ (v34 : BitVec 32) (k0_hw2 : k0_chk2 v34) (k0_t7 : Fin (k0_t7_loop v34).trips), ∀ (k0_h7 : k0_cond7 v34 = 1#1), ∀ a, (k0_off38 v34 k0_t7) a + S1x16.size a ≤ S128x128.size a := fun v34 k0_hw2 k0_t7 k0_h7 => k0_hw2.2.1.2.2.2.2.2.2.2.1 k0_t7 k0_h7
theorem k0_off39_inb : ∀ (v34 : BitVec 32) (k0_hw2 : k0_chk2 v34) (k0_t7 : Fin (k0_t7_loop v34).trips), ∀ (k0_h7 : k0_cond7 v34 = 1#1), ∀ a, (k0_off39 v34 k0_t7) a + S1x16.size a ≤ S128x128.size a := fun v34 k0_hw2 k0_t7 k0_h7 => k0_hw2.2.1.2.2.2.2.2.2.2.2.1 k0_t7 k0_h7
theorem k0_off40_inb : ∀ (v34 : BitVec 32) (k0_hw2 : k0_chk2 v34) (k0_t7 : Fin (k0_t7_loop v34).trips), ∀ (k0_h7 : k0_cond7 v34 = 1#1), ∀ a, (k0_off40 v34 k0_t7) a + S1x16.size a ≤ S128x128.size a := fun v34 k0_hw2 k0_t7 k0_h7 => k0_hw2.2.1.2.2.2.2.2.2.2.2.2.1 k0_t7 k0_h7
theorem k0_off41_inb : ∀ (v34 : BitVec 32) (k0_hw2 : k0_chk2 v34) (k0_t7 : Fin (k0_t7_loop v34).trips), ∀ (k0_h7 : k0_cond7 v34 = 1#1), ∀ a, (k0_off41 v34 k0_t7) a + S1x16.size a ≤ S128x128.size a := fun v34 k0_hw2 k0_t7 k0_h7 => k0_hw2.2.1.2.2.2.2.2.2.2.2.2.2.1 k0_t7 k0_h7
theorem k0_off42_inb : ∀ (v34 : BitVec 32) (k0_hw2 : k0_chk2 v34) (k0_t7 : Fin (k0_t7_loop v34).trips), ∀ (k0_h7 : k0_cond7 v34 = 1#1), ∀ a, (k0_off42 v34 k0_t7) a + S1x16.size a ≤ S128x128.size a := fun v34 k0_hw2 k0_t7 k0_h7 => k0_hw2.2.1.2.2.2.2.2.2.2.2.2.2.2.1 k0_t7 k0_h7
theorem k0_off43_inb : ∀ (v34 : BitVec 32) (k0_hw2 : k0_chk2 v34) (k0_t7 : Fin (k0_t7_loop v34).trips), ∀ (k0_h7 : k0_cond7 v34 = 1#1), ∀ a, (k0_off43 v34 k0_t7) a + S1x16.size a ≤ S128x128.size a := fun v34 k0_hw2 k0_t7 k0_h7 => k0_hw2.2.1.2.2.2.2.2.2.2.2.2.2.2.2.1 k0_t7 k0_h7
theorem k0_t8_ok : ∀ (v34 : BitVec 32) (k0_hw2 : k0_chk2 v34), ∀ (k0_h7 : k0_cond7 v34 = 1#1), (k0_t8_loop v34).OK := fun v34 k0_hw2 k0_h7 => k0_hw2.2.1.2.2.2.2.2.2.2.2.2.2.2.2.2.1 k0_h7
theorem k0_off44_inb : ∀ (v34 : BitVec 32) (k0_hw2 : k0_chk2 v34) (k0_t8 : Fin (k0_t8_loop v34).trips), ∀ (k0_h7 : k0_cond7 v34 = 1#1), ∀ a, (k0_off44 v34 k0_t8) a + S1x16.size a ≤ S128x128.size a := fun v34 k0_hw2 k0_t8 k0_h7 => k0_hw2.2.1.2.2.2.2.2.2.2.2.2.2.2.2.2.2.1 k0_t8 k0_h7
theorem k0_off45_inb : ∀ (v34 : BitVec 32) (k0_hw2 : k0_chk2 v34) (k0_t8 : Fin (k0_t8_loop v34).trips), ∀ (k0_h7 : k0_cond7 v34 = 1#1), ∀ a, (k0_off45 v34 k0_t8) a + S1x16.size a ≤ S128x128.size a := fun v34 k0_hw2 k0_t8 k0_h7 => k0_hw2.2.1.2.2.2.2.2.2.2.2.2.2.2.2.2.2.2.1 k0_t8 k0_h7
theorem k0_off46_inb : ∀ (v34 : BitVec 32) (k0_hw2 : k0_chk2 v34) (k0_t8 : Fin (k0_t8_loop v34).trips), ∀ (k0_h7 : k0_cond7 v34 = 1#1), ∀ a, (k0_off46 v34 k0_t8) a + S1x16.size a ≤ S128x128.size a := fun v34 k0_hw2 k0_t8 k0_h7 => k0_hw2.2.1.2.2.2.2.2.2.2.2.2.2.2.2.2.2.2.2.1 k0_t8 k0_h7
theorem k0_off47_inb : ∀ (v34 : BitVec 32) (k0_hw2 : k0_chk2 v34) (k0_t8 : Fin (k0_t8_loop v34).trips), ∀ (k0_h7 : k0_cond7 v34 = 1#1), ∀ a, (k0_off47 v34 k0_t8) a + S1x16.size a ≤ S128x128.size a := fun v34 k0_hw2 k0_t8 k0_h7 => k0_hw2.2.1.2.2.2.2.2.2.2.2.2.2.2.2.2.2.2.2.2.1 k0_t8 k0_h7
theorem k0_off48_inb : ∀ (v34 : BitVec 32) (k0_hw2 : k0_chk2 v34) (k0_t8 : Fin (k0_t8_loop v34).trips), ∀ (k0_h7 : k0_cond7 v34 = 1#1), ∀ a, (k0_off48 v34 k0_t8) a + S1x16.size a ≤ S128x128.size a := fun v34 k0_hw2 k0_t8 k0_h7 => k0_hw2.2.1.2.2.2.2.2.2.2.2.2.2.2.2.2.2.2.2.2.2.1 k0_t8 k0_h7
theorem k0_off49_inb : ∀ (v34 : BitVec 32) (k0_hw2 : k0_chk2 v34) (k0_t8 : Fin (k0_t8_loop v34).trips), ∀ (k0_h7 : k0_cond7 v34 = 1#1), ∀ a, (k0_off49 v34 k0_t8) a + S1x16.size a ≤ S128x128.size a := fun v34 k0_hw2 k0_t8 k0_h7 => k0_hw2.2.1.2.2.2.2.2.2.2.2.2.2.2.2.2.2.2.2.2.2.2.1 k0_t8 k0_h7
theorem k0_off50_inb : ∀ (v34 : BitVec 32) (k0_hw2 : k0_chk2 v34) (k0_t8 : Fin (k0_t8_loop v34).trips), ∀ (k0_h7 : k0_cond7 v34 = 1#1), ∀ a, (k0_off50 v34 k0_t8) a + S1x16.size a ≤ S128x128.size a := fun v34 k0_hw2 k0_t8 k0_h7 => k0_hw2.2.1.2.2.2.2.2.2.2.2.2.2.2.2.2.2.2.2.2.2.2.2.1 k0_t8 k0_h7
theorem k0_off51_inb : ∀ (v34 : BitVec 32) (k0_hw2 : k0_chk2 v34) (k0_t8 : Fin (k0_t8_loop v34).trips), ∀ (k0_h7 : k0_cond7 v34 = 1#1), ∀ a, (k0_off51 v34 k0_t8) a + S1x16.size a ≤ S128x128.size a := fun v34 k0_hw2 k0_t8 k0_h7 => k0_hw2.2.1.2.2.2.2.2.2.2.2.2.2.2.2.2.2.2.2.2.2.2.2.2.1 k0_t8 k0_h7
theorem k0_t9_ok : ∀ (v34 : BitVec 32) (k0_hw2 : k0_chk2 v34), ∀ (k0_h9 : k0_cond9 v34 = 1#1), (k0_t9_loop v34).OK := fun v34 k0_hw2 k0_h9 => k0_hw2.2.1.2.2.2.2.2.2.2.2.2.2.2.2.2.2.2.2.2.2.2.2.2.2.1 k0_h9
theorem k0_off52_inb : ∀ (v34 : BitVec 32) (k0_hw2 : k0_chk2 v34) (k0_t9 : Fin (k0_t9_loop v34).trips), ∀ (k0_h9 : k0_cond9 v34 = 1#1), ∀ a, (k0_off52 v34 k0_t9) a + S1x16.size a ≤ S128x128.size a := fun v34 k0_hw2 k0_t9 k0_h9 => k0_hw2.2.1.2.2.2.2.2.2.2.2.2.2.2.2.2.2.2.2.2.2.2.2.2.2.2.1 k0_t9 k0_h9
theorem k0_off53_inb : ∀ (v34 : BitVec 32) (k0_hw2 : k0_chk2 v34) (k0_t9 : Fin (k0_t9_loop v34).trips), ∀ (k0_h9 : k0_cond9 v34 = 1#1), ∀ a, (k0_off53 v34 k0_t9) a + S1x16.size a ≤ S128x128.size a := fun v34 k0_hw2 k0_t9 k0_h9 => k0_hw2.2.1.2.2.2.2.2.2.2.2.2.2.2.2.2.2.2.2.2.2.2.2.2.2.2.2.1 k0_t9 k0_h9
theorem k0_off54_inb : ∀ (v34 : BitVec 32) (k0_hw2 : k0_chk2 v34) (k0_t9 : Fin (k0_t9_loop v34).trips), ∀ (k0_h9 : k0_cond9 v34 = 1#1), ∀ a, (k0_off54 v34 k0_t9) a + S1x16.size a ≤ S128x128.size a := fun v34 k0_hw2 k0_t9 k0_h9 => k0_hw2.2.1.2.2.2.2.2.2.2.2.2.2.2.2.2.2.2.2.2.2.2.2.2.2.2.2.2.1 k0_t9 k0_h9
theorem k0_off55_inb : ∀ (v34 : BitVec 32) (k0_hw2 : k0_chk2 v34) (k0_t9 : Fin (k0_t9_loop v34).trips), ∀ (k0_h9 : k0_cond9 v34 = 1#1), ∀ a, (k0_off55 v34 k0_t9) a + S1x16.size a ≤ S128x128.size a := fun v34 k0_hw2 k0_t9 k0_h9 => k0_hw2.2.1.2.2.2.2.2.2.2.2.2.2.2.2.2.2.2.2.2.2.2.2.2.2.2.2.2.2.1 k0_t9 k0_h9
theorem k0_off56_inb : ∀ (v34 : BitVec 32) (k0_hw2 : k0_chk2 v34) (k0_t9 : Fin (k0_t9_loop v34).trips), ∀ (k0_h9 : k0_cond9 v34 = 1#1), ∀ a, (k0_off56 v34 k0_t9) a + S1x16.size a ≤ S128x128.size a := fun v34 k0_hw2 k0_t9 k0_h9 => k0_hw2.2.1.2.2.2.2.2.2.2.2.2.2.2.2.2.2.2.2.2.2.2.2.2.2.2.2.2.2.2.1 k0_t9 k0_h9
theorem k0_off57_inb : ∀ (v34 : BitVec 32) (k0_hw2 : k0_chk2 v34) (k0_t9 : Fin (k0_t9_loop v34).trips), ∀ (k0_h9 : k0_cond9 v34 = 1#1), ∀ a, (k0_off57 v34 k0_t9) a + S1x16.size a ≤ S128x128.size a := fun v34 k0_hw2 k0_t9 k0_h9 => k0_hw2.2.1.2.2.2.2.2.2.2.2.2.2.2.2.2.2.2.2.2.2.2.2.2.2.2.2.2.2.2.2.1 k0_t9 k0_h9
theorem k0_off58_inb : ∀ (v34 : BitVec 32) (k0_hw2 : k0_chk2 v34) (k0_t9 : Fin (k0_t9_loop v34).trips), ∀ (k0_h9 : k0_cond9 v34 = 1#1), ∀ a, (k0_off58 v34 k0_t9) a + S1x16.size a ≤ S128x128.size a := fun v34 k0_hw2 k0_t9 k0_h9 => k0_hw2.2.1.2.2.2.2.2.2.2.2.2.2.2.2.2.2.2.2.2.2.2.2.2.2.2.2.2.2.2.2.2.1 k0_t9 k0_h9
theorem k0_off59_inb : ∀ (v34 : BitVec 32) (k0_hw2 : k0_chk2 v34) (k0_t9 : Fin (k0_t9_loop v34).trips), ∀ (k0_h9 : k0_cond9 v34 = 1#1), ∀ a, (k0_off59 v34 k0_t9) a + S1x16.size a ≤ S128x128.size a := fun v34 k0_hw2 k0_t9 k0_h9 => k0_hw2.2.1.2.2.2.2.2.2.2.2.2.2.2.2.2.2.2.2.2.2.2.2.2.2.2.2.2.2.2.2.2.2.1 k0_t9 k0_h9
theorem k0_t10_ok : ∀ (v34 : BitVec 32) (k0_hw2 : k0_chk2 v34), ∀ (k0_h9 : k0_cond9 v34 = 1#1), (k0_t10_loop v34).OK := fun v34 k0_hw2 k0_h9 => k0_hw2.2.1.2.2.2.2.2.2.2.2.2.2.2.2.2.2.2.2.2.2.2.2.2.2.2.2.2.2.2.2.2.2.2 k0_h9
theorem k0_off60_inb : ∀ (v34 : BitVec 32) (k0_hw2 : k0_chk2 v34) (k0_t10 : Fin (k0_t10_loop v34).trips), ∀ (k0_h9 : k0_cond9 v34 = 1#1), ∀ a, (k0_off60 v34 k0_t10) a + S1x16.size a ≤ S128x128.size a := fun v34 k0_hw2 k0_t10 k0_h9 => k0_hw2.2.2.1.1 k0_t10 k0_h9
theorem k0_off61_inb : ∀ (v34 : BitVec 32) (k0_hw2 : k0_chk2 v34) (k0_t10 : Fin (k0_t10_loop v34).trips), ∀ (k0_h9 : k0_cond9 v34 = 1#1), ∀ a, (k0_off61 v34 k0_t10) a + S1x16.size a ≤ S128x128.size a := fun v34 k0_hw2 k0_t10 k0_h9 => k0_hw2.2.2.1.2.1 k0_t10 k0_h9
theorem k0_off62_inb : ∀ (v34 : BitVec 32) (k0_hw2 : k0_chk2 v34) (k0_t10 : Fin (k0_t10_loop v34).trips), ∀ (k0_h9 : k0_cond9 v34 = 1#1), ∀ a, (k0_off62 v34 k0_t10) a + S1x16.size a ≤ S128x128.size a := fun v34 k0_hw2 k0_t10 k0_h9 => k0_hw2.2.2.1.2.2.1 k0_t10 k0_h9
theorem k0_off63_inb : ∀ (v34 : BitVec 32) (k0_hw2 : k0_chk2 v34) (k0_t10 : Fin (k0_t10_loop v34).trips), ∀ (k0_h9 : k0_cond9 v34 = 1#1), ∀ a, (k0_off63 v34 k0_t10) a + S1x16.size a ≤ S128x128.size a := fun v34 k0_hw2 k0_t10 k0_h9 => k0_hw2.2.2.1.2.2.2.1 k0_t10 k0_h9
theorem k0_off64_inb : ∀ (v34 : BitVec 32) (k0_hw2 : k0_chk2 v34) (k0_t10 : Fin (k0_t10_loop v34).trips), ∀ (k0_h9 : k0_cond9 v34 = 1#1), ∀ a, (k0_off64 v34 k0_t10) a + S1x16.size a ≤ S128x128.size a := fun v34 k0_hw2 k0_t10 k0_h9 => k0_hw2.2.2.1.2.2.2.2.1 k0_t10 k0_h9
theorem k0_off65_inb : ∀ (v34 : BitVec 32) (k0_hw2 : k0_chk2 v34) (k0_t10 : Fin (k0_t10_loop v34).trips), ∀ (k0_h9 : k0_cond9 v34 = 1#1), ∀ a, (k0_off65 v34 k0_t10) a + S1x16.size a ≤ S128x128.size a := fun v34 k0_hw2 k0_t10 k0_h9 => k0_hw2.2.2.1.2.2.2.2.2.1 k0_t10 k0_h9
theorem k0_off66_inb : ∀ (v34 : BitVec 32) (k0_hw2 : k0_chk2 v34) (k0_t10 : Fin (k0_t10_loop v34).trips), ∀ (k0_h9 : k0_cond9 v34 = 1#1), ∀ a, (k0_off66 v34 k0_t10) a + S1x16.size a ≤ S128x128.size a := fun v34 k0_hw2 k0_t10 k0_h9 => k0_hw2.2.2.1.2.2.2.2.2.2.1 k0_t10 k0_h9
theorem k0_off67_inb : ∀ (v34 : BitVec 32) (k0_hw2 : k0_chk2 v34) (k0_t10 : Fin (k0_t10_loop v34).trips), ∀ (k0_h9 : k0_cond9 v34 = 1#1), ∀ a, (k0_off67 v34 k0_t10) a + S1x16.size a ≤ S128x128.size a := fun v34 k0_hw2 k0_t10 k0_h9 => k0_hw2.2.2.1.2.2.2.2.2.2.2.1 k0_t10 k0_h9
theorem k0_t11_ok : ∀ (v34 : BitVec 32) (k0_hw2 : k0_chk2 v34), ∀ (k0_h11 : k0_cond11 v34 = 1#1), (k0_t11_loop v34).OK := fun v34 k0_hw2 k0_h11 => k0_hw2.2.2.1.2.2.2.2.2.2.2.2.1 k0_h11
theorem k0_off68_inb : ∀ (v34 : BitVec 32) (k0_hw2 : k0_chk2 v34) (k0_t11 : Fin (k0_t11_loop v34).trips), ∀ (k0_h11 : k0_cond11 v34 = 1#1), ∀ a, (k0_off68 v34 k0_t11) a + S1x16.size a ≤ S128x128.size a := fun v34 k0_hw2 k0_t11 k0_h11 => k0_hw2.2.2.1.2.2.2.2.2.2.2.2.2.1 k0_t11 k0_h11
theorem k0_off69_inb : ∀ (v34 : BitVec 32) (k0_hw2 : k0_chk2 v34) (k0_t11 : Fin (k0_t11_loop v34).trips), ∀ (k0_h11 : k0_cond11 v34 = 1#1), ∀ a, (k0_off69 v34 k0_t11) a + S1x16.size a ≤ S128x128.size a := fun v34 k0_hw2 k0_t11 k0_h11 => k0_hw2.2.2.1.2.2.2.2.2.2.2.2.2.2.1 k0_t11 k0_h11
theorem k0_off70_inb : ∀ (v34 : BitVec 32) (k0_hw2 : k0_chk2 v34) (k0_t11 : Fin (k0_t11_loop v34).trips), ∀ (k0_h11 : k0_cond11 v34 = 1#1), ∀ a, (k0_off70 v34 k0_t11) a + S1x16.size a ≤ S128x128.size a := fun v34 k0_hw2 k0_t11 k0_h11 => k0_hw2.2.2.1.2.2.2.2.2.2.2.2.2.2.2.1 k0_t11 k0_h11
theorem k0_off71_inb : ∀ (v34 : BitVec 32) (k0_hw2 : k0_chk2 v34) (k0_t11 : Fin (k0_t11_loop v34).trips), ∀ (k0_h11 : k0_cond11 v34 = 1#1), ∀ a, (k0_off71 v34 k0_t11) a + S1x16.size a ≤ S128x128.size a := fun v34 k0_hw2 k0_t11 k0_h11 => k0_hw2.2.2.1.2.2.2.2.2.2.2.2.2.2.2.2.1 k0_t11 k0_h11
theorem k0_off72_inb : ∀ (v34 : BitVec 32) (k0_hw2 : k0_chk2 v34) (k0_t11 : Fin (k0_t11_loop v34).trips), ∀ (k0_h11 : k0_cond11 v34 = 1#1), ∀ a, (k0_off72 v34 k0_t11) a + S1x16.size a ≤ S128x128.size a := fun v34 k0_hw2 k0_t11 k0_h11 => k0_hw2.2.2.1.2.2.2.2.2.2.2.2.2.2.2.2.2.1 k0_t11 k0_h11
theorem k0_off73_inb : ∀ (v34 : BitVec 32) (k0_hw2 : k0_chk2 v34) (k0_t11 : Fin (k0_t11_loop v34).trips), ∀ (k0_h11 : k0_cond11 v34 = 1#1), ∀ a, (k0_off73 v34 k0_t11) a + S1x16.size a ≤ S128x128.size a := fun v34 k0_hw2 k0_t11 k0_h11 => k0_hw2.2.2.1.2.2.2.2.2.2.2.2.2.2.2.2.2.2.1 k0_t11 k0_h11
theorem k0_off74_inb : ∀ (v34 : BitVec 32) (k0_hw2 : k0_chk2 v34) (k0_t11 : Fin (k0_t11_loop v34).trips), ∀ (k0_h11 : k0_cond11 v34 = 1#1), ∀ a, (k0_off74 v34 k0_t11) a + S1x16.size a ≤ S128x128.size a := fun v34 k0_hw2 k0_t11 k0_h11 => k0_hw2.2.2.1.2.2.2.2.2.2.2.2.2.2.2.2.2.2.2.1 k0_t11 k0_h11
theorem k0_off75_inb : ∀ (v34 : BitVec 32) (k0_hw2 : k0_chk2 v34) (k0_t11 : Fin (k0_t11_loop v34).trips), ∀ (k0_h11 : k0_cond11 v34 = 1#1), ∀ a, (k0_off75 v34 k0_t11) a + S1x16.size a ≤ S128x128.size a := fun v34 k0_hw2 k0_t11 k0_h11 => k0_hw2.2.2.1.2.2.2.2.2.2.2.2.2.2.2.2.2.2.2.2.1 k0_t11 k0_h11
theorem k0_t12_ok : ∀ (v34 : BitVec 32) (k0_hw2 : k0_chk2 v34), ∀ (k0_h11 : k0_cond11 v34 = 1#1), (k0_t12_loop v34).OK := fun v34 k0_hw2 k0_h11 => k0_hw2.2.2.1.2.2.2.2.2.2.2.2.2.2.2.2.2.2.2.2.2.1 k0_h11
theorem k0_off76_inb : ∀ (v34 : BitVec 32) (k0_hw2 : k0_chk2 v34) (k0_t12 : Fin (k0_t12_loop v34).trips), ∀ (k0_h11 : k0_cond11 v34 = 1#1), ∀ a, (k0_off76 v34 k0_t12) a + S1x16.size a ≤ S128x128.size a := fun v34 k0_hw2 k0_t12 k0_h11 => k0_hw2.2.2.1.2.2.2.2.2.2.2.2.2.2.2.2.2.2.2.2.2.2.1 k0_t12 k0_h11
theorem k0_off77_inb : ∀ (v34 : BitVec 32) (k0_hw2 : k0_chk2 v34) (k0_t12 : Fin (k0_t12_loop v34).trips), ∀ (k0_h11 : k0_cond11 v34 = 1#1), ∀ a, (k0_off77 v34 k0_t12) a + S1x16.size a ≤ S128x128.size a := fun v34 k0_hw2 k0_t12 k0_h11 => k0_hw2.2.2.1.2.2.2.2.2.2.2.2.2.2.2.2.2.2.2.2.2.2.2.1 k0_t12 k0_h11
theorem k0_off78_inb : ∀ (v34 : BitVec 32) (k0_hw2 : k0_chk2 v34) (k0_t12 : Fin (k0_t12_loop v34).trips), ∀ (k0_h11 : k0_cond11 v34 = 1#1), ∀ a, (k0_off78 v34 k0_t12) a + S1x16.size a ≤ S128x128.size a := fun v34 k0_hw2 k0_t12 k0_h11 => k0_hw2.2.2.1.2.2.2.2.2.2.2.2.2.2.2.2.2.2.2.2.2.2.2.2.1 k0_t12 k0_h11
theorem k0_off79_inb : ∀ (v34 : BitVec 32) (k0_hw2 : k0_chk2 v34) (k0_t12 : Fin (k0_t12_loop v34).trips), ∀ (k0_h11 : k0_cond11 v34 = 1#1), ∀ a, (k0_off79 v34 k0_t12) a + S1x16.size a ≤ S128x128.size a := fun v34 k0_hw2 k0_t12 k0_h11 => k0_hw2.2.2.1.2.2.2.2.2.2.2.2.2.2.2.2.2.2.2.2.2.2.2.2.2.1 k0_t12 k0_h11
theorem k0_off80_inb : ∀ (v34 : BitVec 32) (k0_hw2 : k0_chk2 v34) (k0_t12 : Fin (k0_t12_loop v34).trips), ∀ (k0_h11 : k0_cond11 v34 = 1#1), ∀ a, (k0_off80 v34 k0_t12) a + S1x16.size a ≤ S128x128.size a := fun v34 k0_hw2 k0_t12 k0_h11 => k0_hw2.2.2.1.2.2.2.2.2.2.2.2.2.2.2.2.2.2.2.2.2.2.2.2.2.2.1 k0_t12 k0_h11
theorem k0_off81_inb : ∀ (v34 : BitVec 32) (k0_hw2 : k0_chk2 v34) (k0_t12 : Fin (k0_t12_loop v34).trips), ∀ (k0_h11 : k0_cond11 v34 = 1#1), ∀ a, (k0_off81 v34 k0_t12) a + S1x16.size a ≤ S128x128.size a := fun v34 k0_hw2 k0_t12 k0_h11 => k0_hw2.2.2.1.2.2.2.2.2.2.2.2.2.2.2.2.2.2.2.2.2.2.2.2.2.2.2.1 k0_t12 k0_h11
theorem k0_off82_inb : ∀ (v34 : BitVec 32) (k0_hw2 : k0_chk2 v34) (k0_t12 : Fin (k0_t12_loop v34).trips), ∀ (k0_h11 : k0_cond11 v34 = 1#1), ∀ a, (k0_off82 v34 k0_t12) a + S1x16.size a ≤ S128x128.size a := fun v34 k0_hw2 k0_t12 k0_h11 => k0_hw2.2.2.1.2.2.2.2.2.2.2.2.2.2.2.2.2.2.2.2.2.2.2.2.2.2.2.2.1 k0_t12 k0_h11
theorem k0_off83_inb : ∀ (v34 : BitVec 32) (k0_hw2 : k0_chk2 v34) (k0_t12 : Fin (k0_t12_loop v34).trips), ∀ (k0_h11 : k0_cond11 v34 = 1#1), ∀ a, (k0_off83 v34 k0_t12) a + S1x16.size a ≤ S128x128.size a := fun v34 k0_hw2 k0_t12 k0_h11 => k0_hw2.2.2.1.2.2.2.2.2.2.2.2.2.2.2.2.2.2.2.2.2.2.2.2.2.2.2.2.2.1 k0_t12 k0_h11
theorem k0_t13_ok : ∀ (v34 : BitVec 32) (k0_hw2 : k0_chk2 v34), ∀ (k0_h13 : k0_cond13 v34 = 1#1), (k0_t13_loop v34).OK := fun v34 k0_hw2 k0_h13 => k0_hw2.2.2.1.2.2.2.2.2.2.2.2.2.2.2.2.2.2.2.2.2.2.2.2.2.2.2.2.2.2.1 k0_h13
theorem k0_off84_inb : ∀ (v34 : BitVec 32) (k0_hw2 : k0_chk2 v34) (k0_t13 : Fin (k0_t13_loop v34).trips), ∀ (k0_h13 : k0_cond13 v34 = 1#1), ∀ a, (k0_off84 v34 k0_t13) a + S1x16.size a ≤ S128x128.size a := fun v34 k0_hw2 k0_t13 k0_h13 => k0_hw2.2.2.1.2.2.2.2.2.2.2.2.2.2.2.2.2.2.2.2.2.2.2.2.2.2.2.2.2.2.2.1 k0_t13 k0_h13
theorem k0_off85_inb : ∀ (v34 : BitVec 32) (k0_hw2 : k0_chk2 v34) (k0_t13 : Fin (k0_t13_loop v34).trips), ∀ (k0_h13 : k0_cond13 v34 = 1#1), ∀ a, (k0_off85 v34 k0_t13) a + S1x16.size a ≤ S128x128.size a := fun v34 k0_hw2 k0_t13 k0_h13 => k0_hw2.2.2.1.2.2.2.2.2.2.2.2.2.2.2.2.2.2.2.2.2.2.2.2.2.2.2.2.2.2.2.2.1 k0_t13 k0_h13
theorem k0_off86_inb : ∀ (v34 : BitVec 32) (k0_hw2 : k0_chk2 v34) (k0_t13 : Fin (k0_t13_loop v34).trips), ∀ (k0_h13 : k0_cond13 v34 = 1#1), ∀ a, (k0_off86 v34 k0_t13) a + S1x16.size a ≤ S128x128.size a := fun v34 k0_hw2 k0_t13 k0_h13 => k0_hw2.2.2.1.2.2.2.2.2.2.2.2.2.2.2.2.2.2.2.2.2.2.2.2.2.2.2.2.2.2.2.2.2.1 k0_t13 k0_h13
theorem k0_off87_inb : ∀ (v34 : BitVec 32) (k0_hw2 : k0_chk2 v34) (k0_t13 : Fin (k0_t13_loop v34).trips), ∀ (k0_h13 : k0_cond13 v34 = 1#1), ∀ a, (k0_off87 v34 k0_t13) a + S1x16.size a ≤ S128x128.size a := fun v34 k0_hw2 k0_t13 k0_h13 => k0_hw2.2.2.1.2.2.2.2.2.2.2.2.2.2.2.2.2.2.2.2.2.2.2.2.2.2.2.2.2.2.2.2.2.2.1 k0_t13 k0_h13
theorem k0_off88_inb : ∀ (v34 : BitVec 32) (k0_hw2 : k0_chk2 v34) (k0_t13 : Fin (k0_t13_loop v34).trips), ∀ (k0_h13 : k0_cond13 v34 = 1#1), ∀ a, (k0_off88 v34 k0_t13) a + S1x16.size a ≤ S128x128.size a := fun v34 k0_hw2 k0_t13 k0_h13 => k0_hw2.2.2.1.2.2.2.2.2.2.2.2.2.2.2.2.2.2.2.2.2.2.2.2.2.2.2.2.2.2.2.2.2.2.2 k0_t13 k0_h13
theorem k0_off89_inb : ∀ (v34 : BitVec 32) (k0_hw2 : k0_chk2 v34) (k0_t13 : Fin (k0_t13_loop v34).trips), ∀ (k0_h13 : k0_cond13 v34 = 1#1), ∀ a, (k0_off89 v34 k0_t13) a + S1x16.size a ≤ S128x128.size a := fun v34 k0_hw2 k0_t13 k0_h13 => k0_hw2.2.2.2.1.1 k0_t13 k0_h13
theorem k0_off90_inb : ∀ (v34 : BitVec 32) (k0_hw2 : k0_chk2 v34) (k0_t13 : Fin (k0_t13_loop v34).trips), ∀ (k0_h13 : k0_cond13 v34 = 1#1), ∀ a, (k0_off90 v34 k0_t13) a + S1x16.size a ≤ S128x128.size a := fun v34 k0_hw2 k0_t13 k0_h13 => k0_hw2.2.2.2.1.2.1 k0_t13 k0_h13
theorem k0_off91_inb : ∀ (v34 : BitVec 32) (k0_hw2 : k0_chk2 v34) (k0_t13 : Fin (k0_t13_loop v34).trips), ∀ (k0_h13 : k0_cond13 v34 = 1#1), ∀ a, (k0_off91 v34 k0_t13) a + S1x16.size a ≤ S128x128.size a := fun v34 k0_hw2 k0_t13 k0_h13 => k0_hw2.2.2.2.1.2.2.1 k0_t13 k0_h13
theorem k0_t14_ok : ∀ (v34 : BitVec 32) (k0_hw2 : k0_chk2 v34), ∀ (k0_h13 : k0_cond13 v34 = 1#1), (k0_t14_loop v34).OK := fun v34 k0_hw2 k0_h13 => k0_hw2.2.2.2.1.2.2.2.1 k0_h13
theorem k0_off92_inb : ∀ (v34 : BitVec 32) (k0_hw2 : k0_chk2 v34) (k0_t14 : Fin (k0_t14_loop v34).trips), ∀ (k0_h13 : k0_cond13 v34 = 1#1), ∀ a, (k0_off92 v34 k0_t14) a + S1x16.size a ≤ S128x128.size a := fun v34 k0_hw2 k0_t14 k0_h13 => k0_hw2.2.2.2.1.2.2.2.2.1 k0_t14 k0_h13
theorem k0_off93_inb : ∀ (v34 : BitVec 32) (k0_hw2 : k0_chk2 v34) (k0_t14 : Fin (k0_t14_loop v34).trips), ∀ (k0_h13 : k0_cond13 v34 = 1#1), ∀ a, (k0_off93 v34 k0_t14) a + S1x16.size a ≤ S128x128.size a := fun v34 k0_hw2 k0_t14 k0_h13 => k0_hw2.2.2.2.1.2.2.2.2.2.1 k0_t14 k0_h13
theorem k0_off94_inb : ∀ (v34 : BitVec 32) (k0_hw2 : k0_chk2 v34) (k0_t14 : Fin (k0_t14_loop v34).trips), ∀ (k0_h13 : k0_cond13 v34 = 1#1), ∀ a, (k0_off94 v34 k0_t14) a + S1x16.size a ≤ S128x128.size a := fun v34 k0_hw2 k0_t14 k0_h13 => k0_hw2.2.2.2.1.2.2.2.2.2.2.1 k0_t14 k0_h13
theorem k0_off95_inb : ∀ (v34 : BitVec 32) (k0_hw2 : k0_chk2 v34) (k0_t14 : Fin (k0_t14_loop v34).trips), ∀ (k0_h13 : k0_cond13 v34 = 1#1), ∀ a, (k0_off95 v34 k0_t14) a + S1x16.size a ≤ S128x128.size a := fun v34 k0_hw2 k0_t14 k0_h13 => k0_hw2.2.2.2.1.2.2.2.2.2.2.2.1 k0_t14 k0_h13
theorem k0_off96_inb : ∀ (v34 : BitVec 32) (k0_hw2 : k0_chk2 v34) (k0_t14 : Fin (k0_t14_loop v34).trips), ∀ (k0_h13 : k0_cond13 v34 = 1#1), ∀ a, (k0_off96 v34 k0_t14) a + S1x16.size a ≤ S128x128.size a := fun v34 k0_hw2 k0_t14 k0_h13 => k0_hw2.2.2.2.1.2.2.2.2.2.2.2.2.1 k0_t14 k0_h13
theorem k0_off97_inb : ∀ (v34 : BitVec 32) (k0_hw2 : k0_chk2 v34) (k0_t14 : Fin (k0_t14_loop v34).trips), ∀ (k0_h13 : k0_cond13 v34 = 1#1), ∀ a, (k0_off97 v34 k0_t14) a + S1x16.size a ≤ S128x128.size a := fun v34 k0_hw2 k0_t14 k0_h13 => k0_hw2.2.2.2.1.2.2.2.2.2.2.2.2.2.1 k0_t14 k0_h13
theorem k0_off98_inb : ∀ (v34 : BitVec 32) (k0_hw2 : k0_chk2 v34) (k0_t14 : Fin (k0_t14_loop v34).trips), ∀ (k0_h13 : k0_cond13 v34 = 1#1), ∀ a, (k0_off98 v34 k0_t14) a + S1x16.size a ≤ S128x128.size a := fun v34 k0_hw2 k0_t14 k0_h13 => k0_hw2.2.2.2.1.2.2.2.2.2.2.2.2.2.2.1 k0_t14 k0_h13
theorem k0_off99_inb : ∀ (v34 : BitVec 32) (k0_hw2 : k0_chk2 v34) (k0_t14 : Fin (k0_t14_loop v34).trips), ∀ (k0_h13 : k0_cond13 v34 = 1#1), ∀ a, (k0_off99 v34 k0_t14) a + S1x16.size a ≤ S128x128.size a := fun v34 k0_hw2 k0_t14 k0_h13 => k0_hw2.2.2.2.1.2.2.2.2.2.2.2.2.2.2.2.1 k0_t14 k0_h13
theorem k0_t15_ok : ∀ (v34 : BitVec 32) (k0_hw2 : k0_chk2 v34), ∀ (k0_h15 : k0_cond15 v34 = 1#1), (k0_t15_loop v34).OK := fun v34 k0_hw2 k0_h15 => k0_hw2.2.2.2.1.2.2.2.2.2.2.2.2.2.2.2.2.1 k0_h15
theorem k0_off100_inb : ∀ (v34 : BitVec 32) (k0_hw2 : k0_chk2 v34) (k0_t15 : Fin (k0_t15_loop v34).trips), ∀ (k0_h15 : k0_cond15 v34 = 1#1), ∀ a, (k0_off100 v34 k0_t15) a + S1x16.size a ≤ S128x128.size a := fun v34 k0_hw2 k0_t15 k0_h15 => k0_hw2.2.2.2.1.2.2.2.2.2.2.2.2.2.2.2.2.2.1 k0_t15 k0_h15
theorem k0_off101_inb : ∀ (v34 : BitVec 32) (k0_hw2 : k0_chk2 v34) (k0_t15 : Fin (k0_t15_loop v34).trips), ∀ (k0_h15 : k0_cond15 v34 = 1#1), ∀ a, (k0_off101 v34 k0_t15) a + S1x16.size a ≤ S128x128.size a := fun v34 k0_hw2 k0_t15 k0_h15 => k0_hw2.2.2.2.1.2.2.2.2.2.2.2.2.2.2.2.2.2.2.1 k0_t15 k0_h15
theorem k0_off102_inb : ∀ (v34 : BitVec 32) (k0_hw2 : k0_chk2 v34) (k0_t15 : Fin (k0_t15_loop v34).trips), ∀ (k0_h15 : k0_cond15 v34 = 1#1), ∀ a, (k0_off102 v34 k0_t15) a + S1x16.size a ≤ S128x128.size a := fun v34 k0_hw2 k0_t15 k0_h15 => k0_hw2.2.2.2.1.2.2.2.2.2.2.2.2.2.2.2.2.2.2.2.1 k0_t15 k0_h15
theorem k0_off103_inb : ∀ (v34 : BitVec 32) (k0_hw2 : k0_chk2 v34) (k0_t15 : Fin (k0_t15_loop v34).trips), ∀ (k0_h15 : k0_cond15 v34 = 1#1), ∀ a, (k0_off103 v34 k0_t15) a + S1x16.size a ≤ S128x128.size a := fun v34 k0_hw2 k0_t15 k0_h15 => k0_hw2.2.2.2.1.2.2.2.2.2.2.2.2.2.2.2.2.2.2.2.2.1 k0_t15 k0_h15
theorem k0_off104_inb : ∀ (v34 : BitVec 32) (k0_hw2 : k0_chk2 v34) (k0_t15 : Fin (k0_t15_loop v34).trips), ∀ (k0_h15 : k0_cond15 v34 = 1#1), ∀ a, (k0_off104 v34 k0_t15) a + S1x16.size a ≤ S128x128.size a := fun v34 k0_hw2 k0_t15 k0_h15 => k0_hw2.2.2.2.1.2.2.2.2.2.2.2.2.2.2.2.2.2.2.2.2.2.1 k0_t15 k0_h15
theorem k0_off105_inb : ∀ (v34 : BitVec 32) (k0_hw2 : k0_chk2 v34) (k0_t15 : Fin (k0_t15_loop v34).trips), ∀ (k0_h15 : k0_cond15 v34 = 1#1), ∀ a, (k0_off105 v34 k0_t15) a + S1x16.size a ≤ S128x128.size a := fun v34 k0_hw2 k0_t15 k0_h15 => k0_hw2.2.2.2.1.2.2.2.2.2.2.2.2.2.2.2.2.2.2.2.2.2.2.1 k0_t15 k0_h15
theorem k0_off106_inb : ∀ (v34 : BitVec 32) (k0_hw2 : k0_chk2 v34) (k0_t15 : Fin (k0_t15_loop v34).trips), ∀ (k0_h15 : k0_cond15 v34 = 1#1), ∀ a, (k0_off106 v34 k0_t15) a + S1x16.size a ≤ S128x128.size a := fun v34 k0_hw2 k0_t15 k0_h15 => k0_hw2.2.2.2.1.2.2.2.2.2.2.2.2.2.2.2.2.2.2.2.2.2.2.2.1 k0_t15 k0_h15
theorem k0_off107_inb : ∀ (v34 : BitVec 32) (k0_hw2 : k0_chk2 v34) (k0_t15 : Fin (k0_t15_loop v34).trips), ∀ (k0_h15 : k0_cond15 v34 = 1#1), ∀ a, (k0_off107 v34 k0_t15) a + S1x16.size a ≤ S128x128.size a := fun v34 k0_hw2 k0_t15 k0_h15 => k0_hw2.2.2.2.1.2.2.2.2.2.2.2.2.2.2.2.2.2.2.2.2.2.2.2.2.1 k0_t15 k0_h15
theorem k0_t16_ok : ∀ (v34 : BitVec 32) (k0_hw2 : k0_chk2 v34), ∀ (k0_h15 : k0_cond15 v34 = 1#1), (k0_t16_loop v34).OK := fun v34 k0_hw2 k0_h15 => k0_hw2.2.2.2.1.2.2.2.2.2.2.2.2.2.2.2.2.2.2.2.2.2.2.2.2.2.1 k0_h15
theorem k0_off108_inb : ∀ (v34 : BitVec 32) (k0_hw2 : k0_chk2 v34) (k0_t16 : Fin (k0_t16_loop v34).trips), ∀ (k0_h15 : k0_cond15 v34 = 1#1), ∀ a, (k0_off108 v34 k0_t16) a + S1x16.size a ≤ S128x128.size a := fun v34 k0_hw2 k0_t16 k0_h15 => k0_hw2.2.2.2.1.2.2.2.2.2.2.2.2.2.2.2.2.2.2.2.2.2.2.2.2.2.2.1 k0_t16 k0_h15
theorem k0_off109_inb : ∀ (v34 : BitVec 32) (k0_hw2 : k0_chk2 v34) (k0_t16 : Fin (k0_t16_loop v34).trips), ∀ (k0_h15 : k0_cond15 v34 = 1#1), ∀ a, (k0_off109 v34 k0_t16) a + S1x16.size a ≤ S128x128.size a := fun v34 k0_hw2 k0_t16 k0_h15 => k0_hw2.2.2.2.1.2.2.2.2.2.2.2.2.2.2.2.2.2.2.2.2.2.2.2.2.2.2.2.1 k0_t16 k0_h15
theorem k0_off110_inb : ∀ (v34 : BitVec 32) (k0_hw2 : k0_chk2 v34) (k0_t16 : Fin (k0_t16_loop v34).trips), ∀ (k0_h15 : k0_cond15 v34 = 1#1), ∀ a, (k0_off110 v34 k0_t16) a + S1x16.size a ≤ S128x128.size a := fun v34 k0_hw2 k0_t16 k0_h15 => k0_hw2.2.2.2.1.2.2.2.2.2.2.2.2.2.2.2.2.2.2.2.2.2.2.2.2.2.2.2.2.1 k0_t16 k0_h15
theorem k0_off111_inb : ∀ (v34 : BitVec 32) (k0_hw2 : k0_chk2 v34) (k0_t16 : Fin (k0_t16_loop v34).trips), ∀ (k0_h15 : k0_cond15 v34 = 1#1), ∀ a, (k0_off111 v34 k0_t16) a + S1x16.size a ≤ S128x128.size a := fun v34 k0_hw2 k0_t16 k0_h15 => k0_hw2.2.2.2.1.2.2.2.2.2.2.2.2.2.2.2.2.2.2.2.2.2.2.2.2.2.2.2.2.2.1 k0_t16 k0_h15
theorem k0_off112_inb : ∀ (v34 : BitVec 32) (k0_hw2 : k0_chk2 v34) (k0_t16 : Fin (k0_t16_loop v34).trips), ∀ (k0_h15 : k0_cond15 v34 = 1#1), ∀ a, (k0_off112 v34 k0_t16) a + S1x16.size a ≤ S128x128.size a := fun v34 k0_hw2 k0_t16 k0_h15 => k0_hw2.2.2.2.1.2.2.2.2.2.2.2.2.2.2.2.2.2.2.2.2.2.2.2.2.2.2.2.2.2.2.1 k0_t16 k0_h15
theorem k0_off113_inb : ∀ (v34 : BitVec 32) (k0_hw2 : k0_chk2 v34) (k0_t16 : Fin (k0_t16_loop v34).trips), ∀ (k0_h15 : k0_cond15 v34 = 1#1), ∀ a, (k0_off113 v34 k0_t16) a + S1x16.size a ≤ S128x128.size a := fun v34 k0_hw2 k0_t16 k0_h15 => k0_hw2.2.2.2.1.2.2.2.2.2.2.2.2.2.2.2.2.2.2.2.2.2.2.2.2.2.2.2.2.2.2.2.1 k0_t16 k0_h15
theorem k0_off114_inb : ∀ (v34 : BitVec 32) (k0_hw2 : k0_chk2 v34) (k0_t16 : Fin (k0_t16_loop v34).trips), ∀ (k0_h15 : k0_cond15 v34 = 1#1), ∀ a, (k0_off114 v34 k0_t16) a + S1x16.size a ≤ S128x128.size a := fun v34 k0_hw2 k0_t16 k0_h15 => k0_hw2.2.2.2.1.2.2.2.2.2.2.2.2.2.2.2.2.2.2.2.2.2.2.2.2.2.2.2.2.2.2.2.2.1 k0_t16 k0_h15
theorem k0_off115_inb : ∀ (v34 : BitVec 32) (k0_hw2 : k0_chk2 v34) (k0_t16 : Fin (k0_t16_loop v34).trips), ∀ (k0_h15 : k0_cond15 v34 = 1#1), ∀ a, (k0_off115 v34 k0_t16) a + S1x16.size a ≤ S128x128.size a := fun v34 k0_hw2 k0_t16 k0_h15 => k0_hw2.2.2.2.1.2.2.2.2.2.2.2.2.2.2.2.2.2.2.2.2.2.2.2.2.2.2.2.2.2.2.2.2.2.1 k0_t16 k0_h15
theorem k0_t17_ok : ∀ (v34 : BitVec 32) (k0_hw2 : k0_chk2 v34), ∀ (k0_h17 : k0_cond17 v34 = 1#1), (k0_t17_loop v34).OK := fun v34 k0_hw2 k0_h17 => k0_hw2.2.2.2.1.2.2.2.2.2.2.2.2.2.2.2.2.2.2.2.2.2.2.2.2.2.2.2.2.2.2.2.2.2.2.1 k0_h17
theorem k0_off116_inb : ∀ (v34 : BitVec 32) (k0_hw2 : k0_chk2 v34) (k0_t17 : Fin (k0_t17_loop v34).trips), ∀ (k0_h17 : k0_cond17 v34 = 1#1), ∀ a, (k0_off116 v34 k0_t17) a + S1x16.size a ≤ S128x128.size a := fun v34 k0_hw2 k0_t17 k0_h17 => k0_hw2.2.2.2.1.2.2.2.2.2.2.2.2.2.2.2.2.2.2.2.2.2.2.2.2.2.2.2.2.2.2.2.2.2.2.2 k0_t17 k0_h17
theorem k0_off117_inb : ∀ (v34 : BitVec 32) (k0_hw2 : k0_chk2 v34) (k0_t17 : Fin (k0_t17_loop v34).trips), ∀ (k0_h17 : k0_cond17 v34 = 1#1), ∀ a, (k0_off117 v34 k0_t17) a + S1x16.size a ≤ S128x128.size a := fun v34 k0_hw2 k0_t17 k0_h17 => k0_hw2.2.2.2.2.1.1 k0_t17 k0_h17
theorem k0_off118_inb : ∀ (v34 : BitVec 32) (k0_hw2 : k0_chk2 v34) (k0_t17 : Fin (k0_t17_loop v34).trips), ∀ (k0_h17 : k0_cond17 v34 = 1#1), ∀ a, (k0_off118 v34 k0_t17) a + S1x16.size a ≤ S128x128.size a := fun v34 k0_hw2 k0_t17 k0_h17 => k0_hw2.2.2.2.2.1.2.1 k0_t17 k0_h17
theorem k0_off119_inb : ∀ (v34 : BitVec 32) (k0_hw2 : k0_chk2 v34) (k0_t17 : Fin (k0_t17_loop v34).trips), ∀ (k0_h17 : k0_cond17 v34 = 1#1), ∀ a, (k0_off119 v34 k0_t17) a + S1x16.size a ≤ S128x128.size a := fun v34 k0_hw2 k0_t17 k0_h17 => k0_hw2.2.2.2.2.1.2.2.1 k0_t17 k0_h17
theorem k0_off120_inb : ∀ (v34 : BitVec 32) (k0_hw2 : k0_chk2 v34) (k0_t17 : Fin (k0_t17_loop v34).trips), ∀ (k0_h17 : k0_cond17 v34 = 1#1), ∀ a, (k0_off120 v34 k0_t17) a + S1x16.size a ≤ S128x128.size a := fun v34 k0_hw2 k0_t17 k0_h17 => k0_hw2.2.2.2.2.1.2.2.2.1 k0_t17 k0_h17
theorem k0_off121_inb : ∀ (v34 : BitVec 32) (k0_hw2 : k0_chk2 v34) (k0_t17 : Fin (k0_t17_loop v34).trips), ∀ (k0_h17 : k0_cond17 v34 = 1#1), ∀ a, (k0_off121 v34 k0_t17) a + S1x16.size a ≤ S128x128.size a := fun v34 k0_hw2 k0_t17 k0_h17 => k0_hw2.2.2.2.2.1.2.2.2.2.1 k0_t17 k0_h17
theorem k0_off122_inb : ∀ (v34 : BitVec 32) (k0_hw2 : k0_chk2 v34) (k0_t17 : Fin (k0_t17_loop v34).trips), ∀ (k0_h17 : k0_cond17 v34 = 1#1), ∀ a, (k0_off122 v34 k0_t17) a + S1x16.size a ≤ S128x128.size a := fun v34 k0_hw2 k0_t17 k0_h17 => k0_hw2.2.2.2.2.1.2.2.2.2.2.1 k0_t17 k0_h17
theorem k0_off123_inb : ∀ (v34 : BitVec 32) (k0_hw2 : k0_chk2 v34) (k0_t17 : Fin (k0_t17_loop v34).trips), ∀ (k0_h17 : k0_cond17 v34 = 1#1), ∀ a, (k0_off123 v34 k0_t17) a + S1x16.size a ≤ S128x128.size a := fun v34 k0_hw2 k0_t17 k0_h17 => k0_hw2.2.2.2.2.1.2.2.2.2.2.2.1 k0_t17 k0_h17
theorem k0_t18_ok : ∀ (v34 : BitVec 32) (k0_hw2 : k0_chk2 v34), ∀ (k0_h17 : k0_cond17 v34 = 1#1), (k0_t18_loop v34).OK := fun v34 k0_hw2 k0_h17 => k0_hw2.2.2.2.2.1.2.2.2.2.2.2.2.1 k0_h17
theorem k0_off124_inb : ∀ (v34 : BitVec 32) (k0_hw2 : k0_chk2 v34) (k0_t18 : Fin (k0_t18_loop v34).trips), ∀ (k0_h17 : k0_cond17 v34 = 1#1), ∀ a, (k0_off124 v34 k0_t18) a + S1x16.size a ≤ S128x128.size a := fun v34 k0_hw2 k0_t18 k0_h17 => k0_hw2.2.2.2.2.1.2.2.2.2.2.2.2.2.1 k0_t18 k0_h17
theorem k0_off125_inb : ∀ (v34 : BitVec 32) (k0_hw2 : k0_chk2 v34) (k0_t18 : Fin (k0_t18_loop v34).trips), ∀ (k0_h17 : k0_cond17 v34 = 1#1), ∀ a, (k0_off125 v34 k0_t18) a + S1x16.size a ≤ S128x128.size a := fun v34 k0_hw2 k0_t18 k0_h17 => k0_hw2.2.2.2.2.1.2.2.2.2.2.2.2.2.2.1 k0_t18 k0_h17
theorem k0_off126_inb : ∀ (v34 : BitVec 32) (k0_hw2 : k0_chk2 v34) (k0_t18 : Fin (k0_t18_loop v34).trips), ∀ (k0_h17 : k0_cond17 v34 = 1#1), ∀ a, (k0_off126 v34 k0_t18) a + S1x16.size a ≤ S128x128.size a := fun v34 k0_hw2 k0_t18 k0_h17 => k0_hw2.2.2.2.2.1.2.2.2.2.2.2.2.2.2.2.1 k0_t18 k0_h17
theorem k0_off127_inb : ∀ (v34 : BitVec 32) (k0_hw2 : k0_chk2 v34) (k0_t18 : Fin (k0_t18_loop v34).trips), ∀ (k0_h17 : k0_cond17 v34 = 1#1), ∀ a, (k0_off127 v34 k0_t18) a + S1x16.size a ≤ S128x128.size a := fun v34 k0_hw2 k0_t18 k0_h17 => k0_hw2.2.2.2.2.1.2.2.2.2.2.2.2.2.2.2.2.1 k0_t18 k0_h17
theorem k0_off128_inb : ∀ (v34 : BitVec 32) (k0_hw2 : k0_chk2 v34) (k0_t18 : Fin (k0_t18_loop v34).trips), ∀ (k0_h17 : k0_cond17 v34 = 1#1), ∀ a, (k0_off128 v34 k0_t18) a + S1x16.size a ≤ S128x128.size a := fun v34 k0_hw2 k0_t18 k0_h17 => k0_hw2.2.2.2.2.1.2.2.2.2.2.2.2.2.2.2.2.2.1 k0_t18 k0_h17
theorem k0_off129_inb : ∀ (v34 : BitVec 32) (k0_hw2 : k0_chk2 v34) (k0_t18 : Fin (k0_t18_loop v34).trips), ∀ (k0_h17 : k0_cond17 v34 = 1#1), ∀ a, (k0_off129 v34 k0_t18) a + S1x16.size a ≤ S128x128.size a := fun v34 k0_hw2 k0_t18 k0_h17 => k0_hw2.2.2.2.2.1.2.2.2.2.2.2.2.2.2.2.2.2.2.1 k0_t18 k0_h17
theorem k0_off130_inb : ∀ (v34 : BitVec 32) (k0_hw2 : k0_chk2 v34) (k0_t18 : Fin (k0_t18_loop v34).trips), ∀ (k0_h17 : k0_cond17 v34 = 1#1), ∀ a, (k0_off130 v34 k0_t18) a + S1x16.size a ≤ S128x128.size a := fun v34 k0_hw2 k0_t18 k0_h17 => k0_hw2.2.2.2.2.1.2.2.2.2.2.2.2.2.2.2.2.2.2.2.1 k0_t18 k0_h17
theorem k0_off131_inb : ∀ (v34 : BitVec 32) (k0_hw2 : k0_chk2 v34) (k0_t18 : Fin (k0_t18_loop v34).trips), ∀ (k0_h17 : k0_cond17 v34 = 1#1), ∀ a, (k0_off131 v34 k0_t18) a + S1x16.size a ≤ S128x128.size a := fun v34 k0_hw2 k0_t18 k0_h17 => k0_hw2.2.2.2.2.1.2.2.2.2.2.2.2.2.2.2.2.2.2.2.2.1 k0_t18 k0_h17
theorem k0_t19_ok : ∀ (v34 : BitVec 32) (k0_hw2 : k0_chk2 v34), ∀ (k0_h19 : k0_cond19 v34 = 1#1), (k0_t19_loop v34).OK := fun v34 k0_hw2 k0_h19 => k0_hw2.2.2.2.2.1.2.2.2.2.2.2.2.2.2.2.2.2.2.2.2.2.1 k0_h19
theorem k0_off132_inb : ∀ (v34 : BitVec 32) (k0_hw2 : k0_chk2 v34) (k0_t19 : Fin (k0_t19_loop v34).trips), ∀ (k0_h19 : k0_cond19 v34 = 1#1), ∀ a, (k0_off132 v34 k0_t19) a + S1x16.size a ≤ S128x128.size a := fun v34 k0_hw2 k0_t19 k0_h19 => k0_hw2.2.2.2.2.1.2.2.2.2.2.2.2.2.2.2.2.2.2.2.2.2.2.1 k0_t19 k0_h19
theorem k0_off133_inb : ∀ (v34 : BitVec 32) (k0_hw2 : k0_chk2 v34) (k0_t19 : Fin (k0_t19_loop v34).trips), ∀ (k0_h19 : k0_cond19 v34 = 1#1), ∀ a, (k0_off133 v34 k0_t19) a + S1x16.size a ≤ S128x128.size a := fun v34 k0_hw2 k0_t19 k0_h19 => k0_hw2.2.2.2.2.1.2.2.2.2.2.2.2.2.2.2.2.2.2.2.2.2.2.2.1 k0_t19 k0_h19
theorem k0_off134_inb : ∀ (v34 : BitVec 32) (k0_hw2 : k0_chk2 v34) (k0_t19 : Fin (k0_t19_loop v34).trips), ∀ (k0_h19 : k0_cond19 v34 = 1#1), ∀ a, (k0_off134 v34 k0_t19) a + S1x16.size a ≤ S128x128.size a := fun v34 k0_hw2 k0_t19 k0_h19 => k0_hw2.2.2.2.2.1.2.2.2.2.2.2.2.2.2.2.2.2.2.2.2.2.2.2.2.1 k0_t19 k0_h19
theorem k0_off135_inb : ∀ (v34 : BitVec 32) (k0_hw2 : k0_chk2 v34) (k0_t19 : Fin (k0_t19_loop v34).trips), ∀ (k0_h19 : k0_cond19 v34 = 1#1), ∀ a, (k0_off135 v34 k0_t19) a + S1x16.size a ≤ S128x128.size a := fun v34 k0_hw2 k0_t19 k0_h19 => k0_hw2.2.2.2.2.1.2.2.2.2.2.2.2.2.2.2.2.2.2.2.2.2.2.2.2.2.1 k0_t19 k0_h19
theorem k0_off136_inb : ∀ (v34 : BitVec 32) (k0_hw2 : k0_chk2 v34) (k0_t19 : Fin (k0_t19_loop v34).trips), ∀ (k0_h19 : k0_cond19 v34 = 1#1), ∀ a, (k0_off136 v34 k0_t19) a + S1x16.size a ≤ S128x128.size a := fun v34 k0_hw2 k0_t19 k0_h19 => k0_hw2.2.2.2.2.1.2.2.2.2.2.2.2.2.2.2.2.2.2.2.2.2.2.2.2.2.2.1 k0_t19 k0_h19
theorem k0_off137_inb : ∀ (v34 : BitVec 32) (k0_hw2 : k0_chk2 v34) (k0_t19 : Fin (k0_t19_loop v34).trips), ∀ (k0_h19 : k0_cond19 v34 = 1#1), ∀ a, (k0_off137 v34 k0_t19) a + S1x16.size a ≤ S128x128.size a := fun v34 k0_hw2 k0_t19 k0_h19 => k0_hw2.2.2.2.2.1.2.2.2.2.2.2.2.2.2.2.2.2.2.2.2.2.2.2.2.2.2.2.1 k0_t19 k0_h19
theorem k0_off138_inb : ∀ (v34 : BitVec 32) (k0_hw2 : k0_chk2 v34) (k0_t19 : Fin (k0_t19_loop v34).trips), ∀ (k0_h19 : k0_cond19 v34 = 1#1), ∀ a, (k0_off138 v34 k0_t19) a + S1x16.size a ≤ S128x128.size a := fun v34 k0_hw2 k0_t19 k0_h19 => k0_hw2.2.2.2.2.1.2.2.2.2.2.2.2.2.2.2.2.2.2.2.2.2.2.2.2.2.2.2.2.1 k0_t19 k0_h19
theorem k0_off139_inb : ∀ (v34 : BitVec 32) (k0_hw2 : k0_chk2 v34) (k0_t19 : Fin (k0_t19_loop v34).trips), ∀ (k0_h19 : k0_cond19 v34 = 1#1), ∀ a, (k0_off139 v34 k0_t19) a + S1x16.size a ≤ S128x128.size a := fun v34 k0_hw2 k0_t19 k0_h19 => k0_hw2.2.2.2.2.1.2.2.2.2.2.2.2.2.2.2.2.2.2.2.2.2.2.2.2.2.2.2.2.2.1 k0_t19 k0_h19
theorem k0_t20_ok : ∀ (v34 : BitVec 32) (k0_hw2 : k0_chk2 v34), ∀ (k0_h19 : k0_cond19 v34 = 1#1), (k0_t20_loop v34).OK := fun v34 k0_hw2 k0_h19 => k0_hw2.2.2.2.2.1.2.2.2.2.2.2.2.2.2.2.2.2.2.2.2.2.2.2.2.2.2.2.2.2.2.1 k0_h19
theorem k0_off140_inb : ∀ (v34 : BitVec 32) (k0_hw2 : k0_chk2 v34) (k0_t20 : Fin (k0_t20_loop v34).trips), ∀ (k0_h19 : k0_cond19 v34 = 1#1), ∀ a, (k0_off140 v34 k0_t20) a + S1x16.size a ≤ S128x128.size a := fun v34 k0_hw2 k0_t20 k0_h19 => k0_hw2.2.2.2.2.1.2.2.2.2.2.2.2.2.2.2.2.2.2.2.2.2.2.2.2.2.2.2.2.2.2.2.1 k0_t20 k0_h19
theorem k0_off141_inb : ∀ (v34 : BitVec 32) (k0_hw2 : k0_chk2 v34) (k0_t20 : Fin (k0_t20_loop v34).trips), ∀ (k0_h19 : k0_cond19 v34 = 1#1), ∀ a, (k0_off141 v34 k0_t20) a + S1x16.size a ≤ S128x128.size a := fun v34 k0_hw2 k0_t20 k0_h19 => k0_hw2.2.2.2.2.1.2.2.2.2.2.2.2.2.2.2.2.2.2.2.2.2.2.2.2.2.2.2.2.2.2.2.2.1 k0_t20 k0_h19
theorem k0_off142_inb : ∀ (v34 : BitVec 32) (k0_hw2 : k0_chk2 v34) (k0_t20 : Fin (k0_t20_loop v34).trips), ∀ (k0_h19 : k0_cond19 v34 = 1#1), ∀ a, (k0_off142 v34 k0_t20) a + S1x16.size a ≤ S128x128.size a := fun v34 k0_hw2 k0_t20 k0_h19 => k0_hw2.2.2.2.2.1.2.2.2.2.2.2.2.2.2.2.2.2.2.2.2.2.2.2.2.2.2.2.2.2.2.2.2.2.1 k0_t20 k0_h19
theorem k0_off143_inb : ∀ (v34 : BitVec 32) (k0_hw2 : k0_chk2 v34) (k0_t20 : Fin (k0_t20_loop v34).trips), ∀ (k0_h19 : k0_cond19 v34 = 1#1), ∀ a, (k0_off143 v34 k0_t20) a + S1x16.size a ≤ S128x128.size a := fun v34 k0_hw2 k0_t20 k0_h19 => k0_hw2.2.2.2.2.1.2.2.2.2.2.2.2.2.2.2.2.2.2.2.2.2.2.2.2.2.2.2.2.2.2.2.2.2.2.1 k0_t20 k0_h19
theorem k0_off144_inb : ∀ (v34 : BitVec 32) (k0_hw2 : k0_chk2 v34) (k0_t20 : Fin (k0_t20_loop v34).trips), ∀ (k0_h19 : k0_cond19 v34 = 1#1), ∀ a, (k0_off144 v34 k0_t20) a + S1x16.size a ≤ S128x128.size a := fun v34 k0_hw2 k0_t20 k0_h19 => k0_hw2.2.2.2.2.1.2.2.2.2.2.2.2.2.2.2.2.2.2.2.2.2.2.2.2.2.2.2.2.2.2.2.2.2.2.2.1 k0_t20 k0_h19
theorem k0_off145_inb : ∀ (v34 : BitVec 32) (k0_hw2 : k0_chk2 v34) (k0_t20 : Fin (k0_t20_loop v34).trips), ∀ (k0_h19 : k0_cond19 v34 = 1#1), ∀ a, (k0_off145 v34 k0_t20) a + S1x16.size a ≤ S128x128.size a := fun v34 k0_hw2 k0_t20 k0_h19 => k0_hw2.2.2.2.2.1.2.2.2.2.2.2.2.2.2.2.2.2.2.2.2.2.2.2.2.2.2.2.2.2.2.2.2.2.2.2.2 k0_t20 k0_h19
theorem k0_off146_inb : ∀ (v34 : BitVec 32) (k0_hw2 : k0_chk2 v34) (k0_t20 : Fin (k0_t20_loop v34).trips), ∀ (k0_h19 : k0_cond19 v34 = 1#1), ∀ a, (k0_off146 v34 k0_t20) a + S1x16.size a ≤ S128x128.size a := fun v34 k0_hw2 k0_t20 k0_h19 => k0_hw2.2.2.2.2.2.1.1 k0_t20 k0_h19
theorem k0_off147_inb : ∀ (v34 : BitVec 32) (k0_hw2 : k0_chk2 v34) (k0_t20 : Fin (k0_t20_loop v34).trips), ∀ (k0_h19 : k0_cond19 v34 = 1#1), ∀ a, (k0_off147 v34 k0_t20) a + S1x16.size a ≤ S128x128.size a := fun v34 k0_hw2 k0_t20 k0_h19 => k0_hw2.2.2.2.2.2.1.2.1 k0_t20 k0_h19
theorem k0_t21_ok : ∀ (v34 : BitVec 32) (k0_hw2 : k0_chk2 v34), ∀ (k0_h21 : k0_cond21 v34 = 1#1), (k0_t21_loop v34).OK := fun v34 k0_hw2 k0_h21 => k0_hw2.2.2.2.2.2.1.2.2.1 k0_h21
theorem k0_off148_inb : ∀ (v34 : BitVec 32) (k0_hw2 : k0_chk2 v34) (k0_t21 : Fin (k0_t21_loop v34).trips), ∀ (k0_h21 : k0_cond21 v34 = 1#1), ∀ a, (k0_off148 v34 k0_t21) a + S1x16.size a ≤ S128x128.size a := fun v34 k0_hw2 k0_t21 k0_h21 => k0_hw2.2.2.2.2.2.1.2.2.2.1 k0_t21 k0_h21
theorem k0_off149_inb : ∀ (v34 : BitVec 32) (k0_hw2 : k0_chk2 v34) (k0_t21 : Fin (k0_t21_loop v34).trips), ∀ (k0_h21 : k0_cond21 v34 = 1#1), ∀ a, (k0_off149 v34 k0_t21) a + S1x16.size a ≤ S128x128.size a := fun v34 k0_hw2 k0_t21 k0_h21 => k0_hw2.2.2.2.2.2.1.2.2.2.2.1 k0_t21 k0_h21
theorem k0_off150_inb : ∀ (v34 : BitVec 32) (k0_hw2 : k0_chk2 v34) (k0_t21 : Fin (k0_t21_loop v34).trips), ∀ (k0_h21 : k0_cond21 v34 = 1#1), ∀ a, (k0_off150 v34 k0_t21) a + S1x16.size a ≤ S128x128.size a := fun v34 k0_hw2 k0_t21 k0_h21 => k0_hw2.2.2.2.2.2.1.2.2.2.2.2.1 k0_t21 k0_h21
theorem k0_off151_inb : ∀ (v34 : BitVec 32) (k0_hw2 : k0_chk2 v34) (k0_t21 : Fin (k0_t21_loop v34).trips), ∀ (k0_h21 : k0_cond21 v34 = 1#1), ∀ a, (k0_off151 v34 k0_t21) a + S1x16.size a ≤ S128x128.size a := fun v34 k0_hw2 k0_t21 k0_h21 => k0_hw2.2.2.2.2.2.1.2.2.2.2.2.2.1 k0_t21 k0_h21
theorem k0_off152_inb : ∀ (v34 : BitVec 32) (k0_hw2 : k0_chk2 v34) (k0_t21 : Fin (k0_t21_loop v34).trips), ∀ (k0_h21 : k0_cond21 v34 = 1#1), ∀ a, (k0_off152 v34 k0_t21) a + S1x16.size a ≤ S128x128.size a := fun v34 k0_hw2 k0_t21 k0_h21 => k0_hw2.2.2.2.2.2.1.2.2.2.2.2.2.2.1 k0_t21 k0_h21
theorem k0_off153_inb : ∀ (v34 : BitVec 32) (k0_hw2 : k0_chk2 v34) (k0_t21 : Fin (k0_t21_loop v34).trips), ∀ (k0_h21 : k0_cond21 v34 = 1#1), ∀ a, (k0_off153 v34 k0_t21) a + S1x16.size a ≤ S128x128.size a := fun v34 k0_hw2 k0_t21 k0_h21 => k0_hw2.2.2.2.2.2.1.2.2.2.2.2.2.2.2.1 k0_t21 k0_h21
theorem k0_off154_inb : ∀ (v34 : BitVec 32) (k0_hw2 : k0_chk2 v34) (k0_t21 : Fin (k0_t21_loop v34).trips), ∀ (k0_h21 : k0_cond21 v34 = 1#1), ∀ a, (k0_off154 v34 k0_t21) a + S1x16.size a ≤ S128x128.size a := fun v34 k0_hw2 k0_t21 k0_h21 => k0_hw2.2.2.2.2.2.1.2.2.2.2.2.2.2.2.2.1 k0_t21 k0_h21
theorem k0_off155_inb : ∀ (v34 : BitVec 32) (k0_hw2 : k0_chk2 v34) (k0_t21 : Fin (k0_t21_loop v34).trips), ∀ (k0_h21 : k0_cond21 v34 = 1#1), ∀ a, (k0_off155 v34 k0_t21) a + S1x16.size a ≤ S128x128.size a := fun v34 k0_hw2 k0_t21 k0_h21 => k0_hw2.2.2.2.2.2.1.2.2.2.2.2.2.2.2.2.2.1 k0_t21 k0_h21
theorem k0_t22_ok : ∀ (v34 : BitVec 32) (k0_hw2 : k0_chk2 v34), ∀ (k0_h21 : k0_cond21 v34 = 1#1), (k0_t22_loop v34).OK := fun v34 k0_hw2 k0_h21 => k0_hw2.2.2.2.2.2.1.2.2.2.2.2.2.2.2.2.2.2.1 k0_h21
theorem k0_off156_inb : ∀ (v34 : BitVec 32) (k0_hw2 : k0_chk2 v34) (k0_t22 : Fin (k0_t22_loop v34).trips), ∀ (k0_h21 : k0_cond21 v34 = 1#1), ∀ a, (k0_off156 v34 k0_t22) a + S1x16.size a ≤ S128x128.size a := fun v34 k0_hw2 k0_t22 k0_h21 => k0_hw2.2.2.2.2.2.1.2.2.2.2.2.2.2.2.2.2.2.2.1 k0_t22 k0_h21
theorem k0_off157_inb : ∀ (v34 : BitVec 32) (k0_hw2 : k0_chk2 v34) (k0_t22 : Fin (k0_t22_loop v34).trips), ∀ (k0_h21 : k0_cond21 v34 = 1#1), ∀ a, (k0_off157 v34 k0_t22) a + S1x16.size a ≤ S128x128.size a := fun v34 k0_hw2 k0_t22 k0_h21 => k0_hw2.2.2.2.2.2.1.2.2.2.2.2.2.2.2.2.2.2.2.2.1 k0_t22 k0_h21
theorem k0_off158_inb : ∀ (v34 : BitVec 32) (k0_hw2 : k0_chk2 v34) (k0_t22 : Fin (k0_t22_loop v34).trips), ∀ (k0_h21 : k0_cond21 v34 = 1#1), ∀ a, (k0_off158 v34 k0_t22) a + S1x16.size a ≤ S128x128.size a := fun v34 k0_hw2 k0_t22 k0_h21 => k0_hw2.2.2.2.2.2.1.2.2.2.2.2.2.2.2.2.2.2.2.2.2.1 k0_t22 k0_h21
theorem k0_off159_inb : ∀ (v34 : BitVec 32) (k0_hw2 : k0_chk2 v34) (k0_t22 : Fin (k0_t22_loop v34).trips), ∀ (k0_h21 : k0_cond21 v34 = 1#1), ∀ a, (k0_off159 v34 k0_t22) a + S1x16.size a ≤ S128x128.size a := fun v34 k0_hw2 k0_t22 k0_h21 => k0_hw2.2.2.2.2.2.1.2.2.2.2.2.2.2.2.2.2.2.2.2.2.2.1 k0_t22 k0_h21
theorem k0_off160_inb : ∀ (v34 : BitVec 32) (k0_hw2 : k0_chk2 v34) (k0_t22 : Fin (k0_t22_loop v34).trips), ∀ (k0_h21 : k0_cond21 v34 = 1#1), ∀ a, (k0_off160 v34 k0_t22) a + S1x16.size a ≤ S128x128.size a := fun v34 k0_hw2 k0_t22 k0_h21 => k0_hw2.2.2.2.2.2.1.2.2.2.2.2.2.2.2.2.2.2.2.2.2.2.2.1 k0_t22 k0_h21
theorem k0_off161_inb : ∀ (v34 : BitVec 32) (k0_hw2 : k0_chk2 v34) (k0_t22 : Fin (k0_t22_loop v34).trips), ∀ (k0_h21 : k0_cond21 v34 = 1#1), ∀ a, (k0_off161 v34 k0_t22) a + S1x16.size a ≤ S128x128.size a := fun v34 k0_hw2 k0_t22 k0_h21 => k0_hw2.2.2.2.2.2.1.2.2.2.2.2.2.2.2.2.2.2.2.2.2.2.2.2.1 k0_t22 k0_h21
theorem k0_off162_inb : ∀ (v34 : BitVec 32) (k0_hw2 : k0_chk2 v34) (k0_t22 : Fin (k0_t22_loop v34).trips), ∀ (k0_h21 : k0_cond21 v34 = 1#1), ∀ a, (k0_off162 v34 k0_t22) a + S1x16.size a ≤ S128x128.size a := fun v34 k0_hw2 k0_t22 k0_h21 => k0_hw2.2.2.2.2.2.1.2.2.2.2.2.2.2.2.2.2.2.2.2.2.2.2.2.2.1 k0_t22 k0_h21
theorem k0_off163_inb : ∀ (v34 : BitVec 32) (k0_hw2 : k0_chk2 v34) (k0_t22 : Fin (k0_t22_loop v34).trips), ∀ (k0_h21 : k0_cond21 v34 = 1#1), ∀ a, (k0_off163 v34 k0_t22) a + S1x16.size a ≤ S128x128.size a := fun v34 k0_hw2 k0_t22 k0_h21 => k0_hw2.2.2.2.2.2.1.2.2.2.2.2.2.2.2.2.2.2.2.2.2.2.2.2.2.2.1 k0_t22 k0_h21
theorem k0_t23_ok : ∀ (v34 : BitVec 32) (k0_hw2 : k0_chk2 v34), ∀ (k0_h23 : k0_cond23 v34 = 1#1), (k0_t23_loop v34).OK := fun v34 k0_hw2 k0_h23 => k0_hw2.2.2.2.2.2.1.2.2.2.2.2.2.2.2.2.2.2.2.2.2.2.2.2.2.2.2.1 k0_h23
theorem k0_off164_inb : ∀ (v34 : BitVec 32) (k0_hw2 : k0_chk2 v34) (k0_t23 : Fin (k0_t23_loop v34).trips), ∀ (k0_h23 : k0_cond23 v34 = 1#1), ∀ a, (k0_off164 v34 k0_t23) a + S1x16.size a ≤ S128x128.size a := fun v34 k0_hw2 k0_t23 k0_h23 => k0_hw2.2.2.2.2.2.1.2.2.2.2.2.2.2.2.2.2.2.2.2.2.2.2.2.2.2.2.2.1 k0_t23 k0_h23
theorem k0_off165_inb : ∀ (v34 : BitVec 32) (k0_hw2 : k0_chk2 v34) (k0_t23 : Fin (k0_t23_loop v34).trips), ∀ (k0_h23 : k0_cond23 v34 = 1#1), ∀ a, (k0_off165 v34 k0_t23) a + S1x16.size a ≤ S128x128.size a := fun v34 k0_hw2 k0_t23 k0_h23 => k0_hw2.2.2.2.2.2.1.2.2.2.2.2.2.2.2.2.2.2.2.2.2.2.2.2.2.2.2.2.2.1 k0_t23 k0_h23
theorem k0_off166_inb : ∀ (v34 : BitVec 32) (k0_hw2 : k0_chk2 v34) (k0_t23 : Fin (k0_t23_loop v34).trips), ∀ (k0_h23 : k0_cond23 v34 = 1#1), ∀ a, (k0_off166 v34 k0_t23) a + S1x16.size a ≤ S128x128.size a := fun v34 k0_hw2 k0_t23 k0_h23 => k0_hw2.2.2.2.2.2.1.2.2.2.2.2.2.2.2.2.2.2.2.2.2.2.2.2.2.2.2.2.2.2.1 k0_t23 k0_h23
theorem k0_off167_inb : ∀ (v34 : BitVec 32) (k0_hw2 : k0_chk2 v34) (k0_t23 : Fin (k0_t23_loop v34).trips), ∀ (k0_h23 : k0_cond23 v34 = 1#1), ∀ a, (k0_off167 v34 k0_t23) a + S1x16.size a ≤ S128x128.size a := fun v34 k0_hw2 k0_t23 k0_h23 => k0_hw2.2.2.2.2.2.1.2.2.2.2.2.2.2.2.2.2.2.2.2.2.2.2.2.2.2.2.2.2.2.2.1 k0_t23 k0_h23
theorem k0_off168_inb : ∀ (v34 : BitVec 32) (k0_hw2 : k0_chk2 v34) (k0_t23 : Fin (k0_t23_loop v34).trips), ∀ (k0_h23 : k0_cond23 v34 = 1#1), ∀ a, (k0_off168 v34 k0_t23) a + S1x16.size a ≤ S128x128.size a := fun v34 k0_hw2 k0_t23 k0_h23 => k0_hw2.2.2.2.2.2.1.2.2.2.2.2.2.2.2.2.2.2.2.2.2.2.2.2.2.2.2.2.2.2.2.2.1 k0_t23 k0_h23
theorem k0_off169_inb : ∀ (v34 : BitVec 32) (k0_hw2 : k0_chk2 v34) (k0_t23 : Fin (k0_t23_loop v34).trips), ∀ (k0_h23 : k0_cond23 v34 = 1#1), ∀ a, (k0_off169 v34 k0_t23) a + S1x16.size a ≤ S128x128.size a := fun v34 k0_hw2 k0_t23 k0_h23 => k0_hw2.2.2.2.2.2.1.2.2.2.2.2.2.2.2.2.2.2.2.2.2.2.2.2.2.2.2.2.2.2.2.2.2.1 k0_t23 k0_h23
theorem k0_off170_inb : ∀ (v34 : BitVec 32) (k0_hw2 : k0_chk2 v34) (k0_t23 : Fin (k0_t23_loop v34).trips), ∀ (k0_h23 : k0_cond23 v34 = 1#1), ∀ a, (k0_off170 v34 k0_t23) a + S1x16.size a ≤ S128x128.size a := fun v34 k0_hw2 k0_t23 k0_h23 => k0_hw2.2.2.2.2.2.1.2.2.2.2.2.2.2.2.2.2.2.2.2.2.2.2.2.2.2.2.2.2.2.2.2.2.2.1 k0_t23 k0_h23
theorem k0_off171_inb : ∀ (v34 : BitVec 32) (k0_hw2 : k0_chk2 v34) (k0_t23 : Fin (k0_t23_loop v34).trips), ∀ (k0_h23 : k0_cond23 v34 = 1#1), ∀ a, (k0_off171 v34 k0_t23) a + S1x16.size a ≤ S128x128.size a := fun v34 k0_hw2 k0_t23 k0_h23 => k0_hw2.2.2.2.2.2.1.2.2.2.2.2.2.2.2.2.2.2.2.2.2.2.2.2.2.2.2.2.2.2.2.2.2.2.2.1 k0_t23 k0_h23
theorem k0_t24_ok : ∀ (v34 : BitVec 32) (k0_hw2 : k0_chk2 v34), ∀ (k0_h23 : k0_cond23 v34 = 1#1), (k0_t24_loop v34).OK := fun v34 k0_hw2 k0_h23 => k0_hw2.2.2.2.2.2.1.2.2.2.2.2.2.2.2.2.2.2.2.2.2.2.2.2.2.2.2.2.2.2.2.2.2.2.2.2.1 k0_h23
theorem k0_off172_inb : ∀ (v34 : BitVec 32) (k0_hw2 : k0_chk2 v34) (k0_t24 : Fin (k0_t24_loop v34).trips), ∀ (k0_h23 : k0_cond23 v34 = 1#1), ∀ a, (k0_off172 v34 k0_t24) a + S1x16.size a ≤ S128x128.size a := fun v34 k0_hw2 k0_t24 k0_h23 => k0_hw2.2.2.2.2.2.1.2.2.2.2.2.2.2.2.2.2.2.2.2.2.2.2.2.2.2.2.2.2.2.2.2.2.2.2.2.2.1 k0_t24 k0_h23
theorem k0_off173_inb : ∀ (v34 : BitVec 32) (k0_hw2 : k0_chk2 v34) (k0_t24 : Fin (k0_t24_loop v34).trips), ∀ (k0_h23 : k0_cond23 v34 = 1#1), ∀ a, (k0_off173 v34 k0_t24) a + S1x16.size a ≤ S128x128.size a := fun v34 k0_hw2 k0_t24 k0_h23 => k0_hw2.2.2.2.2.2.1.2.2.2.2.2.2.2.2.2.2.2.2.2.2.2.2.2.2.2.2.2.2.2.2.2.2.2.2.2.2.2 k0_t24 k0_h23
theorem k0_off174_inb : ∀ (v34 : BitVec 32) (k0_hw2 : k0_chk2 v34) (k0_t24 : Fin (k0_t24_loop v34).trips), ∀ (k0_h23 : k0_cond23 v34 = 1#1), ∀ a, (k0_off174 v34 k0_t24) a + S1x16.size a ≤ S128x128.size a := fun v34 k0_hw2 k0_t24 k0_h23 => k0_hw2.2.2.2.2.2.2.1.1 k0_t24 k0_h23
theorem k0_off175_inb : ∀ (v34 : BitVec 32) (k0_hw2 : k0_chk2 v34) (k0_t24 : Fin (k0_t24_loop v34).trips), ∀ (k0_h23 : k0_cond23 v34 = 1#1), ∀ a, (k0_off175 v34 k0_t24) a + S1x16.size a ≤ S128x128.size a := fun v34 k0_hw2 k0_t24 k0_h23 => k0_hw2.2.2.2.2.2.2.1.2.1 k0_t24 k0_h23
theorem k0_off176_inb : ∀ (v34 : BitVec 32) (k0_hw2 : k0_chk2 v34) (k0_t24 : Fin (k0_t24_loop v34).trips), ∀ (k0_h23 : k0_cond23 v34 = 1#1), ∀ a, (k0_off176 v34 k0_t24) a + S1x16.size a ≤ S128x128.size a := fun v34 k0_hw2 k0_t24 k0_h23 => k0_hw2.2.2.2.2.2.2.1.2.2.1 k0_t24 k0_h23
theorem k0_off177_inb : ∀ (v34 : BitVec 32) (k0_hw2 : k0_chk2 v34) (k0_t24 : Fin (k0_t24_loop v34).trips), ∀ (k0_h23 : k0_cond23 v34 = 1#1), ∀ a, (k0_off177 v34 k0_t24) a + S1x16.size a ≤ S128x128.size a := fun v34 k0_hw2 k0_t24 k0_h23 => k0_hw2.2.2.2.2.2.2.1.2.2.2.1 k0_t24 k0_h23
theorem k0_off178_inb : ∀ (v34 : BitVec 32) (k0_hw2 : k0_chk2 v34) (k0_t24 : Fin (k0_t24_loop v34).trips), ∀ (k0_h23 : k0_cond23 v34 = 1#1), ∀ a, (k0_off178 v34 k0_t24) a + S1x16.size a ≤ S128x128.size a := fun v34 k0_hw2 k0_t24 k0_h23 => k0_hw2.2.2.2.2.2.2.1.2.2.2.2.1 k0_t24 k0_h23
theorem k0_off179_inb : ∀ (v34 : BitVec 32) (k0_hw2 : k0_chk2 v34) (k0_t24 : Fin (k0_t24_loop v34).trips), ∀ (k0_h23 : k0_cond23 v34 = 1#1), ∀ a, (k0_off179 v34 k0_t24) a + S1x16.size a ≤ S128x128.size a := fun v34 k0_hw2 k0_t24 k0_h23 => k0_hw2.2.2.2.2.2.2.1.2.2.2.2.2.1 k0_t24 k0_h23
theorem k0_t25_ok : ∀ (v34 : BitVec 32) (k0_hw2 : k0_chk2 v34), ∀ (k0_h25 : k0_cond25 v34 = 1#1), (k0_t25_loop v34).OK := fun v34 k0_hw2 k0_h25 => k0_hw2.2.2.2.2.2.2.1.2.2.2.2.2.2.1 k0_h25
theorem k0_off180_inb : ∀ (v34 : BitVec 32) (k0_hw2 : k0_chk2 v34) (k0_t25 : Fin (k0_t25_loop v34).trips), ∀ (k0_h25 : k0_cond25 v34 = 1#1), ∀ a, (k0_off180 v34 k0_t25) a + S1x16.size a ≤ S128x128.size a := fun v34 k0_hw2 k0_t25 k0_h25 => k0_hw2.2.2.2.2.2.2.1.2.2.2.2.2.2.2.1 k0_t25 k0_h25
theorem k0_off181_inb : ∀ (v34 : BitVec 32) (k0_hw2 : k0_chk2 v34) (k0_t25 : Fin (k0_t25_loop v34).trips), ∀ (k0_h25 : k0_cond25 v34 = 1#1), ∀ a, (k0_off181 v34 k0_t25) a + S1x16.size a ≤ S128x128.size a := fun v34 k0_hw2 k0_t25 k0_h25 => k0_hw2.2.2.2.2.2.2.1.2.2.2.2.2.2.2.2.1 k0_t25 k0_h25
theorem k0_off182_inb : ∀ (v34 : BitVec 32) (k0_hw2 : k0_chk2 v34) (k0_t25 : Fin (k0_t25_loop v34).trips), ∀ (k0_h25 : k0_cond25 v34 = 1#1), ∀ a, (k0_off182 v34 k0_t25) a + S1x16.size a ≤ S128x128.size a := fun v34 k0_hw2 k0_t25 k0_h25 => k0_hw2.2.2.2.2.2.2.1.2.2.2.2.2.2.2.2.2.1 k0_t25 k0_h25
theorem k0_off183_inb : ∀ (v34 : BitVec 32) (k0_hw2 : k0_chk2 v34) (k0_t25 : Fin (k0_t25_loop v34).trips), ∀ (k0_h25 : k0_cond25 v34 = 1#1), ∀ a, (k0_off183 v34 k0_t25) a + S1x16.size a ≤ S128x128.size a := fun v34 k0_hw2 k0_t25 k0_h25 => k0_hw2.2.2.2.2.2.2.1.2.2.2.2.2.2.2.2.2.2.1 k0_t25 k0_h25
theorem k0_off184_inb : ∀ (v34 : BitVec 32) (k0_hw2 : k0_chk2 v34) (k0_t25 : Fin (k0_t25_loop v34).trips), ∀ (k0_h25 : k0_cond25 v34 = 1#1), ∀ a, (k0_off184 v34 k0_t25) a + S1x16.size a ≤ S128x128.size a := fun v34 k0_hw2 k0_t25 k0_h25 => k0_hw2.2.2.2.2.2.2.1.2.2.2.2.2.2.2.2.2.2.2.1 k0_t25 k0_h25
theorem k0_off185_inb : ∀ (v34 : BitVec 32) (k0_hw2 : k0_chk2 v34) (k0_t25 : Fin (k0_t25_loop v34).trips), ∀ (k0_h25 : k0_cond25 v34 = 1#1), ∀ a, (k0_off185 v34 k0_t25) a + S1x16.size a ≤ S128x128.size a := fun v34 k0_hw2 k0_t25 k0_h25 => k0_hw2.2.2.2.2.2.2.1.2.2.2.2.2.2.2.2.2.2.2.2.1 k0_t25 k0_h25
theorem k0_off186_inb : ∀ (v34 : BitVec 32) (k0_hw2 : k0_chk2 v34) (k0_t25 : Fin (k0_t25_loop v34).trips), ∀ (k0_h25 : k0_cond25 v34 = 1#1), ∀ a, (k0_off186 v34 k0_t25) a + S1x16.size a ≤ S128x128.size a := fun v34 k0_hw2 k0_t25 k0_h25 => k0_hw2.2.2.2.2.2.2.1.2.2.2.2.2.2.2.2.2.2.2.2.2.1 k0_t25 k0_h25
theorem k0_off187_inb : ∀ (v34 : BitVec 32) (k0_hw2 : k0_chk2 v34) (k0_t25 : Fin (k0_t25_loop v34).trips), ∀ (k0_h25 : k0_cond25 v34 = 1#1), ∀ a, (k0_off187 v34 k0_t25) a + S1x16.size a ≤ S128x128.size a := fun v34 k0_hw2 k0_t25 k0_h25 => k0_hw2.2.2.2.2.2.2.1.2.2.2.2.2.2.2.2.2.2.2.2.2.2.1 k0_t25 k0_h25
theorem k0_t26_ok : ∀ (v34 : BitVec 32) (k0_hw2 : k0_chk2 v34), ∀ (k0_h25 : k0_cond25 v34 = 1#1), (k0_t26_loop v34).OK := fun v34 k0_hw2 k0_h25 => k0_hw2.2.2.2.2.2.2.1.2.2.2.2.2.2.2.2.2.2.2.2.2.2.2.1 k0_h25
theorem k0_off188_inb : ∀ (v34 : BitVec 32) (k0_hw2 : k0_chk2 v34) (k0_t26 : Fin (k0_t26_loop v34).trips), ∀ (k0_h25 : k0_cond25 v34 = 1#1), ∀ a, (k0_off188 v34 k0_t26) a + S1x16.size a ≤ S128x128.size a := fun v34 k0_hw2 k0_t26 k0_h25 => k0_hw2.2.2.2.2.2.2.1.2.2.2.2.2.2.2.2.2.2.2.2.2.2.2.2.1 k0_t26 k0_h25
theorem k0_off189_inb : ∀ (v34 : BitVec 32) (k0_hw2 : k0_chk2 v34) (k0_t26 : Fin (k0_t26_loop v34).trips), ∀ (k0_h25 : k0_cond25 v34 = 1#1), ∀ a, (k0_off189 v34 k0_t26) a + S1x16.size a ≤ S128x128.size a := fun v34 k0_hw2 k0_t26 k0_h25 => k0_hw2.2.2.2.2.2.2.1.2.2.2.2.2.2.2.2.2.2.2.2.2.2.2.2.2.1 k0_t26 k0_h25
theorem k0_off190_inb : ∀ (v34 : BitVec 32) (k0_hw2 : k0_chk2 v34) (k0_t26 : Fin (k0_t26_loop v34).trips), ∀ (k0_h25 : k0_cond25 v34 = 1#1), ∀ a, (k0_off190 v34 k0_t26) a + S1x16.size a ≤ S128x128.size a := fun v34 k0_hw2 k0_t26 k0_h25 => k0_hw2.2.2.2.2.2.2.1.2.2.2.2.2.2.2.2.2.2.2.2.2.2.2.2.2.2.1 k0_t26 k0_h25
theorem k0_off191_inb : ∀ (v34 : BitVec 32) (k0_hw2 : k0_chk2 v34) (k0_t26 : Fin (k0_t26_loop v34).trips), ∀ (k0_h25 : k0_cond25 v34 = 1#1), ∀ a, (k0_off191 v34 k0_t26) a + S1x16.size a ≤ S128x128.size a := fun v34 k0_hw2 k0_t26 k0_h25 => k0_hw2.2.2.2.2.2.2.1.2.2.2.2.2.2.2.2.2.2.2.2.2.2.2.2.2.2.2.1 k0_t26 k0_h25
theorem k0_off192_inb : ∀ (v34 : BitVec 32) (k0_hw2 : k0_chk2 v34) (k0_t26 : Fin (k0_t26_loop v34).trips), ∀ (k0_h25 : k0_cond25 v34 = 1#1), ∀ a, (k0_off192 v34 k0_t26) a + S1x16.size a ≤ S128x128.size a := fun v34 k0_hw2 k0_t26 k0_h25 => k0_hw2.2.2.2.2.2.2.1.2.2.2.2.2.2.2.2.2.2.2.2.2.2.2.2.2.2.2.2.1 k0_t26 k0_h25
theorem k0_off193_inb : ∀ (v34 : BitVec 32) (k0_hw2 : k0_chk2 v34) (k0_t26 : Fin (k0_t26_loop v34).trips), ∀ (k0_h25 : k0_cond25 v34 = 1#1), ∀ a, (k0_off193 v34 k0_t26) a + S1x16.size a ≤ S128x128.size a := fun v34 k0_hw2 k0_t26 k0_h25 => k0_hw2.2.2.2.2.2.2.1.2.2.2.2.2.2.2.2.2.2.2.2.2.2.2.2.2.2.2.2.2.1 k0_t26 k0_h25
theorem k0_off194_inb : ∀ (v34 : BitVec 32) (k0_hw2 : k0_chk2 v34) (k0_t26 : Fin (k0_t26_loop v34).trips), ∀ (k0_h25 : k0_cond25 v34 = 1#1), ∀ a, (k0_off194 v34 k0_t26) a + S1x16.size a ≤ S128x128.size a := fun v34 k0_hw2 k0_t26 k0_h25 => k0_hw2.2.2.2.2.2.2.1.2.2.2.2.2.2.2.2.2.2.2.2.2.2.2.2.2.2.2.2.2.2.1 k0_t26 k0_h25
theorem k0_off195_inb : ∀ (v34 : BitVec 32) (k0_hw2 : k0_chk2 v34) (k0_t26 : Fin (k0_t26_loop v34).trips), ∀ (k0_h25 : k0_cond25 v34 = 1#1), ∀ a, (k0_off195 v34 k0_t26) a + S1x16.size a ≤ S128x128.size a := fun v34 k0_hw2 k0_t26 k0_h25 => k0_hw2.2.2.2.2.2.2.1.2.2.2.2.2.2.2.2.2.2.2.2.2.2.2.2.2.2.2.2.2.2.2.1 k0_t26 k0_h25
theorem k0_t27_ok : ∀ (v34 : BitVec 32) (k0_hw2 : k0_chk2 v34), ∀ (k0_h27 : k0_cond27 v34 = 1#1), (k0_t27_loop v34).OK := fun v34 k0_hw2 k0_h27 => k0_hw2.2.2.2.2.2.2.1.2.2.2.2.2.2.2.2.2.2.2.2.2.2.2.2.2.2.2.2.2.2.2.2.1 k0_h27
theorem k0_off196_inb : ∀ (v34 : BitVec 32) (k0_hw2 : k0_chk2 v34) (k0_t27 : Fin (k0_t27_loop v34).trips), ∀ (k0_h27 : k0_cond27 v34 = 1#1), ∀ a, (k0_off196 v34 k0_t27) a + S1x16.size a ≤ S128x128.size a := fun v34 k0_hw2 k0_t27 k0_h27 => k0_hw2.2.2.2.2.2.2.1.2.2.2.2.2.2.2.2.2.2.2.2.2.2.2.2.2.2.2.2.2.2.2.2.2.1 k0_t27 k0_h27
theorem k0_off197_inb : ∀ (v34 : BitVec 32) (k0_hw2 : k0_chk2 v34) (k0_t27 : Fin (k0_t27_loop v34).trips), ∀ (k0_h27 : k0_cond27 v34 = 1#1), ∀ a, (k0_off197 v34 k0_t27) a + S1x16.size a ≤ S128x128.size a := fun v34 k0_hw2 k0_t27 k0_h27 => k0_hw2.2.2.2.2.2.2.1.2.2.2.2.2.2.2.2.2.2.2.2.2.2.2.2.2.2.2.2.2.2.2.2.2.2.1 k0_t27 k0_h27
theorem k0_off198_inb : ∀ (v34 : BitVec 32) (k0_hw2 : k0_chk2 v34) (k0_t27 : Fin (k0_t27_loop v34).trips), ∀ (k0_h27 : k0_cond27 v34 = 1#1), ∀ a, (k0_off198 v34 k0_t27) a + S1x16.size a ≤ S128x128.size a := fun v34 k0_hw2 k0_t27 k0_h27 => k0_hw2.2.2.2.2.2.2.1.2.2.2.2.2.2.2.2.2.2.2.2.2.2.2.2.2.2.2.2.2.2.2.2.2.2.2.1 k0_t27 k0_h27
theorem k0_off199_inb : ∀ (v34 : BitVec 32) (k0_hw2 : k0_chk2 v34) (k0_t27 : Fin (k0_t27_loop v34).trips), ∀ (k0_h27 : k0_cond27 v34 = 1#1), ∀ a, (k0_off199 v34 k0_t27) a + S1x16.size a ≤ S128x128.size a := fun v34 k0_hw2 k0_t27 k0_h27 => k0_hw2.2.2.2.2.2.2.1.2.2.2.2.2.2.2.2.2.2.2.2.2.2.2.2.2.2.2.2.2.2.2.2.2.2.2.2.1 k0_t27 k0_h27
theorem k0_off200_inb : ∀ (v34 : BitVec 32) (k0_hw2 : k0_chk2 v34) (k0_t27 : Fin (k0_t27_loop v34).trips), ∀ (k0_h27 : k0_cond27 v34 = 1#1), ∀ a, (k0_off200 v34 k0_t27) a + S1x16.size a ≤ S128x128.size a := fun v34 k0_hw2 k0_t27 k0_h27 => k0_hw2.2.2.2.2.2.2.1.2.2.2.2.2.2.2.2.2.2.2.2.2.2.2.2.2.2.2.2.2.2.2.2.2.2.2.2.2.1 k0_t27 k0_h27
theorem k0_off201_inb : ∀ (v34 : BitVec 32) (k0_hw2 : k0_chk2 v34) (k0_t27 : Fin (k0_t27_loop v34).trips), ∀ (k0_h27 : k0_cond27 v34 = 1#1), ∀ a, (k0_off201 v34 k0_t27) a + S1x16.size a ≤ S128x128.size a := fun v34 k0_hw2 k0_t27 k0_h27 => k0_hw2.2.2.2.2.2.2.1.2.2.2.2.2.2.2.2.2.2.2.2.2.2.2.2.2.2.2.2.2.2.2.2.2.2.2.2.2.2.1 k0_t27 k0_h27
theorem k0_off202_inb : ∀ (v34 : BitVec 32) (k0_hw2 : k0_chk2 v34) (k0_t27 : Fin (k0_t27_loop v34).trips), ∀ (k0_h27 : k0_cond27 v34 = 1#1), ∀ a, (k0_off202 v34 k0_t27) a + S1x16.size a ≤ S128x128.size a := fun v34 k0_hw2 k0_t27 k0_h27 => k0_hw2.2.2.2.2.2.2.1.2.2.2.2.2.2.2.2.2.2.2.2.2.2.2.2.2.2.2.2.2.2.2.2.2.2.2.2.2.2.2 k0_t27 k0_h27
theorem k0_off203_inb : ∀ (v34 : BitVec 32) (k0_hw2 : k0_chk2 v34) (k0_t27 : Fin (k0_t27_loop v34).trips), ∀ (k0_h27 : k0_cond27 v34 = 1#1), ∀ a, (k0_off203 v34 k0_t27) a + S1x16.size a ≤ S128x128.size a := fun v34 k0_hw2 k0_t27 k0_h27 => k0_hw2.2.2.2.2.2.2.2.1.1 k0_t27 k0_h27
theorem k0_t28_ok : ∀ (v34 : BitVec 32) (k0_hw2 : k0_chk2 v34), ∀ (k0_h27 : k0_cond27 v34 = 1#1), (k0_t28_loop v34).OK := fun v34 k0_hw2 k0_h27 => k0_hw2.2.2.2.2.2.2.2.1.2.1 k0_h27
theorem k0_off204_inb : ∀ (v34 : BitVec 32) (k0_hw2 : k0_chk2 v34) (k0_t28 : Fin (k0_t28_loop v34).trips), ∀ (k0_h27 : k0_cond27 v34 = 1#1), ∀ a, (k0_off204 v34 k0_t28) a + S1x16.size a ≤ S128x128.size a := fun v34 k0_hw2 k0_t28 k0_h27 => k0_hw2.2.2.2.2.2.2.2.1.2.2.1 k0_t28 k0_h27
theorem k0_off205_inb : ∀ (v34 : BitVec 32) (k0_hw2 : k0_chk2 v34) (k0_t28 : Fin (k0_t28_loop v34).trips), ∀ (k0_h27 : k0_cond27 v34 = 1#1), ∀ a, (k0_off205 v34 k0_t28) a + S1x16.size a ≤ S128x128.size a := fun v34 k0_hw2 k0_t28 k0_h27 => k0_hw2.2.2.2.2.2.2.2.1.2.2.2.1 k0_t28 k0_h27
theorem k0_off206_inb : ∀ (v34 : BitVec 32) (k0_hw2 : k0_chk2 v34) (k0_t28 : Fin (k0_t28_loop v34).trips), ∀ (k0_h27 : k0_cond27 v34 = 1#1), ∀ a, (k0_off206 v34 k0_t28) a + S1x16.size a ≤ S128x128.size a := fun v34 k0_hw2 k0_t28 k0_h27 => k0_hw2.2.2.2.2.2.2.2.1.2.2.2.2.1 k0_t28 k0_h27
theorem k0_off207_inb : ∀ (v34 : BitVec 32) (k0_hw2 : k0_chk2 v34) (k0_t28 : Fin (k0_t28_loop v34).trips), ∀ (k0_h27 : k0_cond27 v34 = 1#1), ∀ a, (k0_off207 v34 k0_t28) a + S1x16.size a ≤ S128x128.size a := fun v34 k0_hw2 k0_t28 k0_h27 => k0_hw2.2.2.2.2.2.2.2.1.2.2.2.2.2.1 k0_t28 k0_h27
theorem k0_off208_inb : ∀ (v34 : BitVec 32) (k0_hw2 : k0_chk2 v34) (k0_t28 : Fin (k0_t28_loop v34).trips), ∀ (k0_h27 : k0_cond27 v34 = 1#1), ∀ a, (k0_off208 v34 k0_t28) a + S1x16.size a ≤ S128x128.size a := fun v34 k0_hw2 k0_t28 k0_h27 => k0_hw2.2.2.2.2.2.2.2.1.2.2.2.2.2.2.1 k0_t28 k0_h27
theorem k0_off209_inb : ∀ (v34 : BitVec 32) (k0_hw2 : k0_chk2 v34) (k0_t28 : Fin (k0_t28_loop v34).trips), ∀ (k0_h27 : k0_cond27 v34 = 1#1), ∀ a, (k0_off209 v34 k0_t28) a + S1x16.size a ≤ S128x128.size a := fun v34 k0_hw2 k0_t28 k0_h27 => k0_hw2.2.2.2.2.2.2.2.1.2.2.2.2.2.2.2.1 k0_t28 k0_h27
theorem k0_off210_inb : ∀ (v34 : BitVec 32) (k0_hw2 : k0_chk2 v34) (k0_t28 : Fin (k0_t28_loop v34).trips), ∀ (k0_h27 : k0_cond27 v34 = 1#1), ∀ a, (k0_off210 v34 k0_t28) a + S1x16.size a ≤ S128x128.size a := fun v34 k0_hw2 k0_t28 k0_h27 => k0_hw2.2.2.2.2.2.2.2.1.2.2.2.2.2.2.2.2.1 k0_t28 k0_h27
theorem k0_off211_inb : ∀ (v34 : BitVec 32) (k0_hw2 : k0_chk2 v34) (k0_t28 : Fin (k0_t28_loop v34).trips), ∀ (k0_h27 : k0_cond27 v34 = 1#1), ∀ a, (k0_off211 v34 k0_t28) a + S1x16.size a ≤ S128x128.size a := fun v34 k0_hw2 k0_t28 k0_h27 => k0_hw2.2.2.2.2.2.2.2.1.2.2.2.2.2.2.2.2.2.1 k0_t28 k0_h27
theorem k0_t29_ok : ∀ (v34 : BitVec 32) (k0_hw2 : k0_chk2 v34), ∀ (k0_h29 : k0_cond29 v34 = 1#1), (k0_t29_loop v34).OK := fun v34 k0_hw2 k0_h29 => k0_hw2.2.2.2.2.2.2.2.1.2.2.2.2.2.2.2.2.2.2.1 k0_h29
theorem k0_off212_inb : ∀ (v34 : BitVec 32) (k0_hw2 : k0_chk2 v34) (k0_t29 : Fin (k0_t29_loop v34).trips), ∀ (k0_h29 : k0_cond29 v34 = 1#1), ∀ a, (k0_off212 v34 k0_t29) a + S1x16.size a ≤ S128x128.size a := fun v34 k0_hw2 k0_t29 k0_h29 => k0_hw2.2.2.2.2.2.2.2.1.2.2.2.2.2.2.2.2.2.2.2.1 k0_t29 k0_h29
theorem k0_off213_inb : ∀ (v34 : BitVec 32) (k0_hw2 : k0_chk2 v34) (k0_t29 : Fin (k0_t29_loop v34).trips), ∀ (k0_h29 : k0_cond29 v34 = 1#1), ∀ a, (k0_off213 v34 k0_t29) a + S1x16.size a ≤ S128x128.size a := fun v34 k0_hw2 k0_t29 k0_h29 => k0_hw2.2.2.2.2.2.2.2.1.2.2.2.2.2.2.2.2.2.2.2.2.1 k0_t29 k0_h29
theorem k0_off214_inb : ∀ (v34 : BitVec 32) (k0_hw2 : k0_chk2 v34) (k0_t29 : Fin (k0_t29_loop v34).trips), ∀ (k0_h29 : k0_cond29 v34 = 1#1), ∀ a, (k0_off214 v34 k0_t29) a + S1x16.size a ≤ S128x128.size a := fun v34 k0_hw2 k0_t29 k0_h29 => k0_hw2.2.2.2.2.2.2.2.1.2.2.2.2.2.2.2.2.2.2.2.2.2.1 k0_t29 k0_h29
theorem k0_off215_inb : ∀ (v34 : BitVec 32) (k0_hw2 : k0_chk2 v34) (k0_t29 : Fin (k0_t29_loop v34).trips), ∀ (k0_h29 : k0_cond29 v34 = 1#1), ∀ a, (k0_off215 v34 k0_t29) a + S1x16.size a ≤ S128x128.size a := fun v34 k0_hw2 k0_t29 k0_h29 => k0_hw2.2.2.2.2.2.2.2.1.2.2.2.2.2.2.2.2.2.2.2.2.2.2.1 k0_t29 k0_h29
theorem k0_off216_inb : ∀ (v34 : BitVec 32) (k0_hw2 : k0_chk2 v34) (k0_t29 : Fin (k0_t29_loop v34).trips), ∀ (k0_h29 : k0_cond29 v34 = 1#1), ∀ a, (k0_off216 v34 k0_t29) a + S1x16.size a ≤ S128x128.size a := fun v34 k0_hw2 k0_t29 k0_h29 => k0_hw2.2.2.2.2.2.2.2.1.2.2.2.2.2.2.2.2.2.2.2.2.2.2.2.1 k0_t29 k0_h29
theorem k0_off217_inb : ∀ (v34 : BitVec 32) (k0_hw2 : k0_chk2 v34) (k0_t29 : Fin (k0_t29_loop v34).trips), ∀ (k0_h29 : k0_cond29 v34 = 1#1), ∀ a, (k0_off217 v34 k0_t29) a + S1x16.size a ≤ S128x128.size a := fun v34 k0_hw2 k0_t29 k0_h29 => k0_hw2.2.2.2.2.2.2.2.1.2.2.2.2.2.2.2.2.2.2.2.2.2.2.2.2.1 k0_t29 k0_h29
theorem k0_off218_inb : ∀ (v34 : BitVec 32) (k0_hw2 : k0_chk2 v34) (k0_t29 : Fin (k0_t29_loop v34).trips), ∀ (k0_h29 : k0_cond29 v34 = 1#1), ∀ a, (k0_off218 v34 k0_t29) a + S1x16.size a ≤ S128x128.size a := fun v34 k0_hw2 k0_t29 k0_h29 => k0_hw2.2.2.2.2.2.2.2.1.2.2.2.2.2.2.2.2.2.2.2.2.2.2.2.2.2.1 k0_t29 k0_h29
theorem k0_off219_inb : ∀ (v34 : BitVec 32) (k0_hw2 : k0_chk2 v34) (k0_t29 : Fin (k0_t29_loop v34).trips), ∀ (k0_h29 : k0_cond29 v34 = 1#1), ∀ a, (k0_off219 v34 k0_t29) a + S1x16.size a ≤ S128x128.size a := fun v34 k0_hw2 k0_t29 k0_h29 => k0_hw2.2.2.2.2.2.2.2.1.2.2.2.2.2.2.2.2.2.2.2.2.2.2.2.2.2.2.1 k0_t29 k0_h29
theorem k0_t30_ok : ∀ (v34 : BitVec 32) (k0_hw2 : k0_chk2 v34), ∀ (k0_h29 : k0_cond29 v34 = 1#1), (k0_t30_loop v34).OK := fun v34 k0_hw2 k0_h29 => k0_hw2.2.2.2.2.2.2.2.1.2.2.2.2.2.2.2.2.2.2.2.2.2.2.2.2.2.2.2.1 k0_h29
theorem k0_off220_inb : ∀ (v34 : BitVec 32) (k0_hw2 : k0_chk2 v34) (k0_t30 : Fin (k0_t30_loop v34).trips), ∀ (k0_h29 : k0_cond29 v34 = 1#1), ∀ a, (k0_off220 v34 k0_t30) a + S1x16.size a ≤ S128x128.size a := fun v34 k0_hw2 k0_t30 k0_h29 => k0_hw2.2.2.2.2.2.2.2.1.2.2.2.2.2.2.2.2.2.2.2.2.2.2.2.2.2.2.2.2.1 k0_t30 k0_h29
theorem k0_off221_inb : ∀ (v34 : BitVec 32) (k0_hw2 : k0_chk2 v34) (k0_t30 : Fin (k0_t30_loop v34).trips), ∀ (k0_h29 : k0_cond29 v34 = 1#1), ∀ a, (k0_off221 v34 k0_t30) a + S1x16.size a ≤ S128x128.size a := fun v34 k0_hw2 k0_t30 k0_h29 => k0_hw2.2.2.2.2.2.2.2.1.2.2.2.2.2.2.2.2.2.2.2.2.2.2.2.2.2.2.2.2.2.1 k0_t30 k0_h29
theorem k0_off222_inb : ∀ (v34 : BitVec 32) (k0_hw2 : k0_chk2 v34) (k0_t30 : Fin (k0_t30_loop v34).trips), ∀ (k0_h29 : k0_cond29 v34 = 1#1), ∀ a, (k0_off222 v34 k0_t30) a + S1x16.size a ≤ S128x128.size a := fun v34 k0_hw2 k0_t30 k0_h29 => k0_hw2.2.2.2.2.2.2.2.1.2.2.2.2.2.2.2.2.2.2.2.2.2.2.2.2.2.2.2.2.2.2.1 k0_t30 k0_h29
theorem k0_off223_inb : ∀ (v34 : BitVec 32) (k0_hw2 : k0_chk2 v34) (k0_t30 : Fin (k0_t30_loop v34).trips), ∀ (k0_h29 : k0_cond29 v34 = 1#1), ∀ a, (k0_off223 v34 k0_t30) a + S1x16.size a ≤ S128x128.size a := fun v34 k0_hw2 k0_t30 k0_h29 => k0_hw2.2.2.2.2.2.2.2.1.2.2.2.2.2.2.2.2.2.2.2.2.2.2.2.2.2.2.2.2.2.2.2.1 k0_t30 k0_h29
theorem k0_off224_inb : ∀ (v34 : BitVec 32) (k0_hw2 : k0_chk2 v34) (k0_t30 : Fin (k0_t30_loop v34).trips), ∀ (k0_h29 : k0_cond29 v34 = 1#1), ∀ a, (k0_off224 v34 k0_t30) a + S1x16.size a ≤ S128x128.size a := fun v34 k0_hw2 k0_t30 k0_h29 => k0_hw2.2.2.2.2.2.2.2.1.2.2.2.2.2.2.2.2.2.2.2.2.2.2.2.2.2.2.2.2.2.2.2.2.1 k0_t30 k0_h29
theorem k0_off225_inb : ∀ (v34 : BitVec 32) (k0_hw2 : k0_chk2 v34) (k0_t30 : Fin (k0_t30_loop v34).trips), ∀ (k0_h29 : k0_cond29 v34 = 1#1), ∀ a, (k0_off225 v34 k0_t30) a + S1x16.size a ≤ S128x128.size a := fun v34 k0_hw2 k0_t30 k0_h29 => k0_hw2.2.2.2.2.2.2.2.1.2.2.2.2.2.2.2.2.2.2.2.2.2.2.2.2.2.2.2.2.2.2.2.2.2.1 k0_t30 k0_h29
theorem k0_off226_inb : ∀ (v34 : BitVec 32) (k0_hw2 : k0_chk2 v34) (k0_t30 : Fin (k0_t30_loop v34).trips), ∀ (k0_h29 : k0_cond29 v34 = 1#1), ∀ a, (k0_off226 v34 k0_t30) a + S1x16.size a ≤ S128x128.size a := fun v34 k0_hw2 k0_t30 k0_h29 => k0_hw2.2.2.2.2.2.2.2.1.2.2.2.2.2.2.2.2.2.2.2.2.2.2.2.2.2.2.2.2.2.2.2.2.2.2.1 k0_t30 k0_h29
theorem k0_off227_inb : ∀ (v34 : BitVec 32) (k0_hw2 : k0_chk2 v34) (k0_t30 : Fin (k0_t30_loop v34).trips), ∀ (k0_h29 : k0_cond29 v34 = 1#1), ∀ a, (k0_off227 v34 k0_t30) a + S1x16.size a ≤ S128x128.size a := fun v34 k0_hw2 k0_t30 k0_h29 => k0_hw2.2.2.2.2.2.2.2.1.2.2.2.2.2.2.2.2.2.2.2.2.2.2.2.2.2.2.2.2.2.2.2.2.2.2.2.1 k0_t30 k0_h29
theorem k0_t31_ok : ∀ (v34 : BitVec 32) (k0_hw2 : k0_chk2 v34), ∀ (k0_h31 : k0_cond31 v34 = 1#1), (k0_t31_loop v34).OK := fun v34 k0_hw2 k0_h31 => k0_hw2.2.2.2.2.2.2.2.1.2.2.2.2.2.2.2.2.2.2.2.2.2.2.2.2.2.2.2.2.2.2.2.2.2.2.2.2.1 k0_h31
theorem k0_off228_inb : ∀ (v34 : BitVec 32) (k0_hw2 : k0_chk2 v34) (k0_t31 : Fin (k0_t31_loop v34).trips), ∀ (k0_h31 : k0_cond31 v34 = 1#1), ∀ a, (k0_off228 v34 k0_t31) a + S1x16.size a ≤ S128x128.size a := fun v34 k0_hw2 k0_t31 k0_h31 => k0_hw2.2.2.2.2.2.2.2.1.2.2.2.2.2.2.2.2.2.2.2.2.2.2.2.2.2.2.2.2.2.2.2.2.2.2.2.2.2.1 k0_t31 k0_h31
theorem k0_off229_inb : ∀ (v34 : BitVec 32) (k0_hw2 : k0_chk2 v34) (k0_t31 : Fin (k0_t31_loop v34).trips), ∀ (k0_h31 : k0_cond31 v34 = 1#1), ∀ a, (k0_off229 v34 k0_t31) a + S1x16.size a ≤ S128x128.size a := fun v34 k0_hw2 k0_t31 k0_h31 => k0_hw2.2.2.2.2.2.2.2.1.2.2.2.2.2.2.2.2.2.2.2.2.2.2.2.2.2.2.2.2.2.2.2.2.2.2.2.2.2.2.1 k0_t31 k0_h31
theorem k0_off230_inb : ∀ (v34 : BitVec 32) (k0_hw2 : k0_chk2 v34) (k0_t31 : Fin (k0_t31_loop v34).trips), ∀ (k0_h31 : k0_cond31 v34 = 1#1), ∀ a, (k0_off230 v34 k0_t31) a + S1x16.size a ≤ S128x128.size a := fun v34 k0_hw2 k0_t31 k0_h31 => k0_hw2.2.2.2.2.2.2.2.1.2.2.2.2.2.2.2.2.2.2.2.2.2.2.2.2.2.2.2.2.2.2.2.2.2.2.2.2.2.2.2 k0_t31 k0_h31
theorem k0_off231_inb : ∀ (v34 : BitVec 32) (k0_hw2 : k0_chk2 v34) (k0_t31 : Fin (k0_t31_loop v34).trips), ∀ (k0_h31 : k0_cond31 v34 = 1#1), ∀ a, (k0_off231 v34 k0_t31) a + S1x16.size a ≤ S128x128.size a := fun v34 k0_hw2 k0_t31 k0_h31 => k0_hw2.2.2.2.2.2.2.2.2.1.1 k0_t31 k0_h31
theorem k0_off232_inb : ∀ (v34 : BitVec 32) (k0_hw2 : k0_chk2 v34) (k0_t31 : Fin (k0_t31_loop v34).trips), ∀ (k0_h31 : k0_cond31 v34 = 1#1), ∀ a, (k0_off232 v34 k0_t31) a + S1x16.size a ≤ S128x128.size a := fun v34 k0_hw2 k0_t31 k0_h31 => k0_hw2.2.2.2.2.2.2.2.2.1.2.1 k0_t31 k0_h31
theorem k0_off233_inb : ∀ (v34 : BitVec 32) (k0_hw2 : k0_chk2 v34) (k0_t31 : Fin (k0_t31_loop v34).trips), ∀ (k0_h31 : k0_cond31 v34 = 1#1), ∀ a, (k0_off233 v34 k0_t31) a + S1x16.size a ≤ S128x128.size a := fun v34 k0_hw2 k0_t31 k0_h31 => k0_hw2.2.2.2.2.2.2.2.2.1.2.2.1 k0_t31 k0_h31
theorem k0_off234_inb : ∀ (v34 : BitVec 32) (k0_hw2 : k0_chk2 v34) (k0_t31 : Fin (k0_t31_loop v34).trips), ∀ (k0_h31 : k0_cond31 v34 = 1#1), ∀ a, (k0_off234 v34 k0_t31) a + S1x16.size a ≤ S128x128.size a := fun v34 k0_hw2 k0_t31 k0_h31 => k0_hw2.2.2.2.2.2.2.2.2.1.2.2.2.1 k0_t31 k0_h31
theorem k0_off235_inb : ∀ (v34 : BitVec 32) (k0_hw2 : k0_chk2 v34) (k0_t31 : Fin (k0_t31_loop v34).trips), ∀ (k0_h31 : k0_cond31 v34 = 1#1), ∀ a, (k0_off235 v34 k0_t31) a + S1x16.size a ≤ S128x128.size a := fun v34 k0_hw2 k0_t31 k0_h31 => k0_hw2.2.2.2.2.2.2.2.2.1.2.2.2.2.1 k0_t31 k0_h31
theorem k0_t32_ok : ∀ (v34 : BitVec 32) (k0_hw2 : k0_chk2 v34), ∀ (k0_h31 : k0_cond31 v34 = 1#1), (k0_t32_loop v34).OK := fun v34 k0_hw2 k0_h31 => k0_hw2.2.2.2.2.2.2.2.2.1.2.2.2.2.2.1 k0_h31
theorem k0_off236_inb : ∀ (v34 : BitVec 32) (k0_hw2 : k0_chk2 v34) (k0_t32 : Fin (k0_t32_loop v34).trips), ∀ (k0_h31 : k0_cond31 v34 = 1#1), ∀ a, (k0_off236 v34 k0_t32) a + S1x16.size a ≤ S128x128.size a := fun v34 k0_hw2 k0_t32 k0_h31 => k0_hw2.2.2.2.2.2.2.2.2.1.2.2.2.2.2.2.1 k0_t32 k0_h31
theorem k0_off237_inb : ∀ (v34 : BitVec 32) (k0_hw2 : k0_chk2 v34) (k0_t32 : Fin (k0_t32_loop v34).trips), ∀ (k0_h31 : k0_cond31 v34 = 1#1), ∀ a, (k0_off237 v34 k0_t32) a + S1x16.size a ≤ S128x128.size a := fun v34 k0_hw2 k0_t32 k0_h31 => k0_hw2.2.2.2.2.2.2.2.2.1.2.2.2.2.2.2.2.1 k0_t32 k0_h31
theorem k0_off238_inb : ∀ (v34 : BitVec 32) (k0_hw2 : k0_chk2 v34) (k0_t32 : Fin (k0_t32_loop v34).trips), ∀ (k0_h31 : k0_cond31 v34 = 1#1), ∀ a, (k0_off238 v34 k0_t32) a + S1x16.size a ≤ S128x128.size a := fun v34 k0_hw2 k0_t32 k0_h31 => k0_hw2.2.2.2.2.2.2.2.2.1.2.2.2.2.2.2.2.2.1 k0_t32 k0_h31
theorem k0_off239_inb : ∀ (v34 : BitVec 32) (k0_hw2 : k0_chk2 v34) (k0_t32 : Fin (k0_t32_loop v34).trips), ∀ (k0_h31 : k0_cond31 v34 = 1#1), ∀ a, (k0_off239 v34 k0_t32) a + S1x16.size a ≤ S128x128.size a := fun v34 k0_hw2 k0_t32 k0_h31 => k0_hw2.2.2.2.2.2.2.2.2.1.2.2.2.2.2.2.2.2.2.1 k0_t32 k0_h31
theorem k0_off240_inb : ∀ (v34 : BitVec 32) (k0_hw2 : k0_chk2 v34) (k0_t32 : Fin (k0_t32_loop v34).trips), ∀ (k0_h31 : k0_cond31 v34 = 1#1), ∀ a, (k0_off240 v34 k0_t32) a + S1x16.size a ≤ S128x128.size a := fun v34 k0_hw2 k0_t32 k0_h31 => k0_hw2.2.2.2.2.2.2.2.2.1.2.2.2.2.2.2.2.2.2.2.1 k0_t32 k0_h31
theorem k0_off241_inb : ∀ (v34 : BitVec 32) (k0_hw2 : k0_chk2 v34) (k0_t32 : Fin (k0_t32_loop v34).trips), ∀ (k0_h31 : k0_cond31 v34 = 1#1), ∀ a, (k0_off241 v34 k0_t32) a + S1x16.size a ≤ S128x128.size a := fun v34 k0_hw2 k0_t32 k0_h31 => k0_hw2.2.2.2.2.2.2.2.2.1.2.2.2.2.2.2.2.2.2.2.2.1 k0_t32 k0_h31
theorem k0_off242_inb : ∀ (v34 : BitVec 32) (k0_hw2 : k0_chk2 v34) (k0_t32 : Fin (k0_t32_loop v34).trips), ∀ (k0_h31 : k0_cond31 v34 = 1#1), ∀ a, (k0_off242 v34 k0_t32) a + S1x16.size a ≤ S128x128.size a := fun v34 k0_hw2 k0_t32 k0_h31 => k0_hw2.2.2.2.2.2.2.2.2.1.2.2.2.2.2.2.2.2.2.2.2.2.1 k0_t32 k0_h31
theorem k0_off243_inb : ∀ (v34 : BitVec 32) (k0_hw2 : k0_chk2 v34) (k0_t32 : Fin (k0_t32_loop v34).trips), ∀ (k0_h31 : k0_cond31 v34 = 1#1), ∀ a, (k0_off243 v34 k0_t32) a + S1x16.size a ≤ S128x128.size a := fun v34 k0_hw2 k0_t32 k0_h31 => k0_hw2.2.2.2.2.2.2.2.2.1.2.2.2.2.2.2.2.2.2.2.2.2.2.1 k0_t32 k0_h31
theorem k0_t33_ok : ∀ (v34 : BitVec 32) (k0_hw2 : k0_chk2 v34), ∀ (k0_h33 : k0_cond33 v34 = 1#1), (k0_t33_loop v34).OK := fun v34 k0_hw2 k0_h33 => k0_hw2.2.2.2.2.2.2.2.2.1.2.2.2.2.2.2.2.2.2.2.2.2.2.2.1 k0_h33
theorem k0_off244_inb : ∀ (v34 : BitVec 32) (k0_hw2 : k0_chk2 v34) (k0_t33 : Fin (k0_t33_loop v34).trips), ∀ (k0_h33 : k0_cond33 v34 = 1#1), ∀ a, (k0_off244 v34 k0_t33) a + S1x16.size a ≤ S128x128.size a := fun v34 k0_hw2 k0_t33 k0_h33 => k0_hw2.2.2.2.2.2.2.2.2.1.2.2.2.2.2.2.2.2.2.2.2.2.2.2.2.1 k0_t33 k0_h33
theorem k0_off245_inb : ∀ (v34 : BitVec 32) (k0_hw2 : k0_chk2 v34) (k0_t33 : Fin (k0_t33_loop v34).trips), ∀ (k0_h33 : k0_cond33 v34 = 1#1), ∀ a, (k0_off245 v34 k0_t33) a + S1x16.size a ≤ S128x128.size a := fun v34 k0_hw2 k0_t33 k0_h33 => k0_hw2.2.2.2.2.2.2.2.2.1.2.2.2.2.2.2.2.2.2.2.2.2.2.2.2.2.1 k0_t33 k0_h33
theorem k0_off246_inb : ∀ (v34 : BitVec 32) (k0_hw2 : k0_chk2 v34) (k0_t33 : Fin (k0_t33_loop v34).trips), ∀ (k0_h33 : k0_cond33 v34 = 1#1), ∀ a, (k0_off246 v34 k0_t33) a + S1x16.size a ≤ S128x128.size a := fun v34 k0_hw2 k0_t33 k0_h33 => k0_hw2.2.2.2.2.2.2.2.2.1.2.2.2.2.2.2.2.2.2.2.2.2.2.2.2.2.2.1 k0_t33 k0_h33
theorem k0_off247_inb : ∀ (v34 : BitVec 32) (k0_hw2 : k0_chk2 v34) (k0_t33 : Fin (k0_t33_loop v34).trips), ∀ (k0_h33 : k0_cond33 v34 = 1#1), ∀ a, (k0_off247 v34 k0_t33) a + S1x16.size a ≤ S128x128.size a := fun v34 k0_hw2 k0_t33 k0_h33 => k0_hw2.2.2.2.2.2.2.2.2.1.2.2.2.2.2.2.2.2.2.2.2.2.2.2.2.2.2.2.1 k0_t33 k0_h33
theorem k0_off248_inb : ∀ (v34 : BitVec 32) (k0_hw2 : k0_chk2 v34) (k0_t33 : Fin (k0_t33_loop v34).trips), ∀ (k0_h33 : k0_cond33 v34 = 1#1), ∀ a, (k0_off248 v34 k0_t33) a + S1x16.size a ≤ S128x128.size a := fun v34 k0_hw2 k0_t33 k0_h33 => k0_hw2.2.2.2.2.2.2.2.2.1.2.2.2.2.2.2.2.2.2.2.2.2.2.2.2.2.2.2.2.1 k0_t33 k0_h33
theorem k0_off249_inb : ∀ (v34 : BitVec 32) (k0_hw2 : k0_chk2 v34) (k0_t33 : Fin (k0_t33_loop v34).trips), ∀ (k0_h33 : k0_cond33 v34 = 1#1), ∀ a, (k0_off249 v34 k0_t33) a + S1x16.size a ≤ S128x128.size a := fun v34 k0_hw2 k0_t33 k0_h33 => k0_hw2.2.2.2.2.2.2.2.2.1.2.2.2.2.2.2.2.2.2.2.2.2.2.2.2.2.2.2.2.2.1 k0_t33 k0_h33
theorem k0_off250_inb : ∀ (v34 : BitVec 32) (k0_hw2 : k0_chk2 v34) (k0_t33 : Fin (k0_t33_loop v34).trips), ∀ (k0_h33 : k0_cond33 v34 = 1#1), ∀ a, (k0_off250 v34 k0_t33) a + S1x16.size a ≤ S128x128.size a := fun v34 k0_hw2 k0_t33 k0_h33 => k0_hw2.2.2.2.2.2.2.2.2.1.2.2.2.2.2.2.2.2.2.2.2.2.2.2.2.2.2.2.2.2.2.1 k0_t33 k0_h33
theorem k0_off251_inb : ∀ (v34 : BitVec 32) (k0_hw2 : k0_chk2 v34) (k0_t33 : Fin (k0_t33_loop v34).trips), ∀ (k0_h33 : k0_cond33 v34 = 1#1), ∀ a, (k0_off251 v34 k0_t33) a + S1x16.size a ≤ S128x128.size a := fun v34 k0_hw2 k0_t33 k0_h33 => k0_hw2.2.2.2.2.2.2.2.2.1.2.2.2.2.2.2.2.2.2.2.2.2.2.2.2.2.2.2.2.2.2.2.1 k0_t33 k0_h33
theorem k0_t34_ok : ∀ (v34 : BitVec 32) (k0_hw2 : k0_chk2 v34), ∀ (k0_h33 : k0_cond33 v34 = 1#1), (k0_t34_loop v34).OK := fun v34 k0_hw2 k0_h33 => k0_hw2.2.2.2.2.2.2.2.2.1.2.2.2.2.2.2.2.2.2.2.2.2.2.2.2.2.2.2.2.2.2.2.2.1 k0_h33
theorem k0_off252_inb : ∀ (v34 : BitVec 32) (k0_hw2 : k0_chk2 v34) (k0_t34 : Fin (k0_t34_loop v34).trips), ∀ (k0_h33 : k0_cond33 v34 = 1#1), ∀ a, (k0_off252 v34 k0_t34) a + S1x16.size a ≤ S128x128.size a := fun v34 k0_hw2 k0_t34 k0_h33 => k0_hw2.2.2.2.2.2.2.2.2.1.2.2.2.2.2.2.2.2.2.2.2.2.2.2.2.2.2.2.2.2.2.2.2.2.1 k0_t34 k0_h33
theorem k0_off253_inb : ∀ (v34 : BitVec 32) (k0_hw2 : k0_chk2 v34) (k0_t34 : Fin (k0_t34_loop v34).trips), ∀ (k0_h33 : k0_cond33 v34 = 1#1), ∀ a, (k0_off253 v34 k0_t34) a + S1x16.size a ≤ S128x128.size a := fun v34 k0_hw2 k0_t34 k0_h33 => k0_hw2.2.2.2.2.2.2.2.2.1.2.2.2.2.2.2.2.2.2.2.2.2.2.2.2.2.2.2.2.2.2.2.2.2.2.1 k0_t34 k0_h33
theorem k0_off254_inb : ∀ (v34 : BitVec 32) (k0_hw2 : k0_chk2 v34) (k0_t34 : Fin (k0_t34_loop v34).trips), ∀ (k0_h33 : k0_cond33 v34 = 1#1), ∀ a, (k0_off254 v34 k0_t34) a + S1x16.size a ≤ S128x128.size a := fun v34 k0_hw2 k0_t34 k0_h33 => k0_hw2.2.2.2.2.2.2.2.2.1.2.2.2.2.2.2.2.2.2.2.2.2.2.2.2.2.2.2.2.2.2.2.2.2.2.2.1 k0_t34 k0_h33
theorem k0_off255_inb : ∀ (v34 : BitVec 32) (k0_hw2 : k0_chk2 v34) (k0_t34 : Fin (k0_t34_loop v34).trips), ∀ (k0_h33 : k0_cond33 v34 = 1#1), ∀ a, (k0_off255 v34 k0_t34) a + S1x16.size a ≤ S128x128.size a := fun v34 k0_hw2 k0_t34 k0_h33 => k0_hw2.2.2.2.2.2.2.2.2.1.2.2.2.2.2.2.2.2.2.2.2.2.2.2.2.2.2.2.2.2.2.2.2.2.2.2.2.1 k0_t34 k0_h33
theorem k0_off256_inb : ∀ (v34 : BitVec 32) (k0_hw2 : k0_chk2 v34) (k0_t34 : Fin (k0_t34_loop v34).trips), ∀ (k0_h33 : k0_cond33 v34 = 1#1), ∀ a, (k0_off256 v34 k0_t34) a + S1x16.size a ≤ S128x128.size a := fun v34 k0_hw2 k0_t34 k0_h33 => k0_hw2.2.2.2.2.2.2.2.2.1.2.2.2.2.2.2.2.2.2.2.2.2.2.2.2.2.2.2.2.2.2.2.2.2.2.2.2.2.1 k0_t34 k0_h33
theorem k0_off257_inb : ∀ (v34 : BitVec 32) (k0_hw2 : k0_chk2 v34) (k0_t34 : Fin (k0_t34_loop v34).trips), ∀ (k0_h33 : k0_cond33 v34 = 1#1), ∀ a, (k0_off257 v34 k0_t34) a + S1x16.size a ≤ S128x128.size a := fun v34 k0_hw2 k0_t34 k0_h33 => k0_hw2.2.2.2.2.2.2.2.2.1.2.2.2.2.2.2.2.2.2.2.2.2.2.2.2.2.2.2.2.2.2.2.2.2.2.2.2.2.2.1 k0_t34 k0_h33
theorem k0_off258_inb : ∀ (v34 : BitVec 32) (k0_hw2 : k0_chk2 v34) (k0_t34 : Fin (k0_t34_loop v34).trips), ∀ (k0_h33 : k0_cond33 v34 = 1#1), ∀ a, (k0_off258 v34 k0_t34) a + S1x16.size a ≤ S128x128.size a := fun v34 k0_hw2 k0_t34 k0_h33 => k0_hw2.2.2.2.2.2.2.2.2.1.2.2.2.2.2.2.2.2.2.2.2.2.2.2.2.2.2.2.2.2.2.2.2.2.2.2.2.2.2.2.1 k0_t34 k0_h33
theorem k0_off259_inb : ∀ (v34 : BitVec 32) (k0_hw2 : k0_chk2 v34) (k0_t34 : Fin (k0_t34_loop v34).trips), ∀ (k0_h33 : k0_cond33 v34 = 1#1), ∀ a, (k0_off259 v34 k0_t34) a + S1x16.size a ≤ S128x128.size a := fun v34 k0_hw2 k0_t34 k0_h33 => k0_hw2.2.2.2.2.2.2.2.2.1.2.2.2.2.2.2.2.2.2.2.2.2.2.2.2.2.2.2.2.2.2.2.2.2.2.2.2.2.2.2.2 k0_t34 k0_h33
theorem k0_t35_ok : ∀ (v34 : BitVec 32) (k0_hw2 : k0_chk2 v34), ∀ (k0_h35 : k0_cond35 v34 = 1#1), (k0_t35_loop v34).OK := fun v34 k0_hw2 k0_h35 => k0_hw2.2.2.2.2.2.2.2.2.2.1.1 k0_h35
theorem k0_off260_inb : ∀ (v34 : BitVec 32) (k0_hw2 : k0_chk2 v34) (k0_t35 : Fin (k0_t35_loop v34).trips), ∀ (k0_h35 : k0_cond35 v34 = 1#1), ∀ a, (k0_off260 v34 k0_t35) a + S1x16.size a ≤ S128x128.size a := fun v34 k0_hw2 k0_t35 k0_h35 => k0_hw2.2.2.2.2.2.2.2.2.2.1.2.1 k0_t35 k0_h35
theorem k0_off261_inb : ∀ (v34 : BitVec 32) (k0_hw2 : k0_chk2 v34) (k0_t35 : Fin (k0_t35_loop v34).trips), ∀ (k0_h35 : k0_cond35 v34 = 1#1), ∀ a, (k0_off261 v34 k0_t35) a + S1x16.size a ≤ S128x128.size a := fun v34 k0_hw2 k0_t35 k0_h35 => k0_hw2.2.2.2.2.2.2.2.2.2.1.2.2.1 k0_t35 k0_h35
theorem k0_off262_inb : ∀ (v34 : BitVec 32) (k0_hw2 : k0_chk2 v34) (k0_t35 : Fin (k0_t35_loop v34).trips), ∀ (k0_h35 : k0_cond35 v34 = 1#1), ∀ a, (k0_off262 v34 k0_t35) a + S1x16.size a ≤ S128x128.size a := fun v34 k0_hw2 k0_t35 k0_h35 => k0_hw2.2.2.2.2.2.2.2.2.2.1.2.2.2.1 k0_t35 k0_h35
theorem k0_off263_inb : ∀ (v34 : BitVec 32) (k0_hw2 : k0_chk2 v34) (k0_t35 : Fin (k0_t35_loop v34).trips), ∀ (k0_h35 : k0_cond35 v34 = 1#1), ∀ a, (k0_off263 v34 k0_t35) a + S1x16.size a ≤ S128x128.size a := fun v34 k0_hw2 k0_t35 k0_h35 => k0_hw2.2.2.2.2.2.2.2.2.2.1.2.2.2.2.1 k0_t35 k0_h35
theorem k0_off264_inb : ∀ (v34 : BitVec 32) (k0_hw2 : k0_chk2 v34) (k0_t35 : Fin (k0_t35_loop v34).trips), ∀ (k0_h35 : k0_cond35 v34 = 1#1), ∀ a, (k0_off264 v34 k0_t35) a + S1x16.size a ≤ S128x128.size a := fun v34 k0_hw2 k0_t35 k0_h35 => k0_hw2.2.2.2.2.2.2.2.2.2.1.2.2.2.2.2.1 k0_t35 k0_h35
theorem k0_off265_inb : ∀ (v34 : BitVec 32) (k0_hw2 : k0_chk2 v34) (k0_t35 : Fin (k0_t35_loop v34).trips), ∀ (k0_h35 : k0_cond35 v34 = 1#1), ∀ a, (k0_off265 v34 k0_t35) a + S1x16.size a ≤ S128x128.size a := fun v34 k0_hw2 k0_t35 k0_h35 => k0_hw2.2.2.2.2.2.2.2.2.2.1.2.2.2.2.2.2.1 k0_t35 k0_h35
theorem k0_off266_inb : ∀ (v34 : BitVec 32) (k0_hw2 : k0_chk2 v34) (k0_t35 : Fin (k0_t35_loop v34).trips), ∀ (k0_h35 : k0_cond35 v34 = 1#1), ∀ a, (k0_off266 v34 k0_t35) a + S1x16.size a ≤ S128x128.size a := fun v34 k0_hw2 k0_t35 k0_h35 => k0_hw2.2.2.2.2.2.2.2.2.2.1.2.2.2.2.2.2.2.1 k0_t35 k0_h35
theorem k0_off267_inb : ∀ (v34 : BitVec 32) (k0_hw2 : k0_chk2 v34) (k0_t35 : Fin (k0_t35_loop v34).trips), ∀ (k0_h35 : k0_cond35 v34 = 1#1), ∀ a, (k0_off267 v34 k0_t35) a + S1x16.size a ≤ S128x128.size a := fun v34 k0_hw2 k0_t35 k0_h35 => k0_hw2.2.2.2.2.2.2.2.2.2.1.2.2.2.2.2.2.2.2.1 k0_t35 k0_h35
theorem k0_t36_ok : ∀ (v34 : BitVec 32) (k0_hw2 : k0_chk2 v34), ∀ (k0_h35 : k0_cond35 v34 = 1#1), (k0_t36_loop v34).OK := fun v34 k0_hw2 k0_h35 => k0_hw2.2.2.2.2.2.2.2.2.2.1.2.2.2.2.2.2.2.2.2.1 k0_h35
theorem k0_off268_inb : ∀ (v34 : BitVec 32) (k0_hw2 : k0_chk2 v34) (k0_t36 : Fin (k0_t36_loop v34).trips), ∀ (k0_h35 : k0_cond35 v34 = 1#1), ∀ a, (k0_off268 v34 k0_t36) a + S1x16.size a ≤ S128x128.size a := fun v34 k0_hw2 k0_t36 k0_h35 => k0_hw2.2.2.2.2.2.2.2.2.2.1.2.2.2.2.2.2.2.2.2.2.1 k0_t36 k0_h35
theorem k0_off269_inb : ∀ (v34 : BitVec 32) (k0_hw2 : k0_chk2 v34) (k0_t36 : Fin (k0_t36_loop v34).trips), ∀ (k0_h35 : k0_cond35 v34 = 1#1), ∀ a, (k0_off269 v34 k0_t36) a + S1x16.size a ≤ S128x128.size a := fun v34 k0_hw2 k0_t36 k0_h35 => k0_hw2.2.2.2.2.2.2.2.2.2.1.2.2.2.2.2.2.2.2.2.2.2.1 k0_t36 k0_h35
theorem k0_off270_inb : ∀ (v34 : BitVec 32) (k0_hw2 : k0_chk2 v34) (k0_t36 : Fin (k0_t36_loop v34).trips), ∀ (k0_h35 : k0_cond35 v34 = 1#1), ∀ a, (k0_off270 v34 k0_t36) a + S1x16.size a ≤ S128x128.size a := fun v34 k0_hw2 k0_t36 k0_h35 => k0_hw2.2.2.2.2.2.2.2.2.2.1.2.2.2.2.2.2.2.2.2.2.2.2.1 k0_t36 k0_h35
theorem k0_off271_inb : ∀ (v34 : BitVec 32) (k0_hw2 : k0_chk2 v34) (k0_t36 : Fin (k0_t36_loop v34).trips), ∀ (k0_h35 : k0_cond35 v34 = 1#1), ∀ a, (k0_off271 v34 k0_t36) a + S1x16.size a ≤ S128x128.size a := fun v34 k0_hw2 k0_t36 k0_h35 => k0_hw2.2.2.2.2.2.2.2.2.2.1.2.2.2.2.2.2.2.2.2.2.2.2.2.1 k0_t36 k0_h35
theorem k0_off272_inb : ∀ (v34 : BitVec 32) (k0_hw2 : k0_chk2 v34) (k0_t36 : Fin (k0_t36_loop v34).trips), ∀ (k0_h35 : k0_cond35 v34 = 1#1), ∀ a, (k0_off272 v34 k0_t36) a + S1x16.size a ≤ S128x128.size a := fun v34 k0_hw2 k0_t36 k0_h35 => k0_hw2.2.2.2.2.2.2.2.2.2.1.2.2.2.2.2.2.2.2.2.2.2.2.2.2.1 k0_t36 k0_h35
theorem k0_off273_inb : ∀ (v34 : BitVec 32) (k0_hw2 : k0_chk2 v34) (k0_t36 : Fin (k0_t36_loop v34).trips), ∀ (k0_h35 : k0_cond35 v34 = 1#1), ∀ a, (k0_off273 v34 k0_t36) a + S1x16.size a ≤ S128x128.size a := fun v34 k0_hw2 k0_t36 k0_h35 => k0_hw2.2.2.2.2.2.2.2.2.2.1.2.2.2.2.2.2.2.2.2.2.2.2.2.2.2.1 k0_t36 k0_h35
theorem k0_off274_inb : ∀ (v34 : BitVec 32) (k0_hw2 : k0_chk2 v34) (k0_t36 : Fin (k0_t36_loop v34).trips), ∀ (k0_h35 : k0_cond35 v34 = 1#1), ∀ a, (k0_off274 v34 k0_t36) a + S1x16.size a ≤ S128x128.size a := fun v34 k0_hw2 k0_t36 k0_h35 => k0_hw2.2.2.2.2.2.2.2.2.2.1.2.2.2.2.2.2.2.2.2.2.2.2.2.2.2.2.1 k0_t36 k0_h35
theorem k0_off275_inb : ∀ (v34 : BitVec 32) (k0_hw2 : k0_chk2 v34) (k0_t36 : Fin (k0_t36_loop v34).trips), ∀ (k0_h35 : k0_cond35 v34 = 1#1), ∀ a, (k0_off275 v34 k0_t36) a + S1x16.size a ≤ S128x128.size a := fun v34 k0_hw2 k0_t36 k0_h35 => k0_hw2.2.2.2.2.2.2.2.2.2.1.2.2.2.2.2.2.2.2.2.2.2.2.2.2.2.2.2.1 k0_t36 k0_h35
theorem k0_t37_ok : ∀ (v34 : BitVec 32) (k0_hw2 : k0_chk2 v34), ∀ (k0_h37 : k0_cond37 v34 = 1#1), (k0_t37_loop v34).OK := fun v34 k0_hw2 k0_h37 => k0_hw2.2.2.2.2.2.2.2.2.2.1.2.2.2.2.2.2.2.2.2.2.2.2.2.2.2.2.2.2.1 k0_h37
theorem k0_off276_inb : ∀ (v34 : BitVec 32) (k0_hw2 : k0_chk2 v34) (k0_t37 : Fin (k0_t37_loop v34).trips), ∀ (k0_h37 : k0_cond37 v34 = 1#1), ∀ a, (k0_off276 v34 k0_t37) a + S1x16.size a ≤ S128x128.size a := fun v34 k0_hw2 k0_t37 k0_h37 => k0_hw2.2.2.2.2.2.2.2.2.2.1.2.2.2.2.2.2.2.2.2.2.2.2.2.2.2.2.2.2.2.1 k0_t37 k0_h37
theorem k0_off277_inb : ∀ (v34 : BitVec 32) (k0_hw2 : k0_chk2 v34) (k0_t37 : Fin (k0_t37_loop v34).trips), ∀ (k0_h37 : k0_cond37 v34 = 1#1), ∀ a, (k0_off277 v34 k0_t37) a + S1x16.size a ≤ S128x128.size a := fun v34 k0_hw2 k0_t37 k0_h37 => k0_hw2.2.2.2.2.2.2.2.2.2.1.2.2.2.2.2.2.2.2.2.2.2.2.2.2.2.2.2.2.2.2.1 k0_t37 k0_h37
theorem k0_off278_inb : ∀ (v34 : BitVec 32) (k0_hw2 : k0_chk2 v34) (k0_t37 : Fin (k0_t37_loop v34).trips), ∀ (k0_h37 : k0_cond37 v34 = 1#1), ∀ a, (k0_off278 v34 k0_t37) a + S1x16.size a ≤ S128x128.size a := fun v34 k0_hw2 k0_t37 k0_h37 => k0_hw2.2.2.2.2.2.2.2.2.2.1.2.2.2.2.2.2.2.2.2.2.2.2.2.2.2.2.2.2.2.2.2.1 k0_t37 k0_h37
theorem k0_off279_inb : ∀ (v34 : BitVec 32) (k0_hw2 : k0_chk2 v34) (k0_t37 : Fin (k0_t37_loop v34).trips), ∀ (k0_h37 : k0_cond37 v34 = 1#1), ∀ a, (k0_off279 v34 k0_t37) a + S1x16.size a ≤ S128x128.size a := fun v34 k0_hw2 k0_t37 k0_h37 => k0_hw2.2.2.2.2.2.2.2.2.2.1.2.2.2.2.2.2.2.2.2.2.2.2.2.2.2.2.2.2.2.2.2.2.1 k0_t37 k0_h37
theorem k0_off280_inb : ∀ (v34 : BitVec 32) (k0_hw2 : k0_chk2 v34) (k0_t37 : Fin (k0_t37_loop v34).trips), ∀ (k0_h37 : k0_cond37 v34 = 1#1), ∀ a, (k0_off280 v34 k0_t37) a + S1x16.size a ≤ S128x128.size a := fun v34 k0_hw2 k0_t37 k0_h37 => k0_hw2.2.2.2.2.2.2.2.2.2.1.2.2.2.2.2.2.2.2.2.2.2.2.2.2.2.2.2.2.2.2.2.2.2.1 k0_t37 k0_h37
theorem k0_off281_inb : ∀ (v34 : BitVec 32) (k0_hw2 : k0_chk2 v34) (k0_t37 : Fin (k0_t37_loop v34).trips), ∀ (k0_h37 : k0_cond37 v34 = 1#1), ∀ a, (k0_off281 v34 k0_t37) a + S1x16.size a ≤ S128x128.size a := fun v34 k0_hw2 k0_t37 k0_h37 => k0_hw2.2.2.2.2.2.2.2.2.2.1.2.2.2.2.2.2.2.2.2.2.2.2.2.2.2.2.2.2.2.2.2.2.2.2.1 k0_t37 k0_h37
theorem k0_off282_inb : ∀ (v34 : BitVec 32) (k0_hw2 : k0_chk2 v34) (k0_t37 : Fin (k0_t37_loop v34).trips), ∀ (k0_h37 : k0_cond37 v34 = 1#1), ∀ a, (k0_off282 v34 k0_t37) a + S1x16.size a ≤ S128x128.size a := fun v34 k0_hw2 k0_t37 k0_h37 => k0_hw2.2.2.2.2.2.2.2.2.2.1.2.2.2.2.2.2.2.2.2.2.2.2.2.2.2.2.2.2.2.2.2.2.2.2.2.1 k0_t37 k0_h37
theorem k0_off283_inb : ∀ (v34 : BitVec 32) (k0_hw2 : k0_chk2 v34) (k0_t37 : Fin (k0_t37_loop v34).trips), ∀ (k0_h37 : k0_cond37 v34 = 1#1), ∀ a, (k0_off283 v34 k0_t37) a + S1x16.size a ≤ S128x128.size a := fun v34 k0_hw2 k0_t37 k0_h37 => k0_hw2.2.2.2.2.2.2.2.2.2.1.2.2.2.2.2.2.2.2.2.2.2.2.2.2.2.2.2.2.2.2.2.2.2.2.2.2.1 k0_t37 k0_h37
theorem k0_t38_ok : ∀ (v34 : BitVec 32) (k0_hw2 : k0_chk2 v34), ∀ (k0_h37 : k0_cond37 v34 = 1#1), (k0_t38_loop v34).OK := fun v34 k0_hw2 k0_h37 => k0_hw2.2.2.2.2.2.2.2.2.2.1.2.2.2.2.2.2.2.2.2.2.2.2.2.2.2.2.2.2.2.2.2.2.2.2.2.2.2.1 k0_h37
theorem k0_off284_inb : ∀ (v34 : BitVec 32) (k0_hw2 : k0_chk2 v34) (k0_t38 : Fin (k0_t38_loop v34).trips), ∀ (k0_h37 : k0_cond37 v34 = 1#1), ∀ a, (k0_off284 v34 k0_t38) a + S1x16.size a ≤ S128x128.size a := fun v34 k0_hw2 k0_t38 k0_h37 => k0_hw2.2.2.2.2.2.2.2.2.2.1.2.2.2.2.2.2.2.2.2.2.2.2.2.2.2.2.2.2.2.2.2.2.2.2.2.2.2.2.1 k0_t38 k0_h37
theorem k0_off285_inb : ∀ (v34 : BitVec 32) (k0_hw2 : k0_chk2 v34) (k0_t38 : Fin (k0_t38_loop v34).trips), ∀ (k0_h37 : k0_cond37 v34 = 1#1), ∀ a, (k0_off285 v34 k0_t38) a + S1x16.size a ≤ S128x128.size a := fun v34 k0_hw2 k0_t38 k0_h37 => k0_hw2.2.2.2.2.2.2.2.2.2.1.2.2.2.2.2.2.2.2.2.2.2.2.2.2.2.2.2.2.2.2.2.2.2.2.2.2.2.2.2.1 k0_t38 k0_h37
theorem k0_off286_inb : ∀ (v34 : BitVec 32) (k0_hw2 : k0_chk2 v34) (k0_t38 : Fin (k0_t38_loop v34).trips), ∀ (k0_h37 : k0_cond37 v34 = 1#1), ∀ a, (k0_off286 v34 k0_t38) a + S1x16.size a ≤ S128x128.size a := fun v34 k0_hw2 k0_t38 k0_h37 => k0_hw2.2.2.2.2.2.2.2.2.2.1.2.2.2.2.2.2.2.2.2.2.2.2.2.2.2.2.2.2.2.2.2.2.2.2.2.2.2.2.2.2.1 k0_t38 k0_h37
theorem k0_off287_inb : ∀ (v34 : BitVec 32) (k0_hw2 : k0_chk2 v34) (k0_t38 : Fin (k0_t38_loop v34).trips), ∀ (k0_h37 : k0_cond37 v34 = 1#1), ∀ a, (k0_off287 v34 k0_t38) a + S1x16.size a ≤ S128x128.size a := fun v34 k0_hw2 k0_t38 k0_h37 => k0_hw2.2.2.2.2.2.2.2.2.2.1.2.2.2.2.2.2.2.2.2.2.2.2.2.2.2.2.2.2.2.2.2.2.2.2.2.2.2.2.2.2.2 k0_t38 k0_h37
theorem k0_off288_inb : ∀ (v34 : BitVec 32) (k0_hw2 : k0_chk2 v34) (k0_t38 : Fin (k0_t38_loop v34).trips), ∀ (k0_h37 : k0_cond37 v34 = 1#1), ∀ a, (k0_off288 v34 k0_t38) a + S1x16.size a ≤ S128x128.size a := fun v34 k0_hw2 k0_t38 k0_h37 => k0_hw2.2.2.2.2.2.2.2.2.2.2.1.1 k0_t38 k0_h37
theorem k0_off289_inb : ∀ (v34 : BitVec 32) (k0_hw2 : k0_chk2 v34) (k0_t38 : Fin (k0_t38_loop v34).trips), ∀ (k0_h37 : k0_cond37 v34 = 1#1), ∀ a, (k0_off289 v34 k0_t38) a + S1x16.size a ≤ S128x128.size a := fun v34 k0_hw2 k0_t38 k0_h37 => k0_hw2.2.2.2.2.2.2.2.2.2.2.1.2.1 k0_t38 k0_h37
theorem k0_off290_inb : ∀ (v34 : BitVec 32) (k0_hw2 : k0_chk2 v34) (k0_t38 : Fin (k0_t38_loop v34).trips), ∀ (k0_h37 : k0_cond37 v34 = 1#1), ∀ a, (k0_off290 v34 k0_t38) a + S1x16.size a ≤ S128x128.size a := fun v34 k0_hw2 k0_t38 k0_h37 => k0_hw2.2.2.2.2.2.2.2.2.2.2.1.2.2.1 k0_t38 k0_h37
theorem k0_off291_inb : ∀ (v34 : BitVec 32) (k0_hw2 : k0_chk2 v34) (k0_t38 : Fin (k0_t38_loop v34).trips), ∀ (k0_h37 : k0_cond37 v34 = 1#1), ∀ a, (k0_off291 v34 k0_t38) a + S1x16.size a ≤ S128x128.size a := fun v34 k0_hw2 k0_t38 k0_h37 => k0_hw2.2.2.2.2.2.2.2.2.2.2.1.2.2.2.1 k0_t38 k0_h37
theorem k0_t39_ok : ∀ (v34 : BitVec 32) (k0_hw2 : k0_chk2 v34), ∀ (k0_h39 : k0_cond39 v34 = 1#1), (k0_t39_loop v34).OK := fun v34 k0_hw2 k0_h39 => k0_hw2.2.2.2.2.2.2.2.2.2.2.1.2.2.2.2.1 k0_h39
theorem k0_off292_inb : ∀ (v34 : BitVec 32) (k0_hw2 : k0_chk2 v34) (k0_t39 : Fin (k0_t39_loop v34).trips), ∀ (k0_h39 : k0_cond39 v34 = 1#1), ∀ a, (k0_off292 v34 k0_t39) a + S1x16.size a ≤ S128x128.size a := fun v34 k0_hw2 k0_t39 k0_h39 => k0_hw2.2.2.2.2.2.2.2.2.2.2.1.2.2.2.2.2.1 k0_t39 k0_h39
theorem k0_off293_inb : ∀ (v34 : BitVec 32) (k0_hw2 : k0_chk2 v34) (k0_t39 : Fin (k0_t39_loop v34).trips), ∀ (k0_h39 : k0_cond39 v34 = 1#1), ∀ a, (k0_off293 v34 k0_t39) a + S1x16.size a ≤ S128x128.size a := fun v34 k0_hw2 k0_t39 k0_h39 => k0_hw2.2.2.2.2.2.2.2.2.2.2.1.2.2.2.2.2.2.1 k0_t39 k0_h39
theorem k0_off294_inb : ∀ (v34 : BitVec 32) (k0_hw2 : k0_chk2 v34) (k0_t39 : Fin (k0_t39_loop v34).trips), ∀ (k0_h39 : k0_cond39 v34 = 1#1), ∀ a, (k0_off294 v34 k0_t39) a + S1x16.size a ≤ S128x128.size a := fun v34 k0_hw2 k0_t39 k0_h39 => k0_hw2.2.2.2.2.2.2.2.2.2.2.1.2.2.2.2.2.2.2.1 k0_t39 k0_h39
theorem k0_off295_inb : ∀ (v34 : BitVec 32) (k0_hw2 : k0_chk2 v34) (k0_t39 : Fin (k0_t39_loop v34).trips), ∀ (k0_h39 : k0_cond39 v34 = 1#1), ∀ a, (k0_off295 v34 k0_t39) a + S1x16.size a ≤ S128x128.size a := fun v34 k0_hw2 k0_t39 k0_h39 => k0_hw2.2.2.2.2.2.2.2.2.2.2.1.2.2.2.2.2.2.2.2.1 k0_t39 k0_h39
theorem k0_off296_inb : ∀ (v34 : BitVec 32) (k0_hw2 : k0_chk2 v34) (k0_t39 : Fin (k0_t39_loop v34).trips), ∀ (k0_h39 : k0_cond39 v34 = 1#1), ∀ a, (k0_off296 v34 k0_t39) a + S1x16.size a ≤ S128x128.size a := fun v34 k0_hw2 k0_t39 k0_h39 => k0_hw2.2.2.2.2.2.2.2.2.2.2.1.2.2.2.2.2.2.2.2.2.1 k0_t39 k0_h39
theorem k0_off297_inb : ∀ (v34 : BitVec 32) (k0_hw2 : k0_chk2 v34) (k0_t39 : Fin (k0_t39_loop v34).trips), ∀ (k0_h39 : k0_cond39 v34 = 1#1), ∀ a, (k0_off297 v34 k0_t39) a + S1x16.size a ≤ S128x128.size a := fun v34 k0_hw2 k0_t39 k0_h39 => k0_hw2.2.2.2.2.2.2.2.2.2.2.1.2.2.2.2.2.2.2.2.2.2.1 k0_t39 k0_h39
theorem k0_off298_inb : ∀ (v34 : BitVec 32) (k0_hw2 : k0_chk2 v34) (k0_t39 : Fin (k0_t39_loop v34).trips), ∀ (k0_h39 : k0_cond39 v34 = 1#1), ∀ a, (k0_off298 v34 k0_t39) a + S1x16.size a ≤ S128x128.size a := fun v34 k0_hw2 k0_t39 k0_h39 => k0_hw2.2.2.2.2.2.2.2.2.2.2.1.2.2.2.2.2.2.2.2.2.2.2.1 k0_t39 k0_h39
theorem k0_off299_inb : ∀ (v34 : BitVec 32) (k0_hw2 : k0_chk2 v34) (k0_t39 : Fin (k0_t39_loop v34).trips), ∀ (k0_h39 : k0_cond39 v34 = 1#1), ∀ a, (k0_off299 v34 k0_t39) a + S1x16.size a ≤ S128x128.size a := fun v34 k0_hw2 k0_t39 k0_h39 => k0_hw2.2.2.2.2.2.2.2.2.2.2.1.2.2.2.2.2.2.2.2.2.2.2.2.1 k0_t39 k0_h39
theorem k0_t40_ok : ∀ (v34 : BitVec 32) (k0_hw2 : k0_chk2 v34), ∀ (k0_h39 : k0_cond39 v34 = 1#1), (k0_t40_loop v34).OK := fun v34 k0_hw2 k0_h39 => k0_hw2.2.2.2.2.2.2.2.2.2.2.1.2.2.2.2.2.2.2.2.2.2.2.2.2.1 k0_h39
theorem k0_off300_inb : ∀ (v34 : BitVec 32) (k0_hw2 : k0_chk2 v34) (k0_t40 : Fin (k0_t40_loop v34).trips), ∀ (k0_h39 : k0_cond39 v34 = 1#1), ∀ a, (k0_off300 v34 k0_t40) a + S1x16.size a ≤ S128x128.size a := fun v34 k0_hw2 k0_t40 k0_h39 => k0_hw2.2.2.2.2.2.2.2.2.2.2.1.2.2.2.2.2.2.2.2.2.2.2.2.2.2.1 k0_t40 k0_h39
theorem k0_off301_inb : ∀ (v34 : BitVec 32) (k0_hw2 : k0_chk2 v34) (k0_t40 : Fin (k0_t40_loop v34).trips), ∀ (k0_h39 : k0_cond39 v34 = 1#1), ∀ a, (k0_off301 v34 k0_t40) a + S1x16.size a ≤ S128x128.size a := fun v34 k0_hw2 k0_t40 k0_h39 => k0_hw2.2.2.2.2.2.2.2.2.2.2.1.2.2.2.2.2.2.2.2.2.2.2.2.2.2.2.1 k0_t40 k0_h39
theorem k0_off302_inb : ∀ (v34 : BitVec 32) (k0_hw2 : k0_chk2 v34) (k0_t40 : Fin (k0_t40_loop v34).trips), ∀ (k0_h39 : k0_cond39 v34 = 1#1), ∀ a, (k0_off302 v34 k0_t40) a + S1x16.size a ≤ S128x128.size a := fun v34 k0_hw2 k0_t40 k0_h39 => k0_hw2.2.2.2.2.2.2.2.2.2.2.1.2.2.2.2.2.2.2.2.2.2.2.2.2.2.2.2.1 k0_t40 k0_h39
theorem k0_off303_inb : ∀ (v34 : BitVec 32) (k0_hw2 : k0_chk2 v34) (k0_t40 : Fin (k0_t40_loop v34).trips), ∀ (k0_h39 : k0_cond39 v34 = 1#1), ∀ a, (k0_off303 v34 k0_t40) a + S1x16.size a ≤ S128x128.size a := fun v34 k0_hw2 k0_t40 k0_h39 => k0_hw2.2.2.2.2.2.2.2.2.2.2.1.2.2.2.2.2.2.2.2.2.2.2.2.2.2.2.2.2.1 k0_t40 k0_h39
theorem k0_off304_inb : ∀ (v34 : BitVec 32) (k0_hw2 : k0_chk2 v34) (k0_t40 : Fin (k0_t40_loop v34).trips), ∀ (k0_h39 : k0_cond39 v34 = 1#1), ∀ a, (k0_off304 v34 k0_t40) a + S1x16.size a ≤ S128x128.size a := fun v34 k0_hw2 k0_t40 k0_h39 => k0_hw2.2.2.2.2.2.2.2.2.2.2.1.2.2.2.2.2.2.2.2.2.2.2.2.2.2.2.2.2.2.1 k0_t40 k0_h39
theorem k0_off305_inb : ∀ (v34 : BitVec 32) (k0_hw2 : k0_chk2 v34) (k0_t40 : Fin (k0_t40_loop v34).trips), ∀ (k0_h39 : k0_cond39 v34 = 1#1), ∀ a, (k0_off305 v34 k0_t40) a + S1x16.size a ≤ S128x128.size a := fun v34 k0_hw2 k0_t40 k0_h39 => k0_hw2.2.2.2.2.2.2.2.2.2.2.1.2.2.2.2.2.2.2.2.2.2.2.2.2.2.2.2.2.2.2.1 k0_t40 k0_h39
theorem k0_off306_inb : ∀ (v34 : BitVec 32) (k0_hw2 : k0_chk2 v34) (k0_t40 : Fin (k0_t40_loop v34).trips), ∀ (k0_h39 : k0_cond39 v34 = 1#1), ∀ a, (k0_off306 v34 k0_t40) a + S1x16.size a ≤ S128x128.size a := fun v34 k0_hw2 k0_t40 k0_h39 => k0_hw2.2.2.2.2.2.2.2.2.2.2.1.2.2.2.2.2.2.2.2.2.2.2.2.2.2.2.2.2.2.2.2.1 k0_t40 k0_h39
theorem k0_off307_inb : ∀ (v34 : BitVec 32) (k0_hw2 : k0_chk2 v34) (k0_t40 : Fin (k0_t40_loop v34).trips), ∀ (k0_h39 : k0_cond39 v34 = 1#1), ∀ a, (k0_off307 v34 k0_t40) a + S1x16.size a ≤ S128x128.size a := fun v34 k0_hw2 k0_t40 k0_h39 => k0_hw2.2.2.2.2.2.2.2.2.2.2.1.2.2.2.2.2.2.2.2.2.2.2.2.2.2.2.2.2.2.2.2.2.1 k0_t40 k0_h39
theorem k0_t41_ok : ∀ (v34 : BitVec 32) (k0_hw2 : k0_chk2 v34), ∀ (k0_h41 : k0_cond41 v34 = 1#1), (k0_t41_loop v34).OK := fun v34 k0_hw2 k0_h41 => k0_hw2.2.2.2.2.2.2.2.2.2.2.1.2.2.2.2.2.2.2.2.2.2.2.2.2.2.2.2.2.2.2.2.2.2.1 k0_h41
theorem k0_off308_inb : ∀ (v34 : BitVec 32) (k0_hw2 : k0_chk2 v34) (k0_t41 : Fin (k0_t41_loop v34).trips), ∀ (k0_h41 : k0_cond41 v34 = 1#1), ∀ a, (k0_off308 v34 k0_t41) a + S1x16.size a ≤ S128x128.size a := fun v34 k0_hw2 k0_t41 k0_h41 => k0_hw2.2.2.2.2.2.2.2.2.2.2.1.2.2.2.2.2.2.2.2.2.2.2.2.2.2.2.2.2.2.2.2.2.2.2.1 k0_t41 k0_h41
theorem k0_off309_inb : ∀ (v34 : BitVec 32) (k0_hw2 : k0_chk2 v34) (k0_t41 : Fin (k0_t41_loop v34).trips), ∀ (k0_h41 : k0_cond41 v34 = 1#1), ∀ a, (k0_off309 v34 k0_t41) a + S1x16.size a ≤ S128x128.size a := fun v34 k0_hw2 k0_t41 k0_h41 => k0_hw2.2.2.2.2.2.2.2.2.2.2.1.2.2.2.2.2.2.2.2.2.2.2.2.2.2.2.2.2.2.2.2.2.2.2.2.1 k0_t41 k0_h41
theorem k0_off310_inb : ∀ (v34 : BitVec 32) (k0_hw2 : k0_chk2 v34) (k0_t41 : Fin (k0_t41_loop v34).trips), ∀ (k0_h41 : k0_cond41 v34 = 1#1), ∀ a, (k0_off310 v34 k0_t41) a + S1x16.size a ≤ S128x128.size a := fun v34 k0_hw2 k0_t41 k0_h41 => k0_hw2.2.2.2.2.2.2.2.2.2.2.1.2.2.2.2.2.2.2.2.2.2.2.2.2.2.2.2.2.2.2.2.2.2.2.2.2.1 k0_t41 k0_h41
theorem k0_off311_inb : ∀ (v34 : BitVec 32) (k0_hw2 : k0_chk2 v34) (k0_t41 : Fin (k0_t41_loop v34).trips), ∀ (k0_h41 : k0_cond41 v34 = 1#1), ∀ a, (k0_off311 v34 k0_t41) a + S1x16.size a ≤ S128x128.size a := fun v34 k0_hw2 k0_t41 k0_h41 => k0_hw2.2.2.2.2.2.2.2.2.2.2.1.2.2.2.2.2.2.2.2.2.2.2.2.2.2.2.2.2.2.2.2.2.2.2.2.2.2.1 k0_t41 k0_h41
theorem k0_off312_inb : ∀ (v34 : BitVec 32) (k0_hw2 : k0_chk2 v34) (k0_t41 : Fin (k0_t41_loop v34).trips), ∀ (k0_h41 : k0_cond41 v34 = 1#1), ∀ a, (k0_off312 v34 k0_t41) a + S1x16.size a ≤ S128x128.size a := fun v34 k0_hw2 k0_t41 k0_h41 => k0_hw2.2.2.2.2.2.2.2.2.2.2.1.2.2.2.2.2.2.2.2.2.2.2.2.2.2.2.2.2.2.2.2.2.2.2.2.2.2.2.1 k0_t41 k0_h41
theorem k0_off313_inb : ∀ (v34 : BitVec 32) (k0_hw2 : k0_chk2 v34) (k0_t41 : Fin (k0_t41_loop v34).trips), ∀ (k0_h41 : k0_cond41 v34 = 1#1), ∀ a, (k0_off313 v34 k0_t41) a + S1x16.size a ≤ S128x128.size a := fun v34 k0_hw2 k0_t41 k0_h41 => k0_hw2.2.2.2.2.2.2.2.2.2.2.1.2.2.2.2.2.2.2.2.2.2.2.2.2.2.2.2.2.2.2.2.2.2.2.2.2.2.2.2.1 k0_t41 k0_h41
theorem k0_off314_inb : ∀ (v34 : BitVec 32) (k0_hw2 : k0_chk2 v34) (k0_t41 : Fin (k0_t41_loop v34).trips), ∀ (k0_h41 : k0_cond41 v34 = 1#1), ∀ a, (k0_off314 v34 k0_t41) a + S1x16.size a ≤ S128x128.size a := fun v34 k0_hw2 k0_t41 k0_h41 => k0_hw2.2.2.2.2.2.2.2.2.2.2.1.2.2.2.2.2.2.2.2.2.2.2.2.2.2.2.2.2.2.2.2.2.2.2.2.2.2.2.2.2.1 k0_t41 k0_h41
theorem k0_off315_inb : ∀ (v34 : BitVec 32) (k0_hw2 : k0_chk2 v34) (k0_t41 : Fin (k0_t41_loop v34).trips), ∀ (k0_h41 : k0_cond41 v34 = 1#1), ∀ a, (k0_off315 v34 k0_t41) a + S1x16.size a ≤ S128x128.size a := fun v34 k0_hw2 k0_t41 k0_h41 => k0_hw2.2.2.2.2.2.2.2.2.2.2.1.2.2.2.2.2.2.2.2.2.2.2.2.2.2.2.2.2.2.2.2.2.2.2.2.2.2.2.2.2.2.1 k0_t41 k0_h41
theorem k0_t42_ok : ∀ (v34 : BitVec 32) (k0_hw2 : k0_chk2 v34), ∀ (k0_h41 : k0_cond41 v34 = 1#1), (k0_t42_loop v34).OK := fun v34 k0_hw2 k0_h41 => k0_hw2.2.2.2.2.2.2.2.2.2.2.1.2.2.2.2.2.2.2.2.2.2.2.2.2.2.2.2.2.2.2.2.2.2.2.2.2.2.2.2.2.2.2 k0_h41
theorem k0_off316_inb : ∀ (v34 : BitVec 32) (k0_hw2 : k0_chk2 v34) (k0_t42 : Fin (k0_t42_loop v34).trips), ∀ (k0_h41 : k0_cond41 v34 = 1#1), ∀ a, (k0_off316 v34 k0_t42) a + S1x16.size a ≤ S128x128.size a := fun v34 k0_hw2 k0_t42 k0_h41 => k0_hw2.2.2.2.2.2.2.2.2.2.2.2.1.1 k0_t42 k0_h41
theorem k0_off317_inb : ∀ (v34 : BitVec 32) (k0_hw2 : k0_chk2 v34) (k0_t42 : Fin (k0_t42_loop v34).trips), ∀ (k0_h41 : k0_cond41 v34 = 1#1), ∀ a, (k0_off317 v34 k0_t42) a + S1x16.size a ≤ S128x128.size a := fun v34 k0_hw2 k0_t42 k0_h41 => k0_hw2.2.2.2.2.2.2.2.2.2.2.2.1.2.1 k0_t42 k0_h41
theorem k0_off318_inb : ∀ (v34 : BitVec 32) (k0_hw2 : k0_chk2 v34) (k0_t42 : Fin (k0_t42_loop v34).trips), ∀ (k0_h41 : k0_cond41 v34 = 1#1), ∀ a, (k0_off318 v34 k0_t42) a + S1x16.size a ≤ S128x128.size a := fun v34 k0_hw2 k0_t42 k0_h41 => k0_hw2.2.2.2.2.2.2.2.2.2.2.2.1.2.2.1 k0_t42 k0_h41
theorem k0_off319_inb : ∀ (v34 : BitVec 32) (k0_hw2 : k0_chk2 v34) (k0_t42 : Fin (k0_t42_loop v34).trips), ∀ (k0_h41 : k0_cond41 v34 = 1#1), ∀ a, (k0_off319 v34 k0_t42) a + S1x16.size a ≤ S128x128.size a := fun v34 k0_hw2 k0_t42 k0_h41 => k0_hw2.2.2.2.2.2.2.2.2.2.2.2.1.2.2.2.1 k0_t42 k0_h41
theorem k0_off320_inb : ∀ (v34 : BitVec 32) (k0_hw2 : k0_chk2 v34) (k0_t42 : Fin (k0_t42_loop v34).trips), ∀ (k0_h41 : k0_cond41 v34 = 1#1), ∀ a, (k0_off320 v34 k0_t42) a + S1x16.size a ≤ S128x128.size a := fun v34 k0_hw2 k0_t42 k0_h41 => k0_hw2.2.2.2.2.2.2.2.2.2.2.2.1.2.2.2.2.1 k0_t42 k0_h41
theorem k0_off321_inb : ∀ (v34 : BitVec 32) (k0_hw2 : k0_chk2 v34) (k0_t42 : Fin (k0_t42_loop v34).trips), ∀ (k0_h41 : k0_cond41 v34 = 1#1), ∀ a, (k0_off321 v34 k0_t42) a + S1x16.size a ≤ S128x128.size a := fun v34 k0_hw2 k0_t42 k0_h41 => k0_hw2.2.2.2.2.2.2.2.2.2.2.2.1.2.2.2.2.2.1 k0_t42 k0_h41
theorem k0_off322_inb : ∀ (v34 : BitVec 32) (k0_hw2 : k0_chk2 v34) (k0_t42 : Fin (k0_t42_loop v34).trips), ∀ (k0_h41 : k0_cond41 v34 = 1#1), ∀ a, (k0_off322 v34 k0_t42) a + S1x16.size a ≤ S128x128.size a := fun v34 k0_hw2 k0_t42 k0_h41 => k0_hw2.2.2.2.2.2.2.2.2.2.2.2.1.2.2.2.2.2.2.1 k0_t42 k0_h41
theorem k0_off323_inb : ∀ (v34 : BitVec 32) (k0_hw2 : k0_chk2 v34) (k0_t42 : Fin (k0_t42_loop v34).trips), ∀ (k0_h41 : k0_cond41 v34 = 1#1), ∀ a, (k0_off323 v34 k0_t42) a + S1x16.size a ≤ S128x128.size a := fun v34 k0_hw2 k0_t42 k0_h41 => k0_hw2.2.2.2.2.2.2.2.2.2.2.2.1.2.2.2.2.2.2.2.1 k0_t42 k0_h41
theorem k0_t43_ok : ∀ (v34 : BitVec 32) (k0_hw2 : k0_chk2 v34), ∀ (k0_h43 : k0_cond43 v34 = 1#1), (k0_t43_loop v34).OK := fun v34 k0_hw2 k0_h43 => k0_hw2.2.2.2.2.2.2.2.2.2.2.2.1.2.2.2.2.2.2.2.2.1 k0_h43
theorem k0_off324_inb : ∀ (v34 : BitVec 32) (k0_hw2 : k0_chk2 v34) (k0_t43 : Fin (k0_t43_loop v34).trips), ∀ (k0_h43 : k0_cond43 v34 = 1#1), ∀ a, (k0_off324 v34 k0_t43) a + S1x16.size a ≤ S128x128.size a := fun v34 k0_hw2 k0_t43 k0_h43 => k0_hw2.2.2.2.2.2.2.2.2.2.2.2.1.2.2.2.2.2.2.2.2.2.1 k0_t43 k0_h43
theorem k0_off325_inb : ∀ (v34 : BitVec 32) (k0_hw2 : k0_chk2 v34) (k0_t43 : Fin (k0_t43_loop v34).trips), ∀ (k0_h43 : k0_cond43 v34 = 1#1), ∀ a, (k0_off325 v34 k0_t43) a + S1x16.size a ≤ S128x128.size a := fun v34 k0_hw2 k0_t43 k0_h43 => k0_hw2.2.2.2.2.2.2.2.2.2.2.2.1.2.2.2.2.2.2.2.2.2.2.1 k0_t43 k0_h43
theorem k0_off326_inb : ∀ (v34 : BitVec 32) (k0_hw2 : k0_chk2 v34) (k0_t43 : Fin (k0_t43_loop v34).trips), ∀ (k0_h43 : k0_cond43 v34 = 1#1), ∀ a, (k0_off326 v34 k0_t43) a + S1x16.size a ≤ S128x128.size a := fun v34 k0_hw2 k0_t43 k0_h43 => k0_hw2.2.2.2.2.2.2.2.2.2.2.2.1.2.2.2.2.2.2.2.2.2.2.2.1 k0_t43 k0_h43
theorem k0_off327_inb : ∀ (v34 : BitVec 32) (k0_hw2 : k0_chk2 v34) (k0_t43 : Fin (k0_t43_loop v34).trips), ∀ (k0_h43 : k0_cond43 v34 = 1#1), ∀ a, (k0_off327 v34 k0_t43) a + S1x16.size a ≤ S128x128.size a := fun v34 k0_hw2 k0_t43 k0_h43 => k0_hw2.2.2.2.2.2.2.2.2.2.2.2.1.2.2.2.2.2.2.2.2.2.2.2.2.1 k0_t43 k0_h43
theorem k0_off328_inb : ∀ (v34 : BitVec 32) (k0_hw2 : k0_chk2 v34) (k0_t43 : Fin (k0_t43_loop v34).trips), ∀ (k0_h43 : k0_cond43 v34 = 1#1), ∀ a, (k0_off328 v34 k0_t43) a + S1x16.size a ≤ S128x128.size a := fun v34 k0_hw2 k0_t43 k0_h43 => k0_hw2.2.2.2.2.2.2.2.2.2.2.2.1.2.2.2.2.2.2.2.2.2.2.2.2.2.1 k0_t43 k0_h43
theorem k0_off329_inb : ∀ (v34 : BitVec 32) (k0_hw2 : k0_chk2 v34) (k0_t43 : Fin (k0_t43_loop v34).trips), ∀ (k0_h43 : k0_cond43 v34 = 1#1), ∀ a, (k0_off329 v34 k0_t43) a + S1x16.size a ≤ S128x128.size a := fun v34 k0_hw2 k0_t43 k0_h43 => k0_hw2.2.2.2.2.2.2.2.2.2.2.2.1.2.2.2.2.2.2.2.2.2.2.2.2.2.2.1 k0_t43 k0_h43
theorem k0_off330_inb : ∀ (v34 : BitVec 32) (k0_hw2 : k0_chk2 v34) (k0_t43 : Fin (k0_t43_loop v34).trips), ∀ (k0_h43 : k0_cond43 v34 = 1#1), ∀ a, (k0_off330 v34 k0_t43) a + S1x16.size a ≤ S128x128.size a := fun v34 k0_hw2 k0_t43 k0_h43 => k0_hw2.2.2.2.2.2.2.2.2.2.2.2.1.2.2.2.2.2.2.2.2.2.2.2.2.2.2.2.1 k0_t43 k0_h43
theorem k0_off331_inb : ∀ (v34 : BitVec 32) (k0_hw2 : k0_chk2 v34) (k0_t43 : Fin (k0_t43_loop v34).trips), ∀ (k0_h43 : k0_cond43 v34 = 1#1), ∀ a, (k0_off331 v34 k0_t43) a + S1x16.size a ≤ S128x128.size a := fun v34 k0_hw2 k0_t43 k0_h43 => k0_hw2.2.2.2.2.2.2.2.2.2.2.2.1.2.2.2.2.2.2.2.2.2.2.2.2.2.2.2.2.1 k0_t43 k0_h43
theorem k0_t44_ok : ∀ (v34 : BitVec 32) (k0_hw2 : k0_chk2 v34), ∀ (k0_h43 : k0_cond43 v34 = 1#1), (k0_t44_loop v34).OK := fun v34 k0_hw2 k0_h43 => k0_hw2.2.2.2.2.2.2.2.2.2.2.2.1.2.2.2.2.2.2.2.2.2.2.2.2.2.2.2.2.2.1 k0_h43
theorem k0_off332_inb : ∀ (v34 : BitVec 32) (k0_hw2 : k0_chk2 v34) (k0_t44 : Fin (k0_t44_loop v34).trips), ∀ (k0_h43 : k0_cond43 v34 = 1#1), ∀ a, (k0_off332 v34 k0_t44) a + S1x16.size a ≤ S128x128.size a := fun v34 k0_hw2 k0_t44 k0_h43 => k0_hw2.2.2.2.2.2.2.2.2.2.2.2.1.2.2.2.2.2.2.2.2.2.2.2.2.2.2.2.2.2.2.1 k0_t44 k0_h43
theorem k0_off333_inb : ∀ (v34 : BitVec 32) (k0_hw2 : k0_chk2 v34) (k0_t44 : Fin (k0_t44_loop v34).trips), ∀ (k0_h43 : k0_cond43 v34 = 1#1), ∀ a, (k0_off333 v34 k0_t44) a + S1x16.size a ≤ S128x128.size a := fun v34 k0_hw2 k0_t44 k0_h43 => k0_hw2.2.2.2.2.2.2.2.2.2.2.2.1.2.2.2.2.2.2.2.2.2.2.2.2.2.2.2.2.2.2.2.1 k0_t44 k0_h43
theorem k0_off334_inb : ∀ (v34 : BitVec 32) (k0_hw2 : k0_chk2 v34) (k0_t44 : Fin (k0_t44_loop v34).trips), ∀ (k0_h43 : k0_cond43 v34 = 1#1), ∀ a, (k0_off334 v34 k0_t44) a + S1x16.size a ≤ S128x128.size a := fun v34 k0_hw2 k0_t44 k0_h43 => k0_hw2.2.2.2.2.2.2.2.2.2.2.2.1.2.2.2.2.2.2.2.2.2.2.2.2.2.2.2.2.2.2.2.2.1 k0_t44 k0_h43
theorem k0_off335_inb : ∀ (v34 : BitVec 32) (k0_hw2 : k0_chk2 v34) (k0_t44 : Fin (k0_t44_loop v34).trips), ∀ (k0_h43 : k0_cond43 v34 = 1#1), ∀ a, (k0_off335 v34 k0_t44) a + S1x16.size a ≤ S128x128.size a := fun v34 k0_hw2 k0_t44 k0_h43 => k0_hw2.2.2.2.2.2.2.2.2.2.2.2.1.2.2.2.2.2.2.2.2.2.2.2.2.2.2.2.2.2.2.2.2.2.1 k0_t44 k0_h43
theorem k0_off336_inb : ∀ (v34 : BitVec 32) (k0_hw2 : k0_chk2 v34) (k0_t44 : Fin (k0_t44_loop v34).trips), ∀ (k0_h43 : k0_cond43 v34 = 1#1), ∀ a, (k0_off336 v34 k0_t44) a + S1x16.size a ≤ S128x128.size a := fun v34 k0_hw2 k0_t44 k0_h43 => k0_hw2.2.2.2.2.2.2.2.2.2.2.2.1.2.2.2.2.2.2.2.2.2.2.2.2.2.2.2.2.2.2.2.2.2.2.1 k0_t44 k0_h43
theorem k0_off337_inb : ∀ (v34 : BitVec 32) (k0_hw2 : k0_chk2 v34) (k0_t44 : Fin (k0_t44_loop v34).trips), ∀ (k0_h43 : k0_cond43 v34 = 1#1), ∀ a, (k0_off337 v34 k0_t44) a + S1x16.size a ≤ S128x128.size a := fun v34 k0_hw2 k0_t44 k0_h43 => k0_hw2.2.2.2.2.2.2.2.2.2.2.2.1.2.2.2.2.2.2.2.2.2.2.2.2.2.2.2.2.2.2.2.2.2.2.2.1 k0_t44 k0_h43
theorem k0_off338_inb : ∀ (v34 : BitVec 32) (k0_hw2 : k0_chk2 v34) (k0_t44 : Fin (k0_t44_loop v34).trips), ∀ (k0_h43 : k0_cond43 v34 = 1#1), ∀ a, (k0_off338 v34 k0_t44) a + S1x16.size a ≤ S128x128.size a := fun v34 k0_hw2 k0_t44 k0_h43 => k0_hw2.2.2.2.2.2.2.2.2.2.2.2.1.2.2.2.2.2.2.2.2.2.2.2.2.2.2.2.2.2.2.2.2.2.2.2.2.1 k0_t44 k0_h43
theorem k0_off339_inb : ∀ (v34 : BitVec 32) (k0_hw2 : k0_chk2 v34) (k0_t44 : Fin (k0_t44_loop v34).trips), ∀ (k0_h43 : k0_cond43 v34 = 1#1), ∀ a, (k0_off339 v34 k0_t44) a + S1x16.size a ≤ S128x128.size a := fun v34 k0_hw2 k0_t44 k0_h43 => k0_hw2.2.2.2.2.2.2.2.2.2.2.2.1.2.2.2.2.2.2.2.2.2.2.2.2.2.2.2.2.2.2.2.2.2.2.2.2.2.1 k0_t44 k0_h43
theorem k0_t45_ok : ∀ (v34 : BitVec 32) (k0_hw2 : k0_chk2 v34), ∀ (k0_h45 : k0_cond45 v34 = 1#1), (k0_t45_loop v34).OK := fun v34 k0_hw2 k0_h45 => k0_hw2.2.2.2.2.2.2.2.2.2.2.2.1.2.2.2.2.2.2.2.2.2.2.2.2.2.2.2.2.2.2.2.2.2.2.2.2.2.2.1 k0_h45
theorem k0_off340_inb : ∀ (v34 : BitVec 32) (k0_hw2 : k0_chk2 v34) (k0_t45 : Fin (k0_t45_loop v34).trips), ∀ (k0_h45 : k0_cond45 v34 = 1#1), ∀ a, (k0_off340 v34 k0_t45) a + S1x16.size a ≤ S128x128.size a := fun v34 k0_hw2 k0_t45 k0_h45 => k0_hw2.2.2.2.2.2.2.2.2.2.2.2.1.2.2.2.2.2.2.2.2.2.2.2.2.2.2.2.2.2.2.2.2.2.2.2.2.2.2.2.1 k0_t45 k0_h45
theorem k0_off341_inb : ∀ (v34 : BitVec 32) (k0_hw2 : k0_chk2 v34) (k0_t45 : Fin (k0_t45_loop v34).trips), ∀ (k0_h45 : k0_cond45 v34 = 1#1), ∀ a, (k0_off341 v34 k0_t45) a + S1x16.size a ≤ S128x128.size a := fun v34 k0_hw2 k0_t45 k0_h45 => k0_hw2.2.2.2.2.2.2.2.2.2.2.2.1.2.2.2.2.2.2.2.2.2.2.2.2.2.2.2.2.2.2.2.2.2.2.2.2.2.2.2.2.1 k0_t45 k0_h45
theorem k0_off342_inb : ∀ (v34 : BitVec 32) (k0_hw2 : k0_chk2 v34) (k0_t45 : Fin (k0_t45_loop v34).trips), ∀ (k0_h45 : k0_cond45 v34 = 1#1), ∀ a, (k0_off342 v34 k0_t45) a + S1x16.size a ≤ S128x128.size a := fun v34 k0_hw2 k0_t45 k0_h45 => k0_hw2.2.2.2.2.2.2.2.2.2.2.2.1.2.2.2.2.2.2.2.2.2.2.2.2.2.2.2.2.2.2.2.2.2.2.2.2.2.2.2.2.2.1 k0_t45 k0_h45
theorem k0_off343_inb : ∀ (v34 : BitVec 32) (k0_hw2 : k0_chk2 v34) (k0_t45 : Fin (k0_t45_loop v34).trips), ∀ (k0_h45 : k0_cond45 v34 = 1#1), ∀ a, (k0_off343 v34 k0_t45) a + S1x16.size a ≤ S128x128.size a := fun v34 k0_hw2 k0_t45 k0_h45 => k0_hw2.2.2.2.2.2.2.2.2.2.2.2.1.2.2.2.2.2.2.2.2.2.2.2.2.2.2.2.2.2.2.2.2.2.2.2.2.2.2.2.2.2.2.1 k0_t45 k0_h45
theorem k0_off344_inb : ∀ (v34 : BitVec 32) (k0_hw2 : k0_chk2 v34) (k0_t45 : Fin (k0_t45_loop v34).trips), ∀ (k0_h45 : k0_cond45 v34 = 1#1), ∀ a, (k0_off344 v34 k0_t45) a + S1x16.size a ≤ S128x128.size a := fun v34 k0_hw2 k0_t45 k0_h45 => k0_hw2.2.2.2.2.2.2.2.2.2.2.2.1.2.2.2.2.2.2.2.2.2.2.2.2.2.2.2.2.2.2.2.2.2.2.2.2.2.2.2.2.2.2.2 k0_t45 k0_h45
theorem k0_off345_inb : ∀ (v34 : BitVec 32) (k0_hw2 : k0_chk2 v34) (k0_t45 : Fin (k0_t45_loop v34).trips), ∀ (k0_h45 : k0_cond45 v34 = 1#1), ∀ a, (k0_off345 v34 k0_t45) a + S1x16.size a ≤ S128x128.size a := fun v34 k0_hw2 k0_t45 k0_h45 => k0_hw2.2.2.2.2.2.2.2.2.2.2.2.2.1.1 k0_t45 k0_h45
theorem k0_off346_inb : ∀ (v34 : BitVec 32) (k0_hw2 : k0_chk2 v34) (k0_t45 : Fin (k0_t45_loop v34).trips), ∀ (k0_h45 : k0_cond45 v34 = 1#1), ∀ a, (k0_off346 v34 k0_t45) a + S1x16.size a ≤ S128x128.size a := fun v34 k0_hw2 k0_t45 k0_h45 => k0_hw2.2.2.2.2.2.2.2.2.2.2.2.2.1.2.1 k0_t45 k0_h45
theorem k0_off347_inb : ∀ (v34 : BitVec 32) (k0_hw2 : k0_chk2 v34) (k0_t45 : Fin (k0_t45_loop v34).trips), ∀ (k0_h45 : k0_cond45 v34 = 1#1), ∀ a, (k0_off347 v34 k0_t45) a + S1x16.size a ≤ S128x128.size a := fun v34 k0_hw2 k0_t45 k0_h45 => k0_hw2.2.2.2.2.2.2.2.2.2.2.2.2.1.2.2.1 k0_t45 k0_h45
theorem k0_t46_ok : ∀ (v34 : BitVec 32) (k0_hw2 : k0_chk2 v34), ∀ (k0_h45 : k0_cond45 v34 = 1#1), (k0_t46_loop v34).OK := fun v34 k0_hw2 k0_h45 => k0_hw2.2.2.2.2.2.2.2.2.2.2.2.2.1.2.2.2.1 k0_h45
theorem k0_off348_inb : ∀ (v34 : BitVec 32) (k0_hw2 : k0_chk2 v34) (k0_t46 : Fin (k0_t46_loop v34).trips), ∀ (k0_h45 : k0_cond45 v34 = 1#1), ∀ a, (k0_off348 v34 k0_t46) a + S1x16.size a ≤ S128x128.size a := fun v34 k0_hw2 k0_t46 k0_h45 => k0_hw2.2.2.2.2.2.2.2.2.2.2.2.2.1.2.2.2.2.1 k0_t46 k0_h45
theorem k0_off349_inb : ∀ (v34 : BitVec 32) (k0_hw2 : k0_chk2 v34) (k0_t46 : Fin (k0_t46_loop v34).trips), ∀ (k0_h45 : k0_cond45 v34 = 1#1), ∀ a, (k0_off349 v34 k0_t46) a + S1x16.size a ≤ S128x128.size a := fun v34 k0_hw2 k0_t46 k0_h45 => k0_hw2.2.2.2.2.2.2.2.2.2.2.2.2.1.2.2.2.2.2.1 k0_t46 k0_h45
theorem k0_off350_inb : ∀ (v34 : BitVec 32) (k0_hw2 : k0_chk2 v34) (k0_t46 : Fin (k0_t46_loop v34).trips), ∀ (k0_h45 : k0_cond45 v34 = 1#1), ∀ a, (k0_off350 v34 k0_t46) a + S1x16.size a ≤ S128x128.size a := fun v34 k0_hw2 k0_t46 k0_h45 => k0_hw2.2.2.2.2.2.2.2.2.2.2.2.2.1.2.2.2.2.2.2.1 k0_t46 k0_h45
theorem k0_off351_inb : ∀ (v34 : BitVec 32) (k0_hw2 : k0_chk2 v34) (k0_t46 : Fin (k0_t46_loop v34).trips), ∀ (k0_h45 : k0_cond45 v34 = 1#1), ∀ a, (k0_off351 v34 k0_t46) a + S1x16.size a ≤ S128x128.size a := fun v34 k0_hw2 k0_t46 k0_h45 => k0_hw2.2.2.2.2.2.2.2.2.2.2.2.2.1.2.2.2.2.2.2.2.1 k0_t46 k0_h45
theorem k0_off352_inb : ∀ (v34 : BitVec 32) (k0_hw2 : k0_chk2 v34) (k0_t46 : Fin (k0_t46_loop v34).trips), ∀ (k0_h45 : k0_cond45 v34 = 1#1), ∀ a, (k0_off352 v34 k0_t46) a + S1x16.size a ≤ S128x128.size a := fun v34 k0_hw2 k0_t46 k0_h45 => k0_hw2.2.2.2.2.2.2.2.2.2.2.2.2.1.2.2.2.2.2.2.2.2.1 k0_t46 k0_h45
theorem k0_off353_inb : ∀ (v34 : BitVec 32) (k0_hw2 : k0_chk2 v34) (k0_t46 : Fin (k0_t46_loop v34).trips), ∀ (k0_h45 : k0_cond45 v34 = 1#1), ∀ a, (k0_off353 v34 k0_t46) a + S1x16.size a ≤ S128x128.size a := fun v34 k0_hw2 k0_t46 k0_h45 => k0_hw2.2.2.2.2.2.2.2.2.2.2.2.2.1.2.2.2.2.2.2.2.2.2.1 k0_t46 k0_h45
theorem k0_off354_inb : ∀ (v34 : BitVec 32) (k0_hw2 : k0_chk2 v34) (k0_t46 : Fin (k0_t46_loop v34).trips), ∀ (k0_h45 : k0_cond45 v34 = 1#1), ∀ a, (k0_off354 v34 k0_t46) a + S1x16.size a ≤ S128x128.size a := fun v34 k0_hw2 k0_t46 k0_h45 => k0_hw2.2.2.2.2.2.2.2.2.2.2.2.2.1.2.2.2.2.2.2.2.2.2.2.1 k0_t46 k0_h45
theorem k0_off355_inb : ∀ (v34 : BitVec 32) (k0_hw2 : k0_chk2 v34) (k0_t46 : Fin (k0_t46_loop v34).trips), ∀ (k0_h45 : k0_cond45 v34 = 1#1), ∀ a, (k0_off355 v34 k0_t46) a + S1x16.size a ≤ S128x128.size a := fun v34 k0_hw2 k0_t46 k0_h45 => k0_hw2.2.2.2.2.2.2.2.2.2.2.2.2.1.2.2.2.2.2.2.2.2.2.2.2.1 k0_t46 k0_h45
theorem k0_t47_ok : ∀ (v34 : BitVec 32) (k0_hw2 : k0_chk2 v34), ∀ (k0_h47 : k0_cond47 v34 = 1#1), (k0_t47_loop v34).OK := fun v34 k0_hw2 k0_h47 => k0_hw2.2.2.2.2.2.2.2.2.2.2.2.2.1.2.2.2.2.2.2.2.2.2.2.2.2.1 k0_h47
theorem k0_off356_inb : ∀ (v34 : BitVec 32) (k0_hw2 : k0_chk2 v34) (k0_t47 : Fin (k0_t47_loop v34).trips), ∀ (k0_h47 : k0_cond47 v34 = 1#1), ∀ a, (k0_off356 v34 k0_t47) a + S1x16.size a ≤ S128x128.size a := fun v34 k0_hw2 k0_t47 k0_h47 => k0_hw2.2.2.2.2.2.2.2.2.2.2.2.2.1.2.2.2.2.2.2.2.2.2.2.2.2.2.1 k0_t47 k0_h47
theorem k0_off357_inb : ∀ (v34 : BitVec 32) (k0_hw2 : k0_chk2 v34) (k0_t47 : Fin (k0_t47_loop v34).trips), ∀ (k0_h47 : k0_cond47 v34 = 1#1), ∀ a, (k0_off357 v34 k0_t47) a + S1x16.size a ≤ S128x128.size a := fun v34 k0_hw2 k0_t47 k0_h47 => k0_hw2.2.2.2.2.2.2.2.2.2.2.2.2.1.2.2.2.2.2.2.2.2.2.2.2.2.2.2.1 k0_t47 k0_h47
theorem k0_off358_inb : ∀ (v34 : BitVec 32) (k0_hw2 : k0_chk2 v34) (k0_t47 : Fin (k0_t47_loop v34).trips), ∀ (k0_h47 : k0_cond47 v34 = 1#1), ∀ a, (k0_off358 v34 k0_t47) a + S1x16.size a ≤ S128x128.size a := fun v34 k0_hw2 k0_t47 k0_h47 => k0_hw2.2.2.2.2.2.2.2.2.2.2.2.2.1.2.2.2.2.2.2.2.2.2.2.2.2.2.2.2.1 k0_t47 k0_h47
theorem k0_off359_inb : ∀ (v34 : BitVec 32) (k0_hw2 : k0_chk2 v34) (k0_t47 : Fin (k0_t47_loop v34).trips), ∀ (k0_h47 : k0_cond47 v34 = 1#1), ∀ a, (k0_off359 v34 k0_t47) a + S1x16.size a ≤ S128x128.size a := fun v34 k0_hw2 k0_t47 k0_h47 => k0_hw2.2.2.2.2.2.2.2.2.2.2.2.2.1.2.2.2.2.2.2.2.2.2.2.2.2.2.2.2.2.1 k0_t47 k0_h47
theorem k0_off360_inb : ∀ (v34 : BitVec 32) (k0_hw2 : k0_chk2 v34) (k0_t47 : Fin (k0_t47_loop v34).trips), ∀ (k0_h47 : k0_cond47 v34 = 1#1), ∀ a, (k0_off360 v34 k0_t47) a + S1x16.size a ≤ S128x128.size a := fun v34 k0_hw2 k0_t47 k0_h47 => k0_hw2.2.2.2.2.2.2.2.2.2.2.2.2.1.2.2.2.2.2.2.2.2.2.2.2.2.2.2.2.2.2.1 k0_t47 k0_h47
theorem k0_off361_inb : ∀ (v34 : BitVec 32) (k0_hw2 : k0_chk2 v34) (k0_t47 : Fin (k0_t47_loop v34).trips), ∀ (k0_h47 : k0_cond47 v34 = 1#1), ∀ a, (k0_off361 v34 k0_t47) a + S1x16.size a ≤ S128x128.size a := fun v34 k0_hw2 k0_t47 k0_h47 => k0_hw2.2.2.2.2.2.2.2.2.2.2.2.2.1.2.2.2.2.2.2.2.2.2.2.2.2.2.2.2.2.2.2.1 k0_t47 k0_h47
theorem k0_off362_inb : ∀ (v34 : BitVec 32) (k0_hw2 : k0_chk2 v34) (k0_t47 : Fin (k0_t47_loop v34).trips), ∀ (k0_h47 : k0_cond47 v34 = 1#1), ∀ a, (k0_off362 v34 k0_t47) a + S1x16.size a ≤ S128x128.size a := fun v34 k0_hw2 k0_t47 k0_h47 => k0_hw2.2.2.2.2.2.2.2.2.2.2.2.2.1.2.2.2.2.2.2.2.2.2.2.2.2.2.2.2.2.2.2.2.1 k0_t47 k0_h47
theorem k0_off363_inb : ∀ (v34 : BitVec 32) (k0_hw2 : k0_chk2 v34) (k0_t47 : Fin (k0_t47_loop v34).trips), ∀ (k0_h47 : k0_cond47 v34 = 1#1), ∀ a, (k0_off363 v34 k0_t47) a + S1x16.size a ≤ S128x128.size a := fun v34 k0_hw2 k0_t47 k0_h47 => k0_hw2.2.2.2.2.2.2.2.2.2.2.2.2.1.2.2.2.2.2.2.2.2.2.2.2.2.2.2.2.2.2.2.2.2.1 k0_t47 k0_h47
theorem k0_t48_ok : ∀ (v34 : BitVec 32) (k0_hw2 : k0_chk2 v34), ∀ (k0_h47 : k0_cond47 v34 = 1#1), (k0_t48_loop v34).OK := fun v34 k0_hw2 k0_h47 => k0_hw2.2.2.2.2.2.2.2.2.2.2.2.2.1.2.2.2.2.2.2.2.2.2.2.2.2.2.2.2.2.2.2.2.2.2.1 k0_h47
theorem k0_off364_inb : ∀ (v34 : BitVec 32) (k0_hw2 : k0_chk2 v34) (k0_t48 : Fin (k0_t48_loop v34).trips), ∀ (k0_h47 : k0_cond47 v34 = 1#1), ∀ a, (k0_off364 v34 k0_t48) a + S1x16.size a ≤ S128x128.size a := fun v34 k0_hw2 k0_t48 k0_h47 => k0_hw2.2.2.2.2.2.2.2.2.2.2.2.2.1.2.2.2.2.2.2.2.2.2.2.2.2.2.2.2.2.2.2.2.2.2.2.1 k0_t48 k0_h47
theorem k0_off365_inb : ∀ (v34 : BitVec 32) (k0_hw2 : k0_chk2 v34) (k0_t48 : Fin (k0_t48_loop v34).trips), ∀ (k0_h47 : k0_cond47 v34 = 1#1), ∀ a, (k0_off365 v34 k0_t48) a + S1x16.size a ≤ S128x128.size a := fun v34 k0_hw2 k0_t48 k0_h47 => k0_hw2.2.2.2.2.2.2.2.2.2.2.2.2.1.2.2.2.2.2.2.2.2.2.2.2.2.2.2.2.2.2.2.2.2.2.2.2.1 k0_t48 k0_h47
theorem k0_off366_inb : ∀ (v34 : BitVec 32) (k0_hw2 : k0_chk2 v34) (k0_t48 : Fin (k0_t48_loop v34).trips), ∀ (k0_h47 : k0_cond47 v34 = 1#1), ∀ a, (k0_off366 v34 k0_t48) a + S1x16.size a ≤ S128x128.size a := fun v34 k0_hw2 k0_t48 k0_h47 => k0_hw2.2.2.2.2.2.2.2.2.2.2.2.2.1.2.2.2.2.2.2.2.2.2.2.2.2.2.2.2.2.2.2.2.2.2.2.2.2.1 k0_t48 k0_h47
theorem k0_off367_inb : ∀ (v34 : BitVec 32) (k0_hw2 : k0_chk2 v34) (k0_t48 : Fin (k0_t48_loop v34).trips), ∀ (k0_h47 : k0_cond47 v34 = 1#1), ∀ a, (k0_off367 v34 k0_t48) a + S1x16.size a ≤ S128x128.size a := fun v34 k0_hw2 k0_t48 k0_h47 => k0_hw2.2.2.2.2.2.2.2.2.2.2.2.2.1.2.2.2.2.2.2.2.2.2.2.2.2.2.2.2.2.2.2.2.2.2.2.2.2.2.1 k0_t48 k0_h47
theorem k0_off368_inb : ∀ (v34 : BitVec 32) (k0_hw2 : k0_chk2 v34) (k0_t48 : Fin (k0_t48_loop v34).trips), ∀ (k0_h47 : k0_cond47 v34 = 1#1), ∀ a, (k0_off368 v34 k0_t48) a + S1x16.size a ≤ S128x128.size a := fun v34 k0_hw2 k0_t48 k0_h47 => k0_hw2.2.2.2.2.2.2.2.2.2.2.2.2.1.2.2.2.2.2.2.2.2.2.2.2.2.2.2.2.2.2.2.2.2.2.2.2.2.2.2.1 k0_t48 k0_h47
theorem k0_off369_inb : ∀ (v34 : BitVec 32) (k0_hw2 : k0_chk2 v34) (k0_t48 : Fin (k0_t48_loop v34).trips), ∀ (k0_h47 : k0_cond47 v34 = 1#1), ∀ a, (k0_off369 v34 k0_t48) a + S1x16.size a ≤ S128x128.size a := fun v34 k0_hw2 k0_t48 k0_h47 => k0_hw2.2.2.2.2.2.2.2.2.2.2.2.2.1.2.2.2.2.2.2.2.2.2.2.2.2.2.2.2.2.2.2.2.2.2.2.2.2.2.2.2.1 k0_t48 k0_h47
theorem k0_off370_inb : ∀ (v34 : BitVec 32) (k0_hw2 : k0_chk2 v34) (k0_t48 : Fin (k0_t48_loop v34).trips), ∀ (k0_h47 : k0_cond47 v34 = 1#1), ∀ a, (k0_off370 v34 k0_t48) a + S1x16.size a ≤ S128x128.size a := fun v34 k0_hw2 k0_t48 k0_h47 => k0_hw2.2.2.2.2.2.2.2.2.2.2.2.2.1.2.2.2.2.2.2.2.2.2.2.2.2.2.2.2.2.2.2.2.2.2.2.2.2.2.2.2.2.1 k0_t48 k0_h47
theorem k0_off371_inb : ∀ (v34 : BitVec 32) (k0_hw2 : k0_chk2 v34) (k0_t48 : Fin (k0_t48_loop v34).trips), ∀ (k0_h47 : k0_cond47 v34 = 1#1), ∀ a, (k0_off371 v34 k0_t48) a + S1x16.size a ≤ S128x128.size a := fun v34 k0_hw2 k0_t48 k0_h47 => k0_hw2.2.2.2.2.2.2.2.2.2.2.2.2.1.2.2.2.2.2.2.2.2.2.2.2.2.2.2.2.2.2.2.2.2.2.2.2.2.2.2.2.2.2.1 k0_t48 k0_h47
theorem k0_t49_ok : ∀ (v34 : BitVec 32) (k0_hw2 : k0_chk2 v34), ∀ (k0_h49 : k0_cond49 v34 = 1#1), (k0_t49_loop v34).OK := fun v34 k0_hw2 k0_h49 => k0_hw2.2.2.2.2.2.2.2.2.2.2.2.2.1.2.2.2.2.2.2.2.2.2.2.2.2.2.2.2.2.2.2.2.2.2.2.2.2.2.2.2.2.2.2.1 k0_h49
theorem k0_off372_inb : ∀ (v34 : BitVec 32) (k0_hw2 : k0_chk2 v34) (k0_t49 : Fin (k0_t49_loop v34).trips), ∀ (k0_h49 : k0_cond49 v34 = 1#1), ∀ a, (k0_off372 v34 k0_t49) a + S1x16.size a ≤ S128x128.size a := fun v34 k0_hw2 k0_t49 k0_h49 => k0_hw2.2.2.2.2.2.2.2.2.2.2.2.2.1.2.2.2.2.2.2.2.2.2.2.2.2.2.2.2.2.2.2.2.2.2.2.2.2.2.2.2.2.2.2.2 k0_t49 k0_h49
theorem k0_off373_inb : ∀ (v34 : BitVec 32) (k0_hw2 : k0_chk2 v34) (k0_t49 : Fin (k0_t49_loop v34).trips), ∀ (k0_h49 : k0_cond49 v34 = 1#1), ∀ a, (k0_off373 v34 k0_t49) a + S1x16.size a ≤ S128x128.size a := fun v34 k0_hw2 k0_t49 k0_h49 => k0_hw2.2.2.2.2.2.2.2.2.2.2.2.2.2.1.1 k0_t49 k0_h49
theorem k0_off374_inb : ∀ (v34 : BitVec 32) (k0_hw2 : k0_chk2 v34) (k0_t49 : Fin (k0_t49_loop v34).trips), ∀ (k0_h49 : k0_cond49 v34 = 1#1), ∀ a, (k0_off374 v34 k0_t49) a + S1x16.size a ≤ S128x128.size a := fun v34 k0_hw2 k0_t49 k0_h49 => k0_hw2.2.2.2.2.2.2.2.2.2.2.2.2.2.1.2.1 k0_t49 k0_h49
theorem k0_off375_inb : ∀ (v34 : BitVec 32) (k0_hw2 : k0_chk2 v34) (k0_t49 : Fin (k0_t49_loop v34).trips), ∀ (k0_h49 : k0_cond49 v34 = 1#1), ∀ a, (k0_off375 v34 k0_t49) a + S1x16.size a ≤ S128x128.size a := fun v34 k0_hw2 k0_t49 k0_h49 => k0_hw2.2.2.2.2.2.2.2.2.2.2.2.2.2.1.2.2.1 k0_t49 k0_h49
theorem k0_off376_inb : ∀ (v34 : BitVec 32) (k0_hw2 : k0_chk2 v34) (k0_t49 : Fin (k0_t49_loop v34).trips), ∀ (k0_h49 : k0_cond49 v34 = 1#1), ∀ a, (k0_off376 v34 k0_t49) a + S1x16.size a ≤ S128x128.size a := fun v34 k0_hw2 k0_t49 k0_h49 => k0_hw2.2.2.2.2.2.2.2.2.2.2.2.2.2.1.2.2.2.1 k0_t49 k0_h49
theorem k0_off377_inb : ∀ (v34 : BitVec 32) (k0_hw2 : k0_chk2 v34) (k0_t49 : Fin (k0_t49_loop v34).trips), ∀ (k0_h49 : k0_cond49 v34 = 1#1), ∀ a, (k0_off377 v34 k0_t49) a + S1x16.size a ≤ S128x128.size a := fun v34 k0_hw2 k0_t49 k0_h49 => k0_hw2.2.2.2.2.2.2.2.2.2.2.2.2.2.1.2.2.2.2.1 k0_t49 k0_h49
theorem k0_off378_inb : ∀ (v34 : BitVec 32) (k0_hw2 : k0_chk2 v34) (k0_t49 : Fin (k0_t49_loop v34).trips), ∀ (k0_h49 : k0_cond49 v34 = 1#1), ∀ a, (k0_off378 v34 k0_t49) a + S1x16.size a ≤ S128x128.size a := fun v34 k0_hw2 k0_t49 k0_h49 => k0_hw2.2.2.2.2.2.2.2.2.2.2.2.2.2.1.2.2.2.2.2.1 k0_t49 k0_h49
theorem k0_off379_inb : ∀ (v34 : BitVec 32) (k0_hw2 : k0_chk2 v34) (k0_t49 : Fin (k0_t49_loop v34).trips), ∀ (k0_h49 : k0_cond49 v34 = 1#1), ∀ a, (k0_off379 v34 k0_t49) a + S1x16.size a ≤ S128x128.size a := fun v34 k0_hw2 k0_t49 k0_h49 => k0_hw2.2.2.2.2.2.2.2.2.2.2.2.2.2.1.2.2.2.2.2.2.1 k0_t49 k0_h49
theorem k0_t50_ok : ∀ (v34 : BitVec 32) (k0_hw2 : k0_chk2 v34), ∀ (k0_h49 : k0_cond49 v34 = 1#1), (k0_t50_loop v34).OK := fun v34 k0_hw2 k0_h49 => k0_hw2.2.2.2.2.2.2.2.2.2.2.2.2.2.1.2.2.2.2.2.2.2.1 k0_h49
theorem k0_off380_inb : ∀ (v34 : BitVec 32) (k0_hw2 : k0_chk2 v34) (k0_t50 : Fin (k0_t50_loop v34).trips), ∀ (k0_h49 : k0_cond49 v34 = 1#1), ∀ a, (k0_off380 v34 k0_t50) a + S1x16.size a ≤ S128x128.size a := fun v34 k0_hw2 k0_t50 k0_h49 => k0_hw2.2.2.2.2.2.2.2.2.2.2.2.2.2.1.2.2.2.2.2.2.2.2.1 k0_t50 k0_h49
theorem k0_off381_inb : ∀ (v34 : BitVec 32) (k0_hw2 : k0_chk2 v34) (k0_t50 : Fin (k0_t50_loop v34).trips), ∀ (k0_h49 : k0_cond49 v34 = 1#1), ∀ a, (k0_off381 v34 k0_t50) a + S1x16.size a ≤ S128x128.size a := fun v34 k0_hw2 k0_t50 k0_h49 => k0_hw2.2.2.2.2.2.2.2.2.2.2.2.2.2.1.2.2.2.2.2.2.2.2.2.1 k0_t50 k0_h49
theorem k0_off382_inb : ∀ (v34 : BitVec 32) (k0_hw2 : k0_chk2 v34) (k0_t50 : Fin (k0_t50_loop v34).trips), ∀ (k0_h49 : k0_cond49 v34 = 1#1), ∀ a, (k0_off382 v34 k0_t50) a + S1x16.size a ≤ S128x128.size a := fun v34 k0_hw2 k0_t50 k0_h49 => k0_hw2.2.2.2.2.2.2.2.2.2.2.2.2.2.1.2.2.2.2.2.2.2.2.2.2.1 k0_t50 k0_h49
theorem k0_off383_inb : ∀ (v34 : BitVec 32) (k0_hw2 : k0_chk2 v34) (k0_t50 : Fin (k0_t50_loop v34).trips), ∀ (k0_h49 : k0_cond49 v34 = 1#1), ∀ a, (k0_off383 v34 k0_t50) a + S1x16.size a ≤ S128x128.size a := fun v34 k0_hw2 k0_t50 k0_h49 => k0_hw2.2.2.2.2.2.2.2.2.2.2.2.2.2.1.2.2.2.2.2.2.2.2.2.2.2.1 k0_t50 k0_h49
theorem k0_off384_inb : ∀ (v34 : BitVec 32) (k0_hw2 : k0_chk2 v34) (k0_t50 : Fin (k0_t50_loop v34).trips), ∀ (k0_h49 : k0_cond49 v34 = 1#1), ∀ a, (k0_off384 v34 k0_t50) a + S1x16.size a ≤ S128x128.size a := fun v34 k0_hw2 k0_t50 k0_h49 => k0_hw2.2.2.2.2.2.2.2.2.2.2.2.2.2.1.2.2.2.2.2.2.2.2.2.2.2.2.1 k0_t50 k0_h49
theorem k0_off385_inb : ∀ (v34 : BitVec 32) (k0_hw2 : k0_chk2 v34) (k0_t50 : Fin (k0_t50_loop v34).trips), ∀ (k0_h49 : k0_cond49 v34 = 1#1), ∀ a, (k0_off385 v34 k0_t50) a + S1x16.size a ≤ S128x128.size a := fun v34 k0_hw2 k0_t50 k0_h49 => k0_hw2.2.2.2.2.2.2.2.2.2.2.2.2.2.1.2.2.2.2.2.2.2.2.2.2.2.2.2.1 k0_t50 k0_h49
theorem k0_off386_inb : ∀ (v34 : BitVec 32) (k0_hw2 : k0_chk2 v34) (k0_t50 : Fin (k0_t50_loop v34).trips), ∀ (k0_h49 : k0_cond49 v34 = 1#1), ∀ a, (k0_off386 v34 k0_t50) a + S1x16.size a ≤ S128x128.size a := fun v34 k0_hw2 k0_t50 k0_h49 => k0_hw2.2.2.2.2.2.2.2.2.2.2.2.2.2.1.2.2.2.2.2.2.2.2.2.2.2.2.2.2.1 k0_t50 k0_h49
theorem k0_off387_inb : ∀ (v34 : BitVec 32) (k0_hw2 : k0_chk2 v34) (k0_t50 : Fin (k0_t50_loop v34).trips), ∀ (k0_h49 : k0_cond49 v34 = 1#1), ∀ a, (k0_off387 v34 k0_t50) a + S1x16.size a ≤ S128x128.size a := fun v34 k0_hw2 k0_t50 k0_h49 => k0_hw2.2.2.2.2.2.2.2.2.2.2.2.2.2.1.2.2.2.2.2.2.2.2.2.2.2.2.2.2.2.1 k0_t50 k0_h49
theorem k0_t51_ok : ∀ (v34 : BitVec 32) (k0_hw2 : k0_chk2 v34), ∀ (k0_h51 : k0_cond51 v34 = 1#1), (k0_t51_loop v34).OK := fun v34 k0_hw2 k0_h51 => k0_hw2.2.2.2.2.2.2.2.2.2.2.2.2.2.1.2.2.2.2.2.2.2.2.2.2.2.2.2.2.2.2.1 k0_h51
theorem k0_off388_inb : ∀ (v34 : BitVec 32) (k0_hw2 : k0_chk2 v34) (k0_t51 : Fin (k0_t51_loop v34).trips), ∀ (k0_h51 : k0_cond51 v34 = 1#1), ∀ a, (k0_off388 v34 k0_t51) a + S1x16.size a ≤ S128x128.size a := fun v34 k0_hw2 k0_t51 k0_h51 => k0_hw2.2.2.2.2.2.2.2.2.2.2.2.2.2.1.2.2.2.2.2.2.2.2.2.2.2.2.2.2.2.2.2.1 k0_t51 k0_h51
theorem k0_off389_inb : ∀ (v34 : BitVec 32) (k0_hw2 : k0_chk2 v34) (k0_t51 : Fin (k0_t51_loop v34).trips), ∀ (k0_h51 : k0_cond51 v34 = 1#1), ∀ a, (k0_off389 v34 k0_t51) a + S1x16.size a ≤ S128x128.size a := fun v34 k0_hw2 k0_t51 k0_h51 => k0_hw2.2.2.2.2.2.2.2.2.2.2.2.2.2.1.2.2.2.2.2.2.2.2.2.2.2.2.2.2.2.2.2.2.1 k0_t51 k0_h51
theorem k0_off390_inb : ∀ (v34 : BitVec 32) (k0_hw2 : k0_chk2 v34) (k0_t51 : Fin (k0_t51_loop v34).trips), ∀ (k0_h51 : k0_cond51 v34 = 1#1), ∀ a, (k0_off390 v34 k0_t51) a + S1x16.size a ≤ S128x128.size a := fun v34 k0_hw2 k0_t51 k0_h51 => k0_hw2.2.2.2.2.2.2.2.2.2.2.2.2.2.1.2.2.2.2.2.2.2.2.2.2.2.2.2.2.2.2.2.2.2.1 k0_t51 k0_h51
theorem k0_off391_inb : ∀ (v34 : BitVec 32) (k0_hw2 : k0_chk2 v34) (k0_t51 : Fin (k0_t51_loop v34).trips), ∀ (k0_h51 : k0_cond51 v34 = 1#1), ∀ a, (k0_off391 v34 k0_t51) a + S1x16.size a ≤ S128x128.size a := fun v34 k0_hw2 k0_t51 k0_h51 => k0_hw2.2.2.2.2.2.2.2.2.2.2.2.2.2.1.2.2.2.2.2.2.2.2.2.2.2.2.2.2.2.2.2.2.2.2.1 k0_t51 k0_h51
theorem k0_off392_inb : ∀ (v34 : BitVec 32) (k0_hw2 : k0_chk2 v34) (k0_t51 : Fin (k0_t51_loop v34).trips), ∀ (k0_h51 : k0_cond51 v34 = 1#1), ∀ a, (k0_off392 v34 k0_t51) a + S1x16.size a ≤ S128x128.size a := fun v34 k0_hw2 k0_t51 k0_h51 => k0_hw2.2.2.2.2.2.2.2.2.2.2.2.2.2.1.2.2.2.2.2.2.2.2.2.2.2.2.2.2.2.2.2.2.2.2.2.1 k0_t51 k0_h51
theorem k0_off393_inb : ∀ (v34 : BitVec 32) (k0_hw2 : k0_chk2 v34) (k0_t51 : Fin (k0_t51_loop v34).trips), ∀ (k0_h51 : k0_cond51 v34 = 1#1), ∀ a, (k0_off393 v34 k0_t51) a + S1x16.size a ≤ S128x128.size a := fun v34 k0_hw2 k0_t51 k0_h51 => k0_hw2.2.2.2.2.2.2.2.2.2.2.2.2.2.1.2.2.2.2.2.2.2.2.2.2.2.2.2.2.2.2.2.2.2.2.2.2.1 k0_t51 k0_h51
theorem k0_off394_inb : ∀ (v34 : BitVec 32) (k0_hw2 : k0_chk2 v34) (k0_t51 : Fin (k0_t51_loop v34).trips), ∀ (k0_h51 : k0_cond51 v34 = 1#1), ∀ a, (k0_off394 v34 k0_t51) a + S1x16.size a ≤ S128x128.size a := fun v34 k0_hw2 k0_t51 k0_h51 => k0_hw2.2.2.2.2.2.2.2.2.2.2.2.2.2.1.2.2.2.2.2.2.2.2.2.2.2.2.2.2.2.2.2.2.2.2.2.2.2.1 k0_t51 k0_h51
theorem k0_off395_inb : ∀ (v34 : BitVec 32) (k0_hw2 : k0_chk2 v34) (k0_t51 : Fin (k0_t51_loop v34).trips), ∀ (k0_h51 : k0_cond51 v34 = 1#1), ∀ a, (k0_off395 v34 k0_t51) a + S1x16.size a ≤ S128x128.size a := fun v34 k0_hw2 k0_t51 k0_h51 => k0_hw2.2.2.2.2.2.2.2.2.2.2.2.2.2.1.2.2.2.2.2.2.2.2.2.2.2.2.2.2.2.2.2.2.2.2.2.2.2.2.1 k0_t51 k0_h51
theorem k0_t52_ok : ∀ (v34 : BitVec 32) (k0_hw2 : k0_chk2 v34), ∀ (k0_h51 : k0_cond51 v34 = 1#1), (k0_t52_loop v34).OK := fun v34 k0_hw2 k0_h51 => k0_hw2.2.2.2.2.2.2.2.2.2.2.2.2.2.1.2.2.2.2.2.2.2.2.2.2.2.2.2.2.2.2.2.2.2.2.2.2.2.2.2.1 k0_h51
theorem k0_off396_inb : ∀ (v34 : BitVec 32) (k0_hw2 : k0_chk2 v34) (k0_t52 : Fin (k0_t52_loop v34).trips), ∀ (k0_h51 : k0_cond51 v34 = 1#1), ∀ a, (k0_off396 v34 k0_t52) a + S1x16.size a ≤ S128x128.size a := fun v34 k0_hw2 k0_t52 k0_h51 => k0_hw2.2.2.2.2.2.2.2.2.2.2.2.2.2.1.2.2.2.2.2.2.2.2.2.2.2.2.2.2.2.2.2.2.2.2.2.2.2.2.2.2.1 k0_t52 k0_h51
theorem k0_off397_inb : ∀ (v34 : BitVec 32) (k0_hw2 : k0_chk2 v34) (k0_t52 : Fin (k0_t52_loop v34).trips), ∀ (k0_h51 : k0_cond51 v34 = 1#1), ∀ a, (k0_off397 v34 k0_t52) a + S1x16.size a ≤ S128x128.size a := fun v34 k0_hw2 k0_t52 k0_h51 => k0_hw2.2.2.2.2.2.2.2.2.2.2.2.2.2.1.2.2.2.2.2.2.2.2.2.2.2.2.2.2.2.2.2.2.2.2.2.2.2.2.2.2.2.1 k0_t52 k0_h51
theorem k0_off398_inb : ∀ (v34 : BitVec 32) (k0_hw2 : k0_chk2 v34) (k0_t52 : Fin (k0_t52_loop v34).trips), ∀ (k0_h51 : k0_cond51 v34 = 1#1), ∀ a, (k0_off398 v34 k0_t52) a + S1x16.size a ≤ S128x128.size a := fun v34 k0_hw2 k0_t52 k0_h51 => k0_hw2.2.2.2.2.2.2.2.2.2.2.2.2.2.1.2.2.2.2.2.2.2.2.2.2.2.2.2.2.2.2.2.2.2.2.2.2.2.2.2.2.2.2.1 k0_t52 k0_h51
theorem k0_off399_inb : ∀ (v34 : BitVec 32) (k0_hw2 : k0_chk2 v34) (k0_t52 : Fin (k0_t52_loop v34).trips), ∀ (k0_h51 : k0_cond51 v34 = 1#1), ∀ a, (k0_off399 v34 k0_t52) a + S1x16.size a ≤ S128x128.size a := fun v34 k0_hw2 k0_t52 k0_h51 => k0_hw2.2.2.2.2.2.2.2.2.2.2.2.2.2.1.2.2.2.2.2.2.2.2.2.2.2.2.2.2.2.2.2.2.2.2.2.2.2.2.2.2.2.2.2.1 k0_t52 k0_h51
theorem k0_off400_inb : ∀ (v34 : BitVec 32) (k0_hw2 : k0_chk2 v34) (k0_t52 : Fin (k0_t52_loop v34).trips), ∀ (k0_h51 : k0_cond51 v34 = 1#1), ∀ a, (k0_off400 v34 k0_t52) a + S1x16.size a ≤ S128x128.size a := fun v34 k0_hw2 k0_t52 k0_h51 => k0_hw2.2.2.2.2.2.2.2.2.2.2.2.2.2.1.2.2.2.2.2.2.2.2.2.2.2.2.2.2.2.2.2.2.2.2.2.2.2.2.2.2.2.2.2.2.1 k0_t52 k0_h51
theorem k0_off401_inb : ∀ (v34 : BitVec 32) (k0_hw2 : k0_chk2 v34) (k0_t52 : Fin (k0_t52_loop v34).trips), ∀ (k0_h51 : k0_cond51 v34 = 1#1), ∀ a, (k0_off401 v34 k0_t52) a + S1x16.size a ≤ S128x128.size a := fun v34 k0_hw2 k0_t52 k0_h51 => k0_hw2.2.2.2.2.2.2.2.2.2.2.2.2.2.1.2.2.2.2.2.2.2.2.2.2.2.2.2.2.2.2.2.2.2.2.2.2.2.2.2.2.2.2.2.2.2 k0_t52 k0_h51
theorem k0_off402_inb : ∀ (v34 : BitVec 32) (k0_hw2 : k0_chk2 v34) (k0_t52 : Fin (k0_t52_loop v34).trips), ∀ (k0_h51 : k0_cond51 v34 = 1#1), ∀ a, (k0_off402 v34 k0_t52) a + S1x16.size a ≤ S128x128.size a := fun v34 k0_hw2 k0_t52 k0_h51 => k0_hw2.2.2.2.2.2.2.2.2.2.2.2.2.2.2.1.1 k0_t52 k0_h51
theorem k0_off403_inb : ∀ (v34 : BitVec 32) (k0_hw2 : k0_chk2 v34) (k0_t52 : Fin (k0_t52_loop v34).trips), ∀ (k0_h51 : k0_cond51 v34 = 1#1), ∀ a, (k0_off403 v34 k0_t52) a + S1x16.size a ≤ S128x128.size a := fun v34 k0_hw2 k0_t52 k0_h51 => k0_hw2.2.2.2.2.2.2.2.2.2.2.2.2.2.2.1.2.1 k0_t52 k0_h51
theorem k0_t53_ok : ∀ (v34 : BitVec 32) (k0_hw2 : k0_chk2 v34), ∀ (k0_h53 : k0_cond53 v34 = 1#1), (k0_t53_loop v34).OK := fun v34 k0_hw2 k0_h53 => k0_hw2.2.2.2.2.2.2.2.2.2.2.2.2.2.2.1.2.2.1 k0_h53
theorem k0_off404_inb : ∀ (v34 : BitVec 32) (k0_hw2 : k0_chk2 v34) (k0_t53 : Fin (k0_t53_loop v34).trips), ∀ (k0_h53 : k0_cond53 v34 = 1#1), ∀ a, (k0_off404 v34 k0_t53) a + S1x16.size a ≤ S128x128.size a := fun v34 k0_hw2 k0_t53 k0_h53 => k0_hw2.2.2.2.2.2.2.2.2.2.2.2.2.2.2.1.2.2.2.1 k0_t53 k0_h53
theorem k0_off405_inb : ∀ (v34 : BitVec 32) (k0_hw2 : k0_chk2 v34) (k0_t53 : Fin (k0_t53_loop v34).trips), ∀ (k0_h53 : k0_cond53 v34 = 1#1), ∀ a, (k0_off405 v34 k0_t53) a + S1x16.size a ≤ S128x128.size a := fun v34 k0_hw2 k0_t53 k0_h53 => k0_hw2.2.2.2.2.2.2.2.2.2.2.2.2.2.2.1.2.2.2.2.1 k0_t53 k0_h53
theorem k0_off406_inb : ∀ (v34 : BitVec 32) (k0_hw2 : k0_chk2 v34) (k0_t53 : Fin (k0_t53_loop v34).trips), ∀ (k0_h53 : k0_cond53 v34 = 1#1), ∀ a, (k0_off406 v34 k0_t53) a + S1x16.size a ≤ S128x128.size a := fun v34 k0_hw2 k0_t53 k0_h53 => k0_hw2.2.2.2.2.2.2.2.2.2.2.2.2.2.2.1.2.2.2.2.2.1 k0_t53 k0_h53
theorem k0_off407_inb : ∀ (v34 : BitVec 32) (k0_hw2 : k0_chk2 v34) (k0_t53 : Fin (k0_t53_loop v34).trips), ∀ (k0_h53 : k0_cond53 v34 = 1#1), ∀ a, (k0_off407 v34 k0_t53) a + S1x16.size a ≤ S128x128.size a := fun v34 k0_hw2 k0_t53 k0_h53 => k0_hw2.2.2.2.2.2.2.2.2.2.2.2.2.2.2.1.2.2.2.2.2.2.1 k0_t53 k0_h53
theorem k0_off408_inb : ∀ (v34 : BitVec 32) (k0_hw2 : k0_chk2 v34) (k0_t53 : Fin (k0_t53_loop v34).trips), ∀ (k0_h53 : k0_cond53 v34 = 1#1), ∀ a, (k0_off408 v34 k0_t53) a + S1x16.size a ≤ S128x128.size a := fun v34 k0_hw2 k0_t53 k0_h53 => k0_hw2.2.2.2.2.2.2.2.2.2.2.2.2.2.2.1.2.2.2.2.2.2.2.1 k0_t53 k0_h53
theorem k0_off409_inb : ∀ (v34 : BitVec 32) (k0_hw2 : k0_chk2 v34) (k0_t53 : Fin (k0_t53_loop v34).trips), ∀ (k0_h53 : k0_cond53 v34 = 1#1), ∀ a, (k0_off409 v34 k0_t53) a + S1x16.size a ≤ S128x128.size a := fun v34 k0_hw2 k0_t53 k0_h53 => k0_hw2.2.2.2.2.2.2.2.2.2.2.2.2.2.2.1.2.2.2.2.2.2.2.2.1 k0_t53 k0_h53
theorem k0_off410_inb : ∀ (v34 : BitVec 32) (k0_hw2 : k0_chk2 v34) (k0_t53 : Fin (k0_t53_loop v34).trips), ∀ (k0_h53 : k0_cond53 v34 = 1#1), ∀ a, (k0_off410 v34 k0_t53) a + S1x16.size a ≤ S128x128.size a := fun v34 k0_hw2 k0_t53 k0_h53 => k0_hw2.2.2.2.2.2.2.2.2.2.2.2.2.2.2.1.2.2.2.2.2.2.2.2.2.1 k0_t53 k0_h53
theorem k0_off411_inb : ∀ (v34 : BitVec 32) (k0_hw2 : k0_chk2 v34) (k0_t53 : Fin (k0_t53_loop v34).trips), ∀ (k0_h53 : k0_cond53 v34 = 1#1), ∀ a, (k0_off411 v34 k0_t53) a + S1x16.size a ≤ S128x128.size a := fun v34 k0_hw2 k0_t53 k0_h53 => k0_hw2.2.2.2.2.2.2.2.2.2.2.2.2.2.2.1.2.2.2.2.2.2.2.2.2.2.1 k0_t53 k0_h53
theorem k0_t54_ok : ∀ (v34 : BitVec 32) (k0_hw2 : k0_chk2 v34), ∀ (k0_h53 : k0_cond53 v34 = 1#1), (k0_t54_loop v34).OK := fun v34 k0_hw2 k0_h53 => k0_hw2.2.2.2.2.2.2.2.2.2.2.2.2.2.2.1.2.2.2.2.2.2.2.2.2.2.2.1 k0_h53
theorem k0_off412_inb : ∀ (v34 : BitVec 32) (k0_hw2 : k0_chk2 v34) (k0_t54 : Fin (k0_t54_loop v34).trips), ∀ (k0_h53 : k0_cond53 v34 = 1#1), ∀ a, (k0_off412 v34 k0_t54) a + S1x16.size a ≤ S128x128.size a := fun v34 k0_hw2 k0_t54 k0_h53 => k0_hw2.2.2.2.2.2.2.2.2.2.2.2.2.2.2.1.2.2.2.2.2.2.2.2.2.2.2.2.1 k0_t54 k0_h53
theorem k0_off413_inb : ∀ (v34 : BitVec 32) (k0_hw2 : k0_chk2 v34) (k0_t54 : Fin (k0_t54_loop v34).trips), ∀ (k0_h53 : k0_cond53 v34 = 1#1), ∀ a, (k0_off413 v34 k0_t54) a + S1x16.size a ≤ S128x128.size a := fun v34 k0_hw2 k0_t54 k0_h53 => k0_hw2.2.2.2.2.2.2.2.2.2.2.2.2.2.2.1.2.2.2.2.2.2.2.2.2.2.2.2.2.1 k0_t54 k0_h53
theorem k0_off414_inb : ∀ (v34 : BitVec 32) (k0_hw2 : k0_chk2 v34) (k0_t54 : Fin (k0_t54_loop v34).trips), ∀ (k0_h53 : k0_cond53 v34 = 1#1), ∀ a, (k0_off414 v34 k0_t54) a + S1x16.size a ≤ S128x128.size a := fun v34 k0_hw2 k0_t54 k0_h53 => k0_hw2.2.2.2.2.2.2.2.2.2.2.2.2.2.2.1.2.2.2.2.2.2.2.2.2.2.2.2.2.2.1 k0_t54 k0_h53
theorem k0_off415_inb : ∀ (v34 : BitVec 32) (k0_hw2 : k0_chk2 v34) (k0_t54 : Fin (k0_t54_loop v34).trips), ∀ (k0_h53 : k0_cond53 v34 = 1#1), ∀ a, (k0_off415 v34 k0_t54) a + S1x16.size a ≤ S128x128.size a := fun v34 k0_hw2 k0_t54 k0_h53 => k0_hw2.2.2.2.2.2.2.2.2.2.2.2.2.2.2.1.2.2.2.2.2.2.2.2.2.2.2.2.2.2.2.1 k0_t54 k0_h53
theorem k0_off416_inb : ∀ (v34 : BitVec 32) (k0_hw2 : k0_chk2 v34) (k0_t54 : Fin (k0_t54_loop v34).trips), ∀ (k0_h53 : k0_cond53 v34 = 1#1), ∀ a, (k0_off416 v34 k0_t54) a + S1x16.size a ≤ S128x128.size a := fun v34 k0_hw2 k0_t54 k0_h53 => k0_hw2.2.2.2.2.2.2.2.2.2.2.2.2.2.2.1.2.2.2.2.2.2.2.2.2.2.2.2.2.2.2.2.1 k0_t54 k0_h53
theorem k0_off417_inb : ∀ (v34 : BitVec 32) (k0_hw2 : k0_chk2 v34) (k0_t54 : Fin (k0_t54_loop v34).trips), ∀ (k0_h53 : k0_cond53 v34 = 1#1), ∀ a, (k0_off417 v34 k0_t54) a + S1x16.size a ≤ S128x128.size a := fun v34 k0_hw2 k0_t54 k0_h53 => k0_hw2.2.2.2.2.2.2.2.2.2.2.2.2.2.2.1.2.2.2.2.2.2.2.2.2.2.2.2.2.2.2.2.2.1 k0_t54 k0_h53
theorem k0_off418_inb : ∀ (v34 : BitVec 32) (k0_hw2 : k0_chk2 v34) (k0_t54 : Fin (k0_t54_loop v34).trips), ∀ (k0_h53 : k0_cond53 v34 = 1#1), ∀ a, (k0_off418 v34 k0_t54) a + S1x16.size a ≤ S128x128.size a := fun v34 k0_hw2 k0_t54 k0_h53 => k0_hw2.2.2.2.2.2.2.2.2.2.2.2.2.2.2.1.2.2.2.2.2.2.2.2.2.2.2.2.2.2.2.2.2.2.1 k0_t54 k0_h53
theorem k0_off419_inb : ∀ (v34 : BitVec 32) (k0_hw2 : k0_chk2 v34) (k0_t54 : Fin (k0_t54_loop v34).trips), ∀ (k0_h53 : k0_cond53 v34 = 1#1), ∀ a, (k0_off419 v34 k0_t54) a + S1x16.size a ≤ S128x128.size a := fun v34 k0_hw2 k0_t54 k0_h53 => k0_hw2.2.2.2.2.2.2.2.2.2.2.2.2.2.2.1.2.2.2.2.2.2.2.2.2.2.2.2.2.2.2.2.2.2.2.1 k0_t54 k0_h53
theorem k0_t55_ok : ∀ (v34 : BitVec 32) (k0_hw2 : k0_chk2 v34), ∀ (k0_h55 : k0_cond55 v34 = 1#1), (k0_t55_loop v34).OK := fun v34 k0_hw2 k0_h55 => k0_hw2.2.2.2.2.2.2.2.2.2.2.2.2.2.2.1.2.2.2.2.2.2.2.2.2.2.2.2.2.2.2.2.2.2.2.2.1 k0_h55
theorem k0_off420_inb : ∀ (v34 : BitVec 32) (k0_hw2 : k0_chk2 v34) (k0_t55 : Fin (k0_t55_loop v34).trips), ∀ (k0_h55 : k0_cond55 v34 = 1#1), ∀ a, (k0_off420 v34 k0_t55) a + S1x16.size a ≤ S128x128.size a := fun v34 k0_hw2 k0_t55 k0_h55 => k0_hw2.2.2.2.2.2.2.2.2.2.2.2.2.2.2.1.2.2.2.2.2.2.2.2.2.2.2.2.2.2.2.2.2.2.2.2.2.1 k0_t55 k0_h55
theorem k0_off421_inb : ∀ (v34 : BitVec 32) (k0_hw2 : k0_chk2 v34) (k0_t55 : Fin (k0_t55_loop v34).trips), ∀ (k0_h55 : k0_cond55 v34 = 1#1), ∀ a, (k0_off421 v34 k0_t55) a + S1x16.size a ≤ S128x128.size a := fun v34 k0_hw2 k0_t55 k0_h55 => k0_hw2.2.2.2.2.2.2.2.2.2.2.2.2.2.2.1.2.2.2.2.2.2.2.2.2.2.2.2.2.2.2.2.2.2.2.2.2.2.1 k0_t55 k0_h55
theorem k0_off422_inb : ∀ (v34 : BitVec 32) (k0_hw2 : k0_chk2 v34) (k0_t55 : Fin (k0_t55_loop v34).trips), ∀ (k0_h55 : k0_cond55 v34 = 1#1), ∀ a, (k0_off422 v34 k0_t55) a + S1x16.size a ≤ S128x128.size a := fun v34 k0_hw2 k0_t55 k0_h55 => k0_hw2.2.2.2.2.2.2.2.2.2.2.2.2.2.2.1.2.2.2.2.2.2.2.2.2.2.2.2.2.2.2.2.2.2.2.2.2.2.2.1 k0_t55 k0_h55
theorem k0_off423_inb : ∀ (v34 : BitVec 32) (k0_hw2 : k0_chk2 v34) (k0_t55 : Fin (k0_t55_loop v34).trips), ∀ (k0_h55 : k0_cond55 v34 = 1#1), ∀ a, (k0_off423 v34 k0_t55) a + S1x16.size a ≤ S128x128.size a := fun v34 k0_hw2 k0_t55 k0_h55 => k0_hw2.2.2.2.2.2.2.2.2.2.2.2.2.2.2.1.2.2.2.2.2.2.2.2.2.2.2.2.2.2.2.2.2.2.2.2.2.2.2.2.1 k0_t55 k0_h55
theorem k0_off424_inb : ∀ (v34 : BitVec 32) (k0_hw2 : k0_chk2 v34) (k0_t55 : Fin (k0_t55_loop v34).trips), ∀ (k0_h55 : k0_cond55 v34 = 1#1), ∀ a, (k0_off424 v34 k0_t55) a + S1x16.size a ≤ S128x128.size a := fun v34 k0_hw2 k0_t55 k0_h55 => k0_hw2.2.2.2.2.2.2.2.2.2.2.2.2.2.2.1.2.2.2.2.2.2.2.2.2.2.2.2.2.2.2.2.2.2.2.2.2.2.2.2.2.1 k0_t55 k0_h55
theorem k0_off425_inb : ∀ (v34 : BitVec 32) (k0_hw2 : k0_chk2 v34) (k0_t55 : Fin (k0_t55_loop v34).trips), ∀ (k0_h55 : k0_cond55 v34 = 1#1), ∀ a, (k0_off425 v34 k0_t55) a + S1x16.size a ≤ S128x128.size a := fun v34 k0_hw2 k0_t55 k0_h55 => k0_hw2.2.2.2.2.2.2.2.2.2.2.2.2.2.2.1.2.2.2.2.2.2.2.2.2.2.2.2.2.2.2.2.2.2.2.2.2.2.2.2.2.2.1 k0_t55 k0_h55
theorem k0_off426_inb : ∀ (v34 : BitVec 32) (k0_hw2 : k0_chk2 v34) (k0_t55 : Fin (k0_t55_loop v34).trips), ∀ (k0_h55 : k0_cond55 v34 = 1#1), ∀ a, (k0_off426 v34 k0_t55) a + S1x16.size a ≤ S128x128.size a := fun v34 k0_hw2 k0_t55 k0_h55 => k0_hw2.2.2.2.2.2.2.2.2.2.2.2.2.2.2.1.2.2.2.2.2.2.2.2.2.2.2.2.2.2.2.2.2.2.2.2.2.2.2.2.2.2.2.1 k0_t55 k0_h55
theorem k0_off427_inb : ∀ (v34 : BitVec 32) (k0_hw2 : k0_chk2 v34) (k0_t55 : Fin (k0_t55_loop v34).trips), ∀ (k0_h55 : k0_cond55 v34 = 1#1), ∀ a, (k0_off427 v34 k0_t55) a + S1x16.size a ≤ S128x128.size a := fun v34 k0_hw2 k0_t55 k0_h55 => k0_hw2.2.2.2.2.2.2.2.2.2.2.2.2.2.2.1.2.2.2.2.2.2.2.2.2.2.2.2.2.2.2.2.2.2.2.2.2.2.2.2.2.2.2.2.1 k0_t55 k0_h55
theorem k0_t56_ok : ∀ (v34 : BitVec 32) (k0_hw2 : k0_chk2 v34), ∀ (k0_h55 : k0_cond55 v34 = 1#1), (k0_t56_loop v34).OK := fun v34 k0_hw2 k0_h55 => k0_hw2.2.2.2.2.2.2.2.2.2.2.2.2.2.2.1.2.2.2.2.2.2.2.2.2.2.2.2.2.2.2.2.2.2.2.2.2.2.2.2.2.2.2.2.2.1 k0_h55
theorem k0_off428_inb : ∀ (v34 : BitVec 32) (k0_hw2 : k0_chk2 v34) (k0_t56 : Fin (k0_t56_loop v34).trips), ∀ (k0_h55 : k0_cond55 v34 = 1#1), ∀ a, (k0_off428 v34 k0_t56) a + S1x16.size a ≤ S128x128.size a := fun v34 k0_hw2 k0_t56 k0_h55 => k0_hw2.2.2.2.2.2.2.2.2.2.2.2.2.2.2.1.2.2.2.2.2.2.2.2.2.2.2.2.2.2.2.2.2.2.2.2.2.2.2.2.2.2.2.2.2.2.1 k0_t56 k0_h55
theorem k0_off429_inb : ∀ (v34 : BitVec 32) (k0_hw2 : k0_chk2 v34) (k0_t56 : Fin (k0_t56_loop v34).trips), ∀ (k0_h55 : k0_cond55 v34 = 1#1), ∀ a, (k0_off429 v34 k0_t56) a + S1x16.size a ≤ S128x128.size a := fun v34 k0_hw2 k0_t56 k0_h55 => k0_hw2.2.2.2.2.2.2.2.2.2.2.2.2.2.2.1.2.2.2.2.2.2.2.2.2.2.2.2.2.2.2.2.2.2.2.2.2.2.2.2.2.2.2.2.2.2.2 k0_t56 k0_h55
theorem k0_off430_inb : ∀ (v34 : BitVec 32) (k0_hw2 : k0_chk2 v34) (k0_t56 : Fin (k0_t56_loop v34).trips), ∀ (k0_h55 : k0_cond55 v34 = 1#1), ∀ a, (k0_off430 v34 k0_t56) a + S1x16.size a ≤ S128x128.size a := fun v34 k0_hw2 k0_t56 k0_h55 => k0_hw2.2.2.2.2.2.2.2.2.2.2.2.2.2.2.2.1.1 k0_t56 k0_h55
theorem k0_off431_inb : ∀ (v34 : BitVec 32) (k0_hw2 : k0_chk2 v34) (k0_t56 : Fin (k0_t56_loop v34).trips), ∀ (k0_h55 : k0_cond55 v34 = 1#1), ∀ a, (k0_off431 v34 k0_t56) a + S1x16.size a ≤ S128x128.size a := fun v34 k0_hw2 k0_t56 k0_h55 => k0_hw2.2.2.2.2.2.2.2.2.2.2.2.2.2.2.2.1.2.1 k0_t56 k0_h55
theorem k0_off432_inb : ∀ (v34 : BitVec 32) (k0_hw2 : k0_chk2 v34) (k0_t56 : Fin (k0_t56_loop v34).trips), ∀ (k0_h55 : k0_cond55 v34 = 1#1), ∀ a, (k0_off432 v34 k0_t56) a + S1x16.size a ≤ S128x128.size a := fun v34 k0_hw2 k0_t56 k0_h55 => k0_hw2.2.2.2.2.2.2.2.2.2.2.2.2.2.2.2.1.2.2.1 k0_t56 k0_h55
theorem k0_off433_inb : ∀ (v34 : BitVec 32) (k0_hw2 : k0_chk2 v34) (k0_t56 : Fin (k0_t56_loop v34).trips), ∀ (k0_h55 : k0_cond55 v34 = 1#1), ∀ a, (k0_off433 v34 k0_t56) a + S1x16.size a ≤ S128x128.size a := fun v34 k0_hw2 k0_t56 k0_h55 => k0_hw2.2.2.2.2.2.2.2.2.2.2.2.2.2.2.2.1.2.2.2.1 k0_t56 k0_h55
theorem k0_off434_inb : ∀ (v34 : BitVec 32) (k0_hw2 : k0_chk2 v34) (k0_t56 : Fin (k0_t56_loop v34).trips), ∀ (k0_h55 : k0_cond55 v34 = 1#1), ∀ a, (k0_off434 v34 k0_t56) a + S1x16.size a ≤ S128x128.size a := fun v34 k0_hw2 k0_t56 k0_h55 => k0_hw2.2.2.2.2.2.2.2.2.2.2.2.2.2.2.2.1.2.2.2.2.1 k0_t56 k0_h55
theorem k0_off435_inb : ∀ (v34 : BitVec 32) (k0_hw2 : k0_chk2 v34) (k0_t56 : Fin (k0_t56_loop v34).trips), ∀ (k0_h55 : k0_cond55 v34 = 1#1), ∀ a, (k0_off435 v34 k0_t56) a + S1x16.size a ≤ S128x128.size a := fun v34 k0_hw2 k0_t56 k0_h55 => k0_hw2.2.2.2.2.2.2.2.2.2.2.2.2.2.2.2.1.2.2.2.2.2.1 k0_t56 k0_h55
theorem k0_t57_ok : ∀ (v34 : BitVec 32) (k0_hw2 : k0_chk2 v34), ∀ (k0_h57 : k0_cond57 v34 = 1#1), (k0_t57_loop v34).OK := fun v34 k0_hw2 k0_h57 => k0_hw2.2.2.2.2.2.2.2.2.2.2.2.2.2.2.2.1.2.2.2.2.2.2.1 k0_h57
theorem k0_off436_inb : ∀ (v34 : BitVec 32) (k0_hw2 : k0_chk2 v34) (k0_t57 : Fin (k0_t57_loop v34).trips), ∀ (k0_h57 : k0_cond57 v34 = 1#1), ∀ a, (k0_off436 v34 k0_t57) a + S1x16.size a ≤ S128x128.size a := fun v34 k0_hw2 k0_t57 k0_h57 => k0_hw2.2.2.2.2.2.2.2.2.2.2.2.2.2.2.2.1.2.2.2.2.2.2.2.1 k0_t57 k0_h57
theorem k0_off437_inb : ∀ (v34 : BitVec 32) (k0_hw2 : k0_chk2 v34) (k0_t57 : Fin (k0_t57_loop v34).trips), ∀ (k0_h57 : k0_cond57 v34 = 1#1), ∀ a, (k0_off437 v34 k0_t57) a + S1x16.size a ≤ S128x128.size a := fun v34 k0_hw2 k0_t57 k0_h57 => k0_hw2.2.2.2.2.2.2.2.2.2.2.2.2.2.2.2.1.2.2.2.2.2.2.2.2.1 k0_t57 k0_h57
theorem k0_off438_inb : ∀ (v34 : BitVec 32) (k0_hw2 : k0_chk2 v34) (k0_t57 : Fin (k0_t57_loop v34).trips), ∀ (k0_h57 : k0_cond57 v34 = 1#1), ∀ a, (k0_off438 v34 k0_t57) a + S1x16.size a ≤ S128x128.size a := fun v34 k0_hw2 k0_t57 k0_h57 => k0_hw2.2.2.2.2.2.2.2.2.2.2.2.2.2.2.2.1.2.2.2.2.2.2.2.2.2.1 k0_t57 k0_h57
theorem k0_off439_inb : ∀ (v34 : BitVec 32) (k0_hw2 : k0_chk2 v34) (k0_t57 : Fin (k0_t57_loop v34).trips), ∀ (k0_h57 : k0_cond57 v34 = 1#1), ∀ a, (k0_off439 v34 k0_t57) a + S1x16.size a ≤ S128x128.size a := fun v34 k0_hw2 k0_t57 k0_h57 => k0_hw2.2.2.2.2.2.2.2.2.2.2.2.2.2.2.2.1.2.2.2.2.2.2.2.2.2.2.1 k0_t57 k0_h57
theorem k0_off440_inb : ∀ (v34 : BitVec 32) (k0_hw2 : k0_chk2 v34) (k0_t57 : Fin (k0_t57_loop v34).trips), ∀ (k0_h57 : k0_cond57 v34 = 1#1), ∀ a, (k0_off440 v34 k0_t57) a + S1x16.size a ≤ S128x128.size a := fun v34 k0_hw2 k0_t57 k0_h57 => k0_hw2.2.2.2.2.2.2.2.2.2.2.2.2.2.2.2.1.2.2.2.2.2.2.2.2.2.2.2.1 k0_t57 k0_h57
theorem k0_off441_inb : ∀ (v34 : BitVec 32) (k0_hw2 : k0_chk2 v34) (k0_t57 : Fin (k0_t57_loop v34).trips), ∀ (k0_h57 : k0_cond57 v34 = 1#1), ∀ a, (k0_off441 v34 k0_t57) a + S1x16.size a ≤ S128x128.size a := fun v34 k0_hw2 k0_t57 k0_h57 => k0_hw2.2.2.2.2.2.2.2.2.2.2.2.2.2.2.2.1.2.2.2.2.2.2.2.2.2.2.2.2.1 k0_t57 k0_h57
theorem k0_off442_inb : ∀ (v34 : BitVec 32) (k0_hw2 : k0_chk2 v34) (k0_t57 : Fin (k0_t57_loop v34).trips), ∀ (k0_h57 : k0_cond57 v34 = 1#1), ∀ a, (k0_off442 v34 k0_t57) a + S1x16.size a ≤ S128x128.size a := fun v34 k0_hw2 k0_t57 k0_h57 => k0_hw2.2.2.2.2.2.2.2.2.2.2.2.2.2.2.2.1.2.2.2.2.2.2.2.2.2.2.2.2.2.1 k0_t57 k0_h57
theorem k0_off443_inb : ∀ (v34 : BitVec 32) (k0_hw2 : k0_chk2 v34) (k0_t57 : Fin (k0_t57_loop v34).trips), ∀ (k0_h57 : k0_cond57 v34 = 1#1), ∀ a, (k0_off443 v34 k0_t57) a + S1x16.size a ≤ S128x128.size a := fun v34 k0_hw2 k0_t57 k0_h57 => k0_hw2.2.2.2.2.2.2.2.2.2.2.2.2.2.2.2.1.2.2.2.2.2.2.2.2.2.2.2.2.2.2.1 k0_t57 k0_h57
theorem k0_t58_ok : ∀ (v34 : BitVec 32) (k0_hw2 : k0_chk2 v34), ∀ (k0_h57 : k0_cond57 v34 = 1#1), (k0_t58_loop v34).OK := fun v34 k0_hw2 k0_h57 => k0_hw2.2.2.2.2.2.2.2.2.2.2.2.2.2.2.2.1.2.2.2.2.2.2.2.2.2.2.2.2.2.2.2.1 k0_h57
theorem k0_off444_inb : ∀ (v34 : BitVec 32) (k0_hw2 : k0_chk2 v34) (k0_t58 : Fin (k0_t58_loop v34).trips), ∀ (k0_h57 : k0_cond57 v34 = 1#1), ∀ a, (k0_off444 v34 k0_t58) a + S1x16.size a ≤ S128x128.size a := fun v34 k0_hw2 k0_t58 k0_h57 => k0_hw2.2.2.2.2.2.2.2.2.2.2.2.2.2.2.2.1.2.2.2.2.2.2.2.2.2.2.2.2.2.2.2.2.1 k0_t58 k0_h57
theorem k0_off445_inb : ∀ (v34 : BitVec 32) (k0_hw2 : k0_chk2 v34) (k0_t58 : Fin (k0_t58_loop v34).trips), ∀ (k0_h57 : k0_cond57 v34 = 1#1), ∀ a, (k0_off445 v34 k0_t58) a + S1x16.size a ≤ S128x128.size a := fun v34 k0_hw2 k0_t58 k0_h57 => k0_hw2.2.2.2.2.2.2.2.2.2.2.2.2.2.2.2.1.2.2.2.2.2.2.2.2.2.2.2.2.2.2.2.2.2.1 k0_t58 k0_h57
theorem k0_off446_inb : ∀ (v34 : BitVec 32) (k0_hw2 : k0_chk2 v34) (k0_t58 : Fin (k0_t58_loop v34).trips), ∀ (k0_h57 : k0_cond57 v34 = 1#1), ∀ a, (k0_off446 v34 k0_t58) a + S1x16.size a ≤ S128x128.size a := fun v34 k0_hw2 k0_t58 k0_h57 => k0_hw2.2.2.2.2.2.2.2.2.2.2.2.2.2.2.2.1.2.2.2.2.2.2.2.2.2.2.2.2.2.2.2.2.2.2.1 k0_t58 k0_h57
theorem k0_off447_inb : ∀ (v34 : BitVec 32) (k0_hw2 : k0_chk2 v34) (k0_t58 : Fin (k0_t58_loop v34).trips), ∀ (k0_h57 : k0_cond57 v34 = 1#1), ∀ a, (k0_off447 v34 k0_t58) a + S1x16.size a ≤ S128x128.size a := fun v34 k0_hw2 k0_t58 k0_h57 => k0_hw2.2.2.2.2.2.2.2.2.2.2.2.2.2.2.2.1.2.2.2.2.2.2.2.2.2.2.2.2.2.2.2.2.2.2.2.1 k0_t58 k0_h57
theorem k0_off448_inb : ∀ (v34 : BitVec 32) (k0_hw2 : k0_chk2 v34) (k0_t58 : Fin (k0_t58_loop v34).trips), ∀ (k0_h57 : k0_cond57 v34 = 1#1), ∀ a, (k0_off448 v34 k0_t58) a + S1x16.size a ≤ S128x128.size a := fun v34 k0_hw2 k0_t58 k0_h57 => k0_hw2.2.2.2.2.2.2.2.2.2.2.2.2.2.2.2.1.2.2.2.2.2.2.2.2.2.2.2.2.2.2.2.2.2.2.2.2.1 k0_t58 k0_h57
theorem k0_off449_inb : ∀ (v34 : BitVec 32) (k0_hw2 : k0_chk2 v34) (k0_t58 : Fin (k0_t58_loop v34).trips), ∀ (k0_h57 : k0_cond57 v34 = 1#1), ∀ a, (k0_off449 v34 k0_t58) a + S1x16.size a ≤ S128x128.size a := fun v34 k0_hw2 k0_t58 k0_h57 => k0_hw2.2.2.2.2.2.2.2.2.2.2.2.2.2.2.2.1.2.2.2.2.2.2.2.2.2.2.2.2.2.2.2.2.2.2.2.2.2.1 k0_t58 k0_h57
theorem k0_off450_inb : ∀ (v34 : BitVec 32) (k0_hw2 : k0_chk2 v34) (k0_t58 : Fin (k0_t58_loop v34).trips), ∀ (k0_h57 : k0_cond57 v34 = 1#1), ∀ a, (k0_off450 v34 k0_t58) a + S1x16.size a ≤ S128x128.size a := fun v34 k0_hw2 k0_t58 k0_h57 => k0_hw2.2.2.2.2.2.2.2.2.2.2.2.2.2.2.2.1.2.2.2.2.2.2.2.2.2.2.2.2.2.2.2.2.2.2.2.2.2.2.1 k0_t58 k0_h57
theorem k0_off451_inb : ∀ (v34 : BitVec 32) (k0_hw2 : k0_chk2 v34) (k0_t58 : Fin (k0_t58_loop v34).trips), ∀ (k0_h57 : k0_cond57 v34 = 1#1), ∀ a, (k0_off451 v34 k0_t58) a + S1x16.size a ≤ S128x128.size a := fun v34 k0_hw2 k0_t58 k0_h57 => k0_hw2.2.2.2.2.2.2.2.2.2.2.2.2.2.2.2.1.2.2.2.2.2.2.2.2.2.2.2.2.2.2.2.2.2.2.2.2.2.2.2.1 k0_t58 k0_h57
theorem k0_t59_ok : ∀ (v34 : BitVec 32) (k0_hw2 : k0_chk2 v34), ∀ (k0_h59 : k0_cond59 v34 = 1#1), (k0_t59_loop v34).OK := fun v34 k0_hw2 k0_h59 => k0_hw2.2.2.2.2.2.2.2.2.2.2.2.2.2.2.2.1.2.2.2.2.2.2.2.2.2.2.2.2.2.2.2.2.2.2.2.2.2.2.2.2.1 k0_h59
theorem k0_off452_inb : ∀ (v34 : BitVec 32) (k0_hw2 : k0_chk2 v34) (k0_t59 : Fin (k0_t59_loop v34).trips), ∀ (k0_h59 : k0_cond59 v34 = 1#1), ∀ a, (k0_off452 v34 k0_t59) a + S1x16.size a ≤ S128x128.size a := fun v34 k0_hw2 k0_t59 k0_h59 => k0_hw2.2.2.2.2.2.2.2.2.2.2.2.2.2.2.2.1.2.2.2.2.2.2.2.2.2.2.2.2.2.2.2.2.2.2.2.2.2.2.2.2.2.1 k0_t59 k0_h59
theorem k0_off453_inb : ∀ (v34 : BitVec 32) (k0_hw2 : k0_chk2 v34) (k0_t59 : Fin (k0_t59_loop v34).trips), ∀ (k0_h59 : k0_cond59 v34 = 1#1), ∀ a, (k0_off453 v34 k0_t59) a + S1x16.size a ≤ S128x128.size a := fun v34 k0_hw2 k0_t59 k0_h59 => k0_hw2.2.2.2.2.2.2.2.2.2.2.2.2.2.2.2.1.2.2.2.2.2.2.2.2.2.2.2.2.2.2.2.2.2.2.2.2.2.2.2.2.2.2.1 k0_t59 k0_h59
theorem k0_off454_inb : ∀ (v34 : BitVec 32) (k0_hw2 : k0_chk2 v34) (k0_t59 : Fin (k0_t59_loop v34).trips), ∀ (k0_h59 : k0_cond59 v34 = 1#1), ∀ a, (k0_off454 v34 k0_t59) a + S1x16.size a ≤ S128x128.size a := fun v34 k0_hw2 k0_t59 k0_h59 => k0_hw2.2.2.2.2.2.2.2.2.2.2.2.2.2.2.2.1.2.2.2.2.2.2.2.2.2.2.2.2.2.2.2.2.2.2.2.2.2.2.2.2.2.2.2.1 k0_t59 k0_h59
theorem k0_off455_inb : ∀ (v34 : BitVec 32) (k0_hw2 : k0_chk2 v34) (k0_t59 : Fin (k0_t59_loop v34).trips), ∀ (k0_h59 : k0_cond59 v34 = 1#1), ∀ a, (k0_off455 v34 k0_t59) a + S1x16.size a ≤ S128x128.size a := fun v34 k0_hw2 k0_t59 k0_h59 => k0_hw2.2.2.2.2.2.2.2.2.2.2.2.2.2.2.2.1.2.2.2.2.2.2.2.2.2.2.2.2.2.2.2.2.2.2.2.2.2.2.2.2.2.2.2.2.1 k0_t59 k0_h59
theorem k0_off456_inb : ∀ (v34 : BitVec 32) (k0_hw2 : k0_chk2 v34) (k0_t59 : Fin (k0_t59_loop v34).trips), ∀ (k0_h59 : k0_cond59 v34 = 1#1), ∀ a, (k0_off456 v34 k0_t59) a + S1x16.size a ≤ S128x128.size a := fun v34 k0_hw2 k0_t59 k0_h59 => k0_hw2.2.2.2.2.2.2.2.2.2.2.2.2.2.2.2.1.2.2.2.2.2.2.2.2.2.2.2.2.2.2.2.2.2.2.2.2.2.2.2.2.2.2.2.2.2.1 k0_t59 k0_h59
theorem k0_off457_inb : ∀ (v34 : BitVec 32) (k0_hw2 : k0_chk2 v34) (k0_t59 : Fin (k0_t59_loop v34).trips), ∀ (k0_h59 : k0_cond59 v34 = 1#1), ∀ a, (k0_off457 v34 k0_t59) a + S1x16.size a ≤ S128x128.size a := fun v34 k0_hw2 k0_t59 k0_h59 => k0_hw2.2.2.2.2.2.2.2.2.2.2.2.2.2.2.2.1.2.2.2.2.2.2.2.2.2.2.2.2.2.2.2.2.2.2.2.2.2.2.2.2.2.2.2.2.2.2.1 k0_t59 k0_h59
theorem k0_off458_inb : ∀ (v34 : BitVec 32) (k0_hw2 : k0_chk2 v34) (k0_t59 : Fin (k0_t59_loop v34).trips), ∀ (k0_h59 : k0_cond59 v34 = 1#1), ∀ a, (k0_off458 v34 k0_t59) a + S1x16.size a ≤ S128x128.size a := fun v34 k0_hw2 k0_t59 k0_h59 => k0_hw2.2.2.2.2.2.2.2.2.2.2.2.2.2.2.2.1.2.2.2.2.2.2.2.2.2.2.2.2.2.2.2.2.2.2.2.2.2.2.2.2.2.2.2.2.2.2.2 k0_t59 k0_h59
theorem k0_off459_inb : ∀ (v34 : BitVec 32) (k0_hw2 : k0_chk2 v34) (k0_t59 : Fin (k0_t59_loop v34).trips), ∀ (k0_h59 : k0_cond59 v34 = 1#1), ∀ a, (k0_off459 v34 k0_t59) a + S1x16.size a ≤ S128x128.size a := fun v34 k0_hw2 k0_t59 k0_h59 => k0_hw2.2.2.2.2.2.2.2.2.2.2.2.2.2.2.2.2.1.1 k0_t59 k0_h59
theorem k0_t60_ok : ∀ (v34 : BitVec 32) (k0_hw2 : k0_chk2 v34), ∀ (k0_h59 : k0_cond59 v34 = 1#1), (k0_t60_loop v34).OK := fun v34 k0_hw2 k0_h59 => k0_hw2.2.2.2.2.2.2.2.2.2.2.2.2.2.2.2.2.1.2.1 k0_h59
theorem k0_off460_inb : ∀ (v34 : BitVec 32) (k0_hw2 : k0_chk2 v34) (k0_t60 : Fin (k0_t60_loop v34).trips), ∀ (k0_h59 : k0_cond59 v34 = 1#1), ∀ a, (k0_off460 v34 k0_t60) a + S1x16.size a ≤ S128x128.size a := fun v34 k0_hw2 k0_t60 k0_h59 => k0_hw2.2.2.2.2.2.2.2.2.2.2.2.2.2.2.2.2.1.2.2.1 k0_t60 k0_h59
theorem k0_off461_inb : ∀ (v34 : BitVec 32) (k0_hw2 : k0_chk2 v34) (k0_t60 : Fin (k0_t60_loop v34).trips), ∀ (k0_h59 : k0_cond59 v34 = 1#1), ∀ a, (k0_off461 v34 k0_t60) a + S1x16.size a ≤ S128x128.size a := fun v34 k0_hw2 k0_t60 k0_h59 => k0_hw2.2.2.2.2.2.2.2.2.2.2.2.2.2.2.2.2.1.2.2.2.1 k0_t60 k0_h59
theorem k0_off462_inb : ∀ (v34 : BitVec 32) (k0_hw2 : k0_chk2 v34) (k0_t60 : Fin (k0_t60_loop v34).trips), ∀ (k0_h59 : k0_cond59 v34 = 1#1), ∀ a, (k0_off462 v34 k0_t60) a + S1x16.size a ≤ S128x128.size a := fun v34 k0_hw2 k0_t60 k0_h59 => k0_hw2.2.2.2.2.2.2.2.2.2.2.2.2.2.2.2.2.1.2.2.2.2.1 k0_t60 k0_h59
theorem k0_off463_inb : ∀ (v34 : BitVec 32) (k0_hw2 : k0_chk2 v34) (k0_t60 : Fin (k0_t60_loop v34).trips), ∀ (k0_h59 : k0_cond59 v34 = 1#1), ∀ a, (k0_off463 v34 k0_t60) a + S1x16.size a ≤ S128x128.size a := fun v34 k0_hw2 k0_t60 k0_h59 => k0_hw2.2.2.2.2.2.2.2.2.2.2.2.2.2.2.2.2.1.2.2.2.2.2.1 k0_t60 k0_h59
theorem k0_off464_inb : ∀ (v34 : BitVec 32) (k0_hw2 : k0_chk2 v34) (k0_t60 : Fin (k0_t60_loop v34).trips), ∀ (k0_h59 : k0_cond59 v34 = 1#1), ∀ a, (k0_off464 v34 k0_t60) a + S1x16.size a ≤ S128x128.size a := fun v34 k0_hw2 k0_t60 k0_h59 => k0_hw2.2.2.2.2.2.2.2.2.2.2.2.2.2.2.2.2.1.2.2.2.2.2.2.1 k0_t60 k0_h59
theorem k0_off465_inb : ∀ (v34 : BitVec 32) (k0_hw2 : k0_chk2 v34) (k0_t60 : Fin (k0_t60_loop v34).trips), ∀ (k0_h59 : k0_cond59 v34 = 1#1), ∀ a, (k0_off465 v34 k0_t60) a + S1x16.size a ≤ S128x128.size a := fun v34 k0_hw2 k0_t60 k0_h59 => k0_hw2.2.2.2.2.2.2.2.2.2.2.2.2.2.2.2.2.1.2.2.2.2.2.2.2.1 k0_t60 k0_h59
theorem k0_off466_inb : ∀ (v34 : BitVec 32) (k0_hw2 : k0_chk2 v34) (k0_t60 : Fin (k0_t60_loop v34).trips), ∀ (k0_h59 : k0_cond59 v34 = 1#1), ∀ a, (k0_off466 v34 k0_t60) a + S1x16.size a ≤ S128x128.size a := fun v34 k0_hw2 k0_t60 k0_h59 => k0_hw2.2.2.2.2.2.2.2.2.2.2.2.2.2.2.2.2.1.2.2.2.2.2.2.2.2.1 k0_t60 k0_h59
theorem k0_off467_inb : ∀ (v34 : BitVec 32) (k0_hw2 : k0_chk2 v34) (k0_t60 : Fin (k0_t60_loop v34).trips), ∀ (k0_h59 : k0_cond59 v34 = 1#1), ∀ a, (k0_off467 v34 k0_t60) a + S1x16.size a ≤ S128x128.size a := fun v34 k0_hw2 k0_t60 k0_h59 => k0_hw2.2.2.2.2.2.2.2.2.2.2.2.2.2.2.2.2.1.2.2.2.2.2.2.2.2.2.1 k0_t60 k0_h59
theorem k0_t61_ok : ∀ (v34 : BitVec 32) (k0_hw2 : k0_chk2 v34), ∀ (k0_h61 : k0_cond61 v34 = 1#1), (k0_t61_loop v34).OK := fun v34 k0_hw2 k0_h61 => k0_hw2.2.2.2.2.2.2.2.2.2.2.2.2.2.2.2.2.1.2.2.2.2.2.2.2.2.2.2.1 k0_h61
theorem k0_off468_inb : ∀ (v34 : BitVec 32) (k0_hw2 : k0_chk2 v34) (k0_t61 : Fin (k0_t61_loop v34).trips), ∀ (k0_h61 : k0_cond61 v34 = 1#1), ∀ a, (k0_off468 v34 k0_t61) a + S1x16.size a ≤ S128x128.size a := fun v34 k0_hw2 k0_t61 k0_h61 => k0_hw2.2.2.2.2.2.2.2.2.2.2.2.2.2.2.2.2.1.2.2.2.2.2.2.2.2.2.2.2.1 k0_t61 k0_h61
theorem k0_off469_inb : ∀ (v34 : BitVec 32) (k0_hw2 : k0_chk2 v34) (k0_t61 : Fin (k0_t61_loop v34).trips), ∀ (k0_h61 : k0_cond61 v34 = 1#1), ∀ a, (k0_off469 v34 k0_t61) a + S1x16.size a ≤ S128x128.size a := fun v34 k0_hw2 k0_t61 k0_h61 => k0_hw2.2.2.2.2.2.2.2.2.2.2.2.2.2.2.2.2.1.2.2.2.2.2.2.2.2.2.2.2.2.1 k0_t61 k0_h61
theorem k0_off470_inb : ∀ (v34 : BitVec 32) (k0_hw2 : k0_chk2 v34) (k0_t61 : Fin (k0_t61_loop v34).trips), ∀ (k0_h61 : k0_cond61 v34 = 1#1), ∀ a, (k0_off470 v34 k0_t61) a + S1x16.size a ≤ S128x128.size a := fun v34 k0_hw2 k0_t61 k0_h61 => k0_hw2.2.2.2.2.2.2.2.2.2.2.2.2.2.2.2.2.1.2.2.2.2.2.2.2.2.2.2.2.2.2.1 k0_t61 k0_h61
theorem k0_off471_inb : ∀ (v34 : BitVec 32) (k0_hw2 : k0_chk2 v34) (k0_t61 : Fin (k0_t61_loop v34).trips), ∀ (k0_h61 : k0_cond61 v34 = 1#1), ∀ a, (k0_off471 v34 k0_t61) a + S1x16.size a ≤ S128x128.size a := fun v34 k0_hw2 k0_t61 k0_h61 => k0_hw2.2.2.2.2.2.2.2.2.2.2.2.2.2.2.2.2.1.2.2.2.2.2.2.2.2.2.2.2.2.2.2.1 k0_t61 k0_h61
theorem k0_off472_inb : ∀ (v34 : BitVec 32) (k0_hw2 : k0_chk2 v34) (k0_t61 : Fin (k0_t61_loop v34).trips), ∀ (k0_h61 : k0_cond61 v34 = 1#1), ∀ a, (k0_off472 v34 k0_t61) a + S1x16.size a ≤ S128x128.size a := fun v34 k0_hw2 k0_t61 k0_h61 => k0_hw2.2.2.2.2.2.2.2.2.2.2.2.2.2.2.2.2.1.2.2.2.2.2.2.2.2.2.2.2.2.2.2.2.1 k0_t61 k0_h61
theorem k0_off473_inb : ∀ (v34 : BitVec 32) (k0_hw2 : k0_chk2 v34) (k0_t61 : Fin (k0_t61_loop v34).trips), ∀ (k0_h61 : k0_cond61 v34 = 1#1), ∀ a, (k0_off473 v34 k0_t61) a + S1x16.size a ≤ S128x128.size a := fun v34 k0_hw2 k0_t61 k0_h61 => k0_hw2.2.2.2.2.2.2.2.2.2.2.2.2.2.2.2.2.1.2.2.2.2.2.2.2.2.2.2.2.2.2.2.2.2.1 k0_t61 k0_h61
theorem k0_off474_inb : ∀ (v34 : BitVec 32) (k0_hw2 : k0_chk2 v34) (k0_t61 : Fin (k0_t61_loop v34).trips), ∀ (k0_h61 : k0_cond61 v34 = 1#1), ∀ a, (k0_off474 v34 k0_t61) a + S1x16.size a ≤ S128x128.size a := fun v34 k0_hw2 k0_t61 k0_h61 => k0_hw2.2.2.2.2.2.2.2.2.2.2.2.2.2.2.2.2.1.2.2.2.2.2.2.2.2.2.2.2.2.2.2.2.2.2.1 k0_t61 k0_h61
theorem k0_off475_inb : ∀ (v34 : BitVec 32) (k0_hw2 : k0_chk2 v34) (k0_t61 : Fin (k0_t61_loop v34).trips), ∀ (k0_h61 : k0_cond61 v34 = 1#1), ∀ a, (k0_off475 v34 k0_t61) a + S1x16.size a ≤ S128x128.size a := fun v34 k0_hw2 k0_t61 k0_h61 => k0_hw2.2.2.2.2.2.2.2.2.2.2.2.2.2.2.2.2.1.2.2.2.2.2.2.2.2.2.2.2.2.2.2.2.2.2.2.1 k0_t61 k0_h61
theorem k0_t62_ok : ∀ (v34 : BitVec 32) (k0_hw2 : k0_chk2 v34), ∀ (k0_h61 : k0_cond61 v34 = 1#1), (k0_t62_loop v34).OK := fun v34 k0_hw2 k0_h61 => k0_hw2.2.2.2.2.2.2.2.2.2.2.2.2.2.2.2.2.1.2.2.2.2.2.2.2.2.2.2.2.2.2.2.2.2.2.2.2.1 k0_h61
theorem k0_off476_inb : ∀ (v34 : BitVec 32) (k0_hw2 : k0_chk2 v34) (k0_t62 : Fin (k0_t62_loop v34).trips), ∀ (k0_h61 : k0_cond61 v34 = 1#1), ∀ a, (k0_off476 v34 k0_t62) a + S1x16.size a ≤ S128x128.size a := fun v34 k0_hw2 k0_t62 k0_h61 => k0_hw2.2.2.2.2.2.2.2.2.2.2.2.2.2.2.2.2.1.2.2.2.2.2.2.2.2.2.2.2.2.2.2.2.2.2.2.2.2.1 k0_t62 k0_h61
theorem k0_off477_inb : ∀ (v34 : BitVec 32) (k0_hw2 : k0_chk2 v34) (k0_t62 : Fin (k0_t62_loop v34).trips), ∀ (k0_h61 : k0_cond61 v34 = 1#1), ∀ a, (k0_off477 v34 k0_t62) a + S1x16.size a ≤ S128x128.size a := fun v34 k0_hw2 k0_t62 k0_h61 => k0_hw2.2.2.2.2.2.2.2.2.2.2.2.2.2.2.2.2.1.2.2.2.2.2.2.2.2.2.2.2.2.2.2.2.2.2.2.2.2.2.1 k0_t62 k0_h61
theorem k0_off478_inb : ∀ (v34 : BitVec 32) (k0_hw2 : k0_chk2 v34) (k0_t62 : Fin (k0_t62_loop v34).trips), ∀ (k0_h61 : k0_cond61 v34 = 1#1), ∀ a, (k0_off478 v34 k0_t62) a + S1x16.size a ≤ S128x128.size a := fun v34 k0_hw2 k0_t62 k0_h61 => k0_hw2.2.2.2.2.2.2.2.2.2.2.2.2.2.2.2.2.1.2.2.2.2.2.2.2.2.2.2.2.2.2.2.2.2.2.2.2.2.2.2.1 k0_t62 k0_h61
theorem k0_off479_inb : ∀ (v34 : BitVec 32) (k0_hw2 : k0_chk2 v34) (k0_t62 : Fin (k0_t62_loop v34).trips), ∀ (k0_h61 : k0_cond61 v34 = 1#1), ∀ a, (k0_off479 v34 k0_t62) a + S1x16.size a ≤ S128x128.size a := fun v34 k0_hw2 k0_t62 k0_h61 => k0_hw2.2.2.2.2.2.2.2.2.2.2.2.2.2.2.2.2.1.2.2.2.2.2.2.2.2.2.2.2.2.2.2.2.2.2.2.2.2.2.2.2.1 k0_t62 k0_h61
theorem k0_off480_inb : ∀ (v34 : BitVec 32) (k0_hw2 : k0_chk2 v34) (k0_t62 : Fin (k0_t62_loop v34).trips), ∀ (k0_h61 : k0_cond61 v34 = 1#1), ∀ a, (k0_off480 v34 k0_t62) a + S1x16.size a ≤ S128x128.size a := fun v34 k0_hw2 k0_t62 k0_h61 => k0_hw2.2.2.2.2.2.2.2.2.2.2.2.2.2.2.2.2.1.2.2.2.2.2.2.2.2.2.2.2.2.2.2.2.2.2.2.2.2.2.2.2.2.1 k0_t62 k0_h61
theorem k0_off481_inb : ∀ (v34 : BitVec 32) (k0_hw2 : k0_chk2 v34) (k0_t62 : Fin (k0_t62_loop v34).trips), ∀ (k0_h61 : k0_cond61 v34 = 1#1), ∀ a, (k0_off481 v34 k0_t62) a + S1x16.size a ≤ S128x128.size a := fun v34 k0_hw2 k0_t62 k0_h61 => k0_hw2.2.2.2.2.2.2.2.2.2.2.2.2.2.2.2.2.1.2.2.2.2.2.2.2.2.2.2.2.2.2.2.2.2.2.2.2.2.2.2.2.2.2.1 k0_t62 k0_h61
theorem k0_off482_inb : ∀ (v34 : BitVec 32) (k0_hw2 : k0_chk2 v34) (k0_t62 : Fin (k0_t62_loop v34).trips), ∀ (k0_h61 : k0_cond61 v34 = 1#1), ∀ a, (k0_off482 v34 k0_t62) a + S1x16.size a ≤ S128x128.size a := fun v34 k0_hw2 k0_t62 k0_h61 => k0_hw2.2.2.2.2.2.2.2.2.2.2.2.2.2.2.2.2.1.2.2.2.2.2.2.2.2.2.2.2.2.2.2.2.2.2.2.2.2.2.2.2.2.2.2.1 k0_t62 k0_h61
theorem k0_off483_inb : ∀ (v34 : BitVec 32) (k0_hw2 : k0_chk2 v34) (k0_t62 : Fin (k0_t62_loop v34).trips), ∀ (k0_h61 : k0_cond61 v34 = 1#1), ∀ a, (k0_off483 v34 k0_t62) a + S1x16.size a ≤ S128x128.size a := fun v34 k0_hw2 k0_t62 k0_h61 => k0_hw2.2.2.2.2.2.2.2.2.2.2.2.2.2.2.2.2.1.2.2.2.2.2.2.2.2.2.2.2.2.2.2.2.2.2.2.2.2.2.2.2.2.2.2.2.1 k0_t62 k0_h61
theorem k0_t63_ok : ∀ (v34 : BitVec 32) (k0_hw2 : k0_chk2 v34), ∀ (k0_h63 : k0_cond63 v34 = 1#1), (k0_t63_loop v34).OK := fun v34 k0_hw2 k0_h63 => k0_hw2.2.2.2.2.2.2.2.2.2.2.2.2.2.2.2.2.1.2.2.2.2.2.2.2.2.2.2.2.2.2.2.2.2.2.2.2.2.2.2.2.2.2.2.2.2.1 k0_h63
theorem k0_off484_inb : ∀ (v34 : BitVec 32) (k0_hw2 : k0_chk2 v34) (k0_t63 : Fin (k0_t63_loop v34).trips), ∀ (k0_h63 : k0_cond63 v34 = 1#1), ∀ a, (k0_off484 v34 k0_t63) a + S1x16.size a ≤ S128x128.size a := fun v34 k0_hw2 k0_t63 k0_h63 => k0_hw2.2.2.2.2.2.2.2.2.2.2.2.2.2.2.2.2.1.2.2.2.2.2.2.2.2.2.2.2.2.2.2.2.2.2.2.2.2.2.2.2.2.2.2.2.2.2.1 k0_t63 k0_h63
theorem k0_off485_inb : ∀ (v34 : BitVec 32) (k0_hw2 : k0_chk2 v34) (k0_t63 : Fin (k0_t63_loop v34).trips), ∀ (k0_h63 : k0_cond63 v34 = 1#1), ∀ a, (k0_off485 v34 k0_t63) a + S1x16.size a ≤ S128x128.size a := fun v34 k0_hw2 k0_t63 k0_h63 => k0_hw2.2.2.2.2.2.2.2.2.2.2.2.2.2.2.2.2.1.2.2.2.2.2.2.2.2.2.2.2.2.2.2.2.2.2.2.2.2.2.2.2.2.2.2.2.2.2.2.1 k0_t63 k0_h63
theorem k0_off486_inb : ∀ (v34 : BitVec 32) (k0_hw2 : k0_chk2 v34) (k0_t63 : Fin (k0_t63_loop v34).trips), ∀ (k0_h63 : k0_cond63 v34 = 1#1), ∀ a, (k0_off486 v34 k0_t63) a + S1x16.size a ≤ S128x128.size a := fun v34 k0_hw2 k0_t63 k0_h63 => k0_hw2.2.2.2.2.2.2.2.2.2.2.2.2.2.2.2.2.1.2.2.2.2.2.2.2.2.2.2.2.2.2.2.2.2.2.2.2.2.2.2.2.2.2.2.2.2.2.2.2 k0_t63 k0_h63
theorem k0_off487_inb : ∀ (v34 : BitVec 32) (k0_hw2 : k0_chk2 v34) (k0_t63 : Fin (k0_t63_loop v34).trips), ∀ (k0_h63 : k0_cond63 v34 = 1#1), ∀ a, (k0_off487 v34 k0_t63) a + S1x16.size a ≤ S128x128.size a := fun v34 k0_hw2 k0_t63 k0_h63 => k0_hw2.2.2.2.2.2.2.2.2.2.2.2.2.2.2.2.2.2.1 k0_t63 k0_h63
theorem k0_off488_inb : ∀ (v34 : BitVec 32) (k0_hw2 : k0_chk2 v34) (k0_t63 : Fin (k0_t63_loop v34).trips), ∀ (k0_h63 : k0_cond63 v34 = 1#1), ∀ a, (k0_off488 v34 k0_t63) a + S1x16.size a ≤ S128x128.size a := fun v34 k0_hw2 k0_t63 k0_h63 => k0_hw2.2.2.2.2.2.2.2.2.2.2.2.2.2.2.2.2.2.2.1 k0_t63 k0_h63
theorem k0_off489_inb : ∀ (v34 : BitVec 32) (k0_hw2 : k0_chk2 v34) (k0_t63 : Fin (k0_t63_loop v34).trips), ∀ (k0_h63 : k0_cond63 v34 = 1#1), ∀ a, (k0_off489 v34 k0_t63) a + S1x16.size a ≤ S128x128.size a := fun v34 k0_hw2 k0_t63 k0_h63 => k0_hw2.2.2.2.2.2.2.2.2.2.2.2.2.2.2.2.2.2.2.2.1 k0_t63 k0_h63
theorem k0_off490_inb : ∀ (v34 : BitVec 32) (k0_hw2 : k0_chk2 v34) (k0_t63 : Fin (k0_t63_loop v34).trips), ∀ (k0_h63 : k0_cond63 v34 = 1#1), ∀ a, (k0_off490 v34 k0_t63) a + S1x16.size a ≤ S128x128.size a := fun v34 k0_hw2 k0_t63 k0_h63 => k0_hw2.2.2.2.2.2.2.2.2.2.2.2.2.2.2.2.2.2.2.2.2.1 k0_t63 k0_h63
theorem k0_off491_inb : ∀ (v34 : BitVec 32) (k0_hw2 : k0_chk2 v34) (k0_t63 : Fin (k0_t63_loop v34).trips), ∀ (k0_h63 : k0_cond63 v34 = 1#1), ∀ a, (k0_off491 v34 k0_t63) a + S1x16.size a ≤ S128x128.size a := fun v34 k0_hw2 k0_t63 k0_h63 => k0_hw2.2.2.2.2.2.2.2.2.2.2.2.2.2.2.2.2.2.2.2.2.2.1 k0_t63 k0_h63
theorem k0_t64_ok : ∀ (v34 : BitVec 32) (k0_hw2 : k0_chk2 v34), ∀ (k0_h63 : k0_cond63 v34 = 1#1), (k0_t64_loop v34).OK := fun v34 k0_hw2 k0_h63 => k0_hw2.2.2.2.2.2.2.2.2.2.2.2.2.2.2.2.2.2.2.2.2.2.2.1 k0_h63
theorem k0_off492_inb : ∀ (v34 : BitVec 32) (k0_hw2 : k0_chk2 v34) (k0_t64 : Fin (k0_t64_loop v34).trips), ∀ (k0_h63 : k0_cond63 v34 = 1#1), ∀ a, (k0_off492 v34 k0_t64) a + S1x16.size a ≤ S128x128.size a := fun v34 k0_hw2 k0_t64 k0_h63 => k0_hw2.2.2.2.2.2.2.2.2.2.2.2.2.2.2.2.2.2.2.2.2.2.2.2.1 k0_t64 k0_h63
theorem k0_off493_inb : ∀ (v34 : BitVec 32) (k0_hw2 : k0_chk2 v34) (k0_t64 : Fin (k0_t64_loop v34).trips), ∀ (k0_h63 : k0_cond63 v34 = 1#1), ∀ a, (k0_off493 v34 k0_t64) a + S1x16.size a ≤ S128x128.size a := fun v34 k0_hw2 k0_t64 k0_h63 => k0_hw2.2.2.2.2.2.2.2.2.2.2.2.2.2.2.2.2.2.2.2.2.2.2.2.2.1 k0_t64 k0_h63
theorem k0_off494_inb : ∀ (v34 : BitVec 32) (k0_hw2 : k0_chk2 v34) (k0_t64 : Fin (k0_t64_loop v34).trips), ∀ (k0_h63 : k0_cond63 v34 = 1#1), ∀ a, (k0_off494 v34 k0_t64) a + S1x16.size a ≤ S128x128.size a := fun v34 k0_hw2 k0_t64 k0_h63 => k0_hw2.2.2.2.2.2.2.2.2.2.2.2.2.2.2.2.2.2.2.2.2.2.2.2.2.2.1 k0_t64 k0_h63
theorem k0_off495_inb : ∀ (v34 : BitVec 32) (k0_hw2 : k0_chk2 v34) (k0_t64 : Fin (k0_t64_loop v34).trips), ∀ (k0_h63 : k0_cond63 v34 = 1#1), ∀ a, (k0_off495 v34 k0_t64) a + S1x16.size a ≤ S128x128.size a := fun v34 k0_hw2 k0_t64 k0_h63 => k0_hw2.2.2.2.2.2.2.2.2.2.2.2.2.2.2.2.2.2.2.2.2.2.2.2.2.2.2.1 k0_t64 k0_h63
theorem k0_off496_inb : ∀ (v34 : BitVec 32) (k0_hw2 : k0_chk2 v34) (k0_t64 : Fin (k0_t64_loop v34).trips), ∀ (k0_h63 : k0_cond63 v34 = 1#1), ∀ a, (k0_off496 v34 k0_t64) a + S1x16.size a ≤ S128x128.size a := fun v34 k0_hw2 k0_t64 k0_h63 => k0_hw2.2.2.2.2.2.2.2.2.2.2.2.2.2.2.2.2.2.2.2.2.2.2.2.2.2.2.2.1 k0_t64 k0_h63
theorem k0_off497_inb : ∀ (v34 : BitVec 32) (k0_hw2 : k0_chk2 v34) (k0_t64 : Fin (k0_t64_loop v34).trips), ∀ (k0_h63 : k0_cond63 v34 = 1#1), ∀ a, (k0_off497 v34 k0_t64) a + S1x16.size a ≤ S128x128.size a := fun v34 k0_hw2 k0_t64 k0_h63 => k0_hw2.2.2.2.2.2.2.2.2.2.2.2.2.2.2.2.2.2.2.2.2.2.2.2.2.2.2.2.2.1 k0_t64 k0_h63
theorem k0_off498_inb : ∀ (v34 : BitVec 32) (k0_hw2 : k0_chk2 v34) (k0_t64 : Fin (k0_t64_loop v34).trips), ∀ (k0_h63 : k0_cond63 v34 = 1#1), ∀ a, (k0_off498 v34 k0_t64) a + S1x16.size a ≤ S128x128.size a := fun v34 k0_hw2 k0_t64 k0_h63 => k0_hw2.2.2.2.2.2.2.2.2.2.2.2.2.2.2.2.2.2.2.2.2.2.2.2.2.2.2.2.2.2.1 k0_t64 k0_h63
theorem k0_off499_inb : ∀ (v34 : BitVec 32) (k0_hw2 : k0_chk2 v34) (k0_t64 : Fin (k0_t64_loop v34).trips), ∀ (k0_h63 : k0_cond63 v34 = 1#1), ∀ a, (k0_off499 v34 k0_t64) a + S1x16.size a ≤ S128x128.size a := fun v34 k0_hw2 k0_t64 k0_h63 => k0_hw2.2.2.2.2.2.2.2.2.2.2.2.2.2.2.2.2.2.2.2.2.2.2.2.2.2.2.2.2.2.2.1 k0_t64 k0_h63
theorem k0_t65_ok : ∀ (v34 : BitVec 32) (k0_hw2 : k0_chk2 v34), ∀ (k0_h64 : k0_cond64 v34 = 1#1), (k0_t65_loop v34).OK := fun v34 k0_hw2 k0_h64 => k0_hw2.2.2.2.2.2.2.2.2.2.2.2.2.2.2.2.2.2.2.2.2.2.2.2.2.2.2.2.2.2.2.2.1 k0_h64
theorem k0_off500_inb : ∀ (v34 : BitVec 32) (k0_hw2 : k0_chk2 v34) (k0_t65 : Fin (k0_t65_loop v34).trips), ∀ (k0_h64 : k0_cond64 v34 = 1#1), ∀ a, (k0_off500 v34 k0_t65) a + S1x16.size a ≤ S128x128.size a := fun v34 k0_hw2 k0_t65 k0_h64 => k0_hw2.2.2.2.2.2.2.2.2.2.2.2.2.2.2.2.2.2.2.2.2.2.2.2.2.2.2.2.2.2.2.2.2.1 k0_t65 k0_h64
theorem k0_off501_inb : ∀ (v34 : BitVec 32) (k0_hw2 : k0_chk2 v34) (k0_t65 : Fin (k0_t65_loop v34).trips), ∀ (k0_h64 : k0_cond64 v34 = 1#1), ∀ a, (k0_off501 v34 k0_t65) a + S1x16.size a ≤ S128x128.size a := fun v34 k0_hw2 k0_t65 k0_h64 => k0_hw2.2.2.2.2.2.2.2.2.2.2.2.2.2.2.2.2.2.2.2.2.2.2.2.2.2.2.2.2.2.2.2.2.2.1 k0_t65 k0_h64
theorem k0_off502_inb : ∀ (v34 : BitVec 32) (k0_hw2 : k0_chk2 v34) (k0_t65 : Fin (k0_t65_loop v34).trips), ∀ (k0_h64 : k0_cond64 v34 = 1#1), ∀ a, (k0_off502 v34 k0_t65) a + S1x16.size a ≤ S128x128.size a := fun v34 k0_hw2 k0_t65 k0_h64 => k0_hw2.2.2.2.2.2.2.2.2.2.2.2.2.2.2.2.2.2.2.2.2.2.2.2.2.2.2.2.2.2.2.2.2.2.2.1 k0_t65 k0_h64
theorem k0_off503_inb : ∀ (v34 : BitVec 32) (k0_hw2 : k0_chk2 v34) (k0_t65 : Fin (k0_t65_loop v34).trips), ∀ (k0_h64 : k0_cond64 v34 = 1#1), ∀ a, (k0_off503 v34 k0_t65) a + S1x16.size a ≤ S128x128.size a := fun v34 k0_hw2 k0_t65 k0_h64 => k0_hw2.2.2.2.2.2.2.2.2.2.2.2.2.2.2.2.2.2.2.2.2.2.2.2.2.2.2.2.2.2.2.2.2.2.2.2.1 k0_t65 k0_h64
theorem k0_off504_inb : ∀ (v34 : BitVec 32) (k0_hw2 : k0_chk2 v34) (k0_t65 : Fin (k0_t65_loop v34).trips), ∀ (k0_h64 : k0_cond64 v34 = 1#1), ∀ a, (k0_off504 v34 k0_t65) a + S1x16.size a ≤ S128x128.size a := fun v34 k0_hw2 k0_t65 k0_h64 => k0_hw2.2.2.2.2.2.2.2.2.2.2.2.2.2.2.2.2.2.2.2.2.2.2.2.2.2.2.2.2.2.2.2.2.2.2.2.2.1 k0_t65 k0_h64
theorem k0_off505_inb : ∀ (v34 : BitVec 32) (k0_hw2 : k0_chk2 v34) (k0_t65 : Fin (k0_t65_loop v34).trips), ∀ (k0_h64 : k0_cond64 v34 = 1#1), ∀ a, (k0_off505 v34 k0_t65) a + S1x16.size a ≤ S128x128.size a := fun v34 k0_hw2 k0_t65 k0_h64 => k0_hw2.2.2.2.2.2.2.2.2.2.2.2.2.2.2.2.2.2.2.2.2.2.2.2.2.2.2.2.2.2.2.2.2.2.2.2.2.2.1 k0_t65 k0_h64
theorem k0_off506_inb : ∀ (v34 : BitVec 32) (k0_hw2 : k0_chk2 v34) (k0_t65 : Fin (k0_t65_loop v34).trips), ∀ (k0_h64 : k0_cond64 v34 = 1#1), ∀ a, (k0_off506 v34 k0_t65) a + S1x16.size a ≤ S128x128.size a := fun v34 k0_hw2 k0_t65 k0_h64 => k0_hw2.2.2.2.2.2.2.2.2.2.2.2.2.2.2.2.2.2.2.2.2.2.2.2.2.2.2.2.2.2.2.2.2.2.2.2.2.2.2.1 k0_t65 k0_h64
theorem k0_off507_inb : ∀ (v34 : BitVec 32) (k0_hw2 : k0_chk2 v34) (k0_t65 : Fin (k0_t65_loop v34).trips), ∀ (k0_h64 : k0_cond64 v34 = 1#1), ∀ a, (k0_off507 v34 k0_t65) a + S1x16.size a ≤ S128x128.size a := fun v34 k0_hw2 k0_t65 k0_h64 => k0_hw2.2.2.2.2.2.2.2.2.2.2.2.2.2.2.2.2.2.2.2.2.2.2.2.2.2.2.2.2.2.2.2.2.2.2.2.2.2.2.2.1 k0_t65 k0_h64
theorem k0_t66_ok : ∀ (v34 : BitVec 32) (k0_hw2 : k0_chk2 v34), ∀ (k0_h64 : k0_cond64 v34 = 1#1), (k0_t66_loop v34).OK := fun v34 k0_hw2 k0_h64 => k0_hw2.2.2.2.2.2.2.2.2.2.2.2.2.2.2.2.2.2.2.2.2.2.2.2.2.2.2.2.2.2.2.2.2.2.2.2.2.2.2.2.2.1 k0_h64
theorem k0_off508_inb : ∀ (v34 : BitVec 32) (k0_hw2 : k0_chk2 v34) (k0_t66 : Fin (k0_t66_loop v34).trips), ∀ (k0_h64 : k0_cond64 v34 = 1#1), ∀ a, (k0_off508 v34 k0_t66) a + S1x16.size a ≤ S128x128.size a := fun v34 k0_hw2 k0_t66 k0_h64 => k0_hw2.2.2.2.2.2.2.2.2.2.2.2.2.2.2.2.2.2.2.2.2.2.2.2.2.2.2.2.2.2.2.2.2.2.2.2.2.2.2.2.2.2.1 k0_t66 k0_h64
theorem k0_off509_inb : ∀ (v34 : BitVec 32) (k0_hw2 : k0_chk2 v34) (k0_t66 : Fin (k0_t66_loop v34).trips), ∀ (k0_h64 : k0_cond64 v34 = 1#1), ∀ a, (k0_off509 v34 k0_t66) a + S1x16.size a ≤ S128x128.size a := fun v34 k0_hw2 k0_t66 k0_h64 => k0_hw2.2.2.2.2.2.2.2.2.2.2.2.2.2.2.2.2.2.2.2.2.2.2.2.2.2.2.2.2.2.2.2.2.2.2.2.2.2.2.2.2.2.2.1 k0_t66 k0_h64
theorem k0_off510_inb : ∀ (v34 : BitVec 32) (k0_hw2 : k0_chk2 v34) (k0_t66 : Fin (k0_t66_loop v34).trips), ∀ (k0_h64 : k0_cond64 v34 = 1#1), ∀ a, (k0_off510 v34 k0_t66) a + S1x16.size a ≤ S128x128.size a := fun v34 k0_hw2 k0_t66 k0_h64 => k0_hw2.2.2.2.2.2.2.2.2.2.2.2.2.2.2.2.2.2.2.2.2.2.2.2.2.2.2.2.2.2.2.2.2.2.2.2.2.2.2.2.2.2.2.2.1 k0_t66 k0_h64
theorem k0_off511_inb : ∀ (v34 : BitVec 32) (k0_hw2 : k0_chk2 v34) (k0_t66 : Fin (k0_t66_loop v34).trips), ∀ (k0_h64 : k0_cond64 v34 = 1#1), ∀ a, (k0_off511 v34 k0_t66) a + S1x16.size a ≤ S128x128.size a := fun v34 k0_hw2 k0_t66 k0_h64 => k0_hw2.2.2.2.2.2.2.2.2.2.2.2.2.2.2.2.2.2.2.2.2.2.2.2.2.2.2.2.2.2.2.2.2.2.2.2.2.2.2.2.2.2.2.2.2.1 k0_t66 k0_h64
theorem k0_off512_inb : ∀ (v34 : BitVec 32) (k0_hw2 : k0_chk2 v34) (k0_t66 : Fin (k0_t66_loop v34).trips), ∀ (k0_h64 : k0_cond64 v34 = 1#1), ∀ a, (k0_off512 v34 k0_t66) a + S1x16.size a ≤ S128x128.size a := fun v34 k0_hw2 k0_t66 k0_h64 => k0_hw2.2.2.2.2.2.2.2.2.2.2.2.2.2.2.2.2.2.2.2.2.2.2.2.2.2.2.2.2.2.2.2.2.2.2.2.2.2.2.2.2.2.2.2.2.2.1 k0_t66 k0_h64
theorem k0_off513_inb : ∀ (v34 : BitVec 32) (k0_hw2 : k0_chk2 v34) (k0_t66 : Fin (k0_t66_loop v34).trips), ∀ (k0_h64 : k0_cond64 v34 = 1#1), ∀ a, (k0_off513 v34 k0_t66) a + S1x16.size a ≤ S128x128.size a := fun v34 k0_hw2 k0_t66 k0_h64 => k0_hw2.2.2.2.2.2.2.2.2.2.2.2.2.2.2.2.2.2.2.2.2.2.2.2.2.2.2.2.2.2.2.2.2.2.2.2.2.2.2.2.2.2.2.2.2.2.2.1 k0_t66 k0_h64
theorem k0_off514_inb : ∀ (v34 : BitVec 32) (k0_hw2 : k0_chk2 v34) (k0_t66 : Fin (k0_t66_loop v34).trips), ∀ (k0_h64 : k0_cond64 v34 = 1#1), ∀ a, (k0_off514 v34 k0_t66) a + S1x16.size a ≤ S128x128.size a := fun v34 k0_hw2 k0_t66 k0_h64 => k0_hw2.2.2.2.2.2.2.2.2.2.2.2.2.2.2.2.2.2.2.2.2.2.2.2.2.2.2.2.2.2.2.2.2.2.2.2.2.2.2.2.2.2.2.2.2.2.2.2.1 k0_t66 k0_h64
theorem k0_off515_inb : ∀ (v34 : BitVec 32) (k0_hw2 : k0_chk2 v34) (k0_t66 : Fin (k0_t66_loop v34).trips), ∀ (k0_h64 : k0_cond64 v34 = 1#1), ∀ a, (k0_off515 v34 k0_t66) a + S1x16.size a ≤ S128x128.size a := fun v34 k0_hw2 k0_t66 k0_h64 => k0_hw2.2.2.2.2.2.2.2.2.2.2.2.2.2.2.2.2.2.2.2.2.2.2.2.2.2.2.2.2.2.2.2.2.2.2.2.2.2.2.2.2.2.2.2.2.2.2.2.2 k0_t66 k0_h64

def k0_off516 (i : grid0.Coords) : Fin 2 → Nat :=
  let arg0 : BitVec 32 := BitVec.ofNat 32 (i 0).val
  let c8_i32 : BitVec 32 := 8#32
  let v0 : BitVec 32 := Scalar.muli arg0 c8_i32
  let arg1 : BitVec 32 := BitVec.ofNat 32 (i 1).val
  let c0_i32 : BitVec 32 := 0#32
  let v2 : BitVec 1 := Scalar.cmpi .sgt arg1 c0_i32
  let v3 : BitVec 32 := Scalar.extui v2
  let c0_i32_0 : BitVec 32 := 0#32
  let v4 : BitVec 1 := Scalar.cmpi .slt arg1 c0_i32_0
  let v5 : BitVec 32 := Scalar.extui v4
  let v6 : BitVec 32 := Scalar.subi v3 v5
  let c2_i32 : BitVec 32 := 2#32
  let c0_i32_1 : BitVec 32 := 0#32
  let v7 : BitVec 1 := Scalar.cmpi .sgt c2_i32 c0_i32_1
  let v8 : BitVec 32 := Scalar.extui v7
  let c0_i32_2 : BitVec 32 := 0#32
  let v9 : BitVec 1 := Scalar.cmpi .slt c2_i32 c0_i32_2
  let v10 : BitVec 32 := Scalar.extui v9
  let v11 : BitVec 32 := Scalar.subi v8 v10
  let v12 : BitVec 1 := Scalar.cmpi .ne v6 v11
  let v13 : BitVec 32 := Scalar.remsi arg1 c2_i32
  let c0_i32_3 : BitVec 32 := 0#32
  let v14 : BitVec 1 := Scalar.cmpi .ne v13 c0_i32_3
  let v15 : BitVec 1 := Scalar.andi v12 v14
  let v1 : BitVec 32 := Scalar.divsi arg1 c2_i32
  let c1_i32 : BitVec 32 := 1#32
  let v16 : BitVec 32 := Scalar.subi v1 c1_i32
  let v17 : BitVec 32 := Scalar.select v15 v16 v1
  let v18 : BitVec 32 := Scalar.addi v0 v17
  let c2_i32_4 : BitVec 32 := 2#32
  let c0_i32_5 : BitVec 32 := 0#32
  let v19 : BitVec 1 := Scalar.cmpi .eq c2_i32_4 c0_i32_5
  let c1_i32_6 : BitVec 32 := 1#32
  let v20 : BitVec 32 := Scalar.select v19 c1_i32_6 c2_i32_4
  let v21 : BitVec 32 := Scalar.remsi arg1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c128_i32_141 : BitVec 32 := 128#32
  let v271 : BitVec 32 := Scalar.muli v28 c128_i32_141
  ![v18.toNat, v271.toNat]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S16x4096x256 : Shape := ⟨3, ![16, 4096, 256]⟩
abbrev S16x4096 : Shape := ⟨2, ![16, 4096]⟩
abbrev S16x4096x1 : Shape := ⟨3, ![16, 4096, 1]⟩
abbrev S_ : Shape := ⟨0, ![]⟩
abbrev S16x256 : Shape := ⟨2, ![16, 256]⟩
abbrev S16 : Shape := ⟨1, ![16]⟩
abbrev S16x1 : Shape := ⟨2, ![16, 1]⟩

abbrev nBuf : Space → Nat
  | .hbm => 13
  | .vmem => 0
  | .smem => 0
  | _ => 0

abbrev bufTy : (tb : Table) → Fin (tcTables nBuf tb) → BufTy
  | .hbm, ⟨0, _⟩ => ⟨S16x4096x256, .f32⟩
  | .hbm, ⟨1, _⟩ => ⟨S16x4096, .i1⟩
  | .hbm, ⟨2, _⟩ => ⟨S16x4096, .f32⟩
  | .hbm, ⟨3, _⟩ => ⟨S16x4096x1, .f32⟩
  | .hbm, ⟨4, _⟩ => ⟨S16x4096x256, .f32⟩
  | .hbm, ⟨5, _⟩ => ⟨S16x4096x256, .f32⟩
  | .hbm, ⟨6, _⟩ => ⟨S_, .f32⟩
  | .hbm, ⟨7, _⟩ => ⟨S16x256, .f32⟩
  | .hbm, ⟨8, _⟩ => ⟨S_, .f32⟩
  | .hbm, ⟨9, _⟩ => ⟨S16, .f32⟩
  | .hbm, ⟨10, _⟩ => ⟨S16x1, .f32⟩
  | .hbm, ⟨11, _⟩ => ⟨S16x256, .f32⟩
  | .hbm, ⟨12, _⟩ => ⟨S16x256, .f32⟩
  | _, _ => ⟨S16x4096x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩

abbrev nD : Nat := 1
abbrev τ : Topo := Topo.v7x

variable {F : FTy → Type} [FloatOps F]
-- ==== Proof.Blocks.lean ====
/- The unrolled blocks of the kernel's tile body, written once: the start of one indirect gather (`strt`) and the
   accumulation of one block of at most 128 gathered rows (`blk`), each with its ring, its semaphore and its place in the
   index list as parameters; the facts about a block's loop bounds from the number of rows selected; and the printed
   parts of the body, each of which is five of these blocks in turn. -/
module

public import proofs.«01_k».proof.Proof.Gen.KernelIdeal
public import proofs.«01_k».proof.Proof.Gen.KernelIdeal.Skeleton
public import Idealize.ShloMosaic.Lib.SparseCore.Ops
public import Idealize.ShloMosaic.Lib.SparseCore.Stream
public import Idealize.ShloMosaic.Lib.WordArith

@[expose] public section

noncomputable section

namespace Cert.Proof

open Cert.KernelIdeal Cert.KernelIdeal.Gen
open Idealize.ShloMosaic Idealize.SL.Sem

variable {F : FTy → Type} [FloatOps F]

/-- The effects of the tile at grid coordinates `i`. -/
abbrev TileE (F : FTy → Type) (i : grid0.Coords) :=
  TpuEff nD τ sig (Elt F) Λ₀ (.scVector ((i 0).castLE hcore0) ((i 1).castLE hsub0))

/-! ## A block's bounds -/

/-- How many rows the block starting at `off` holds when `v` are selected: at most 128. -/
abbrev cntW (v off : BitVec 32) : BitVec 32 := Scalar.minsi (Scalar.subi v off) 128#32

/-- The upper bound of its loop over rows. -/
abbrev rowsUb (v off : BitVec 32) : BitVec 32 :=
  Scalar.addi 0#32 (Scalar.muli (Scalar.divsi (Scalar.subi (cntW v off) 0#32) 1#32) 1#32)

/-- Its loop over rows, -/
@[reducible] def rowsL (v off : BitVec 32) : Scf.Loop 32 := ⟨0#32, rowsUb v off, 1#32⟩

/-- and the remainder loop after it. -/
@[reducible] def restL (v off : BitVec 32) : Scf.Loop 32 := ⟨rowsUb v off, Scalar.addi 0#32 (Scalar.subi (cntW v off) 0#32), 1#32⟩

/-- Whether the block starting at `off` has any row at all. -/
abbrev condW (v off : BitVec 32) : BitVec 1 := Scalar.cmpi .ne (Scalar.extui (Scalar.cmpi .sgt v off) : BitVec 32) 0#32

/-- Where lane chunk `j` of trip `t`'s row lies in the ring, when the loop starts at `lb`. -/
abbrev rowOff (lb : BitVec 32) (t j : ℕ) : Fin 2 → ℕ := ![(Scf.iv lb 1#32 t).toNat, j]

/-- Every trip of a loop from `lb` of `n` trips reads inside the ring. -/
abbrev RowsInb (lb : BitVec 32) (n : ℕ) : Prop :=
  ∀ t : Fin n, ∀ j : ℕ, j ≤ 112 → ∀ a, rowOff lb t.val j a + S1x16.size a ≤ S128x128.size a

/-- What a block's two loops need: a meaning, and reads inside the ring. -/
structure BlkOK (v off : BitVec 32) : Prop where
  rows : (rowsL v off).OK
  rest : (restL v off).OK
  rowsInb : RowsInb 0#32 (rowsL v off).trips
  restInb : RowsInb (rowsUb v off) (restL v off).trips

theorem divsi_one (x : BitVec 32) : Scalar.divsi x 1#32 = x := by
  have h : ¬ IntOp.SDivCorner x 1#32 := by
    rintro (h | ⟨-, h⟩)
    · exact absurd h (by decide)
    · exact absurd h (by decide)
  rw [Scalar.divsi, IntOp.divsi, if_neg h, BitVec.sdiv_one]

theorem rowsUb_eq (v off : BitVec 32) : rowsUb v off = cntW v off := by
  unfold rowsUb
  rw [divsi_one]
  simp [Scalar.addi, Scalar.muli, Scalar.subi, IntOp.addi, IntOp.muli, IntOp.subi]

theorem restUb_eq (v off : BitVec 32) : Scalar.addi 0#32 (Scalar.subi (cntW v off) 0#32) = cntW v off := by
  simp [Scalar.addi, Scalar.subi, IntOp.addi, IntOp.subi]

theorem toInt_cntW (v off : BitVec 32) : (cntW v off).toInt ≤ 128 := by
  simp only [cntW, Scalar.minsi, IntOp.minsi, BitVec.slt, decide_eq_true_eq]
  split
  · rename_i h; exact le_of_lt (lt_of_lt_of_eq h (by decide))
  · decide

theorem trips_zero_one (c : BitVec 32) : Scf.trips 0#32 c 1#32 = c.toInt.toNat := by
  have h0 : (0#32).toInt = 0 := by decide
  have h1 : (1#32).toInt = 1 := by decide
  simp only [Scf.trips, h0, h1]
  congr 1; omega

theorem trips_rows (v off : BitVec 32) : (rowsL v off).trips = (cntW v off).toInt.toNat := by
  show Scf.trips 0#32 (rowsUb v off) 1#32 = _
  rw [rowsUb_eq, trips_zero_one]

theorem trips_rest (v off : BitVec 32) : (restL v off).trips = 0 := by
  have h1 : (1#32).toInt = 1 := by decide
  show Scf.trips (rowsUb v off) (Scalar.addi 0#32 (Scalar.subi (cntW v off) 0#32)) 1#32 = 0
  rw [rowsUb_eq, restUb_eq]
  simp only [Scf.trips, h1]
  omega

theorem toNat_iv01 (t : ℕ) (h : t < 2 ^ 32) : (Scf.iv 0#32 1#32 t).toNat = t := by
  simp [Scf.iv]; omega

/-- A block's bounds are in order whatever is selected: the loop is as long as the block has rows, at most 128, and the
    remainder loop is empty. -/
theorem blkOK (v off : BitVec 32) : BlkOK v off where
  rows := by
    have h := toInt_cntW v off
    have ht := trips_rows v off
    have h0 : (0#32).toInt = 0 := by decide
    have h1 : (1#32).toInt = 1 := by decide
    refine ⟨(by decide : 0 < (1#32).toInt), ?_⟩
    show (0#32).toInt + ((rowsL v off).trips : ℤ) * (1#32).toInt < _
    rw [ht, h0, h1]
    omega
  rest := by
    have h := toInt_cntW v off
    have ht := trips_rest v off
    refine ⟨(by decide : 0 < (1#32).toInt), ?_⟩
    show (rowsUb v off).toInt + ((restL v off).trips : ℤ) * (1#32).toInt < _
    rw [ht, rowsUb_eq]
    omega
  rowsInb := fun t j hj a => by
    have h := toInt_cntW v off
    have ht := lt_of_lt_of_eq t.isLt (trips_rows v off)
    have hiv := toNat_iv01 t.val (by omega)
    fin_cases a
    · show (Scf.iv 0#32 1#32 t.val).toNat + 1 ≤ 128
      omega
    · show j + 16 ≤ 128
      omega
  restInb := fun t => absurd (lt_of_lt_of_eq t.isLt (trips_rest v off)) (Nat.not_lt_zero _)

set_option maxHeartbeats 4000000 in
/-- The checks the body makes of the count hold whatever it is. -/
theorem chk2_holds (v : BitVec 32) : k0_chk2 v := by
  unfold k0_chk2
  repeat' apply And.intro
  all_goals
    first
      | with_reducible exact fun _ => (blkOK v _).rows
      | with_reducible exact fun _ => (blkOK v _).rest
      | (with_reducible refine fun (t : Fin (rowsL v _).trips) _ => ?_); exact (blkOK v _).rowsInb t _ (by decide)
      | (with_reducible refine fun (t : Fin (restL v _).trips) _ => ?_); exact (blkOK v _).restInb t _ (by decide)

/-! ## The block's programs -/

/-- Eight registers of sixteen lanes: one row of 128. -/
abbrev Row8 (F : FTy → Type) :=
  Vec F S16 .f32 × Vec F S16 .f32 × Vec F S16 .f32 × Vec F S16 .f32 × Vec F S16 .f32 × Vec F S16 .f32 × Vec F S16 .f32 × Vec F S16 .f32

/-- One trip: the row's eight chunks read from the ring and added to the eight carried registers. -/
def rowBody (i : grid0.Coords) (ring : Memref sig .scVector .vmem S128x128 .f32) (lb : BitVec 32) (n : ℕ) (inb : RowsInb lb n)
    (t : Fin n) : Row8 F → Prog (TileE F i) (Row8 F) := fun (a0, a1, a2, a3, a4, a5, a6, a7) => do
  let r0 : Vec F S1x16 .f32 ← Prog.lift (.load ring (Rect.unit (s := S128x128) (rowOff lb t.val 0) S1x16.size (inb t 0 (by decide))).toLoadRect (View.loadsAt_vmem h_S1x16))
  let r1 : Vec F S1x16 .f32 ← Prog.lift (.load ring (Rect.unit (s := S128x128) (rowOff lb t.val 16) S1x16.size (inb t 16 (by decide))).toLoadRect (View.loadsAt_vmem h_S1x16))
  let r2 : Vec F S1x16 .f32 ← Prog.lift (.load ring (Rect.unit (s := S128x128) (rowOff lb t.val 32) S1x16.size (inb t 32 (by decide))).toLoadRect (View.loadsAt_vmem h_S1x16))
  let r3 : Vec F S1x16 .f32 ← Prog.lift (.load ring (Rect.unit (s := S128x128) (rowOff lb t.val 48) S1x16.size (inb t 48 (by decide))).toLoadRect (View.loadsAt_vmem h_S1x16))
  let r4 : Vec F S1x16 .f32 ← Prog.lift (.load ring (Rect.unit (s := S128x128) (rowOff lb t.val 64) S1x16.size (inb t 64 (by decide))).toLoadRect (View.loadsAt_vmem h_S1x16))
  let r5 : Vec F S1x16 .f32 ← Prog.lift (.load ring (Rect.unit (s := S128x128) (rowOff lb t.val 80) S1x16.size (inb t 80 (by decide))).toLoadRect (View.loadsAt_vmem h_S1x16))
  let r6 : Vec F S1x16 .f32 ← Prog.lift (.load ring (Rect.unit (s := S128x128) (rowOff lb t.val 96) S1x16.size (inb t 96 (by decide))).toLoadRect (View.loadsAt_vmem h_S1x16))
  let r7 : Vec F S1x16 .f32 ← Prog.lift (.load ring (Rect.unit (s := S128x128) (rowOff lb t.val 112) S1x16.size (inb t 112 (by decide))).toLoadRect (View.loadsAt_vmem h_S1x16))
  pure (k0_pay2 a0 r0, k0_pay2 a1 r1, k0_pay2 a2 r2, k0_pay2 a3 r3, k0_pay2 a4 r4, k0_pay2 a5 r5, k0_pay2 a6 r6, k0_pay2 a7 r7)

/-- Chunk `j` of the accumulator, as a load reads it, -/
def ldAcc (i : grid0.Coords) (accv : Memref sig .scVector .vmem S128 .f32) (j : ℕ) (inb : ∀ a, (![j] : Fin 1 → ℕ) a + S16.size a ≤ S128.size a) :
    Prog (TileE F i) (Vec F S16 .f32) :=
  Prog.lift (.load accv (Rect.unit (s := S128) ![j] S16.size inb).toLoadRect (View.loadsAt_vmem h_S16))

/-- and the store of one. -/
def stAcc (i : grid0.Coords) (accv : Memref sig .scVector .vmem S128 .f32) (j : ℕ) (inb : ∀ a, (![j] : Fin 1 → ℕ) a + S16.size a ≤ S128.size a)
    (w : Vec F S16 .f32) : Prog (TileE F i) PUnit :=
  Prog.lift (.store accv (Rect.unit (s := S128) ![j] S16.size inb) w Finset.univ (View.stores_vmem_bits_univ h_S16 rfl) (.inl rfl))

/-- A block that has rows: its gather awaited, the accumulator's eight chunks loaded, the rows added, the chunks stored
    — all but the last, which is returned. -/
def blkPart (i : grid0.Coords) (tbl : Memref sig .scVector .hbm S131072x128 .f32)
    (ring : Memref sig .scVector .vmem S128x128 .f32) (hring : ring.IsWhole) (accv : Memref sig .scVector .vmem S128 .f32)
    (sem : DmaSems sig S_) (v off : BitVec 32) : Prog (TileE F i) (Vec F S16 .f32) := do
  SparseCore.waitIndirectGather sem.sem (tbl.slice (Rect.unit (s := S131072x128) ![0, 0] S131072x128.size inb_S131072x128_S131072x128_0_0) (fun _ => rfl))
    ring (View.wordExact_bits rfl) hring.wordExact
  let a0 ← ldAcc i accv 0 inb_S128_S16_0
  let a1 ← ldAcc i accv 16 inb_S128_S16_16
  let a2 ← ldAcc i accv 32 inb_S128_S16_32
  let a3 ← ldAcc i accv 48 inb_S128_S16_48
  let a4 ← ldAcc i accv 64 inb_S128_S16_64
  let a5 ← ldAcc i accv 80 inb_S128_S16_80
  let a6 ← ldAcc i accv 96 inb_S128_S16_96
  let a7 ← ldAcc i accv 112 inb_S128_S16_112
  let b ← Scf.Loop.for (rowsL v off) (blkOK v off).rows (a0, a1, a2, a3, a4, a5, a6, a7) (rowBody i ring 0#32 (rowsL v off).trips (blkOK v off).rowsInb)
  let (c0, c1, c2, c3, c4, c5, c6, c7) ← Scf.Loop.for (restL v off) (blkOK v off).rest b (rowBody i ring (rowsUb v off) (restL v off).trips (blkOK v off).restInb)
  let _ ← ldAcc (F := F) i accv 0 inb_S128_S16_0
  stAcc i accv 0 inb_S128_S16_0 c0
  let _ ← ldAcc (F := F) i accv 16 inb_S128_S16_16
  stAcc i accv 16 inb_S128_S16_16 c1
  let _ ← ldAcc (F := F) i accv 32 inb_S128_S16_32
  stAcc i accv 32 inb_S128_S16_32 c2
  let _ ← ldAcc (F := F) i accv 48 inb_S128_S16_48
  stAcc i accv 48 inb_S128_S16_48 c3
  let _ ← ldAcc (F := F) i accv 64 inb_S128_S16_64
  stAcc i accv 64 inb_S128_S16_64 c4
  let _ ← ldAcc (F := F) i accv 80 inb_S128_S16_80
  stAcc i accv 80 inb_S128_S16_80 c5
  let _ ← ldAcc (F := F) i accv 96 inb_S128_S16_96
  stAcc i accv 96 inb_S128_S16_96 c6
  let _ ← ldAcc (F := F) i accv 112 inb_S128_S16_112
  pure c7

/-- The gather of the block whose list starts at `lo`, started when `b` says it has rows; then `k`. -/
def strt (i : grid0.Coords) (tbl : Memref sig .scVector .hbm S131072x128 .f32) (idx : Memref sig .scVector .vmem S4112 .i32)
    (ring : Memref sig .scVector .vmem S128x128 .f32) (hring : ring.IsWhole) (sem : DmaSems sig S_) (b : BitVec 1) (lo : ℕ)
    (inb : ∀ a, (![lo] : Fin 1 → ℕ) a + S128.size a ≤ S4112.size a) {α : Type} (k : Prog (TileE F i) α) : Prog (TileE F i) α :=
  if b = 1#1 then do
    SparseCore.enqueueIndirectGather rfl
      (tbl.slice (Rect.unit (s := S131072x128) ![0, 0] S131072x128.size inb_S131072x128_S131072x128_0_0) (fun _ => rfl)) ring
      gathers_S131072x128_S128x128 (idx.slice (Rect.unit (s := S4112) ![lo] S128.size inb) (fun _ => rfl)) rfl sem.sem (View.wordExact_bits rfl) rfl (Or.inl rfl)
    k
  else k

/-- The block starting at `off`, run when it has rows; then `k`. -/
def blk (i : grid0.Coords) (tbl : Memref sig .scVector .hbm S131072x128 .f32)
    (ring : Memref sig .scVector .vmem S128x128 .f32) (hring : ring.IsWhole) (accv : Memref sig .scVector .vmem S128 .f32)
    (sem : DmaSems sig S_) (v off : BitVec 32) {α : Type} (k : Prog (TileE F i) α) : Prog (TileE F i) α :=
  if h : condW v off = 1#1 then do
    let c7 ← blkPart i tbl ring hring accv sem v off
    stAcc i accv 112 inb_S128_S16_112 c7
    k
  else k

/-- A list of 128 row numbers starting at `lo` lies inside the index list. -/
theorem list_inb {lo : ℕ} (h : lo + 128 ≤ 4112) : ∀ a, (![lo] : Fin 1 → ℕ) a + S128.size a ≤ S4112.size a
  | 0 => h

section Pairs

variable (i : grid0.Coords) (tbl : Memref sig .scVector .hbm S131072x128 .f32) (idx : Memref sig .scVector .vmem S4112 .i32)
  (rA : Memref sig .scVector .vmem S128x128 .f32) (hA : rA.IsWhole) (rB : Memref sig .scVector .vmem S128x128 .f32) (hB : rB.IsWhole)
  (accv : Memref sig .scVector .vmem S128 .f32) (sA sB : DmaSems sig S_) (v : BitVec 32)

/-- The gather of the block after the one at `o` started, when `b`, then the block at `o` run; then `k`. -/
def pair (b : BitVec 1) (o : ℕ) (ho : o + 256 ≤ 4112) {α : Type} (k : Prog (TileE F i) α) : Prog (TileE F i) α :=
  strt i tbl idx rB hB sB b (o + 128) (list_inb (by omega)) (blk i tbl rA hA accv sA v (BitVec.ofNat 32 o) k)

/-- Five blocks in turn from `o`, each with the start of the next one's gather before it; `b` is the first start's
    condition, as the part before computed it. -/
def five (b : BitVec 1) (o : ℕ) (ho : o + 768 ≤ 4112) : Prog (TileE F i) (BitVec 32) :=
  pair i tbl idx rA hA rB hB accv sA sB v b o (by omega) <|
  pair i tbl idx rB hB rA hA accv sB sA v (condW v (BitVec.ofNat 32 (o + 256))) (o + 128) (by omega) <|
  pair i tbl idx rA hA rB hB accv sA sB v (condW v (BitVec.ofNat 32 (o + 384))) (o + 256) (by omega) <|
  pair i tbl idx rB hB rA hA accv sB sA v (condW v (BitVec.ofNat 32 (o + 512))) (o + 384) (by omega) <|
  pair i tbl idx rA hA rB hB accv sA sB v (condW v (BitVec.ofNat 32 (o + 640))) (o + 512) (by omega) <|
  pure (Scalar.extui (Scalar.cmpi .sgt v (BitVec.ofNat 32 (o + 768))))

/-- Chunk `j` of the accumulator divided by the number of rows. -/
def divChunk (j : ℕ) (inb : ∀ a, (![j] : Fin 1 → ℕ) a + S16.size a ≤ S128.size a) : Prog (TileE F i) PUnit := do
  let x ← ldAcc i accv j inb
  let _ ← ldAcc (F := F) i accv j inb
  stAcc i accv j inb (k0_pay529 v x)

/-- The last two blocks, and the first seven chunks' division as far as the last of them is loaded. -/
def lastTwo (b : BitVec 1) : Prog (TileE F i) (Σ' (v246 : FVec F S16 .f32), FVec F S16 .f32) :=
  pair i tbl idx rA hA rB hB accv sA sB v b 3840 (by omega) <|
  blk i tbl rB hB accv sB v 3968#32 <| do
    divChunk i accv v 0 inb_S128_S16_0
    divChunk i accv v 16 inb_S128_S16_16
    divChunk i accv v 32 inb_S128_S16_32
    divChunk i accv v 48 inb_S128_S16_48
    divChunk i accv v 64 inb_S128_S16_64
    divChunk i accv v 80 inb_S128_S16_80
    let x ← ldAcc i accv 96 inb_S128_S16_96
    pure ⟨k0_pay528 v, k0_pay529 v x⟩

end Pairs

section Parts

variable (i : grid0.Coords) (arg2 : Memref sig .scVector .hbm S131072x128 .f32) (harg2 : arg2.IsWhole)
  (arg3 : Memref sig .scVector .hbm S65536 .i32) (harg3 : arg3.IsWhole) (arg4 : Memref sig .scVector .hbm S16x256 .f32) (harg4 : arg4.IsWhole)
  (arg5 : Memref sig .scVector .vmem S4096 .i32) (harg5 : arg5.IsWhole) (arg6 : Memref sig .scVector .vmem S4112 .i32) (harg6 : arg6.IsWhole)
  (arg7 : Memref sig .scVector .vmem S128x128 .f32) (harg7 : arg7.IsWhole) (arg8 : Memref sig .scVector .vmem S128x128 .f32) (harg8 : arg8.IsWhole)
  (arg9 : Memref sig .scVector .vmem S128 .f32) (harg9 : arg9.IsWhole) (arg10 arg11 r0 r1 : DmaSems sig S_)
  (v : BitVec 32) (hw : k0_chk2 v)

/-- The printed parts: five blocks each, even and odd starts in alternation. -/
theorem part35_eq (b : BitVec 32) :
    k0_part35 (F := F) i arg2 harg2 arg3 harg3 arg4 harg4 arg5 harg5 arg6 harg6 arg7 harg7 arg8 harg8 arg9 harg9 arg10 arg11 r0 r1 v hw b
      = five i arg2 arg6 arg7 harg7 arg8 harg8 arg9 arg10 arg11 v (Scalar.cmpi .ne b 0#32) 0 (by decide) := rfl

theorem part36_eq (b : BitVec 32) :
    k0_part36 (F := F) i arg2 harg2 arg3 harg3 arg4 harg4 arg5 harg5 arg6 harg6 arg7 harg7 arg8 harg8 arg9 harg9 arg10 arg11 r0 r1 v hw b
      = five i arg2 arg6 arg8 harg8 arg7 harg7 arg9 arg11 arg10 v (Scalar.cmpi .ne b 0#32) 640 (by decide) := rfl

theorem part37_eq (b : BitVec 32) :
    k0_part37 (F := F) i arg2 harg2 arg3 harg3 arg4 harg4 arg5 harg5 arg6 harg6 arg7 harg7 arg8 harg8 arg9 harg9 arg10 arg11 r0 r1 v hw b
      = five i arg2 arg6 arg7 harg7 arg8 harg8 arg9 arg10 arg11 v (Scalar.cmpi .ne b 0#32) 1280 (by decide) := rfl

theorem part38_eq (b : BitVec 32) :
    k0_part38 (F := F) i arg2 harg2 arg3 harg3 arg4 harg4 arg5 harg5 arg6 harg6 arg7 harg7 arg8 harg8 arg9 harg9 arg10 arg11 r0 r1 v hw b
      = five i arg2 arg6 arg8 harg8 arg7 harg7 arg9 arg11 arg10 v (Scalar.cmpi .ne b 0#32) 1920 (by decide) := rfl

theorem part39_eq (b : BitVec 32) :
    k0_part39 (F := F) i arg2 harg2 arg3 harg3 arg4 harg4 arg5 harg5 arg6 harg6 arg7 harg7 arg8 harg8 arg9 harg9 arg10 arg11 r0 r1 v hw b
      = five i arg2 arg6 arg7 harg7 arg8 harg8 arg9 arg10 arg11 v (Scalar.cmpi .ne b 0#32) 2560 (by decide) := rfl

theorem part40_eq (b : BitVec 32) :
    k0_part40 (F := F) i arg2 harg2 arg3 harg3 arg4 harg4 arg5 harg5 arg6 harg6 arg7 harg7 arg8 harg8 arg9 harg9 arg10 arg11 r0 r1 v hw b
      = five i arg2 arg6 arg8 harg8 arg7 harg7 arg9 arg11 arg10 v (Scalar.cmpi .ne b 0#32) 3200 (by decide) := rfl

theorem part41_eq (b : BitVec 32) :
    k0_part41 (F := F) i arg2 harg2 arg3 harg3 arg4 harg4 arg5 harg5 arg6 harg6 arg7 harg7 arg8 harg8 arg9 harg9 arg10 arg11 r0 r1 v hw b
      = lastTwo i arg2 arg6 arg7 harg7 arg8 harg8 arg9 arg10 arg11 v (Scalar.cmpi .ne b 0#32) := rfl

end Parts

end Cert.Proof
-- ==== Proof.Common.lean ====
/- What the launch's proof is set in: the program as the launch theorem sees it, the resources it keeps, and what a tile
   holds of a memref (`Holds`: a share of its elements, and what they read), with a load's and a store's step over it. -/
module

public import proofs.«01_k».proof.Proof.Blocks
public import Idealize.ShloMosaic.Lib.SparseCore.Quiescent
public import Idealize.ShloMosaic.Lib.StableHlo.Run
public import Idealize.ShloMosaic.Lib.Pipeline.Kit
public import Idealize.ShloMosaic.Lib.Tactic

@[expose] public section

noncomputable section

namespace Cert.Proof

open Cert.KernelIdeal Cert.KernelIdeal.Gen
open Idealize.ShloMosaic
open Idealize.ShloMosaic.SparseCore (S V T)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

/-! ## A tile -/

abbrev cV (L : grid0.Coords) : Fin τ.nSC := (L 0).castLE hcore0
abbrev jV (L : grid0.Coords) : Fin τ.nSub := (L 1).castLE hsub0

/-- The thread of the tile at grid coordinates `L`. -/
abbrev thr (d : Dev nD) (L : grid0.Coords) : Thread nD τ := V d (cV L) (jV L)

/-- What a tile holds of a memref: a share of its elements, which read `g`. -/
def Holds (d : Dev nD) (L : grid0.Coords) {sp : Space} {s : Shape} {e : EltTy} (m : Memref sig .scVector sp s e) (q : PosShare TreeShare)
    (g : s.Idx → Elt F e) : sProp 𝕄 :=
  iprop(∃ f : Buf (Elt F) (m.view.loc (thr d L)), ⌜m.view.read (Elt F) f = g⌝ ∗ m.view.loc (thr d L) ↦[m.view.set]{q} f)

/-- `g` with the elements under the rectangle `r` replaced by `w`. -/
def put {s : Shape} {α : Type} (r : Rect s) (g : s.Idx → α) (w : r.shape.Idx → α) : s.Idx → α :=
  fun y => open Classical in if h : ∃ x, r.emb x = y then w h.choose else g y

theorem put_emb {s : Shape} {α : Type} (r : Rect s) (g : s.Idx → α) (w : r.shape.Idx → α) (x : r.shape.Idx) : put r g w (r.emb x) = w x := by
  have h : ∃ x', r.emb x' = r.emb x := ⟨x, rfl⟩
  unfold put
  rw [dif_pos h, r.emb.injective h.choose_spec]

theorem put_of_ne {s : Shape} {α : Type} (r : Rect s) (g : s.Idx → α) (w : r.shape.Idx → α) (y : s.Idx) (h : ∀ x, r.emb x ≠ y) :
    put r g w y = g y := by
  unfold put
  rw [dif_neg (fun ⟨x, hx⟩ => h x hx)]

section Steps

variable [FloatOps F] (d : Dev nD) (L : grid0.Coords)

/-- The `wp` of a tile's program. -/
abbrev wpT {α : Type} (p : Prog (TileE F L) α) (Q : α → sProp 𝕄) : sProp 𝕄 :=
  wp frame (wpE (defs₀ (F := F)) 𝒱₀ (thr d L) none) Set.univ p Q

/-- A load through a rectangle reads the memref's elements under it. -/
theorem wp_ld {α : Type} {Q : α → sProp 𝕄} {cs : CoreSpace} {s : Shape} {e : EltTy} {m : Memref sig .scVector cs s e} {r : Rect s} {hl : m.view.LoadsAt r}
    {k : (r.shape.Idx → Elt F e) → Prog (TileE F L) α} {q : PosShare TreeShare} {g : s.Idx → Elt F e} :
    Holds d L m q g ⊢ iprop((Holds d L m q g -∗ wpT d L (k fun x => g (r.emb x)) Q) -∗ wpT d L (.op (.load m r hl) k) Q) := by
  unfold Holds
  iintro ⟨%f, %hf, Hm⟩ Hk
  iapply (wp_load_rect 𝒱₀ (thr d L) none Set.univ (S := m.view.set) (View.set_slice_subset _ _)) $$ [Hm]
  · iexact Hm
  iintro Hm
  rw [show (m.access r).read (Elt F) f = fun x => g (r.emb x) from funext fun x => by rw [← hf]; rfl]
  iapply Hk
  iexists f
  isplitr; · ipureintro; exact hf
  iexact Hm

/-- A store through a rectangle replaces them. -/
theorem wp_st {α : Type} {Q : α → sProp 𝕄} {cs : CoreSpace} {s : Shape} {e : EltTy} {m : Memref sig .scVector cs s e} {r : Rect s} {w : r.shape.Idx → Elt F e}
    {hx : (m.access r).Stores Finset.univ} {hm : (Finset.univ : Finset r.shape.Idx) = Finset.univ ∨ ∀ a, r.stride a = 1}
    {k : PUnit → Prog (TileE F L) α} {g : s.Idx → Elt F e} :
    Holds d L m fullShare g ⊢ iprop((Holds d L m fullShare (put r g w) -∗ wpT d L (k ⟨⟩) Q)
      -∗ wpT d L (.op (.store m r w Finset.univ hx hm) k) Q) := by
  unfold Holds
  iintro ⟨%f, %hf, Hm⟩ Hk
  iapply (wp_store 𝒱₀ (thr d L) none Set.univ (S := m.view.set) (View.set_slice_subset _ _)) $$ [Hm]
  · iexact Hm
  iintro Hm
  iapply Hk
  iexists ((m.access r).write (Elt F) f w Finset.univ)
  isplitr
  · ipureintro
    funext y
    by_cases h : ∃ x, r.emb x = y
    · obtain ⟨x, rfl⟩ := h
      rw [put_emb]; exact View.read_slice_write_emb (v := m.view) r f w (Finset.mem_univ x)
    · have h' : ∀ x, r.emb x ≠ y := fun x hx => h ⟨x, hx⟩
      rw [put_of_ne _ _ _ _ h', ← hf]
      exact View.read_slice_write_of_not_mem (v := m.view) r f w _ fun hm => by
        obtain ⟨x, -, hx⟩ := Finset.mem_map.mp hm; exact h' x hx
  iexact Hm

end Steps

end Cert.Proof
-- ==== Proof.Rows.lean ====
/- The accumulation as a tile performs it: what the accumulator holds after the first `n` selected rows (`accAt`), the loop
   over a block's rows, the gather that brings them, and the run of a block and of the start before it, over what the two
   rings are doing (`Idle`, `Busy`). -/
module

public import proofs.«01_k».proof.Proof.Common
public import Idealize.ShloMosaic.Lib.Pipeline.Value
public import Idealize.ShloMosaic.Lib.ValueIdxCore

@[expose] public section

noncomputable section

namespace Cert.Proof

open Cert.KernelIdeal Cert.KernelIdeal.Gen
open Idealize.ShloMosaic
open Idealize.ShloMosaic.SparseCore (S V T)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx (ix1 ix2)

variable {F : FTy → Type} [FloatOps F]

local notation "𝕄" => MT nD τ sig (HIx 1) (Elt F) ℕ UU ℕ

/-! ## The values -/

/-- Chunk `j` of a row of 128: the sixteen lanes from `j`. -/
def chunk (g : S128.Idx → F .f32) (j : ℕ) (inb : ∀ a, (![j] : Fin 1 → ℕ) a + S16.size a ≤ S128.size a) : Vec F S16 .f32 :=
  fun x => g ((Rect.unit (s := S128) ![j] S16.size inb).emb x)

/-- The eight chunks of a row. -/
def row8 (g : S128.Idx → F .f32) : Row8 F :=
  (chunk g 0 inb_S128_S16_0, chunk g 16 inb_S128_S16_16, chunk g 32 inb_S128_S16_32, chunk g 48 inb_S128_S16_48,
    chunk g 64 inb_S128_S16_64, chunk g 80 inb_S128_S16_80, chunk g 96 inb_S128_S16_96, chunk g 112 inb_S128_S16_112)

/-- The accumulator after the first `n` rows of the list `row`. -/
def accAt (tab : S131072x128.Idx → F .f32) (row : ℕ → Fin 131072) : ℕ → S128.Idx → F .f32
  | 0 => fun _ => Scalar.ofBits .f32 0x00000000#32
  | n + 1 => fun y => FloatOps.addf (accAt tab row n y) (tab (ix2 (row n) (y 0)))

/-- A row of the ring added to the accumulator. -/
def addRow (a : S128.Idx → F .f32) (G : S128x128.Idx → F .f32) (t : Fin 128) : S128.Idx → F .f32 :=
  fun y => FloatOps.addf (a y) (G (ix2 t (y 0)))

/-- The ring once the block of the list from `o` is in it. -/
def ringAt (tab : S131072x128.Idx → F .f32) (row : ℕ → Fin 131072) (o : ℕ) : S128x128.Idx → F .f32 :=
  fun y => tab (ix2 (row (o + (y 0).val)) (y 1))

/-- The index list: the words of the row numbers. -/
def lst (row : ℕ → Fin 131072) : S4112.Idx → BitVec 32 := fun y => BitVec.ofNat 32 (row (y 0).val).val

/-- `h` on the first `m` lanes, `g` on the rest. -/
def upto {α : Type} {n : ℕ} (g h : (⟨1, ![n]⟩ : Shape).Idx → α) (m : ℕ) : (⟨1, ![n]⟩ : Shape).Idx → α :=
  fun y => if (y 0).val < m then h y else g y

theorem upto_zero {α : Type} {n : ℕ} (g h : (⟨1, ![n]⟩ : Shape).Idx → α) : upto g h 0 = g := rfl

theorem upto_full {α : Type} {n : ℕ} (g h : (⟨1, ![n]⟩ : Shape).Idx → α) : upto g h n = h :=
  funext fun y => if_pos (y 0).isLt

/-- Writing the next sixteen lanes of `h`. -/
theorem put_upto {α : Type} {n : ℕ} (g h : (⟨1, ![n]⟩ : Shape).Idx → α) (j : ℕ)
    (inb : ∀ a, (![j] : Fin 1 → ℕ) a + S16.size a ≤ (⟨1, ![n]⟩ : Shape).size a) :
    put (Rect.unit (s := ⟨1, ![n]⟩) ![j] S16.size inb) (upto g h j) (fun x => h ((Rect.unit (s := ⟨1, ![n]⟩) ![j] S16.size inb).emb x))
      = upto g h (j + 16) := by
  funext y
  by_cases hy : j ≤ (y 0).val ∧ (y 0).val < j + 16
  · have he : (Rect.unit (s := ⟨1, ![n]⟩) ![j] S16.size inb).emb (ix1 (⟨(y 0).val - j, by omega⟩ : Fin 16)) = y := by
      funext a
      match a with
      | 0 => refine Fin.ext ?_; rw [Rect.emb_apply]; show j + 1 * ((y 0).val - j) = (y 0).val; omega
    conv_lhs => rw [← he]
    rw [put_emb, he]
    unfold upto; rw [if_pos hy.2]
  · rw [put_of_ne]
    · unfold upto
      by_cases h1 : (y 0).val < j
      · rw [if_pos h1, if_pos (by omega)]
      · rw [if_neg h1, if_neg (by omega)]
    · intro x hx
      apply hy
      have h0 : (y 0).val = j + 1 * (x 0).val := by rw [← hx, Rect.emb_apply]; rfl
      have h1 : (x 0).val < 16 := (x 0).isLt
      omega

/-- The chunk at `j` is not touched while the chunks before it are written. -/
theorem chunk_upto (g h : S128.Idx → F .f32) (j : ℕ) (inb : ∀ a, (![j] : Fin 1 → ℕ) a + S16.size a ≤ S128.size a) :
    chunk (upto g h j) j inb = chunk g j inb := by
  funext x
  unfold chunk upto
  rw [if_neg]
  rw [Rect.emb_apply]
  show ¬ (j + 1 * (x 0).val < j)
  omega

/-- What a load of chunk `j` of trip `k`'s row reads. -/
abbrev ringLd (G : S128x128.Idx → F .f32) (lb : BitVec 32) (k j : ℕ) (inb : ∀ a, rowOff lb k j a + S1x16.size a ≤ S128x128.size a) :
    (Rect.unit (s := S128x128) (rowOff lb k j) S1x16.size inb).shape.Idx → F .f32 :=
  fun x => G ((Rect.unit (s := S128x128) (rowOff lb k j) S1x16.size inb).emb x)

/-- One chunk of one row added. -/
theorem pay2_chunk (a : S128.Idx → F .f32) (G : S128x128.Idx → F .f32) (t : Fin 128) (lb : BitVec 32) (k : ℕ)
    (hk : (Scf.iv lb 1#32 k).toNat = t.val) (j : ℕ) (inb : ∀ a, (![j] : Fin 1 → ℕ) a + S16.size a ≤ S128.size a)
    (inb2 : ∀ a, rowOff lb k j a + S1x16.size a ≤ S128x128.size a) :
    k0_pay2 (chunk a j inb) (ringLd G lb k j inb2)
      = chunk (addRow a G t) j inb := by
  funext x
  refine congrArg (FloatOps.addf (chunk a j inb x)) ((shapeCast_dropUnit_apply (n := 1) ![16] _ _ x).trans (congrArg G ?_))
  funext b
  match b with
  | 0 => refine Fin.ext ?_; rw [Rect.emb_apply]; show (Scf.iv lb 1#32 k).toNat + 1 * 0 = t.val; omega
  | 1 => refine Fin.ext ?_; rw [Rect.emb_apply]; rfl

/-- All eight. -/
theorem row8_add (a : S128.Idx → F .f32) (G : S128x128.Idx → F .f32) (t : Fin 128) (lb : BitVec 32) (k : ℕ)
    (hk : (Scf.iv lb 1#32 k).toNat = t.val) (inb : ∀ j : ℕ, j ≤ 112 → ∀ a, rowOff lb k j a + S1x16.size a ≤ S128x128.size a) :
    ((k0_pay2 (chunk a 0 inb_S128_S16_0) (ringLd G lb k 0 (inb 0 (by decide))),
      k0_pay2 (chunk a 16 inb_S128_S16_16) (ringLd G lb k 16 (inb 16 (by decide))),
      k0_pay2 (chunk a 32 inb_S128_S16_32) (ringLd G lb k 32 (inb 32 (by decide))),
      k0_pay2 (chunk a 48 inb_S128_S16_48) (ringLd G lb k 48 (inb 48 (by decide))),
      k0_pay2 (chunk a 64 inb_S128_S16_64) (ringLd G lb k 64 (inb 64 (by decide))),
      k0_pay2 (chunk a 80 inb_S128_S16_80) (ringLd G lb k 80 (inb 80 (by decide))),
      k0_pay2 (chunk a 96 inb_S128_S16_96) (ringLd G lb k 96 (inb 96 (by decide))),
      k0_pay2 (chunk a 112 inb_S128_S16_112) (ringLd G lb k 112 (inb 112 (by decide)))) : Row8 F)
      = row8 (addRow a G t) := by
  unfold row8
  rw [pay2_chunk a G t lb k hk 0, pay2_chunk a G t lb k hk 16, pay2_chunk a G t lb k hk 32, pay2_chunk a G t lb k hk 48,
    pay2_chunk a G t lb k hk 64, pay2_chunk a G t lb k hk 80, pay2_chunk a G t lb k hk 96, pay2_chunk a G t lb k hk 112]

/-! ## The accumulator's and the ring's steps -/

section Steps

variable (d : Dev nD) (L : grid0.Coords)

/-- The end of a program. -/
theorem wp_done {α : Type} {Q : α → sProp 𝕄} {a : α} : Q a ⊢ wpT d L (pure a) Q := by
  unfold wpT; rw [wp_pure]; exact fupd_intro

theorem wpT_bind {α β : Type} {Q : β → sProp 𝕄} {p : Prog (TileE F L) α} {k : α → Prog (TileE F L) β} :
    wpT d L (p >>= k) Q = wpT d L p (fun a => wpT d L (k a) Q) := wp_bind ..

theorem wp_ldAcc {α : Type} {Q : α → sProp 𝕄} {accv : Memref sig .scVector .vmem S128 .f32} {j : ℕ} {inb} {g : S128.Idx → F .f32}
    {k : Vec F S16 .f32 → Prog (TileE F L) α} :
    Holds d L accv fullShare g ⊢ iprop((Holds d L accv fullShare g -∗ wpT d L (k (chunk g j inb)) Q) -∗ wpT d L (ldAcc L accv j inb >>= k) Q) :=
  wp_ld d L (m := accv) (r := Rect.unit (s := S128) ![j] S16.size inb) (hl := View.loadsAt_vmem h_S16) (k := k)

/-- The chunk at `j` stored, those before it stored already. -/
theorem wp_stAcc {α : Type} {Q : α → sProp 𝕄} {accv : Memref sig .scVector .vmem S128 .f32} {j : ℕ} {inb} {g h : S128.Idx → F .f32}
    {k : PUnit → Prog (TileE F L) α} :
    Holds d L accv fullShare (upto g h j) ⊢ iprop((Holds d L accv fullShare (upto g h (j + 16)) -∗ wpT d L (k ⟨⟩) Q)
      -∗ wpT d L (stAcc L accv j inb (chunk h j inb) >>= k) Q) := by
  rw [← put_upto g h j inb]
  exact wp_st d L (m := accv) (r := Rect.unit (s := S128) ![j] S16.size inb) (k := k)

theorem wp_rowBody {Q : Row8 F → sProp 𝕄} {ring : Memref sig .scVector .vmem S128x128 .f32} {n : ℕ} {inb : RowsInb 0#32 n} (k : Fin n) (hn : n ≤ 128)
    {a : S128.Idx → F .f32} {G : S128x128.Idx → F .f32} :
    Holds d L ring fullShare G ⊢ iprop((Holds d L ring fullShare G
        -∗ Q (row8 (addRow a G ⟨k.val, lt_of_lt_of_le k.isLt hn⟩)))
      -∗ wpT d L (rowBody L ring 0#32 n inb k (row8 a)) Q) := by
  have hk : (Scf.iv 0#32 1#32 k.val).toNat = (⟨k.val, lt_of_lt_of_le k.isLt hn⟩ : Fin 128).val := toNat_iv01 _ (by have := k.isLt; omega)
  generalize hb : row8 (addRow a G _) = b
  iintro H Hk
  unfold rowBody row8
  iapply wp_ld d L $$ H; iintro H
  iapply wp_ld d L $$ H; iintro H
  iapply wp_ld d L $$ H; iintro H
  iapply wp_ld d L $$ H; iintro H
  iapply wp_ld d L $$ H; iintro H
  iapply wp_ld d L $$ H; iintro H
  iapply wp_ld d L $$ H; iintro H
  iapply wp_ld d L $$ H; iintro H
  iapply wp_done d L
  iapply (Entails.of_eq (congrArg Q ((row8_add a G _ 0#32 k.val hk (inb k)).trans hb).symm))
  iapply Hk $$ H

/-- The loop over a block's rows. -/
theorem wp_rows {Q : Row8 F → sProp 𝕄} {ring : Memref sig .scVector .vmem S128x128 .f32} {v off : BitVec 32}
    {tab : S131072x128.Idx → F .f32} {row : ℕ → Fin 131072} {o : ℕ} :
    Holds d L ring fullShare (ringAt tab row o) ⊢ iprop((Holds d L ring fullShare (ringAt tab row o)
        -∗ Q (row8 (accAt tab row (o + (rowsL v off).trips))))
      -∗ wpT d L (Scf.Loop.for (rowsL v off) (blkOK v off).rows (row8 (accAt tab row o))
        (rowBody L ring 0#32 (rowsL v off).trips (blkOK v off).rowsInb)) Q) := by
  have hn : (rowsL v off).trips ≤ 128 := by
    have := toInt_cntW v off; rw [trips_rows]; omega
  have hf := Scf.wp_for frame (wpE (defs₀ (F := F)) 𝒱₀ (thr d L) none) Set.univ (rowsL v off).lb (rowsL v off).ub (rowsL v off).st (Q := Q)
    (blkOK v off).rows (row8 (accAt tab row o)) (rowBody L ring 0#32 (rowsL v off).trips (blkOK v off).rowsInb)
    (fun t acc => iprop(⌜acc = row8 (accAt tab row (o + t))⌝ ∗ Holds d L ring fullShare (ringAt tab row o)))
    (fun t acc => by
      iintro ⟨%hacc, H⟩
      subst hacc
      iapply wp_rowBody d L t hn $$ H
      iintro H
      isplitr
      · ipureintro; rfl
      iexact H)
  iintro H Hk
  iapply hf
  isplitl [H]
  · isplitr
    · ipureintro; rfl
    iexact H
  iintro %acc ⟨%hacc, H⟩
  subst hacc
  iapply Hk $$ H

/-- The remainder loop has no trips. -/
theorem wp_rest {Q : Row8 F → sProp 𝕄} {v off : BitVec 32} {a : Row8 F} {body : Fin (restL v off).trips → Row8 F → Prog (TileE F L) (Row8 F)} :
    Q a ⊢ wpT d L (Scf.Loop.for (restL v off) (blkOK v off).rest a body) Q := by
  have hf := Scf.wp_for frame (wpE (defs₀ (F := F)) 𝒱₀ (thr d L) none) Set.univ (restL v off).lb (restL v off).ub (restL v off).st (Q := Q)
    (blkOK v off).rest a body (fun t acc => iprop(⌜acc = a⌝))
    (fun t acc => absurd (lt_of_lt_of_eq t.isLt (trips_rest v off)) (Nat.not_lt_zero _))
  iintro H
  iapply hf
  isplitr
  · ipureintro; rfl
  iintro %acc %hacc
  subst hacc
  iexact H

/-- Both loops at the head of a program. -/
theorem wp_rows_bind {α : Type} {Q : α → sProp 𝕄} {ring : Memref sig .scVector .vmem S128x128 .f32} {v off : BitVec 32}
    {tab : S131072x128.Idx → F .f32} {row : ℕ → Fin 131072} {o : ℕ} {k : Row8 F → Prog (TileE F L) α} :
    Holds d L ring fullShare (ringAt tab row o) ⊢ iprop((Holds d L ring fullShare (ringAt tab row o)
        -∗ wpT d L (k (row8 (accAt tab row (o + (rowsL v off).trips)))) Q)
      -∗ wpT d L (Scf.Loop.for (rowsL v off) (blkOK v off).rows (row8 (accAt tab row o))
        (rowBody L ring 0#32 (rowsL v off).trips (blkOK v off).rowsInb) >>= k) Q) := by
  rw [wpT_bind]
  exact wp_rows d L (Q := fun a => wpT d L (k a) Q)

theorem wp_rest_bind {α : Type} {Q : α → sProp 𝕄} {v off : BitVec 32} {a : Row8 F} {body : Fin (restL v off).trips → Row8 F → Prog (TileE F L) (Row8 F)}
    {k : Row8 F → Prog (TileE F L) α} :
    wpT d L (k a) Q ⊢ wpT d L (Scf.Loop.for (restL v off) (blkOK v off).rest a body >>= k) Q := by
  rw [wpT_bind]
  exact wp_rest d L (Q := fun a => wpT d L (k a) Q)

end Steps

end Cert.Proof
-- ==== Proof.Compact.lean ====
/- The compaction, as arithmetic: the list of a batch's selected rows (`sel`), the index buffer while the list is being
   built (`cbuf`), and that one trip of the kernel's loop — the running count of the set lanes and the masked store at
   the places it gives — takes the buffer and the count from sixteen rows to the next. -/
module

public import proofs.«01_k».proof.Proof.Rows
public import Idealize.ShloMosaic.Lib.Pipeline.Value
public import Idealize.ShloMosaic.Lib.ValueIdxCore

@[expose] public section

noncomputable section

namespace Cert.Proof

open Cert.KernelIdeal Cert.KernelIdeal.Gen
open Idealize.ShloMosaic
open Idealize.ShloMosaic.SparseCore (S V T)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx (ix1 ix2)

variable {F : FTy → Type} [FloatOps F]

local notation "𝕄" => MT nD τ sig (HIx 1) (Elt F) ℕ UU ℕ

/-! ## A fold over the lanes -/

theorem foldl_lanes {α : Type} : ∀ {n : ℕ} (f : α → Fin n → α) (P : ℕ → α → Prop) (a : α), P 0 a →
    (∀ (k : Fin n) a, P k.val a → P (k.val + 1) (f a k)) → P n ((List.finRange n).foldl f a)
  | 0, f, P, a, h0, hs => by simpa using h0
  | n + 1, f, P, a, h0, hs => by
    rw [List.finRange_succ_last, List.foldl_append, List.foldl_map]
    exact hs (Fin.last n) _ (foldl_lanes (fun a k => f a k.castSucc) P a h0 fun k a h => hs k.castSucc a h)

/-! ## The selected rows -/

/-- Whether the mask selects row `r` of the batch. -/
def bit (msk : S4096.Idx → BitVec 32) (r : ℕ) : Bool := if h : r < 4096 then msk (ix1 ⟨r, h⟩) != 0#32 else false

/-- The selected rows among the first `k`, in order. -/
def sel (msk : S4096.Idx → BitVec 32) (k : ℕ) : List ℕ := (List.range k).filter fun r => bit msk r

theorem sel_succ (msk : S4096.Idx → BitVec 32) (k : ℕ) : sel msk (k + 1) = if bit msk k then sel msk k ++ [k] else sel msk k := by
  unfold sel
  rw [List.range_succ, List.filter_append]
  by_cases h : bit msk k <;> simp [h]

theorem length_sel_le (msk : S4096.Idx → BitVec 32) (k : ℕ) : (sel msk k).length ≤ k :=
  (List.length_filter_le _ _).trans (List.length_range).le

theorem length_sel_succ (msk : S4096.Idx → BitVec 32) (k : ℕ) :
    (sel msk (k + 1)).length = (sel msk k).length + if bit msk k then 1 else 0 := by
  rw [sel_succ]; by_cases h : bit msk k <;> simp [h]

theorem length_sel_mono (msk : S4096.Idx → BitVec 32) {i j : ℕ} (h : i ≤ j) : (sel msk i).length ≤ (sel msk j).length := by
  induction j, h using Nat.le_induction with
  | base => exact le_rfl
  | succ j _ ih => rw [length_sel_succ]; omega

/-- The index buffer once the first `k` rows are through: the table's rows of the selected ones, then zeros. -/
def cbuf (msk : S4096.Idx → BitVec 32) (base k : ℕ) : S4112.Idx → BitVec 32 :=
  fun y => BitVec.ofNat 32 (((sel msk k).map fun r => base + 2 * r).getD (y 0).val 0)

theorem cbuf_succ (msk : S4096.Idx → BitVec 32) (base k : ℕ) :
    cbuf msk base (k + 1) = if bit msk k then fun y => if (y 0).val = (sel msk k).length then BitVec.ofNat 32 (base + 2 * k) else cbuf msk base k y
      else cbuf msk base k := by
  unfold cbuf
  rw [sel_succ]
  by_cases h : bit msk k
  · rw [if_pos h, if_pos h]
    funext y
    rw [List.map_append]
    by_cases hy : (y 0).val = (sel msk k).length
    · rw [if_pos hy, hy, List.getD_eq_getElem?_getD, List.getElem?_append_right (by simp)]; simp
    · rw [if_neg hy]
      rcases Nat.lt_or_gt_of_ne hy with hlt | hgt
      · rw [List.getD_eq_getElem?_getD, List.getD_eq_getElem?_getD, List.getElem?_append_left (by simpa using hlt)]
      · rw [List.getD_eq_getElem?_getD, List.getD_eq_getElem?_getD, List.getElem?_eq_none (by simp; omega), List.getElem?_eq_none (by simp; omega)]
  · rw [if_neg h, if_neg h]

/-! ## One trip -/

/-- A trip's lanes are rows of the batch. -/
theorem lane_lt {i : ℕ} (hi : i < 256) (x : S16.Idx) : 16 * i + (x 0).val < 4096 := by
  have : (x 0).val < 16 := (x 0).isLt
  omega

section Trip

variable {msk : S4096.Idx → BitVec 32} {i : ℕ} (hi : i < 256) {v : Vec F S16 .i32}
  (hv : ∀ x : S16.Idx, v x = msk (ix1 (⟨16 * i + (x 0).val, lane_lt hi x⟩ : Fin 4096)))

include hv

theorem pay515_eq (x : S16.Idx) : k0_pay515 v x = BitVec.ofBool (bit msk (16 * i + (x 0).val)) := by
  have hx : (x 0).val < 16 := (x 0).isLt
  unfold bit
  rw [dif_pos (by omega), ← hv x]
  rfl

theorem pay516_eq (x : S16.Idx) : k0_pay516 v x = BitVec.ofNat 32 (if bit msk (16 * i + (x 0).val) then 1 else 0) := by
  show (k0_pay515 v x).setWidth 32 = _
  rw [pay515_eq hi hv]
  cases bit msk (16 * i + (x 0).val) <;> rfl

/-- The running count. -/
theorem scan_eq (x : S16.Idx) : scan .sum (k0_pay516 v) x
    = BitVec.ofNat 32 ((sel msk (16 * i + ((x 0).val + 1))).length - (sel msk (16 * i)).length) := by
  have hx : (x 0).val < 16 := (x 0).isLt
  unfold scan
  rw [List.foldl_filter]
  have h := foldl_lanes (n := 16) (fun (r : BitVec 32) (k : Fin 16) => if decide (0 < k.val ∧ k.val ≤ (x 0).val) = true then
      ScanKind.step .sum r (k0_pay516 v (Shape.ofLane k)) else r)
    (fun k r => r = BitVec.ofNat 32 ((sel msk (16 * i + max 1 (min k ((x 0).val + 1)))).length - (sel msk (16 * i)).length))
    (k0_pay516 v (Shape.ofLane (0 : Fin 16)))
    (by
      rw [pay516_eq hi hv]
      simp only [Nat.zero_min, Nat.max_zero, length_sel_succ]
      congr 1
      show (if bit msk (16 * i + 0) then 1 else 0) = _
      rw [Nat.add_zero]; omega)
    (by
      intro k r hr
      subst hr
      by_cases hk : 0 < k.val ∧ k.val ≤ (x 0).val
      · rw [if_pos (by simpa using hk), pay516_eq hi hv]
        have h1 : max 1 (min k.val ((x 0).val + 1)) = k.val := by omega
        have h2 : max 1 (min (k.val + 1) ((x 0).val + 1)) = k.val + 1 := by omega
        rw [h1, h2, ← Nat.add_assoc, length_sel_succ]
        show BitVec.ofNat 32 _ + BitVec.ofNat 32 (if bit msk (16 * i + k.val) then 1 else 0) = _
        rw [← BitVec.ofNat_add]
        congr 1
        have := length_sel_mono msk (Nat.le_add_right (16 * i) k.val)
        omega
      · rw [if_neg (by simpa using hk)]
        have h1 : max 1 (min k.val ((x 0).val + 1)) = max 1 (min (k.val + 1) ((x 0).val + 1)) := by omega
        rw [h1])
  have h1 : max 1 (min 16 ((x 0).val + 1)) = (x 0).val + 1 := by omega
  rw [h1] at h
  exact h

theorem tot_add (x : S16.Idx) : BitVec.ofNat 32 (sel msk (16 * i)).length + scan .sum (k0_pay516 v) x
    = BitVec.ofNat 32 (sel msk (16 * i + ((x 0).val + 1))).length := by
  rw [scan_eq hi hv, ← BitVec.ofNat_add]
  congr 1
  have := length_sel_mono msk (Nat.le_add_right (16 * i) ((x 0).val + 1))
  omega

/-- The place each lane stores at: the number of rows selected before it, if it is set. -/
theorem pay518_eq (x : S16.Idx) : k0_pay518 (BitVec.ofNat 32 (sel msk (16 * i)).length) v x
    = BitVec.ofNat 32 ((sel msk (16 * i + ((x 0).val + 1))).length - 1) := by
  have hx : (x 0).val < 16 := (x 0).isLt
  have hl := length_sel_le msk (16 * i + ((x 0).val + 1))
  show IntOp.maxsi (BitVec.ofNat 32 (sel msk (16 * i)).length + scan .sum (k0_pay516 v) x - 1#32) 0#32 = _
  rw [tot_add hi hv]
  generalize (sel msk (16 * i + ((x 0).val + 1))).length = n at hl
  unfold IntOp.maxsi
  rcases Nat.eq_zero_or_pos n with rfl | hn
  · decide
  · have he : BitVec.ofNat 32 n - 1#32 = BitVec.ofNat 32 (n - 1) := by
      apply BitVec.eq_of_toNat_eq
      simp only [BitVec.toNat_sub, BitVec.toNat_ofNat]
      omega
    rw [he]
    have h1 : (BitVec.ofNat 32 (n - 1)).toInt = ((n - 1 : ℕ) : ℤ) := by rw [BitVec.toInt_eq_toNat_of_lt (by simp; omega)]; simp; omega
    by_cases hs : (BitVec.slt 0#32 (BitVec.ofNat 32 (n - 1))) = true
    · rw [if_pos hs]
    · rw [if_neg hs]
      simp only [BitVec.slt, h1, BitVec.toInt_zero, decide_eq_true_eq, not_lt] at hs
      have : n - 1 = 0 := by omega
      rw [this]

theorem chk1_holds : k0_chk1 (k0_pay518 (BitVec.ofNat 32 (sel msk (16 * i)).length) v) := by
  intro a x
  have hx : (x 0).val < 16 := (x 0).isLt
  have hl := length_sel_le msk (16 * i + ((x 0).val + 1))
  match a with
  | 0 =>
    show (k0_pay518 (BitVec.ofNat 32 (sel msk (16 * i)).length) v x).toNat < 4112
    rw [pay518_eq hi hv, BitVec.toNat_ofNat]
    omega

/-- The trip's masked store. -/
theorem storeIdx_eq {base : ℕ} {ids : IVec S16 32} (hids : ∀ x : S16.Idx, ids x = BitVec.ofNat 32 (base + 2 * (16 * i + (x 0).val)))
    (h : ∀ a x, ((![k0_pay518 (BitVec.ofNat 32 (sel msk (16 * i)).length) v] : Fin 1 → IVec S16 32) a x).toNat < S4112.size a) :
    storeIdx (F := F) (e := .i32) (cbuf msk base (16 * i)) ![k0_pay518 (BitVec.ofNat 32 (sel msk (16 * i)).length) v] ids (k0_pay515 v) false h
      = cbuf msk base (16 * (i + 1)) := by
  unfold storeIdx
  refine foldl_lanes (n := 16) _ (fun k g => g = cbuf msk base (16 * i + k)) _ rfl ?_
  intro k g hg
  subst hg
  have hk : ((Shape.ofLane k : S16.Idx) 0).val = k.val := rfl
  have hl := length_sel_le msk (16 * i + (k.val + 1))
  show (if k0_pay515 v (Shape.ofLane k) = 1 then _ else _) = cbuf msk base (16 * i + k.val + 1)
  rw [cbuf_succ, pay515_eq hi hv, hk]
  by_cases hb : bit msk (16 * i + k.val) = true
  · rw [hb, if_pos (show BitVec.ofBool true = 1 from rfl), if_pos rfl]
    funext y
    have hp : (idxAt (s := S4112) (![k0_pay518 (BitVec.ofNat 32 (sel msk (16 * i)).length) v] : Fin 1 → IVec S16 32) h (Shape.ofLane k) 0).val
        = (sel msk (16 * i + k.val)).length := by
      show (k0_pay518 (BitVec.ofNat 32 (sel msk (16 * i)).length) v (Shape.ofLane k)).toNat = _
      rw [pay518_eq hi hv, hk, BitVec.toNat_ofNat]
      have := length_sel_succ msk (16 * i + k.val)
      rw [hb, if_pos rfl] at this
      rw [← Nat.add_assoc] at hl ⊢
      have := k.isLt
      omega
    by_cases hy : (y 0).val = (sel msk (16 * i + k.val)).length
    · rw [if_pos hy, if_pos (fun a => by match a with | 0 => exact hy.trans hp.symm)]
      show ids _ = _
      rw [hids, hk]
    · rw [if_neg hy, if_neg (fun hc => hy ((hc 0).trans hp))]
  · have hb' : bit msk (16 * i + k.val) = false := by simpa using hb
    rw [hb', if_neg (by decide), if_neg (by decide)]

end Trip

/-- The ids the lanes store. -/
theorem pay517_eq (B h : ℕ) (t : Fin k0_t2_loop.trips) (ht : t.val < 256) (x : S16.Idx) :
    k0_pay517 (BitVec.ofNat 32 h) (BitVec.ofNat 32 (4096 * B)) t x = BitVec.ofNat 32 (8192 * B + h + 2 * (16 * t.val + (x 0).val)) := by
  have hiv : Scf.iv 0#32 1#32 t.val = BitVec.ofNat 32 t.val := BitVec.eq_of_toNat_eq (by rw [toNat_iv01 _ (by omega), BitVec.toNat_ofNat]; omega)
  show iota .scVector S16 32 [0] iota_S16_d0_w32_scVector x * 2#32 + ((2#32 * BitVec.ofNat 32 (4096 * B) + BitVec.ofNat 32 h) + Scf.iv 0#32 1#32 t.val * 32#32) = _
  rw [iota_single_apply, hiv, show (2#32) = BitVec.ofNat 32 2 from rfl, show (32#32) = BitVec.ofNat 32 32 from rfl]
  simp only [← BitVec.ofNat_mul, ← BitVec.ofNat_add]
  congr 1
  omega

end Cert.Proof
-- ==== Proof.Rings.lean ====
/- The two rings: what one is doing (`Idle`, or `Busy` with a block's gather under way), and the run of the start of a
   gather, of a block, and of the printed parts of five blocks, each over what it leaves in the accumulator. -/
module

public import proofs.«01_k».proof.Proof.Rows
public import Idealize.ShloMosaic.Lib.Pipeline.Value
public import Idealize.ShloMosaic.Lib.ValueIdxCore

@[expose] public section

noncomputable section

namespace Cert.Proof

open Cert.KernelIdeal Cert.KernelIdeal.Gen
open Idealize.ShloMosaic
open Idealize.ShloMosaic.SparseCore (S V T)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx (ix1 ix2)

variable {F : FTy → Type} [FloatOps F]

local notation "𝕄" => MT nD τ sig (HIx 1) (Elt F) ℕ UU ℕ

section Rings

variable (d : Dev nD) (L : grid0.Coords)

theorem Holds.elim {sp : Space} {s : Shape} {e : EltTy} {m : Memref sig .scVector sp s e} {q : PosShare TreeShare} {g : s.Idx → Elt F e} :
    Holds d L m q g ⊢ iprop(∃ f : Buf (Elt F) (m.view.loc (thr d L)), ⌜m.view.read (Elt F) f = g⌝ ∗ m.view.loc (thr d L) ↦[m.view.set]{q} f) :=
  Entails.of_eq rfl

theorem Holds.intro {sp : Space} {s : Shape} {e : EltTy} {m : Memref sig .scVector sp s e} {q : PosShare TreeShare} {g : s.Idx → Elt F e}
    {f : Buf (Elt F) (m.view.loc (thr d L))} (h : m.view.read (Elt F) f = g) :
    (m.view.loc (thr d L) ↦[m.view.set]{q} f : sProp 𝕄) ⊢ Holds d L m q g := by
  unfold Holds
  iintro H
  iexists f
  isplitr; · ipureintro; exact h
  iexact H

/-- A slice of a memref taken out of what the tile holds of it, and put back. -/
theorem Holds.slice {sp : Space} {s : Shape} {e : EltTy} {m : Memref sig .scVector sp s e} {q : PosShare TreeShare} {g : s.Idx → Elt F e}
    (r : Rect s) (hr : ∀ a, r.stride a = 1) :
    Holds d L m q g ⊢ iprop(∃ f : Buf (Elt F) (m.view.loc (thr d L)), ⌜(m.slice r hr).view.read (Elt F) f = fun x => g (r.emb x)⌝
      ∗ ((m.slice r hr).view.loc (thr d L) ↦[(m.slice r hr).view.set]{q} f)
      ∗ (((m.slice r hr).view.loc (thr d L) ↦[(m.slice r hr).view.set]{q} f) -∗ Holds d L m q g)) := by
  unfold Holds
  iintro ⟨%f, %hf, Hm⟩
  have hsub : (m.slice r hr).view.set ⊆ m.view.set := View.set_slice_subset _ _
  ihave Hs := (pointsTo_split_subset (q := q) (f := f) hsub).1 $$ Hm
  icases Hs with ⟨Hs, Hr⟩
  iexists f
  isplitr
  · ipureintro; rw [← hf]; rfl
  isplitl [Hs]; · iexact Hs
  iintro Hs
  iexists f
  isplitr
  · ipureintro; exact hf
  iapply (pointsTo_split_subset (q := q) (f := f) hsub).2
  isplitl [Hs] <;> iassumption

variable (tbl : Memref sig .scVector .hbm S131072x128 .f32) (idx : Memref sig .scVector .vmem S4112 .i32)
  (tab : S131072x128.Idx → F .f32) (row : ℕ → Fin 131072)

/-- A ring with nothing under way: its buffer, its share of the table and of the index list, its semaphore at zero. -/
def Idle (ring : Memref sig .scVector .vmem S128x128 .f32) (sem : DmaSems sig S_) (q qi : PosShare TreeShare) : sProp 𝕄 :=
  iprop((∃ g, Holds d L ring fullShare g) ∗ Holds d L tbl q tab ∗ Holds d L idx qi (lst row) ∗ semVal (thr d L, SemLoc.dma sem.sem) 0)

/-- A ring with the gather of the block from `o` under way. -/
def Busy (ring : Memref sig .scVector .vmem S128x128 .f32) (sem : DmaSems sig S_) (q qi : PosShare TreeShare) (o : ℕ) : sProp 𝕄 :=
  iprop(∃ X : sProp 𝕄, Transfers.Flight countersEmb (thr d L) (SemLoc.dma sem.sem) (default : HIx 1) ring.view.dmaCredit X
    ∗ (X -∗ Holds d L ring fullShare (ringAt tab row o) ∗ Holds d L tbl q tab ∗ Holds d L idx qi (lst row)))

/-- The ring of the block from `o` when `n` rows are selected: busy with it if it has rows. -/
def Pend (n : ℕ) (ring : Memref sig .scVector .vmem S128x128 .f32) (sem : DmaSems sig S_) (q qi : PosShare TreeShare) (o : ℕ) : sProp 𝕄 :=
  if o < n then Busy d L tbl idx tab row ring sem q qi o else Idle d L tbl idx tab row ring sem q qi

/-- What the tile owes while it runs, and that it may wait. -/
def Owe (O : CellTallies nD τ sig (HIx 1)) (W : Waits sig (HIx 1)) : sProp 𝕄 :=
  iprop(Transfers.MayWaits (thr d L) (default : HIx 1) O ∗ ∃ W', ⌜∀ p ∈ W', p ∈ W ∨ p.2 = none⌝ ∗ owes (thr d L) O W')

/-- The rows a gather of 128 brings are the list's. -/
theorem gather_payload (o : ℕ) (ho : o + 128 ≤ 4112) (fo : S128.Idx → BitVec 32)
    (hfo : fo = fun x => lst row ((Rect.unit (s := S4112) ![o] S128.size (list_inb ho)).emb x))
    (hin : ∀ x, (fo x).toNat < S131072x128.size gathers_S131072x128_S128x128.axis)
    (g : S131072x128.Idx → F .f32) (hg : g = fun x => tab ((Rect.unit (s := S131072x128) ![0, 0] S131072x128.size inb_S131072x128_S131072x128_0_0).emb x)) :
    SparseCore.gatherPayload (F := F) (e := .f32) gathers_S131072x128_S128x128 g (SparseCore.rows (F := F) (si := S128) fo rfl hin) = ringAt tab row o := by
  subst hfo hg
  funext x
  have hrow : (SparseCore.rows (F := F) (si := S128) _ rfl hin (x 0) : Fin 131072) = row (o + (x 0).val) := by
    refine Fin.ext ?_
    have hx : ((S128.rowMajor.symm ((x 0).cast rfl) : S128.Idx) 0).val = (x 0).val := by
      rw [← Shape.rowMajor_val_one, Equiv.apply_symm_apply]; rfl
    have he : (((Rect.unit (s := S4112) ![o] S128.size (list_inb ho)).emb (S128.rowMajor.symm ((x 0).cast rfl))) 0).val = o + (x 0).val := by
      rw [Rect.emb_apply]; show o + 1 * _ = _; rw [hx]; omega
    show (BitVec.ofNat 32 (row _).val).toNat = _
    rw [he, BitVec.toNat_ofNat, Nat.mod_eq_of_lt (lt_trans (row _).isLt (by decide))]
  show tab _ = tab _
  congr 1
  funext b
  match b with
  | 0 =>
    refine Fin.ext ?_
    rw [Rect.emb_apply]
    show 0 + 1 * _ = (row (o + (x 0).val)).val
    rw [← hrow, Nat.zero_add, Nat.one_mul]
    exact congrArg Fin.val (Shape.Gathers.idx_axis gathers_S131072x128_S128x128 _ x)
  | 1 =>
    refine Fin.ext ?_
    rw [Rect.emb_apply]
    show 0 + 1 * _ = _
    rw [Nat.zero_add, Nat.one_mul]
    exact Shape.Gathers.idx_of_ne gathers_S131072x128_S128x128 _ x 1 (by decide)

/-- A whole gather's credit is its rows'. -/
abbrev RowCredit (ring : Memref sig .scVector .vmem S128x128 .f32) : Prop :=
  ∀ h : S131072x128.Gathers 0 S128x128, ∑ j, (ring.slice (S128x128.rowRect h.axis' j) (S128x128.stride_rowRect h.axis' j)).view.dmaCredit = ring.view.dmaCredit

variable {n : ℕ} {v : BitVec 32}

theorem cond_iff (hn : n ≤ 4096) (hv : v = BitVec.ofNat 32 n) (o : ℕ) (ho : o ≤ 4096) : condW v (BitVec.ofNat 32 o) = 1#1 ↔ o < n := by
  subst hv
  have h1 : (BitVec.ofNat 32 n).toInt = n := by rw [BitVec.toInt_eq_toNat_of_lt (by simp; omega)]; simp; omega
  have h2 : (BitVec.ofNat 32 o).toInt = o := by rw [BitVec.toInt_eq_toNat_of_lt (by simp; omega)]; simp; omega
  have hs : BitVec.slt (BitVec.ofNat 32 o) (BitVec.ofNat 32 n) = decide (o < n) := by
    simp only [BitVec.slt, h1, h2, Nat.cast_lt]
  unfold condW Scalar.cmpi Scalar.extui IntOp.cmpi
  simp only [hs]
  by_cases h : o < n <;> simp [h]

/-- The start of a block's gather. -/
theorem wp_strt {α : Type} {Q : α → sProp 𝕄} (hn : n ≤ 4096) (hv : v = BitVec.ofNat 32 n) {ring : Memref sig .scVector .vmem S128x128 .f32} (hring : ring.IsWhole)
    (hcr : RowCredit ring) {sem : DmaSems sig S_} {q qi : PosShare TreeShare} {o : ℕ} (ho : o + 128 ≤ 4112) (ho' : o ≤ 4096) {k : Prog (TileE F L) α} :
    Idle d L tbl idx tab row ring sem q qi ⊢ iprop((Pend d L tbl idx tab row n ring sem q qi o -∗ wpT d L k Q)
      -∗ wpT d L (strt L tbl idx ring hring sem (condW v (BitVec.ofNat 32 o)) o (list_inb ho) k) Q) := by
  unfold strt Pend
  by_cases h : o < n
  · rw [if_pos ((cond_iff hn hv o ho').mpr h), if_pos h]
    unfold Idle
    iintro ⟨⟨%g, Hr⟩, Ht, Hi, Hs⟩ Hk
    ihave Ht := Holds.slice d L (Rect.unit (s := S131072x128) ![0, 0] S131072x128.size inb_S131072x128_S131072x128_0_0) (fun _ => rfl) $$ Ht
    icases Ht with ⟨%ft, %hft, Ht, Htb⟩
    ihave Hi := Holds.slice d L (Rect.unit (s := S4112) ![o] S128.size (list_inb ho)) (fun _ => rfl) $$ Hi
    icases Hi with ⟨%fi, %hfi, Hi, Hib⟩
    ihave Hr := Holds.elim d L $$ Hr
    icases Hr with ⟨%fr, %hfr, Hr⟩
    have hin : ∀ x, ((idx.slice (Rect.unit (s := S4112) ![o] S128.size (list_inb ho)) (fun _ => rfl)).view.read (Elt F) fi x).toNat
        < S131072x128.size gathers_S131072x128_S128x128.axis := fun x => by
      rw [hfi]
      show (BitVec.ofNat 32 (row _).val).toNat < 131072
      rw [BitVec.toNat_ofNat]
      exact lt_of_le_of_lt (Nat.mod_le _ _) (row _).isLt
    iapply (SparseCore.wp_indirectGatherLocal countersEmb 𝒱₀ (thr d L) none (hg := gathers_S131072x128_S128x128) (default : HIx 1)
      ring.view.dmaCredit (hcr _) (by decide) hin) $$ [Hr Ht Hi Hs]
    · isplitl [Ht]; · iexact Ht
      isplitl [Hr]; · iexact Hr
      isplitl [Hi]; · iexact Hi
      iexact Hs
    iintro Hfl
    iapply Hk
    unfold Busy
    iexists _
    isplitl [Hfl]; · iexact Hfl
    iintro ⟨Hr, Ht, Hi⟩
    isplitl [Hr]
    · iapply (Holds.intro d L ((View.read_write_univ ..).trans (gather_payload tab row o ho _ hfi hin _ hft))) $$ Hr
    isplitl [Ht Htb]
    · iapply Htb $$ Ht
    iapply Hib $$ Hi
  · rw [if_neg (fun hc => h ((cond_iff hn hv o ho').mp hc)), if_neg h]
    iintro H Hk
    iapply Hk $$ H

/-- How many rows a block that has some runs over. -/
theorem trips_block (hn : n ≤ 4096) (hv : v = BitVec.ofNat 32 n) (o : ℕ) (ho : o ≤ 4096) (h : o < n) :
    o + (rowsL v (BitVec.ofNat 32 o)).trips = min n (o + 128) := by
  subst hv
  have hs : Scalar.subi (BitVec.ofNat 32 n) (BitVec.ofNat 32 o) = BitVec.ofNat 32 (n - o) := by
    apply BitVec.eq_of_toNat_eq
    simp only [Scalar.subi, IntOp.subi, BitVec.toNat_sub, BitVec.toNat_ofNat]
    omega
  have h1 : (BitVec.ofNat 32 (n - o)).toInt = ((n - o : ℕ) : ℤ) := by rw [BitVec.toInt_eq_toNat_of_lt (by simp; omega)]; simp; omega
  have h2 : (128#32).toInt = 128 := by decide
  rw [trips_rows]
  unfold cntW
  rw [hs]
  unfold Scalar.minsi IntOp.minsi
  simp only [BitVec.slt, h1, h2]
  by_cases hc : n - o < 128
  · rw [if_pos (by simpa using (by omega : ((n - o : ℕ) : ℤ) < 128)), h1]; omega
  · rw [if_neg (by simpa using (by omega : (128 : ℤ) ≤ ((n - o : ℕ) : ℤ))), h2]; omega

/-- A block that has rows, all but the last store. -/
theorem wp_blkPart {Q : Vec F S16 .f32 → sProp 𝕄} {ring : Memref sig .scVector .vmem S128x128 .f32} (hring : ring.IsWhole)
    {accv : Memref sig .scVector .vmem S128 .f32} {sem : DmaSems sig S_} {q qi : PosShare TreeShare} {o : ℕ} {off : BitVec 32}
    {O : CellTallies nD τ sig (HIx 1)} {W : Waits sig (HIx 1)} :
    iprop(Busy d L tbl idx tab row ring sem q qi o ∗ Holds d L accv fullShare (accAt tab row o) ∗ Owe d L O W)
      ⊢ iprop((iprop(Idle d L tbl idx tab row ring sem q qi
            ∗ Holds d L accv fullShare (upto (accAt tab row o) (accAt tab row (o + (rowsL v off).trips)) 112) ∗ Owe d L O W)
          -∗ Q (chunk (accAt tab row (o + (rowsL v off).trips)) 112 inb_S128_S16_112))
        -∗ wpT d L (blkPart L tbl ring hring accv sem v off) Q) := by
  unfold Busy Owe
  iintro ⟨⟨%X, Hfl, Hb⟩, Ha, #Hmw, %W', %hW', HO⟩ Hk
  unfold blkPart
  iapply (Transfers.wp_waitLocalO countersEmb 𝒱₀ (thr d L) none (default : HIx 1) (rfl : ring.view.dmaCredit = _)) $$ [Hfl HO]
  · isplitl [Hfl]; · iexact Hfl
    isplitl [HO]; · iexact HO
    iapply (Transfers.MayWaits.elim (SemLoc.dma sem.sem)) $$ Hmw
  iintro ⟨HX, Hsem, HO⟩
  ihave HX := Hb $$ HX
  icases HX with ⟨Hr, Ht, Hi⟩
  iapply wp_ldAcc d L $$ Ha; iintro Ha
  iapply wp_ldAcc d L $$ Ha; iintro Ha
  iapply wp_ldAcc d L $$ Ha; iintro Ha
  iapply wp_ldAcc d L $$ Ha; iintro Ha
  iapply wp_ldAcc d L $$ Ha; iintro Ha
  iapply wp_ldAcc d L $$ Ha; iintro Ha
  iapply wp_ldAcc d L $$ Ha; iintro Ha
  iapply wp_ldAcc d L $$ Ha; iintro Ha
  iapply wp_rows_bind d L (o := o) $$ Hr; iintro Hr
  iapply wp_rest_bind d L
  rw [← upto_zero (accAt tab row o) (accAt tab row (o + (rowsL v off).trips))]
  iapply wp_ldAcc d L $$ Ha; iintro Ha
  iapply wp_stAcc d L $$ Ha; iintro Ha
  iapply wp_ldAcc d L $$ Ha; iintro Ha
  iapply wp_stAcc d L $$ Ha; iintro Ha
  iapply wp_ldAcc d L $$ Ha; iintro Ha
  iapply wp_stAcc d L $$ Ha; iintro Ha
  iapply wp_ldAcc d L $$ Ha; iintro Ha
  iapply wp_stAcc d L $$ Ha; iintro Ha
  iapply wp_ldAcc d L $$ Ha; iintro Ha
  iapply wp_stAcc d L $$ Ha; iintro Ha
  iapply wp_ldAcc d L $$ Ha; iintro Ha
  iapply wp_stAcc d L $$ Ha; iintro Ha
  iapply wp_ldAcc d L $$ Ha; iintro Ha
  iapply wp_stAcc d L $$ Ha; iintro Ha
  iapply wp_ldAcc d L $$ Ha; iintro Ha
  iapply wp_done d L
  iapply (Entails.of_eq (show Q (chunk (accAt tab row (o + (rowsL v off).trips)) 112 inb_S128_S16_112)
    = Q (row8 (accAt tab row (o + (rowsL v off).trips))).2.2.2.2.2.2.2 from rfl))
  iapply Hk
  isplitl [Hr Ht Hi Hsem]
  · unfold Idle
    isplitl [Hr]; · iexists _; iexact Hr
    isplitl [Ht]; · iexact Ht
    isplitl [Hi]; · iexact Hi
    iexact Hsem
  isplitl [Ha]; · iexact Ha
  isplitr; · iexact Hmw
  iexists _
  isplitr
  swap; · iexact HO
  ipureintro
  intro p hp
  rcases Finset.mem_insert.mp hp with hp | hp
  · exact .inr (hp ▸ rfl)
  · exact hW' p hp

/-- A block: whatever is selected, the accumulator afterwards holds the rows up to its end and its ring is idle. -/
theorem wp_blk {α : Type} {Q : α → sProp 𝕄} (hn : n ≤ 4096) (hv : v = BitVec.ofNat 32 n) {ring : Memref sig .scVector .vmem S128x128 .f32}
    (hring : ring.IsWhole) {accv : Memref sig .scVector .vmem S128 .f32} {sem : DmaSems sig S_} {q qi : PosShare TreeShare} {o : ℕ} (ho : o ≤ 4096)
    {O : CellTallies nD τ sig (HIx 1)} {W : Waits sig (HIx 1)} {k : Prog (TileE F L) α} :
    iprop(Pend d L tbl idx tab row n ring sem q qi o ∗ Holds d L accv fullShare (accAt tab row (min n o)) ∗ Owe d L O W)
      ⊢ iprop((iprop(Idle d L tbl idx tab row ring sem q qi ∗ Holds d L accv fullShare (accAt tab row (min n (o + 128))) ∗ Owe d L O W)
          -∗ wpT d L k Q)
        -∗ wpT d L (blk L tbl ring hring accv sem v (BitVec.ofNat 32 o) k) Q) := by
  unfold blk Pend
  by_cases h : o < n
  · rw [dif_pos ((cond_iff hn hv o ho).mpr h), if_pos h, wpT_bind, ← trips_block hn hv o ho h, Nat.min_eq_right (le_of_lt h)]
    iintro H Hk
    iapply wp_blkPart d L tbl idx tab row hring $$ H
    iintro ⟨Hi, Ha, HO⟩
    iapply wp_stAcc d L $$ Ha
    iintro Ha
    iapply Hk
    isplitl [Hi]; · iexact Hi
    isplitl [Ha]
    · iapply (Entails.of_eq (congrArg (Holds d L accv fullShare) (upto_full _ _))) $$ Ha
    iexact HO
  · rw [dif_neg (fun hc => h ((cond_iff hn hv o ho).mp hc)), if_neg h, Nat.min_eq_left (by omega : n ≤ o), Nat.min_eq_left (by omega : n ≤ o + 128)]
    iintro H Hk
    iapply Hk $$ H

variable (rA : Memref sig .scVector .vmem S128x128 .f32) (hA : rA.IsWhole) (rB : Memref sig .scVector .vmem S128x128 .f32) (hB : rB.IsWhole)
  (accv : Memref sig .scVector .vmem S128 .f32) (sA sB : DmaSems sig S_) (qA qB qiA qiB : PosShare TreeShare)
  (O : CellTallies nD τ sig (HIx 1)) (W : Waits sig (HIx 1))

/-- The tile before block `o`: that block's gather started on the ring `rA` if it has rows, the other ring idle, the
    accumulator at the rows before it. -/
def At (n o : ℕ) : sProp 𝕄 :=
  iprop(Pend d L tbl idx tab row n rA sA qA qiA o ∗ Idle d L tbl idx tab row rB sB qB qiB
    ∗ Holds d L accv fullShare (accAt tab row (min n o)) ∗ Owe d L O W)

/-- A pair takes it to the next block, the rings exchanged. -/
theorem wp_pair {α : Type} {Q : α → sProp 𝕄} (hn : n ≤ 4096) (hv : v = BitVec.ofNat 32 n) (hcr : RowCredit rB) {o : ℕ} (ho : o + 256 ≤ 4112)
    {k : Prog (TileE F L) α} :
    At d L tbl idx tab row rA rB accv sA sB qA qB qiA qiB O W n o
      ⊢ iprop((At d L tbl idx tab row rB rA accv sB sA qB qA qiB qiA O W n (o + 128) -∗ wpT d L k Q)
        -∗ wpT d L (pair L tbl idx rA hA rB hB accv sA sB v (condW v (BitVec.ofNat 32 (o + 128))) o ho k) Q) := by
  unfold At pair
  iintro ⟨HA, HB, Ha, HO⟩ Hk
  iapply wp_strt d L tbl idx tab row hn hv hB hcr (by omega) (by omega) $$ HB
  iintro HB
  iapply wp_blk d L tbl idx tab row hn hv hA (by omega) $$ [HA Ha HO]
  · isplitl [HA]; · iexact HA
    isplitl [Ha]; · iexact Ha
    iexact HO
  iintro ⟨HA, Ha, HO⟩
  iapply Hk
  isplitl [HB]; · iexact HB
  isplitl [HA]; · iexact HA
  isplitl [Ha]; · iexact Ha
  iexact HO

/-- Five. -/
theorem wp_five {Q : BitVec 32 → sProp 𝕄} (hn : n ≤ 4096) (hv : v = BitVec.ofNat 32 n) (hcA : RowCredit rA) (hcB : RowCredit rB) {o : ℕ} (ho : o + 768 ≤ 4112) :
    At d L tbl idx tab row rA rB accv sA sB qA qB qiA qiB O W n o
      ⊢ iprop((At d L tbl idx tab row rB rA accv sB sA qB qA qiB qiA O W n (o + 640)
          -∗ Q (Scalar.extui (Scalar.cmpi .sgt v (BitVec.ofNat 32 (o + 768)))))
        -∗ wpT d L (five L tbl idx rA hA rB hB accv sA sB v (condW v (BitVec.ofNat 32 (o + 128))) o ho) Q) := by
  unfold five
  iintro H Hk
  iapply wp_pair d L tbl idx tab row (hn := hn) (hv := hv) (hcr := hcB) $$ H; iintro H
  iapply wp_pair d L tbl idx tab row (hn := hn) (hv := hv) (hcr := hcA) $$ H; iintro H
  iapply wp_pair d L tbl idx tab row (hn := hn) (hv := hv) (hcr := hcB) $$ H; iintro H
  iapply wp_pair d L tbl idx tab row (hn := hn) (hv := hv) (hcr := hcA) $$ H; iintro H
  iapply wp_pair d L tbl idx tab row (hn := hn) (hv := hv) (hcr := hcB) $$ H; iintro H
  iapply wp_done d L
  iapply Hk $$ H

/-- The mean: the accumulator divided by the number of rows. -/
def meanAt (v : BitVec 32) (a : S128.Idx → F .f32) : S128.Idx → F .f32 :=
  fun y => FloatOps.divf (a y) (FloatOps.addf (Scalar.ofBits .f32 0x00000000#32) (Scalar.sitofp .f32 v))

theorem pay529_chunk (a : S128.Idx → F .f32) (j : ℕ) (inb) : k0_pay529 v (chunk a j inb) = chunk (meanAt v a) j inb := rfl

theorem wp_divChunk {α : Type} {Q : α → sProp 𝕄} {j : ℕ} {inb} {a : S128.Idx → F .f32} {k : PUnit → Prog (TileE F L) α} :
    Holds d L accv fullShare (upto a (meanAt v a) j)
      ⊢ iprop((Holds d L accv fullShare (upto a (meanAt v a) (j + 16)) -∗ wpT d L (k ⟨⟩) Q)
        -∗ wpT d L (divChunk L accv v j inb >>= k) Q) := by
  unfold divChunk
  iintro H Hk
  iapply wp_ldAcc d L $$ H; iintro H
  iapply wp_ldAcc d L $$ H; iintro H
  rw [chunk_upto, pay529_chunk]
  iapply wp_stAcc d L $$ H; iintro H
  iapply Hk $$ H

/-- The last two blocks and the division of the first chunks. -/
theorem wp_lastTwo {Q : (Σ' (_ : FVec F S16 .f32), FVec F S16 .f32) → sProp 𝕄} (hn : n ≤ 4096) (hv : v = BitVec.ofNat 32 n) (hcB : RowCredit rB) :
    At d L tbl idx tab row rA rB accv sA sB qA qB qiA qiB O W n 3840
      ⊢ iprop((iprop(Idle d L tbl idx tab row rA sA qA qiA ∗ Idle d L tbl idx tab row rB sB qB qiB
            ∗ Holds d L accv fullShare (upto (accAt tab row n) (meanAt v (accAt tab row n)) 96) ∗ Owe d L O W)
          -∗ Q ⟨k0_pay528 v, chunk (meanAt v (accAt tab row n)) 96 inb_S128_S16_96⟩)
        -∗ wpT d L (lastTwo L tbl idx rA hA rB hB accv sA sB v (condW v (BitVec.ofNat 32 3968))) Q) := by
  unfold lastTwo
  iintro H Hk
  iapply wp_pair d L tbl idx tab row (hn := hn) (hv := hv) (hcr := hcB) (o := 3840) $$ H; iintro H
  unfold At
  icases H with ⟨HB, HA, Ha, HO⟩
  iapply wp_blk d L tbl idx tab row hn hv hB (o := 3968) (by omega) $$ [HB Ha HO]
  · isplitl [HB]; · iexact HB
    isplitl [Ha]; · iexact Ha
    iexact HO
  iintro ⟨HB, Ha, HO⟩
  rw [Nat.min_eq_left (by omega : n ≤ 3968 + 128)]
  have he : (⟨k0_pay528 v, k0_pay529 v (chunk (upto (accAt tab row n) (meanAt v (accAt tab row n)) 96) 96 inb_S128_S16_96)⟩
      : Σ' (_ : FVec F S16 .f32), FVec F S16 .f32) = ⟨k0_pay528 v, chunk (meanAt v (accAt tab row n)) 96 inb_S128_S16_96⟩ := by
    rw [chunk_upto, pay529_chunk]
  ihave Ha := (Entails.of_eq (congrArg (Holds d L accv fullShare) (upto_zero (accAt tab row n) (meanAt v (accAt tab row n))).symm)) $$ Ha
  iapply wp_divChunk d L $$ Ha; iintro Ha
  iapply wp_divChunk d L $$ Ha; iintro Ha
  iapply wp_divChunk d L $$ Ha; iintro Ha
  iapply wp_divChunk d L $$ Ha; iintro Ha
  iapply wp_divChunk d L $$ Ha; iintro Ha
  iapply wp_divChunk d L $$ Ha; iintro Ha
  iapply wp_ldAcc d L $$ Ha; iintro Ha
  iapply wp_done d L
  iapply (Entails.of_eq (congrArg Q he.symm))
  iapply Hk
  isplitl [HA]; · iexact HA
  isplitl [HB]; · iexact HB
  isplitl [Ha]; · iexact Ha
  iexact HO

end Rings

end Cert.Proof
-- ==== Proof.Tile.lean ====
/- What one tile runs before its blocks: its batch's mask row copied in, the index list zeroed, the rows whose mask bit is
   set compacted into the list, and the accumulator zeroed. -/
module

public import proofs.«01_k».proof.Proof.Compact
public import proofs.«01_k».proof.Proof.Rings
public import Idealize.ShloMosaic.Lib.Pipeline.Value
public import Idealize.ShloMosaic.Lib.ValueIdxCore

@[expose] public section

noncomputable section

namespace Cert.Proof

open Cert.KernelIdeal Cert.KernelIdeal.Gen
open Idealize.ShloMosaic
open Idealize.ShloMosaic.SparseCore (S V T)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx (ix1 ix2)

variable {F : FTy → Type} [FloatOps F]

local notation "𝕄" => MT nD τ sig (HIx 1) (Elt F) ℕ UU ℕ

/-! ## The tile's coordinates -/

/-- The tile's batch, -/
abbrev hB (L : grid0.Coords) : ℕ := 8 * (L 0).val + (L 1).val / 2

/-- and which half of its columns it sums. -/
abbrev hH (L : grid0.Coords) : ℕ := (L 1).val % 2

/-- The batch as the body computes it, -/
def batW (a0 a1 : BitVec 32) : BitVec 32 :=
  Scalar.addi (Scalar.muli a0 8#32)
    (Scalar.select
      (Scalar.andi
        (Scalar.cmpi .ne
          (Scalar.subi (Scalar.extui (Scalar.cmpi .sgt a1 0#32) : BitVec 32) (Scalar.extui (Scalar.cmpi .slt a1 0#32)))
          (Scalar.subi (Scalar.extui (Scalar.cmpi .sgt 2#32 0#32) : BitVec 32) (Scalar.extui (Scalar.cmpi .slt 2#32 0#32))))
        (Scalar.cmpi .ne (Scalar.remsi a1 2#32) 0#32))
      (Scalar.subi (Scalar.divsi a1 2#32) 1#32) (Scalar.divsi a1 2#32))

/-- and the half. -/
def halfW (a1 : BitVec 32) : BitVec 32 :=
  Scalar.select
    (Scalar.andi
      (Scalar.xori (Scalar.cmpi .slt (Scalar.remsi a1 (Scalar.select (Scalar.cmpi .eq 2#32 0#32) 1#32 2#32)) 0#32)
        (Scalar.cmpi .slt (Scalar.select (Scalar.cmpi .eq 2#32 0#32) 1#32 2#32) 0#32))
      (Scalar.cmpi .ne (Scalar.remsi a1 (Scalar.select (Scalar.cmpi .eq 2#32 0#32) 1#32 2#32)) 0#32))
    (Scalar.addi (Scalar.remsi a1 (Scalar.select (Scalar.cmpi .eq 2#32 0#32) 1#32 2#32)) (Scalar.select (Scalar.cmpi .eq 2#32 0#32) 1#32 2#32))
    (Scalar.remsi a1 (Scalar.select (Scalar.cmpi .eq 2#32 0#32) 1#32 2#32))

theorem batW_eq : ∀ (a : Fin 2) (b : Fin 16), batW (BitVec.ofNat 32 a.val) (BitVec.ofNat 32 b.val) = BitVec.ofNat 32 (8 * a.val + b.val / 2) := by
  decide

theorem halfW_eq : ∀ b : Fin 16, halfW (BitVec.ofNat 32 b.val) = BitVec.ofNat 32 (b.val % 2) := by
  decide

theorem hB_lt (L : grid0.Coords) : hB L < 16 := by
  have h0 : (L 0).val < 2 := (L 0).isLt
  have h1 : (L 1).val < 16 := (L 1).isLt
  show 8 * (L 0).val + (L 1).val / 2 < 16
  omega

theorem hH_lt (L : grid0.Coords) : hH L < 2 := Nat.mod_lt _ (by decide)

theorem bat_eq (L : grid0.Coords) : batW (BitVec.ofNat 32 (L 0).val) (BitVec.ofNat 32 (L 1).val) = BitVec.ofNat 32 (hB L) := batW_eq (L 0) (L 1)

theorem half_eq (L : grid0.Coords) : halfW (BitVec.ofNat 32 (L 1).val) = BitVec.ofNat 32 (hH L) := halfW_eq (L 1)

theorem batRow_eq (L : grid0.Coords) :
    Scalar.muli (batW (BitVec.ofNat 32 (L 0).val) (BitVec.ofNat 32 (L 1).val)) 4096#32 = BitVec.ofNat 32 (4096 * hB L) := by
  rw [bat_eq, show (4096#32) = BitVec.ofNat 32 4096 from rfl]
  show BitVec.ofNat 32 (hB L) * BitVec.ofNat 32 4096 = _
  rw [← BitVec.ofNat_mul, Nat.mul_comm]

theorem off1_eq (L : grid0.Coords) : k0_off1 L = ![4096 * hB L] := by
  have h : k0_off1 L = ![(Scalar.muli (batW (BitVec.ofNat 32 (L 0).val) (BitVec.ofNat 32 (L 1).val)) 4096#32).toNat] := rfl
  have := hB_lt L
  rw [h, batRow_eq, BitVec.toNat_ofNat, Nat.mod_eq_of_lt (by omega)]

theorem off516_eq (L : grid0.Coords) : k0_off516 L = ![hB L, 128 * hH L] := by
  have h : k0_off516 L = ![(batW (BitVec.ofNat 32 (L 0).val) (BitVec.ofNat 32 (L 1).val)).toNat,
    (Scalar.muli (halfW (BitVec.ofNat 32 (L 1).val)) 128#32).toNat] := rfl
  have h1 := hB_lt L
  have h2 := hH_lt L
  have hm : Scalar.muli (BitVec.ofNat 32 (hH L)) 128#32 = BitVec.ofNat 32 (128 * hH L) := by
    show BitVec.ofNat 32 (hH L) * BitVec.ofNat 32 128 = _
    rw [← BitVec.ofNat_mul, Nat.mul_comm]
  rw [h, bat_eq, half_eq, hm, BitVec.toNat_ofNat, BitVec.toNat_ofNat, Nat.mod_eq_of_lt (by omega), Nat.mod_eq_of_lt (by omega)]

/-- The tile's mask row. -/
def mskOf (marr : S65536.Idx → BitVec 32) (L : grid0.Coords) : S4096.Idx → BitVec 32 :=
  fun y => marr (ix1 ⟨4096 * hB L + (y 0).val, by have := hB_lt L; have : (y 0).val < 4096 := (y 0).isLt; omega⟩)

/-- The first of its rows in the table. -/
abbrev baseOf (L : grid0.Coords) : ℕ := 8192 * hB L + hH L

/-- The rows it selects, in order, as the list ends up. -/
def rowOf (msk : S4096.Idx → BitVec 32) (base : ℕ) (j : ℕ) : Fin 131072 :=
  ⟨(((sel msk 4096).map fun r => base + 2 * r).getD j 0) % 131072, Nat.mod_lt _ (by decide)⟩

theorem sel_lt (msk : S4096.Idx → BitVec 32) (k : ℕ) : ∀ r ∈ sel msk k, r < k := by
  induction k with
  | zero => intro r hr; exact absurd hr (by simp [sel])
  | succ k ih =>
    intro r hr
    rw [sel_succ] at hr
    split at hr
    · rcases List.mem_append.mp hr with hr | hr
      · exact Nat.lt_succ_of_lt (ih r hr)
      · rw [List.mem_singleton.mp hr]; exact Nat.lt_succ_self _
    · exact Nat.lt_succ_of_lt (ih r hr)

theorem lst_rowOf (msk : S4096.Idx → BitVec 32) (L : grid0.Coords) : lst (rowOf msk (baseOf L)) = cbuf msk (baseOf L) 4096 := by
  funext y
  refine congrArg (BitVec.ofNat 32) (Nat.mod_eq_of_lt ?_)
  have h1 := hB_lt L
  have h2 := hH_lt L
  rw [List.getD_eq_getElem?_getD]
  by_cases h : (y 0).val < (sel msk 4096).length
  · rw [List.getElem?_eq_getElem (by simpa using h)]
    simp only [List.getElem_map, Option.getD_some]
    have := sel_lt msk 4096 _ (List.getElem_mem h)
    show 8192 * hB L + hH L + 2 * _ < 131072
    omega
  · rw [List.getElem?_eq_none (by simpa using h)]; decide

/-! ## Its steps -/

section Steps

variable (d : Dev nD) (L : grid0.Coords)

/-- A copy and its wait. -/
theorem wp_cp {α : Type} {Q : α → sProp 𝕄} {sp sp' sw : Space} {s sv : Shape} {e ev : EltTy} {src : Memref sig .scVector sp s e} {dst : Memref sig .scVector sp' s e}
    {wsrc : Memref sig .scVector sw sv ev} {sem : DmaSems sig S_} {h1 h2 h3 h4 h5} {k : PUnit → Prog (TileE F L) α} {q : PosShare TreeShare}
    {g g' : s.Idx → Elt F e} {fs : Buf (Elt F) (src.view.loc (thr d L))} (hfs : src.view.read (Elt F) fs = g) (hs : 0 < s.numel) {O : CellTallies nD τ sig (HIx 1)} {W : Waits sig (HIx 1)} :
    iprop((src.view.loc (thr d L) ↦[src.view.set]{q} fs) ∗ Holds d L dst fullShare g' ∗ semVal (thr d L, SemLoc.dma sem.sem) 0 ∗ Owe d L O W)
      ⊢ iprop((iprop((src.view.loc (thr d L) ↦[src.view.set]{q} fs) ∗ Holds d L dst fullShare g ∗ semVal (thr d L, SemLoc.dma sem.sem) 0 ∗ Owe d L O W) -∗ wpT d L (k ⟨⟩) Q)
        -∗ wpT d L (.op (.enqueueDma src (.here dst) (.dma sem.sem) h1 h2 h3) fun _ => .op (.waitDma2 sem.sem wsrc dst h4 h5) k) Q) := by
  unfold Owe
  iintro ⟨Hs, Hd, Hv, #Hmw, %W', %hW', HO⟩ Hk
  ihave Hd := Holds.elim d L $$ Hd
  icases Hd with ⟨%fd, %hfd, Hd⟩
  iapply (Transfers.wp_dmaLocal countersEmb 𝒱₀ (thr d L) none (default : HIx 1) dst.view.dmaCredit rfl (View.dmaCredit_pos _ hs) subset_rfl) $$ [Hs Hd Hv]
  · isplitl [Hs]; · iexact Hs
    isplitl [Hd]; · iexact Hd
    iexact Hv
  iintro Hfl
  iapply (Transfers.wp_waitLocalO countersEmb 𝒱₀ (thr d L) none (default : HIx 1) (rfl : dst.view.dmaCredit = _)) $$ [Hfl HO]
  · isplitl [Hfl]; · iexact Hfl
    isplitl [HO]; · iexact HO
    iapply (Transfers.MayWaits.elim (SemLoc.dma sem.sem)) $$ Hmw
  iintro ⟨⟨Hd, Hs⟩, Hsem, HO⟩
  iapply Hk
  isplitl [Hs]; · iexact Hs
  isplitl [Hd]; · iapply (Holds.intro d L ((View.read_write_univ ..).trans hfs)) $$ Hd
  isplitl [Hsem]; · iexact Hsem
  isplitr; · iexact Hmw
  iexists _
  isplitr
  swap; · iexact HO
  ipureintro
  intro p hp
  rcases Finset.mem_insert.mp hp with hp | hp
  · exact .inr (hp ▸ rfl)
  · exact hW' p hp

/-- The next sixteen lanes of `h` stored, at an offset given as the program computes it. -/
theorem wp_stUpto {α : Type} {Q : α → sProp 𝕄} {n : ℕ} {e : EltTy} {m : Memref sig .scVector .vmem ⟨1, ![n]⟩ e} {off : Fin 1 → ℕ} (j : ℕ) (hoff : off = ![j])
    {inb : ∀ a, off a + S16.size a ≤ (⟨1, ![n]⟩ : Shape).size a} {g h : (⟨1, ![n]⟩ : Shape).Idx → Elt F e} {w : (Rect.unit (s := ⟨1, ![n]⟩) off S16.size inb).shape.Idx → Elt F e}
    (hw : w = fun x => h ((Rect.unit (s := ⟨1, ![n]⟩) off S16.size inb).emb x)) {hx hm} {k : PUnit → Prog (TileE F L) α} :
    Holds d L m fullShare (upto g h j) ⊢ iprop((Holds d L m fullShare (upto g h (j + 16)) -∗ wpT d L (k ⟨⟩) Q)
      -∗ wpT d L (.op (.store m (Rect.unit (s := ⟨1, ![n]⟩) off S16.size inb) w Finset.univ hx hm) k) Q) := by
  subst hoff hw
  rw [← put_upto g h j inb]
  exact wp_st d L

theorem put_whole {s : Shape} {α : Type} (g w : s.Idx → α) : put (Rect.whole s) g w = w := by
  funext y
  conv_lhs => rw [← Rect.emb_whole_apply s y]
  exact put_emb ..

/-- A masked store by index, into what the tile holds outright. -/
theorem wp_stIdx {α : Type} {Q : α → sProp 𝕄} {s : Shape} {e : EltTy} {dd : Fin 1 → ℕ} {m : Memref sig .scVector .vmem s e} {idxs : Fin s.rank → IVec ⟨1, dd⟩ 32}
    {v : Vec F ⟨1, dd⟩ e} {mask : IVec ⟨1, dd⟩ 1} {add : Bool} {h : ∀ a x, (idxs a x).toNat < s.size a} {hs : (m.access (.whole s)).Stores Finset.univ}
    {k : PUnit → Prog (TileE F L) α} {g : s.Idx → Elt F e} :
    Holds d L m fullShare g ⊢ iprop((Holds d L m fullShare (storeIdx g idxs v mask add h) -∗ wpT d L (k ⟨⟩) Q)
      -∗ wpT d L (SparseCore.vectorStoreIdx m idxs v mask add h hs >>= k) Q) := by
  have hb : (SparseCore.vectorStoreIdx m idxs v mask add h hs >>= k : Prog (TileE F L) α)
    = .op (.load m (.whole s) (View.loadsAt_rect hs.loads)) fun f => .op (.store m (.whole s) (storeIdx f idxs v mask add h) Finset.univ hs (.inl rfl)) k := rfl
  rw [hb]
  iintro H Hk
  iapply wp_ld d L $$ H; iintro H
  iapply wp_st d L $$ H; iintro H
  rw [put_whole, show (fun x => g ((Rect.whole s).emb x)) = g from funext fun x => congrArg g (Rect.emb_whole_apply s x)]
  iapply Hk $$ H

variable (arg2 : Memref sig .scVector .hbm S131072x128 .f32) (harg2 : arg2.IsWhole)
  (arg3 : Memref sig .scVector .hbm S65536 .i32) (harg3 : arg3.IsWhole) (arg4 : Memref sig .scVector .hbm S16x256 .f32) (harg4 : arg4.IsWhole)
  (arg5 : Memref sig .scVector .vmem S4096 .i32) (harg5 : arg5.IsWhole) (arg6 : Memref sig .scVector .vmem S4112 .i32) (harg6 : arg6.IsWhole)
  (arg7 : Memref sig .scVector .vmem S128x128 .f32) (harg7 : arg7.IsWhole) (arg8 : Memref sig .scVector .vmem S128x128 .f32) (harg8 : arg8.IsWhole)
  (arg9 : Memref sig .scVector .vmem S128 .f32) (harg9 : arg9.IsWhole) (arg10 arg11 r0 r1 : DmaSems sig S_)

theorem trips1 : k0_t1_loop.trips = 257 := by decide
theorem trips2 : k0_t2_loop.trips = 256 := by decide

/-- The list zeroed. -/
theorem wp_zero {α : Type} {Q : α → sProp 𝕄} {g : S4112.Idx → BitVec 32} {msk : S4096.Idx → BitVec 32} {base : ℕ} {k : Unit → Prog (TileE F L) α} :
    Holds d L arg6 fullShare g ⊢ iprop((Holds d L arg6 fullShare (cbuf msk base 0) -∗ wpT d L (k ⟨⟩) Q)
      -∗ wpT d L (Scf.Loop.for k0_t1_loop k0_t1_ok ⟨⟩ (k0_t1_body (F := F) L arg2 harg2 arg3 harg3 arg4 harg4 arg5 harg5 arg6 harg6 arg7 harg7 arg8 harg8 arg9 harg9 arg10 arg11 r0 r1) >>= k) Q) := by
  have hf := Scf.wp_for frame (wpE (defs₀ (F := F)) 𝒱₀ (thr d L) none) Set.univ k0_t1_loop.lb k0_t1_loop.ub k0_t1_loop.st (Q := fun a => wpT d L (k a) Q)
    k0_t1_ok ⟨⟩ (k0_t1_body (F := F) L arg2 harg2 arg3 harg3 arg4 harg4 arg5 harg5 arg6 harg6 arg7 harg7 arg8 harg8 arg9 harg9 arg10 arg11 r0 r1)
    (fun t _ => iprop(Holds d L arg6 fullShare (upto g (cbuf msk base 0) (16 * t))))
    (fun t acc => by
      unfold k0_t1_body
      iintro H
      iapply wp_ld d L $$ H; iintro H
      iapply wp_stUpto d L (n := 4112) (16 * t.val) (k0_off2_eq t) (g := g) (h := cbuf msk base 0) (funext fun _ => rfl) $$ H; iintro H
      iapply wp_done d L
      iexact H)
  rw [wpT_bind]
  iintro H Hk
  iapply hf
  isplitl [H]
  · iexact H
  iintro %acc H
  iapply Hk
  iapply (Entails.of_eq (congrArg (Holds d L arg6 fullShare) ((congrArg (upto g (cbuf msk base 0)) (show 16 * k0_t1_loop.trips = 4112 by rw [trips1])).trans (upto_full g _)))) $$ H

/-- The selected rows compacted into the list; how many there are is returned. -/
theorem wp_compact {α : Type} {Q : α → sProp 𝕄} {msk : S4096.Idx → BitVec 32} {k : BitVec 32 → Prog (TileE F L) α} :
    iprop(Holds d L arg5 fullShare msk ∗ Holds d L arg6 fullShare (cbuf msk (baseOf L) 0))
      ⊢ iprop((iprop(Holds d L arg5 fullShare msk ∗ Holds d L arg6 fullShare (cbuf msk (baseOf L) 4096)) -∗ wpT d L (k (BitVec.ofNat 32 (sel msk 4096).length)) Q)
      -∗ wpT d L (Scf.Loop.for k0_t2_loop k0_t2_ok 0#32 (k0_t2_body (F := F) L arg2 harg2 arg3 harg3 arg4 harg4 arg5 harg5 arg6 harg6 arg7 harg7 arg8 harg8 arg9 harg9 arg10 arg11 r0 r1
        (BitVec.ofNat 32 (hH L)) (BitVec.ofNat 32 (4096 * hB L))) >>= k) Q) := by
  have hf := Scf.wp_for frame (wpE (defs₀ (F := F)) 𝒱₀ (thr d L) none) Set.univ k0_t2_loop.lb k0_t2_loop.ub k0_t2_loop.st (Q := fun a => wpT d L (k a) Q)
    k0_t2_ok 0#32 (k0_t2_body (F := F) L arg2 harg2 arg3 harg3 arg4 harg4 arg5 harg5 arg6 harg6 arg7 harg7 arg8 harg8 arg9 harg9 arg10 arg11 r0 r1
        (BitVec.ofNat 32 (hH L)) (BitVec.ofNat 32 (4096 * hB L)))
    (fun t acc => iprop(⌜acc = BitVec.ofNat 32 (sel msk (16 * t)).length⌝ ∗ Holds d L arg5 fullShare msk ∗ Holds d L arg6 fullShare (cbuf msk (baseOf L) (16 * t))))
    (fun t acc => by
      have ht : t.val < 256 := lt_of_lt_of_eq t.isLt trips2
      unfold k0_t2_body
      iintro ⟨%hacc, Hm, H⟩
      subst hacc
      iapply wp_ld d L $$ Hm; iintro Hm
      generalize hv : (fun x => msk ((Rect.unit (s := S4096) (k0_off3 t) S16.size (k0_off3_inb t)).emb x)) = v
      have hv' : ∀ x : S16.Idx, v x = msk (ix1 ⟨16 * t.val + (x 0).val, lane_lt ht x⟩) := fun x => by
        rw [← hv]
        refine congrArg msk (funext fun a => ?_)
        match a with
        | 0 =>
          refine Fin.ext ?_
          rw [Rect.emb_apply]
          show k0_off3 t 0 + 1 * (x 0).val = 16 * t.val + (x 0).val
          rw [k0_off3_eq]
          show 16 * t.val + 1 * (x 0).val = _
          omega
      iapply (wp_assume 𝒱₀ (thr d L) none Set.univ (chk1_holds (msk := msk) ht hv'))
      iapply wp_stIdx d L $$ H; iintro H
      iapply wp_done d L
      isplitr
      · ipureintro
        refine Eq.trans ?_ (tot_add (F := F) ht hv' (ix1 15))
        rfl
      isplitl [Hm]; · iexact Hm
      iapply (Entails.of_eq (congrArg (Holds d L arg6 fullShare) (storeIdx_eq (F := F) (base := baseOf L) ht hv' (fun x => pay517_eq (hB L) (hH L) t ht x) _))) $$ H)
  rw [wpT_bind]
  iintro ⟨Hm, H⟩ Hk
  iapply hf
  isplitl [Hm H]
  · isplitr
    · ipureintro; rfl
    isplitl [Hm]; · iexact Hm
    iexact H
  iintro %acc ⟨%hacc, Hm, H⟩
  have h16 : 16 * k0_t2_loop.trips = 4096 := by rw [trips2]
  have hacc' : acc = BitVec.ofNat 32 (sel msk 4096).length := hacc.trans (congrArg (fun n => BitVec.ofNat 32 (sel msk n).length) h16)
  subst hacc'
  iapply Hk
  isplitl [Hm]; · iexact Hm
  iapply (Entails.of_eq (congrArg (Holds d L arg6 fullShare) (congrArg (cbuf msk (baseOf L)) h16))) $$ H

end Steps

end Cert.Proof
-- ==== Proof.Body.lean ====
/- A tile's whole run: from its share of the table and of the mask and its window of the result to the window holding the
   mean of the batch's selected rows. -/
module

public import proofs.«01_k».proof.Proof.Tile
public import Idealize.ShloMosaic.Lib.Pipeline.Value
public import Idealize.ShloMosaic.Lib.ValueIdxCore

@[expose] public section

noncomputable section

namespace Cert.Proof

open Cert.KernelIdeal Cert.KernelIdeal.Gen
open Idealize.ShloMosaic
open Idealize.ShloMosaic.SparseCore (S V T)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx (ix1 ix2)

variable {F : FTy → Type} [FloatOps F]

local notation "𝕄" => MT nD τ sig (HIx 1) (Elt F) ℕ UU ℕ

section Prog34

variable (L : grid0.Coords)
variable (arg2 : Memref sig .scVector .hbm S131072x128 .f32) (harg2 : arg2.IsWhole)
  (arg3 : Memref sig .scVector .hbm S65536 .i32) (harg3 : arg3.IsWhole) (arg4 : Memref sig .scVector .hbm S16x256 .f32) (harg4 : arg4.IsWhole)
  (arg5 : Memref sig .scVector .vmem S4096 .i32) (harg5 : arg5.IsWhole) (arg6 : Memref sig .scVector .vmem S4112 .i32) (harg6 : arg6.IsWhole)
  (arg7 : Memref sig .scVector .vmem S128x128 .f32) (harg7 : arg7.IsWhole) (arg8 : Memref sig .scVector .vmem S128x128 .f32) (harg8 : arg8.IsWhole)
  (arg9 : Memref sig .scVector .vmem S128 .f32) (harg9 : arg9.IsWhole) (arg10 arg11 r0 r1 : DmaSems sig S_)

/-- The accumulator zeroed, a chunk at a time; then `k`. -/
def zeroAcc {α : Type} (k : Prog (TileE F L) α) : Prog (TileE F L) α := do
  let _ ← ldAcc (F := F) L arg9 0 inb_S128_S16_0
  stAcc L arg9 0 inb_S128_S16_0 k0_pay520
  let _ ← ldAcc (F := F) L arg9 16 inb_S128_S16_16
  stAcc L arg9 16 inb_S128_S16_16 k0_pay521
  let _ ← ldAcc (F := F) L arg9 32 inb_S128_S16_32
  stAcc L arg9 32 inb_S128_S16_32 k0_pay522
  let _ ← ldAcc (F := F) L arg9 48 inb_S128_S16_48
  stAcc L arg9 48 inb_S128_S16_48 k0_pay523
  let _ ← ldAcc (F := F) L arg9 64 inb_S128_S16_64
  stAcc L arg9 64 inb_S128_S16_64 k0_pay524
  let _ ← ldAcc (F := F) L arg9 80 inb_S128_S16_80
  stAcc L arg9 80 inb_S128_S16_80 k0_pay525
  let _ ← ldAcc (F := F) L arg9 96 inb_S128_S16_96
  stAcc L arg9 96 inb_S128_S16_96 k0_pay526
  let _ ← ldAcc (F := F) L arg9 112 inb_S128_S16_112
  stAcc L arg9 112 inb_S128_S16_112 k0_pay527
  k

/-- The second printed part: the compaction, the accumulator zeroed, the first block's gather started. -/
theorem part34_eq (v28 v29 : BitVec 32) :
    k0_part34 (F := F) L arg2 harg2 arg3 harg3 arg4 harg4 arg5 harg5 arg6 harg6 arg7 harg7 arg8 harg8 arg9 harg9 arg10 arg11 r0 r1 v28 v29
      = (Scf.Loop.for k0_t2_loop k0_t2_ok 0#32 (k0_t2_body (F := F) L arg2 harg2 arg3 harg3 arg4 harg4 arg5 harg5 arg6 harg6 arg7 harg7 arg8 harg8 arg9 harg9 arg10 arg11 r0 r1 v28 v29) >>= fun v =>
        .op (.assume (k0_chk2 v) (k0_chk2.dec v)) fun hw =>
        zeroAcc L arg9 (strt L arg2 arg6 arg7 harg7 arg10 (condW v 0#32) 0 (list_inb (by decide))
          (pure ⟨v, hw.down, Scalar.extui (Scalar.cmpi .sgt v 128#32)⟩))) := rfl

end Prog34

section Body

variable (d : Dev nD) (L : grid0.Coords)
variable (arg2 : Memref sig .scVector .hbm S131072x128 .f32) (harg2 : arg2.IsWhole)
  (arg3 : Memref sig .scVector .hbm S65536 .i32) (harg3 : arg3.IsWhole) (arg4 : Memref sig .scVector .hbm S16x256 .f32) (harg4 : arg4.IsWhole)
  (arg5 : Memref sig .scVector .vmem S4096 .i32) (harg5 : arg5.IsWhole) (arg6 : Memref sig .scVector .vmem S4112 .i32) (harg6 : arg6.IsWhole)
  (arg7 : Memref sig .scVector .vmem S128x128 .f32) (harg7 : arg7.IsWhole) (arg8 : Memref sig .scVector .vmem S128x128 .f32) (harg8 : arg8.IsWhole)
  (arg9 : Memref sig .scVector .vmem S128 .f32) (harg9 : arg9.IsWhole) (arg10 arg11 r0 r1 : DmaSems sig S_)

theorem wp_zeroAcc {α : Type} {Q : α → sProp 𝕄} {g : S128.Idx → F .f32} (tab : S131072x128.Idx → F .f32) (row : ℕ → Fin 131072) {k : Prog (TileE F L) α} :
    Holds d L arg9 fullShare g ⊢ iprop((Holds d L arg9 fullShare (accAt tab row 0) -∗ wpT d L k Q) -∗ wpT d L (zeroAcc L arg9 k) Q) := by
  rw [← upto_zero g (accAt tab row 0)]
  unfold zeroAcc
  iintro Ha Hk
  iapply wp_ldAcc d L $$ Ha; iintro Ha
  iapply wp_stAcc d L (h := accAt tab row 0) $$ Ha; iintro Ha
  iapply wp_ldAcc d L $$ Ha; iintro Ha
  iapply wp_stAcc d L (h := accAt tab row 0) $$ Ha; iintro Ha
  iapply wp_ldAcc d L $$ Ha; iintro Ha
  iapply wp_stAcc d L (h := accAt tab row 0) $$ Ha; iintro Ha
  iapply wp_ldAcc d L $$ Ha; iintro Ha
  iapply wp_stAcc d L (h := accAt tab row 0) $$ Ha; iintro Ha
  iapply wp_ldAcc d L $$ Ha; iintro Ha
  iapply wp_stAcc d L (h := accAt tab row 0) $$ Ha; iintro Ha
  iapply wp_ldAcc d L $$ Ha; iintro Ha
  iapply wp_stAcc d L (h := accAt tab row 0) $$ Ha; iintro Ha
  iapply wp_ldAcc d L $$ Ha; iintro Ha
  iapply wp_stAcc d L (h := accAt tab row 0) $$ Ha; iintro Ha
  iapply wp_ldAcc d L $$ Ha; iintro Ha
  iapply wp_stAcc d L (h := accAt tab row 0) $$ Ha; iintro Ha
  iapply Hk
  iapply (Entails.of_eq (congrArg (Holds d L arg9 fullShare) (upto_full g (accAt tab row 0)))) $$ Ha

/-- The first part: the mask row copied in, the list zeroed. -/
theorem wp_part33 {Q : (Σ' (_ : BitVec 32), BitVec 32) → sProp 𝕄} {marr : S65536.Idx → BitVec 32} {q : PosShare TreeShare} {g5 : S4096.Idx → BitVec 32}
    {g6 : S4112.Idx → BitVec 32} {O : CellTallies nD τ sig (HIx 1)} {W : Waits sig (HIx 1)} :
    iprop(Holds d L arg3 q marr ∗ Holds d L arg5 fullShare g5 ∗ Holds d L arg6 fullShare g6 ∗ semVal (thr d L, SemLoc.dma r0.sem) 0 ∗ Owe d L O W)
      ⊢ iprop((iprop(Holds d L arg3 q marr ∗ Holds d L arg5 fullShare (mskOf marr L) ∗ Holds d L arg6 fullShare (cbuf (mskOf marr L) (baseOf L) 0)
            ∗ semVal (thr d L, SemLoc.dma r0.sem) 0 ∗ Owe d L O W) -∗ Q ⟨BitVec.ofNat 32 (hH L), BitVec.ofNat 32 (4096 * hB L)⟩)
        -∗ wpT d L (k0_part33 (F := F) L arg2 harg2 arg3 harg3 arg4 harg4 arg5 harg5 arg6 harg6 arg7 harg7 arg8 harg8 arg9 harg9 arg10 arg11 r0 r1) Q) := by
  have he : (⟨halfW (BitVec.ofNat 32 (L 1).val), Scalar.muli (batW (BitVec.ofNat 32 (L 0).val) (BitVec.ofNat 32 (L 1).val)) 4096#32⟩ : Σ' (_ : BitVec 32), BitVec 32)
    = ⟨BitVec.ofNat 32 (hH L), BitVec.ofNat 32 (4096 * hB L)⟩ := by rw [half_eq, batRow_eq]
  unfold halfW batW at he
  rw [k0_part33_eq_skeleton]
  unfold k0_part33_skel
  iintro ⟨H3, H5, H6, Hs, HO⟩ Hk
  ihave H3 := Holds.slice d L (Rect.unit (s := S65536) (k0_off1 L) S4096.size (k0_off1_inb L)) (fun _ => rfl) $$ H3
  icases H3 with ⟨%f3, %hf3, H3, H3b⟩
  have hm : (fun x => marr ((Rect.unit (s := S65536) (k0_off1 L) S4096.size (k0_off1_inb L)).emb x)) = mskOf marr L := by
    funext x
    refine congrArg marr (funext fun a => ?_)
    match a with
    | 0 =>
      refine Fin.ext ?_
      rw [Rect.emb_apply]
      show k0_off1 L 0 + 1 * (x 0).val = 4096 * hB L + (x 0).val
      have h0 : k0_off1 L 0 = 4096 * hB L := congrFun (off1_eq L) 0
      rw [Nat.one_mul]
      exact congrArg (· + (x 0).val) h0
  iapply wp_cp d L (hf3.trans hm) (show 0 < S4096.numel by decide) $$ [H3 H5 Hs HO]
  · isplitl [H3]; · iexact H3
    isplitl [H5]; · iexact H5
    isplitl [Hs]; · iexact Hs
    iexact HO
  iintro ⟨H3, H5, Hs, HO⟩
  iapply wp_zero d L arg2 harg2 arg3 harg3 arg4 harg4 arg5 harg5 arg6 harg6 arg7 harg7 arg8 harg8 arg9 harg9 arg10 arg11 r0 r1 (msk := mskOf marr L) (base := baseOf L) $$ H6; iintro H6
  iapply wp_done d L
  iapply (Entails.of_eq (congrArg Q he.symm))
  iapply Hk
  isplitl [H3 H3b]; · iapply H3b $$ H3
  isplitl [H5]; · iexact H5
  isplitl [H6]; · iexact H6
  isplitl [Hs]; · iexact Hs
  iexact HO

/-- A share cut in two. -/
theorem Holds.halve {sp : Space} {s : Shape} {e : EltTy} {m : Memref sig .scVector sp s e} {q : PosShare TreeShare} {g : s.Idx → Elt F e} :
    Holds d L m q g ⊢ iprop(Holds d L m (PosShare.left q) g ∗ Holds d L m (PosShare.right q) g) := by
  unfold Holds
  iintro ⟨%f, %hf, H⟩
  ihave H := (pointsTo_share (PosShare.mem_left_op_right q)).1 $$ H
  icases H with ⟨H1, H2⟩
  isplitl [H1]
  · iexists f
    isplitr; · ipureintro; exact hf
    iexact H1
  · iexists f
    isplitr; · ipureintro; exact hf
    iexact H2

/-- The tile's count of selected rows, -/
abbrev cntOf (msk : S4096.Idx → BitVec 32) : ℕ := (sel msk 4096).length

/-- and what it writes. -/
def tileOut (tab : S131072x128.Idx → F .f32) (msk : S4096.Idx → BitVec 32) (base : ℕ) : S128.Idx → F .f32 :=
  meanAt (BitVec.ofNat 32 (cntOf msk)) (accAt tab (rowOf msk base) (cntOf msk))

/-- The second part. -/
theorem wp_part34 {Q : (Σ' (v : BitVec 32) (_ : k0_chk2 v), BitVec 32) → sProp 𝕄} {msk : S4096.Idx → BitVec 32} {tab : S131072x128.Idx → F .f32}
    {qA qB : PosShare TreeShare} (hcr : RowCredit arg7) {O : CellTallies nD τ sig (HIx 1)} {W : Waits sig (HIx 1)} :
    iprop(Holds d L arg5 fullShare msk ∗ Holds d L arg6 fullShare (cbuf msk (baseOf L) 0) ∗ (∃ g, Holds d L arg7 fullShare g) ∗ (∃ g, Holds d L arg8 fullShare g)
        ∗ (∃ g, Holds d L arg9 fullShare g) ∗ Holds d L arg2 qA tab ∗ Holds d L arg2 qB tab
        ∗ semVal (thr d L, SemLoc.dma arg10.sem) 0 ∗ semVal (thr d L, SemLoc.dma arg11.sem) 0 ∗ Owe d L O W)
      ⊢ iprop((iprop(Holds d L arg5 fullShare msk ∗ At d L arg2 arg6 tab (rowOf msk (baseOf L)) arg7 arg8 arg9 arg10 arg11 qA qB
            (PosShare.left fullShare) (PosShare.right fullShare) O W (cntOf msk) 0)
          -∗ Q ⟨BitVec.ofNat 32 (cntOf msk), chk2_holds _, Scalar.extui (Scalar.cmpi .sgt (BitVec.ofNat 32 (cntOf msk)) 128#32)⟩)
        -∗ wpT d L (k0_part34 (F := F) L arg2 harg2 arg3 harg3 arg4 harg4 arg5 harg5 arg6 harg6 arg7 harg7 arg8 harg8 arg9 harg9 arg10 arg11 r0 r1 (BitVec.ofNat 32 (hH L)) (BitVec.ofNat 32 (4096 * hB L))) Q) := by
  have hn : cntOf msk ≤ 4096 := length_sel_le msk 4096
  rw [part34_eq]
  iintro ⟨H5, H6, H7, H8, ⟨%g9, H9⟩, HtA, HtB, HsA, HsB, HO⟩ Hk
  iapply wp_compact d L arg2 harg2 arg3 harg3 arg4 harg4 arg5 harg5 arg6 harg6 arg7 harg7 arg8 harg8 arg9 harg9 arg10 arg11 r0 r1 (msk := msk) $$ [H5 H6]
  · isplitl [H5]; · iexact H5
    iexact H6
  iintro ⟨H5, H6⟩
  iapply (wp_assume 𝒱₀ (thr d L) none Set.univ (chk2_holds _))
  iapply wp_zeroAcc d L arg9 tab (rowOf msk (baseOf L)) $$ H9; iintro H9
  ihave H6 := (Entails.of_eq (congrArg (Holds d L arg6 fullShare) (lst_rowOf msk L).symm)) $$ H6
  ihave H6 := Holds.halve d L $$ H6
  icases H6 with ⟨H6A, H6B⟩
  iapply wp_strt d L arg2 arg6 tab (rowOf msk (baseOf L)) hn rfl harg7 hcr (o := 0) (by decide) (by decide) $$ [H7 HtA H6A HsA]
  · unfold Idle
    isplitl [H7]; · iexact H7
    isplitl [HtA]; · iexact HtA
    isplitl [H6A]; · iexact H6A
    iexact HsA
  iintro HA
  iapply wp_done d L
  iapply Hk
  isplitl [H5]; · iexact H5
  unfold At
  isplitl [HA]; · iexact HA
  isplitl [H8 HtB H6B HsB]
  · unfold Idle
    isplitl [H8]; · iexact H8
    isplitl [HtB]; · iexact HtB
    isplitl [H6B]; · iexact H6B
    iexact HsB
  isplitl [H9]
  · iapply (Entails.of_eq (congrArg (fun n => Holds d L arg9 fullShare (accAt tab (rowOf msk (baseOf L)) n)) (Nat.min_eq_right (Nat.zero_le _)).symm)) $$ H9
  iexact HO

/-- The window of the result a tile writes. -/
abbrev outW : Memref sig .scVector .hbm S128 .f32 :=
  (arg4.slice (Rect.unit (s := S16x256) (k0_off516 L) S1x128.size (k0_off516_inb L)) (fun _ => rfl)).squeeze S128 squeezes_S1x128_S128

theorem pay1_chunk (v : BitVec 32) (a : S128.Idx → F .f32) (j : ℕ) (inb) : k0_pay1 (k0_pay528 v) (chunk a j inb) = chunk (meanAt v a) j inb := rfl

/-- A tile's run. -/
theorem wp_body {Q : PUnit → sProp 𝕄} {marr : S65536.Idx → BitVec 32} {tab : S131072x128.Idx → F .f32} {q3 qA qB : PosShare TreeShare}
    (hc7 : RowCredit arg7) (hc8 : RowCredit arg8) {O : CellTallies nD τ sig (HIx 1)} {W : Waits sig (HIx 1)} :
    iprop(Holds d L arg2 qA tab ∗ Holds d L arg2 qB tab ∗ Holds d L arg3 q3 marr ∗ (∃ g, Holds d L (outW L arg4) fullShare g)
        ∗ (∃ g, Holds d L arg5 fullShare g) ∗ (∃ g, Holds d L arg6 fullShare g) ∗ (∃ g, Holds d L arg7 fullShare g) ∗ (∃ g, Holds d L arg8 fullShare g)
        ∗ (∃ g, Holds d L arg9 fullShare g)
        ∗ semVal (thr d L, SemLoc.dma arg10.sem) 0 ∗ semVal (thr d L, SemLoc.dma arg11.sem) 0 ∗ semVal (thr d L, SemLoc.dma r0.sem) 0
        ∗ semVal (thr d L, SemLoc.dma r1.sem) 0 ∗ Owe d L O W)
      ⊢ iprop((iprop(Holds d L arg2 qA tab ∗ Holds d L arg2 qB tab ∗ Holds d L arg3 q3 marr
            ∗ Holds d L (outW L arg4) fullShare (tileOut tab (mskOf marr L) (baseOf L))
            ∗ (∃ g, Holds d L arg5 fullShare g) ∗ (∃ g, Holds d L arg6 (PosShare.left fullShare) g ∗ Holds d L arg6 (PosShare.right fullShare) g)
            ∗ (∃ g, Holds d L arg7 fullShare g) ∗ (∃ g, Holds d L arg8 fullShare g) ∗ (∃ g, Holds d L arg9 fullShare g)
            ∗ semVal (thr d L, SemLoc.dma arg10.sem) 0 ∗ semVal (thr d L, SemLoc.dma arg11.sem) 0 ∗ semVal (thr d L, SemLoc.dma r0.sem) 0
            ∗ semVal (thr d L, SemLoc.dma r1.sem) 0 ∗ Owe d L O W) -∗ Q ⟨⟩)
        -∗ wpT d L (cc0__sc_body (F := F) L arg2 harg2 arg3 harg3 arg4 harg4 arg5 harg5 arg6 harg6 arg7 harg7 arg8 harg8 arg9 harg9 arg10 arg11 r0 r1) Q) := by
  have hn : cntOf (mskOf marr L) ≤ 4096 := length_sel_le _ 4096
  rw [cc0__sc_body_eq_skeleton]
  unfold cc0__sc_body_skel
  iintro ⟨HtA, HtB, H3, ⟨%g4, H4⟩, ⟨%g5, H5⟩, ⟨%g6, H6⟩, H7, H8, H9, HsA, HsB, Hr0, Hr1, HO⟩ Hk
  rw [wpT_bind]
  iapply wp_part33 d L arg2 harg2 arg3 harg3 arg4 harg4 arg5 harg5 arg6 harg6 arg7 harg7 arg8 harg8 arg9 harg9 arg10 arg11 r0 r1 $$ [H3 H5 H6 Hr0 HO]
  · isplitl [H3]; · iexact H3
    isplitl [H5]; · iexact H5
    isplitl [H6]; · iexact H6
    isplitl [Hr0]; · iexact Hr0
    iexact HO
  iintro ⟨H3, H5, H6, Hr0, HO⟩
  rw [wpT_bind]
  iapply wp_part34 d L arg2 harg2 arg3 harg3 arg4 harg4 arg5 harg5 arg6 harg6 arg7 harg7 arg8 harg8 arg9 harg9 arg10 arg11 r0 r1 (qA := qA) (qB := qB) (tab := tab) hc7 $$ [HtA HtB H5 H6 H7 H8 H9 HsA HsB HO]
  · isplitl [H5]; · iexact H5
    isplitl [H6]; · iexact H6
    isplitl [H7]; · iexact H7
    isplitl [H8]; · iexact H8
    isplitl [H9]; · iexact H9
    isplitl [HtA]; · iexact HtA
    isplitl [HtB]; · iexact HtB
    isplitl [HsA]; · iexact HsA
    isplitl [HsB]; · iexact HsB
    iexact HO
  iintro ⟨H5, HA⟩
  rw [wpT_bind, part35_eq]
  iapply wp_five d L arg2 arg6 tab (rowOf (mskOf marr L) (baseOf L)) arg7 harg7 arg8 harg8 arg9 arg10 arg11 _ _ _ _ O W hn rfl hc7 hc8 (o := 0) _ $$ HA
  iintro HA
  rw [wpT_bind, part36_eq]
  iapply wp_five d L arg2 arg6 tab (rowOf (mskOf marr L) (baseOf L)) arg8 harg8 arg7 harg7 arg9 arg11 arg10 _ _ _ _ O W hn rfl hc8 hc7 (o := 640) _ $$ HA
  iintro HA
  rw [wpT_bind, part37_eq]
  iapply wp_five d L arg2 arg6 tab (rowOf (mskOf marr L) (baseOf L)) arg7 harg7 arg8 harg8 arg9 arg10 arg11 _ _ _ _ O W hn rfl hc7 hc8 (o := 1280) _ $$ HA
  iintro HA
  rw [wpT_bind, part38_eq]
  iapply wp_five d L arg2 arg6 tab (rowOf (mskOf marr L) (baseOf L)) arg8 harg8 arg7 harg7 arg9 arg11 arg10 _ _ _ _ O W hn rfl hc8 hc7 (o := 1920) _ $$ HA
  iintro HA
  rw [wpT_bind, part39_eq]
  iapply wp_five d L arg2 arg6 tab (rowOf (mskOf marr L) (baseOf L)) arg7 harg7 arg8 harg8 arg9 arg10 arg11 _ _ _ _ O W hn rfl hc7 hc8 (o := 2560) _ $$ HA
  iintro HA
  rw [wpT_bind, part40_eq]
  iapply wp_five d L arg2 arg6 tab (rowOf (mskOf marr L) (baseOf L)) arg8 harg8 arg7 harg7 arg9 arg11 arg10 _ _ _ _ O W hn rfl hc8 hc7 (o := 3200) _ $$ HA
  iintro HA
  rw [wpT_bind, part41_eq]
  iapply wp_lastTwo d L arg2 arg6 tab (rowOf (mskOf marr L) (baseOf L)) arg7 harg7 arg8 harg8 arg9 arg10 arg11 _ _ _ _ O W hn rfl hc8 $$ HA
  iintro ⟨HA, HB, H9, HO⟩
  iapply wp_ldAcc d L $$ H9; iintro H9
  iapply wp_stAcc d L $$ H9; iintro H9
  iapply wp_ldAcc d L $$ H9; iintro H9
  iapply wp_ldAcc d L $$ H9; iintro H9
  rw [chunk_upto, pay1_chunk]
  iapply wp_stAcc d L $$ H9; iintro H9
  ihave H9 := (Entails.of_eq (congrArg (Holds d L arg9 fullShare) (upto_full _ _))) $$ H9
  ihave H9 := Holds.elim d L $$ H9
  icases H9 with ⟨%f9, %hf9, H9⟩
  iapply wp_cp d L hf9 (show 0 < S128.numel by decide) $$ [H9 H4 Hr1 HO]
  · isplitl [H9]; · iexact H9
    isplitl [H4]; · iexact H4
    isplitl [Hr1]; · iexact Hr1
    iexact HO
  iintro ⟨H9, H4, Hr1, HO⟩
  iapply wp_done d L
  iapply Hk
  unfold Idle
  icases HA with ⟨H7, HtA, H6A, HsA⟩
  icases HB with ⟨H8, HtB, H6B, HsB⟩
  isplitl [HtA]; · iexact HtA
  isplitl [HtB]; · iexact HtB
  isplitl [H3]; · iexact H3
  isplitl [H4]; · iexact H4
  isplitl [H5]; · iexists _; iexact H5
  isplitl [H6A H6B]
  · iexists _
    isplitl [H6A]; · iexact H6A
    iexact H6B
  isplitl [H7]; · iexact H7
  isplitl [H8]; · iexact H8
  isplitl [H9]
  · iexists _
    iapply (Holds.intro d L hf9) $$ H9
  isplitl [HsA]; · iexact HsA
  isplitl [HsB]; · iexact HsB
  isplitl [Hr0]; · iexact Hr0
  isplitl [Hr1]; · iexact Hr1
  iexact HO

end Body

end Cert.Proof
-- ==== Proof.Deal.lean ====
/- How the launch deals the call's arrays to the tiles: each tile a share of the whole table and of the whole mask, and its
   own window of the result; and what the result's windows hold together at the end. -/
module

public import proofs.«01_k».proof.Proof.Body
public import Idealize.ShloMosaic.Lib.Pipeline.Value
public import Idealize.ShloMosaic.Lib.ValueIdxCore

@[expose] public section

noncomputable section

namespace Cert.Proof

open Cert.KernelIdeal Cert.KernelIdeal.Gen
open Idealize.ShloMosaic
open Idealize.ShloMosaic.SparseCore (S V T)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx (ix1 ix2)

variable {F : FTy → Type} [FloatOps F]

local notation "𝕄" => MT nD τ sig (HIx 1) (Elt F) ℕ UU ℕ
theorem nCore_zero : (K (F := F)).nCore 0 = 2 := rfl
theorem nSub_zero : (K (F := F)).nSub 0 = 16 := rfl

/-! ## The arrays -/

abbrev aLoc (d : Dev nD) : Loc nD τ sig := (SparseCore.T d).loc main_arg0
abbrev bLoc (d : Dev nD) : Loc nD τ sig := (SparseCore.T d).loc main_arg1
abbrev xLoc (d : Dev nD) : Loc nD τ sig := (SparseCore.T d).loc main_v0
abbrev eLoc (d : Dev nD) : Loc nD τ sig := (SparseCore.T d).loc main_v1
abbrev mLoc (d : Dev nD) : Loc nD τ sig := (SparseCore.T d).loc main_v2
abbrev oLoc (d : Dev nD) : Loc nD τ sig := (SparseCore.T d).loc main_v3

/-- The memref of the result, whole. -/
abbrev oV : Memref sig .scVector .hbm S16x256 .f32 := Memref.whole main_v3_scv

/-! ## The tiles -/

abbrev Pair : Type := Fin 2 × Fin 16

/-- The grid coordinates of tile `i` of SparseCore `c`. -/
def coordsV (c : Fin (grid0.bound 0)) (i : Fin (grid0.bound 1)) : grid0.Coords :=
  fun | 0 => c | 1 => i | ⟨_ + 2, h⟩ => absurd h (Nat.not_lt.2 (Nat.le_add_left _ _))

abbrev tileL (p : Pair) : grid0.Coords := coordsV p.1 p.2

/-- The tile whose window the element `y` of the result lies in. -/
def pairAt (y : S16x256.Idx) : Pair :=
  (⟨(y 0).val / 8, by have := (y 0).isLt; change _ < 16 at this; omega⟩,
    ⟨2 * ((y 0).val % 8) + (y 1).val / 128, by have := (y 1).isLt; change _ < 256 at this; omega⟩)

/-- Its place in that window. -/
def laneAt (y : S16x256.Idx) : S128.Idx := ix1 ⟨(y 1).val % 128, Nat.mod_lt _ (by decide)⟩

/-- What the launch leaves in the result, an element at a time. -/
def outAt (tab : S131072x128.Idx → F .f32) (marr : S65536.Idx → BitVec 32) (y : S16x256.Idx) : F .f32 :=
  tileOut tab (mskOf marr (tileL (pairAt y))) (baseOf (tileL (pairAt y))) (laneAt y)

/-! ## The result's windows -/

theorem win_lt (L : grid0.Coords) (x : Fin 128) : 128 * hH L + x.val < 256 := by have := hH_lt L; have := x.isLt; omega

/-- The element of the result at place `x` of tile `L`'s window. -/
def winAt (L : grid0.Coords) (x : S128.Idx) : S16x256.Idx := ix2 ⟨hB L, hB_lt L⟩ ⟨128 * hH L + (x 0).val, win_lt L (x 0)⟩

theorem squeeze_at (x : S128.Idx) : Shape.reshapeEquiv squeezes_S1x128_S128.numel_eq x = (ix2 ⟨0, Nat.one_pos⟩ (x 0) : S1x128.Idx) := by
  have h := shapeCast_dropUnit_apply (n := 1) ![128] (fun y : S1x128.Idx => y) squeezes_S1x128_S128.numel_eq x
  refine Eq.trans h ?_
  funext a
  match a with
  | 0 => rfl
  | 1 => rfl

theorem win_emb (L : grid0.Coords) (x : S128.Idx) : (outW L oV).view.emb x = winAt L x := by
  have h0 := congrFun (off516_eq L) 0
  have h1 := congrFun (off516_eq L) 1
  have e : (outW L oV).view.emb x = (Rect.unit (s := S16x256) (k0_off516 L) S1x128.size (k0_off516_inb L)).emb
      (Shape.reshapeEquiv squeezes_S1x128_S128.numel_eq x) := rfl
  rw [e, squeeze_at]
  funext a
  match a with
  | 0 => exact Fin.ext (by show k0_off516 L 0 + 1 * 0 = hB L; rw [h0]; rfl)
  | 1 => exact Fin.ext (by show k0_off516 L 1 + 1 * (x 0).val = 128 * hH L + (x 0).val; rw [h1, Nat.one_mul]; rfl)

theorem pairAt_win (p : Pair) (x : S128.Idx) : pairAt (winAt (tileL p) x) = p := by
  obtain ⟨c, i⟩ := p
  have hc := c.isLt
  have hi := i.isLt
  have hx : (x 0).val < 128 := (x 0).isLt
  refine Prod.ext (Fin.ext ?_) (Fin.ext ?_)
  · show (8 * c.val + i.val / 2) / 8 = c.val; omega
  · show 2 * ((8 * c.val + i.val / 2) % 8) + (128 * (i.val % 2) + (x 0).val) / 128 = i.val; omega

theorem laneAt_win (L : grid0.Coords) (x : S128.Idx) : laneAt (winAt L x) = x := by
  have hx : (x 0).val < 128 := (x 0).isLt
  funext a
  match a with
  | 0 => exact Fin.ext (by show (128 * hH L + (x 0).val) % 128 = (x 0).val; omega)

theorem win_pairAt (y : S16x256.Idx) : winAt (tileL (pairAt y)) (laneAt y) = y := by
  have h0 : (y 0).val < 16 := (y 0).isLt
  have h1 : (y 1).val < 256 := (y 1).isLt
  funext a
  match a with
  | 0 => exact Fin.ext (by
      show 8 * ((y 0).val / 8) + (2 * ((y 0).val % 8) + (y 1).val / 128) / 2 = (y 0).val; omega)
  | 1 => exact Fin.ext (by
      show 128 * ((2 * ((y 0).val % 8) + (y 1).val / 128) % 2) + (y 1).val % 128 = (y 1).val; omega)

/-- The elements of tile `p`'s window. -/
def winSet (p : Pair) : Finset S16x256.Idx := (outW (tileL p) oV).view.set

theorem mem_winSet {p : Pair} {y : S16x256.Idx} : y ∈ winSet p ↔ pairAt y = p := by
  constructor
  · intro h
    obtain ⟨x, -, hx⟩ := Finset.mem_map.mp h
    rw [← hx]
    show pairAt ((outW (tileL p) oV).view.emb x) = p
    rw [win_emb, pairAt_win]
  · rintro rfl
    refine Finset.mem_map.mpr ⟨laneAt y, Finset.mem_univ _, ?_⟩
    show (outW (tileL (pairAt y)) oV).view.emb (laneAt y) = y
    rw [win_emb, win_pairAt]

theorem win_disjoint : ∀ p ∈ (Finset.univ : Finset Pair), ∀ p' ∈ (Finset.univ : Finset Pair), p ≠ p' → Disjoint (winSet p) (winSet p') :=
  fun _ _ _ _ h => Finset.disjoint_left.mpr fun _ hy hy' => h ((mem_winSet.mp hy).symm.trans (mem_winSet.mp hy'))

theorem win_cover : (Finset.univ : Finset Pair).biUnion winSet = Finset.univ :=
  Finset.eq_univ_of_forall fun y => Finset.mem_biUnion.mpr ⟨pairAt y, Finset.mem_univ _, mem_winSet.mpr rfl⟩

/-- The result whole is its windows. -/
theorem out_windows (d : Dev nD) (f : Buf (Elt F) (oLoc d)) :
    (oLoc d ↦{fullShare} f : sProp 𝕄) = bigSep Finset.univ fun p : Pair => oLoc d ↦[winSet p]{fullShare} f := by
  rw [← pointsTo_biUnion Finset.univ (ℓ := oLoc d) winSet win_disjoint, win_cover]

/-! ## Shares, one for each of finitely many -/

/-- A share, and so what is held at it, comes apart into one for each element of a finite set and a rest. -/
theorem exists_shares {A : Type} [DecidableEq A] (s : Finset A) (q : PosShare TreeShare) :
    ∃ (φ : A → PosShare TreeShare) (r : PosShare TreeShare), ∀ (ℓ : Loc nD τ sig) (f : Buf (Elt F) ℓ),
      (ℓ ↦{q} f : sProp 𝕄) = iprop((bigSep s fun t => ℓ ↦{φ t} f) ∗ ℓ ↦{r} f) := by
  induction s using Finset.induction_on with
  | empty => exact ⟨fun _ => q, q, fun ℓ f => by rw [bigSep_empty]; exact BI.Entails.antisymm emp_sep.2 emp_sep.1⟩
  | insert t s ht ih =>
    obtain ⟨φ, r, h⟩ := ih
    refine ⟨Function.update φ t r.left, r.right, fun ℓ f => ?_⟩
    have hs : (bigSep s fun u => (ℓ ↦{Function.update φ t r.left u} f : sProp 𝕄)) = bigSep s fun u => ℓ ↦{φ u} f :=
      bigSep_congr fun u hu => by rw [Function.update_of_ne (fun e : u = t => ht (e ▸ hu))]
    have hr : (ℓ ↦{r} f : sProp 𝕄) = iprop((ℓ ↦{r.left} f) ∗ ℓ ↦{r.right} f) :=
      BI.Entails.antisymm (pointsTo_share (PosShare.mem_left_op_right r)).1 (pointsTo_share (PosShare.mem_left_op_right r)).2
    rw [SparseCore.bigSep_insert' ht, hs, Function.update_self, h ℓ f, hr]
    refine BI.Entails.antisymm (show (_ : sProp 𝕄) ⊢ _ from ?_) (show (_ : sProp 𝕄) ⊢ _ from ?_)
    · iintro ⟨HS, HL, HR⟩
      isplitr [HR]
      · isplitl [HL] <;> iassumption
      · iexact HR
    · iintro ⟨⟨HL, HS⟩, HR⟩
      isplitl [HS]; · iexact HS
      isplitl [HL] <;> iassumption

/-- Tile `p`'s share of the table and of the mask, -/
def shq (F : FTy → Type) [FloatOps F] : Pair → PosShare TreeShare := (exists_shares (F := F) (Finset.univ : Finset Pair) fullShare).choose
/-- and what no tile gets. -/
def shr (F : FTy → Type) [FloatOps F] : PosShare TreeShare := (exists_shares (F := F) (Finset.univ : Finset Pair) fullShare).choose_spec.choose

theorem shares_eq (ℓ : Loc nD τ sig) (f : Buf (Elt F) ℓ) :
    (ℓ ↦{fullShare} f : sProp 𝕄) = iprop((bigSep Finset.univ fun p : Pair => ℓ ↦{shq F p} f) ∗ ℓ ↦{shr F} f) :=
  (exists_shares (F := F) (Finset.univ : Finset Pair) fullShare).choose_spec.choose_spec ℓ f

/-! ## What a tile is handed -/

/-- A tile's share of the table `x` and of the mask `w`, and its window of the result, at `f`. -/
def tileP (d : Dev nD) (x : Buf (Elt F) (xLoc d)) (w : Buf (Elt F) (mLoc d)) (f : Buf (Elt F) (oLoc d)) (p : Pair) : sProp 𝕄 :=
  iprop((xLoc d ↦{shq F p} x) ∗ (mLoc d ↦{shq F p} w) ∗ oLoc d ↦[winSet p]{fullShare} f)

instance tileP_storable (d : Dev nD) (x : Buf (Elt F) (xLoc d)) (w : Buf (Elt F) (mLoc d)) (f : Buf (Elt F) (oLoc d)) (p : Pair) :
    BI.Storable (upEmb : UEmb _ 𝕄) (tileP d x w f p) := by
  unfold tileP; infer_instance

/-- The three arrays whole are the tiles' parts of them, and a share of the table and of the mask over. -/
theorem tiles_eq (d : Dev nD) (x : Buf (Elt F) (xLoc d)) (w : Buf (Elt F) (mLoc d)) (f : Buf (Elt F) (oLoc d)) :
    (iprop((bigSep Finset.univ fun c : Fin 2 => bigSep Finset.univ fun i : Fin 16 => tileP d x w f (c, i)) ∗ (xLoc d ↦{shr F} x) ∗ (mLoc d ↦{shr F} w)) : sProp 𝕄)
      = iprop((xLoc d ↦{fullShare} x) ∗ (mLoc d ↦{fullShare} w) ∗ oLoc d ↦{fullShare} f) := by
  rw [← bigSep_univ_prod (fun p : Pair => tileP d x w f p)]
  unfold tileP
  rw [bigSep_sep', bigSep_sep', shares_eq (xLoc d) x, shares_eq (mLoc d) w, out_windows d f]
  refine BI.Entails.antisymm (show (_ : sProp 𝕄) ⊢ _ from ?_) (show (_ : sProp 𝕄) ⊢ _ from ?_)
  · iintro ⟨⟨Hx, Hw, Ho⟩, Hxr, Hwr⟩
    isplitl [Hx Hxr]
    · isplitl [Hx] <;> iassumption
    isplitl [Hw Hwr]
    · isplitl [Hw] <;> iassumption
    iexact Ho
  · iintro ⟨⟨Hx, Hxr⟩, ⟨Hw, Hwr⟩, Ho⟩
    isplitl [Hx Hw Ho]
    · isplitl [Hx]; · iexact Hx
      isplitl [Hw] <;> iassumption
    isplitl [Hxr] <;> iassumption

/-! ## A tile's memrefs -/

/-- A whole memref is its buffer. -/
theorem pts_whole (d : Dev nD) (L : grid0.Coords) (b : Ref sig .scVector) (q : PosShare TreeShare) (f : Buf (Elt F) ((thr d L).loc b)) :
    ((Memref.whole b).view.loc (thr d L) ↦[(Memref.whole b).view.set]{q} f : sProp 𝕄) = (thr d L).loc b ↦{q} f := by
  have h : (Memref.whole b).view.set = (Finset.univ : Finset (Idx ((thr d L).loc b))) := View.set_whole _
  exact congrArg (fun S : Finset (Idx ((thr d L).loc b)) => ((thr d L).loc b ↦[S]{q} f : sProp 𝕄)) h

theorem holds_whole (d : Dev nD) (L : grid0.Coords) (b : Ref sig .scVector) (q : PosShare TreeShare) (f : Buf (Elt F) ((thr d L).loc b)) :
    (Holds d L (Memref.whole b) q f : sProp 𝕄) = iprop((thr d L).loc b ↦{q} f) := by
  rw [← pts_whole]
  unfold Holds
  refine BI.Entails.antisymm (show (_ : sProp 𝕄) ⊢ _ from ?_) (show (_ : sProp 𝕄) ⊢ _ from ?_)
  · iintro ⟨%g, %hg, H⟩
    have e : g = f := hg
    subst e
    iexact H
  · iintro H
    iexists f
    isplitr; · ipureintro; rfl
    iexact H

/-- A tile's window of the result, at whatever it reads, -/
theorem win_intro (d : Dev nD) (p : Pair) (f : Buf (Elt F) (oLoc d)) :
    (oLoc d ↦[winSet p]{fullShare} f : sProp 𝕄) ⊢ iprop(∃ g, Holds d (tileL p) (outW (tileL p) oV) fullShare g) := by
  unfold Holds
  iintro H
  iexists _; iexists f
  isplitr; · ipureintro; rfl
  iexact H

/-- and, once the tile has run, at the result. -/
theorem win_elim (d : Dev nD) (p : Pair) (tab : S131072x128.Idx → F .f32) (marr : S65536.Idx → BitVec 32) :
    (Holds d (tileL p) (outW (tileL p) oV) fullShare (tileOut tab (mskOf marr (tileL p)) (baseOf (tileL p))) : sProp 𝕄)
      ⊢ oLoc d ↦[winSet p]{fullShare} (outAt tab marr : S16x256.Idx → F .f32) := by
  unfold Holds
  iintro ⟨%f, %hf, H⟩
  have e : ∀ y ∈ winSet p, (f : S16x256.Idx → F .f32) y = outAt tab marr y := by
    intro y hy
    obtain rfl := mem_winSet.mp hy
    have h := congrFun hf (laneAt y)
    have h' : (f : S16x256.Idx → F .f32) ((outW (tileL (pairAt y)) oV).view.emb (laneAt y)) = _ := h
    rw [win_emb, win_pairAt] at h'
    exact h'
  ihave H' := (Entails.of_eq (show ((outW (tileL p) oV).view.loc (thr d (tileL p)) ↦[(outW (tileL p) oV).view.set]{fullShare} f : sProp 𝕄)
    = oLoc d ↦[winSet p]{fullShare} f from rfl)) $$ H
  iapply (Entails.of_eq (pointsTo_congr (ℓ := oLoc d) (I := winSet p) (q := fullShare) e)) $$ H'

end Cert.Proof
-- ==== Proof.Launch.lean ====
/- The launch's whole run: what the handshakes carry, each tile's task, @main on the TensorCore, and what it leaves in the
   result. -/
module

public import proofs.«01_k».proof.Proof.Deal
public import Idealize.ShloMosaic.Lib.Pipeline.Value
public import Idealize.ShloMosaic.Lib.ValueIdxCore

@[expose] public section

noncomputable section

namespace Cert.Proof

open Cert.KernelIdeal Cert.KernelIdeal.Gen
open Idealize.ShloMosaic
open Idealize.ShloMosaic.SparseCore (S V T)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx (ix1 ix2)

variable {F : FTy → Type} [FloatOps F]

local notation "𝕄" => MT nD τ sig (HIx 1) (Elt F) ℕ UU ℕ
section

variable (m : (ℓ : Loc nD τ sig) → Buf (Elt F) ℓ) (ρ : Dev nD → PrngReg)

/-! ## The contents -/

/-- The table of rows @main makes of the inputs, and the words it makes of the mask. -/
def xVal (d : Dev nD) : S131072x128.Idx → F .f32 :=
  shapeCast S131072x128 (m (aLoc d) : S16x4096x256.Idx → F .f32) shapeCasts_S16x4096x256_S131072x128
def mVal (d : Dev nD) : S65536.Idx → BitVec 32 :=
  shapeCast S65536 (extui 32 (m (bLoc d) : S16x4096.Idx → BitVec 1) natLt_1_32) shapeCasts_S16x4096_S65536
/-- What the call leaves in the result. -/
def outVal (d : Dev nD) : S16x256.Idx → F .f32 := outAt (xVal m d) (mVal m d)

/-- Tile `p`'s part before and after the call. -/
abbrev goP (d : Dev nD) (p : Pair) : sProp 𝕄 := tileP d (xVal m d) (mVal m d) (m (oLoc d)) p
abbrev tdP (d : Dev nD) (p : Pair) : sProp 𝕄 := tileP d (xVal m d) (mVal m d) (outVal m d) p

abbrev tileOf (c : Fin ((K (F := F)).nCore 0)) (i : Fin ((K (F := F)).nSub 0)) : Pair := (Fin.cast nCore_zero c, Fin.cast nSub_zero i)

/-- The one call: each SparseCore takes its tiles' parts and brings them back. -/
def P : (K (F := F)).Pay (nD := nD) (Val := Elt F) (Name := ℕ) (U := UU) where
  st := fun q d c => match q with | 0 => bigSep Finset.univ fun i : Fin ((K (F := F)).nSub 0) => goP m d (tileOf c i)
  dn := fun q d c => match q with | 0 => bigSep Finset.univ fun i : Fin ((K (F := F)).nSub 0) => tdP m d (tileOf c i)
  go := fun q d c i => match q with | 0 => goP m d (tileOf c i)
  td := fun q d c i => match q with | 0 => tdP m d (tileOf c i)
  x := fun _ _ => iprop(emp)

instance P_storable : (P (F := F) m).IsStorable where
  st q d c := match q with
    | 0 => (inferInstance : BI.Storable (upEmb : UEmb _ 𝕄) (bigSep Finset.univ fun i : Fin ((K (F := F)).nSub 0) => goP m d (tileOf c i)))
  dn q d c := match q with
    | 0 => (inferInstance : BI.Storable (upEmb : UEmb _ 𝕄) (bigSep Finset.univ fun i : Fin ((K (F := F)).nSub 0) => tdP m d (tileOf c i)))
  go q d c i := match q with | 0 => tileP_storable d _ _ _ (tileOf c i)
  td q d c i := match q with | 0 => tileP_storable d _ _ _ (tileOf c i)

/-! ## A tile's own semaphores and buffers -/

section Own

variable (d : Dev nD) (c : Fin τ.nSC) (i : Fin τ.nSub)

/-- The kernel's DMA semaphores on a tile, -/
def semSet : Finset (DmaSem sig) := {cc0_scratch5.sem, cc0_scratch6.sem, cc0_scoped0.sem, cc0_scoped1.sem}
def cellSet : Finset (GSem nD τ sig) := semSet.map ⟨fun s => (V d c i, SemLoc.dma s), fun _ _ e => SemLoc.dma.inj (Prod.mk.inj e).2⟩
/-- and its buffers there. -/
def scrSet : Finset (Ref sig .scVector) := {cc0_scratch0, cc0_scratch1, cc0_scratch2, cc0_scratch3, cc0_scratch4}
def refSet : Finset (DevRef τ sig) := scrSet.map ⟨(Proc.scVector c i).devRef, Proc.devRef_injective _⟩

theorem cellSet_sub : cellSet d c i ⊆ ownCells (V d c i) := by
  intro g hg
  obtain ⟨s, hs, rfl⟩ := Finset.mem_map.mp hg
  have hsc : ∀ s ∈ semSet, (SemLoc.dma s : SemLoc sig).isScoped .scVector = true := by decide
  exact mem_ownCells.mpr ⟨rfl, hsc s hs⟩

theorem refSet_sub : refSet c i ⊆ ownRefs (τ := τ) (.scVector c i) := by
  intro b hb
  obtain ⟨r, hr, rfl⟩ := Finset.mem_map.mp hb
  simp only [scrSet, Finset.mem_insert, Finset.mem_singleton] at hr
  rcases hr with rfl | rfl | rfl | rfl | rfl <;> exact SparseCore.Cfg.mem_ownRefs_of_owner rfl

theorem ownSems0_tile : (ownSems0 (V d c i) : sProp 𝕄)
    = iprop((semVal (V d c i, SemLoc.dma cc0_scratch5.sem) 0 ∗ semVal (V d c i, SemLoc.dma cc0_scratch6.sem) 0
        ∗ semVal (V d c i, SemLoc.dma cc0_scoped0.sem) 0 ∗ semVal (V d c i, SemLoc.dma cc0_scoped1.sem) 0)
      ∗ bigSep (ownCells (V d c i) \ cellSet d c i) fun g => semVal g 0) := by
  unfold SparseCore.Cfg.ownSems0
  rw [SparseCore.bigSep_sdiff_split' (cellSet_sub d c i)]
  unfold cellSet semSet
  rw [bigSep_map, SparseCore.bigSep_insert' (by decide), SparseCore.bigSep_insert' (by decide), SparseCore.bigSep_insert' (by decide), bigSep_singleton]
  rfl

theorem scr0_ne : (cc0_scratch0 : Ref sig .scVector) ∉ ({cc0_scratch1, cc0_scratch2, cc0_scratch3, cc0_scratch4} : Finset (Ref sig .scVector)) := by decide
theorem scr1_ne : (cc0_scratch1 : Ref sig .scVector) ∉ ({cc0_scratch2, cc0_scratch3, cc0_scratch4} : Finset (Ref sig .scVector)) := by decide
theorem scr2_ne : (cc0_scratch2 : Ref sig .scVector) ∉ ({cc0_scratch3, cc0_scratch4} : Finset (Ref sig .scVector)) := by decide
theorem scr3_ne : (cc0_scratch3 : Ref sig .scVector) ∉ ({cc0_scratch4} : Finset (Ref sig .scVector)) := by decide

theorem ownBufs_tile : (ownBufs (V d c i) : sProp 𝕄)
    = iprop(((∃ f, (V d c i).loc cc0_scratch0 ↦{fullShare} f) ∗ (∃ f, (V d c i).loc cc0_scratch1 ↦{fullShare} f)
        ∗ (∃ f, (V d c i).loc cc0_scratch2 ↦{fullShare} f) ∗ (∃ f, (V d c i).loc cc0_scratch3 ↦{fullShare} f)
        ∗ (∃ f, (V d c i).loc cc0_scratch4 ↦{fullShare} f))
      ∗ bigSep (ownRefs (τ := τ) (.scVector c i) \ refSet c i) fun b => iprop(∃ f, ((d, b) : Loc nD τ sig) ↦{fullShare} f)) := by
  unfold SparseCore.Cfg.ownBufs
  refine (SparseCore.bigSep_sdiff_split' (refSet_sub c i)).trans ?_
  unfold refSet scrSet
  rw [bigSep_map, SparseCore.bigSep_insert' scr0_ne, SparseCore.bigSep_insert' scr1_ne, SparseCore.bigSep_insert' scr2_ne,
    SparseCore.bigSep_insert' scr3_ne, bigSep_singleton]
  rfl

end Own

/-! ## A tile's task -/

section Task

variable (d : Dev nD) (p : Pair)

theorem credit2 : RowCredit (Memref.whole cc0_scratch2) := by decide
theorem credit3 : RowCredit (Memref.whole cc0_scratch3) := by decide

/-- A scratch buffer, at whatever it holds, and back. -/
theorem scr_in (L : grid0.Coords) (b : Ref sig .scVector) :
    (iprop(∃ f, (thr d L).loc b ↦{fullShare} f) : sProp 𝕄) ⊢ iprop(∃ g, Holds d L (Memref.whole b) fullShare g) := by
  iintro ⟨%f, H⟩
  iexists f
  iapply (Entails.of_eq (holds_whole d L b fullShare f).symm) $$ H
theorem scr_out (L : grid0.Coords) (b : Ref sig .scVector) :
    (iprop(∃ g, Holds d L (Memref.whole b) fullShare g) : sProp 𝕄) ⊢ iprop(∃ f, (thr d L).loc b ↦{fullShare} f) := by
  iintro ⟨%f, H⟩
  iexists f
  iapply (Entails.of_eq (holds_whole d L b fullShare f)) $$ H

/-- The two halves of a whole memref's share, joined. -/
theorem holds_join (L : grid0.Coords) (b : Ref sig .scVector) (q : PosShare TreeShare) (f : Buf (Elt F) ((thr d L).loc b)) :
    (iprop(Holds d L (Memref.whole b) (PosShare.left q) f ∗ Holds d L (Memref.whole b) (PosShare.right q) f) : sProp 𝕄) ⊢ (thr d L).loc b ↦{q} f := by
  rw [holds_whole, holds_whole]
  exact (pointsTo_share (PosShare.mem_left_op_right q)).2

theorem tile_body (hF : (K (F := F)).Facts) (O : CellTallies nD τ sig (HIx 1)) (W : Waits sig (HIx 1)) (hO : ∀ g, O g none = 0) :
    iprop(levAts (K (F := F)).L (K (F := F)).lev ∗ emp ∗ goP m d p
        ∗ scopedBufs (thr d (tileL p)) ∗ scopedSems0 (thr d (tileL p)) ∗ owes (thr d (tileL p)) O W)
      ⊢ wpT d (tileL p) (cc0__sc_body (F := F) (tileL p) (Memref.whole main_v0_scv) (Memref.isWhole_whole _) (Memref.whole main_v2_scv) (Memref.isWhole_whole _)
            (Memref.whole main_v3_scv) (Memref.isWhole_whole _) (Memref.whole cc0_scratch0) (Memref.isWhole_whole _)
            (Memref.whole cc0_scratch1) (Memref.isWhole_whole _) (Memref.whole cc0_scratch2) (Memref.isWhole_whole _)
            (Memref.whole cc0_scratch3) (Memref.isWhole_whole _) (Memref.whole cc0_scratch4) (Memref.isWhole_whole _)
            cc0_scratch5 cc0_scratch6 cc0_scoped0 cc0_scoped1)
          fun _ => iprop(tdP m d p ∗ scopedBufs (thr d (tileL p)) ∗ scopedSems0 (thr d (tileL p))
            ∗ ∃ W', ⌜∀ p ∈ W', p ∈ W ∨ p.2 = none⌝ ∗ owes (thr d (tileL p)) O W') := by
  rw [(K (F := F)).scopedBufs_V hF d (cV (tileL p)) (jV (tileL p)), SparseCore.Cfg.scopedSems0_V (Val := Elt F) d (cV (tileL p)) (jV (tileL p)),
    ownSems0_tile, ownBufs_tile]
  unfold goP tdP tileP
  iintro ⟨#Hlv, -, ⟨Hx, Hw, Ho⟩, ⟨⟨H0, H1, H2, H3, H4⟩, Hbufs⟩, ⟨⟨Hs5, Hs6, Hr0, Hr1⟩, Hsems⟩, HO⟩
  ihave Hmw := (show levAts (K (F := F)).L (K (F := F)).lev ⊢ Transfers.MayWaits (thr d (tileL p)) (default : HIx 1) O from
    (K (F := F)).mayWaits_none (thr := thr d (tileL p)) hO) $$ Hlv
  ihave Hx := (Entails.of_eq (holds_whole d (tileL p) main_v0_scv (shq F p) (xVal m d)).symm) $$ Hx
  ihave Hx := (Holds.halve d (tileL p)) $$ Hx
  icases Hx with ⟨HxA, HxB⟩
  ihave Hw := (Entails.of_eq (holds_whole d (tileL p) main_v2_scv (shq F p) (mVal m d)).symm) $$ Hw
  ihave Ho := (win_intro d p (m (oLoc d))) $$ Ho
  ihave H0 := (scr_in d (tileL p) cc0_scratch0) $$ H0
  ihave H1 := (scr_in d (tileL p) cc0_scratch1) $$ H1
  ihave H2 := (scr_in d (tileL p) cc0_scratch2) $$ H2
  ihave H3 := (scr_in d (tileL p) cc0_scratch3) $$ H3
  ihave H4 := (scr_in d (tileL p) cc0_scratch4) $$ H4
  iapply (wp_body d (tileL p) (Memref.whole main_v0_scv) (Memref.isWhole_whole _) (Memref.whole main_v2_scv) (Memref.isWhole_whole _)
      (Memref.whole main_v3_scv) (Memref.isWhole_whole _) (Memref.whole cc0_scratch0) (Memref.isWhole_whole _)
      (Memref.whole cc0_scratch1) (Memref.isWhole_whole _) (Memref.whole cc0_scratch2) (Memref.isWhole_whole _)
      (Memref.whole cc0_scratch3) (Memref.isWhole_whole _) (Memref.whole cc0_scratch4) (Memref.isWhole_whole _)
      cc0_scratch5 cc0_scratch6 cc0_scoped0 cc0_scoped1 (marr := mVal m d) (tab := xVal m d) (q3 := shq F p)
      (qA := PosShare.left (shq F p)) (qB := PosShare.right (shq F p)) credit2 credit3 (O := O) (W := W))
    $$ [HxA HxB Hw Ho H0 H1 H2 H3 H4 Hs5 Hs6 Hr0 Hr1 Hmw HO]
  · isplitl [HxA]; · iexact HxA
    isplitl [HxB]; · iexact HxB
    isplitl [Hw]; · iexact Hw
    isplitl [Ho]; · iexact Ho
    isplitl [H0]; · iexact H0
    isplitl [H1]; · iexact H1
    isplitl [H2]; · iexact H2
    isplitl [H3]; · iexact H3
    isplitl [H4]; · iexact H4
    isplitl [Hs5]; · iexact Hs5
    isplitl [Hs6]; · iexact Hs6
    isplitl [Hr0]; · iexact Hr0
    isplitl [Hr1]; · iexact Hr1
    unfold Owe
    isplitl [Hmw]; · iexact Hmw
    iexists W
    isplitr; · ipureintro; exact fun _ h => .inl h
    iexact HO
  iintro ⟨HxA, HxB, Hw, Ho, H0, ⟨%g1, H1A, H1B⟩, H2, H3, H4, Hs5, Hs6, Hr0, Hr1, HO⟩
  unfold Owe
  icases HO with ⟨-, HO⟩
  ihave Hx := (holds_join d (tileL p) main_v0_scv (shq F p) (xVal m d)) $$ [HxA HxB]
  · isplitl [HxA] <;> iassumption
  ihave Hw := (Entails.of_eq (holds_whole d (tileL p) main_v2_scv (shq F p) (mVal m d))) $$ Hw
  ihave Ho := (win_elim d p (xVal m d) (mVal m d)) $$ Ho
  ihave H1 := (holds_join d (tileL p) cc0_scratch1 fullShare g1) $$ [H1A H1B]
  · isplitl [H1A] <;> iassumption
  isplitl [Hx Hw Ho]
  · isplitl [Hx]; · iexact Hx
    isplitl [Hw]; · iexact Hw
    iexact Ho
  isplitl [H0 H1 H2 H3 H4 Hbufs]
  · isplitr [Hbufs]
    · isplitl [H0]; · iapply (scr_out d (tileL p) cc0_scratch0) $$ H0
      isplitl [H1]; · iexists g1; iexact H1
      isplitl [H2]; · iapply (scr_out d (tileL p) cc0_scratch2) $$ H2
      isplitl [H3]; · iapply (scr_out d (tileL p) cc0_scratch3) $$ H3
      iapply (scr_out d (tileL p) cc0_scratch4) $$ H4
    · iexact Hbufs
  isplitl [Hs5 Hs6 Hr0 Hr1 Hsems]
  · isplitr [Hsems]
    · isplitl [Hs5]; · iexact Hs5
      isplitl [Hs6]; · iexact Hs6
      isplitl [Hr0]; · iexact Hr0
      iexact Hr1
    · iexact Hsems
  iexact HO

end Task

/-! ## The call's obligations -/

theorem defs₀_vector (c : Fin τ.nSC) (s : Fin τ.nSub) :
    defs₀ (F := F) (.scVector c s) 0 ()
      = SparseCore.onTile hcore0 hsub0 (fun c s => cc0__sc_body (F := F) (coordsV c s) (Memref.whole main_v0_scv) (Memref.isWhole_whole _) (Memref.whole main_v2_scv) (Memref.isWhole_whole _)
            (Memref.whole main_v3_scv) (Memref.isWhole_whole _) (Memref.whole cc0_scratch0) (Memref.isWhole_whole _)
            (Memref.whole cc0_scratch1) (Memref.isWhole_whole _) (Memref.whole cc0_scratch2) (Memref.isWhole_whole _)
            (Memref.whole cc0_scratch3) (Memref.isWhole_whole _) (Memref.whole cc0_scratch4) (Memref.isWhole_whole _)
            cc0_scratch5 cc0_scratch6 cc0_scoped0 cc0_scoped1) ⟨⟩ c s := rfl

theorem task_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'
  isplitr; · ipureintro; exact fun p hp => (hW' p hp).imp_right Or.inl
  iexact HO

set_option maxRecDepth 16384 in
theorem tileObl (hF : (K (F := F)).Facts) : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body m d (tileOf c i) hF O W hO).trans (wp_mono frame _ _ fun _ => task_post)

theorem vecSplit : (K (F := F)).VecSplit' (P m) 0 := by
  intro d c
  show (bigSep Finset.univ fun i : Fin ((K (F := F)).nSub 0) => goP m d (tileOf c i)) ⊢ |={Set.univ}=> iprop(
      (bigSep Finset.univ fun i : Fin ((K (F := F)).nSub 0) => goP m d (tileOf c i))
      ∗ ((bigSep Finset.univ fun i : Fin ((K (F := F)).nSub 0) => tdP m d (tileOf c i))
          -∗ bigSep Finset.univ fun i : Fin ((K (F := F)).nSub 0) => tdP m d (tileOf c i)))
  iintro H; imodintro
  isplitl [H]; · iexact H
  iintro H; iexact H

/-! ## The launch element: the handshakes' rounds; nothing of the kernel's own -/

def u₀ : UU := (initOf (K (F := F)).hsCells (K (F := F)).hsToks, 1)

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  have he : ∀ {I : Type} (s : Finset I), (bigSep s fun _ => iprop(emp)) = (iprop(emp) : sProp 𝕄) := fun s => bigSep_emp_const s
  have hx : (bigSep Finset.univ fun thr : Thread nD τ => bigSep Finset.univ fun q : Fin 1 => (P (F := F) m).x q thr) = bigSep Finset.univ fun _ => iprop(emp) :=
    bigSep_congr fun _ _ => bigSep_univ_of_subsingleton (0 : Fin 1)
  unfold u₀
  iintro Hu
  ihave H := (ownU_pair (initOf (K (F := F)).hsCells (K (F := F)).hsToks) (1 : Counters)) $$ Hu
  icases H with ⟨HH, -⟩
  imodintro
  isplitl [HH]; · iexact HH
  isplitr
  · rw [he]; iempintro
  · rw [hx, he]; iempintro

end

end Cert.Proof
-- ==== Proof.Main.lean ====
/- @main on the TensorCore: the two operands made, the call, and the whole program's run over any floats, with what it
   leaves in the result. -/
module

public import proofs.«01_k».proof.Proof.Launch
public import Idealize.ShloMosaic.Lib.Pipeline.Value
public import Idealize.ShloMosaic.Lib.ValueIdxCore

@[expose] public section

noncomputable section

namespace Cert.Proof

open Cert.KernelIdeal Cert.KernelIdeal.Gen
open Idealize.ShloMosaic
open Idealize.ShloMosaic.SparseCore (S V T)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx (ix1 ix2)
open Idealize.ShloMosaic.StableHlo (held wp_hlo_within)

variable {F : FTy → Type} [FloatOps F]

local notation "𝕄" => MT nD τ sig (HIx 1) (Elt F) ℕ UU ℕ
section

variable (m : (ℓ : Loc nD τ sig) → Buf (Elt F) ℓ) (ρ : Dev nD → PrngReg)

abbrev a' : DevRef τ sig := Proc.devRef .tc (main_arg0 : Ref sig .tc)
abbrev b' : DevRef τ sig := Proc.devRef .tc (main_arg1 : Ref sig .tc)
abbrev x' : DevRef τ sig := Proc.devRef .tc (main_v0 : Ref sig .tc)
abbrev e' : DevRef τ sig := Proc.devRef .tc (main_v1 : Ref sig .tc)
abbrev w' : DevRef τ sig := Proc.devRef .tc (main_v2 : Ref sig .tc)
abbrev o' : DevRef τ sig := Proc.devRef .tc (main_v3 : Ref sig .tc)

/-- The TensorCore's arrays. -/
abbrev arrs : Finset (DevRef τ sig) := {a', b', x', e', w', o'}

/-- @main's three operations before the call. -/
abbrev op1 : HloOp τ sig (Elt F) := StableHlo.reshape main_arg0 main_v0 (rfl : (.f32 : EltTy) = .f32) shapeCasts_S16x4096x256_S131072x128
abbrev op2 : HloOp τ sig (Elt F) := StableHlo.unary main_arg1 main_v1
  ((extui 32 · natLt_1_32) : (⟨S16x4096, .i1⟩ : BufTy).Contents (Elt F) → (⟨S16x4096, .i32⟩ : BufTy).Contents (Elt F))
abbrev op3 : HloOp τ sig (Elt F) := StableHlo.reshape main_v1 main_v2 (rfl : (.i32 : EltTy) = .i32) shapeCasts_S16x4096_S65536

theorem held_arrs (d : Dev nD) (W : Valuation τ sig (Elt F)) :
    (held (SparseCore.T d) arrs W : sProp 𝕄) = iprop((aLoc d ↦{fullShare} W a') ∗ (bLoc d ↦{fullShare} W b') ∗ (xLoc d ↦{fullShare} W x')
      ∗ (eLoc d ↦{fullShare} W e') ∗ (mLoc d ↦{fullShare} W w') ∗ oLoc d ↦{fullShare} W o') := by
  unfold held arrs
  rw [SparseCore.bigSep_insert' (by decide), SparseCore.bigSep_insert' (by decide), SparseCore.bigSep_insert' (by decide),
    SparseCore.bigSep_insert' (by decide), SparseCore.bigSep_insert' (by decide), bigSep_singleton]

theorem unscopedBufs_eq (d : Dev nD) (W : (b : Ref sig .tc) → Buf (Elt F) ((d.tc : Thread nD τ).loc b)) :
    (unscopedBufs d W : sProp 𝕄) = iprop((aLoc d ↦{fullShare} W main_arg0) ∗ (bLoc d ↦{fullShare} W main_arg1) ∗ (xLoc d ↦{fullShare} W main_v0)
      ∗ (eLoc d ↦{fullShare} W main_v1) ∗ (mLoc d ↦{fullShare} W main_v2) ∗ oLoc d ↦{fullShare} W main_v3) := by
  unfold unscopedBufs
  rw [show (Finset.univ.filter fun b : Ref sig .tc => ¬ b.isScoped) = {main_arg0, main_arg1, main_v0, main_v1, main_v2, main_v3} by decide,
    SparseCore.bigSep_insert' (by decide), SparseCore.bigSep_insert' (by decide), SparseCore.bigSep_insert' (by decide),
    SparseCore.bigSep_insert' (by decide), SparseCore.bigSep_insert' (by decide), bigSep_singleton]

/-- The arrays' contents at the launch, and before the call. -/
def V0 (d : Dev nD) : Valuation τ sig (Elt F) := fun b => m (d, b)
def V3 (d : Dev nD) : Valuation τ sig (Elt F) := (op3 (F := F)).result ((op2 (F := F)).result ((op1 (F := F)).result (V0 m d)))

theorem unscoped_held (d : Dev nD) : (unscopedBufs d (fun b => m ((SparseCore.T d).loc b)) : sProp 𝕄) = held (SparseCore.T d) arrs (V0 m d) := by
  rw [unscopedBufs_eq, held_arrs]; rfl

theorem V3_a (d : Dev nD) : V3 m d a' = m (aLoc d) := by
  unfold V3 op3 op2 op1
  rw [StableHlo.reshape_result_ne (h := by decide), StableHlo.unary_result_ne (h := by decide), StableHlo.reshape_result_ne (h := by decide)]; rfl
theorem V3_b (d : Dev nD) : V3 m d b' = m (bLoc d) := by
  unfold V3 op3 op2 op1
  rw [StableHlo.reshape_result_ne (h := by decide), StableHlo.unary_result_ne (h := by decide), StableHlo.reshape_result_ne (h := by decide)]; rfl
theorem V3_o (d : Dev nD) : V3 m d o' = m (oLoc d) := by
  unfold V3 op3 op2 op1
  rw [StableHlo.reshape_result_ne (h := by decide), StableHlo.unary_result_ne (h := by decide), StableHlo.reshape_result_ne (h := by decide)]; rfl
theorem V3_x (d : Dev nD) : V3 m d x' = xVal m d := by
  unfold V3 op3 op2 op1
  rw [StableHlo.reshape_result_ne (h := by decide), StableHlo.unary_result_ne (h := by decide), StableHlo.reshape_result]; rfl
theorem V3_w (d : Dev nD) : V3 m d w' = mVal m d := by
  unfold V3 op3 op2 op1
  rw [StableHlo.reshape_result, StableHlo.unary_result, StableHlo.reshape_result_ne (h := by decide)]; rfl

/-- What the call takes from its two SparseCores' tiles, and brings back. -/
theorem st_eq (d : Dev nD) : (bigSep Finset.univ fun c : Fin ((K (F := F)).nCore 0) => (P m).st 0 d c)
    = bigSep Finset.univ fun c : Fin 2 => bigSep Finset.univ fun i : Fin 16 => goP m d (c, i) := rfl
theorem dn_eq (d : Dev nD) : (bigSep Finset.univ fun c : Fin ((K (F := F)).nCore 0) => (P m).dn 0 d c)
    = bigSep Finset.univ fun c : Fin 2 => bigSep Finset.univ fun i : Fin 16 => tdP m d (c, i) := rfl

theorem sub1 : (op1 (F := F)).bufs ⊆ arrs := show ({a', x'} : Finset (DevRef τ sig)) ⊆ arrs by decide
theorem sub2 : (op2 (F := F)).bufs ⊆ arrs := show ({b', e'} : Finset (DevRef τ sig)) ⊆ arrs by decide
theorem sub3 : (op3 (F := F)).bufs ⊆ arrs := show ({e', w'} : Finset (DevRef τ sig)) ⊆ arrs by decide

/-- What @main leaves the claim: the arguments as they were, and the result. -/
abbrev FIN (d : Dev nD) : sProp 𝕄 :=
  iprop((aLoc d ↦{fullShare} m (aLoc d)) ∗ (bLoc d ↦{fullShare} m (bLoc d)) ∗ oLoc d ↦{fullShare} outVal m d)

theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscoped_held]
  simp only [main, wp_bind, wp_pure]
  iintro ⟨#Hctx, Hst, ⟨Hb, Hh, Hts, -⟩, -⟩
  iapply (wp_hlo_within 𝒱 (SparseCore.T d) none Set.univ (op := op1) (S := arrs) sub1 (V := V0 m d)) $$ [Hb Hh]
  · isplitl [Hb] <;> iassumption
  iintro ⟨Hb, Hh⟩
  rw [wp_ret]; imodintro
  iapply (wp_hlo_within 𝒱 (SparseCore.T d) none Set.univ (op := op2) (S := arrs) sub2 (V := (op1 (F := F)).result (V0 m d))) $$ [Hb Hh]
  · isplitl [Hb] <;> iassumption
  iintro ⟨Hb, Hh⟩
  rw [wp_ret]; imodintro
  iapply (wp_hlo_within 𝒱 (SparseCore.T d) none Set.univ (op := op3) (S := arrs) sub3 (V := (op2 (F := F)).result ((op1 (F := F)).result (V0 m d)))) $$ [Hb Hh]
  · isplitl [Hb] <;> iassumption
  iintro ⟨Hb, Hh⟩
  rw [wp_ret]; imodintro
  ihave Hh := (show held (SparseCore.T d) arrs ((op3 (F := F)).result ((op2 (F := F)).result ((op1 (F := F)).result (V0 m d)))) ⊢ _ from
    Entails.of_eq (held_arrs (F := F) d (V3 m d))) $$ Hh
  rw [V3_a, V3_b, V3_x, V3_w, V3_o]
  icases Hh with ⟨Ha, Hbb, Hx, He, Hw, Ho⟩
  ihave Hd := (Entails.of_eq (tiles_eq d (xVal m d) (mVal m d) (m (oLoc d))).symm) $$ [Hx Hw Ho]
  · isplitl [Hx]; · iexact Hx
    isplitl [Hw] <;> iassumption
  icases Hd with ⟨Hd, Hrest⟩
  iapply ((K (F := F)).wp_run (D (F := F)) 𝒱 (EH := EH) (P := P m) κ d 0) $$ [Hst Hd Ha Hbb He Hrest Hb Hts]
  isplitr; · iexact Hctx
  isplitl [Hst]; · iexact Hst
  isplitl [Hd]
  · rw [st_eq]; iexact Hd
  iintro ⟨Hst, Hd⟩
  ihave Hd := (Entails.of_eq (dn_eq m d)) $$ Hd
  ihave Hd := (Entails.of_eq (tiles_eq d (xVal m d) (mVal m d) (outVal m d))) $$ [Hd Hrest]
  · isplitl [Hd] <;> iassumption
  icases Hd with ⟨-, -, Ho⟩
  imodintro
  isplitl [Hst]; · iexact Hst
  isplitl [Ha Hbb Ho]
  · isplitl [Ha]; · iexact Ha
    isplitl [Hbb] <;> iassumption
  isplitl [Hb] <;> iassumption

/-! ## The program's run -/

def fq (d : Dev nD) (s' : Phys nD τ sig (Elt F)) : Prop :=
  s'.mem.mem (aLoc d) = m (aLoc d) ∧ s'.mem.mem (bLoc d) = m (bLoc d) ∧ s'.mem.mem (oLoc d) = outVal m d

theorem hfin (d : Dev nD) (s' : Phys nD τ sig (Elt F)) : iprop(FIN m d ∗ SI s') ⊢ (⌜fq m d s'⌝ : sProp 𝕄) := by
  have step : ∀ (ℓ : Loc nD τ sig) (f : Buf (Elt F) ℓ),
      iprop(SI s' ∗ ℓ ↦{fullShare} f) ⊢ (iprop(⌜s'.mem.mem ℓ = f⌝ ∗ SI s' ∗ ℓ ↦{fullShare} f) : sProp 𝕄) := fun ℓ f =>
    (persistent_entails_right (SI_pointsTo_agree (st := s') (ℓ := ℓ) (I := Finset.univ) (q := fullShare) (f := f))).trans (by
      iintro ⟨%h, H⟩
      isplitr; · ipureintro; exact funext fun i => h i (Finset.mem_univ i)
      iexact H)
  iintro ⟨⟨Ha, Hb, Ho⟩, HSI⟩
  ihave H := (step (aLoc d) _) $$ [HSI Ha]
  · isplitl [HSI] <;> iassumption
  icases H with ⟨%h1, HSI, -⟩
  ihave H := (step (bLoc d) _) $$ [HSI Hb]
  · isplitl [HSI] <;> iassumption
  icases H with ⟨%h2, HSI, -⟩
  ihave H := (step (oLoc d) _) $$ [HSI Ho]
  · isplitl [HSI] <;> iassumption
  icases H with ⟨%h3, -, -⟩
  ipureintro; exact ⟨h1, h2, h3⟩

def QC : PUnit × MemSt nD τ sig (Elt F) → Prop := fun r =>
  (∀ c : Dev nD, r.2.mem (aLoc c) = m (aLoc c) ∧ r.2.mem (bLoc c) = m (bLoc c) ∧ r.2.mem (oLoc c) = outVal m c) ∧ r.2.sem = fun _ => 0

/-- The whole program, on any floats: it ends, whatever the threads' order, its arguments as they were, every semaphore at
    zero, and the result at `outVal`. -/
theorem run_main [∀ e, Nonempty (Elt F e)] :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m facts)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m) (fun _ h hz => ⟨h, hz⟩)

end

end Cert.Proof
-- ==== Proof.Bridge.lean ====
/- The result on the extended reals. A tile adds up the rows its mask keeps, in the order the list of selected rows has, and
   divides by the list's length; over the extended reals that is the masked sum over all rows, divided by the sum of the mask. -/
module

public import proofs.«01_k».proof.Proof.Main
public import Idealize.ShloMosaic.Lib.Pipeline.Value
public import Idealize.ShloMosaic.Lib.ValueIdxCore
public import Idealize.ShloMosaic.PureOps.Ideal.Laws

@[expose] public section

noncomputable section

namespace Cert.Proof

open Cert.KernelIdeal Cert.KernelIdeal.Gen
open Idealize.ShloMosaic
open Idealize.ShloMosaic.SparseCore (S V T)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx (ix1 ix2 ix3)

variable {F : FTy → Type} [FloatOps F]

local notation "𝕄" => MT nD τ sig (HIx 1) (Elt F) ℕ UU ℕ

/-- An array over the extended reals, and a mask. -/
abbrev Rows : Type := S16x4096x256.Idx → EReal
abbrev Mask : Type := S16x4096.Idx → BitVec 1

/-! ## Sums along the list of selected rows -/

/-- A running sum is a finite sum. -/
theorem accAt_eq (tab : S131072x128.Idx → Ideal .f32) (row : ℕ → Fin 131072) (n : ℕ) (y : S128.Idx) :
    (accAt (F := Ideal) tab row n y : EReal) = ∑ j ∈ Finset.range n, (tab (ix2 (row j) (y 0)) : EReal) := by
  induction n with
  | zero => rw [Finset.sum_range_zero]; exact Ideal.ofBits_zero_f32
  | succ n ih => rw [Finset.sum_range_succ, ← ih]; rfl

/-- An entry within the list. -/
theorem getD_of_lt (l : List ℕ) {j : ℕ} (h : j < l.length) : l.getD j 0 = l[j] := by
  rw [List.getD_eq_getElem?_getD, List.getElem?_eq_getElem h]; rfl

/-- A sum over a list's places is the sum over its entries. -/
theorem sum_getD {α : Type} [AddCommMonoid α] (l : List ℕ) (g : ℕ → α) :
    ∑ j ∈ Finset.range l.length, g (l.getD j 0) = (l.map g).sum := by
  rw [Finset.sum_range, ← Fin.sum_univ_fun_getElem l g]
  exact Finset.sum_congr rfl fun j _ => by rw [getD_of_lt l j.isLt]

/-- A sum over the selected rows is a sum over all rows, the others counting nothing. -/
theorem sum_sel {α : Type} [AddCommMonoid α] (msk : S4096.Idx → BitVec 32) (g : ℕ → α) (k : ℕ) :
    ((sel msk k).map g).sum = ∑ r ∈ Finset.range k, if bit msk r then g r else 0 := by
  induction k with
  | zero => rfl
  | succ k ih =>
    rw [Finset.sum_range_succ, ← ih, sel_succ]
    by_cases h : bit msk k = true
    · simp [h]
    · simp [h]

/-- The number of selected rows, on the extended reals. -/
theorem length_sel_eq (msk : S4096.Idx → BitVec 32) (k : ℕ) :
    (((sel msk k).length : ℝ) : EReal) = ∑ r ∈ Finset.range k, if bit msk r then (1 : EReal) else 0 := by
  rw [← sum_sel msk (fun _ => (1 : EReal)) k]
  simp

/-- The list's length fits its word. -/
theorem toInt_cnt (msk : S4096.Idx → BitVec 32) : (BitVec.ofNat 32 (cntOf msk)).toInt = (cntOf msk : ℤ) := by
  have h : cntOf msk ≤ 4096 := length_sel_le msk 4096
  have e : (BitVec.ofNat 32 (cntOf msk)).toNat = cntOf msk := by rw [BitVec.toNat_ofNat]; omega
  rw [BitVec.toInt_eq_toNat_of_lt (by rw [e]; omega), e]

/-! ## A tile's answer -/

/-- The whole answer of a tile whose mask is `msk`, as two sums over the rows. -/
theorem tileOut_eq (tab : S131072x128.Idx → Ideal .f32) (msk : S4096.Idx → BitVec 32) (base : ℕ) (y : S128.Idx) :
    (tileOut (F := Ideal) tab msk base y : EReal)
      = Ideal.div
          (∑ r : Fin 4096, if bit msk r.val then (tab (ix2 ⟨(base + 2 * r.val) % 131072, Nat.mod_lt _ (by omega)⟩ (y 0)) : EReal) else 0)
          (∑ r : Fin 4096, if bit msk r.val then (1 : EReal) else 0) := by
  have hs : (accAt (F := Ideal) tab (rowOf msk base) (cntOf msk) y : EReal)
      = ∑ r : Fin 4096, if bit msk r.val then (tab (ix2 ⟨(base + 2 * r.val) % 131072, Nat.mod_lt _ (by omega)⟩ (y 0)) : EReal) else 0 := by
    rw [accAt_eq, ← Finset.sum_range (fun r => if bit msk r then (tab (ix2 ⟨(base + 2 * r) % 131072, Nat.mod_lt _ (by omega)⟩ (y 0)) : EReal) else 0),
      ← sum_sel msk (fun r => (tab (ix2 ⟨(base + 2 * r) % 131072, Nat.mod_lt _ (by omega)⟩ (y 0)) : EReal)),
      ← sum_getD (sel msk 4096) (fun r => (tab (ix2 ⟨(base + 2 * r) % 131072, Nat.mod_lt _ (by omega)⟩ (y 0)) : EReal))]
    refine Finset.sum_congr rfl fun j hj => ?_
    have hj' : j < (sel msk 4096).length := Finset.mem_range.1 hj
    have e : rowOf msk base j = ⟨(base + 2 * (sel msk 4096).getD j 0) % 131072, Nat.mod_lt _ (by omega)⟩ := by
      apply Fin.ext
      show (((sel msk 4096).map fun r => base + 2 * r).getD j 0) % 131072 = _
      rw [getD_of_lt _ (by rw [List.length_map]; exact hj'), List.getElem_map, getD_of_lt _ hj']
    rw [e]
  have hc : (FloatOps.addf (F := Ideal) (Scalar.ofBits .f32 0x00000000#32) (Scalar.sitofp .f32 (BitVec.ofNat 32 (cntOf msk))) : EReal)
      = ∑ r : Fin 4096, if bit msk r.val then (1 : EReal) else 0 := by
    rw [← Finset.sum_range (fun r => if bit msk r then (1 : EReal) else 0), ← length_sel_eq]
    show (FloatOps.ofBits (F := Ideal) .f32 0x00000000#32 : EReal) + (((BitVec.ofNat 32 (cntOf msk)).toInt : ℝ) : EReal) = _
    rw [toInt_cnt]
    rw [show (FloatOps.ofBits (F := Ideal) .f32 0x00000000#32 : EReal) = 0 from Ideal.ofBits_zero_f32, zero_add]
    rfl
  show Ideal.div (accAt (F := Ideal) tab (rowOf msk base) (cntOf msk) y : EReal) (FloatOps.addf (F := Ideal) _ _ : EReal) = _
  rw [hs, hc]

/-! ## What a tile reads -/

/-- The tile at `y` works on `y`'s batch and half. -/
theorem hB_pairAt (y : S16x256.Idx) : hB (tileL (pairAt y)) = (y 0).val :=
  congrArg (fun z : S16x256.Idx => (z 0).val) (win_pairAt y)
theorem hH_pairAt (y : S16x256.Idx) : 128 * hH (tileL (pairAt y)) + (laneAt y 0).val = (y 1).val :=
  congrArg (fun z : S16x256.Idx => (z 1).val) (win_pairAt y)

/-- The flat mask at a tile's row is the mask at its batch and row. -/
theorem bit_mask (mk : Mask) (L : grid0.Coords) (b : Fin 16) (hb : hB L = b.val) (r : Fin 4096) :
    bit (mskOf (shapeCast S65536 (extui 32 mk natLt_1_32) shapeCasts_S16x4096_S65536) L) r.val = (mk (ix2 b r) != 0#1) := by
  have e : mskOf (shapeCast S65536 (extui 32 mk natLt_1_32) shapeCasts_S16x4096_S65536) L (ix1 r) = (mk (ix2 b r)).setWidth 32 := by
    unfold mskOf
    rw [shapeCast_apply _ _ _ (ix2 b r) (by
      rw [Shape.rowMajor_val_two, Shape.rowMajor_val_one]
      show b.val * 4096 + r.val = 4096 * hB L + r.val
      omega)]
    rfl
  unfold bit
  rw [dif_pos r.isLt, e]
  generalize mk (ix2 b r) = v
  revert v; decide

/-- The flat table at a tile's row and lane is the array at its batch, row and column. -/
theorem row_at (x : Rows) (L : grid0.Coords) (y : S16x256.Idx) (lane : S128.Idx) (hb : hB L = (y 0).val)
    (hc : 128 * hH L + (lane 0).val = (y 1).val) (r : Fin 4096) :
    shapeCast S131072x128 x shapeCasts_S16x4096x256_S131072x128
        (ix2 ⟨(baseOf L + 2 * r.val) % 131072, Nat.mod_lt _ (by omega)⟩ (lane 0))
      = x (ValueIdx.ix3 (y 0) r (y 1)) := by
  refine shapeCast_apply _ _ _ _ ?_
  rw [Shape.rowMajor_val_three, Shape.rowMajor_val_two]
  show ((y 0).val * 4096 + r.val) * 256 + (y 1).val = (baseOf L + 2 * r.val) % 131072 * 128 + (lane 0).val
  unfold baseOf
  have := hB_lt L; have := hH_lt L; have := r.isLt
  rw [Nat.mod_eq_of_lt (by omega)]
  omega

/-- The kernel's answer: the masked sum of a column over the mask's count. -/
theorem outAt_eq (x : Rows) (mk : Mask) (y : S16x256.Idx) :
    (outAt (F := Ideal) (shapeCast S131072x128 x shapeCasts_S16x4096x256_S131072x128)
        (shapeCast S65536 (extui 32 mk natLt_1_32) shapeCasts_S16x4096_S65536) y : EReal)
      = Ideal.div (∑ r : Fin 4096, if (mk (ix2 (y 0) r) != 0#1) then x (ValueIdx.ix3 (y 0) r (y 1)) else 0)
          (∑ r : Fin 4096, if (mk (ix2 (y 0) r) != 0#1) then (1 : EReal) else 0) := by
  unfold outAt
  rw [tileOut_eq]
  have hb := hB_pairAt y
  congr 1
  · exact Finset.sum_congr rfl fun r _ => by
      rw [bit_mask mk _ (y 0) hb r, row_at x _ y (laneAt y) hb (hH_pairAt y) r]
  · exact Finset.sum_congr rfl fun r _ => by rw [bit_mask mk _ (y 0) hb r]

end Cert.Proof
-- ==== Proof.Ref.lean ====
/- The reference's result on the extended reals, read at an index: the masked sum of a column over the mask's count. -/
module

public import proofs.«01_k».proof.Proof.Gen.ReferenceIdeal.Run
public import Idealize.ShloMosaic.Lib.IdealHost
public import Idealize.ShloMosaic.Lib.Pointwise
public import Idealize.ShloMosaic.Lib.ValueIdxCore
public import Idealize.ShloMosaic.PureOps.Ideal.Laws

@[expose] public section

noncomputable section

namespace Cert.Proof

open Cert.ReferenceIdeal Cert.ReferenceIdeal.Gen
open Idealize.ShloMosaic

/-- A mask bit as a number. -/
theorem bit_num (v : BitVec 1) : (((v.toNat : ℝ) : EReal)) = if (v != 0#1) then 1 else 0 := by
  rcases BitVec.eq_zero_or_eq_one v with h | h <;> subst h <;> simp

/-- The reference's result, an array and a mask given. -/
def refVal (x : S16x4096x256.Idx → Ideal .f32) (mk : S16x4096.Idx → BitVec 1) : S16x256.Idx → Ideal .f32 :=
  Host.divf (F := Ideal) (Host.reduceAdd (mulf x (broadcastInDim S16x4096x256 ![0, 1, 2] bcast_S16x4096x1_S16x4096x256_0_1_2
        (broadcastInDim S16x4096x1 ![0, 1] bcast_S16x4096_S16x4096x1_0_1 (uitofp .f32 mk))))
      (constant S_ .f32 0x00000000#32) reducesTo_S16x4096x256_S16x256_d1 h_S_)
    (broadcastInDim S16x256 ![0, 1] bcast_S16x1_S16x256_0_1 (broadcastInDim S16x1 ![0] bcast_S16_S16x1_0
      (Host.reduceAdd (uitofp .f32 mk) (constant S_ .f32 0x00000000#32) reducesTo_S16x4096_S16_d1 h_S_)))

/-- The reference's result at an index. -/
theorem refVal_eq (x : S16x4096x256.Idx → EReal) (mk : S16x4096.Idx → BitVec 1) (y : S16x256.Idx) :
    (refVal x mk y : EReal)
      = Ideal.div (∑ r : Fin 4096, if (mk (ValueIdx.ix2 (y 0) r) != 0#1) then x (ValueIdx.ix3 (y 0) r (y 1)) else 0)
          (∑ r : Fin 4096, if (mk (ValueIdx.ix2 (y 0) r) != 0#1) then (1 : EReal) else 0) := by
  unfold refVal
  pointwise
  have e2 : ∀ r : Fin 4096, (ix2 (y 0) r : S16x4096.Idx) = ValueIdx.ix2 (y 0) r := fun r => rfl
  have e3 : ∀ r : Fin 4096, (ix3 (y 0) r (y 1) : S16x4096x256.Idx) = ValueIdx.ix3 (y 0) r (y 1) := fun r => rfl
  have hu : ∀ v : BitVec 1, (FloatOps.uitofp (F := Ideal) FTy.f32 v : EReal) = if (v != 0#1) then 1 else 0 := bit_num
  refine congrArg₂ Ideal.div ?_ ?_
  · refine Finset.sum_congr rfl fun r _ => ?_
    rw [hu, e2, e3, mul_ite, mul_one, mul_zero]
    rfl
  · refine Finset.sum_congr rfl fun r _ => ?_
    rw [hu, e2]
    rfl

end Cert.Proof
-- ==== Proof.lean ====
/- The certificate's claim: the kernel and the reference run to their ends with their arguments unchanged and every counter at
   zero, and on the extended reals they end with the same result. The kernel's run is in Main.lean, its result on the extended
   reals in Bridge.lean, the reference's in Ref.lean. -/
module

public import proofs.«01_k».proof.Defs
public import proofs.«01_k».proof.Proof.Gen.Kernel
public import proofs.«01_k».proof.Proof.Gen.Kernel.Skeleton
public import proofs.«01_k».proof.Proof.Gen.KernelIdeal
public import proofs.«01_k».proof.Proof.Gen.KernelIdeal.Skeleton
public import proofs.«01_k».proof.Proof.Gen.ReferenceIdeal
public import proofs.«01_k».proof.Proof.Gen.ReferenceIdeal.Run
public import proofs.«01_k».proof.Proof.Bridge
public import proofs.«01_k».proof.Proof.Ref
public import Idealize.ShloMosaic.Adequacy
public import Idealize.ShloMosaic.Init

@[expose] public section

noncomputable section

namespace Cert.Proof

open Idealize.ShloMosaic Idealize.SL.Sem

set_option maxHeartbeats 4000000 in
/-- The kernel at its own float formats: the run at any floats (Main.lean), read at its arguments and counters. -/
theorem frame_kernel : Cert.quiescent_Kernel := fun m ρ _ =>
  (θ_run Cert.KernelIdeal.defs _ _).mono (fun _ h => ⟨fun c => ⟨(h.1 c).1, (h.1 c).2.1⟩, h.2⟩) (run_main (F := Bits) m ρ)

/-- The kernel on the extended reals: the same run. -/
theorem frame_kernelIdeal : Cert.quiescent_KernelIdeal := fun m ρ _ =>
  (θ_run Cert.KernelIdeal.defs _ _).mono (fun _ h => ⟨fun c => ⟨(h.1 c).1, (h.1 c).2.1⟩, h.2⟩) (run_main (F := Ideal) m ρ)

/-- The reference: the host operations' run; it declares no semaphore. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The kernel rewrites no operation. -/
theorem preserves : Cert.preserves_Kernel_KernelIdeal := trivial

/-- On the extended reals the two results are one array: both are, at each index, the masked sum of the column over the mask's
    count (Bridge.lean, Ref.lean). -/
theorem outVal_eq (m : (ℓ : Loc Cert.KernelIdeal.nD Cert.KernelIdeal.τ Cert.KernelIdeal.sig) → Buf (Elt Ideal) ℓ) (c : Dev Cert.KernelIdeal.nD) :
    refVal (m (aLoc c)) (m (bLoc c)) = outVal m c :=
  funext fun y => (refVal_eq (m (aLoc c)) (m (bLoc c)) y).trans (outAt_eq (m (aLoc c)) (m (bLoc c)) y).symm

theorem algebraic : Cert.algebraic_KernelIdeal_ReferenceIdeal := fun m ρ m' ρ' _ hagree =>
  ⟨fun c => outVal m c,
    (θ_run Cert.KernelIdeal.defs _ _).mono (fun _ h c => ⟨(h.1 c).2.2, (h.1 c).1, (h.1 c).2.1⟩) (run_main (F := Ideal) m ρ),
    (θ_run Cert.ReferenceIdeal.defs _ _).mono
      (fun _ h c => ⟨(h c).1.trans ((congrArg₂ refVal (hagree c).1 (hagree c).2).trans (outVal_eq m c)), (h c).2⟩)
      (Cert.ReferenceIdeal.Value.run (F := Ideal) m' ρ')⟩

theorem claim : Cert.Claim :=
  ⟨Cert.Kernel.Gen.facts, Cert.KernelIdeal.Gen.facts, Cert.ReferenceIdeal.Gen.facts,
    frame_kernel, frame_kernelIdeal, frame_reference, preserves, algebraic⟩

end Cert.Proof

end
